-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_are_mild [hPre_gates_are_mild : Cert.Pre_gates_are_mild.Facts] (m : (ℓ : Loc Cert.KernelIdeal.nD Cert.KernelIdeal.τ Cert.KernelIdeal.sig) → Buf (Elt Ideal) ℓ) : Prop :=
  ∀ c : Dev Cert.KernelIdeal.nD,
    (Cert.Pre_gates_are_mild.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_gates_are_mild.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_gates_are_mild.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_gates_are_mild.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_gates_are_mild.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_gates_are_mild.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_are_mild [hPre_gates_are_mild : Cert.Pre_gates_are_mild.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_are_mild.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_gates_are_mild.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_gates_are_mild.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_gates_are_mild.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_gates_are_mild.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_gates_are_mild.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2 = (fun _ => 1#1)

def Pre_InGradA (m : (ℓ : Loc Cert.InGradA.nD Cert.InGradA.τ Cert.InGradA.sig) → Buf (Elt Bits) ℓ) : Prop :=
  True

def Pre_InGradAIdeal (m : (ℓ : Loc Cert.InGradAIdeal.nD Cert.InGradAIdeal.τ Cert.InGradAIdeal.sig) → Buf (Elt Ideal) ℓ) : Prop :=
  True

def Pre_InGradARefIdeal (m : (ℓ : Loc Cert.InGradARefIdeal.nD Cert.InGradARefIdeal.τ Cert.InGradARefIdeal.sig) → Buf (Elt Ideal) ℓ) : Prop :=
  True

def Pre_InGradB (m : (ℓ : Loc Cert.InGradB.nD Cert.InGradB.τ Cert.InGradB.sig) → Buf (Elt Bits) ℓ) : Prop :=
  True

def Pre_InGradBIdeal (m : (ℓ : Loc Cert.InGradBIdeal.nD Cert.InGradBIdeal.τ Cert.InGradBIdeal.sig) → Buf (Elt Ideal) ℓ) : Prop :=
  True

def Pre_InGradBRefIdeal (m : (ℓ : Loc Cert.InGradBRefIdeal.nD Cert.InGradBRefIdeal.τ Cert.InGradBRefIdeal.sig) → Buf (Elt Ideal) ℓ) : Prop :=
  True

def Pre_InBack (m : (ℓ : Loc Cert.InBack.nD Cert.InBack.τ Cert.InBack.sig) → Buf (Elt Bits) ℓ) : Prop :=
  True

def Pre_InBackIdeal (m : (ℓ : Loc Cert.InBackIdeal.nD Cert.InBackIdeal.τ Cert.InBackIdeal.sig) → Buf (Elt Ideal) ℓ) : Prop :=
  True

def Pre_InBackRefIdeal (m : (ℓ : Loc Cert.InBackRefIdeal.nD Cert.InBackRefIdeal.τ Cert.InBackRefIdeal.sig) → Buf (Elt Ideal) ℓ) : Prop :=
  True

def Pre_FfnBack (m : (ℓ : Loc Cert.FfnBack.nD Cert.FfnBack.τ Cert.FfnBack.sig) → Buf (Elt Bits) ℓ) : Prop :=
  True

def Pre_FfnBackIdeal (m : (ℓ : Loc Cert.FfnBackIdeal.nD Cert.FfnBackIdeal.τ Cert.FfnBackIdeal.sig) → Buf (Elt Ideal) ℓ) : Prop :=
  True

def Pre_FfnBackRefIdeal (m : (ℓ : Loc Cert.FfnBackRefIdeal.nD Cert.FfnBackRefIdeal.τ Cert.FfnBackRefIdeal.sig) → Buf (Elt Ideal) ℓ) : Prop :=
  True

def Pre_GateGrad (m : (ℓ : Loc Cert.GateGrad.nD Cert.GateGrad.τ Cert.GateGrad.sig) → Buf (Elt Bits) ℓ) : Prop :=
  True

def Pre_GateGradIdeal (m : (ℓ : Loc Cert.GateGradIdeal.nD Cert.GateGradIdeal.τ Cert.GateGradIdeal.sig) → Buf (Elt Ideal) ℓ) : Prop :=
  True

def Pre_GateGradRefIdeal (m : (ℓ : Loc Cert.GateGradRefIdeal.nD Cert.GateGradRefIdeal.τ Cert.GateGradRefIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradRefIdeal (m : (ℓ : Loc Cert.UpGradRefIdeal.nD Cert.UpGradRefIdeal.τ Cert.UpGradRefIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_ActBack (m : (ℓ : Loc Cert.ActBack.nD Cert.ActBack.τ Cert.ActBack.sig) → Buf (Elt Bits) ℓ) : Prop :=
  True

def Pre_ActBackIdeal (m : (ℓ : Loc Cert.ActBackIdeal.nD Cert.ActBackIdeal.τ Cert.ActBackIdeal.sig) → Buf (Elt Ideal) ℓ) : Prop :=
  True

def Pre_ActBackIdeal_finite_factors [hPre_finite_factors : Cert.Pre_finite_factors.Facts] (m : (ℓ : Loc Cert.ActBackIdeal.nD Cert.ActBackIdeal.τ Cert.ActBackIdeal.sig) → Buf (Elt Ideal) ℓ) : Prop :=
  ∀ c : Dev Cert.ActBackIdeal.nD,
    (Cert.Pre_finite_factors.fn (F := Ideal) (m ((c.tc : Thread Cert.ActBackIdeal.nD Cert.ActBackIdeal.τ).loc Cert.ActBackIdeal.main_arg0)) (m ((c.tc : Thread Cert.ActBackIdeal.nD Cert.ActBackIdeal.τ).loc Cert.ActBackIdeal.main_arg1)) (m ((c.tc : Thread Cert.ActBackIdeal.nD Cert.ActBackIdeal.τ).loc Cert.ActBackIdeal.main_arg2)) (m ((c.tc : Thread Cert.ActBackIdeal.nD Cert.ActBackIdeal.τ).loc Cert.ActBackIdeal.main_arg3))).1 = (fun _ => 1#1)
    ∧ (Cert.Pre_finite_factors.fn (F := Ideal) (m ((c.tc : Thread Cert.ActBackIdeal.nD Cert.ActBackIdeal.τ).loc Cert.ActBackIdeal.main_arg0)) (m ((c.tc : Thread Cert.ActBackIdeal.nD Cert.ActBackIdeal.τ).loc Cert.ActBackIdeal.main_arg1)) (m ((c.tc : Thread Cert.ActBackIdeal.nD Cert.ActBackIdeal.τ).loc Cert.ActBackIdeal.main_arg2)) (m ((c.tc : Thread Cert.ActBackIdeal.nD Cert.ActBackIdeal.τ).loc Cert.ActBackIdeal.main_arg3))).2.1 = (fun _ => 1#1)
    ∧ (Cert.Pre_finite_factors.fn (F := Ideal) (m ((c.tc : Thread Cert.ActBackIdeal.nD Cert.ActBackIdeal.τ).loc Cert.ActBackIdeal.main_arg0)) (m ((c.tc : Thread Cert.ActBackIdeal.nD Cert.ActBackIdeal.τ).loc Cert.ActBackIdeal.main_arg1)) (m ((c.tc : Thread Cert.ActBackIdeal.nD Cert.ActBackIdeal.τ).loc Cert.ActBackIdeal.main_arg2)) (m ((c.tc : Thread Cert.ActBackIdeal.nD Cert.ActBackIdeal.τ).loc Cert.ActBackIdeal.main_arg3))).2.2 = (fun _ => 1#1)

def Pre_ActBackRefIdeal (m : (ℓ : Loc Cert.ActBackRefIdeal.nD Cert.ActBackRefIdeal.τ Cert.ActBackRefIdeal.sig) → Buf (Elt Ideal) ℓ) : Prop :=
  True

def Pre_ActBackRefIdeal_finite_factors [hPre_finite_factors : Cert.Pre_finite_factors.Facts] (m : (ℓ : Loc Cert.ActBackRefIdeal.nD Cert.ActBackRefIdeal.τ Cert.ActBackRefIdeal.sig) → Buf (Elt Ideal) ℓ) : Prop :=
  ∀ c : Dev Cert.ActBackRefIdeal.nD,
    (Cert.Pre_finite_factors.fn (F := Ideal) (m ((c.tc : Thread Cert.ActBackRefIdeal.nD Cert.ActBackRefIdeal.τ).loc Cert.ActBackRefIdeal.main_arg0)) (m ((c.tc : Thread Cert.ActBackRefIdeal.nD Cert.ActBackRefIdeal.τ).loc Cert.ActBackRefIdeal.main_arg1)) (m ((c.tc : Thread Cert.ActBackRefIdeal.nD Cert.ActBackRefIdeal.τ).loc Cert.ActBackRefIdeal.main_arg2)) (m ((c.tc : Thread Cert.ActBackRefIdeal.nD Cert.ActBackRefIdeal.τ).loc Cert.ActBackRefIdeal.main_arg3))).1 = (fun _ => 1#1)
    ∧ (Cert.Pre_finite_factors.fn (F := Ideal) (m ((c.tc : Thread Cert.ActBackRefIdeal.nD Cert.ActBackRefIdeal.τ).loc Cert.ActBackRefIdeal.main_arg0)) (m ((c.tc : Thread Cert.ActBackRefIdeal.nD Cert.ActBackRefIdeal.τ).loc Cert.ActBackRefIdeal.main_arg1)) (m ((c.tc : Thread Cert.ActBackRefIdeal.nD Cert.ActBackRefIdeal.τ).loc Cert.ActBackRefIdeal.main_arg2)) (m ((c.tc : Thread Cert.ActBackRefIdeal.nD Cert.ActBackRefIdeal.τ).loc Cert.ActBackRefIdeal.main_arg3))).2.1 = (fun _ => 1#1)
    ∧ (Cert.Pre_finite_factors.fn (F := Ideal) (m ((c.tc : Thread Cert.ActBackRefIdeal.nD Cert.ActBackRefIdeal.τ).loc Cert.ActBackRefIdeal.main_arg0)) (m ((c.tc : Thread Cert.ActBackRefIdeal.nD Cert.ActBackRefIdeal.τ).loc Cert.ActBackRefIdeal.main_arg1)) (m ((c.tc : Thread Cert.ActBackRefIdeal.nD Cert.ActBackRefIdeal.τ).loc Cert.ActBackRefIdeal.main_arg2)) (m ((c.tc : Thread Cert.ActBackRefIdeal.nD Cert.ActBackRefIdeal.τ).loc Cert.ActBackRefIdeal.main_arg3))).2.2 = (fun _ => 1#1)

def Pre_OutBack (m : (ℓ : Loc Cert.OutBack.nD Cert.OutBack.τ Cert.OutBack.sig) → Buf (Elt Bits) ℓ) : Prop :=
  True

def Pre_OutBackIdeal (m : (ℓ : Loc Cert.OutBackIdeal.nD Cert.OutBackIdeal.τ Cert.OutBackIdeal.sig) → Buf (Elt Ideal) ℓ) : Prop :=
  True

def Pre_OutBackRefIdeal (m : (ℓ : Loc Cert.OutBackRefIdeal.nD Cert.OutBackRefIdeal.τ Cert.OutBackRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_HgGrad (m : (ℓ : Loc Cert.HgGrad.nD Cert.HgGrad.τ Cert.HgGrad.sig) → Buf (Elt Bits) ℓ) : Prop :=
  True

def Pre_HgGradIdeal (m : (ℓ : Loc Cert.HgGradIdeal.nD Cert.HgGradIdeal.τ Cert.HgGradIdeal.sig) → Buf (Elt Ideal) ℓ) : Prop :=
  True

def Pre_HgGradRefIdeal (m : (ℓ : Loc Cert.HgGradRefIdeal.nD Cert.HgGradRefIdeal.τ Cert.HgGradRefIdeal.sig) → Buf (Elt Ideal) ℓ) : Prop :=
  True

def Pre_GlaGrad (m : (ℓ : Loc Cert.GlaGrad.nD Cert.GlaGrad.τ Cert.GlaGrad.sig) → Buf (Elt Bits) ℓ) : Prop :=
  True

def Pre_GlaGradIdeal (m : (ℓ : Loc Cert.GlaGradIdeal.nD Cert.GlaGradIdeal.τ Cert.GlaGradIdeal.sig) → Buf (Elt Ideal) ℓ) : Prop :=
  True

def Pre_GlaGradRefIdeal (m : (ℓ : Loc Cert.GlaGradRefIdeal.nD Cert.GlaGradRefIdeal.τ Cert.GlaGradRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_BranchBack (m : (ℓ : Loc Cert.BranchBack.nD Cert.BranchBack.τ Cert.BranchBack.sig) → Buf (Elt Bits) ℓ) : Prop :=
  True

def Pre_BranchBackIdeal (m : (ℓ : Loc Cert.BranchBackIdeal.nD Cert.BranchBackIdeal.τ Cert.BranchBackIdeal.sig) → Buf (Elt Ideal) ℓ) : Prop :=
  True

def Pre_BranchBackRefIdeal (m : (ℓ : Loc Cert.BranchBackRefIdeal.nD Cert.BranchBackRefIdeal.τ Cert.BranchBackRefIdeal.sig) → Buf (Elt Ideal) ℓ) : Prop :=
  True

def Pre_BranchFwd (m : (ℓ : Loc Cert.BranchFwd.nD Cert.BranchFwd.τ Cert.BranchFwd.sig) → Buf (Elt Bits) ℓ) : Prop :=
  True

def Pre_BranchFwdIdeal (m : (ℓ : Loc Cert.BranchFwdIdeal.nD Cert.BranchFwdIdeal.τ Cert.BranchFwdIdeal.sig) → Buf (Elt Ideal) ℓ) : Prop :=
  True

def Pre_BranchFwdRefIdeal (m : (ℓ : Loc Cert.BranchFwdRefIdeal.nD Cert.BranchFwdRefIdeal.τ Cert.BranchFwdRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_ModFwd (m : (ℓ : Loc Cert.ModFwd.nD Cert.ModFwd.τ Cert.ModFwd.sig) → Buf (Elt Bits) ℓ) : Prop :=
  True

def Pre_ModFwdIdeal (m : (ℓ : Loc Cert.ModFwdIdeal.nD Cert.ModFwdIdeal.τ Cert.ModFwdIdeal.sig) → Buf (Elt Ideal) ℓ) : Prop :=
  True

def Pre_ModFwdRefIdeal (m : (ℓ : Loc Cert.ModFwdRefIdeal.nD Cert.ModFwdRefIdeal.τ Cert.ModFwdRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumCtx (m : (ℓ : Loc Cert.SumCtx.nD Cert.SumCtx.τ Cert.SumCtx.sig) → Buf (Elt Bits) ℓ) : Prop :=
  True

def Pre_SumCtxIdeal (m : (ℓ : Loc Cert.SumCtxIdeal.nD Cert.SumCtxIdeal.τ Cert.SumCtxIdeal.sig) → Buf (Elt Ideal) ℓ) : Prop :=
  True

def Pre_SumCtxRefIdeal (m : (ℓ : Loc Cert.SumCtxRefIdeal.nD Cert.SumCtxRefIdeal.τ Cert.SumCtxRefIdeal.sig) → Buf (Elt Ideal) ℓ) : Prop :=
  True

def Pre_ModBwd (m : (ℓ : Loc Cert.ModBwd.nD Cert.ModBwd.τ Cert.ModBwd.sig) → Buf (Elt Bits) ℓ) : Prop :=
  True

def Pre_ModBwdIdeal (m : (ℓ : Loc Cert.ModBwdIdeal.nD Cert.ModBwdIdeal.τ Cert.ModBwdIdeal.sig) → Buf (Elt Ideal) ℓ) : Prop :=
  True

def Pre_ModBwdRefIdeal (m : (ℓ : Loc Cert.ModBwdRefIdeal.nD Cert.ModBwdRefIdeal.τ Cert.ModBwdRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gates_are_mild [hKernelIdeal : Cert.KernelIdeal.Facts] [hPre_gates_are_mild : Cert.Pre_gates_are_mild.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_are_mild m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gates_are_mild [hReferenceIdeal : Cert.ReferenceIdeal.Facts] [hPre_gates_are_mild : Cert.Pre_gates_are_mild.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_are_mild m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InGradA [hInGradA : Cert.InGradA.Facts] : Prop :=
  ∀ (m : (ℓ : Loc Cert.InGradA.nD Cert.InGradA.τ Cert.InGradA.sig) → Buf (Elt Bits) ℓ) (g : Dev Cert.InGradA.nD → PrngReg), Pre_InGradA m →
    θ_run (Cert.InGradA.defs (F := Bits)) (onTc (τ := Cert.InGradA.τ) (Cert.InGradA.main (F := Bits))) ⟨m, fun _ => 0, g⟩ (fun r => (∀ c : Dev Cert.InGradA.nD,
      r.2.mem ((c.tc : Thread Cert.InGradA.nD Cert.InGradA.τ).loc Cert.InGradA.main_arg0) = m ((c.tc : Thread Cert.InGradA.nD Cert.InGradA.τ).loc Cert.InGradA.main_arg0)
      ∧ r.2.mem ((c.tc : Thread Cert.InGradA.nD Cert.InGradA.τ).loc Cert.InGradA.main_arg1) = m ((c.tc : Thread Cert.InGradA.nD Cert.InGradA.τ).loc Cert.InGradA.main_arg1))
      ∧ r.2.sem = fun _ => 0)

def quiescent_InGradAIdeal [hInGradAIdeal : Cert.InGradAIdeal.Facts] : Prop :=
  ∀ (m : (ℓ : Loc Cert.InGradAIdeal.nD Cert.InGradAIdeal.τ Cert.InGradAIdeal.sig) → Buf (Elt Ideal) ℓ) (g : Dev Cert.InGradAIdeal.nD → PrngReg), Pre_InGradAIdeal m →
    θ_run (Cert.InGradAIdeal.defs (F := Ideal)) (onTc (τ := Cert.InGradAIdeal.τ) (Cert.InGradAIdeal.main (F := Ideal))) ⟨m, fun _ => 0, g⟩ (fun r => (∀ c : Dev Cert.InGradAIdeal.nD,
      r.2.mem ((c.tc : Thread Cert.InGradAIdeal.nD Cert.InGradAIdeal.τ).loc Cert.InGradAIdeal.main_arg0) = m ((c.tc : Thread Cert.InGradAIdeal.nD Cert.InGradAIdeal.τ).loc Cert.InGradAIdeal.main_arg0)
      ∧ r.2.mem ((c.tc : Thread Cert.InGradAIdeal.nD Cert.InGradAIdeal.τ).loc Cert.InGradAIdeal.main_arg1) = m ((c.tc : Thread Cert.InGradAIdeal.nD Cert.InGradAIdeal.τ).loc Cert.InGradAIdeal.main_arg1))
      ∧ r.2.sem = fun _ => 0)

def quiescent_InGradARefIdeal [hInGradARefIdeal : Cert.InGradARefIdeal.Facts] : Prop :=
  ∀ (m : (ℓ : Loc Cert.InGradARefIdeal.nD Cert.InGradARefIdeal.τ Cert.InGradARefIdeal.sig) → Buf (Elt Ideal) ℓ) (g : Dev Cert.InGradARefIdeal.nD → PrngReg), Pre_InGradARefIdeal m →
    θ_run (Cert.InGradARefIdeal.defs (F := Ideal)) (onTc (τ := Cert.InGradARefIdeal.τ) (Cert.InGradARefIdeal.main (F := Ideal))) ⟨m, fun _ => 0, g⟩ (fun r => (∀ c : Dev Cert.InGradARefIdeal.nD,
      r.2.mem ((c.tc : Thread Cert.InGradARefIdeal.nD Cert.InGradARefIdeal.τ).loc Cert.InGradARefIdeal.main_arg0) = m ((c.tc : Thread Cert.InGradARefIdeal.nD Cert.InGradARefIdeal.τ).loc Cert.InGradARefIdeal.main_arg0)
      ∧ r.2.mem ((c.tc : Thread Cert.InGradARefIdeal.nD Cert.InGradARefIdeal.τ).loc Cert.InGradARefIdeal.main_arg1) = m ((c.tc : Thread Cert.InGradARefIdeal.nD Cert.InGradARefIdeal.τ).loc Cert.InGradARefIdeal.main_arg1))
      ∧ r.2.sem = fun _ => 0)

def quiescent_InGradB [hInGradB : Cert.InGradB.Facts] : Prop :=
  ∀ (m : (ℓ : Loc Cert.InGradB.nD Cert.InGradB.τ Cert.InGradB.sig) → Buf (Elt Bits) ℓ) (g : Dev Cert.InGradB.nD → PrngReg), Pre_InGradB m →
    θ_run (Cert.InGradB.defs (F := Bits)) (onTc (τ := Cert.InGradB.τ) (Cert.InGradB.main (F := Bits))) ⟨m, fun _ => 0, g⟩ (fun r => (∀ c : Dev Cert.InGradB.nD,
      r.2.mem ((c.tc : Thread Cert.InGradB.nD Cert.InGradB.τ).loc Cert.InGradB.main_arg0) = m ((c.tc : Thread Cert.InGradB.nD Cert.InGradB.τ).loc Cert.InGradB.main_arg0)
      ∧ r.2.mem ((c.tc : Thread Cert.InGradB.nD Cert.InGradB.τ).loc Cert.InGradB.main_arg1) = m ((c.tc : Thread Cert.InGradB.nD Cert.InGradB.τ).loc Cert.InGradB.main_arg1))
      ∧ r.2.sem = fun _ => 0)

def quiescent_InGradBIdeal [hInGradBIdeal : Cert.InGradBIdeal.Facts] : Prop :=
  ∀ (m : (ℓ : Loc Cert.InGradBIdeal.nD Cert.InGradBIdeal.τ Cert.InGradBIdeal.sig) → Buf (Elt Ideal) ℓ) (g : Dev Cert.InGradBIdeal.nD → PrngReg), Pre_InGradBIdeal m →
    θ_run (Cert.InGradBIdeal.defs (F := Ideal)) (onTc (τ := Cert.InGradBIdeal.τ) (Cert.InGradBIdeal.main (F := Ideal))) ⟨m, fun _ => 0, g⟩ (fun r => (∀ c : Dev Cert.InGradBIdeal.nD,
      r.2.mem ((c.tc : Thread Cert.InGradBIdeal.nD Cert.InGradBIdeal.τ).loc Cert.InGradBIdeal.main_arg0) = m ((c.tc : Thread Cert.InGradBIdeal.nD Cert.InGradBIdeal.τ).loc Cert.InGradBIdeal.main_arg0)
      ∧ r.2.mem ((c.tc : Thread Cert.InGradBIdeal.nD Cert.InGradBIdeal.τ).loc Cert.InGradBIdeal.main_arg1) = m ((c.tc : Thread Cert.InGradBIdeal.nD Cert.InGradBIdeal.τ).loc Cert.InGradBIdeal.main_arg1))
      ∧ r.2.sem = fun _ => 0)

def quiescent_InGradBRefIdeal [hInGradBRefIdeal : Cert.InGradBRefIdeal.Facts] : Prop :=
  ∀ (m : (ℓ : Loc Cert.InGradBRefIdeal.nD Cert.InGradBRefIdeal.τ Cert.InGradBRefIdeal.sig) → Buf (Elt Ideal) ℓ) (g : Dev Cert.InGradBRefIdeal.nD → PrngReg), Pre_InGradBRefIdeal m →
    θ_run (Cert.InGradBRefIdeal.defs (F := Ideal)) (onTc (τ := Cert.InGradBRefIdeal.τ) (Cert.InGradBRefIdeal.main (F := Ideal))) ⟨m, fun _ => 0, g⟩ (fun r => (∀ c : Dev Cert.InGradBRefIdeal.nD,
      r.2.mem ((c.tc : Thread Cert.InGradBRefIdeal.nD Cert.InGradBRefIdeal.τ).loc Cert.InGradBRefIdeal.main_arg0) = m ((c.tc : Thread Cert.InGradBRefIdeal.nD Cert.InGradBRefIdeal.τ).loc Cert.InGradBRefIdeal.main_arg0)
      ∧ r.2.mem ((c.tc : Thread Cert.InGradBRefIdeal.nD Cert.InGradBRefIdeal.τ).loc Cert.InGradBRefIdeal.main_arg1) = m ((c.tc : Thread Cert.InGradBRefIdeal.nD Cert.InGradBRefIdeal.τ).loc Cert.InGradBRefIdeal.main_arg1))
      ∧ r.2.sem = fun _ => 0)

def quiescent_InBack [hInBack : Cert.InBack.Facts] : Prop :=
  ∀ (m : (ℓ : Loc Cert.InBack.nD Cert.InBack.τ Cert.InBack.sig) → Buf (Elt Bits) ℓ) (g : Dev Cert.InBack.nD → PrngReg), Pre_InBack m →
    θ_run (Cert.InBack.defs (F := Bits)) (onTc (τ := Cert.InBack.τ) (Cert.InBack.main (F := Bits))) ⟨m, fun _ => 0, g⟩ (fun r => (∀ c : Dev Cert.InBack.nD,
      r.2.mem ((c.tc : Thread Cert.InBack.nD Cert.InBack.τ).loc Cert.InBack.main_arg0) = m ((c.tc : Thread Cert.InBack.nD Cert.InBack.τ).loc Cert.InBack.main_arg0)
      ∧ r.2.mem ((c.tc : Thread Cert.InBack.nD Cert.InBack.τ).loc Cert.InBack.main_arg1) = m ((c.tc : Thread Cert.InBack.nD Cert.InBack.τ).loc Cert.InBack.main_arg1))
      ∧ r.2.sem = fun _ => 0)

def quiescent_InBackIdeal [hInBackIdeal : Cert.InBackIdeal.Facts] : Prop :=
  ∀ (m : (ℓ : Loc Cert.InBackIdeal.nD Cert.InBackIdeal.τ Cert.InBackIdeal.sig) → Buf (Elt Ideal) ℓ) (g : Dev Cert.InBackIdeal.nD → PrngReg), Pre_InBackIdeal m →
    θ_run (Cert.InBackIdeal.defs (F := Ideal)) (onTc (τ := Cert.InBackIdeal.τ) (Cert.InBackIdeal.main (F := Ideal))) ⟨m, fun _ => 0, g⟩ (fun r => (∀ c : Dev Cert.InBackIdeal.nD,
      r.2.mem ((c.tc : Thread Cert.InBackIdeal.nD Cert.InBackIdeal.τ).loc Cert.InBackIdeal.main_arg0) = m ((c.tc : Thread Cert.InBackIdeal.nD Cert.InBackIdeal.τ).loc Cert.InBackIdeal.main_arg0)
      ∧ r.2.mem ((c.tc : Thread Cert.InBackIdeal.nD Cert.InBackIdeal.τ).loc Cert.InBackIdeal.main_arg1) = m ((c.tc : Thread Cert.InBackIdeal.nD Cert.InBackIdeal.τ).loc Cert.InBackIdeal.main_arg1))
      ∧ r.2.sem = fun _ => 0)

def quiescent_InBackRefIdeal [hInBackRefIdeal : Cert.InBackRefIdeal.Facts] : Prop :=
  ∀ (m : (ℓ : Loc Cert.InBackRefIdeal.nD Cert.InBackRefIdeal.τ Cert.InBackRefIdeal.sig) → Buf (Elt Ideal) ℓ) (g : Dev Cert.InBackRefIdeal.nD → PrngReg), Pre_InBackRefIdeal m →
    θ_run (Cert.InBackRefIdeal.defs (F := Ideal)) (onTc (τ := Cert.InBackRefIdeal.τ) (Cert.InBackRefIdeal.main (F := Ideal))) ⟨m, fun _ => 0, g⟩ (fun r => (∀ c : Dev Cert.InBackRefIdeal.nD,
      r.2.mem ((c.tc : Thread Cert.InBackRefIdeal.nD Cert.InBackRefIdeal.τ).loc Cert.InBackRefIdeal.main_arg0) = m ((c.tc : Thread Cert.InBackRefIdeal.nD Cert.InBackRefIdeal.τ).loc Cert.InBackRefIdeal.main_arg0)
      ∧ r.2.mem ((c.tc : Thread Cert.InBackRefIdeal.nD Cert.InBackRefIdeal.τ).loc Cert.InBackRefIdeal.main_arg1) = m ((c.tc : Thread Cert.InBackRefIdeal.nD Cert.InBackRefIdeal.τ).loc Cert.InBackRefIdeal.main_arg1))
      ∧ r.2.sem = fun _ => 0)

def quiescent_FfnBack [hFfnBack : Cert.FfnBack.Facts] : Prop :=
  ∀ (m : (ℓ : Loc Cert.FfnBack.nD Cert.FfnBack.τ Cert.FfnBack.sig) → Buf (Elt Bits) ℓ) (g : Dev Cert.FfnBack.nD → PrngReg), Pre_FfnBack m →
    θ_run (Cert.FfnBack.defs (F := Bits)) (onTc (τ := Cert.FfnBack.τ) (Cert.FfnBack.main (F := Bits))) ⟨m, fun _ => 0, g⟩ (fun r => (∀ c : Dev Cert.FfnBack.nD,
      r.2.mem ((c.tc : Thread Cert.FfnBack.nD Cert.FfnBack.τ).loc Cert.FfnBack.main_arg0) = m ((c.tc : Thread Cert.FfnBack.nD Cert.FfnBack.τ).loc Cert.FfnBack.main_arg0)
      ∧ r.2.mem ((c.tc : Thread Cert.FfnBack.nD Cert.FfnBack.τ).loc Cert.FfnBack.main_arg1) = m ((c.tc : Thread Cert.FfnBack.nD Cert.FfnBack.τ).loc Cert.FfnBack.main_arg1)
      ∧ r.2.mem ((c.tc : Thread Cert.FfnBack.nD Cert.FfnBack.τ).loc Cert.FfnBack.main_arg2) = m ((c.tc : Thread Cert.FfnBack.nD Cert.FfnBack.τ).loc Cert.FfnBack.main_arg2)
      ∧ r.2.mem ((c.tc : Thread Cert.FfnBack.nD Cert.FfnBack.τ).loc Cert.FfnBack.main_arg3) = m ((c.tc : Thread Cert.FfnBack.nD Cert.FfnBack.τ).loc Cert.FfnBack.main_arg3))
      ∧ r.2.sem = fun _ => 0)

def quiescent_FfnBackIdeal [hFfnBackIdeal : Cert.FfnBackIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg), Pre_FfnBackIdeal m →
    θ_run (Cert.FfnBackIdeal.defs (F := Ideal)) (onTc (τ := Cert.FfnBackIdeal.τ) (Cert.FfnBackIdeal.main (F := Ideal))) ⟨m, fun _ => 0, g⟩ (fun r => (∀ c : Dev Cert.FfnBackIdeal.nD,
      r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
      ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
      ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
      ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3))
      ∧ r.2.sem = fun _ => 0)

def quiescent_FfnBackRefIdeal [hFfnBackRefIdeal : Cert.FfnBackRefIdeal.Facts] : Prop :=
  ∀ (m : (ℓ : Loc Cert.FfnBackRefIdeal.nD Cert.FfnBackRefIdeal.τ Cert.FfnBackRefIdeal.sig) → Buf (Elt Ideal) ℓ) (g : Dev Cert.FfnBackRefIdeal.nD → PrngReg), Pre_FfnBackRefIdeal m →
    θ_run (Cert.FfnBackRefIdeal.defs (F := Ideal)) (onTc (τ := Cert.FfnBackRefIdeal.τ) (Cert.FfnBackRefIdeal.main (F := Ideal))) ⟨m, fun _ => 0, g⟩ (fun r => (∀ c : Dev Cert.FfnBackRefIdeal.nD,
      r.2.mem ((c.tc : Thread Cert.FfnBackRefIdeal.nD Cert.FfnBackRefIdeal.τ).loc Cert.FfnBackRefIdeal.main_arg0) = m ((c.tc : Thread Cert.FfnBackRefIdeal.nD Cert.FfnBackRefIdeal.τ).loc Cert.FfnBackRefIdeal.main_arg0)
      ∧ r.2.mem ((c.tc : Thread Cert.FfnBackRefIdeal.nD Cert.FfnBackRefIdeal.τ).loc Cert.FfnBackRefIdeal.main_arg1) = m ((c.tc : Thread Cert.FfnBackRefIdeal.nD Cert.FfnBackRefIdeal.τ).loc Cert.FfnBackRefIdeal.main_arg1)
      ∧ r.2.mem ((c.tc : Thread Cert.FfnBackRefIdeal.nD Cert.FfnBackRefIdeal.τ).loc Cert.FfnBackRefIdeal.main_arg2) = m ((c.tc : Thread Cert.FfnBackRefIdeal.nD Cert.FfnBackRefIdeal.τ).loc Cert.FfnBackRefIdeal.main_arg2)
      ∧ r.2.mem ((c.tc : Thread Cert.FfnBackRefIdeal.nD Cert.FfnBackRefIdeal.τ).loc Cert.FfnBackRefIdeal.main_arg3) = m ((c.tc : Thread Cert.FfnBackRefIdeal.nD Cert.FfnBackRefIdeal.τ).loc Cert.FfnBackRefIdeal.main_arg3))
      ∧ r.2.sem = fun _ => 0)

def quiescent_GateGrad [hGateGrad : Cert.GateGrad.Facts] : Prop :=
  ∀ (m : (ℓ : Loc Cert.GateGrad.nD Cert.GateGrad.τ Cert.GateGrad.sig) → Buf (Elt Bits) ℓ) (g : Dev Cert.GateGrad.nD → PrngReg), Pre_GateGrad m →
    θ_run (Cert.GateGrad.defs (F := Bits)) (onTc (τ := Cert.GateGrad.τ) (Cert.GateGrad.main (F := Bits))) ⟨m, fun _ => 0, g⟩ (fun r => (∀ c : Dev Cert.GateGrad.nD,
      r.2.mem ((c.tc : Thread Cert.GateGrad.nD Cert.GateGrad.τ).loc Cert.GateGrad.main_arg0) = m ((c.tc : Thread Cert.GateGrad.nD Cert.GateGrad.τ).loc Cert.GateGrad.main_arg0)
      ∧ r.2.mem ((c.tc : Thread Cert.GateGrad.nD Cert.GateGrad.τ).loc Cert.GateGrad.main_arg1) = m ((c.tc : Thread Cert.GateGrad.nD Cert.GateGrad.τ).loc Cert.GateGrad.main_arg1))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1))
      ∧ r.2.sem = fun _ => 0)

def quiescent_GateGradRefIdeal [hGateGradRefIdeal : Cert.GateGradRefIdeal.Facts] : Prop :=
  ∀ (m : (ℓ : Loc Cert.GateGradRefIdeal.nD Cert.GateGradRefIdeal.τ Cert.GateGradRefIdeal.sig) → Buf (Elt Ideal) ℓ) (g : Dev Cert.GateGradRefIdeal.nD → PrngReg), Pre_GateGradRefIdeal m →
    θ_run (Cert.GateGradRefIdeal.defs (F := Ideal)) (onTc (τ := Cert.GateGradRefIdeal.τ) (Cert.GateGradRefIdeal.main (F := Ideal))) ⟨m, fun _ => 0, g⟩ (fun r => (∀ c : Dev Cert.GateGradRefIdeal.nD,
      r.2.mem ((c.tc : Thread Cert.GateGradRefIdeal.nD Cert.GateGradRefIdeal.τ).loc Cert.GateGradRefIdeal.main_arg0) = m ((c.tc : Thread Cert.GateGradRefIdeal.nD Cert.GateGradRefIdeal.τ).loc Cert.GateGradRefIdeal.main_arg0)
      ∧ r.2.mem ((c.tc : Thread Cert.GateGradRefIdeal.nD Cert.GateGradRefIdeal.τ).loc Cert.GateGradRefIdeal.main_arg1) = m ((c.tc : Thread Cert.GateGradRefIdeal.nD Cert.GateGradRefIdeal.τ).loc Cert.GateGradRefIdeal.main_arg1))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_UpGradRefIdeal [hUpGradRefIdeal : Cert.UpGradRefIdeal.Facts] : Prop :=
  ∀ (m : (ℓ : Loc Cert.UpGradRefIdeal.nD Cert.UpGradRefIdeal.τ Cert.UpGradRefIdeal.sig) → Buf (Elt Ideal) ℓ) (g : Dev Cert.UpGradRefIdeal.nD → PrngReg), Pre_UpGradRefIdeal m →
    θ_run (Cert.UpGradRefIdeal.defs (F := Ideal)) (onTc (τ := Cert.UpGradRefIdeal.τ) (Cert.UpGradRefIdeal.main (F := Ideal))) ⟨m, fun _ => 0, g⟩ (fun r => (∀ c : Dev Cert.UpGradRefIdeal.nD,
      r.2.mem ((c.tc : Thread Cert.UpGradRefIdeal.nD Cert.UpGradRefIdeal.τ).loc Cert.UpGradRefIdeal.main_arg0) = m ((c.tc : Thread Cert.UpGradRefIdeal.nD Cert.UpGradRefIdeal.τ).loc Cert.UpGradRefIdeal.main_arg0)
      ∧ r.2.mem ((c.tc : Thread Cert.UpGradRefIdeal.nD Cert.UpGradRefIdeal.τ).loc Cert.UpGradRefIdeal.main_arg1) = m ((c.tc : Thread Cert.UpGradRefIdeal.nD Cert.UpGradRefIdeal.τ).loc Cert.UpGradRefIdeal.main_arg1))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1))
      ∧ r.2.sem = fun _ => 0)

def quiescent_ActBack [hActBack : Cert.ActBack.Facts] : Prop :=
  ∀ (m : (ℓ : Loc Cert.ActBack.nD Cert.ActBack.τ Cert.ActBack.sig) → Buf (Elt Bits) ℓ) (g : Dev Cert.ActBack.nD → PrngReg), Pre_ActBack m →
    θ_run (Cert.ActBack.defs (F := Bits)) (onTc (τ := Cert.ActBack.τ) (Cert.ActBack.main (F := Bits))) ⟨m, fun _ => 0, g⟩ (fun r => (∀ c : Dev Cert.ActBack.nD,
      r.2.mem ((c.tc : Thread Cert.ActBack.nD Cert.ActBack.τ).loc Cert.ActBack.main_arg0) = m ((c.tc : Thread Cert.ActBack.nD Cert.ActBack.τ).loc Cert.ActBack.main_arg0)
      ∧ r.2.mem ((c.tc : Thread Cert.ActBack.nD Cert.ActBack.τ).loc Cert.ActBack.main_arg1) = m ((c.tc : Thread Cert.ActBack.nD Cert.ActBack.τ).loc Cert.ActBack.main_arg1)
      ∧ r.2.mem ((c.tc : Thread Cert.ActBack.nD Cert.ActBack.τ).loc Cert.ActBack.main_arg2) = m ((c.tc : Thread Cert.ActBack.nD Cert.ActBack.τ).loc Cert.ActBack.main_arg2)
      ∧ r.2.mem ((c.tc : Thread Cert.ActBack.nD Cert.ActBack.τ).loc Cert.ActBack.main_arg3) = m ((c.tc : Thread Cert.ActBack.nD Cert.ActBack.τ).loc Cert.ActBack.main_arg3))
      ∧ r.2.sem = fun _ => 0)

def quiescent_ActBackIdeal [hActBackIdeal : Cert.ActBackIdeal.Facts] : Prop :=
  ∀ (m : (ℓ : Loc Cert.ActBackIdeal.nD Cert.ActBackIdeal.τ Cert.ActBackIdeal.sig) → Buf (Elt Ideal) ℓ) (g : Dev Cert.ActBackIdeal.nD → PrngReg), Pre_ActBackIdeal m →
    θ_run (Cert.ActBackIdeal.defs (F := Ideal)) (onTc (τ := Cert.ActBackIdeal.τ) (Cert.ActBackIdeal.main (F := Ideal))) ⟨m, fun _ => 0, g⟩ (fun r => (∀ c : Dev Cert.ActBackIdeal.nD,
      r.2.mem ((c.tc : Thread Cert.ActBackIdeal.nD Cert.ActBackIdeal.τ).loc Cert.ActBackIdeal.main_arg0) = m ((c.tc : Thread Cert.ActBackIdeal.nD Cert.ActBackIdeal.τ).loc Cert.ActBackIdeal.main_arg0)
      ∧ r.2.mem ((c.tc : Thread Cert.ActBackIdeal.nD Cert.ActBackIdeal.τ).loc Cert.ActBackIdeal.main_arg1) = m ((c.tc : Thread Cert.ActBackIdeal.nD Cert.ActBackIdeal.τ).loc Cert.ActBackIdeal.main_arg1)
      ∧ r.2.mem ((c.tc : Thread Cert.ActBackIdeal.nD Cert.ActBackIdeal.τ).loc Cert.ActBackIdeal.main_arg2) = m ((c.tc : Thread Cert.ActBackIdeal.nD Cert.ActBackIdeal.τ).loc Cert.ActBackIdeal.main_arg2)
      ∧ r.2.mem ((c.tc : Thread Cert.ActBackIdeal.nD Cert.ActBackIdeal.τ).loc Cert.ActBackIdeal.main_arg3) = m ((c.tc : Thread Cert.ActBackIdeal.nD Cert.ActBackIdeal.τ).loc Cert.ActBackIdeal.main_arg3))
      ∧ r.2.sem = fun _ => 0)

def quiescent_ActBackIdeal_pre_finite_factors [hActBackIdeal : Cert.ActBackIdeal.Facts] [hPre_finite_factors : Cert.Pre_finite_factors.Facts] : Prop :=
  ∀ (m : (ℓ : Loc Cert.ActBackIdeal.nD Cert.ActBackIdeal.τ Cert.ActBackIdeal.sig) → Buf (Elt Ideal) ℓ) (g : Dev Cert.ActBackIdeal.nD → PrngReg), Pre_ActBackIdeal_finite_factors m →
    θ_run (Cert.ActBackIdeal.defs (F := Ideal)) (onTc (τ := Cert.ActBackIdeal.τ) (Cert.ActBackIdeal.main (F := Ideal))) ⟨m, fun _ => 0, g⟩ (fun r => (∀ c : Dev Cert.ActBackIdeal.nD,
      r.2.mem ((c.tc : Thread Cert.ActBackIdeal.nD Cert.ActBackIdeal.τ).loc Cert.ActBackIdeal.main_arg0) = m ((c.tc : Thread Cert.ActBackIdeal.nD Cert.ActBackIdeal.τ).loc Cert.ActBackIdeal.main_arg0)
      ∧ r.2.mem ((c.tc : Thread Cert.ActBackIdeal.nD Cert.ActBackIdeal.τ).loc Cert.ActBackIdeal.main_arg1) = m ((c.tc : Thread Cert.ActBackIdeal.nD Cert.ActBackIdeal.τ).loc Cert.ActBackIdeal.main_arg1)
      ∧ r.2.mem ((c.tc : Thread Cert.ActBackIdeal.nD Cert.ActBackIdeal.τ).loc Cert.ActBackIdeal.main_arg2) = m ((c.tc : Thread Cert.ActBackIdeal.nD Cert.ActBackIdeal.τ).loc Cert.ActBackIdeal.main_arg2)
      ∧ r.2.mem ((c.tc : Thread Cert.ActBackIdeal.nD Cert.ActBackIdeal.τ).loc Cert.ActBackIdeal.main_arg3) = m ((c.tc : Thread Cert.ActBackIdeal.nD Cert.ActBackIdeal.τ).loc Cert.ActBackIdeal.main_arg3))
      ∧ r.2.sem = fun _ => 0)

def quiescent_ActBackRefIdeal [hActBackRefIdeal : Cert.ActBackRefIdeal.Facts] : Prop :=
  ∀ (m : (ℓ : Loc Cert.ActBackRefIdeal.nD Cert.ActBackRefIdeal.τ Cert.ActBackRefIdeal.sig) → Buf (Elt Ideal) ℓ) (g : Dev Cert.ActBackRefIdeal.nD → PrngReg), Pre_ActBackRefIdeal m →
    θ_run (Cert.ActBackRefIdeal.defs (F := Ideal)) (onTc (τ := Cert.ActBackRefIdeal.τ) (Cert.ActBackRefIdeal.main (F := Ideal))) ⟨m, fun _ => 0, g⟩ (fun r => (∀ c : Dev Cert.ActBackRefIdeal.nD,
      r.2.mem ((c.tc : Thread Cert.ActBackRefIdeal.nD Cert.ActBackRefIdeal.τ).loc Cert.ActBackRefIdeal.main_arg0) = m ((c.tc : Thread Cert.ActBackRefIdeal.nD Cert.ActBackRefIdeal.τ).loc Cert.ActBackRefIdeal.main_arg0)
      ∧ r.2.mem ((c.tc : Thread Cert.ActBackRefIdeal.nD Cert.ActBackRefIdeal.τ).loc Cert.ActBackRefIdeal.main_arg1) = m ((c.tc : Thread Cert.ActBackRefIdeal.nD Cert.ActBackRefIdeal.τ).loc Cert.ActBackRefIdeal.main_arg1)
      ∧ r.2.mem ((c.tc : Thread Cert.ActBackRefIdeal.nD Cert.ActBackRefIdeal.τ).loc Cert.ActBackRefIdeal.main_arg2) = m ((c.tc : Thread Cert.ActBackRefIdeal.nD Cert.ActBackRefIdeal.τ).loc Cert.ActBackRefIdeal.main_arg2)
      ∧ r.2.mem ((c.tc : Thread Cert.ActBackRefIdeal.nD Cert.ActBackRefIdeal.τ).loc Cert.ActBackRefIdeal.main_arg3) = m ((c.tc : Thread Cert.ActBackRefIdeal.nD Cert.ActBackRefIdeal.τ).loc Cert.ActBackRefIdeal.main_arg3))
      ∧ r.2.sem = fun _ => 0)

def quiescent_ActBackRefIdeal_pre_finite_factors [hActBackRefIdeal : Cert.ActBackRefIdeal.Facts] [hPre_finite_factors : Cert.Pre_finite_factors.Facts] : Prop :=
  ∀ (m : (ℓ : Loc Cert.ActBackRefIdeal.nD Cert.ActBackRefIdeal.τ Cert.ActBackRefIdeal.sig) → Buf (Elt Ideal) ℓ) (g : Dev Cert.ActBackRefIdeal.nD → PrngReg), Pre_ActBackRefIdeal_finite_factors m →
    θ_run (Cert.ActBackRefIdeal.defs (F := Ideal)) (onTc (τ := Cert.ActBackRefIdeal.τ) (Cert.ActBackRefIdeal.main (F := Ideal))) ⟨m, fun _ => 0, g⟩ (fun r => (∀ c : Dev Cert.ActBackRefIdeal.nD,
      r.2.mem ((c.tc : Thread Cert.ActBackRefIdeal.nD Cert.ActBackRefIdeal.τ).loc Cert.ActBackRefIdeal.main_arg0) = m ((c.tc : Thread Cert.ActBackRefIdeal.nD Cert.ActBackRefIdeal.τ).loc Cert.ActBackRefIdeal.main_arg0)
      ∧ r.2.mem ((c.tc : Thread Cert.ActBackRefIdeal.nD Cert.ActBackRefIdeal.τ).loc Cert.ActBackRefIdeal.main_arg1) = m ((c.tc : Thread Cert.ActBackRefIdeal.nD Cert.ActBackRefIdeal.τ).loc Cert.ActBackRefIdeal.main_arg1)
      ∧ r.2.mem ((c.tc : Thread Cert.ActBackRefIdeal.nD Cert.ActBackRefIdeal.τ).loc Cert.ActBackRefIdeal.main_arg2) = m ((c.tc : Thread Cert.ActBackRefIdeal.nD Cert.ActBackRefIdeal.τ).loc Cert.ActBackRefIdeal.main_arg2)
      ∧ r.2.mem ((c.tc : Thread Cert.ActBackRefIdeal.nD Cert.ActBackRefIdeal.τ).loc Cert.ActBackRefIdeal.main_arg3) = m ((c.tc : Thread Cert.ActBackRefIdeal.nD Cert.ActBackRefIdeal.τ).loc Cert.ActBackRefIdeal.main_arg3))
      ∧ r.2.sem = fun _ => 0)

def quiescent_OutBack [hOutBack : Cert.OutBack.Facts] : Prop :=
  ∀ (m : (ℓ : Loc Cert.OutBack.nD Cert.OutBack.τ Cert.OutBack.sig) → Buf (Elt Bits) ℓ) (g : Dev Cert.OutBack.nD → PrngReg), Pre_OutBack m →
    θ_run (Cert.OutBack.defs (F := Bits)) (onTc (τ := Cert.OutBack.τ) (Cert.OutBack.main (F := Bits))) ⟨m, fun _ => 0, g⟩ (fun r => (∀ c : Dev Cert.OutBack.nD,
      r.2.mem ((c.tc : Thread Cert.OutBack.nD Cert.OutBack.τ).loc Cert.OutBack.main_arg0) = m ((c.tc : Thread Cert.OutBack.nD Cert.OutBack.τ).loc Cert.OutBack.main_arg0)
      ∧ r.2.mem ((c.tc : Thread Cert.OutBack.nD Cert.OutBack.τ).loc Cert.OutBack.main_arg1) = m ((c.tc : Thread Cert.OutBack.nD Cert.OutBack.τ).loc Cert.OutBack.main_arg1))
      ∧ r.2.sem = fun _ => 0)

def quiescent_OutBackIdeal [hOutBackIdeal : Cert.OutBackIdeal.Facts] : Prop :=
  ∀ (m : (ℓ : Loc Cert.OutBackIdeal.nD Cert.OutBackIdeal.τ Cert.OutBackIdeal.sig) → Buf (Elt Ideal) ℓ) (g : Dev Cert.OutBackIdeal.nD → PrngReg), Pre_OutBackIdeal m →
    θ_run (Cert.OutBackIdeal.defs (F := Ideal)) (onTc (τ := Cert.OutBackIdeal.τ) (Cert.OutBackIdeal.main (F := Ideal))) ⟨m, fun _ => 0, g⟩ (fun r => (∀ c : Dev Cert.OutBackIdeal.nD,
      r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
      ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1))
      ∧ r.2.sem = fun _ => 0)

def quiescent_OutBackRefIdeal [hOutBackRefIdeal : Cert.OutBackRefIdeal.Facts] : Prop :=
  ∀ (m : (ℓ : Loc Cert.OutBackRefIdeal.nD Cert.OutBackRefIdeal.τ Cert.OutBackRefIdeal.sig) → Buf (Elt Ideal) ℓ) (g : Dev Cert.OutBackRefIdeal.nD → PrngReg), Pre_OutBackRefIdeal m →
    θ_run (Cert.OutBackRefIdeal.defs (F := Ideal)) (onTc (τ := Cert.OutBackRefIdeal.τ) (Cert.OutBackRefIdeal.main (F := Ideal))) ⟨m, fun _ => 0, g⟩ (fun r => (∀ c : Dev Cert.OutBackRefIdeal.nD,
      r.2.mem ((c.tc : Thread Cert.OutBackRefIdeal.nD Cert.OutBackRefIdeal.τ).loc Cert.OutBackRefIdeal.main_arg0) = m ((c.tc : Thread Cert.OutBackRefIdeal.nD Cert.OutBackRefIdeal.τ).loc Cert.OutBackRefIdeal.main_arg0)
      ∧ r.2.mem ((c.tc : Thread Cert.OutBackRefIdeal.nD Cert.OutBackRefIdeal.τ).loc Cert.OutBackRefIdeal.main_arg1) = m ((c.tc : Thread Cert.OutBackRefIdeal.nD Cert.OutBackRefIdeal.τ).loc Cert.OutBackRefIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_HgGrad [hHgGrad : Cert.HgGrad.Facts] : Prop :=
  ∀ (m : (ℓ : Loc Cert.HgGrad.nD Cert.HgGrad.τ Cert.HgGrad.sig) → Buf (Elt Bits) ℓ) (g : Dev Cert.HgGrad.nD → PrngReg), Pre_HgGrad m →
    θ_run (Cert.HgGrad.defs (F := Bits)) (onTc (τ := Cert.HgGrad.τ) (Cert.HgGrad.main (F := Bits))) ⟨m, fun _ => 0, g⟩ (fun r => (∀ c : Dev Cert.HgGrad.nD,
      r.2.mem ((c.tc : Thread Cert.HgGrad.nD Cert.HgGrad.τ).loc Cert.HgGrad.main_arg0) = m ((c.tc : Thread Cert.HgGrad.nD Cert.HgGrad.τ).loc Cert.HgGrad.main_arg0)
      ∧ r.2.mem ((c.tc : Thread Cert.HgGrad.nD Cert.HgGrad.τ).loc Cert.HgGrad.main_arg1) = m ((c.tc : Thread Cert.HgGrad.nD Cert.HgGrad.τ).loc Cert.HgGrad.main_arg1))
      ∧ r.2.sem = fun _ => 0)

def quiescent_HgGradIdeal [hHgGradIdeal : Cert.HgGradIdeal.Facts] : Prop :=
  ∀ (m : (ℓ : Loc Cert.HgGradIdeal.nD Cert.HgGradIdeal.τ Cert.HgGradIdeal.sig) → Buf (Elt Ideal) ℓ) (g : Dev Cert.HgGradIdeal.nD → PrngReg), Pre_HgGradIdeal m →
    θ_run (Cert.HgGradIdeal.defs (F := Ideal)) (onTc (τ := Cert.HgGradIdeal.τ) (Cert.HgGradIdeal.main (F := Ideal))) ⟨m, fun _ => 0, g⟩ (fun r => (∀ c : Dev Cert.HgGradIdeal.nD,
      r.2.mem ((c.tc : Thread Cert.HgGradIdeal.nD Cert.HgGradIdeal.τ).loc Cert.HgGradIdeal.main_arg0) = m ((c.tc : Thread Cert.HgGradIdeal.nD Cert.HgGradIdeal.τ).loc Cert.HgGradIdeal.main_arg0)
      ∧ r.2.mem ((c.tc : Thread Cert.HgGradIdeal.nD Cert.HgGradIdeal.τ).loc Cert.HgGradIdeal.main_arg1) = m ((c.tc : Thread Cert.HgGradIdeal.nD Cert.HgGradIdeal.τ).loc Cert.HgGradIdeal.main_arg1))
      ∧ r.2.sem = fun _ => 0)

def quiescent_HgGradRefIdeal [hHgGradRefIdeal : Cert.HgGradRefIdeal.Facts] : Prop :=
  ∀ (m : (ℓ : Loc Cert.HgGradRefIdeal.nD Cert.HgGradRefIdeal.τ Cert.HgGradRefIdeal.sig) → Buf (Elt Ideal) ℓ) (g : Dev Cert.HgGradRefIdeal.nD → PrngReg), Pre_HgGradRefIdeal m →
    θ_run (Cert.HgGradRefIdeal.defs (F := Ideal)) (onTc (τ := Cert.HgGradRefIdeal.τ) (Cert.HgGradRefIdeal.main (F := Ideal))) ⟨m, fun _ => 0, g⟩ (fun r => (∀ c : Dev Cert.HgGradRefIdeal.nD,
      r.2.mem ((c.tc : Thread Cert.HgGradRefIdeal.nD Cert.HgGradRefIdeal.τ).loc Cert.HgGradRefIdeal.main_arg0) = m ((c.tc : Thread Cert.HgGradRefIdeal.nD Cert.HgGradRefIdeal.τ).loc Cert.HgGradRefIdeal.main_arg0)
      ∧ r.2.mem ((c.tc : Thread Cert.HgGradRefIdeal.nD Cert.HgGradRefIdeal.τ).loc Cert.HgGradRefIdeal.main_arg1) = m ((c.tc : Thread Cert.HgGradRefIdeal.nD Cert.HgGradRefIdeal.τ).loc Cert.HgGradRefIdeal.main_arg1))
      ∧ r.2.sem = fun _ => 0)

def quiescent_GlaGrad [hGlaGrad : Cert.GlaGrad.Facts] : Prop :=
  ∀ (m : (ℓ : Loc Cert.GlaGrad.nD Cert.GlaGrad.τ Cert.GlaGrad.sig) → Buf (Elt Bits) ℓ) (g : Dev Cert.GlaGrad.nD → PrngReg), Pre_GlaGrad m →
    θ_run (Cert.GlaGrad.defs (F := Bits)) (onTc (τ := Cert.GlaGrad.τ) (Cert.GlaGrad.main (F := Bits))) ⟨m, fun _ => 0, g⟩ (fun r => (∀ c : Dev Cert.GlaGrad.nD,
      r.2.mem ((c.tc : Thread Cert.GlaGrad.nD Cert.GlaGrad.τ).loc Cert.GlaGrad.main_arg0) = m ((c.tc : Thread Cert.GlaGrad.nD Cert.GlaGrad.τ).loc Cert.GlaGrad.main_arg0)
      ∧ r.2.mem ((c.tc : Thread Cert.GlaGrad.nD Cert.GlaGrad.τ).loc Cert.GlaGrad.main_arg1) = m ((c.tc : Thread Cert.GlaGrad.nD Cert.GlaGrad.τ).loc Cert.GlaGrad.main_arg1))
      ∧ r.2.sem = fun _ => 0)

def quiescent_GlaGradIdeal [hGlaGradIdeal : Cert.GlaGradIdeal.Facts] : Prop :=
  ∀ (m : (ℓ : Loc Cert.GlaGradIdeal.nD Cert.GlaGradIdeal.τ Cert.GlaGradIdeal.sig) → Buf (Elt Ideal) ℓ) (g : Dev Cert.GlaGradIdeal.nD → PrngReg), Pre_GlaGradIdeal m →
    θ_run (Cert.GlaGradIdeal.defs (F := Ideal)) (onTc (τ := Cert.GlaGradIdeal.τ) (Cert.GlaGradIdeal.main (F := Ideal))) ⟨m, fun _ => 0, g⟩ (fun r => (∀ c : Dev Cert.GlaGradIdeal.nD,
      r.2.mem ((c.tc : Thread Cert.GlaGradIdeal.nD Cert.GlaGradIdeal.τ).loc Cert.GlaGradIdeal.main_arg0) = m ((c.tc : Thread Cert.GlaGradIdeal.nD Cert.GlaGradIdeal.τ).loc Cert.GlaGradIdeal.main_arg0)
      ∧ r.2.mem ((c.tc : Thread Cert.GlaGradIdeal.nD Cert.GlaGradIdeal.τ).loc Cert.GlaGradIdeal.main_arg1) = m ((c.tc : Thread Cert.GlaGradIdeal.nD Cert.GlaGradIdeal.τ).loc Cert.GlaGradIdeal.main_arg1))
      ∧ r.2.sem = fun _ => 0)

def quiescent_GlaGradRefIdeal [hGlaGradRefIdeal : Cert.GlaGradRefIdeal.Facts] : Prop :=
  ∀ (m : (ℓ : Loc Cert.GlaGradRefIdeal.nD Cert.GlaGradRefIdeal.τ Cert.GlaGradRefIdeal.sig) → Buf (Elt Ideal) ℓ) (g : Dev Cert.GlaGradRefIdeal.nD → PrngReg), Pre_GlaGradRefIdeal m →
    θ_run (Cert.GlaGradRefIdeal.defs (F := Ideal)) (onTc (τ := Cert.GlaGradRefIdeal.τ) (Cert.GlaGradRefIdeal.main (F := Ideal))) ⟨m, fun _ => 0, g⟩ (fun r => (∀ c : Dev Cert.GlaGradRefIdeal.nD,
      r.2.mem ((c.tc : Thread Cert.GlaGradRefIdeal.nD Cert.GlaGradRefIdeal.τ).loc Cert.GlaGradRefIdeal.main_arg0) = m ((c.tc : Thread Cert.GlaGradRefIdeal.nD Cert.GlaGradRefIdeal.τ).loc Cert.GlaGradRefIdeal.main_arg0)
      ∧ r.2.mem ((c.tc : Thread Cert.GlaGradRefIdeal.nD Cert.GlaGradRefIdeal.τ).loc Cert.GlaGradRefIdeal.main_arg1) = m ((c.tc : Thread Cert.GlaGradRefIdeal.nD Cert.GlaGradRefIdeal.τ).loc Cert.GlaGradRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1))
      ∧ r.2.sem = fun _ => 0)

def quiescent_BranchBack [hBranchBack : Cert.BranchBack.Facts] : Prop :=
  ∀ (m : (ℓ : Loc Cert.BranchBack.nD Cert.BranchBack.τ Cert.BranchBack.sig) → Buf (Elt Bits) ℓ) (g : Dev Cert.BranchBack.nD → PrngReg), Pre_BranchBack m →
    θ_run (Cert.BranchBack.defs (F := Bits)) (onTc (τ := Cert.BranchBack.τ) (Cert.BranchBack.main (F := Bits))) ⟨m, fun _ => 0, g⟩ (fun r => (∀ c : Dev Cert.BranchBack.nD,
      r.2.mem ((c.tc : Thread Cert.BranchBack.nD Cert.BranchBack.τ).loc Cert.BranchBack.main_arg0) = m ((c.tc : Thread Cert.BranchBack.nD Cert.BranchBack.τ).loc Cert.BranchBack.main_arg0)
      ∧ r.2.mem ((c.tc : Thread Cert.BranchBack.nD Cert.BranchBack.τ).loc Cert.BranchBack.main_arg1) = m ((c.tc : Thread Cert.BranchBack.nD Cert.BranchBack.τ).loc Cert.BranchBack.main_arg1)
      ∧ r.2.mem ((c.tc : Thread Cert.BranchBack.nD Cert.BranchBack.τ).loc Cert.BranchBack.main_arg2) = m ((c.tc : Thread Cert.BranchBack.nD Cert.BranchBack.τ).loc Cert.BranchBack.main_arg2)
      ∧ r.2.mem ((c.tc : Thread Cert.BranchBack.nD Cert.BranchBack.τ).loc Cert.BranchBack.main_arg3) = m ((c.tc : Thread Cert.BranchBack.nD Cert.BranchBack.τ).loc Cert.BranchBack.main_arg3)
      ∧ r.2.mem ((c.tc : Thread Cert.BranchBack.nD Cert.BranchBack.τ).loc Cert.BranchBack.main_arg4) = m ((c.tc : Thread Cert.BranchBack.nD Cert.BranchBack.τ).loc Cert.BranchBack.main_arg4)
      ∧ r.2.mem ((c.tc : Thread Cert.BranchBack.nD Cert.BranchBack.τ).loc Cert.BranchBack.main_arg5) = m ((c.tc : Thread Cert.BranchBack.nD Cert.BranchBack.τ).loc Cert.BranchBack.main_arg5))
      ∧ r.2.sem = fun _ => 0)

def quiescent_BranchBackIdeal [hBranchBackIdeal : Cert.BranchBackIdeal.Facts] : Prop :=
  ∀ (m : (ℓ : Loc Cert.BranchBackIdeal.nD Cert.BranchBackIdeal.τ Cert.BranchBackIdeal.sig) → Buf (Elt Ideal) ℓ) (g : Dev Cert.BranchBackIdeal.nD → PrngReg), Pre_BranchBackIdeal m →
    θ_run (Cert.BranchBackIdeal.defs (F := Ideal)) (onTc (τ := Cert.BranchBackIdeal.τ) (Cert.BranchBackIdeal.main (F := Ideal))) ⟨m, fun _ => 0, g⟩ (fun r => (∀ c : Dev Cert.BranchBackIdeal.nD,
      r.2.mem ((c.tc : Thread Cert.BranchBackIdeal.nD Cert.BranchBackIdeal.τ).loc Cert.BranchBackIdeal.main_arg0) = m ((c.tc : Thread Cert.BranchBackIdeal.nD Cert.BranchBackIdeal.τ).loc Cert.BranchBackIdeal.main_arg0)
      ∧ r.2.mem ((c.tc : Thread Cert.BranchBackIdeal.nD Cert.BranchBackIdeal.τ).loc Cert.BranchBackIdeal.main_arg1) = m ((c.tc : Thread Cert.BranchBackIdeal.nD Cert.BranchBackIdeal.τ).loc Cert.BranchBackIdeal.main_arg1)
      ∧ r.2.mem ((c.tc : Thread Cert.BranchBackIdeal.nD Cert.BranchBackIdeal.τ).loc Cert.BranchBackIdeal.main_arg2) = m ((c.tc : Thread Cert.BranchBackIdeal.nD Cert.BranchBackIdeal.τ).loc Cert.BranchBackIdeal.main_arg2)
      ∧ r.2.mem ((c.tc : Thread Cert.BranchBackIdeal.nD Cert.BranchBackIdeal.τ).loc Cert.BranchBackIdeal.main_arg3) = m ((c.tc : Thread Cert.BranchBackIdeal.nD Cert.BranchBackIdeal.τ).loc Cert.BranchBackIdeal.main_arg3)
      ∧ r.2.mem ((c.tc : Thread Cert.BranchBackIdeal.nD Cert.BranchBackIdeal.τ).loc Cert.BranchBackIdeal.main_arg4) = m ((c.tc : Thread Cert.BranchBackIdeal.nD Cert.BranchBackIdeal.τ).loc Cert.BranchBackIdeal.main_arg4)
      ∧ r.2.mem ((c.tc : Thread Cert.BranchBackIdeal.nD Cert.BranchBackIdeal.τ).loc Cert.BranchBackIdeal.main_arg5) = m ((c.tc : Thread Cert.BranchBackIdeal.nD Cert.BranchBackIdeal.τ).loc Cert.BranchBackIdeal.main_arg5))
      ∧ r.2.sem = fun _ => 0)

def quiescent_BranchBackRefIdeal [hBranchBackRefIdeal : Cert.BranchBackRefIdeal.Facts] : Prop :=
  ∀ (m : (ℓ : Loc Cert.BranchBackRefIdeal.nD Cert.BranchBackRefIdeal.τ Cert.BranchBackRefIdeal.sig) → Buf (Elt Ideal) ℓ) (g : Dev Cert.BranchBackRefIdeal.nD → PrngReg), Pre_BranchBackRefIdeal m →
    θ_run (Cert.BranchBackRefIdeal.defs (F := Ideal)) (onTc (τ := Cert.BranchBackRefIdeal.τ) (Cert.BranchBackRefIdeal.main (F := Ideal))) ⟨m, fun _ => 0, g⟩ (fun r => (∀ c : Dev Cert.BranchBackRefIdeal.nD,
      r.2.mem ((c.tc : Thread Cert.BranchBackRefIdeal.nD Cert.BranchBackRefIdeal.τ).loc Cert.BranchBackRefIdeal.main_arg0) = m ((c.tc : Thread Cert.BranchBackRefIdeal.nD Cert.BranchBackRefIdeal.τ).loc Cert.BranchBackRefIdeal.main_arg0)
      ∧ r.2.mem ((c.tc : Thread Cert.BranchBackRefIdeal.nD Cert.BranchBackRefIdeal.τ).loc Cert.BranchBackRefIdeal.main_arg1) = m ((c.tc : Thread Cert.BranchBackRefIdeal.nD Cert.BranchBackRefIdeal.τ).loc Cert.BranchBackRefIdeal.main_arg1)
      ∧ r.2.mem ((c.tc : Thread Cert.BranchBackRefIdeal.nD Cert.BranchBackRefIdeal.τ).loc Cert.BranchBackRefIdeal.main_arg2) = m ((c.tc : Thread Cert.BranchBackRefIdeal.nD Cert.BranchBackRefIdeal.τ).loc Cert.BranchBackRefIdeal.main_arg2)
      ∧ r.2.mem ((c.tc : Thread Cert.BranchBackRefIdeal.nD Cert.BranchBackRefIdeal.τ).loc Cert.BranchBackRefIdeal.main_arg3) = m ((c.tc : Thread Cert.BranchBackRefIdeal.nD Cert.BranchBackRefIdeal.τ).loc Cert.BranchBackRefIdeal.main_arg3)
      ∧ r.2.mem ((c.tc : Thread Cert.BranchBackRefIdeal.nD Cert.BranchBackRefIdeal.τ).loc Cert.BranchBackRefIdeal.main_arg4) = m ((c.tc : Thread Cert.BranchBackRefIdeal.nD Cert.BranchBackRefIdeal.τ).loc Cert.BranchBackRefIdeal.main_arg4)
      ∧ r.2.mem ((c.tc : Thread Cert.BranchBackRefIdeal.nD Cert.BranchBackRefIdeal.τ).loc Cert.BranchBackRefIdeal.main_arg5) = m ((c.tc : Thread Cert.BranchBackRefIdeal.nD Cert.BranchBackRefIdeal.τ).loc Cert.BranchBackRefIdeal.main_arg5))
      ∧ r.2.sem = fun _ => 0)

def quiescent_BranchFwd [hBranchFwd : Cert.BranchFwd.Facts] : Prop :=
  ∀ (m : (ℓ : Loc Cert.BranchFwd.nD Cert.BranchFwd.τ Cert.BranchFwd.sig) → Buf (Elt Bits) ℓ) (g : Dev Cert.BranchFwd.nD → PrngReg), Pre_BranchFwd m →
    θ_run (Cert.BranchFwd.defs (F := Bits)) (onTc (τ := Cert.BranchFwd.τ) (Cert.BranchFwd.main (F := Bits))) ⟨m, fun _ => 0, g⟩ (fun r => (∀ c : Dev Cert.BranchFwd.nD,
      r.2.mem ((c.tc : Thread Cert.BranchFwd.nD Cert.BranchFwd.τ).loc Cert.BranchFwd.main_arg0) = m ((c.tc : Thread Cert.BranchFwd.nD Cert.BranchFwd.τ).loc Cert.BranchFwd.main_arg0)
      ∧ r.2.mem ((c.tc : Thread Cert.BranchFwd.nD Cert.BranchFwd.τ).loc Cert.BranchFwd.main_arg1) = m ((c.tc : Thread Cert.BranchFwd.nD Cert.BranchFwd.τ).loc Cert.BranchFwd.main_arg1)
      ∧ r.2.mem ((c.tc : Thread Cert.BranchFwd.nD Cert.BranchFwd.τ).loc Cert.BranchFwd.main_arg2) = m ((c.tc : Thread Cert.BranchFwd.nD Cert.BranchFwd.τ).loc Cert.BranchFwd.main_arg2)
      ∧ r.2.mem ((c.tc : Thread Cert.BranchFwd.nD Cert.BranchFwd.τ).loc Cert.BranchFwd.main_arg3) = m ((c.tc : Thread Cert.BranchFwd.nD Cert.BranchFwd.τ).loc Cert.BranchFwd.main_arg3))
      ∧ r.2.sem = fun _ => 0)

def quiescent_BranchFwdIdeal [hBranchFwdIdeal : Cert.BranchFwdIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg), Pre_BranchFwdIdeal m →
    θ_run (Cert.BranchFwdIdeal.defs (F := Ideal)) (onTc (τ := Cert.BranchFwdIdeal.τ) (Cert.BranchFwdIdeal.main (F := Ideal))) ⟨m, fun _ => 0, g⟩ (fun r => (∀ c : Dev Cert.BranchFwdIdeal.nD,
      r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
      ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1)
      ∧ r.2.mem ((c.tc : Thread Cert.BranchFwdIdeal.nD Cert.BranchFwdIdeal.τ).loc Cert.BranchFwdIdeal.main_arg2) = m ((c.tc : Thread Cert.BranchFwdIdeal.nD Cert.BranchFwdIdeal.τ).loc Cert.BranchFwdIdeal.main_arg2)
      ∧ r.2.mem ((c.tc : Thread Cert.BranchFwdIdeal.nD Cert.BranchFwdIdeal.τ).loc Cert.BranchFwdIdeal.main_arg3) = m ((c.tc : Thread Cert.BranchFwdIdeal.nD Cert.BranchFwdIdeal.τ).loc Cert.BranchFwdIdeal.main_arg3))
      ∧ r.2.sem = fun _ => 0)

def quiescent_BranchFwdRefIdeal [hBranchFwdRefIdeal : Cert.BranchFwdRefIdeal.Facts] : Prop :=
  ∀ (m : (ℓ : Loc Cert.BranchFwdRefIdeal.nD Cert.BranchFwdRefIdeal.τ Cert.BranchFwdRefIdeal.sig) → Buf (Elt Ideal) ℓ) (g : Dev Cert.BranchFwdRefIdeal.nD → PrngReg), Pre_BranchFwdRefIdeal m →
    θ_run (Cert.BranchFwdRefIdeal.defs (F := Ideal)) (onTc (τ := Cert.BranchFwdRefIdeal.τ) (Cert.BranchFwdRefIdeal.main (F := Ideal))) ⟨m, fun _ => 0, g⟩ (fun r => (∀ c : Dev Cert.BranchFwdRefIdeal.nD,
      r.2.mem ((c.tc : Thread Cert.BranchFwdRefIdeal.nD Cert.BranchFwdRefIdeal.τ).loc Cert.BranchFwdRefIdeal.main_arg0) = m ((c.tc : Thread Cert.BranchFwdRefIdeal.nD Cert.BranchFwdRefIdeal.τ).loc Cert.BranchFwdRefIdeal.main_arg0)
      ∧ r.2.mem ((c.tc : Thread Cert.BranchFwdRefIdeal.nD Cert.BranchFwdRefIdeal.τ).loc Cert.BranchFwdRefIdeal.main_arg1) = m ((c.tc : Thread Cert.BranchFwdRefIdeal.nD Cert.BranchFwdRefIdeal.τ).loc Cert.BranchFwdRefIdeal.main_arg1)
      ∧ r.2.mem ((c.tc : Thread Cert.BranchFwdRefIdeal.nD Cert.BranchFwdRefIdeal.τ).loc Cert.BranchFwdRefIdeal.main_arg2) = m ((c.tc : Thread Cert.BranchFwdRefIdeal.nD Cert.BranchFwdRefIdeal.τ).loc Cert.BranchFwdRefIdeal.main_arg2)
      ∧ r.2.mem ((c.tc : Thread Cert.BranchFwdRefIdeal.nD Cert.BranchFwdRefIdeal.τ).loc Cert.BranchFwdRefIdeal.main_arg3) = m ((c.tc : Thread Cert.BranchFwdRefIdeal.nD Cert.BranchFwdRefIdeal.τ).loc Cert.BranchFwdRefIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_ModFwd [hModFwd : Cert.ModFwd.Facts] : Prop :=
  ∀ (m : (ℓ : Loc Cert.ModFwd.nD Cert.ModFwd.τ Cert.ModFwd.sig) → Buf (Elt Bits) ℓ) (g : Dev Cert.ModFwd.nD → PrngReg), Pre_ModFwd m →
    θ_run (Cert.ModFwd.defs (F := Bits)) (onTc (τ := Cert.ModFwd.τ) (Cert.ModFwd.main (F := Bits))) ⟨m, fun _ => 0, g⟩ (fun r => (∀ c : Dev Cert.ModFwd.nD,
      r.2.mem ((c.tc : Thread Cert.ModFwd.nD Cert.ModFwd.τ).loc Cert.ModFwd.main_arg0) = m ((c.tc : Thread Cert.ModFwd.nD Cert.ModFwd.τ).loc Cert.ModFwd.main_arg0)
      ∧ r.2.mem ((c.tc : Thread Cert.ModFwd.nD Cert.ModFwd.τ).loc Cert.ModFwd.main_arg1) = m ((c.tc : Thread Cert.ModFwd.nD Cert.ModFwd.τ).loc Cert.ModFwd.main_arg1)
      ∧ r.2.mem ((c.tc : Thread Cert.ModFwd.nD Cert.ModFwd.τ).loc Cert.ModFwd.main_arg2) = m ((c.tc : Thread Cert.ModFwd.nD Cert.ModFwd.τ).loc Cert.ModFwd.main_arg2))
      ∧ r.2.sem = fun _ => 0)

def quiescent_ModFwdIdeal [hModFwdIdeal : Cert.ModFwdIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg), Pre_ModFwdIdeal m →
    θ_run (Cert.ModFwdIdeal.defs (F := Ideal)) (onTc (τ := Cert.ModFwdIdeal.τ) (Cert.ModFwdIdeal.main (F := Ideal))) ⟨m, fun _ => 0, g⟩ (fun r => (∀ c : Dev Cert.ModFwdIdeal.nD,
      r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
      ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
      ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2))
      ∧ r.2.sem = fun _ => 0)

def quiescent_ModFwdRefIdeal [hModFwdRefIdeal : Cert.ModFwdRefIdeal.Facts] : Prop :=
  ∀ (m : (ℓ : Loc Cert.ModFwdRefIdeal.nD Cert.ModFwdRefIdeal.τ Cert.ModFwdRefIdeal.sig) → Buf (Elt Ideal) ℓ) (g : Dev Cert.ModFwdRefIdeal.nD → PrngReg), Pre_ModFwdRefIdeal m →
    θ_run (Cert.ModFwdRefIdeal.defs (F := Ideal)) (onTc (τ := Cert.ModFwdRefIdeal.τ) (Cert.ModFwdRefIdeal.main (F := Ideal))) ⟨m, fun _ => 0, g⟩ (fun r => (∀ c : Dev Cert.ModFwdRefIdeal.nD,
      r.2.mem ((c.tc : Thread Cert.ModFwdRefIdeal.nD Cert.ModFwdRefIdeal.τ).loc Cert.ModFwdRefIdeal.main_arg0) = m ((c.tc : Thread Cert.ModFwdRefIdeal.nD Cert.ModFwdRefIdeal.τ).loc Cert.ModFwdRefIdeal.main_arg0)
      ∧ r.2.mem ((c.tc : Thread Cert.ModFwdRefIdeal.nD Cert.ModFwdRefIdeal.τ).loc Cert.ModFwdRefIdeal.main_arg1) = m ((c.tc : Thread Cert.ModFwdRefIdeal.nD Cert.ModFwdRefIdeal.τ).loc Cert.ModFwdRefIdeal.main_arg1)
      ∧ r.2.mem ((c.tc : Thread Cert.ModFwdRefIdeal.nD Cert.ModFwdRefIdeal.τ).loc Cert.ModFwdRefIdeal.main_arg2) = m ((c.tc : Thread Cert.ModFwdRefIdeal.nD Cert.ModFwdRefIdeal.τ).loc Cert.ModFwdRefIdeal.main_arg2))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_SumCtx [hSumCtx : Cert.SumCtx.Facts] : Prop :=
  ∀ (m : (ℓ : Loc Cert.SumCtx.nD Cert.SumCtx.τ Cert.SumCtx.sig) → Buf (Elt Bits) ℓ) (g : Dev Cert.SumCtx.nD → PrngReg), Pre_SumCtx m →
    θ_run (Cert.SumCtx.defs (F := Bits)) (onTc (τ := Cert.SumCtx.τ) (Cert.SumCtx.main (F := Bits))) ⟨m, fun _ => 0, g⟩ (fun r => (∀ c : Dev Cert.SumCtx.nD,
      r.2.mem ((c.tc : Thread Cert.SumCtx.nD Cert.SumCtx.τ).loc Cert.SumCtx.main_arg0) = m ((c.tc : Thread Cert.SumCtx.nD Cert.SumCtx.τ).loc Cert.SumCtx.main_arg0))
      ∧ r.2.sem = fun _ => 0)

def quiescent_SumCtxIdeal [hSumCtxIdeal : Cert.SumCtxIdeal.Facts] : Prop :=
  ∀ (m : (ℓ : Loc Cert.SumCtxIdeal.nD Cert.SumCtxIdeal.τ Cert.SumCtxIdeal.sig) → Buf (Elt Ideal) ℓ) (g : Dev Cert.SumCtxIdeal.nD → PrngReg), Pre_SumCtxIdeal m →
    θ_run (Cert.SumCtxIdeal.defs (F := Ideal)) (onTc (τ := Cert.SumCtxIdeal.τ) (Cert.SumCtxIdeal.main (F := Ideal))) ⟨m, fun _ => 0, g⟩ (fun r => (∀ c : Dev Cert.SumCtxIdeal.nD,
      r.2.mem ((c.tc : Thread Cert.SumCtxIdeal.nD Cert.SumCtxIdeal.τ).loc Cert.SumCtxIdeal.main_arg0) = m ((c.tc : Thread Cert.SumCtxIdeal.nD Cert.SumCtxIdeal.τ).loc Cert.SumCtxIdeal.main_arg0))
      ∧ r.2.sem = fun _ => 0)

def quiescent_SumCtxRefIdeal [hSumCtxRefIdeal : Cert.SumCtxRefIdeal.Facts] : Prop :=
  ∀ (m : (ℓ : Loc Cert.SumCtxRefIdeal.nD Cert.SumCtxRefIdeal.τ Cert.SumCtxRefIdeal.sig) → Buf (Elt Ideal) ℓ) (g : Dev Cert.SumCtxRefIdeal.nD → PrngReg), Pre_SumCtxRefIdeal m →
    θ_run (Cert.SumCtxRefIdeal.defs (F := Ideal)) (onTc (τ := Cert.SumCtxRefIdeal.τ) (Cert.SumCtxRefIdeal.main (F := Ideal))) ⟨m, fun _ => 0, g⟩ (fun r => (∀ c : Dev Cert.SumCtxRefIdeal.nD,
      r.2.mem ((c.tc : Thread Cert.SumCtxRefIdeal.nD Cert.SumCtxRefIdeal.τ).loc Cert.SumCtxRefIdeal.main_arg0) = m ((c.tc : Thread Cert.SumCtxRefIdeal.nD Cert.SumCtxRefIdeal.τ).loc Cert.SumCtxRefIdeal.main_arg0))
      ∧ r.2.sem = fun _ => 0)

def quiescent_ModBwd [hModBwd : Cert.ModBwd.Facts] : Prop :=
  ∀ (m : (ℓ : Loc Cert.ModBwd.nD Cert.ModBwd.τ Cert.ModBwd.sig) → Buf (Elt Bits) ℓ) (g : Dev Cert.ModBwd.nD → PrngReg), Pre_ModBwd m →
    θ_run (Cert.ModBwd.defs (F := Bits)) (onTc (τ := Cert.ModBwd.τ) (Cert.ModBwd.main (F := Bits))) ⟨m, fun _ => 0, g⟩ (fun r => (∀ c : Dev Cert.ModBwd.nD,
      r.2.mem ((c.tc : Thread Cert.ModBwd.nD Cert.ModBwd.τ).loc Cert.ModBwd.main_arg0) = m ((c.tc : Thread Cert.ModBwd.nD Cert.ModBwd.τ).loc Cert.ModBwd.main_arg0)
      ∧ r.2.mem ((c.tc : Thread Cert.ModBwd.nD Cert.ModBwd.τ).loc Cert.ModBwd.main_arg1) = m ((c.tc : Thread Cert.ModBwd.nD Cert.ModBwd.τ).loc Cert.ModBwd.main_arg1)
      ∧ r.2.mem ((c.tc : Thread Cert.ModBwd.nD Cert.ModBwd.τ).loc Cert.ModBwd.main_arg2) = m ((c.tc : Thread Cert.ModBwd.nD Cert.ModBwd.τ).loc Cert.ModBwd.main_arg2))
      ∧ r.2.sem = fun _ => 0)

def quiescent_ModBwdIdeal [hModBwdIdeal : Cert.ModBwdIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg), Pre_ModBwdIdeal m →
    θ_run (Cert.ModBwdIdeal.defs (F := Ideal)) (onTc (τ := Cert.ModBwdIdeal.τ) (Cert.ModBwdIdeal.main (F := Ideal))) ⟨m, fun _ => 0, g⟩ (fun r => (∀ c : Dev Cert.ModBwdIdeal.nD,
      r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
      ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
      ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2))
      ∧ r.2.sem = fun _ => 0)

def quiescent_ModBwdRefIdeal [hModBwdRefIdeal : Cert.ModBwdRefIdeal.Facts] : Prop :=
  ∀ (m : (ℓ : Loc Cert.ModBwdRefIdeal.nD Cert.ModBwdRefIdeal.τ Cert.ModBwdRefIdeal.sig) → Buf (Elt Ideal) ℓ) (g : Dev Cert.ModBwdRefIdeal.nD → PrngReg), Pre_ModBwdRefIdeal m →
    θ_run (Cert.ModBwdRefIdeal.defs (F := Ideal)) (onTc (τ := Cert.ModBwdRefIdeal.τ) (Cert.ModBwdRefIdeal.main (F := Ideal))) ⟨m, fun _ => 0, g⟩ (fun r => (∀ c : Dev Cert.ModBwdRefIdeal.nD,
      r.2.mem ((c.tc : Thread Cert.ModBwdRefIdeal.nD Cert.ModBwdRefIdeal.τ).loc Cert.ModBwdRefIdeal.main_arg0) = m ((c.tc : Thread Cert.ModBwdRefIdeal.nD Cert.ModBwdRefIdeal.τ).loc Cert.ModBwdRefIdeal.main_arg0)
      ∧ r.2.mem ((c.tc : Thread Cert.ModBwdRefIdeal.nD Cert.ModBwdRefIdeal.τ).loc Cert.ModBwdRefIdeal.main_arg1) = m ((c.tc : Thread Cert.ModBwdRefIdeal.nD Cert.ModBwdRefIdeal.τ).loc Cert.ModBwdRefIdeal.main_arg1)
      ∧ r.2.mem ((c.tc : Thread Cert.ModBwdRefIdeal.nD Cert.ModBwdRefIdeal.τ).loc Cert.ModBwdRefIdeal.main_arg2) = m ((c.tc : Thread Cert.ModBwdRefIdeal.nD Cert.ModBwdRefIdeal.τ).loc Cert.ModBwdRefIdeal.main_arg2))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2)
      ∧ r.2.mem ((c.tc : Thread Cert.Prenorm.nD Cert.Prenorm.τ).loc Cert.Prenorm.main_arg3) = m ((c.tc : Thread Cert.Prenorm.nD Cert.Prenorm.τ).loc Cert.Prenorm.main_arg3)
      ∧ r.2.mem ((c.tc : Thread Cert.Prenorm.nD Cert.Prenorm.τ).loc Cert.Prenorm.main_arg4) = m ((c.tc : Thread Cert.Prenorm.nD Cert.Prenorm.τ).loc Cert.Prenorm.main_arg4))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
      ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3)
      ∧ r.2.mem ((c.tc : Thread Cert.PrenormIdeal.nD Cert.PrenormIdeal.τ).loc Cert.PrenormIdeal.main_arg4) = m ((c.tc : Thread Cert.PrenormIdeal.nD Cert.PrenormIdeal.τ).loc Cert.PrenormIdeal.main_arg4))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1)
      ∧ r.2.mem ((c.tc : Thread Cert.PrenormRefIdeal.nD Cert.PrenormRefIdeal.τ).loc Cert.PrenormRefIdeal.main_arg2) = m ((c.tc : Thread Cert.PrenormRefIdeal.nD Cert.PrenormRefIdeal.τ).loc Cert.PrenormRefIdeal.main_arg2)
      ∧ r.2.mem ((c.tc : Thread Cert.PrenormRefIdeal.nD Cert.PrenormRefIdeal.τ).loc Cert.PrenormRefIdeal.main_arg3) = m ((c.tc : Thread Cert.PrenormRefIdeal.nD Cert.PrenormRefIdeal.τ).loc Cert.PrenormRefIdeal.main_arg3)
      ∧ r.2.mem ((c.tc : Thread Cert.PrenormRefIdeal.nD Cert.PrenormRefIdeal.τ).loc Cert.PrenormRefIdeal.main_arg4) = m ((c.tc : Thread Cert.PrenormRefIdeal.nD Cert.PrenormRefIdeal.τ).loc Cert.PrenormRefIdeal.main_arg4))
      ∧ r.2.sem = fun _ => 0)

def preserves_Kernel_KernelIdeal : Prop :=
  True

def algebraic_KernelIdeal_ReferenceIdeal_pre_gates_are_mild [hKernelIdeal : Cert.KernelIdeal.Facts] [hReferenceIdeal : Cert.ReferenceIdeal.Facts] [hPre_gates_are_mild : Cert.Pre_gates_are_mild.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_are_mild m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)) (v3 : (c : Dev Cert.KernelIdeal.nD) → Buf (Elt Ideal) ((c.tc : Thread Cert.KernelIdeal.nD Cert.KernelIdeal.τ).loc Cert.KernelIdeal.main_v34_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_v34_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InGradA_InGradAIdeal : Prop :=
  True

def algebraic_InGradAIdeal_InGradARefIdeal [hInGradAIdeal : Cert.InGradAIdeal.Facts] [hInGradARefIdeal : Cert.InGradARefIdeal.Facts] : Prop :=
  ∀ (m : (ℓ : Loc Cert.InGradAIdeal.nD Cert.InGradAIdeal.τ Cert.InGradAIdeal.sig) → Buf (Elt Ideal) ℓ) (g : Dev Cert.InGradAIdeal.nD → PrngReg)
    (m' : (ℓ : Loc Cert.InGradARefIdeal.nD Cert.InGradARefIdeal.τ Cert.InGradARefIdeal.sig) → Buf (Elt Ideal) ℓ) (g' : Dev Cert.InGradARefIdeal.nD → PrngReg), Pre_InGradAIdeal m →
    (∀ c : Dev Cert.InGradAIdeal.nD,
      m' ((c.tc : Thread Cert.InGradARefIdeal.nD Cert.InGradARefIdeal.τ).loc Cert.InGradARefIdeal.main_arg0) = m ((c.tc : Thread Cert.InGradAIdeal.nD Cert.InGradAIdeal.τ).loc Cert.InGradAIdeal.main_arg0)
      ∧ m' ((c.tc : Thread Cert.InGradARefIdeal.nD Cert.InGradARefIdeal.τ).loc Cert.InGradARefIdeal.main_arg1) = m ((c.tc : Thread Cert.InGradAIdeal.nD Cert.InGradAIdeal.τ).loc Cert.InGradAIdeal.main_arg1)) →
    ∃ (v0 : (c : Dev Cert.InGradAIdeal.nD) → Buf (Elt Ideal) ((c.tc : Thread Cert.InGradAIdeal.nD Cert.InGradAIdeal.τ).loc Cert.InGradAIdeal.main_v0)),
      θ_run (Cert.InGradAIdeal.defs (F := Ideal)) (onTc (τ := Cert.InGradAIdeal.τ) (Cert.InGradAIdeal.main (F := Ideal))) ⟨m, fun _ => 0, g⟩ (fun r => ∀ c : Dev Cert.InGradAIdeal.nD,
          r.2.mem ((c.tc : Thread Cert.InGradAIdeal.nD Cert.InGradAIdeal.τ).loc Cert.InGradAIdeal.main_v0) = v0 c
          ∧ r.2.mem ((c.tc : Thread Cert.InGradAIdeal.nD Cert.InGradAIdeal.τ).loc Cert.InGradAIdeal.main_arg0) = m ((c.tc : Thread Cert.InGradAIdeal.nD Cert.InGradAIdeal.τ).loc Cert.InGradAIdeal.main_arg0)
          ∧ r.2.mem ((c.tc : Thread Cert.InGradAIdeal.nD Cert.InGradAIdeal.τ).loc Cert.InGradAIdeal.main_arg1) = m ((c.tc : Thread Cert.InGradAIdeal.nD Cert.InGradAIdeal.τ).loc Cert.InGradAIdeal.main_arg1))
      ∧ θ_run (Cert.InGradARefIdeal.defs (F := Ideal)) (onTc (τ := Cert.InGradARefIdeal.τ) (Cert.InGradARefIdeal.main (F := Ideal))) ⟨m', fun _ => 0, g'⟩ (fun r => ∀ c : Dev Cert.InGradARefIdeal.nD,
          r.2.mem ((c.tc : Thread Cert.InGradARefIdeal.nD Cert.InGradARefIdeal.τ).loc Cert.InGradARefIdeal.main_v7) = v0 c
          ∧ r.2.mem ((c.tc : Thread Cert.InGradARefIdeal.nD Cert.InGradARefIdeal.τ).loc Cert.InGradARefIdeal.main_arg0) = m' ((c.tc : Thread Cert.InGradARefIdeal.nD Cert.InGradARefIdeal.τ).loc Cert.InGradARefIdeal.main_arg0)
          ∧ r.2.mem ((c.tc : Thread Cert.InGradARefIdeal.nD Cert.InGradARefIdeal.τ).loc Cert.InGradARefIdeal.main_arg1) = m' ((c.tc : Thread Cert.InGradARefIdeal.nD Cert.InGradARefIdeal.τ).loc Cert.InGradARefIdeal.main_arg1))

def preserves_InGradB_InGradBIdeal : Prop :=
  True

def algebraic_InGradBIdeal_InGradBRefIdeal [hInGradBIdeal : Cert.InGradBIdeal.Facts] [hInGradBRefIdeal : Cert.InGradBRefIdeal.Facts] : Prop :=
  ∀ (m : (ℓ : Loc Cert.InGradBIdeal.nD Cert.InGradBIdeal.τ Cert.InGradBIdeal.sig) → Buf (Elt Ideal) ℓ) (g : Dev Cert.InGradBIdeal.nD → PrngReg)
    (m' : (ℓ : Loc Cert.InGradBRefIdeal.nD Cert.InGradBRefIdeal.τ Cert.InGradBRefIdeal.sig) → Buf (Elt Ideal) ℓ) (g' : Dev Cert.InGradBRefIdeal.nD → PrngReg), Pre_InGradBIdeal m →
    (∀ c : Dev Cert.InGradBIdeal.nD,
      m' ((c.tc : Thread Cert.InGradBRefIdeal.nD Cert.InGradBRefIdeal.τ).loc Cert.InGradBRefIdeal.main_arg0) = m ((c.tc : Thread Cert.InGradBIdeal.nD Cert.InGradBIdeal.τ).loc Cert.InGradBIdeal.main_arg0)
      ∧ m' ((c.tc : Thread Cert.InGradBRefIdeal.nD Cert.InGradBRefIdeal.τ).loc Cert.InGradBRefIdeal.main_arg1) = m ((c.tc : Thread Cert.InGradBIdeal.nD Cert.InGradBIdeal.τ).loc Cert.InGradBIdeal.main_arg1)) →
    ∃ (v0 : (c : Dev Cert.InGradBIdeal.nD) → Buf (Elt Ideal) ((c.tc : Thread Cert.InGradBIdeal.nD Cert.InGradBIdeal.τ).loc Cert.InGradBIdeal.main_v0)),
      θ_run (Cert.InGradBIdeal.defs (F := Ideal)) (onTc (τ := Cert.InGradBIdeal.τ) (Cert.InGradBIdeal.main (F := Ideal))) ⟨m, fun _ => 0, g⟩ (fun r => ∀ c : Dev Cert.InGradBIdeal.nD,
          r.2.mem ((c.tc : Thread Cert.InGradBIdeal.nD Cert.InGradBIdeal.τ).loc Cert.InGradBIdeal.main_v0) = v0 c
          ∧ r.2.mem ((c.tc : Thread Cert.InGradBIdeal.nD Cert.InGradBIdeal.τ).loc Cert.InGradBIdeal.main_arg0) = m ((c.tc : Thread Cert.InGradBIdeal.nD Cert.InGradBIdeal.τ).loc Cert.InGradBIdeal.main_arg0)
          ∧ r.2.mem ((c.tc : Thread Cert.InGradBIdeal.nD Cert.InGradBIdeal.τ).loc Cert.InGradBIdeal.main_arg1) = m ((c.tc : Thread Cert.InGradBIdeal.nD Cert.InGradBIdeal.τ).loc Cert.InGradBIdeal.main_arg1))
      ∧ θ_run (Cert.InGradBRefIdeal.defs (F := Ideal)) (onTc (τ := Cert.InGradBRefIdeal.τ) (Cert.InGradBRefIdeal.main (F := Ideal))) ⟨m', fun _ => 0, g'⟩ (fun r => ∀ c : Dev Cert.InGradBRefIdeal.nD,
          r.2.mem ((c.tc : Thread Cert.InGradBRefIdeal.nD Cert.InGradBRefIdeal.τ).loc Cert.InGradBRefIdeal.main_v7) = v0 c
          ∧ r.2.mem ((c.tc : Thread Cert.InGradBRefIdeal.nD Cert.InGradBRefIdeal.τ).loc Cert.InGradBRefIdeal.main_arg0) = m' ((c.tc : Thread Cert.InGradBRefIdeal.nD Cert.InGradBRefIdeal.τ).loc Cert.InGradBRefIdeal.main_arg0)
          ∧ r.2.mem ((c.tc : Thread Cert.InGradBRefIdeal.nD Cert.InGradBRefIdeal.τ).loc Cert.InGradBRefIdeal.main_arg1) = m' ((c.tc : Thread Cert.InGradBRefIdeal.nD Cert.InGradBRefIdeal.τ).loc Cert.InGradBRefIdeal.main_arg1))

def preserves_InBack_InBackIdeal : Prop :=
  True

def algebraic_InBackIdeal_InBackRefIdeal [hInBackIdeal : Cert.InBackIdeal.Facts] [hInBackRefIdeal : Cert.InBackRefIdeal.Facts] : Prop :=
  ∀ (m : (ℓ : Loc Cert.InBackIdeal.nD Cert.InBackIdeal.τ Cert.InBackIdeal.sig) → Buf (Elt Ideal) ℓ) (g : Dev Cert.InBackIdeal.nD → PrngReg)
    (m' : (ℓ : Loc Cert.InBackRefIdeal.nD Cert.InBackRefIdeal.τ Cert.InBackRefIdeal.sig) → Buf (Elt Ideal) ℓ) (g' : Dev Cert.InBackRefIdeal.nD → PrngReg), Pre_InBackIdeal m →
    (∀ c : Dev Cert.InBackIdeal.nD,
      m' ((c.tc : Thread Cert.InBackRefIdeal.nD Cert.InBackRefIdeal.τ).loc Cert.InBackRefIdeal.main_arg0) = m ((c.tc : Thread Cert.InBackIdeal.nD Cert.InBackIdeal.τ).loc Cert.InBackIdeal.main_arg0)
      ∧ m' ((c.tc : Thread Cert.InBackRefIdeal.nD Cert.InBackRefIdeal.τ).loc Cert.InBackRefIdeal.main_arg1) = m ((c.tc : Thread Cert.InBackIdeal.nD Cert.InBackIdeal.τ).loc Cert.InBackIdeal.main_arg1)) →
    ∃ (v0 : (c : Dev Cert.InBackIdeal.nD) → Buf (Elt Ideal) ((c.tc : Thread Cert.InBackIdeal.nD Cert.InBackIdeal.τ).loc Cert.InBackIdeal.main_v0)),
      θ_run (Cert.InBackIdeal.defs (F := Ideal)) (onTc (τ := Cert.InBackIdeal.τ) (Cert.InBackIdeal.main (F := Ideal))) ⟨m, fun _ => 0, g⟩ (fun r => ∀ c : Dev Cert.InBackIdeal.nD,
          r.2.mem ((c.tc : Thread Cert.InBackIdeal.nD Cert.InBackIdeal.τ).loc Cert.InBackIdeal.main_v0) = v0 c
          ∧ r.2.mem ((c.tc : Thread Cert.InBackIdeal.nD Cert.InBackIdeal.τ).loc Cert.InBackIdeal.main_arg0) = m ((c.tc : Thread Cert.InBackIdeal.nD Cert.InBackIdeal.τ).loc Cert.InBackIdeal.main_arg0)
          ∧ r.2.mem ((c.tc : Thread Cert.InBackIdeal.nD Cert.InBackIdeal.τ).loc Cert.InBackIdeal.main_arg1) = m ((c.tc : Thread Cert.InBackIdeal.nD Cert.InBackIdeal.τ).loc Cert.InBackIdeal.main_arg1))
      ∧ θ_run (Cert.InBackRefIdeal.defs (F := Ideal)) (onTc (τ := Cert.InBackRefIdeal.τ) (Cert.InBackRefIdeal.main (F := Ideal))) ⟨m', fun _ => 0, g'⟩ (fun r => ∀ c : Dev Cert.InBackRefIdeal.nD,
          r.2.mem ((c.tc : Thread Cert.InBackRefIdeal.nD Cert.InBackRefIdeal.τ).loc Cert.InBackRefIdeal.main_v5) = v0 c
          ∧ r.2.mem ((c.tc : Thread Cert.InBackRefIdeal.nD Cert.InBackRefIdeal.τ).loc Cert.InBackRefIdeal.main_arg0) = m' ((c.tc : Thread Cert.InBackRefIdeal.nD Cert.InBackRefIdeal.τ).loc Cert.InBackRefIdeal.main_arg0)
          ∧ r.2.mem ((c.tc : Thread Cert.InBackRefIdeal.nD Cert.InBackRefIdeal.τ).loc Cert.InBackRefIdeal.main_arg1) = m' ((c.tc : Thread Cert.InBackRefIdeal.nD Cert.InBackRefIdeal.τ).loc Cert.InBackRefIdeal.main_arg1))

def preserves_FfnBack_FfnBackIdeal : Prop :=
  True

def algebraic_FfnBackIdeal_FfnBackRefIdeal [hFfnBackIdeal : Cert.FfnBackIdeal.Facts] [hFfnBackRefIdeal : Cert.FfnBackRefIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg)
    (m' : (ℓ : Loc Cert.FfnBackRefIdeal.nD Cert.FfnBackRefIdeal.τ Cert.FfnBackRefIdeal.sig) → Buf (Elt Ideal) ℓ) (g' : Dev Cert.FfnBackRefIdeal.nD → PrngReg), Pre_FfnBackIdeal m →
    (∀ c : Dev Cert.FfnBackIdeal.nD,
      m' ((c.tc : Thread Cert.FfnBackRefIdeal.nD Cert.FfnBackRefIdeal.τ).loc Cert.FfnBackRefIdeal.main_arg0) = m ((c.tc : Thread Cert.FfnBackIdeal.nD Cert.FfnBackIdeal.τ).loc Cert.FfnBackIdeal.main_arg0)
      ∧ m' ((c.tc : Thread Cert.FfnBackRefIdeal.nD Cert.FfnBackRefIdeal.τ).loc Cert.FfnBackRefIdeal.main_arg1) = m ((c.tc : Thread Cert.FfnBackIdeal.nD Cert.FfnBackIdeal.τ).loc Cert.FfnBackIdeal.main_arg1)
      ∧ m' ((c.tc : Thread Cert.FfnBackRefIdeal.nD Cert.FfnBackRefIdeal.τ).loc Cert.FfnBackRefIdeal.main_arg2) = m ((c.tc : Thread Cert.FfnBackIdeal.nD Cert.FfnBackIdeal.τ).loc Cert.FfnBackIdeal.main_arg2)
      ∧ m' ((c.tc : Thread Cert.FfnBackRefIdeal.nD Cert.FfnBackRefIdeal.τ).loc Cert.FfnBackRefIdeal.main_arg3) = m ((c.tc : Thread Cert.FfnBackIdeal.nD Cert.FfnBackIdeal.τ).loc Cert.FfnBackIdeal.main_arg3)) →
    ∃ (v0 : (c : Dev Cert.FfnBackIdeal.nD) → Buf (Elt Ideal) ((c.tc : Thread Cert.FfnBackIdeal.nD Cert.FfnBackIdeal.τ).loc Cert.FfnBackIdeal.main_v0)),
      θ_run (Cert.FfnBackIdeal.defs (F := Ideal)) (onTc (τ := Cert.FfnBackIdeal.τ) (Cert.FfnBackIdeal.main (F := Ideal))) ⟨m, fun _ => 0, g⟩ (fun r => ∀ c : Dev Cert.FfnBackIdeal.nD,
          r.2.mem ((c.tc : Thread Cert.FfnBackIdeal.nD Cert.FfnBackIdeal.τ).loc Cert.FfnBackIdeal.main_v0) = v0 c
          ∧ r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
          ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
          ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
          ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3))
      ∧ θ_run (Cert.FfnBackRefIdeal.defs (F := Ideal)) (onTc (τ := Cert.FfnBackRefIdeal.τ) (Cert.FfnBackRefIdeal.main (F := Ideal))) ⟨m', fun _ => 0, g'⟩ (fun r => ∀ c : Dev Cert.FfnBackRefIdeal.nD,
          r.2.mem ((c.tc : Thread Cert.FfnBackRefIdeal.nD Cert.FfnBackRefIdeal.τ).loc Cert.FfnBackRefIdeal.main_v12) = v0 c
          ∧ r.2.mem ((c.tc : Thread Cert.FfnBackRefIdeal.nD Cert.FfnBackRefIdeal.τ).loc Cert.FfnBackRefIdeal.main_arg0) = m' ((c.tc : Thread Cert.FfnBackRefIdeal.nD Cert.FfnBackRefIdeal.τ).loc Cert.FfnBackRefIdeal.main_arg0)
          ∧ r.2.mem ((c.tc : Thread Cert.FfnBackRefIdeal.nD Cert.FfnBackRefIdeal.τ).loc Cert.FfnBackRefIdeal.main_arg1) = m' ((c.tc : Thread Cert.FfnBackRefIdeal.nD Cert.FfnBackRefIdeal.τ).loc Cert.FfnBackRefIdeal.main_arg1)
          ∧ r.2.mem ((c.tc : Thread Cert.FfnBackRefIdeal.nD Cert.FfnBackRefIdeal.τ).loc Cert.FfnBackRefIdeal.main_arg2) = m' ((c.tc : Thread Cert.FfnBackRefIdeal.nD Cert.FfnBackRefIdeal.τ).loc Cert.FfnBackRefIdeal.main_arg2)
          ∧ r.2.mem ((c.tc : Thread Cert.FfnBackRefIdeal.nD Cert.FfnBackRefIdeal.τ).loc Cert.FfnBackRefIdeal.main_arg3) = m' ((c.tc : Thread Cert.FfnBackRefIdeal.nD Cert.FfnBackRefIdeal.τ).loc Cert.FfnBackRefIdeal.main_arg3))

def preserves_GateGrad_GateGradIdeal : Prop :=
  True

def algebraic_GateGradIdeal_GateGradRefIdeal [hGateGradIdeal : Cert.GateGradIdeal.Facts] [hGateGradRefIdeal : Cert.GateGradRefIdeal.Facts] : Prop :=
  ∀ (m : (ℓ : Loc Cert.GateGradIdeal.nD Cert.GateGradIdeal.τ Cert.GateGradIdeal.sig) → Buf (Elt Ideal) ℓ) (g : Dev Cert.GateGradIdeal.nD → PrngReg)
    (m' : (ℓ : Loc Cert.GateGradRefIdeal.nD Cert.GateGradRefIdeal.τ Cert.GateGradRefIdeal.sig) → Buf (Elt Ideal) ℓ) (g' : Dev Cert.GateGradRefIdeal.nD → PrngReg), Pre_GateGradIdeal m →
    (∀ c : Dev Cert.GateGradIdeal.nD,
      m' ((c.tc : Thread Cert.GateGradRefIdeal.nD Cert.GateGradRefIdeal.τ).loc Cert.GateGradRefIdeal.main_arg0) = m ((c.tc : Thread Cert.GateGradIdeal.nD Cert.GateGradIdeal.τ).loc Cert.GateGradIdeal.main_arg0)
      ∧ m' ((c.tc : Thread Cert.GateGradRefIdeal.nD Cert.GateGradRefIdeal.τ).loc Cert.GateGradRefIdeal.main_arg1) = m ((c.tc : Thread Cert.GateGradIdeal.nD Cert.GateGradIdeal.τ).loc Cert.GateGradIdeal.main_arg1)) →
    ∃ (v0 : (c : Dev Cert.GateGradIdeal.nD) → Buf (Elt Ideal) ((c.tc : Thread Cert.GateGradIdeal.nD Cert.GateGradIdeal.τ).loc Cert.GateGradIdeal.main_v0)),
      θ_run (Cert.GateGradIdeal.defs (F := Ideal)) (onTc (τ := Cert.GateGradIdeal.τ) (Cert.GateGradIdeal.main (F := Ideal))) ⟨m, fun _ => 0, g⟩ (fun r => ∀ c : Dev Cert.GateGradIdeal.nD,
          r.2.mem ((c.tc : Thread Cert.GateGradIdeal.nD Cert.GateGradIdeal.τ).loc Cert.GateGradIdeal.main_v0) = v0 c
          ∧ r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1))
      ∧ θ_run (Cert.GateGradRefIdeal.defs (F := Ideal)) (onTc (τ := Cert.GateGradRefIdeal.τ) (Cert.GateGradRefIdeal.main (F := Ideal))) ⟨m', fun _ => 0, g'⟩ (fun r => ∀ c : Dev Cert.GateGradRefIdeal.nD,
          r.2.mem ((c.tc : Thread Cert.GateGradRefIdeal.nD Cert.GateGradRefIdeal.τ).loc Cert.GateGradRefIdeal.main_v7) = v0 c
          ∧ r.2.mem ((c.tc : Thread Cert.GateGradRefIdeal.nD Cert.GateGradRefIdeal.τ).loc Cert.GateGradRefIdeal.main_arg0) = m' ((c.tc : Thread Cert.GateGradRefIdeal.nD Cert.GateGradRefIdeal.τ).loc Cert.GateGradRefIdeal.main_arg0)
          ∧ r.2.mem ((c.tc : Thread Cert.GateGradRefIdeal.nD Cert.GateGradRefIdeal.τ).loc Cert.GateGradRefIdeal.main_arg1) = m' ((c.tc : Thread Cert.GateGradRefIdeal.nD Cert.GateGradRefIdeal.τ).loc Cert.GateGradRefIdeal.main_arg1))

def preserves_UpGrad_UpGradIdeal : Prop :=
  True

def algebraic_UpGradIdeal_UpGradRefIdeal [hUpGradIdeal : Cert.UpGradIdeal.Facts] [hUpGradRefIdeal : Cert.UpGradRefIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradRefIdeal.nD Cert.UpGradRefIdeal.τ Cert.UpGradRefIdeal.sig) → Buf (Elt Ideal) ℓ) (g' : Dev Cert.UpGradRefIdeal.nD → PrngReg), Pre_UpGradIdeal m →
    (∀ c : Dev Cert.UpGradIdeal.nD,
      m' ((c.tc : Thread Cert.UpGradRefIdeal.nD Cert.UpGradRefIdeal.τ).loc Cert.UpGradRefIdeal.main_arg0) = m ((c.tc : Thread Cert.UpGradIdeal.nD Cert.UpGradIdeal.τ).loc Cert.UpGradIdeal.main_arg0)
      ∧ m' ((c.tc : Thread Cert.UpGradRefIdeal.nD Cert.UpGradRefIdeal.τ).loc Cert.UpGradRefIdeal.main_arg1) = m ((c.tc : Thread Cert.UpGradIdeal.nD Cert.UpGradIdeal.τ).loc Cert.UpGradIdeal.main_arg1)) →
    ∃ (v0 : (c : Dev Cert.UpGradIdeal.nD) → Buf (Elt Ideal) ((c.tc : Thread Cert.UpGradIdeal.nD Cert.UpGradIdeal.τ).loc Cert.UpGradIdeal.main_v0)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ θ_run (Cert.UpGradRefIdeal.defs (F := Ideal)) (onTc (τ := Cert.UpGradRefIdeal.τ) (Cert.UpGradRefIdeal.main (F := Ideal))) ⟨m', fun _ => 0, g'⟩ (fun r => ∀ c : Dev Cert.UpGradRefIdeal.nD,
          r.2.mem ((c.tc : Thread Cert.UpGradRefIdeal.nD Cert.UpGradRefIdeal.τ).loc Cert.UpGradRefIdeal.main_v7) = v0 c
          ∧ r.2.mem ((c.tc : Thread Cert.UpGradRefIdeal.nD Cert.UpGradRefIdeal.τ).loc Cert.UpGradRefIdeal.main_arg0) = m' ((c.tc : Thread Cert.UpGradRefIdeal.nD Cert.UpGradRefIdeal.τ).loc Cert.UpGradRefIdeal.main_arg0)
          ∧ r.2.mem ((c.tc : Thread Cert.UpGradRefIdeal.nD Cert.UpGradRefIdeal.τ).loc Cert.UpGradRefIdeal.main_arg1) = m' ((c.tc : Thread Cert.UpGradRefIdeal.nD Cert.UpGradRefIdeal.τ).loc Cert.UpGradRefIdeal.main_arg1))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v6) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1))

def preserves_ActBack_ActBackIdeal : Prop :=
  True

def algebraic_ActBackIdeal_ActBackRefIdeal_pre_finite_factors [hActBackIdeal : Cert.ActBackIdeal.Facts] [hActBackRefIdeal : Cert.ActBackRefIdeal.Facts] [hPre_finite_factors : Cert.Pre_finite_factors.Facts] : Prop :=
  ∀ (m : (ℓ : Loc Cert.ActBackIdeal.nD Cert.ActBackIdeal.τ Cert.ActBackIdeal.sig) → Buf (Elt Ideal) ℓ) (g : Dev Cert.ActBackIdeal.nD → PrngReg)
    (m' : (ℓ : Loc Cert.ActBackRefIdeal.nD Cert.ActBackRefIdeal.τ Cert.ActBackRefIdeal.sig) → Buf (Elt Ideal) ℓ) (g' : Dev Cert.ActBackRefIdeal.nD → PrngReg), Pre_ActBackIdeal_finite_factors m →
    (∀ c : Dev Cert.ActBackIdeal.nD,
      m' ((c.tc : Thread Cert.ActBackRefIdeal.nD Cert.ActBackRefIdeal.τ).loc Cert.ActBackRefIdeal.main_arg0) = m ((c.tc : Thread Cert.ActBackIdeal.nD Cert.ActBackIdeal.τ).loc Cert.ActBackIdeal.main_arg0)
      ∧ m' ((c.tc : Thread Cert.ActBackRefIdeal.nD Cert.ActBackRefIdeal.τ).loc Cert.ActBackRefIdeal.main_arg1) = m ((c.tc : Thread Cert.ActBackIdeal.nD Cert.ActBackIdeal.τ).loc Cert.ActBackIdeal.main_arg1)
      ∧ m' ((c.tc : Thread Cert.ActBackRefIdeal.nD Cert.ActBackRefIdeal.τ).loc Cert.ActBackRefIdeal.main_arg2) = m ((c.tc : Thread Cert.ActBackIdeal.nD Cert.ActBackIdeal.τ).loc Cert.ActBackIdeal.main_arg2)
      ∧ m' ((c.tc : Thread Cert.ActBackRefIdeal.nD Cert.ActBackRefIdeal.τ).loc Cert.ActBackRefIdeal.main_arg3) = m ((c.tc : Thread Cert.ActBackIdeal.nD Cert.ActBackIdeal.τ).loc Cert.ActBackIdeal.main_arg3)) →
    ∃ (v0 : (c : Dev Cert.ActBackIdeal.nD) → Buf (Elt Ideal) ((c.tc : Thread Cert.ActBackIdeal.nD Cert.ActBackIdeal.τ).loc Cert.ActBackIdeal.main_v0_0)) (v1 : (c : Dev Cert.ActBackIdeal.nD) → Buf (Elt Ideal) ((c.tc : Thread Cert.ActBackIdeal.nD Cert.ActBackIdeal.τ).loc Cert.ActBackIdeal.main_v0_1)),
      θ_run (Cert.ActBackIdeal.defs (F := Ideal)) (onTc (τ := Cert.ActBackIdeal.τ) (Cert.ActBackIdeal.main (F := Ideal))) ⟨m, fun _ => 0, g⟩ (fun r => ∀ c : Dev Cert.ActBackIdeal.nD,
          r.2.mem ((c.tc : Thread Cert.ActBackIdeal.nD Cert.ActBackIdeal.τ).loc Cert.ActBackIdeal.main_v0_0) = v0 c
          ∧ r.2.mem ((c.tc : Thread Cert.ActBackIdeal.nD Cert.ActBackIdeal.τ).loc Cert.ActBackIdeal.main_v0_1) = v1 c
          ∧ r.2.mem ((c.tc : Thread Cert.ActBackIdeal.nD Cert.ActBackIdeal.τ).loc Cert.ActBackIdeal.main_arg0) = m ((c.tc : Thread Cert.ActBackIdeal.nD Cert.ActBackIdeal.τ).loc Cert.ActBackIdeal.main_arg0)
          ∧ r.2.mem ((c.tc : Thread Cert.ActBackIdeal.nD Cert.ActBackIdeal.τ).loc Cert.ActBackIdeal.main_arg1) = m ((c.tc : Thread Cert.ActBackIdeal.nD Cert.ActBackIdeal.τ).loc Cert.ActBackIdeal.main_arg1)
          ∧ r.2.mem ((c.tc : Thread Cert.ActBackIdeal.nD Cert.ActBackIdeal.τ).loc Cert.ActBackIdeal.main_arg2) = m ((c.tc : Thread Cert.ActBackIdeal.nD Cert.ActBackIdeal.τ).loc Cert.ActBackIdeal.main_arg2)
          ∧ r.2.mem ((c.tc : Thread Cert.ActBackIdeal.nD Cert.ActBackIdeal.τ).loc Cert.ActBackIdeal.main_arg3) = m ((c.tc : Thread Cert.ActBackIdeal.nD Cert.ActBackIdeal.τ).loc Cert.ActBackIdeal.main_arg3))
      ∧ θ_run (Cert.ActBackRefIdeal.defs (F := Ideal)) (onTc (τ := Cert.ActBackRefIdeal.τ) (Cert.ActBackRefIdeal.main (F := Ideal))) ⟨m', fun _ => 0, g'⟩ (fun r => ∀ c : Dev Cert.ActBackRefIdeal.nD,
          r.2.mem ((c.tc : Thread Cert.ActBackRefIdeal.nD Cert.ActBackRefIdeal.τ).loc Cert.ActBackRefIdeal.main_v11) = v0 c
          ∧ r.2.mem ((c.tc : Thread Cert.ActBackRefIdeal.nD Cert.ActBackRefIdeal.τ).loc Cert.ActBackRefIdeal.main_v12) = v1 c
          ∧ r.2.mem ((c.tc : Thread Cert.ActBackRefIdeal.nD Cert.ActBackRefIdeal.τ).loc Cert.ActBackRefIdeal.main_arg0) = m' ((c.tc : Thread Cert.ActBackRefIdeal.nD Cert.ActBackRefIdeal.τ).loc Cert.ActBackRefIdeal.main_arg0)
          ∧ r.2.mem ((c.tc : Thread Cert.ActBackRefIdeal.nD Cert.ActBackRefIdeal.τ).loc Cert.ActBackRefIdeal.main_arg1) = m' ((c.tc : Thread Cert.ActBackRefIdeal.nD Cert.ActBackRefIdeal.τ).loc Cert.ActBackRefIdeal.main_arg1)
          ∧ r.2.mem ((c.tc : Thread Cert.ActBackRefIdeal.nD Cert.ActBackRefIdeal.τ).loc Cert.ActBackRefIdeal.main_arg2) = m' ((c.tc : Thread Cert.ActBackRefIdeal.nD Cert.ActBackRefIdeal.τ).loc Cert.ActBackRefIdeal.main_arg2)
          ∧ r.2.mem ((c.tc : Thread Cert.ActBackRefIdeal.nD Cert.ActBackRefIdeal.τ).loc Cert.ActBackRefIdeal.main_arg3) = m' ((c.tc : Thread Cert.ActBackRefIdeal.nD Cert.ActBackRefIdeal.τ).loc Cert.ActBackRefIdeal.main_arg3))

def preserves_OutBack_OutBackIdeal : Prop :=
  True

def algebraic_OutBackIdeal_OutBackRefIdeal [hOutBackIdeal : Cert.OutBackIdeal.Facts] [hOutBackRefIdeal : Cert.OutBackRefIdeal.Facts] : Prop :=
  ∀ (m : (ℓ : Loc Cert.OutBackIdeal.nD Cert.OutBackIdeal.τ Cert.OutBackIdeal.sig) → Buf (Elt Ideal) ℓ) (g : Dev Cert.OutBackIdeal.nD → PrngReg)
    (m' : (ℓ : Loc Cert.OutBackRefIdeal.nD Cert.OutBackRefIdeal.τ Cert.OutBackRefIdeal.sig) → Buf (Elt Ideal) ℓ) (g' : Dev Cert.OutBackRefIdeal.nD → PrngReg), Pre_OutBackIdeal m →
    (∀ c : Dev Cert.OutBackIdeal.nD,
      m' ((c.tc : Thread Cert.OutBackRefIdeal.nD Cert.OutBackRefIdeal.τ).loc Cert.OutBackRefIdeal.main_arg0) = m ((c.tc : Thread Cert.OutBackIdeal.nD Cert.OutBackIdeal.τ).loc Cert.OutBackIdeal.main_arg0)
      ∧ m' ((c.tc : Thread Cert.OutBackRefIdeal.nD Cert.OutBackRefIdeal.τ).loc Cert.OutBackRefIdeal.main_arg1) = m ((c.tc : Thread Cert.OutBackIdeal.nD Cert.OutBackIdeal.τ).loc Cert.OutBackIdeal.main_arg1)) →
    ∃ (v0 : (c : Dev Cert.OutBackIdeal.nD) → Buf (Elt Ideal) ((c.tc : Thread Cert.OutBackIdeal.nD Cert.OutBackIdeal.τ).loc Cert.OutBackIdeal.main_v0)),
      θ_run (Cert.OutBackIdeal.defs (F := Ideal)) (onTc (τ := Cert.OutBackIdeal.τ) (Cert.OutBackIdeal.main (F := Ideal))) ⟨m, fun _ => 0, g⟩ (fun r => ∀ c : Dev Cert.OutBackIdeal.nD,
          r.2.mem ((c.tc : Thread Cert.OutBackIdeal.nD Cert.OutBackIdeal.τ).loc Cert.OutBackIdeal.main_v0) = v0 c
          ∧ r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
          ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1))
      ∧ θ_run (Cert.OutBackRefIdeal.defs (F := Ideal)) (onTc (τ := Cert.OutBackRefIdeal.τ) (Cert.OutBackRefIdeal.main (F := Ideal))) ⟨m', fun _ => 0, g'⟩ (fun r => ∀ c : Dev Cert.OutBackRefIdeal.nD,
          r.2.mem ((c.tc : Thread Cert.OutBackRefIdeal.nD Cert.OutBackRefIdeal.τ).loc Cert.OutBackRefIdeal.main_v5) = v0 c
          ∧ r.2.mem ((c.tc : Thread Cert.OutBackRefIdeal.nD Cert.OutBackRefIdeal.τ).loc Cert.OutBackRefIdeal.main_arg0) = m' ((c.tc : Thread Cert.OutBackRefIdeal.nD Cert.OutBackRefIdeal.τ).loc Cert.OutBackRefIdeal.main_arg0)
          ∧ r.2.mem ((c.tc : Thread Cert.OutBackRefIdeal.nD Cert.OutBackRefIdeal.τ).loc Cert.OutBackRefIdeal.main_arg1) = m' ((c.tc : Thread Cert.OutBackRefIdeal.nD Cert.OutBackRefIdeal.τ).loc Cert.OutBackRefIdeal.main_arg1))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v6) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def preserves_HgGrad_HgGradIdeal : Prop :=
  True

def algebraic_HgGradIdeal_HgGradRefIdeal [hHgGradIdeal : Cert.HgGradIdeal.Facts] [hHgGradRefIdeal : Cert.HgGradRefIdeal.Facts] : Prop :=
  ∀ (m : (ℓ : Loc Cert.HgGradIdeal.nD Cert.HgGradIdeal.τ Cert.HgGradIdeal.sig) → Buf (Elt Ideal) ℓ) (g : Dev Cert.HgGradIdeal.nD → PrngReg)
    (m' : (ℓ : Loc Cert.HgGradRefIdeal.nD Cert.HgGradRefIdeal.τ Cert.HgGradRefIdeal.sig) → Buf (Elt Ideal) ℓ) (g' : Dev Cert.HgGradRefIdeal.nD → PrngReg), Pre_HgGradIdeal m →
    (∀ c : Dev Cert.HgGradIdeal.nD,
      m' ((c.tc : Thread Cert.HgGradRefIdeal.nD Cert.HgGradRefIdeal.τ).loc Cert.HgGradRefIdeal.main_arg0) = m ((c.tc : Thread Cert.HgGradIdeal.nD Cert.HgGradIdeal.τ).loc Cert.HgGradIdeal.main_arg0)
      ∧ m' ((c.tc : Thread Cert.HgGradRefIdeal.nD Cert.HgGradRefIdeal.τ).loc Cert.HgGradRefIdeal.main_arg1) = m ((c.tc : Thread Cert.HgGradIdeal.nD Cert.HgGradIdeal.τ).loc Cert.HgGradIdeal.main_arg1)) →
    ∃ (v0 : (c : Dev Cert.HgGradIdeal.nD) → Buf (Elt Ideal) ((c.tc : Thread Cert.HgGradIdeal.nD Cert.HgGradIdeal.τ).loc Cert.HgGradIdeal.main_v0)),
      θ_run (Cert.HgGradIdeal.defs (F := Ideal)) (onTc (τ := Cert.HgGradIdeal.τ) (Cert.HgGradIdeal.main (F := Ideal))) ⟨m, fun _ => 0, g⟩ (fun r => ∀ c : Dev Cert.HgGradIdeal.nD,
          r.2.mem ((c.tc : Thread Cert.HgGradIdeal.nD Cert.HgGradIdeal.τ).loc Cert.HgGradIdeal.main_v0) = v0 c
          ∧ r.2.mem ((c.tc : Thread Cert.HgGradIdeal.nD Cert.HgGradIdeal.τ).loc Cert.HgGradIdeal.main_arg0) = m ((c.tc : Thread Cert.HgGradIdeal.nD Cert.HgGradIdeal.τ).loc Cert.HgGradIdeal.main_arg0)
          ∧ r.2.mem ((c.tc : Thread Cert.HgGradIdeal.nD Cert.HgGradIdeal.τ).loc Cert.HgGradIdeal.main_arg1) = m ((c.tc : Thread Cert.HgGradIdeal.nD Cert.HgGradIdeal.τ).loc Cert.HgGradIdeal.main_arg1))
      ∧ θ_run (Cert.HgGradRefIdeal.defs (F := Ideal)) (onTc (τ := Cert.HgGradRefIdeal.τ) (Cert.HgGradRefIdeal.main (F := Ideal))) ⟨m', fun _ => 0, g'⟩ (fun r => ∀ c : Dev Cert.HgGradRefIdeal.nD,
          r.2.mem ((c.tc : Thread Cert.HgGradRefIdeal.nD Cert.HgGradRefIdeal.τ).loc Cert.HgGradRefIdeal.main_v7) = v0 c
          ∧ r.2.mem ((c.tc : Thread Cert.HgGradRefIdeal.nD Cert.HgGradRefIdeal.τ).loc Cert.HgGradRefIdeal.main_arg0) = m' ((c.tc : Thread Cert.HgGradRefIdeal.nD Cert.HgGradRefIdeal.τ).loc Cert.HgGradRefIdeal.main_arg0)
          ∧ r.2.mem ((c.tc : Thread Cert.HgGradRefIdeal.nD Cert.HgGradRefIdeal.τ).loc Cert.HgGradRefIdeal.main_arg1) = m' ((c.tc : Thread Cert.HgGradRefIdeal.nD Cert.HgGradRefIdeal.τ).loc Cert.HgGradRefIdeal.main_arg1))

def preserves_GlaGrad_GlaGradIdeal : Prop :=
  True

def algebraic_GlaGradIdeal_GlaGradRefIdeal [hGlaGradIdeal : Cert.GlaGradIdeal.Facts] [hGlaGradRefIdeal : Cert.GlaGradRefIdeal.Facts] : Prop :=
  ∀ (m : (ℓ : Loc Cert.GlaGradIdeal.nD Cert.GlaGradIdeal.τ Cert.GlaGradIdeal.sig) → Buf (Elt Ideal) ℓ) (g : Dev Cert.GlaGradIdeal.nD → PrngReg)
    (m' : (ℓ : Loc Cert.GlaGradRefIdeal.nD Cert.GlaGradRefIdeal.τ Cert.GlaGradRefIdeal.sig) → Buf (Elt Ideal) ℓ) (g' : Dev Cert.GlaGradRefIdeal.nD → PrngReg), Pre_GlaGradIdeal m →
    (∀ c : Dev Cert.GlaGradIdeal.nD,
      m' ((c.tc : Thread Cert.GlaGradRefIdeal.nD Cert.GlaGradRefIdeal.τ).loc Cert.GlaGradRefIdeal.main_arg0) = m ((c.tc : Thread Cert.GlaGradIdeal.nD Cert.GlaGradIdeal.τ).loc Cert.GlaGradIdeal.main_arg0)
      ∧ m' ((c.tc : Thread Cert.GlaGradRefIdeal.nD Cert.GlaGradRefIdeal.τ).loc Cert.GlaGradRefIdeal.main_arg1) = m ((c.tc : Thread Cert.GlaGradIdeal.nD Cert.GlaGradIdeal.τ).loc Cert.GlaGradIdeal.main_arg1)) →
    ∃ (v0 : (c : Dev Cert.GlaGradIdeal.nD) → Buf (Elt Ideal) ((c.tc : Thread Cert.GlaGradIdeal.nD Cert.GlaGradIdeal.τ).loc Cert.GlaGradIdeal.main_v0)),
      θ_run (Cert.GlaGradIdeal.defs (F := Ideal)) (onTc (τ := Cert.GlaGradIdeal.τ) (Cert.GlaGradIdeal.main (F := Ideal))) ⟨m, fun _ => 0, g⟩ (fun r => ∀ c : Dev Cert.GlaGradIdeal.nD,
          r.2.mem ((c.tc : Thread Cert.GlaGradIdeal.nD Cert.GlaGradIdeal.τ).loc Cert.GlaGradIdeal.main_v0) = v0 c
          ∧ r.2.mem ((c.tc : Thread Cert.GlaGradIdeal.nD Cert.GlaGradIdeal.τ).loc Cert.GlaGradIdeal.main_arg0) = m ((c.tc : Thread Cert.GlaGradIdeal.nD Cert.GlaGradIdeal.τ).loc Cert.GlaGradIdeal.main_arg0)
          ∧ r.2.mem ((c.tc : Thread Cert.GlaGradIdeal.nD Cert.GlaGradIdeal.τ).loc Cert.GlaGradIdeal.main_arg1) = m ((c.tc : Thread Cert.GlaGradIdeal.nD Cert.GlaGradIdeal.τ).loc Cert.GlaGradIdeal.main_arg1))
      ∧ θ_run (Cert.GlaGradRefIdeal.defs (F := Ideal)) (onTc (τ := Cert.GlaGradRefIdeal.τ) (Cert.GlaGradRefIdeal.main (F := Ideal))) ⟨m', fun _ => 0, g'⟩ (fun r => ∀ c : Dev Cert.GlaGradRefIdeal.nD,
          r.2.mem ((c.tc : Thread Cert.GlaGradRefIdeal.nD Cert.GlaGradRefIdeal.τ).loc Cert.GlaGradRefIdeal.main_v7) = v0 c
          ∧ r.2.mem ((c.tc : Thread Cert.GlaGradRefIdeal.nD Cert.GlaGradRefIdeal.τ).loc Cert.GlaGradRefIdeal.main_arg0) = m' ((c.tc : Thread Cert.GlaGradRefIdeal.nD Cert.GlaGradRefIdeal.τ).loc Cert.GlaGradRefIdeal.main_arg0)
          ∧ r.2.mem ((c.tc : Thread Cert.GlaGradRefIdeal.nD Cert.GlaGradRefIdeal.τ).loc Cert.GlaGradRefIdeal.main_arg1) = m' ((c.tc : Thread Cert.GlaGradRefIdeal.nD Cert.GlaGradRefIdeal.τ).loc Cert.GlaGradRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v3) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v3) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)) →
    ∃ (v0 : (c : Dev Cert.FfnFwdIdeal.nD) → Buf (Elt Ideal) ((c.tc : Thread Cert.FfnFwdIdeal.nD Cert.FfnFwdIdeal.τ).loc Cert.FfnFwdIdeal.main_v0_0)) (v1 : (c : Dev Cert.FfnFwdIdeal.nD) → Buf (Elt Ideal) ((c.tc : Thread Cert.FfnFwdIdeal.nD Cert.FfnFwdIdeal.τ).loc Cert.FfnFwdIdeal.main_v0_1)) (v2 : (c : Dev Cert.FfnFwdIdeal.nD) → Buf (Elt Ideal) ((c.tc : Thread Cert.FfnFwdIdeal.nD Cert.FfnFwdIdeal.τ).loc Cert.FfnFwdIdeal.main_v0_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0_0) = v0 c
          ∧ r.2.mem ((c.tc : Thread Cert.FfnFwdIdeal.nD Cert.FfnFwdIdeal.τ).loc Cert.FfnFwdIdeal.main_v0_1) = v1 c
          ∧ r.2.mem ((c.tc : Thread Cert.FfnFwdIdeal.nD Cert.FfnFwdIdeal.τ).loc Cert.FfnFwdIdeal.main_v0_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v9) = v0 c
          ∧ r.2.mem ((c.tc : Thread Cert.FfnFwdRefIdeal.nD Cert.FfnFwdRefIdeal.τ).loc Cert.FfnFwdRefIdeal.main_v10) = v1 c
          ∧ r.2.mem ((c.tc : Thread Cert.FfnFwdRefIdeal.nD Cert.FfnFwdRefIdeal.τ).loc Cert.FfnFwdRefIdeal.main_v11) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v3) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1))

def preserves_BranchBack_BranchBackIdeal : Prop :=
  True

def algebraic_BranchBackIdeal_BranchBackRefIdeal [hBranchBackIdeal : Cert.BranchBackIdeal.Facts] [hBranchBackRefIdeal : Cert.BranchBackRefIdeal.Facts] : Prop :=
  ∀ (m : (ℓ : Loc Cert.BranchBackIdeal.nD Cert.BranchBackIdeal.τ Cert.BranchBackIdeal.sig) → Buf (Elt Ideal) ℓ) (g : Dev Cert.BranchBackIdeal.nD → PrngReg)
    (m' : (ℓ : Loc Cert.BranchBackRefIdeal.nD Cert.BranchBackRefIdeal.τ Cert.BranchBackRefIdeal.sig) → Buf (Elt Ideal) ℓ) (g' : Dev Cert.BranchBackRefIdeal.nD → PrngReg), Pre_BranchBackIdeal m →
    (∀ c : Dev Cert.BranchBackIdeal.nD,
      m' ((c.tc : Thread Cert.BranchBackRefIdeal.nD Cert.BranchBackRefIdeal.τ).loc Cert.BranchBackRefIdeal.main_arg0) = m ((c.tc : Thread Cert.BranchBackIdeal.nD Cert.BranchBackIdeal.τ).loc Cert.BranchBackIdeal.main_arg0)
      ∧ m' ((c.tc : Thread Cert.BranchBackRefIdeal.nD Cert.BranchBackRefIdeal.τ).loc Cert.BranchBackRefIdeal.main_arg1) = m ((c.tc : Thread Cert.BranchBackIdeal.nD Cert.BranchBackIdeal.τ).loc Cert.BranchBackIdeal.main_arg1)
      ∧ m' ((c.tc : Thread Cert.BranchBackRefIdeal.nD Cert.BranchBackRefIdeal.τ).loc Cert.BranchBackRefIdeal.main_arg2) = m ((c.tc : Thread Cert.BranchBackIdeal.nD Cert.BranchBackIdeal.τ).loc Cert.BranchBackIdeal.main_arg2)
      ∧ m' ((c.tc : Thread Cert.BranchBackRefIdeal.nD Cert.BranchBackRefIdeal.τ).loc Cert.BranchBackRefIdeal.main_arg3) = m ((c.tc : Thread Cert.BranchBackIdeal.nD Cert.BranchBackIdeal.τ).loc Cert.BranchBackIdeal.main_arg3)
      ∧ m' ((c.tc : Thread Cert.BranchBackRefIdeal.nD Cert.BranchBackRefIdeal.τ).loc Cert.BranchBackRefIdeal.main_arg4) = m ((c.tc : Thread Cert.BranchBackIdeal.nD Cert.BranchBackIdeal.τ).loc Cert.BranchBackIdeal.main_arg4)
      ∧ m' ((c.tc : Thread Cert.BranchBackRefIdeal.nD Cert.BranchBackRefIdeal.τ).loc Cert.BranchBackRefIdeal.main_arg5) = m ((c.tc : Thread Cert.BranchBackIdeal.nD Cert.BranchBackIdeal.τ).loc Cert.BranchBackIdeal.main_arg5)) →
    ∃ (v0 : (c : Dev Cert.BranchBackIdeal.nD) → Buf (Elt Ideal) ((c.tc : Thread Cert.BranchBackIdeal.nD Cert.BranchBackIdeal.τ).loc Cert.BranchBackIdeal.main_v0_0)) (v1 : (c : Dev Cert.BranchBackIdeal.nD) → Buf (Elt Ideal) ((c.tc : Thread Cert.BranchBackIdeal.nD Cert.BranchBackIdeal.τ).loc Cert.BranchBackIdeal.main_v0_1)) (v2 : (c : Dev Cert.BranchBackIdeal.nD) → Buf (Elt Ideal) ((c.tc : Thread Cert.BranchBackIdeal.nD Cert.BranchBackIdeal.τ).loc Cert.BranchBackIdeal.main_v0_2)) (v3 : (c : Dev Cert.BranchBackIdeal.nD) → Buf (Elt Ideal) ((c.tc : Thread Cert.BranchBackIdeal.nD Cert.BranchBackIdeal.τ).loc Cert.BranchBackIdeal.main_v0_3)) (v4 : (c : Dev Cert.BranchBackIdeal.nD) → Buf (Elt Ideal) ((c.tc : Thread Cert.BranchBackIdeal.nD Cert.BranchBackIdeal.τ).loc Cert.BranchBackIdeal.main_v0_4)),
      θ_run (Cert.BranchBackIdeal.defs (F := Ideal)) (onTc (τ := Cert.BranchBackIdeal.τ) (Cert.BranchBackIdeal.main (F := Ideal))) ⟨m, fun _ => 0, g⟩ (fun r => ∀ c : Dev Cert.BranchBackIdeal.nD,
          r.2.mem ((c.tc : Thread Cert.BranchBackIdeal.nD Cert.BranchBackIdeal.τ).loc Cert.BranchBackIdeal.main_v0_0) = v0 c
          ∧ r.2.mem ((c.tc : Thread Cert.BranchBackIdeal.nD Cert.BranchBackIdeal.τ).loc Cert.BranchBackIdeal.main_v0_1) = v1 c
          ∧ r.2.mem ((c.tc : Thread Cert.BranchBackIdeal.nD Cert.BranchBackIdeal.τ).loc Cert.BranchBackIdeal.main_v0_2) = v2 c
          ∧ r.2.mem ((c.tc : Thread Cert.BranchBackIdeal.nD Cert.BranchBackIdeal.τ).loc Cert.BranchBackIdeal.main_v0_3) = v3 c
          ∧ r.2.mem ((c.tc : Thread Cert.BranchBackIdeal.nD Cert.BranchBackIdeal.τ).loc Cert.BranchBackIdeal.main_v0_4) = v4 c
          ∧ r.2.mem ((c.tc : Thread Cert.BranchBackIdeal.nD Cert.BranchBackIdeal.τ).loc Cert.BranchBackIdeal.main_arg0) = m ((c.tc : Thread Cert.BranchBackIdeal.nD Cert.BranchBackIdeal.τ).loc Cert.BranchBackIdeal.main_arg0)
          ∧ r.2.mem ((c.tc : Thread Cert.BranchBackIdeal.nD Cert.BranchBackIdeal.τ).loc Cert.BranchBackIdeal.main_arg1) = m ((c.tc : Thread Cert.BranchBackIdeal.nD Cert.BranchBackIdeal.τ).loc Cert.BranchBackIdeal.main_arg1)
          ∧ r.2.mem ((c.tc : Thread Cert.BranchBackIdeal.nD Cert.BranchBackIdeal.τ).loc Cert.BranchBackIdeal.main_arg2) = m ((c.tc : Thread Cert.BranchBackIdeal.nD Cert.BranchBackIdeal.τ).loc Cert.BranchBackIdeal.main_arg2)
          ∧ r.2.mem ((c.tc : Thread Cert.BranchBackIdeal.nD Cert.BranchBackIdeal.τ).loc Cert.BranchBackIdeal.main_arg3) = m ((c.tc : Thread Cert.BranchBackIdeal.nD Cert.BranchBackIdeal.τ).loc Cert.BranchBackIdeal.main_arg3)
          ∧ r.2.mem ((c.tc : Thread Cert.BranchBackIdeal.nD Cert.BranchBackIdeal.τ).loc Cert.BranchBackIdeal.main_arg4) = m ((c.tc : Thread Cert.BranchBackIdeal.nD Cert.BranchBackIdeal.τ).loc Cert.BranchBackIdeal.main_arg4)
          ∧ r.2.mem ((c.tc : Thread Cert.BranchBackIdeal.nD Cert.BranchBackIdeal.τ).loc Cert.BranchBackIdeal.main_arg5) = m ((c.tc : Thread Cert.BranchBackIdeal.nD Cert.BranchBackIdeal.τ).loc Cert.BranchBackIdeal.main_arg5))
      ∧ θ_run (Cert.BranchBackRefIdeal.defs (F := Ideal)) (onTc (τ := Cert.BranchBackRefIdeal.τ) (Cert.BranchBackRefIdeal.main (F := Ideal))) ⟨m', fun _ => 0, g'⟩ (fun r => ∀ c : Dev Cert.BranchBackRefIdeal.nD,
          r.2.mem ((c.tc : Thread Cert.BranchBackRefIdeal.nD Cert.BranchBackRefIdeal.τ).loc Cert.BranchBackRefIdeal.main_v41) = v0 c
          ∧ r.2.mem ((c.tc : Thread Cert.BranchBackRefIdeal.nD Cert.BranchBackRefIdeal.τ).loc Cert.BranchBackRefIdeal.main_v42) = v1 c
          ∧ r.2.mem ((c.tc : Thread Cert.BranchBackRefIdeal.nD Cert.BranchBackRefIdeal.τ).loc Cert.BranchBackRefIdeal.main_v43) = v2 c
          ∧ r.2.mem ((c.tc : Thread Cert.BranchBackRefIdeal.nD Cert.BranchBackRefIdeal.τ).loc Cert.BranchBackRefIdeal.main_v44) = v3 c
          ∧ r.2.mem ((c.tc : Thread Cert.BranchBackRefIdeal.nD Cert.BranchBackRefIdeal.τ).loc Cert.BranchBackRefIdeal.main_v45) = v4 c
          ∧ r.2.mem ((c.tc : Thread Cert.BranchBackRefIdeal.nD Cert.BranchBackRefIdeal.τ).loc Cert.BranchBackRefIdeal.main_arg0) = m' ((c.tc : Thread Cert.BranchBackRefIdeal.nD Cert.BranchBackRefIdeal.τ).loc Cert.BranchBackRefIdeal.main_arg0)
          ∧ r.2.mem ((c.tc : Thread Cert.BranchBackRefIdeal.nD Cert.BranchBackRefIdeal.τ).loc Cert.BranchBackRefIdeal.main_arg1) = m' ((c.tc : Thread Cert.BranchBackRefIdeal.nD Cert.BranchBackRefIdeal.τ).loc Cert.BranchBackRefIdeal.main_arg1)
          ∧ r.2.mem ((c.tc : Thread Cert.BranchBackRefIdeal.nD Cert.BranchBackRefIdeal.τ).loc Cert.BranchBackRefIdeal.main_arg2) = m' ((c.tc : Thread Cert.BranchBackRefIdeal.nD Cert.BranchBackRefIdeal.τ).loc Cert.BranchBackRefIdeal.main_arg2)
          ∧ r.2.mem ((c.tc : Thread Cert.BranchBackRefIdeal.nD Cert.BranchBackRefIdeal.τ).loc Cert.BranchBackRefIdeal.main_arg3) = m' ((c.tc : Thread Cert.BranchBackRefIdeal.nD Cert.BranchBackRefIdeal.τ).loc Cert.BranchBackRefIdeal.main_arg3)
          ∧ r.2.mem ((c.tc : Thread Cert.BranchBackRefIdeal.nD Cert.BranchBackRefIdeal.τ).loc Cert.BranchBackRefIdeal.main_arg4) = m' ((c.tc : Thread Cert.BranchBackRefIdeal.nD Cert.BranchBackRefIdeal.τ).loc Cert.BranchBackRefIdeal.main_arg4)
          ∧ r.2.mem ((c.tc : Thread Cert.BranchBackRefIdeal.nD Cert.BranchBackRefIdeal.τ).loc Cert.BranchBackRefIdeal.main_arg5) = m' ((c.tc : Thread Cert.BranchBackRefIdeal.nD Cert.BranchBackRefIdeal.τ).loc Cert.BranchBackRefIdeal.main_arg5))

def preserves_BranchFwd_BranchFwdIdeal : Prop :=
  True

def algebraic_BranchFwdIdeal_BranchFwdRefIdeal [hBranchFwdIdeal : Cert.BranchFwdIdeal.Facts] [hBranchFwdRefIdeal : Cert.BranchFwdRefIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg)
    (m' : (ℓ : Loc Cert.BranchFwdRefIdeal.nD Cert.BranchFwdRefIdeal.τ Cert.BranchFwdRefIdeal.sig) → Buf (Elt Ideal) ℓ) (g' : Dev Cert.BranchFwdRefIdeal.nD → PrngReg), Pre_BranchFwdIdeal m →
    (∀ c : Dev Cert.BranchFwdIdeal.nD,
      m' ((c.tc : Thread Cert.BranchFwdRefIdeal.nD Cert.BranchFwdRefIdeal.τ).loc Cert.BranchFwdRefIdeal.main_arg0) = m ((c.tc : Thread Cert.BranchFwdIdeal.nD Cert.BranchFwdIdeal.τ).loc Cert.BranchFwdIdeal.main_arg0)
      ∧ m' ((c.tc : Thread Cert.BranchFwdRefIdeal.nD Cert.BranchFwdRefIdeal.τ).loc Cert.BranchFwdRefIdeal.main_arg1) = m ((c.tc : Thread Cert.BranchFwdIdeal.nD Cert.BranchFwdIdeal.τ).loc Cert.BranchFwdIdeal.main_arg1)
      ∧ m' ((c.tc : Thread Cert.BranchFwdRefIdeal.nD Cert.BranchFwdRefIdeal.τ).loc Cert.BranchFwdRefIdeal.main_arg2) = m ((c.tc : Thread Cert.BranchFwdIdeal.nD Cert.BranchFwdIdeal.τ).loc Cert.BranchFwdIdeal.main_arg2)
      ∧ m' ((c.tc : Thread Cert.BranchFwdRefIdeal.nD Cert.BranchFwdRefIdeal.τ).loc Cert.BranchFwdRefIdeal.main_arg3) = m ((c.tc : Thread Cert.BranchFwdIdeal.nD Cert.BranchFwdIdeal.τ).loc Cert.BranchFwdIdeal.main_arg3)) →
    ∃ (v0 : (c : Dev Cert.BranchFwdIdeal.nD) → Buf (Elt Ideal) ((c.tc : Thread Cert.BranchFwdIdeal.nD Cert.BranchFwdIdeal.τ).loc Cert.BranchFwdIdeal.main_v0_0)) (v1 : (c : Dev Cert.BranchFwdIdeal.nD) → Buf (Elt Ideal) ((c.tc : Thread Cert.BranchFwdIdeal.nD Cert.BranchFwdIdeal.τ).loc Cert.BranchFwdIdeal.main_v0_1)) (v2 : (c : Dev Cert.BranchFwdIdeal.nD) → Buf (Elt Ideal) ((c.tc : Thread Cert.BranchFwdIdeal.nD Cert.BranchFwdIdeal.τ).loc Cert.BranchFwdIdeal.main_v0_2)),
      θ_run (Cert.BranchFwdIdeal.defs (F := Ideal)) (onTc (τ := Cert.BranchFwdIdeal.τ) (Cert.BranchFwdIdeal.main (F := Ideal))) ⟨m, fun _ => 0, g⟩ (fun r => ∀ c : Dev Cert.BranchFwdIdeal.nD,
          r.2.mem ((c.tc : Thread Cert.BranchFwdIdeal.nD Cert.BranchFwdIdeal.τ).loc Cert.BranchFwdIdeal.main_v0_0) = v0 c
          ∧ r.2.mem ((c.tc : Thread Cert.BranchFwdIdeal.nD Cert.BranchFwdIdeal.τ).loc Cert.BranchFwdIdeal.main_v0_1) = v1 c
          ∧ r.2.mem ((c.tc : Thread Cert.BranchFwdIdeal.nD Cert.BranchFwdIdeal.τ).loc Cert.BranchFwdIdeal.main_v0_2) = v2 c
          ∧ r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
          ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1)
          ∧ r.2.mem ((c.tc : Thread Cert.BranchFwdIdeal.nD Cert.BranchFwdIdeal.τ).loc Cert.BranchFwdIdeal.main_arg2) = m ((c.tc : Thread Cert.BranchFwdIdeal.nD Cert.BranchFwdIdeal.τ).loc Cert.BranchFwdIdeal.main_arg2)
          ∧ r.2.mem ((c.tc : Thread Cert.BranchFwdIdeal.nD Cert.BranchFwdIdeal.τ).loc Cert.BranchFwdIdeal.main_arg3) = m ((c.tc : Thread Cert.BranchFwdIdeal.nD Cert.BranchFwdIdeal.τ).loc Cert.BranchFwdIdeal.main_arg3))
      ∧ θ_run (Cert.BranchFwdRefIdeal.defs (F := Ideal)) (onTc (τ := Cert.BranchFwdRefIdeal.τ) (Cert.BranchFwdRefIdeal.main (F := Ideal))) ⟨m', fun _ => 0, g'⟩ (fun r => ∀ c : Dev Cert.BranchFwdRefIdeal.nD,
          r.2.mem ((c.tc : Thread Cert.BranchFwdRefIdeal.nD Cert.BranchFwdRefIdeal.τ).loc Cert.BranchFwdRefIdeal.main_v25) = v0 c
          ∧ r.2.mem ((c.tc : Thread Cert.BranchFwdRefIdeal.nD Cert.BranchFwdRefIdeal.τ).loc Cert.BranchFwdRefIdeal.main_v26) = v1 c
          ∧ r.2.mem ((c.tc : Thread Cert.BranchFwdRefIdeal.nD Cert.BranchFwdRefIdeal.τ).loc Cert.BranchFwdRefIdeal.main_v27) = v2 c
          ∧ r.2.mem ((c.tc : Thread Cert.BranchFwdRefIdeal.nD Cert.BranchFwdRefIdeal.τ).loc Cert.BranchFwdRefIdeal.main_arg0) = m' ((c.tc : Thread Cert.BranchFwdRefIdeal.nD Cert.BranchFwdRefIdeal.τ).loc Cert.BranchFwdRefIdeal.main_arg0)
          ∧ r.2.mem ((c.tc : Thread Cert.BranchFwdRefIdeal.nD Cert.BranchFwdRefIdeal.τ).loc Cert.BranchFwdRefIdeal.main_arg1) = m' ((c.tc : Thread Cert.BranchFwdRefIdeal.nD Cert.BranchFwdRefIdeal.τ).loc Cert.BranchFwdRefIdeal.main_arg1)
          ∧ r.2.mem ((c.tc : Thread Cert.BranchFwdRefIdeal.nD Cert.BranchFwdRefIdeal.τ).loc Cert.BranchFwdRefIdeal.main_arg2) = m' ((c.tc : Thread Cert.BranchFwdRefIdeal.nD Cert.BranchFwdRefIdeal.τ).loc Cert.BranchFwdRefIdeal.main_arg2)
          ∧ r.2.mem ((c.tc : Thread Cert.BranchFwdRefIdeal.nD Cert.BranchFwdRefIdeal.τ).loc Cert.BranchFwdRefIdeal.main_arg3) = m' ((c.tc : Thread Cert.BranchFwdRefIdeal.nD Cert.BranchFwdRefIdeal.τ).loc Cert.BranchFwdRefIdeal.main_arg3))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)) (v3 : (c : Dev Cert.AdamBranchIdeal.nD) → Buf (Elt Ideal) ((c.tc : Thread Cert.AdamBranchIdeal.nD Cert.AdamBranchIdeal.τ).loc Cert.AdamBranchIdeal.main_v0_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_v0_3) = v3 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v1) = v0 c
          ∧ r.2.mem ((c.tc : Thread Cert.AdamBranchRefIdeal.nD Cert.AdamBranchRefIdeal.τ).loc Cert.AdamBranchRefIdeal.main_v25) = v1 c
          ∧ r.2.mem ((c.tc : Thread Cert.AdamBranchRefIdeal.nD Cert.AdamBranchRefIdeal.τ).loc Cert.AdamBranchRefIdeal.main_v6) = v2 c
          ∧ r.2.mem ((c.tc : Thread Cert.AdamBranchRefIdeal.nD Cert.AdamBranchRefIdeal.τ).loc Cert.AdamBranchRefIdeal.main_v12) = v3 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)) (v3 : (c : Dev Cert.AdamFfnIdeal.nD) → Buf (Elt Ideal) ((c.tc : Thread Cert.AdamFfnIdeal.nD Cert.AdamFfnIdeal.τ).loc Cert.AdamFfnIdeal.main_v0_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_v0_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v1) = v0 c
          ∧ r.2.mem ((c.tc : Thread Cert.AdamFfnRefIdeal.nD Cert.AdamFfnRefIdeal.τ).loc Cert.AdamFfnRefIdeal.main_v25) = v1 c
          ∧ r.2.mem ((c.tc : Thread Cert.AdamFfnRefIdeal.nD Cert.AdamFfnRefIdeal.τ).loc Cert.AdamFfnRefIdeal.main_v6) = v2 c
          ∧ r.2.mem ((c.tc : Thread Cert.AdamFfnRefIdeal.nD Cert.AdamFfnRefIdeal.τ).loc Cert.AdamFfnRefIdeal.main_v12) = v3 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3))

def preserves_AdamMod_AdamModIdeal : Prop :=
  True

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v1_0)) (v1 : (c : Dev Cert.AdamModIdeal.nD) → Buf (Elt Ideal) ((c.tc : Thread Cert.AdamModIdeal.nD Cert.AdamModIdeal.τ).loc Cert.AdamModIdeal.main_v1_1)) (v2 : (c : Dev Cert.AdamModIdeal.nD) → Buf (Elt Ideal) ((c.tc : Thread Cert.AdamModIdeal.nD Cert.AdamModIdeal.τ).loc Cert.AdamModIdeal.main_v1_2)) (v3 : (c : Dev Cert.AdamModIdeal.nD) → Buf (Elt Ideal) ((c.tc : Thread Cert.AdamModIdeal.nD Cert.AdamModIdeal.τ).loc Cert.AdamModIdeal.main_v1_3)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v1_0) = v0 c
          ∧ r.2.mem ((c.tc : Thread Cert.AdamModIdeal.nD Cert.AdamModIdeal.τ).loc Cert.AdamModIdeal.main_v1_1) = v1 c
          ∧ r.2.mem ((c.tc : Thread Cert.AdamModIdeal.nD Cert.AdamModIdeal.τ).loc Cert.AdamModIdeal.main_v1_2) = v2 c
          ∧ r.2.mem ((c.tc : Thread Cert.AdamModIdeal.nD Cert.AdamModIdeal.τ).loc Cert.AdamModIdeal.main_v1_3) = v3 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_arg0) = v0 c
          ∧ r.2.mem ((c.tc : Thread Cert.AdamModRefIdeal.nD Cert.AdamModRefIdeal.τ).loc Cert.AdamModRefIdeal.main_v23) = v1 c
          ∧ r.2.mem ((c.tc : Thread Cert.AdamModRefIdeal.nD Cert.AdamModRefIdeal.τ).loc Cert.AdamModRefIdeal.main_v4) = v2 c
          ∧ r.2.mem ((c.tc : Thread Cert.AdamModRefIdeal.nD Cert.AdamModRefIdeal.τ).loc Cert.AdamModRefIdeal.main_v10) = v3 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v1_0)) (v1 : (c : Dev Cert.AdamSmallIdeal.nD) → Buf (Elt Ideal) ((c.tc : Thread Cert.AdamSmallIdeal.nD Cert.AdamSmallIdeal.τ).loc Cert.AdamSmallIdeal.main_v1_1)) (v2 : (c : Dev Cert.AdamSmallIdeal.nD) → Buf (Elt Ideal) ((c.tc : Thread Cert.AdamSmallIdeal.nD Cert.AdamSmallIdeal.τ).loc Cert.AdamSmallIdeal.main_v1_2)) (v3 : (c : Dev Cert.AdamSmallIdeal.nD) → Buf (Elt Ideal) ((c.tc : Thread Cert.AdamSmallIdeal.nD Cert.AdamSmallIdeal.τ).loc Cert.AdamSmallIdeal.main_v1_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v1_0) = v0 c
          ∧ r.2.mem ((c.tc : Thread Cert.AdamSmallIdeal.nD Cert.AdamSmallIdeal.τ).loc Cert.AdamSmallIdeal.main_v1_1) = v1 c
          ∧ r.2.mem ((c.tc : Thread Cert.AdamSmallIdeal.nD Cert.AdamSmallIdeal.τ).loc Cert.AdamSmallIdeal.main_v1_2) = v2 c
          ∧ r.2.mem ((c.tc : Thread Cert.AdamSmallIdeal.nD Cert.AdamSmallIdeal.τ).loc Cert.AdamSmallIdeal.main_v1_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_arg0) = v0 c
          ∧ r.2.mem ((c.tc : Thread Cert.AdamSmallRefIdeal.nD Cert.AdamSmallRefIdeal.τ).loc Cert.AdamSmallRefIdeal.main_v23) = v1 c
          ∧ r.2.mem ((c.tc : Thread Cert.AdamSmallRefIdeal.nD Cert.AdamSmallRefIdeal.τ).loc Cert.AdamSmallRefIdeal.main_v4) = v2 c
          ∧ r.2.mem ((c.tc : Thread Cert.AdamSmallRefIdeal.nD Cert.AdamSmallRefIdeal.τ).loc Cert.AdamSmallRefIdeal.main_v10) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_ModFwd_ModFwdIdeal : Prop :=
  True

def algebraic_ModFwdIdeal_ModFwdRefIdeal [hModFwdIdeal : Cert.ModFwdIdeal.Facts] [hModFwdRefIdeal : Cert.ModFwdRefIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg)
    (m' : (ℓ : Loc Cert.ModFwdRefIdeal.nD Cert.ModFwdRefIdeal.τ Cert.ModFwdRefIdeal.sig) → Buf (Elt Ideal) ℓ) (g' : Dev Cert.ModFwdRefIdeal.nD → PrngReg), Pre_ModFwdIdeal m →
    (∀ c : Dev Cert.ModFwdIdeal.nD,
      m' ((c.tc : Thread Cert.ModFwdRefIdeal.nD Cert.ModFwdRefIdeal.τ).loc Cert.ModFwdRefIdeal.main_arg0) = m ((c.tc : Thread Cert.ModFwdIdeal.nD Cert.ModFwdIdeal.τ).loc Cert.ModFwdIdeal.main_arg0)
      ∧ m' ((c.tc : Thread Cert.ModFwdRefIdeal.nD Cert.ModFwdRefIdeal.τ).loc Cert.ModFwdRefIdeal.main_arg1) = m ((c.tc : Thread Cert.ModFwdIdeal.nD Cert.ModFwdIdeal.τ).loc Cert.ModFwdIdeal.main_arg1)
      ∧ m' ((c.tc : Thread Cert.ModFwdRefIdeal.nD Cert.ModFwdRefIdeal.τ).loc Cert.ModFwdRefIdeal.main_arg2) = m ((c.tc : Thread Cert.ModFwdIdeal.nD Cert.ModFwdIdeal.τ).loc Cert.ModFwdIdeal.main_arg2)) →
    ∃ (v0 : (c : Dev Cert.ModFwdIdeal.nD) → Buf (Elt Ideal) ((c.tc : Thread Cert.ModFwdIdeal.nD Cert.ModFwdIdeal.τ).loc Cert.ModFwdIdeal.main_v0)),
      θ_run (Cert.ModFwdIdeal.defs (F := Ideal)) (onTc (τ := Cert.ModFwdIdeal.τ) (Cert.ModFwdIdeal.main (F := Ideal))) ⟨m, fun _ => 0, g⟩ (fun r => ∀ c : Dev Cert.ModFwdIdeal.nD,
          r.2.mem ((c.tc : Thread Cert.ModFwdIdeal.nD Cert.ModFwdIdeal.τ).loc Cert.ModFwdIdeal.main_v0) = v0 c
          ∧ r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
          ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
          ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2))
      ∧ θ_run (Cert.ModFwdRefIdeal.defs (F := Ideal)) (onTc (τ := Cert.ModFwdRefIdeal.τ) (Cert.ModFwdRefIdeal.main (F := Ideal))) ⟨m', fun _ => 0, g'⟩ (fun r => ∀ c : Dev Cert.ModFwdRefIdeal.nD,
          r.2.mem ((c.tc : Thread Cert.ModFwdRefIdeal.nD Cert.ModFwdRefIdeal.τ).loc Cert.ModFwdRefIdeal.main_v3) = v0 c
          ∧ r.2.mem ((c.tc : Thread Cert.ModFwdRefIdeal.nD Cert.ModFwdRefIdeal.τ).loc Cert.ModFwdRefIdeal.main_arg0) = m' ((c.tc : Thread Cert.ModFwdRefIdeal.nD Cert.ModFwdRefIdeal.τ).loc Cert.ModFwdRefIdeal.main_arg0)
          ∧ r.2.mem ((c.tc : Thread Cert.ModFwdRefIdeal.nD Cert.ModFwdRefIdeal.τ).loc Cert.ModFwdRefIdeal.main_arg1) = m' ((c.tc : Thread Cert.ModFwdRefIdeal.nD Cert.ModFwdRefIdeal.τ).loc Cert.ModFwdRefIdeal.main_arg1)
          ∧ r.2.mem ((c.tc : Thread Cert.ModFwdRefIdeal.nD Cert.ModFwdRefIdeal.τ).loc Cert.ModFwdRefIdeal.main_arg2) = m' ((c.tc : Thread Cert.ModFwdRefIdeal.nD Cert.ModFwdRefIdeal.τ).loc Cert.ModFwdRefIdeal.main_arg2))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_SumCtx_SumCtxIdeal : Prop :=
  True

def algebraic_SumCtxIdeal_SumCtxRefIdeal [hSumCtxIdeal : Cert.SumCtxIdeal.Facts] [hSumCtxRefIdeal : Cert.SumCtxRefIdeal.Facts] : Prop :=
  ∀ (m : (ℓ : Loc Cert.SumCtxIdeal.nD Cert.SumCtxIdeal.τ Cert.SumCtxIdeal.sig) → Buf (Elt Ideal) ℓ) (g : Dev Cert.SumCtxIdeal.nD → PrngReg)
    (m' : (ℓ : Loc Cert.SumCtxRefIdeal.nD Cert.SumCtxRefIdeal.τ Cert.SumCtxRefIdeal.sig) → Buf (Elt Ideal) ℓ) (g' : Dev Cert.SumCtxRefIdeal.nD → PrngReg), Pre_SumCtxIdeal m →
    (∀ c : Dev Cert.SumCtxIdeal.nD,
      m' ((c.tc : Thread Cert.SumCtxRefIdeal.nD Cert.SumCtxRefIdeal.τ).loc Cert.SumCtxRefIdeal.main_arg0) = m ((c.tc : Thread Cert.SumCtxIdeal.nD Cert.SumCtxIdeal.τ).loc Cert.SumCtxIdeal.main_arg0)) →
    ∃ (v0 : (c : Dev Cert.SumCtxIdeal.nD) → Buf (Elt Ideal) ((c.tc : Thread Cert.SumCtxIdeal.nD Cert.SumCtxIdeal.τ).loc Cert.SumCtxIdeal.main_v0)),
      θ_run (Cert.SumCtxIdeal.defs (F := Ideal)) (onTc (τ := Cert.SumCtxIdeal.τ) (Cert.SumCtxIdeal.main (F := Ideal))) ⟨m, fun _ => 0, g⟩ (fun r => ∀ c : Dev Cert.SumCtxIdeal.nD,
          r.2.mem ((c.tc : Thread Cert.SumCtxIdeal.nD Cert.SumCtxIdeal.τ).loc Cert.SumCtxIdeal.main_v0) = v0 c
          ∧ r.2.mem ((c.tc : Thread Cert.SumCtxIdeal.nD Cert.SumCtxIdeal.τ).loc Cert.SumCtxIdeal.main_arg0) = m ((c.tc : Thread Cert.SumCtxIdeal.nD Cert.SumCtxIdeal.τ).loc Cert.SumCtxIdeal.main_arg0))
      ∧ θ_run (Cert.SumCtxRefIdeal.defs (F := Ideal)) (onTc (τ := Cert.SumCtxRefIdeal.τ) (Cert.SumCtxRefIdeal.main (F := Ideal))) ⟨m', fun _ => 0, g'⟩ (fun r => ∀ c : Dev Cert.SumCtxRefIdeal.nD,
          r.2.mem ((c.tc : Thread Cert.SumCtxRefIdeal.nD Cert.SumCtxRefIdeal.τ).loc Cert.SumCtxRefIdeal.main_v0) = v0 c
          ∧ r.2.mem ((c.tc : Thread Cert.SumCtxRefIdeal.nD Cert.SumCtxRefIdeal.τ).loc Cert.SumCtxRefIdeal.main_arg0) = m' ((c.tc : Thread Cert.SumCtxRefIdeal.nD Cert.SumCtxRefIdeal.τ).loc Cert.SumCtxRefIdeal.main_arg0))

def preserves_ModBwd_ModBwdIdeal : Prop :=
  True

def algebraic_ModBwdIdeal_ModBwdRefIdeal [hModBwdIdeal : Cert.ModBwdIdeal.Facts] [hModBwdRefIdeal : Cert.ModBwdRefIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg)
    (m' : (ℓ : Loc Cert.ModBwdRefIdeal.nD Cert.ModBwdRefIdeal.τ Cert.ModBwdRefIdeal.sig) → Buf (Elt Ideal) ℓ) (g' : Dev Cert.ModBwdRefIdeal.nD → PrngReg), Pre_ModBwdIdeal m →
    (∀ c : Dev Cert.ModBwdIdeal.nD,
      m' ((c.tc : Thread Cert.ModBwdRefIdeal.nD Cert.ModBwdRefIdeal.τ).loc Cert.ModBwdRefIdeal.main_arg0) = m ((c.tc : Thread Cert.ModBwdIdeal.nD Cert.ModBwdIdeal.τ).loc Cert.ModBwdIdeal.main_arg0)
      ∧ m' ((c.tc : Thread Cert.ModBwdRefIdeal.nD Cert.ModBwdRefIdeal.τ).loc Cert.ModBwdRefIdeal.main_arg1) = m ((c.tc : Thread Cert.ModBwdIdeal.nD Cert.ModBwdIdeal.τ).loc Cert.ModBwdIdeal.main_arg1)
      ∧ m' ((c.tc : Thread Cert.ModBwdRefIdeal.nD Cert.ModBwdRefIdeal.τ).loc Cert.ModBwdRefIdeal.main_arg2) = m ((c.tc : Thread Cert.ModBwdIdeal.nD Cert.ModBwdIdeal.τ).loc Cert.ModBwdIdeal.main_arg2)) →
    ∃ (v0 : (c : Dev Cert.ModBwdIdeal.nD) → Buf (Elt Ideal) ((c.tc : Thread Cert.ModBwdIdeal.nD Cert.ModBwdIdeal.τ).loc Cert.ModBwdIdeal.main_v0_0)) (v1 : (c : Dev Cert.ModBwdIdeal.nD) → Buf (Elt Ideal) ((c.tc : Thread Cert.ModBwdIdeal.nD Cert.ModBwdIdeal.τ).loc Cert.ModBwdIdeal.main_v0_1)),
      θ_run (Cert.ModBwdIdeal.defs (F := Ideal)) (onTc (τ := Cert.ModBwdIdeal.τ) (Cert.ModBwdIdeal.main (F := Ideal))) ⟨m, fun _ => 0, g⟩ (fun r => ∀ c : Dev Cert.ModBwdIdeal.nD,
          r.2.mem ((c.tc : Thread Cert.ModBwdIdeal.nD Cert.ModBwdIdeal.τ).loc Cert.ModBwdIdeal.main_v0_0) = v0 c
          ∧ r.2.mem ((c.tc : Thread Cert.ModBwdIdeal.nD Cert.ModBwdIdeal.τ).loc Cert.ModBwdIdeal.main_v0_1) = v1 c
          ∧ r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
          ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
          ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2))
      ∧ θ_run (Cert.ModBwdRefIdeal.defs (F := Ideal)) (onTc (τ := Cert.ModBwdRefIdeal.τ) (Cert.ModBwdRefIdeal.main (F := Ideal))) ⟨m', fun _ => 0, g'⟩ (fun r => ∀ c : Dev Cert.ModBwdRefIdeal.nD,
          r.2.mem ((c.tc : Thread Cert.ModBwdRefIdeal.nD Cert.ModBwdRefIdeal.τ).loc Cert.ModBwdRefIdeal.main_v3) = v0 c
          ∧ r.2.mem ((c.tc : Thread Cert.ModBwdRefIdeal.nD Cert.ModBwdRefIdeal.τ).loc Cert.ModBwdRefIdeal.main_v15) = v1 c
          ∧ r.2.mem ((c.tc : Thread Cert.ModBwdRefIdeal.nD Cert.ModBwdRefIdeal.τ).loc Cert.ModBwdRefIdeal.main_arg0) = m' ((c.tc : Thread Cert.ModBwdRefIdeal.nD Cert.ModBwdRefIdeal.τ).loc Cert.ModBwdRefIdeal.main_arg0)
          ∧ r.2.mem ((c.tc : Thread Cert.ModBwdRefIdeal.nD Cert.ModBwdRefIdeal.τ).loc Cert.ModBwdRefIdeal.main_arg1) = m' ((c.tc : Thread Cert.ModBwdRefIdeal.nD Cert.ModBwdRefIdeal.τ).loc Cert.ModBwdRefIdeal.main_arg1)
          ∧ r.2.mem ((c.tc : Thread Cert.ModBwdRefIdeal.nD Cert.ModBwdRefIdeal.τ).loc Cert.ModBwdRefIdeal.main_arg2) = m' ((c.tc : Thread Cert.ModBwdRefIdeal.nD Cert.ModBwdRefIdeal.τ).loc Cert.ModBwdRefIdeal.main_arg2))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)
      ∧ m' ((c.tc : Thread Cert.PrenormRefIdeal.nD Cert.PrenormRefIdeal.τ).loc Cert.PrenormRefIdeal.main_arg2) = m ((c.tc : Thread Cert.PrenormIdeal.nD Cert.PrenormIdeal.τ).loc Cert.PrenormIdeal.main_arg2)
      ∧ m' ((c.tc : Thread Cert.PrenormRefIdeal.nD Cert.PrenormRefIdeal.τ).loc Cert.PrenormRefIdeal.main_arg3) = m ((c.tc : Thread Cert.PrenormIdeal.nD Cert.PrenormIdeal.τ).loc Cert.PrenormIdeal.main_arg3)
      ∧ m' ((c.tc : Thread Cert.PrenormRefIdeal.nD Cert.PrenormRefIdeal.τ).loc Cert.PrenormRefIdeal.main_arg4) = m ((c.tc : Thread Cert.PrenormIdeal.nD Cert.PrenormIdeal.τ).loc Cert.PrenormIdeal.main_arg4)) →
    ∃ (v0 : (c : Dev Cert.PrenormIdeal.nD) → Buf (Elt Ideal) ((c.tc : Thread Cert.PrenormIdeal.nD Cert.PrenormIdeal.τ).loc Cert.PrenormIdeal.main_v0)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v0) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
          ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3)
          ∧ r.2.mem ((c.tc : Thread Cert.PrenormIdeal.nD Cert.PrenormIdeal.τ).loc Cert.PrenormIdeal.main_arg4) = m ((c.tc : Thread Cert.PrenormIdeal.nD Cert.PrenormIdeal.τ).loc Cert.PrenormIdeal.main_arg4))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v32) = v0 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1)
          ∧ r.2.mem ((c.tc : Thread Cert.PrenormRefIdeal.nD Cert.PrenormRefIdeal.τ).loc Cert.PrenormRefIdeal.main_arg2) = m' ((c.tc : Thread Cert.PrenormRefIdeal.nD Cert.PrenormRefIdeal.τ).loc Cert.PrenormRefIdeal.main_arg2)
          ∧ r.2.mem ((c.tc : Thread Cert.PrenormRefIdeal.nD Cert.PrenormRefIdeal.τ).loc Cert.PrenormRefIdeal.main_arg3) = m' ((c.tc : Thread Cert.PrenormRefIdeal.nD Cert.PrenormRefIdeal.τ).loc Cert.PrenormRefIdeal.main_arg3)
          ∧ r.2.mem ((c.tc : Thread Cert.PrenormRefIdeal.nD Cert.PrenormRefIdeal.τ).loc Cert.PrenormRefIdeal.main_arg4) = m' ((c.tc : Thread Cert.PrenormRefIdeal.nD Cert.PrenormRefIdeal.τ).loc Cert.PrenormRefIdeal.main_arg4))

def Claim : Prop :=
  ∃ (hKernel : Cert.Kernel.Facts) (hKernelIdeal : Cert.KernelIdeal.Facts) (hReferenceIdeal : Cert.ReferenceIdeal.Facts) (hInGradA : Cert.InGradA.Facts) (hInGradAIdeal : Cert.InGradAIdeal.Facts) (hInGradARefIdeal : Cert.InGradARefIdeal.Facts) (hInGradB : Cert.InGradB.Facts) (hInGradBIdeal : Cert.InGradBIdeal.Facts) (hInGradBRefIdeal : Cert.InGradBRefIdeal.Facts) (hInBack : Cert.InBack.Facts) (hInBackIdeal : Cert.InBackIdeal.Facts) (hInBackRefIdeal : Cert.InBackRefIdeal.Facts) (hFfnBack : Cert.FfnBack.Facts) (hFfnBackIdeal : Cert.FfnBackIdeal.Facts) (hFfnBackRefIdeal : Cert.FfnBackRefIdeal.Facts) (hGateGrad : Cert.GateGrad.Facts) (hGateGradIdeal : Cert.GateGradIdeal.Facts) (hGateGradRefIdeal : Cert.GateGradRefIdeal.Facts) (hUpGrad : Cert.UpGrad.Facts) (hUpGradIdeal : Cert.UpGradIdeal.Facts) (hUpGradRefIdeal : Cert.UpGradRefIdeal.Facts) (hDownGrad : Cert.DownGrad.Facts) (hDownGradIdeal : Cert.DownGradIdeal.Facts) (hDownGradRefIdeal : Cert.DownGradRefIdeal.Facts) (hActBack : Cert.ActBack.Facts) (hActBackIdeal : Cert.ActBackIdeal.Facts) (hActBackRefIdeal : Cert.ActBackRefIdeal.Facts) (hOutBack : Cert.OutBack.Facts) (hOutBackIdeal : Cert.OutBackIdeal.Facts) (hOutBackRefIdeal : Cert.OutBackRefIdeal.Facts) (hOutGrad : Cert.OutGrad.Facts) (hOutGradIdeal : Cert.OutGradIdeal.Facts) (hOutGradRefIdeal : Cert.OutGradRefIdeal.Facts) (hHgGrad : Cert.HgGrad.Facts) (hHgGradIdeal : Cert.HgGradIdeal.Facts) (hHgGradRefIdeal : Cert.HgGradRefIdeal.Facts) (hGlaGrad : Cert.GlaGrad.Facts) (hGlaGradIdeal : Cert.GlaGradIdeal.Facts) (hGlaGradRefIdeal : Cert.GlaGradRefIdeal.Facts) (hInFwd : Cert.InFwd.Facts) (hInFwdIdeal : Cert.InFwdIdeal.Facts) (hInFwdRefIdeal : Cert.InFwdRefIdeal.Facts) (hOutFwd : Cert.OutFwd.Facts) (hOutFwdIdeal : Cert.OutFwdIdeal.Facts) (hOutFwdRefIdeal : Cert.OutFwdRefIdeal.Facts) (hFfnFwd : Cert.FfnFwd.Facts) (hFfnFwdIdeal : Cert.FfnFwdIdeal.Facts) (hFfnFwdRefIdeal : Cert.FfnFwdRefIdeal.Facts) (hDownFwd : Cert.DownFwd.Facts) (hDownFwdIdeal : Cert.DownFwdIdeal.Facts) (hDownFwdRefIdeal : Cert.DownFwdRefIdeal.Facts) (hBranchBack : Cert.BranchBack.Facts) (hBranchBackIdeal : Cert.BranchBackIdeal.Facts) (hBranchBackRefIdeal : Cert.BranchBackRefIdeal.Facts) (hBranchFwd : Cert.BranchFwd.Facts) (hBranchFwdIdeal : Cert.BranchFwdIdeal.Facts) (hBranchFwdRefIdeal : Cert.BranchFwdRefIdeal.Facts) (hAdamBranch : Cert.AdamBranch.Facts) (hAdamBranchIdeal : Cert.AdamBranchIdeal.Facts) (hAdamBranchRefIdeal : Cert.AdamBranchRefIdeal.Facts) (hAdamOut : Cert.AdamOut.Facts) (hAdamOutIdeal : Cert.AdamOutIdeal.Facts) (hAdamOutRefIdeal : Cert.AdamOutRefIdeal.Facts) (hAdamFfn : Cert.AdamFfn.Facts) (hAdamFfnIdeal : Cert.AdamFfnIdeal.Facts) (hAdamFfnRefIdeal : Cert.AdamFfnRefIdeal.Facts) (hAdamMod : Cert.AdamMod.Facts) (hAdamModIdeal : Cert.AdamModIdeal.Facts) (hAdamModRefIdeal : Cert.AdamModRefIdeal.Facts) (hAdamSmall : Cert.AdamSmall.Facts) (hAdamSmallIdeal : Cert.AdamSmallIdeal.Facts) (hAdamSmallRefIdeal : Cert.AdamSmallRefIdeal.Facts) (hModFwd : Cert.ModFwd.Facts) (hModFwdIdeal : Cert.ModFwdIdeal.Facts) (hModFwdRefIdeal : Cert.ModFwdRefIdeal.Facts) (hSumSmall : Cert.SumSmall.Facts) (hSumSmallIdeal : Cert.SumSmallIdeal.Facts) (hSumSmallRefIdeal : Cert.SumSmallRefIdeal.Facts) (hSumCtx : Cert.SumCtx.Facts) (hSumCtxIdeal : Cert.SumCtxIdeal.Facts) (hSumCtxRefIdeal : Cert.SumCtxRefIdeal.Facts) (hModBwd : Cert.ModBwd.Facts) (hModBwdIdeal : Cert.ModBwdIdeal.Facts) (hModBwdRefIdeal : Cert.ModBwdRefIdeal.Facts) (hPrenorm : Cert.Prenorm.Facts) (hPrenormIdeal : Cert.PrenormIdeal.Facts) (hPrenormRefIdeal : Cert.PrenormRefIdeal.Facts) (hPre_gates_are_mild : Cert.Pre_gates_are_mild.Facts) (hPre_finite_factors : Cert.Pre_finite_factors.Facts),
    quiescent_Kernel (hKernel := hKernel)
    ∧ quiescent_KernelIdeal (hKernelIdeal := hKernelIdeal)
    ∧ quiescent_KernelIdeal_pre_gates_are_mild (hKernelIdeal := hKernelIdeal) (hPre_gates_are_mild := hPre_gates_are_mild)
    ∧ quiescent_ReferenceIdeal (hReferenceIdeal := hReferenceIdeal)
    ∧ quiescent_ReferenceIdeal_pre_gates_are_mild (hReferenceIdeal := hReferenceIdeal) (hPre_gates_are_mild := hPre_gates_are_mild)
    ∧ quiescent_InGradA (hInGradA := hInGradA)
    ∧ quiescent_InGradAIdeal (hInGradAIdeal := hInGradAIdeal)
    ∧ quiescent_InGradARefIdeal (hInGradARefIdeal := hInGradARefIdeal)
    ∧ quiescent_InGradB (hInGradB := hInGradB)
    ∧ quiescent_InGradBIdeal (hInGradBIdeal := hInGradBIdeal)
    ∧ quiescent_InGradBRefIdeal (hInGradBRefIdeal := hInGradBRefIdeal)
    ∧ quiescent_InBack (hInBack := hInBack)
    ∧ quiescent_InBackIdeal (hInBackIdeal := hInBackIdeal)
    ∧ quiescent_InBackRefIdeal (hInBackRefIdeal := hInBackRefIdeal)
    ∧ quiescent_FfnBack (hFfnBack := hFfnBack)
    ∧ quiescent_FfnBackIdeal (hFfnBackIdeal := hFfnBackIdeal)
    ∧ quiescent_FfnBackRefIdeal (hFfnBackRefIdeal := hFfnBackRefIdeal)
    ∧ quiescent_GateGrad (hGateGrad := hGateGrad)
    ∧ quiescent_GateGradIdeal (hGateGradIdeal := hGateGradIdeal)
    ∧ quiescent_GateGradRefIdeal (hGateGradRefIdeal := hGateGradRefIdeal)
    ∧ quiescent_UpGrad (hUpGrad := hUpGrad)
    ∧ quiescent_UpGradIdeal (hUpGradIdeal := hUpGradIdeal)
    ∧ quiescent_UpGradRefIdeal (hUpGradRefIdeal := hUpGradRefIdeal)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_ActBack (hActBack := hActBack)
    ∧ quiescent_ActBackIdeal (hActBackIdeal := hActBackIdeal)
    ∧ quiescent_ActBackIdeal_pre_finite_factors (hActBackIdeal := hActBackIdeal) (hPre_finite_factors := hPre_finite_factors)
    ∧ quiescent_ActBackRefIdeal (hActBackRefIdeal := hActBackRefIdeal)
    ∧ quiescent_ActBackRefIdeal_pre_finite_factors (hActBackRefIdeal := hActBackRefIdeal) (hPre_finite_factors := hPre_finite_factors)
    ∧ quiescent_OutBack (hOutBack := hOutBack)
    ∧ quiescent_OutBackIdeal (hOutBackIdeal := hOutBackIdeal)
    ∧ quiescent_OutBackRefIdeal (hOutBackRefIdeal := hOutBackRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_HgGrad (hHgGrad := hHgGrad)
    ∧ quiescent_HgGradIdeal (hHgGradIdeal := hHgGradIdeal)
    ∧ quiescent_HgGradRefIdeal (hHgGradRefIdeal := hHgGradRefIdeal)
    ∧ quiescent_GlaGrad (hGlaGrad := hGlaGrad)
    ∧ quiescent_GlaGradIdeal (hGlaGradIdeal := hGlaGradIdeal)
    ∧ quiescent_GlaGradRefIdeal (hGlaGradRefIdeal := hGlaGradRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_BranchBack (hBranchBack := hBranchBack)
    ∧ quiescent_BranchBackIdeal (hBranchBackIdeal := hBranchBackIdeal)
    ∧ quiescent_BranchBackRefIdeal (hBranchBackRefIdeal := hBranchBackRefIdeal)
    ∧ quiescent_BranchFwd (hBranchFwd := hBranchFwd)
    ∧ quiescent_BranchFwdIdeal (hBranchFwdIdeal := hBranchFwdIdeal)
    ∧ quiescent_BranchFwdRefIdeal (hBranchFwdRefIdeal := hBranchFwdRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_ModFwd (hModFwd := hModFwd)
    ∧ quiescent_ModFwdIdeal (hModFwdIdeal := hModFwdIdeal)
    ∧ quiescent_ModFwdRefIdeal (hModFwdRefIdeal := hModFwdRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumCtx (hSumCtx := hSumCtx)
    ∧ quiescent_SumCtxIdeal (hSumCtxIdeal := hSumCtxIdeal)
    ∧ quiescent_SumCtxRefIdeal (hSumCtxRefIdeal := hSumCtxRefIdeal)
    ∧ quiescent_ModBwd (hModBwd := hModBwd)
    ∧ quiescent_ModBwdIdeal (hModBwdIdeal := hModBwdIdeal)
    ∧ quiescent_ModBwdRefIdeal (hModBwdRefIdeal := hModBwdRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ preserves_Kernel_KernelIdeal
    ∧ algebraic_KernelIdeal_ReferenceIdeal_pre_gates_are_mild (hKernelIdeal := hKernelIdeal) (hReferenceIdeal := hReferenceIdeal) (hPre_gates_are_mild := hPre_gates_are_mild)
    ∧ preserves_InGradA_InGradAIdeal
    ∧ algebraic_InGradAIdeal_InGradARefIdeal (hInGradAIdeal := hInGradAIdeal) (hInGradARefIdeal := hInGradARefIdeal)
    ∧ preserves_InGradB_InGradBIdeal
    ∧ algebraic_InGradBIdeal_InGradBRefIdeal (hInGradBIdeal := hInGradBIdeal) (hInGradBRefIdeal := hInGradBRefIdeal)
    ∧ preserves_InBack_InBackIdeal
    ∧ algebraic_InBackIdeal_InBackRefIdeal (hInBackIdeal := hInBackIdeal) (hInBackRefIdeal := hInBackRefIdeal)
    ∧ preserves_FfnBack_FfnBackIdeal
    ∧ algebraic_FfnBackIdeal_FfnBackRefIdeal (hFfnBackIdeal := hFfnBackIdeal) (hFfnBackRefIdeal := hFfnBackRefIdeal)
    ∧ preserves_GateGrad_GateGradIdeal
    ∧ algebraic_GateGradIdeal_GateGradRefIdeal (hGateGradIdeal := hGateGradIdeal) (hGateGradRefIdeal := hGateGradRefIdeal)
    ∧ preserves_UpGrad_UpGradIdeal
    ∧ algebraic_UpGradIdeal_UpGradRefIdeal (hUpGradIdeal := hUpGradIdeal) (hUpGradRefIdeal := hUpGradRefIdeal)
    ∧ preserves_DownGrad_DownGradIdeal
    ∧ algebraic_DownGradIdeal_DownGradRefIdeal (hDownGradIdeal := hDownGradIdeal) (hDownGradRefIdeal := hDownGradRefIdeal)
    ∧ preserves_ActBack_ActBackIdeal
    ∧ algebraic_ActBackIdeal_ActBackRefIdeal_pre_finite_factors (hActBackIdeal := hActBackIdeal) (hActBackRefIdeal := hActBackRefIdeal) (hPre_finite_factors := hPre_finite_factors)
    ∧ preserves_OutBack_OutBackIdeal
    ∧ algebraic_OutBackIdeal_OutBackRefIdeal (hOutBackIdeal := hOutBackIdeal) (hOutBackRefIdeal := hOutBackRefIdeal)
    ∧ preserves_OutGrad_OutGradIdeal
    ∧ algebraic_OutGradIdeal_OutGradRefIdeal (hOutGradIdeal := hOutGradIdeal) (hOutGradRefIdeal := hOutGradRefIdeal)
    ∧ preserves_HgGrad_HgGradIdeal
    ∧ algebraic_HgGradIdeal_HgGradRefIdeal (hHgGradIdeal := hHgGradIdeal) (hHgGradRefIdeal := hHgGradRefIdeal)
    ∧ preserves_GlaGrad_GlaGradIdeal
    ∧ algebraic_GlaGradIdeal_GlaGradRefIdeal (hGlaGradIdeal := hGlaGradIdeal) (hGlaGradRefIdeal := hGlaGradRefIdeal)
    ∧ preserves_InFwd_InFwdIdeal
    ∧ algebraic_InFwdIdeal_InFwdRefIdeal (hInFwdIdeal := hInFwdIdeal) (hInFwdRefIdeal := hInFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_BranchBack_BranchBackIdeal
    ∧ algebraic_BranchBackIdeal_BranchBackRefIdeal (hBranchBackIdeal := hBranchBackIdeal) (hBranchBackRefIdeal := hBranchBackRefIdeal)
    ∧ preserves_BranchFwd_BranchFwdIdeal
    ∧ algebraic_BranchFwdIdeal_BranchFwdRefIdeal (hBranchFwdIdeal := hBranchFwdIdeal) (hBranchFwdRefIdeal := hBranchFwdRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamMod_AdamModIdeal
    ∧ algebraic_AdamModIdeal_AdamModRefIdeal (hAdamModIdeal := hAdamModIdeal) (hAdamModRefIdeal := hAdamModRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_ModFwd_ModFwdIdeal
    ∧ algebraic_ModFwdIdeal_ModFwdRefIdeal (hModFwdIdeal := hModFwdIdeal) (hModFwdRefIdeal := hModFwdRefIdeal)
    ∧ preserves_SumSmall_SumSmallIdeal
    ∧ algebraic_SumSmallIdeal_SumSmallRefIdeal (hSumSmallIdeal := hSumSmallIdeal) (hSumSmallRefIdeal := hSumSmallRefIdeal)
    ∧ preserves_SumCtx_SumCtxIdeal
    ∧ algebraic_SumCtxIdeal_SumCtxRefIdeal (hSumCtxIdeal := hSumCtxIdeal) (hSumCtxRefIdeal := hSumCtxRefIdeal)
    ∧ preserves_ModBwd_ModBwdIdeal
    ∧ algebraic_ModBwdIdeal_ModBwdRefIdeal (hModBwdIdeal := hModBwdIdeal) (hModBwdRefIdeal := hModBwdRefIdeal)
    ∧ preserves_Prenorm_PrenormIdeal
    ∧ algebraic_PrenormIdeal_PrenormRefIdeal (hPrenormIdeal := hPrenormIdeal) (hPrenormRefIdeal := hPrenormRefIdeal)
-- ==== Pre_finite_factors.lean ====
abbrev S2304x1024 : Shape := ⟨2, ![2304, 1024]⟩
abbrev S2816x1024 : Shape := ⟨2, ![2816, 1024]⟩
abbrev S2304x2816 : Shape := ⟨2, ![2304, 2816]⟩
abbrev S_ : Shape := ⟨0, ![]⟩

class Facts : Prop where
  bitsLt_bf16_f32 : FTy.bits .bf16 < FTy.bits .f32
  bcast_S_S2304x1024 : S_.BroadcastsInDim S2304x1024 (![] : Fin 0 → Fin S2304x1024.rank)
  bcast_S_S2816x1024 : S_.BroadcastsInDim S2816x1024 (![] : Fin 0 → Fin S2816x1024.rank)
  bcast_S_S2304x2816 : S_.BroadcastsInDim S2304x2816 (![] : Fin 0 → Fin S2304x2816.rank)

variable [Facts]

def fn {F : FTy → Type} [FloatOps F] (main_arg0 : FVec F S2304x1024 .bf16) (main_arg1 : FVec F S2816x1024 .bf16) (main_arg2 : FVec F S2304x2816 .bf16) (main_arg3 : FVec F S2304x2816 .bf16) : IVec S2304x1024 1 × IVec S2816x1024 1 × IVec S2304x2816 1 :=
  let main_v0 : FVec F S2304x1024 .f32 := (extf .f32 · bitsLt_bf16_f32) main_arg0
  let main_v1 : FVec F S2304x1024 .f32 := Host.absf main_v0
  let main_cst : FVec F S_ .f32 := constant S_ .f32 0x7F800000#32
  let main_v2 : FVec F S2304x1024 .f32 := broadcastInDim S2304x1024 ![] bcast_S_S2304x1024 main_cst
  let main_v3 : IVec S2304x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S2304x2816 .f32 := (extf .f32 · bitsLt_bf16_f32) main_arg3
  let main_v9 : FVec F S2304x2816 .f32 := Host.absf main_v8
  let main_cst_1 : FVec F S_ .f32 := constant S_ .f32 0x7F800000#32
  let main_v10 : FVec F S2304x2816 .f32 := broadcastInDim S2304x2816 ![] bcast_S_S2304x2816 main_cst_1
  let main_v11 : IVec S2304x2816 1 := cmpf .olt main_v9 main_v10
  (main_v3, main_v7, main_v11)
-- ==== Pre_gates_are_mild.lean ====
abbrev S2304x1024 : Shape := ⟨2, ![2304, 1024]⟩
abbrev S288x8x1024 : Shape := ⟨3, ![288, 8, 1024]⟩
abbrev S_ : Shape := ⟨0, ![]⟩
abbrev S288x1024 : Shape := ⟨2, ![288, 1024]⟩

class Facts : Prop where
  shapeCasts_S2304x1024_S288x8x1024 : S2304x1024.ShapeCasts S288x8x1024
  reducesTo_S288x8x1024_S288x1024_d1 : S288x8x1024.ReducesTo [1] S288x1024
  h_S_ : 0 < S_.numel
  bitsLt_bf16_f32 : FTy.bits .bf16 < FTy.bits .f32
  bcast_S_S2304x1024 : S_.BroadcastsInDim S2304x1024 (![] : Fin 0 → Fin S2304x1024.rank)
  bcast_S_S288x1024 : S_.BroadcastsInDim S288x1024 (![] : Fin 0 → Fin S288x1024.rank)

variable [Facts]

def fn_part1 {F : FTy → Type} [FloatOps F] (main_arg3 : FVec F S2304x1024 .f32) (main_v1 : FVec F S288x1024 .f32) (main_v7 : IVec S2304x1024 1) (main_v10 : IVec S2304x1024 1) (main_v13 : IVec S2304x1024 1) (main_v16 : IVec S2304x1024 1) (main_v17 : FVec F S2304x1024 .f32) : IVec S2304x1024 1 × IVec S2304x1024 1 × IVec S2304x1024 1 × IVec S2304x1024 1 × IVec S2304x1024 1 × IVec S288x1024 1 :=
  let main_v18 : IVec S2304x1024 1 := cmpf .ole main_arg3 main_v17
  let main_cst_5 : FVec F S_ .f32 := constant S_ .f32 0xC2A00000#32
  let main_v19 : FVec F S288x1024 .f32 := broadcastInDim S288x1024 ![] bcast_S_S288x1024 main_cst_5
  let main_v20 : IVec S288x1024 1 := cmpf .oge main_v1 main_v19
  (main_v7, main_v10, main_v13, main_v16, main_v18, main_v20)

def fn {F : FTy → Type} [FloatOps F] (main_arg0 : FVec F S2304x1024 .bf16) (main_arg1 : FVec F S2304x1024 .bf16) (main_arg2 : FVec F S2304x1024 .bf16) (main_arg3 : FVec F S2304x1024 .f32) (main_arg4 : FVec F S2304x1024 .f32) : IVec S2304x1024 1 × IVec S2304x1024 1 × IVec S2304x1024 1 × IVec S2304x1024 1 × IVec S2304x1024 1 × IVec S288x1024 1 :=
  let main_v0 : FVec F S288x8x1024 .f32 := shapeCast S288x8x1024 main_arg3 shapeCasts_S2304x1024_S288x8x1024
  let main_cst : FVec F S_ .f32 := constant S_ .f32 0x00000000#32
  let main_v1 : FVec F S288x1024 .f32 := (fun x v => Host.reduceAdd x v reducesTo_S288x8x1024_S288x1024_d1 h_S_) main_v0 main_cst
  let main_v2 : FVec F S2304x1024 .f32 := (extf .f32 · bitsLt_bf16_f32) main_arg0
  let main_v3 : FVec F S2304x1024 .f32 := (extf .f32 · bitsLt_bf16_f32) main_arg1
  let main_v4 : FVec F S2304x1024 .f32 := (extf .f32 · bitsLt_bf16_f32) main_arg2
  let main_v5 : FVec F S2304x1024 .f32 := Host.absf main_v2
  let main_cst_0 : FVec F S_ .f32 := constant S_ .f32 0x7F800000#32
  let main_v6 : FVec F S2304x1024 .f32 := broadcastInDim S2304x1024 ![] bcast_S_S2304x1024 main_cst_0
  let main_v7 : IVec S2304x1024 1 := cmpf .olt main_v5 main_v6
  let main_v8 : FVec F S2304x1024 .f32 := Host.absf main_v3
  let main_cst_1 : FVec F S_ .f32 := constant S_ .f32 0x7F800000#32
  let main_v9 : FVec F S2304x1024 .f32 := broadcastInDim S2304x1024 ![] bcast_S_S2304x1024 main_cst_1
  let main_v10 : IVec S2304x1024 1 := cmpf .olt main_v8 main_v9
  let main_v11 : FVec F S2304x1024 .f32 := Host.absf main_v4
  let main_cst_2 : FVec F S_ .f32 := constant S_ .f32 0x7F800000#32
  let main_v12 : FVec F S2304x1024 .f32 := broadcastInDim S2304x1024 ![] bcast_S_S2304x1024 main_cst_2
  let main_v13 : IVec S2304x1024 1 := cmpf .olt main_v11 main_v12
  let main_v14 : FVec F S2304x1024 .f32 := Host.absf main_arg4
  let main_cst_3 : FVec F S_ .f32 := constant S_ .f32 0x7F800000#32
  let main_v15 : FVec F S2304x1024 .f32 := broadcastInDim S2304x1024 ![] bcast_S_S2304x1024 main_cst_3
  let main_v16 : IVec S2304x1024 1 := cmpf .olt main_v14 main_v15
  let main_cst_4 : FVec F S_ .f32 := constant S_ .f32 0x00000000#32
  let main_v17 : FVec F S2304x1024 .f32 := broadcastInDim S2304x1024 ![] bcast_S_S2304x1024 main_cst_4
  fn_part1 (F := F) main_arg3 main_v1 main_v7 main_v10 main_v13 main_v16 main_v17
-- ==== Kernel.lean ====
abbrev S2304x1024 : Shape := ⟨2, ![2304, 1024]⟩
abbrev S2304x8x128 : Shape := ⟨3, ![2304, 8, 128]⟩
abbrev S8x2304x128 : Shape := ⟨3, ![8, 2304, 128]⟩
abbrev S_ : Shape := ⟨0, ![]⟩
abbrev S8x1x128 : Shape := ⟨3, ![8, 1, 128]⟩
abbrev S8x35x128 : Shape := ⟨3, ![8, 35, 128]⟩
abbrev S8x36x128 : Shape := ⟨3, ![8, 36, 128]⟩
abbrev S2304 : Shape := ⟨1, ![2304]⟩
abbrev S1x2304 : Shape := ⟨2, ![1, 2304]⟩
abbrev S36 : Shape := ⟨1, ![36]⟩
abbrev S36x1 : Shape := ⟨2, ![36, 1]⟩
abbrev S36x2304 : Shape := ⟨2, ![36, 2304]⟩
abbrev S1x36x2304x1 : Shape := ⟨4, ![1, 36, 2304, 1]⟩
abbrev S8x36x1x128 : Shape := ⟨4, ![8, 36, 1, 128]⟩
abbrev S8x1x2304x128 : Shape := ⟨4, ![8, 1, 2304, 128]⟩
abbrev S8x36x2304x128 : Shape := ⟨4, ![8, 36, 2304, 128]⟩
abbrev S8x128x36x128 : Shape := ⟨4, ![8, 128, 36, 128]⟩
abbrev S8x36x128x128 : Shape := ⟨4, ![8, 36, 128, 128]⟩
abbrev S256x512 : Shape := ⟨2, ![256, 512]⟩
abbrev S4x4x128x128 : Shape := ⟨4, ![4, 4, 128, 128]⟩
abbrev S4x128x128 : Shape := ⟨3, ![4, 128, 128]⟩
abbrev S16x64x128 : Shape := ⟨3, ![16, 64, 128]⟩
abbrev S64x64 : Shape := ⟨2, ![64, 64]⟩
abbrev S64x1 : Shape := ⟨2, ![64, 1]⟩
abbrev S1x128x128 : Shape := ⟨3, ![1, 128, 128]⟩
abbrev S128x128 : Shape := ⟨2, ![128, 128]⟩
abbrev S64x128 : Shape := ⟨2, ![64, 128]⟩
abbrev S1x64x128 : Shape := ⟨3, ![1, 64, 128]⟩
abbrev S1x128 : Shape := ⟨2, ![1, 128]⟩
abbrev S32x128 : Shape := ⟨2, ![32, 128]⟩
abbrev S16x128 : Shape := ⟨2, ![16, 128]⟩
abbrev S8x128 : Shape := ⟨2, ![8, 128]⟩
abbrev S128 : Shape := ⟨1, ![128]⟩
abbrev S1x1x128x128 : Shape := ⟨4, ![1, 1, 128, 128]⟩

abbrev nBuf : Space → Nat
  | .hbm => 51
  | .vmem => 22
  | .smem => 0
  | _ => 0

abbrev bufTy : (tb : Table) → Fin (tcTables nBuf tb) → BufTy
  | .hbm, ⟨0, _⟩ => ⟨S2304x1024, .bf16⟩
  | .hbm, ⟨1, _⟩ => ⟨S2304x1024, .bf16⟩
  | .hbm, ⟨2, _⟩ => ⟨S2304x1024, .bf16⟩
  | .hbm, ⟨3, _⟩ => ⟨S2304x1024, .f32⟩
  | .hbm, ⟨4, _⟩ => ⟨S2304x1024, .f32⟩
  | .hbm, ⟨5, _⟩ => ⟨S2304x1024, .f32⟩
  | .hbm, ⟨6, _⟩ => ⟨S2304x1024, .f32⟩
  | .hbm, ⟨7, _⟩ => ⟨S2304x8x128, .f32⟩
  | .hbm, ⟨8, _⟩ => ⟨S8x2304x128, .f32⟩
  | .hbm, ⟨9, _⟩ => ⟨S2304x8x128, .f32⟩
  | .hbm, ⟨10, _⟩ => ⟨S8x2304x128, .f32⟩
  | .hbm, ⟨11, _⟩ => ⟨S2304x8x128, .f32⟩
  | .hbm, ⟨12, _⟩ => ⟨S8x2304x128, .f32⟩
  | .hbm, ⟨13, _⟩ => ⟨S_, .f32⟩
  | .hbm, ⟨14, _⟩ => ⟨S_, .f32⟩
  | .hbm, ⟨15, _⟩ => ⟨S8x2304x128, .f32⟩
  | .hbm, ⟨16, _⟩ => ⟨S_, .f32⟩
  | .hbm, ⟨17, _⟩ => ⟨S8x1x128, .f32⟩
  | .hbm, ⟨18, _⟩ => ⟨S8x35x128, .f32⟩
  | .hbm, ⟨19, _⟩ => ⟨S8x36x128, .f32⟩
  | .hbm, ⟨20, _⟩ => ⟨S2304, .i32⟩
  | .hbm, ⟨21, _⟩ => ⟨S1x2304, .i32⟩
  | .hbm, ⟨22, _⟩ => ⟨S36, .i32⟩
  | .hbm, ⟨23, _⟩ => ⟨S_, .i32⟩
  | .hbm, ⟨24, _⟩ => ⟨S36, .i32⟩
  | .hbm, ⟨25, _⟩ => ⟨S36, .i32⟩
  | .hbm, ⟨26, _⟩ => ⟨S36x1, .i32⟩
  | .hbm, ⟨27, _⟩ => ⟨S36x2304, .i32⟩
  | .hbm, ⟨28, _⟩ => ⟨S36x2304, .i32⟩
  | .hbm, ⟨29, _⟩ => ⟨S36x2304, .i1⟩
  | .hbm, ⟨30, _⟩ => ⟨S1x36x2304x1, .i1⟩
  | .hbm, ⟨31, _⟩ => ⟨S8x36x1x128, .f32⟩
  | .hbm, ⟨32, _⟩ => ⟨S8x1x2304x128, .f32⟩
  | .hbm, ⟨33, _⟩ => ⟨S8x36x2304x128, .f32⟩
  | .hbm, ⟨34, _⟩ => ⟨S8x36x2304x128, .f32⟩
  | .hbm, ⟨35, _⟩ => ⟨S8x36x2304x128, .f32⟩
  | .hbm, ⟨36, _⟩ => ⟨S_, .f32⟩
  | .hbm, ⟨37, _⟩ => ⟨S_, .f32⟩
  | .hbm, ⟨38, _⟩ => ⟨S8x36x2304x128, .i1⟩
  | .hbm, ⟨39, _⟩ => ⟨S8x36x2304x128, .f32⟩
  | .hbm, ⟨40, _⟩ => ⟨S8x36x2304x128, .f32⟩
  | .hbm, ⟨41, _⟩ => ⟨S8x36x2304x128, .f32⟩
  | .hbm, ⟨42, _⟩ => ⟨S8x1x2304x128, .f32⟩
  | .hbm, ⟨43, _⟩ => ⟨S8x36x2304x128, .f32⟩
  | .hbm, ⟨44, _⟩ => ⟨S8x36x2304x128, .f32⟩
  | .hbm, ⟨45, _⟩ => ⟨S8x128x36x128, .f32⟩
  | .hbm, ⟨46, _⟩ => ⟨S8x36x128x128, .f32⟩
  | .hbm, ⟨47, _⟩ => ⟨S2304x1024, .bf16⟩
  | .hbm, ⟨48, _⟩ => ⟨S2304x1024, .bf16⟩
  | .hbm, ⟨49, _⟩ => ⟨S2304x1024, .bf16⟩
  | .hbm, ⟨50, _⟩ => ⟨S2304x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S4x4x128x128, .f32⟩
  | .local _ .vmem, ⟨11, _⟩ => ⟨S4x4x128x128, .f32⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .f32⟩
  | .local _ .vmem, ⟨19, _⟩ => ⟨S256x512, .f32⟩
  | .local _ .vmem, ⟨20, _⟩ => ⟨S4x128x128, .f32⟩
  | .local _ .vmem, ⟨21, _⟩ => ⟨S16x64x128, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_call0_cst : Ref sig .tc := ⟨.hbm, 13, rfl⟩
abbrev main_call0_call0_v0 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34_0 : Ref sig .tc := ⟨.hbm, 47, rfl⟩
abbrev main_v34_1 : Ref sig .tc := ⟨.hbm, 48, rfl⟩
abbrev main_v34_2 : Ref sig .tc := ⟨.hbm, 49, rfl⟩
abbrev main_v34_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  ![v0.toNat, arg0.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  ![v0.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S2304x1024 : Shape := ⟨2, ![2304, 1024]⟩
abbrev S2304x8x128 : Shape := ⟨3, ![2304, 8, 128]⟩
abbrev S8x2304x128 : Shape := ⟨3, ![8, 2304, 128]⟩
abbrev S_ : Shape := ⟨0, ![]⟩
abbrev S2304x2304 : Shape := ⟨2, ![2304, 2304]⟩
abbrev S1x2304x2304x1 : Shape := ⟨4, ![1, 2304, 2304, 1]⟩
abbrev S8x2304x1x128 : Shape := ⟨4, ![8, 2304, 1, 128]⟩
abbrev S8x1x2304x128 : Shape := ⟨4, ![8, 1, 2304, 128]⟩
abbrev S8x2304x2304x128 : Shape := ⟨4, ![8, 2304, 2304, 128]⟩
abbrev S8x2304x2304 : Shape := ⟨3, ![8, 2304, 2304]⟩
abbrev S8x128x2304 : Shape := ⟨3, ![8, 128, 2304]⟩

abbrev nBuf : Space → Nat
  | .hbm => 107
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x1024, .bf16⟩
  | .hbm, ⟨2, _⟩ => ⟨S2304x1024, .bf16⟩
  | .hbm, ⟨3, _⟩ => ⟨S2304x1024, .f32⟩
  | .hbm, ⟨4, _⟩ => ⟨S2304x1024, .f32⟩
  | .hbm, ⟨5, _⟩ => ⟨S2304x1024, .f32⟩
  | .hbm, ⟨6, _⟩ => ⟨S2304x1024, .f32⟩
  | .hbm, ⟨7, _⟩ => ⟨S2304x1024, .f32⟩
  | .hbm, ⟨8, _⟩ => ⟨S2304x8x128, .f32⟩
  | .hbm, ⟨9, _⟩ => ⟨S8x2304x128, .f32⟩
  | .hbm, ⟨10, _⟩ => ⟨S2304x8x128, .f32⟩
  | .hbm, ⟨11, _⟩ => ⟨S8x2304x128, .f32⟩
  | .hbm, ⟨12, _⟩ => ⟨S2304x8x128, .f32⟩
  | .hbm, ⟨13, _⟩ => ⟨S8x2304x128, .f32⟩
  | .hbm, ⟨14, _⟩ => ⟨S2304x8x128, .f32⟩
  | .hbm, ⟨15, _⟩ => ⟨S8x2304x128, .f32⟩
  | .hbm, ⟨16, _⟩ => ⟨S_, .f32⟩
  | .hbm, ⟨17, _⟩ => ⟨S_, .f32⟩
  | .hbm, ⟨18, _⟩ => ⟨S8x2304x128, .f32⟩
  | .hbm, ⟨19, _⟩ => ⟨S_, .i1⟩
  | .hbm, ⟨20, _⟩ => ⟨S2304x2304, .i1⟩
  | .hbm, ⟨21, _⟩ => ⟨S2304x2304, .i32⟩
  | .hbm, ⟨22, _⟩ => ⟨S_, .i32⟩
  | .hbm, ⟨23, _⟩ => ⟨S2304x2304, .i32⟩
  | .hbm, ⟨24, _⟩ => ⟨S2304x2304, .i32⟩
  | .hbm, ⟨25, _⟩ => ⟨S2304x2304, .i32⟩
  | .hbm, ⟨26, _⟩ => ⟨S2304x2304, .i1⟩
  | .hbm, ⟨27, _⟩ => ⟨S_, .i1⟩
  | .hbm, ⟨28, _⟩ => ⟨S2304x2304, .i1⟩
  | .hbm, ⟨29, _⟩ => ⟨S2304x2304, .i1⟩
  | .hbm, ⟨30, _⟩ => ⟨S1x2304x2304x1, .i1⟩
  | .hbm, ⟨31, _⟩ => ⟨S8x2304x1x128, .f32⟩
  | .hbm, ⟨32, _⟩ => ⟨S8x1x2304x128, .f32⟩
  | .hbm, ⟨33, _⟩ => ⟨S8x2304x2304x128, .f32⟩
  | .hbm, ⟨34, _⟩ => ⟨S8x2304x2304x128, .f32⟩
  | .hbm, ⟨35, _⟩ => ⟨S8x2304x2304x128, .f32⟩
  | .hbm, ⟨36, _⟩ => ⟨S_, .f32⟩
  | .hbm, ⟨37, _⟩ => ⟨S_, .f32⟩
  | .hbm, ⟨38, _⟩ => ⟨S8x2304x2304x128, .i1⟩
  | .hbm, ⟨39, _⟩ => ⟨S8x2304x2304x128, .f32⟩
  | .hbm, ⟨40, _⟩ => ⟨S8x2304x2304x128, .f32⟩
  | .hbm, ⟨41, _⟩ => ⟨S_, .f32⟩
  | .hbm, ⟨42, _⟩ => ⟨S8x2304x2304x128, .f32⟩
  | .hbm, ⟨43, _⟩ => ⟨S8x2304x2304x128, .f32⟩
  | .hbm, ⟨44, _⟩ => ⟨S8x2304x1x128, .f32⟩
  | .hbm, ⟨45, _⟩ => ⟨S8x2304x2304x128, .f32⟩
  | .hbm, ⟨46, _⟩ => ⟨S8x2304x2304x128, .f32⟩
  | .hbm, ⟨47, _⟩ => ⟨S8x1x2304x128, .f32⟩
  | .hbm, ⟨48, _⟩ => ⟨S8x2304x2304x128, .f32⟩
  | .hbm, ⟨49, _⟩ => ⟨S8x2304x2304x128, .f32⟩
  | .hbm, ⟨50, _⟩ => ⟨S_, .f32⟩
  | .hbm, ⟨51, _⟩ => ⟨S8x2304x2304, .f32⟩
  | .hbm, ⟨52, _⟩ => ⟨S8x2304x128, .f32⟩
  | .hbm, ⟨53, _⟩ => ⟨S2304x8x128, .f32⟩
  | .hbm, ⟨54, _⟩ => ⟨S2304x1024, .f32⟩
  | .hbm, ⟨55, _⟩ => ⟨S2304x8x128, .f32⟩
  | .hbm, ⟨56, _⟩ => ⟨S8x2304x128, .f32⟩
  | .hbm, ⟨57, _⟩ => ⟨S8x128x2304, .f32⟩
  | .hbm, ⟨58, _⟩ => ⟨S8x2304x128, .f32⟩
  | .hbm, ⟨59, _⟩ => ⟨S8x2304x2304, .f32⟩
  | .hbm, ⟨60, _⟩ => ⟨S8x2304x2304x128, .f32⟩
  | .hbm, ⟨61, _⟩ => ⟨S8x2304x2304x128, .f32⟩
  | .hbm, ⟨62, _⟩ => ⟨S_, .f32⟩
  | .hbm, ⟨63, _⟩ => ⟨S8x2304x128, .f32⟩
  | .hbm, ⟨64, _⟩ => ⟨S8x1x2304x128, .f32⟩
  | .hbm, ⟨65, _⟩ => ⟨S8x2304x2304x128, .f32⟩
  | .hbm, ⟨66, _⟩ => ⟨S8x2304x2304x128, .f32⟩
  | .hbm, ⟨67, _⟩ => ⟨S_, .f32⟩
  | .hbm, ⟨68, _⟩ => ⟨S8x2304x128, .f32⟩
  | .hbm, ⟨69, _⟩ => ⟨S8x2304x2304x128, .f32⟩
  | .hbm, ⟨70, _⟩ => ⟨S8x2304x2304x128, .f32⟩
  | .hbm, ⟨71, _⟩ => ⟨S8x2304x2304x128, .f32⟩
  | .hbm, ⟨72, _⟩ => ⟨S_, .f32⟩
  | .hbm, ⟨73, _⟩ => ⟨S8x2304x128, .f32⟩
  | .hbm, ⟨74, _⟩ => ⟨S8x2304x1x128, .f32⟩
  | .hbm, ⟨75, _⟩ => ⟨S_, .f32⟩
  | .hbm, ⟨76, _⟩ => ⟨S8x2304x128, .f32⟩
  | .hbm, ⟨77, _⟩ => ⟨S8x2304x2304x128, .f32⟩
  | .hbm, ⟨78, _⟩ => ⟨S_, .f32⟩
  | .hbm, ⟨79, _⟩ => ⟨S8x2304x2304x128, .f32⟩
  | .hbm, ⟨80, _⟩ => ⟨S8x2304x2304x128, .f32⟩
  | .hbm, ⟨81, _⟩ => ⟨S_, .f32⟩
  | .hbm, ⟨82, _⟩ => ⟨S8x2304x128, .f32⟩
  | .hbm, ⟨83, _⟩ => ⟨S8x2304x1x128, .f32⟩
  | .hbm, ⟨84, _⟩ => ⟨S8x2304x2304x128, .f32⟩
  | .hbm, ⟨85, _⟩ => ⟨S_, .f32⟩
  | .hbm, ⟨86, _⟩ => ⟨S8x2304x128, .f32⟩
  | .hbm, ⟨87, _⟩ => ⟨S8x1x2304x128, .f32⟩
  | .hbm, ⟨88, _⟩ => ⟨S_, .f32⟩
  | .hbm, ⟨89, _⟩ => ⟨S8x2304x128, .f32⟩
  | .hbm, ⟨90, _⟩ => ⟨S_, .f32⟩
  | .hbm, ⟨91, _⟩ => ⟨S8x2304x128, .f32⟩
  | .hbm, ⟨92, _⟩ => ⟨S8x2304x128, .f32⟩
  | .hbm, ⟨93, _⟩ => ⟨S_, .f32⟩
  | .hbm, ⟨94, _⟩ => ⟨S_, .f32⟩
  | .hbm, ⟨95, _⟩ => ⟨S8x2304x128, .f32⟩
  | .hbm, ⟨96, _⟩ => ⟨S2304x8x128, .f32⟩
  | .hbm, ⟨97, _⟩ => ⟨S2304x1024, .f32⟩
  | .hbm, ⟨98, _⟩ => ⟨S2304x8x128, .f32⟩
  | .hbm, ⟨99, _⟩ => ⟨S2304x1024, .f32⟩
  | .hbm, ⟨100, _⟩ => ⟨S2304x8x128, .f32⟩
  | .hbm, ⟨101, _⟩ => ⟨S2304x1024, .f32⟩
  | .hbm, ⟨102, _⟩ => ⟨S2304x8x128, .f32⟩
  | .hbm, ⟨103, _⟩ => ⟨S2304x1024, .f32⟩
  | .hbm, ⟨104, _⟩ => ⟨S2304x1024, .bf16⟩
  | .hbm, ⟨105, _⟩ => ⟨S2304x1024, .bf16⟩
  | .hbm, ⟨106, _⟩ => ⟨S2304x1024, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_call1_v0 : Ref sig .tc := ⟨.hbm, 21, rfl⟩
abbrev main_call1_c : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_c_0 : Ref sig .tc := ⟨.hbm, 27, rfl⟩
abbrev main_call1_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_call2_v0 : Ref sig .tc := ⟨.hbm, 37, rfl⟩
abbrev main_v20_1 : Ref sig .tc := ⟨.hbm, 38, rfl⟩
abbrev main_call2_v2 : Ref sig .tc := ⟨.hbm, 39, rfl⟩
abbrev main_v20_0 : Ref sig .tc := ⟨.hbm, 40, rfl⟩
abbrev main_call2_cst : Ref sig .tc := ⟨.hbm, 41, rfl⟩
abbrev main_v20_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_1 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_2 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_3 : Ref sig .tc := ⟨.hbm, 72, rfl⟩
abbrev main_v47 : Ref sig .tc := ⟨.hbm, 73, rfl⟩
abbrev main_v48 : Ref sig .tc := ⟨.hbm, 74, rfl⟩
abbrev main_cst_4 : Ref sig .tc := ⟨.hbm, 75, rfl⟩
abbrev main_v49 : Ref sig .tc := ⟨.hbm, 76, rfl⟩
abbrev main_v50 : Ref sig .tc := ⟨.hbm, 77, rfl⟩
abbrev main_call3_cst : Ref sig .tc := ⟨.hbm, 78, rfl⟩
abbrev main_call3_v0 : Ref sig .tc := ⟨.hbm, 79, rfl⟩
abbrev main_v51 : Ref sig .tc := ⟨.hbm, 80, rfl⟩
abbrev main_cst_5 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_6 : Ref sig .tc := ⟨.hbm, 85, rfl⟩
abbrev main_v55 : Ref sig .tc := ⟨.hbm, 86, rfl⟩
abbrev main_v56 : Ref sig .tc := ⟨.hbm, 87, rfl⟩
abbrev main_cst_7 : Ref sig .tc := ⟨.hbm, 88, rfl⟩
abbrev main_v57 : Ref sig .tc := ⟨.hbm, 89, rfl⟩
abbrev main_cst_8 : Ref sig .tc := ⟨.hbm, 90, rfl⟩
abbrev main_v58 : Ref sig .tc := ⟨.hbm, 91, rfl⟩
abbrev main_v59 : Ref sig .tc := ⟨.hbm, 92, rfl⟩
abbrev main_call4_call0_cst : Ref sig .tc := ⟨.hbm, 93, rfl⟩
abbrev main_call4_call0_v0 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩

abbrev nD : Nat := 1
abbrev τ : Topo := Topo.v7x

variable {F : FTy → Type} [FloatOps F]
-- ==== InGradA.lean ====
abbrev S2304x1024 : Shape := ⟨2, ![2304, 1024]⟩
abbrev S2304x7168 : Shape := ⟨2, ![2304, 7168]⟩
abbrev S512x7168 : Shape := ⟨2, ![512, 7168]⟩
abbrev S2304x512 : Shape := ⟨2, ![2304, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2304x1024, .bf16⟩
  | .hbm, ⟨1, _⟩ => ⟨S2304x7168, .bf16⟩
  | .hbm, ⟨2, _⟩ => ⟨S512x7168, .bf16⟩
  | .local _ .vmem, ⟨0, _⟩ => ⟨S2304x512, .bf16⟩
  | .local _ .vmem, ⟨1, _⟩ => ⟨S2304x1024, .bf16⟩
  | .local _ .vmem, ⟨2, _⟩ => ⟨S2304x1024, .bf16⟩
  | .local _ .vmem, ⟨3, _⟩ => ⟨S512x1024, .bf16⟩
  | .local _ .vmem, ⟨4, _⟩ => ⟨S512x1024, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGradARefIdeal.lean ====
abbrev S2304x1024 : Shape := ⟨2, ![2304, 1024]⟩
abbrev S2304x7168 : Shape := ⟨2, ![2304, 7168]⟩
abbrev S_ : Shape := ⟨0, ![]⟩
abbrev S1024x7168 : Shape := ⟨2, ![1024, 7168]⟩
abbrev S7168x1024 : Shape := ⟨2, ![7168, 1024]⟩
abbrev S512x7168 : Shape := ⟨2, ![512, 7168]⟩

abbrev nBuf : Space → Nat
  | .hbm => 11
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x7168, .bf16⟩
  | .hbm, ⟨2, _⟩ => ⟨S2304x1024, .f32⟩
  | .hbm, ⟨3, _⟩ => ⟨S2304x7168, .f32⟩
  | .hbm, ⟨4, _⟩ => ⟨S_, .f32⟩
  | .hbm, ⟨5, _⟩ => ⟨S1024x7168, .f32⟩
  | .hbm, ⟨6, _⟩ => ⟨S2304x7168, .f32⟩
  | .hbm, ⟨7, _⟩ => ⟨S7168x1024, .f32⟩
  | .hbm, ⟨8, _⟩ => ⟨S1024x7168, .f32⟩
  | .hbm, ⟨9, _⟩ => ⟨S512x7168, .f32⟩
  | .hbm, ⟨10, _⟩ => ⟨S512x7168, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InGradB.lean ====
abbrev S2304x1024 : Shape := ⟨2, ![2304, 1024]⟩
abbrev S2304x7168 : Shape := ⟨2, ![2304, 7168]⟩
abbrev S512x7168 : Shape := ⟨2, ![512, 7168]⟩
abbrev S2304x512 : Shape := ⟨2, ![2304, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2304x1024, .bf16⟩
  | .hbm, ⟨1, _⟩ => ⟨S2304x7168, .bf16⟩
  | .hbm, ⟨2, _⟩ => ⟨S512x7168, .bf16⟩
  | .local _ .vmem, ⟨0, _⟩ => ⟨S2304x512, .bf16⟩
  | .local _ .vmem, ⟨1, _⟩ => ⟨S2304x1024, .bf16⟩
  | .local _ .vmem, ⟨2, _⟩ => ⟨S2304x1024, .bf16⟩
  | .local _ .vmem, ⟨3, _⟩ => ⟨S512x1024, .bf16⟩
  | .local _ .vmem, ⟨4, _⟩ => ⟨S512x1024, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGradBRefIdeal.lean ====
abbrev S2304x1024 : Shape := ⟨2, ![2304, 1024]⟩
abbrev S2304x7168 : Shape := ⟨2, ![2304, 7168]⟩
abbrev S_ : Shape := ⟨0, ![]⟩
abbrev S1024x7168 : Shape := ⟨2, ![1024, 7168]⟩
abbrev S7168x1024 : Shape := ⟨2, ![7168, 1024]⟩
abbrev S512x7168 : Shape := ⟨2, ![512, 7168]⟩

abbrev nBuf : Space → Nat
  | .hbm => 11
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x7168, .bf16⟩
  | .hbm, ⟨2, _⟩ => ⟨S2304x1024, .f32⟩
  | .hbm, ⟨3, _⟩ => ⟨S2304x7168, .f32⟩
  | .hbm, ⟨4, _⟩ => ⟨S_, .f32⟩
  | .hbm, ⟨5, _⟩ => ⟨S1024x7168, .f32⟩
  | .hbm, ⟨6, _⟩ => ⟨S2304x7168, .f32⟩
  | .hbm, ⟨7, _⟩ => ⟨S7168x1024, .f32⟩
  | .hbm, ⟨8, _⟩ => ⟨S1024x7168, .f32⟩
  | .hbm, ⟨9, _⟩ => ⟨S512x7168, .f32⟩
  | .hbm, ⟨10, _⟩ => ⟨S512x7168, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InBack.lean ====
abbrev S2304x7168 : Shape := ⟨2, ![2304, 7168]⟩
abbrev S1024x7168 : Shape := ⟨2, ![1024, 7168]⟩
abbrev S2304x1024 : Shape := ⟨2, ![2304, 1024]⟩
abbrev S1152x3584 : Shape := ⟨2, ![1152, 3584]⟩
abbrev S512x3584 : Shape := ⟨2, ![512, 3584]⟩
abbrev S1152x512 : Shape := ⟨2, ![1152, 512]⟩

abbrev nBuf : Space → Nat
  | .hbm => 3
  | .vmem => 7
  | .smem => 0
  | _ => 0

abbrev bufTy : (tb : Table) → Fin (tcTables nBuf tb) → BufTy
  | .hbm, ⟨0, _⟩ => ⟨S2304x7168, .bf16⟩
  | .hbm, ⟨1, _⟩ => ⟨S1024x7168, .bf16⟩
  | .hbm, ⟨2, _⟩ => ⟨S2304x1024, .bf16⟩
  | .local _ .vmem, ⟨0, _⟩ => ⟨S1152x3584, .bf16⟩
  | .local _ .vmem, ⟨1, _⟩ => ⟨S1152x3584, .bf16⟩
  | .local _ .vmem, ⟨2, _⟩ => ⟨S512x3584, .bf16⟩
  | .local _ .vmem, ⟨3, _⟩ => ⟨S512x3584, .bf16⟩
  | .local _ .vmem, ⟨4, _⟩ => ⟨S1152x512, .bf16⟩
  | .local _ .vmem, ⟨5, _⟩ => ⟨S1152x512, .bf16⟩
  | .local _ .vmem, ⟨6, _⟩ => ⟨S1152x512, .f32⟩
  | _, _ => ⟨S2304x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBackRefIdeal.lean ====
abbrev S2304x7168 : Shape := ⟨2, ![2304, 7168]⟩
abbrev S1024x7168 : Shape := ⟨2, ![1024, 7168]⟩
abbrev S_ : Shape := ⟨0, ![]⟩
abbrev S2304x1024 : Shape := ⟨2, ![2304, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2304x7168, .bf16⟩
  | .hbm, ⟨1, _⟩ => ⟨S1024x7168, .bf16⟩
  | .hbm, ⟨2, _⟩ => ⟨S2304x7168, .f32⟩
  | .hbm, ⟨3, _⟩ => ⟨S1024x7168, .f32⟩
  | .hbm, ⟨4, _⟩ => ⟨S_, .f32⟩
  | .hbm, ⟨5, _⟩ => ⟨S2304x1024, .f32⟩
  | .hbm, ⟨6, _⟩ => ⟨S2304x7168, .f32⟩
  | .hbm, ⟨7, _⟩ => ⟨S2304x1024, .f32⟩
  | .hbm, ⟨8, _⟩ => ⟨S2304x1024, .bf16⟩
  | _, _ => ⟨S2304x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnBack.lean ====
abbrev S2304x2816 : Shape := ⟨2, ![2304, 2816]⟩
abbrev S2816x1024 : Shape := ⟨2, ![2816, 1024]⟩
abbrev S2304x1024 : Shape := ⟨2, ![2304, 1024]⟩
abbrev S1152x2816 : Shape := ⟨2, ![1152, 2816]⟩
abbrev S2816x512 : Shape := ⟨2, ![2816, 512]⟩
abbrev S1152x512 : Shape := ⟨2, ![1152, 512]⟩

abbrev nBuf : Space → Nat
  | .hbm => 5
  | .vmem => 11
  | .smem => 0
  | _ => 0

abbrev bufTy : (tb : Table) → Fin (tcTables nBuf tb) → BufTy
  | .hbm, ⟨0, _⟩ => ⟨S2304x2816, .bf16⟩
  | .hbm, ⟨1, _⟩ => ⟨S2304x2816, .bf16⟩
  | .hbm, ⟨2, _⟩ => ⟨S2816x1024, .bf16⟩
  | .hbm, ⟨3, _⟩ => ⟨S2816x1024, .bf16⟩
  | .hbm, ⟨4, _⟩ => ⟨S2304x1024, .bf16⟩
  | .local _ .vmem, ⟨0, _⟩ => ⟨S1152x2816, .bf16⟩
  | .local _ .vmem, ⟨1, _⟩ => ⟨S1152x2816, .bf16⟩
  | .local _ .vmem, ⟨2, _⟩ => ⟨S1152x2816, .bf16⟩
  | .local _ .vmem, ⟨3, _⟩ => ⟨S1152x2816, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .bf16⟩
  | .local _ .vmem, ⟨7, _⟩ => ⟨S2816x512, .bf16⟩
  | .local _ .vmem, ⟨8, _⟩ => ⟨S1152x512, .bf16⟩
  | .local _ .vmem, ⟨9, _⟩ => ⟨S1152x512, .bf16⟩
  | .local _ .vmem, ⟨10, _⟩ => ⟨S1152x512, .f32⟩
  | _, _ => ⟨S2304x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_11 : BitVec 32 := 1#32
  let v15 : BitVec 1 := Scalar.cmpi .eq arg2 c1_i32_11
  let v16 : BitVec 32 := Scalar.extui v15
  let c0_i32_12 : BitVec 32 := 0#32
  let v17 : BitVec 1 := Scalar.cmpi .ne v16 c0_i32_12
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1152x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnBackRefIdeal.lean ====
abbrev S2304x2816 : Shape := ⟨2, ![2304, 2816]⟩
abbrev S2816x1024 : Shape := ⟨2, ![2816, 1024]⟩
abbrev S1024x2816 : Shape := ⟨2, ![1024, 2816]⟩
abbrev S_ : Shape := ⟨0, ![]⟩
abbrev S2304x1024 : Shape := ⟨2, ![2304, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2304x2816, .bf16⟩
  | .hbm, ⟨1, _⟩ => ⟨S2304x2816, .bf16⟩
  | .hbm, ⟨2, _⟩ => ⟨S2816x1024, .bf16⟩
  | .hbm, ⟨3, _⟩ => ⟨S2816x1024, .bf16⟩
  | .hbm, ⟨4, _⟩ => ⟨S1024x2816, .bf16⟩
  | .hbm, ⟨5, _⟩ => ⟨S1024x2816, .bf16⟩
  | .hbm, ⟨6, _⟩ => ⟨S2304x2816, .f32⟩
  | .hbm, ⟨7, _⟩ => ⟨S2304x2816, .f32⟩
  | .hbm, ⟨8, _⟩ => ⟨S1024x2816, .f32⟩
  | .hbm, ⟨9, _⟩ => ⟨S1024x2816, .f32⟩
  | .hbm, ⟨10, _⟩ => ⟨S_, .f32⟩
  | .hbm, ⟨11, _⟩ => ⟨S2304x1024, .f32⟩
  | .hbm, ⟨12, _⟩ => ⟨S2304x2816, .f32⟩
  | .hbm, ⟨13, _⟩ => ⟨S2304x2816, .f32⟩
  | .hbm, ⟨14, _⟩ => ⟨S2304x1024, .f32⟩
  | .hbm, ⟨15, _⟩ => ⟨S2304x1024, .f32⟩
  | .hbm, ⟨16, _⟩ => ⟨S2304x1024, .f32⟩
  | .hbm, ⟨17, _⟩ => ⟨S2304x1024, .bf16⟩
  | _, _ => ⟨S2304x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GateGrad.lean ====
abbrev S2304x2816 : Shape := ⟨2, ![2304, 2816]⟩
abbrev S2304x1024 : Shape := ⟨2, ![2304, 1024]⟩
abbrev S2816x1024 : Shape := ⟨2, ![2816, 1024]⟩
abbrev S2304x1408 : Shape := ⟨2, ![2304, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2304x2816, .bf16⟩
  | .hbm, ⟨1, _⟩ => ⟨S2304x1024, .bf16⟩
  | .hbm, ⟨2, _⟩ => ⟨S2816x1024, .bf16⟩
  | .local _ .vmem, ⟨0, _⟩ => ⟨S2304x1408, .bf16⟩
  | .local _ .vmem, ⟨1, _⟩ => ⟨S2304x1408, .bf16⟩
  | .local _ .vmem, ⟨2, _⟩ => ⟨S2304x1024, .bf16⟩
  | .local _ .vmem, ⟨3, _⟩ => ⟨S1408x1024, .bf16⟩
  | .local _ .vmem, ⟨4, _⟩ => ⟨S1408x1024, .bf16⟩
  | _, _ => ⟨S2304x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateGradRefIdeal.lean ====
abbrev S2304x2816 : Shape := ⟨2, ![2304, 2816]⟩
abbrev S2304x1024 : Shape := ⟨2, ![2304, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2304x2816, .bf16⟩
  | .hbm, ⟨1, _⟩ => ⟨S2304x1024, .bf16⟩
  | .hbm, ⟨2, _⟩ => ⟨S2304x1024, .f32⟩
  | .hbm, ⟨3, _⟩ => ⟨S2304x2816, .f32⟩
  | .hbm, ⟨4, _⟩ => ⟨S_, .f32⟩
  | .hbm, ⟨5, _⟩ => ⟨S1024x2816, .f32⟩
  | .hbm, ⟨6, _⟩ => ⟨S2304x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S2304x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpGrad.lean ====
abbrev S2304x2816 : Shape := ⟨2, ![2304, 2816]⟩
abbrev S2304x1024 : Shape := ⟨2, ![2304, 1024]⟩
abbrev S2816x1024 : Shape := ⟨2, ![2816, 1024]⟩
abbrev S2304x1408 : Shape := ⟨2, ![2304, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2304x2816, .bf16⟩
  | .hbm, ⟨1, _⟩ => ⟨S2304x1024, .bf16⟩
  | .hbm, ⟨2, _⟩ => ⟨S2816x1024, .bf16⟩
  | .local _ .vmem, ⟨0, _⟩ => ⟨S2304x1408, .bf16⟩
  | .local _ .vmem, ⟨1, _⟩ => ⟨S2304x1408, .bf16⟩
  | .local _ .vmem, ⟨2, _⟩ => ⟨S2304x1024, .bf16⟩
  | .local _ .vmem, ⟨3, _⟩ => ⟨S1408x1024, .bf16⟩
  | .local _ .vmem, ⟨4, _⟩ => ⟨S1408x1024, .bf16⟩
  | _, _ => ⟨S2304x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradRefIdeal.lean ====
abbrev S2304x2816 : Shape := ⟨2, ![2304, 2816]⟩
abbrev S2304x1024 : Shape := ⟨2, ![2304, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2304x2816, .bf16⟩
  | .hbm, ⟨1, _⟩ => ⟨S2304x1024, .bf16⟩
  | .hbm, ⟨2, _⟩ => ⟨S2304x1024, .f32⟩
  | .hbm, ⟨3, _⟩ => ⟨S2304x2816, .f32⟩
  | .hbm, ⟨4, _⟩ => ⟨S_, .f32⟩
  | .hbm, ⟨5, _⟩ => ⟨S1024x2816, .f32⟩
  | .hbm, ⟨6, _⟩ => ⟨S2304x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S2304x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownGrad.lean ====
abbrev S2304x2816 : Shape := ⟨2, ![2304, 2816]⟩
abbrev S2304x1024 : Shape := ⟨2, ![2304, 1024]⟩
abbrev S2816x1024 : Shape := ⟨2, ![2816, 1024]⟩
abbrev S2304x1408 : Shape := ⟨2, ![2304, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2304x2816, .bf16⟩
  | .hbm, ⟨1, _⟩ => ⟨S2304x1024, .bf16⟩
  | .hbm, ⟨2, _⟩ => ⟨S2816x1024, .bf16⟩
  | .local _ .vmem, ⟨0, _⟩ => ⟨S2304x1408, .bf16⟩
  | .local _ .vmem, ⟨1, _⟩ => ⟨S2304x1408, .bf16⟩
  | .local _ .vmem, ⟨2, _⟩ => ⟨S2304x1024, .bf16⟩
  | .local _ .vmem, ⟨3, _⟩ => ⟨S1408x1024, .bf16⟩
  | .local _ .vmem, ⟨4, _⟩ => ⟨S1408x1024, .bf16⟩
  | _, _ => ⟨S2304x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradRefIdeal.lean ====
abbrev S2304x2816 : Shape := ⟨2, ![2304, 2816]⟩
abbrev S2304x1024 : Shape := ⟨2, ![2304, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2304x2816, .bf16⟩
  | .hbm, ⟨1, _⟩ => ⟨S2304x1024, .bf16⟩
  | .hbm, ⟨2, _⟩ => ⟨S2304x2816, .f32⟩
  | .hbm, ⟨3, _⟩ => ⟨S2304x1024, .f32⟩
  | .hbm, ⟨4, _⟩ => ⟨S_, .f32⟩
  | .hbm, ⟨5, _⟩ => ⟨S2816x1024, .f32⟩
  | .hbm, ⟨6, _⟩ => ⟨S2304x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2304x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ActBack.lean ====
abbrev S2304x1024 : Shape := ⟨2, ![2304, 1024]⟩
abbrev S2816x1024 : Shape := ⟨2, ![2816, 1024]⟩
abbrev S2304x2816 : Shape := ⟨2, ![2304, 2816]⟩
abbrev S1152x1024 : Shape := ⟨2, ![1152, 1024]⟩
abbrev S1408x1024 : Shape := ⟨2, ![1408, 1024]⟩
abbrev S1152x1408 : Shape := ⟨2, ![1152, 1408]⟩

abbrev nBuf : Space → Nat
  | .hbm => 6
  | .vmem => 12
  | .smem => 0
  | _ => 0

abbrev bufTy : (tb : Table) → Fin (tcTables nBuf tb) → BufTy
  | .hbm, ⟨0, _⟩ => ⟨S2304x1024, .bf16⟩
  | .hbm, ⟨1, _⟩ => ⟨S2816x1024, .bf16⟩
  | .hbm, ⟨2, _⟩ => ⟨S2304x2816, .bf16⟩
  | .hbm, ⟨3, _⟩ => ⟨S2304x2816, .bf16⟩
  | .hbm, ⟨4, _⟩ => ⟨S2304x2816, .bf16⟩
  | .hbm, ⟨5, _⟩ => ⟨S2304x2816, .bf16⟩
  | .local _ .vmem, ⟨0, _⟩ => ⟨S1152x1024, .bf16⟩
  | .local _ .vmem, ⟨1, _⟩ => ⟨S1152x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1152x1408, .bf16⟩
  | .local _ .vmem, ⟨5, _⟩ => ⟨S1152x1408, .bf16⟩
  | .local _ .vmem, ⟨6, _⟩ => ⟨S1152x1408, .bf16⟩
  | .local _ .vmem, ⟨7, _⟩ => ⟨S1152x1408, .bf16⟩
  | .local _ .vmem, ⟨8, _⟩ => ⟨S1152x1408, .bf16⟩
  | .local _ .vmem, ⟨9, _⟩ => ⟨S1152x1408, .bf16⟩
  | .local _ .vmem, ⟨10, _⟩ => ⟨S1152x1408, .bf16⟩
  | .local _ .vmem, ⟨11, _⟩ => ⟨S1152x1408, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1152x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1152x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1152x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActBackRefIdeal.lean ====
abbrev S2304x1024 : Shape := ⟨2, ![2304, 1024]⟩
abbrev S2816x1024 : Shape := ⟨2, ![2816, 1024]⟩
abbrev S2304x2816 : Shape := ⟨2, ![2304, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2816x1024, .bf16⟩
  | .hbm, ⟨2, _⟩ => ⟨S2304x2816, .bf16⟩
  | .hbm, ⟨3, _⟩ => ⟨S2304x2816, .bf16⟩
  | .hbm, ⟨4, _⟩ => ⟨S2304x1024, .f32⟩
  | .hbm, ⟨5, _⟩ => ⟨S2816x1024, .f32⟩
  | .hbm, ⟨6, _⟩ => ⟨S2304x2816, .f32⟩
  | .hbm, ⟨7, _⟩ => ⟨S2304x2816, .f32⟩
  | .hbm, ⟨8, _⟩ => ⟨S2304x2816, .f32⟩
  | .hbm, ⟨9, _⟩ => ⟨S2304x2816, .f32⟩
  | .hbm, ⟨10, _⟩ => ⟨S_, .f32⟩
  | .hbm, ⟨11, _⟩ => ⟨S2304x2816, .f32⟩
  | .hbm, ⟨12, _⟩ => ⟨S2304x2816, .f32⟩
  | .hbm, ⟨13, _⟩ => ⟨S_, .f32⟩
  | .hbm, ⟨14, _⟩ => ⟨S2304x2816, .f32⟩
  | .hbm, ⟨15, _⟩ => ⟨S2304x2816, .f32⟩
  | .hbm, ⟨16, _⟩ => ⟨S_, .f32⟩
  | .hbm, ⟨17, _⟩ => ⟨S2304x2816, .f32⟩
  | .hbm, ⟨18, _⟩ => ⟨S2304x2816, .f32⟩
  | .hbm, ⟨19, _⟩ => ⟨S2304x2816, .f32⟩
  | .hbm, ⟨20, _⟩ => ⟨S2304x2816, .f32⟩
  | .hbm, ⟨21, _⟩ => ⟨S2304x2816, .f32⟩
  | .hbm, ⟨22, _⟩ => ⟨S2304x1024, .f32⟩
  | .hbm, ⟨23, _⟩ => ⟨S2304x2816, .f32⟩
  | .hbm, ⟨24, _⟩ => ⟨S2304x2816, .f32⟩
  | .hbm, ⟨25, _⟩ => ⟨S2304x2816, .f32⟩
  | .hbm, ⟨26, _⟩ => ⟨S2304x2816, .f32⟩
  | .hbm, ⟨27, _⟩ => ⟨S2304x2816, .f32⟩
  | .hbm, ⟨28, _⟩ => ⟨S2304x2816, .f32⟩
  | .hbm, ⟨29, _⟩ => ⟨S2304x2816, .f32⟩
  | .hbm, ⟨30, _⟩ => ⟨S2304x2816, .bf16⟩
  | .hbm, ⟨31, _⟩ => ⟨S2304x2816, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== OutBack.lean ====
abbrev S2304x1024 : Shape := ⟨2, ![2304, 1024]⟩
abbrev S1152x1024 : Shape := ⟨2, ![1152, 1024]⟩
abbrev S2304x1152 : Shape := ⟨2, ![2304, 1152]⟩
abbrev S1152x1152 : Shape := ⟨2, ![1152, 1152]⟩

abbrev nBuf : Space → Nat
  | .hbm => 3
  | .vmem => 5
  | .smem => 0
  | _ => 0

abbrev bufTy : (tb : Table) → Fin (tcTables nBuf tb) → BufTy
  | .hbm, ⟨0, _⟩ => ⟨S2304x1024, .bf16⟩
  | .hbm, ⟨1, _⟩ => ⟨S1152x1024, .bf16⟩
  | .hbm, ⟨2, _⟩ => ⟨S2304x1152, .bf16⟩
  | .local _ .vmem, ⟨0, _⟩ => ⟨S1152x1024, .bf16⟩
  | .local _ .vmem, ⟨1, _⟩ => ⟨S1152x1024, .bf16⟩
  | .local _ .vmem, ⟨2, _⟩ => ⟨S1152x1024, .bf16⟩
  | .local _ .vmem, ⟨3, _⟩ => ⟨S1152x1152, .bf16⟩
  | .local _ .vmem, ⟨4, _⟩ => ⟨S1152x1152, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1152x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBackRefIdeal.lean ====
abbrev S2304x1024 : Shape := ⟨2, ![2304, 1024]⟩
abbrev S1152x1024 : Shape := ⟨2, ![1152, 1024]⟩
abbrev S_ : Shape := ⟨0, ![]⟩
abbrev S2304x1152 : Shape := ⟨2, ![2304, 1152]⟩

abbrev nBuf : Space → Nat
  | .hbm => 9
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S1152x1024, .bf16⟩
  | .hbm, ⟨2, _⟩ => ⟨S2304x1024, .f32⟩
  | .hbm, ⟨3, _⟩ => ⟨S1152x1024, .f32⟩
  | .hbm, ⟨4, _⟩ => ⟨S_, .f32⟩
  | .hbm, ⟨5, _⟩ => ⟨S2304x1152, .f32⟩
  | .hbm, ⟨6, _⟩ => ⟨S2304x1024, .f32⟩
  | .hbm, ⟨7, _⟩ => ⟨S2304x1152, .f32⟩
  | .hbm, ⟨8, _⟩ => ⟨S2304x1152, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutGrad.lean ====
abbrev S2304x1152 : Shape := ⟨2, ![2304, 1152]⟩
abbrev S2304x1024 : Shape := ⟨2, ![2304, 1024]⟩
abbrev S1152x1024 : Shape := ⟨2, ![1152, 1024]⟩
abbrev S2304x512 : Shape := ⟨2, ![2304, 512]⟩
abbrev S1152x512 : Shape := ⟨2, ![1152, 512]⟩

abbrev nBuf : Space → Nat
  | .hbm => 3
  | .vmem => 5
  | .smem => 0
  | _ => 0

abbrev bufTy : (tb : Table) → Fin (tcTables nBuf tb) → BufTy
  | .hbm, ⟨0, _⟩ => ⟨S2304x1152, .bf16⟩
  | .hbm, ⟨1, _⟩ => ⟨S2304x1024, .bf16⟩
  | .hbm, ⟨2, _⟩ => ⟨S1152x1024, .bf16⟩
  | .local _ .vmem, ⟨0, _⟩ => ⟨S2304x1152, .bf16⟩
  | .local _ .vmem, ⟨1, _⟩ => ⟨S2304x512, .bf16⟩
  | .local _ .vmem, ⟨2, _⟩ => ⟨S2304x512, .bf16⟩
  | .local _ .vmem, ⟨3, _⟩ => ⟨S1152x512, .bf16⟩
  | .local _ .vmem, ⟨4, _⟩ => ⟨S1152x512, .bf16⟩
  | _, _ => ⟨S2304x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGradRefIdeal.lean ====
abbrev S2304x1152 : Shape := ⟨2, ![2304, 1152]⟩
abbrev S2304x1024 : Shape := ⟨2, ![2304, 1024]⟩
abbrev S_ : Shape := ⟨0, ![]⟩
abbrev S1152x1024 : Shape := ⟨2, ![1152, 1024]⟩
abbrev S1024x1152 : Shape := ⟨2, ![1024, 1152]⟩

abbrev nBuf : Space → Nat
  | .hbm => 10
  | .vmem => 0
  | .smem => 0
  | _ => 0

abbrev bufTy : (tb : Table) → Fin (tcTables nBuf tb) → BufTy
  | .hbm, ⟨0, _⟩ => ⟨S2304x1152, .bf16⟩
  | .hbm, ⟨1, _⟩ => ⟨S2304x1024, .bf16⟩
  | .hbm, ⟨2, _⟩ => ⟨S2304x1152, .f32⟩
  | .hbm, ⟨3, _⟩ => ⟨S2304x1024, .f32⟩
  | .hbm, ⟨4, _⟩ => ⟨S_, .f32⟩
  | .hbm, ⟨5, _⟩ => ⟨S1152x1024, .f32⟩
  | .hbm, ⟨6, _⟩ => ⟨S2304x1024, .f32⟩
  | .hbm, ⟨7, _⟩ => ⟨S1024x1152, .f32⟩
  | .hbm, ⟨8, _⟩ => ⟨S1152x1024, .f32⟩
  | .hbm, ⟨9, _⟩ => ⟨S1152x1024, .bf16⟩
  | _, _ => ⟨S2304x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== HgGrad.lean ====
abbrev S2304x1024 : Shape := ⟨2, ![2304, 1024]⟩
abbrev S2304x1152 : Shape := ⟨2, ![2304, 1152]⟩
abbrev S512x1152 : Shape := ⟨2, ![512, 1152]⟩
abbrev S2304x512 : Shape := ⟨2, ![2304, 512]⟩

abbrev nBuf : Space → Nat
  | .hbm => 3
  | .vmem => 3
  | .smem => 0
  | _ => 0

abbrev bufTy : (tb : Table) → Fin (tcTables nBuf tb) → BufTy
  | .hbm, ⟨0, _⟩ => ⟨S2304x1024, .bf16⟩
  | .hbm, ⟨1, _⟩ => ⟨S2304x1152, .bf16⟩
  | .hbm, ⟨2, _⟩ => ⟨S512x1152, .bf16⟩
  | .local _ .vmem, ⟨0, _⟩ => ⟨S2304x512, .bf16⟩
  | .local _ .vmem, ⟨1, _⟩ => ⟨S2304x1152, .bf16⟩
  | .local _ .vmem, ⟨2, _⟩ => ⟨S512x1152, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2304x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== HgGradRefIdeal.lean ====
abbrev S2304x1024 : Shape := ⟨2, ![2304, 1024]⟩
abbrev S2304x1152 : Shape := ⟨2, ![2304, 1152]⟩
abbrev S2304x512 : Shape := ⟨2, ![2304, 512]⟩
abbrev S_ : Shape := ⟨0, ![]⟩
abbrev S512x1152 : Shape := ⟨2, ![512, 1152]⟩
abbrev S1152x512 : Shape := ⟨2, ![1152, 512]⟩

abbrev nBuf : Space → Nat
  | .hbm => 11
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x1152, .bf16⟩
  | .hbm, ⟨2, _⟩ => ⟨S2304x512, .bf16⟩
  | .hbm, ⟨3, _⟩ => ⟨S2304x512, .f32⟩
  | .hbm, ⟨4, _⟩ => ⟨S2304x1152, .f32⟩
  | .hbm, ⟨5, _⟩ => ⟨S_, .f32⟩
  | .hbm, ⟨6, _⟩ => ⟨S512x1152, .f32⟩
  | .hbm, ⟨7, _⟩ => ⟨S2304x1152, .f32⟩
  | .hbm, ⟨8, _⟩ => ⟨S1152x512, .f32⟩
  | .hbm, ⟨9, _⟩ => ⟨S512x1152, .f32⟩
  | .hbm, ⟨10, _⟩ => ⟨S512x1152, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GlaGrad.lean ====
abbrev S2304x1024 : Shape := ⟨2, ![2304, 1024]⟩
abbrev S2304x1152 : Shape := ⟨2, ![2304, 1152]⟩
abbrev S512x1152 : Shape := ⟨2, ![512, 1152]⟩
abbrev S2304x512 : Shape := ⟨2, ![2304, 512]⟩

abbrev nBuf : Space → Nat
  | .hbm => 3
  | .vmem => 3
  | .smem => 0
  | _ => 0

abbrev bufTy : (tb : Table) → Fin (tcTables nBuf tb) → BufTy
  | .hbm, ⟨0, _⟩ => ⟨S2304x1024, .bf16⟩
  | .hbm, ⟨1, _⟩ => ⟨S2304x1152, .bf16⟩
  | .hbm, ⟨2, _⟩ => ⟨S512x1152, .bf16⟩
  | .local _ .vmem, ⟨0, _⟩ => ⟨S2304x512, .bf16⟩
  | .local _ .vmem, ⟨1, _⟩ => ⟨S2304x1152, .bf16⟩
  | .local _ .vmem, ⟨2, _⟩ => ⟨S512x1152, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2304x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GlaGradRefIdeal.lean ====
abbrev S2304x1024 : Shape := ⟨2, ![2304, 1024]⟩
abbrev S2304x1152 : Shape := ⟨2, ![2304, 1152]⟩
abbrev S2304x512 : Shape := ⟨2, ![2304, 512]⟩
abbrev S_ : Shape := ⟨0, ![]⟩
abbrev S512x1152 : Shape := ⟨2, ![512, 1152]⟩
abbrev S1152x512 : Shape := ⟨2, ![1152, 512]⟩

abbrev nBuf : Space → Nat
  | .hbm => 11
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x1152, .bf16⟩
  | .hbm, ⟨2, _⟩ => ⟨S2304x512, .bf16⟩
  | .hbm, ⟨3, _⟩ => ⟨S2304x512, .f32⟩
  | .hbm, ⟨4, _⟩ => ⟨S2304x1152, .f32⟩
  | .hbm, ⟨5, _⟩ => ⟨S_, .f32⟩
  | .hbm, ⟨6, _⟩ => ⟨S512x1152, .f32⟩
  | .hbm, ⟨7, _⟩ => ⟨S2304x1152, .f32⟩
  | .hbm, ⟨8, _⟩ => ⟨S1152x512, .f32⟩
  | .hbm, ⟨9, _⟩ => ⟨S512x1152, .f32⟩
  | .hbm, ⟨10, _⟩ => ⟨S512x1152, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InFwd.lean ====
abbrev S2304x1024 : Shape := ⟨2, ![2304, 1024]⟩
abbrev S1024x7168 : Shape := ⟨2, ![1024, 7168]⟩
abbrev S2304x7168 : Shape := ⟨2, ![2304, 7168]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2304x1024, .bf16⟩
  | .hbm, ⟨1, _⟩ => ⟨S1024x7168, .bf16⟩
  | .hbm, ⟨2, _⟩ => ⟨S2304x7168, .bf16⟩
  | .local _ .vmem, ⟨0, _⟩ => ⟨S2304x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2304x1024, .bf16⟩
  | .local _ .vmem, ⟨4, _⟩ => ⟨S2304x1024, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S2304x1024 : Shape := ⟨2, ![2304, 1024]⟩
abbrev S1024x7168 : Shape := ⟨2, ![1024, 7168]⟩
abbrev S2304x7168 : Shape := ⟨2, ![2304, 7168]⟩

abbrev nBuf : Space → Nat
  | .hbm => 6
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S1024x7168, .bf16⟩
  | .hbm, ⟨2, _⟩ => ⟨S2304x1024, .f32⟩
  | .hbm, ⟨3, _⟩ => ⟨S1024x7168, .f32⟩
  | .hbm, ⟨4, _⟩ => ⟨S2304x7168, .f32⟩
  | .hbm, ⟨5, _⟩ => ⟨S2304x7168, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutFwd.lean ====
abbrev S2304x1152 : Shape := ⟨2, ![2304, 1152]⟩
abbrev S1152x1024 : Shape := ⟨2, ![1152, 1024]⟩
abbrev S2304x1024 : Shape := ⟨2, ![2304, 1024]⟩
abbrev S1152x1152 : Shape := ⟨2, ![1152, 1152]⟩
abbrev S1152x512 : Shape := ⟨2, ![1152, 512]⟩

abbrev nBuf : Space → Nat
  | .hbm => 3
  | .vmem => 6
  | .smem => 0
  | _ => 0

abbrev bufTy : (tb : Table) → Fin (tcTables nBuf tb) → BufTy
  | .hbm, ⟨0, _⟩ => ⟨S2304x1152, .bf16⟩
  | .hbm, ⟨1, _⟩ => ⟨S1152x1024, .bf16⟩
  | .hbm, ⟨2, _⟩ => ⟨S2304x1024, .bf16⟩
  | .local _ .vmem, ⟨0, _⟩ => ⟨S1152x1152, .bf16⟩
  | .local _ .vmem, ⟨1, _⟩ => ⟨S1152x1152, .bf16⟩
  | .local _ .vmem, ⟨2, _⟩ => ⟨S1152x512, .bf16⟩
  | .local _ .vmem, ⟨3, _⟩ => ⟨S1152x512, .bf16⟩
  | .local _ .vmem, ⟨4, _⟩ => ⟨S1152x512, .bf16⟩
  | .local _ .vmem, ⟨5, _⟩ => ⟨S1152x512, .bf16⟩
  | _, _ => ⟨S2304x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFwdRefIdeal.lean ====
abbrev S2304x1152 : Shape := ⟨2, ![2304, 1152]⟩
abbrev S1152x1024 : Shape := ⟨2, ![1152, 1024]⟩
abbrev S2304x1024 : Shape := ⟨2, ![2304, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2304x1152, .bf16⟩
  | .hbm, ⟨1, _⟩ => ⟨S1152x1024, .bf16⟩
  | .hbm, ⟨2, _⟩ => ⟨S2304x1152, .f32⟩
  | .hbm, ⟨3, _⟩ => ⟨S1152x1024, .f32⟩
  | .hbm, ⟨4, _⟩ => ⟨S2304x1024, .f32⟩
  | .hbm, ⟨5, _⟩ => ⟨S2304x1024, .bf16⟩
  | _, _ => ⟨S2304x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnFwd.lean ====
abbrev S2304x1024 : Shape := ⟨2, ![2304, 1024]⟩
abbrev S2816x1024 : Shape := ⟨2, ![2816, 1024]⟩
abbrev S2304x2816 : Shape := ⟨2, ![2304, 2816]⟩
abbrev S1152x1024 : Shape := ⟨2, ![1152, 1024]⟩
abbrev S1408x1024 : Shape := ⟨2, ![1408, 1024]⟩
abbrev S1152x1408 : Shape := ⟨2, ![1152, 1408]⟩

abbrev nBuf : Space → Nat
  | .hbm => 6
  | .vmem => 12
  | .smem => 0
  | _ => 0

abbrev bufTy : (tb : Table) → Fin (tcTables nBuf tb) → BufTy
  | .hbm, ⟨0, _⟩ => ⟨S2304x1024, .bf16⟩
  | .hbm, ⟨1, _⟩ => ⟨S2816x1024, .bf16⟩
  | .hbm, ⟨2, _⟩ => ⟨S2816x1024, .bf16⟩
  | .hbm, ⟨3, _⟩ => ⟨S2304x2816, .bf16⟩
  | .hbm, ⟨4, _⟩ => ⟨S2304x2816, .bf16⟩
  | .hbm, ⟨5, _⟩ => ⟨S2304x2816, .bf16⟩
  | .local _ .vmem, ⟨0, _⟩ => ⟨S1152x1024, .bf16⟩
  | .local _ .vmem, ⟨1, _⟩ => ⟨S1152x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1152x1408, .bf16⟩
  | .local _ .vmem, ⟨7, _⟩ => ⟨S1152x1408, .bf16⟩
  | .local _ .vmem, ⟨8, _⟩ => ⟨S1152x1408, .bf16⟩
  | .local _ .vmem, ⟨9, _⟩ => ⟨S1152x1408, .bf16⟩
  | .local _ .vmem, ⟨10, _⟩ => ⟨S1152x1408, .bf16⟩
  | .local _ .vmem, ⟨11, _⟩ => ⟨S1152x1408, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1152x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1152x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1152x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnFwdRefIdeal.lean ====
abbrev S2304x1024 : Shape := ⟨2, ![2304, 1024]⟩
abbrev S2816x1024 : Shape := ⟨2, ![2816, 1024]⟩
abbrev S1024x2816 : Shape := ⟨2, ![1024, 2816]⟩
abbrev S2304x2816 : Shape := ⟨2, ![2304, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2816x1024, .bf16⟩
  | .hbm, ⟨2, _⟩ => ⟨S2816x1024, .bf16⟩
  | .hbm, ⟨3, _⟩ => ⟨S1024x2816, .bf16⟩
  | .hbm, ⟨4, _⟩ => ⟨S1024x2816, .bf16⟩
  | .hbm, ⟨5, _⟩ => ⟨S2304x1024, .f32⟩
  | .hbm, ⟨6, _⟩ => ⟨S1024x2816, .f32⟩
  | .hbm, ⟨7, _⟩ => ⟨S1024x2816, .f32⟩
  | .hbm, ⟨8, _⟩ => ⟨S2304x2816, .f32⟩
  | .hbm, ⟨9, _⟩ => ⟨S2304x2816, .f32⟩
  | .hbm, ⟨10, _⟩ => ⟨S2304x2816, .f32⟩
  | .hbm, ⟨11, _⟩ => ⟨S2304x2816, .f32⟩
  | .hbm, ⟨12, _⟩ => ⟨S_, .f32⟩
  | .hbm, ⟨13, _⟩ => ⟨S2304x2816, .f32⟩
  | .hbm, ⟨14, _⟩ => ⟨S2304x2816, .f32⟩
  | .hbm, ⟨15, _⟩ => ⟨S_, .f32⟩
  | .hbm, ⟨16, _⟩ => ⟨S2304x2816, .f32⟩
  | .hbm, ⟨17, _⟩ => ⟨S2304x2816, .f32⟩
  | .hbm, ⟨18, _⟩ => ⟨S2304x2816, .f32⟩
  | .hbm, ⟨19, _⟩ => ⟨S2304x2816, .f32⟩
  | .hbm, ⟨20, _⟩ => ⟨S2304x2816, .bf16⟩
  | .hbm, ⟨21, _⟩ => ⟨S2304x2816, .bf16⟩
  | .hbm, ⟨22, _⟩ => ⟨S2304x2816, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== DownFwd.lean ====
abbrev S2304x2816 : Shape := ⟨2, ![2304, 2816]⟩
abbrev S2816x1024 : Shape := ⟨2, ![2816, 1024]⟩
abbrev S2304x1024 : Shape := ⟨2, ![2304, 1024]⟩
abbrev S2816x512 : Shape := ⟨2, ![2816, 512]⟩
abbrev S2304x512 : Shape := ⟨2, ![2304, 512]⟩

abbrev nBuf : Space → Nat
  | .hbm => 3
  | .vmem => 5
  | .smem => 0
  | _ => 0

abbrev bufTy : (tb : Table) → Fin (tcTables nBuf tb) → BufTy
  | .hbm, ⟨0, _⟩ => ⟨S2304x2816, .bf16⟩
  | .hbm, ⟨1, _⟩ => ⟨S2816x1024, .bf16⟩
  | .hbm, ⟨2, _⟩ => ⟨S2304x1024, .bf16⟩
  | .local _ .vmem, ⟨0, _⟩ => ⟨S2304x2816, .bf16⟩
  | .local _ .vmem, ⟨1, _⟩ => ⟨S2816x512, .bf16⟩
  | .local _ .vmem, ⟨2, _⟩ => ⟨S2816x512, .bf16⟩
  | .local _ .vmem, ⟨3, _⟩ => ⟨S2304x512, .bf16⟩
  | .local _ .vmem, ⟨4, _⟩ => ⟨S2304x512, .bf16⟩
  | _, _ => ⟨S2304x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdRefIdeal.lean ====
abbrev S2304x2816 : Shape := ⟨2, ![2304, 2816]⟩
abbrev S2816x1024 : Shape := ⟨2, ![2816, 1024]⟩
abbrev S2304x1024 : Shape := ⟨2, ![2304, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2304x2816, .bf16⟩
  | .hbm, ⟨1, _⟩ => ⟨S2816x1024, .bf16⟩
  | .hbm, ⟨2, _⟩ => ⟨S2304x2816, .f32⟩
  | .hbm, ⟨3, _⟩ => ⟨S2816x1024, .f32⟩
  | .hbm, ⟨4, _⟩ => ⟨S2304x1024, .f32⟩
  | .hbm, ⟨5, _⟩ => ⟨S2304x1024, .bf16⟩
  | _, _ => ⟨S2304x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BranchBack.lean ====
abbrev S2304x1152 : Shape := ⟨2, ![2304, 1152]⟩
abbrev S2304x7168 : Shape := ⟨2, ![2304, 7168]⟩
abbrev S512x1152 : Shape := ⟨2, ![512, 1152]⟩
abbrev S2304x2304 : Shape := ⟨2, ![2304, 2304]⟩
abbrev S2304x512 : Shape := ⟨2, ![2304, 512]⟩
abbrev S256x1152 : Shape := ⟨2, ![256, 1152]⟩
abbrev S256x512 : Shape := ⟨2, ![256, 512]⟩
abbrev S256x128 : Shape := ⟨2, ![256, 128]⟩
abbrev S256x2304 : Shape := ⟨2, ![256, 2304]⟩

abbrev nBuf : Space → Nat
  | .hbm => 11
  | .vmem => 30
  | .smem => 0
  | _ => 0

abbrev bufTy : (tb : Table) → Fin (tcTables nBuf tb) → BufTy
  | .hbm, ⟨0, _⟩ => ⟨S2304x1152, .bf16⟩
  | .hbm, ⟨1, _⟩ => ⟨S2304x7168, .bf16⟩
  | .hbm, ⟨2, _⟩ => ⟨S2304x1152, .bf16⟩
  | .hbm, ⟨3, _⟩ => ⟨S2304x1152, .bf16⟩
  | .hbm, ⟨4, _⟩ => ⟨S512x1152, .bf16⟩
  | .hbm, ⟨5, _⟩ => ⟨S512x1152, .bf16⟩
  | .hbm, ⟨6, _⟩ => ⟨S2304x1152, .bf16⟩
  | .hbm, ⟨7, _⟩ => ⟨S2304x1152, .bf16⟩
  | .hbm, ⟨8, _⟩ => ⟨S2304x2304, .bf16⟩
  | .hbm, ⟨9, _⟩ => ⟨S2304x512, .bf16⟩
  | .hbm, ⟨10, _⟩ => ⟨S2304x512, .bf16⟩
  | .local _ .vmem, ⟨0, _⟩ => ⟨S256x1152, .bf16⟩
  | .local _ .vmem, ⟨1, _⟩ => ⟨S256x1152, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x128, .bf16⟩
  | .local _ .vmem, ⟨7, _⟩ => ⟨S256x128, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x128, .bf16⟩
  | .local _ .vmem, ⟨13, _⟩ => ⟨S256x128, .bf16⟩
  | .local _ .vmem, ⟨14, _⟩ => ⟨S256x1152, .bf16⟩
  | .local _ .vmem, ⟨15, _⟩ => ⟨S256x1152, .bf16⟩
  | .local _ .vmem, ⟨16, _⟩ => ⟨S256x1152, .bf16⟩
  | .local _ .vmem, ⟨17, _⟩ => ⟨S256x1152, .bf16⟩
  | .local _ .vmem, ⟨18, _⟩ => ⟨S512x1152, .bf16⟩
  | .local _ .vmem, ⟨19, _⟩ => ⟨S512x1152, .bf16⟩
  | .local _ .vmem, ⟨20, _⟩ => ⟨S256x1152, .bf16⟩
  | .local _ .vmem, ⟨21, _⟩ => ⟨S256x1152, .bf16⟩
  | .local _ .vmem, ⟨22, _⟩ => ⟨S256x1152, .bf16⟩
  | .local _ .vmem, ⟨23, _⟩ => ⟨S256x1152, .bf16⟩
  | .local _ .vmem, ⟨24, _⟩ => ⟨S256x2304, .bf16⟩
  | .local _ .vmem, ⟨25, _⟩ => ⟨S256x2304, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | _, _ => ⟨S2304x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c52_i32 : BitVec 32 := 52#32
  let c0_i32 : BitVec 32 := 0#32
  ![arg0.toNat, c52_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1152 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1152 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1152 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1152 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1152 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2304 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== BranchBackRefIdeal.lean ====
abbrev S2304x1152 : Shape := ⟨2, ![2304, 1152]⟩
abbrev S2304x7168 : Shape := ⟨2, ![2304, 7168]⟩
abbrev S512x1152 : Shape := ⟨2, ![512, 1152]⟩
abbrev S_ : Shape := ⟨0, ![]⟩
abbrev S2304x512 : Shape := ⟨2, ![2304, 512]⟩
abbrev S2304x2304 : Shape := ⟨2, ![2304, 2304]⟩

abbrev nBuf : Space → Nat
  | .hbm => 59
  | .vmem => 0
  | .smem => 0
  | _ => 0

abbrev bufTy : (tb : Table) → Fin (tcTables nBuf tb) → BufTy
  | .hbm, ⟨0, _⟩ => ⟨S2304x1152, .bf16⟩
  | .hbm, ⟨1, _⟩ => ⟨S2304x7168, .bf16⟩
  | .hbm, ⟨2, _⟩ => ⟨S2304x1152, .bf16⟩
  | .hbm, ⟨3, _⟩ => ⟨S2304x1152, .bf16⟩
  | .hbm, ⟨4, _⟩ => ⟨S512x1152, .bf16⟩
  | .hbm, ⟨5, _⟩ => ⟨S512x1152, .bf16⟩
  | .hbm, ⟨6, _⟩ => ⟨S2304x1152, .f32⟩
  | .hbm, ⟨7, _⟩ => ⟨S2304x7168, .f32⟩
  | .hbm, ⟨8, _⟩ => ⟨S2304x1152, .f32⟩
  | .hbm, ⟨9, _⟩ => ⟨S2304x1152, .f32⟩
  | .hbm, ⟨10, _⟩ => ⟨S512x1152, .f32⟩
  | .hbm, ⟨11, _⟩ => ⟨S512x1152, .f32⟩
  | .hbm, ⟨12, _⟩ => ⟨S2304x1152, .f32⟩
  | .hbm, ⟨13, _⟩ => ⟨S2304x1152, .f32⟩
  | .hbm, ⟨14, _⟩ => ⟨S2304x1152, .f32⟩
  | .hbm, ⟨15, _⟩ => ⟨S2304x1152, .f32⟩
  | .hbm, ⟨16, _⟩ => ⟨S_, .f32⟩
  | .hbm, ⟨17, _⟩ => ⟨S2304x1152, .f32⟩
  | .hbm, ⟨18, _⟩ => ⟨S2304x1152, .f32⟩
  | .hbm, ⟨19, _⟩ => ⟨S_, .f32⟩
  | .hbm, ⟨20, _⟩ => ⟨S2304x1152, .f32⟩
  | .hbm, ⟨21, _⟩ => ⟨S2304x1152, .f32⟩
  | .hbm, ⟨22, _⟩ => ⟨S_, .f32⟩
  | .hbm, ⟨23, _⟩ => ⟨S2304x1152, .f32⟩
  | .hbm, ⟨24, _⟩ => ⟨S2304x1152, .f32⟩
  | .hbm, ⟨25, _⟩ => ⟨S2304x1152, .f32⟩
  | .hbm, ⟨26, _⟩ => ⟨S2304x1152, .f32⟩
  | .hbm, ⟨27, _⟩ => ⟨S2304x1152, .f32⟩
  | .hbm, ⟨28, _⟩ => ⟨S2304x1152, .f32⟩
  | .hbm, ⟨29, _⟩ => ⟨S_, .f32⟩
  | .hbm, ⟨30, _⟩ => ⟨S2304x1152, .f32⟩
  | .hbm, ⟨31, _⟩ => ⟨S2304x1152, .f32⟩
  | .hbm, ⟨32, _⟩ => ⟨S_, .f32⟩
  | .hbm, ⟨33, _⟩ => ⟨S2304x1152, .f32⟩
  | .hbm, ⟨34, _⟩ => ⟨S2304x1152, .f32⟩
  | .hbm, ⟨35, _⟩ => ⟨S_, .f32⟩
  | .hbm, ⟨36, _⟩ => ⟨S2304x1152, .f32⟩
  | .hbm, ⟨37, _⟩ => ⟨S2304x1152, .f32⟩
  | .hbm, ⟨38, _⟩ => ⟨S2304x1152, .f32⟩
  | .hbm, ⟨39, _⟩ => ⟨S2304x1152, .f32⟩
  | .hbm, ⟨40, _⟩ => ⟨S2304x1152, .f32⟩
  | .hbm, ⟨41, _⟩ => ⟨S2304x1152, .f32⟩
  | .hbm, ⟨42, _⟩ => ⟨S2304x1152, .f32⟩
  | .hbm, ⟨43, _⟩ => ⟨S2304x1152, .f32⟩
  | .hbm, ⟨44, _⟩ => ⟨S2304x1152, .f32⟩
  | .hbm, ⟨45, _⟩ => ⟨S2304x1152, .f32⟩
  | .hbm, ⟨46, _⟩ => ⟨S2304x1152, .f32⟩
  | .hbm, ⟨47, _⟩ => ⟨S_, .f32⟩
  | .hbm, ⟨48, _⟩ => ⟨S2304x512, .f32⟩
  | .hbm, ⟨49, _⟩ => ⟨S2304x1152, .f32⟩
  | .hbm, ⟨50, _⟩ => ⟨S2304x1152, .f32⟩
  | .hbm, ⟨51, _⟩ => ⟨S2304x512, .f32⟩
  | .hbm, ⟨52, _⟩ => ⟨S2304x512, .f32⟩
  | .hbm, ⟨53, _⟩ => ⟨S2304x2304, .f32⟩
  | .hbm, ⟨54, _⟩ => ⟨S2304x1152, .bf16⟩
  | .hbm, ⟨55, _⟩ => ⟨S2304x1152, .bf16⟩
  | .hbm, ⟨56, _⟩ => ⟨S2304x2304, .bf16⟩
  | .hbm, ⟨57, _⟩ => ⟨S2304x512, .bf16⟩
  | .hbm, ⟨58, _⟩ => ⟨S2304x512, .bf16⟩
  | _, _ => ⟨S2304x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== BranchFwd.lean ====
abbrev S2304x1024 : Shape := ⟨2, ![2304, 1024]⟩
abbrev S512x1152 : Shape := ⟨2, ![512, 1152]⟩
abbrev S2304x7168 : Shape := ⟨2, ![2304, 7168]⟩
abbrev S2304x1152 : Shape := ⟨2, ![2304, 1152]⟩
abbrev S256x1024 : Shape := ⟨2, ![256, 1024]⟩
abbrev S256x512 : Shape := ⟨2, ![256, 512]⟩
abbrev S256x128 : Shape := ⟨2, ![256, 128]⟩
abbrev S256x1152 : Shape := ⟨2, ![256, 1152]⟩

abbrev nBuf : Space → Nat
  | .hbm => 7
  | .vmem => 22
  | .smem => 0
  | _ => 0

abbrev bufTy : (tb : Table) → Fin (tcTables nBuf tb) → BufTy
  | .hbm, ⟨0, _⟩ => ⟨S2304x1024, .bf16⟩
  | .hbm, ⟨1, _⟩ => ⟨S512x1152, .bf16⟩
  | .hbm, ⟨2, _⟩ => ⟨S512x1152, .bf16⟩
  | .hbm, ⟨3, _⟩ => ⟨S2304x7168, .bf16⟩
  | .hbm, ⟨4, _⟩ => ⟨S2304x1152, .bf16⟩
  | .hbm, ⟨5, _⟩ => ⟨S2304x1152, .bf16⟩
  | .hbm, ⟨6, _⟩ => ⟨S2304x1152, .bf16⟩
  | .local _ .vmem, ⟨0, _⟩ => ⟨S256x1024, .bf16⟩
  | .local _ .vmem, ⟨1, _⟩ => ⟨S256x1024, .bf16⟩
  | .local _ .vmem, ⟨2, _⟩ => ⟨S512x1152, .bf16⟩
  | .local _ .vmem, ⟨3, _⟩ => ⟨S512x1152, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x128, .bf16⟩
  | .local _ .vmem, ⟨9, _⟩ => ⟨S256x128, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x128, .bf16⟩
  | .local _ .vmem, ⟨15, _⟩ => ⟨S256x128, .bf16⟩
  | .local _ .vmem, ⟨16, _⟩ => ⟨S256x1152, .bf16⟩
  | .local _ .vmem, ⟨17, _⟩ => ⟨S256x1152, .bf16⟩
  | .local _ .vmem, ⟨18, _⟩ => ⟨S256x1152, .bf16⟩
  | .local _ .vmem, ⟨19, _⟩ => ⟨S256x1152, .bf16⟩
  | .local _ .vmem, ⟨20, _⟩ => ⟨S256x1152, .bf16⟩
  | .local _ .vmem, ⟨21, _⟩ => ⟨S256x1152, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_8 (i : grid0.Coords) : Fin 2 → Nat :=
  let arg0 : BitVec 32 := BitVec.ofNat 32 (i 0).val
  let c52_i32 : BitVec 32 := 52#32
  let c0_i32 : BitVec 32 := 0#32
  ![arg0.toNat, c52_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1152 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1152 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1152 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== BranchFwdRefIdeal.lean ====
abbrev S2304x1024 : Shape := ⟨2, ![2304, 1024]⟩
abbrev S512x1152 : Shape := ⟨2, ![512, 1152]⟩
abbrev S2304x7168 : Shape := ⟨2, ![2304, 7168]⟩
abbrev S2304x512 : Shape := ⟨2, ![2304, 512]⟩
abbrev S2304x1152 : Shape := ⟨2, ![2304, 1152]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S512x1152, .bf16⟩
  | .hbm, ⟨2, _⟩ => ⟨S512x1152, .bf16⟩
  | .hbm, ⟨3, _⟩ => ⟨S2304x7168, .bf16⟩
  | .hbm, ⟨4, _⟩ => ⟨S2304x1024, .f32⟩
  | .hbm, ⟨5, _⟩ => ⟨S512x1152, .f32⟩
  | .hbm, ⟨6, _⟩ => ⟨S512x1152, .f32⟩
  | .hbm, ⟨7, _⟩ => ⟨S2304x7168, .f32⟩
  | .hbm, ⟨8, _⟩ => ⟨S2304x512, .f32⟩
  | .hbm, ⟨9, _⟩ => ⟨S2304x1152, .f32⟩
  | .hbm, ⟨10, _⟩ => ⟨S2304x512, .f32⟩
  | .hbm, ⟨11, _⟩ => ⟨S2304x1152, .f32⟩
  | .hbm, ⟨12, _⟩ => ⟨S2304x1152, .f32⟩
  | .hbm, ⟨13, _⟩ => ⟨S2304x1152, .f32⟩
  | .hbm, ⟨14, _⟩ => ⟨S2304x1152, .f32⟩
  | .hbm, ⟨15, _⟩ => ⟨S2304x1152, .f32⟩
  | .hbm, ⟨16, _⟩ => ⟨S_, .f32⟩
  | .hbm, ⟨17, _⟩ => ⟨S2304x1152, .f32⟩
  | .hbm, ⟨18, _⟩ => ⟨S2304x1152, .f32⟩
  | .hbm, ⟨19, _⟩ => ⟨S_, .f32⟩
  | .hbm, ⟨20, _⟩ => ⟨S2304x1152, .f32⟩
  | .hbm, ⟨21, _⟩ => ⟨S2304x1152, .f32⟩
  | .hbm, ⟨22, _⟩ => ⟨S2304x1152, .f32⟩
  | .hbm, ⟨23, _⟩ => ⟨S2304x1152, .f32⟩
  | .hbm, ⟨24, _⟩ => ⟨S2304x1152, .f32⟩
  | .hbm, ⟨25, _⟩ => ⟨S_, .f32⟩
  | .hbm, ⟨26, _⟩ => ⟨S2304x1152, .f32⟩
  | .hbm, ⟨27, _⟩ => ⟨S2304x1152, .f32⟩
  | .hbm, ⟨28, _⟩ => ⟨S_, .f32⟩
  | .hbm, ⟨29, _⟩ => ⟨S2304x1152, .f32⟩
  | .hbm, ⟨30, _⟩ => ⟨S2304x1152, .f32⟩
  | .hbm, ⟨31, _⟩ => ⟨S2304x1152, .f32⟩
  | .hbm, ⟨32, _⟩ => ⟨S2304x1152, .f32⟩
  | .hbm, ⟨33, _⟩ => ⟨S2304x1152, .bf16⟩
  | .hbm, ⟨34, _⟩ => ⟨S2304x1152, .bf16⟩
  | .hbm, ⟨35, _⟩ => ⟨S2304x1152, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== AdamBranch.lean ====
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x512x128, .bf16⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBranchRefIdeal.lean ====
abbrev S8x512x128 : Shape := ⟨3, ![8, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamFfn.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnRefIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamMod.lean ====
abbrev S1024x768 : Shape := ⟨2, ![1024, 768]⟩
abbrev S1x1024x768 : Shape := ⟨3, ![1, 1024, 768]⟩
abbrev S1x256x768 : Shape := ⟨3, ![1, 256, 768]⟩
abbrev S256x768 : Shape := ⟨2, ![256, 768]⟩

abbrev nBuf : Space → Nat
  | .hbm => 9
  | .vmem => 16
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1x1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .local _ .vmem, ⟨0, _⟩ => ⟨S1x256x768, .f32⟩
  | .local _ .vmem, ⟨1, _⟩ => ⟨S1x256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamModRefIdeal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S109x128 : Shape := ⟨2, ![109, 128]⟩
abbrev S1x109x128 : Shape := ⟨3, ![1, 109, 128]⟩

abbrev nBuf : Space → Nat
  | .hbm => 9
  | .vmem => 8
  | .smem => 0
  | _ => 0

abbrev bufTy : (tb : Table) → Fin (tcTables nBuf tb) → BufTy
  | .hbm, ⟨0, _⟩ => ⟨S109x128, .f32⟩
  | .hbm, ⟨1, _⟩ => ⟨S109x128, .f32⟩
  | .hbm, ⟨2, _⟩ => ⟨S109x128, .f32⟩
  | .hbm, ⟨3, _⟩ => ⟨S109x128, .f32⟩
  | .hbm, ⟨4, _⟩ => ⟨S1x109x128, .f32⟩
  | .hbm, ⟨5, _⟩ => ⟨S109x128, .f32⟩
  | .hbm, ⟨6, _⟩ => ⟨S109x128, .f32⟩
  | .hbm, ⟨7, _⟩ => ⟨S109x128, .f32⟩
  | .hbm, ⟨8, _⟩ => ⟨S109x128, .f32⟩
  | .local _ .vmem, ⟨0, _⟩ => ⟨S1x109x128, .f32⟩
  | .local _ .vmem, ⟨1, _⟩ => ⟨S109x128, .f32⟩
  | .local _ .vmem, ⟨2, _⟩ => ⟨S109x128, .f32⟩
  | .local _ .vmem, ⟨3, _⟩ => ⟨S109x128, .f32⟩
  | .local _ .vmem, ⟨4, _⟩ => ⟨S109x128, .f32⟩
  | .local _ .vmem, ⟨5, _⟩ => ⟨S109x128, .f32⟩
  | .local _ .vmem, ⟨6, _⟩ => ⟨S109x128, .f32⟩
  | .local _ .vmem, ⟨7, _⟩ => ⟨S109x128, .f32⟩
  | _, _ => ⟨S109x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x109x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S109x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S109x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S109x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S109x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S109x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S109x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S109x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S109x128 : Shape := ⟨2, ![109, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S109x128, .f32⟩
  | .hbm, ⟨1, _⟩ => ⟨S109x128, .f32⟩
  | .hbm, ⟨2, _⟩ => ⟨S109x128, .f32⟩
  | .hbm, ⟨3, _⟩ => ⟨S109x128, .f32⟩
  | .hbm, ⟨4, _⟩ => ⟨S_, .f32⟩
  | .hbm, ⟨5, _⟩ => ⟨S109x128, .f32⟩
  | .hbm, ⟨6, _⟩ => ⟨S109x128, .f32⟩
  | .hbm, ⟨7, _⟩ => ⟨S_, .f32⟩
  | .hbm, ⟨8, _⟩ => ⟨S109x128, .f32⟩
  | .hbm, ⟨9, _⟩ => ⟨S109x128, .f32⟩
  | .hbm, ⟨10, _⟩ => ⟨S109x128, .f32⟩
  | .hbm, ⟨11, _⟩ => ⟨S_, .f32⟩
  | .hbm, ⟨12, _⟩ => ⟨S109x128, .f32⟩
  | .hbm, ⟨13, _⟩ => ⟨S109x128, .f32⟩
  | .hbm, ⟨14, _⟩ => ⟨S109x128, .f32⟩
  | .hbm, ⟨15, _⟩ => ⟨S_, .f32⟩
  | .hbm, ⟨16, _⟩ => ⟨S109x128, .f32⟩
  | .hbm, ⟨17, _⟩ => ⟨S109x128, .f32⟩
  | .hbm, ⟨18, _⟩ => ⟨S109x128, .f32⟩
  | .hbm, ⟨19, _⟩ => ⟨S_, .f32⟩
  | .hbm, ⟨20, _⟩ => ⟨S109x128, .f32⟩
  | .hbm, ⟨21, _⟩ => ⟨S109x128, .f32⟩
  | .hbm, ⟨22, _⟩ => ⟨S_, .f32⟩
  | .hbm, ⟨23, _⟩ => ⟨S109x128, .f32⟩
  | .hbm, ⟨24, _⟩ => ⟨S109x128, .f32⟩
  | .hbm, ⟨25, _⟩ => ⟨S109x128, .f32⟩
  | .hbm, ⟨26, _⟩ => ⟨S_, .f32⟩
  | .hbm, ⟨27, _⟩ => ⟨S109x128, .f32⟩
  | .hbm, ⟨28, _⟩ => ⟨S109x128, .f32⟩
  | .hbm, ⟨29, _⟩ => ⟨S109x128, .f32⟩
  | .hbm, ⟨30, _⟩ => ⟨S_, .f32⟩
  | .hbm, ⟨31, _⟩ => ⟨S109x128, .f32⟩
  | .hbm, ⟨32, _⟩ => ⟨S109x128, .f32⟩
  | .hbm, ⟨33, _⟩ => ⟨S109x128, .f32⟩
  | .hbm, ⟨34, _⟩ => ⟨S_, .f32⟩
  | .hbm, ⟨35, _⟩ => ⟨S109x128, .f32⟩
  | .hbm, ⟨36, _⟩ => ⟨S109x128, .f32⟩
  | _, _ => ⟨S109x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ModFwd.lean ====
abbrev S16x1024 : Shape := ⟨2, ![16, 1024]⟩
abbrev S1024x768 : Shape := ⟨2, ![1024, 768]⟩
abbrev S1x768 : Shape := ⟨2, ![1, 768]⟩
abbrev S16x768 : Shape := ⟨2, ![16, 768]⟩

abbrev nBuf : Space → Nat
  | .hbm => 4
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S1x768, .f32⟩
  | .hbm, ⟨3, _⟩ => ⟨S16x768, .f32⟩
  | .local _ .vmem, ⟨0, _⟩ => ⟨S16x1024, .f32⟩
  | .local _ .vmem, ⟨1, _⟩ => ⟨S1024x768, .f32⟩
  | .local _ .vmem, ⟨2, _⟩ => ⟨S1x768, .f32⟩
  | .local _ .vmem, ⟨3, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ModFwdRefIdeal.lean ====
abbrev S16x1024 : Shape := ⟨2, ![16, 1024]⟩
abbrev S1024x768 : Shape := ⟨2, ![1024, 768]⟩
abbrev S1x768 : Shape := ⟨2, ![1, 768]⟩
abbrev S_ : Shape := ⟨0, ![]⟩
abbrev S16x768 : Shape := ⟨2, ![16, 768]⟩

abbrev nBuf : Space → Nat
  | .hbm => 15
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S1x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x768, .f32⟩
  | .hbm, ⟨13, _⟩ => ⟨S16x768, .f32⟩
  | .hbm, ⟨14, _⟩ => ⟨S16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== SumSmall.lean ====
abbrev S8x275x128 : Shape := ⟨3, ![8, 275, 128]⟩
abbrev S275x128 : Shape := ⟨2, ![275, 128]⟩
abbrev S1x275x128 : Shape := ⟨3, ![1, 275, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x275x128, .f32⟩
  | .hbm, ⟨1, _⟩ => ⟨S275x128, .f32⟩
  | .local _ .vmem, ⟨0, _⟩ => ⟨S8x275x128, .f32⟩
  | .local _ .vmem, ⟨1, _⟩ => ⟨S275x128, .f32⟩
  | _, _ => ⟨S8x275x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x275x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S275x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallIdeal.lean ====
abbrev S8x275x128 : Shape := ⟨3, ![8, 275, 128]⟩
abbrev S275x128 : Shape := ⟨2, ![275, 128]⟩
abbrev S1x275x128 : Shape := ⟨3, ![1, 275, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x275x128, .f32⟩
  | .hbm, ⟨1, _⟩ => ⟨S275x128, .f32⟩
  | .local _ .vmem, ⟨0, _⟩ => ⟨S8x275x128, .f32⟩
  | .local _ .vmem, ⟨1, _⟩ => ⟨S275x128, .f32⟩
  | _, _ => ⟨S8x275x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x275x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S275x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x275x128 : Shape := ⟨3, ![8, 275, 128]⟩
abbrev S_ : Shape := ⟨0, ![]⟩
abbrev S275x128 : Shape := ⟨2, ![275, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x275x128, .f32⟩
  | .hbm, ⟨1, _⟩ => ⟨S_, .f32⟩
  | .hbm, ⟨2, _⟩ => ⟨S275x128, .f32⟩
  | _, _ => ⟨S8x275x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumCtx.lean ====
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .local _ .vmem, ⟨0, _⟩ => ⟨S8x8x1024, .f32⟩
  | .local _ .vmem, ⟨1, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumCtxRefIdeal.lean ====
abbrev S8x8x1024 : Shape := ⟨3, ![8, 8, 1024]⟩
abbrev S_ : Shape := ⟨0, ![]⟩
abbrev S8x1024 : Shape := ⟨2, ![8, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S_, .f32⟩
  | .hbm, ⟨2, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ModBwd.lean ====
abbrev S16x1024 : Shape := ⟨2, ![16, 1024]⟩
abbrev S16x768 : Shape := ⟨2, ![16, 768]⟩
abbrev S1024x768 : Shape := ⟨2, ![1024, 768]⟩
abbrev S8x1024 : Shape := ⟨2, ![8, 1024]⟩
abbrev S8x768 : Shape := ⟨2, ![8, 768]⟩

abbrev nBuf : Space → Nat
  | .hbm => 5
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S1024x768, .f32⟩
  | .hbm, ⟨3, _⟩ => ⟨S1024x768, .f32⟩
  | .hbm, ⟨4, _⟩ => ⟨S8x1024, .f32⟩
  | .local _ .vmem, ⟨0, _⟩ => ⟨S16x1024, .f32⟩
  | .local _ .vmem, ⟨1, _⟩ => ⟨S16x768, .f32⟩
  | .local _ .vmem, ⟨2, _⟩ => ⟨S1024x768, .f32⟩
  | .local _ .vmem, ⟨3, _⟩ => ⟨S1024x768, .f32⟩
  | .local _ .vmem, ⟨4, _⟩ => ⟨S8x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ModBwdRefIdeal.lean ====
abbrev S16x1024 : Shape := ⟨2, ![16, 1024]⟩
abbrev S16x768 : Shape := ⟨2, ![16, 768]⟩
abbrev S1024x768 : Shape := ⟨2, ![1024, 768]⟩
abbrev S_ : Shape := ⟨0, ![]⟩
abbrev S768x1024 : Shape := ⟨2, ![768, 1024]⟩
abbrev S8x1024 : Shape := ⟨2, ![8, 1024]⟩
abbrev S8 : Shape := ⟨1, ![8]⟩
abbrev S8x1 : Shape := ⟨2, ![8, 1]⟩

abbrev nBuf : Space → Nat
  | .hbm => 48
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S1024x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x768, .f32⟩
  | .hbm, ⟨13, _⟩ => ⟨S768x1024, .f32⟩
  | .hbm, ⟨14, _⟩ => ⟨S1024x768, .f32⟩
  | .hbm, ⟨15, _⟩ => ⟨S16x1024, .f32⟩
  | .hbm, ⟨16, _⟩ => ⟨S16x1024, .f32⟩
  | .hbm, ⟨17, _⟩ => ⟨S_, .f32⟩
  | .hbm, ⟨18, _⟩ => ⟨S16x1024, .f32⟩
  | .hbm, ⟨19, _⟩ => ⟨S16x1024, .f32⟩
  | .hbm, ⟨20, _⟩ => ⟨S_, .f32⟩
  | .hbm, ⟨21, _⟩ => ⟨S16x1024, .f32⟩
  | .hbm, ⟨22, _⟩ => ⟨S16x1024, .f32⟩
  | .hbm, ⟨23, _⟩ => ⟨S_, .f32⟩
  | .hbm, ⟨24, _⟩ => ⟨S16x1024, .f32⟩
  | .hbm, ⟨25, _⟩ => ⟨S16x1024, .f32⟩
  | .hbm, ⟨26, _⟩ => ⟨S16x1024, .f32⟩
  | .hbm, ⟨27, _⟩ => ⟨S16x1024, .f32⟩
  | .hbm, ⟨28, _⟩ => ⟨S_, .f32⟩
  | .hbm, ⟨29, _⟩ => ⟨S16x1024, .f32⟩
  | .hbm, ⟨30, _⟩ => ⟨S16x1024, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S768x1024, .f32⟩
  | .hbm, ⟨35, _⟩ => ⟨S16x1024, .f32⟩
  | .hbm, ⟨36, _⟩ => ⟨S16x1024, .f32⟩
  | .hbm, ⟨37, _⟩ => ⟨S8x1024, .f32⟩
  | .hbm, ⟨38, _⟩ => ⟨S8, .i32⟩
  | .hbm, ⟨39, _⟩ => ⟨S8x1, .i32⟩
  | .hbm, ⟨40, _⟩ => ⟨S_, .i32⟩
  | .hbm, ⟨41, _⟩ => ⟨S8x1, .i32⟩
  | .hbm, ⟨42, _⟩ => ⟨S8x1, .i1⟩
  | .hbm, ⟨43, _⟩ => ⟨S_, .f32⟩
  | .hbm, ⟨44, _⟩ => ⟨S_, .f32⟩
  | .hbm, ⟨45, _⟩ => ⟨S8x1024, .i1⟩
  | .hbm, ⟨46, _⟩ => ⟨S8x1024, .f32⟩
  | .hbm, ⟨47, _⟩ => ⟨S8x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call1_v0 : Ref sig .tc := ⟨.hbm, 15, rfl⟩
abbrev main_call1_v1 : Ref sig .tc := ⟨.hbm, 16, rfl⟩
abbrev main_call1_cst : Ref sig .tc := ⟨.hbm, 17, rfl⟩
abbrev main_call1_v2 : Ref sig .tc := ⟨.hbm, 18, rfl⟩
abbrev main_call1_v3 : Ref sig .tc := ⟨.hbm, 19, rfl⟩
abbrev main_call1_cst_0 : Ref sig .tc := ⟨.hbm, 20, rfl⟩
abbrev main_call1_v4 : Ref sig .tc := ⟨.hbm, 21, rfl⟩
abbrev main_v4_2 : Ref sig .tc := ⟨.hbm, 22, rfl⟩
abbrev main_call1_cst_1 : Ref sig .tc := ⟨.hbm, 23, rfl⟩
abbrev main_call1_v6 : Ref sig .tc := ⟨.hbm, 24, rfl⟩
abbrev main_call1_v7 : Ref sig .tc := ⟨.hbm, 25, rfl⟩
abbrev main_v4_1 : Ref sig .tc := ⟨.hbm, 26, rfl⟩
abbrev main_v4_0 : Ref sig .tc := ⟨.hbm, 27, rfl⟩
abbrev main_cst : Ref sig .tc := ⟨.hbm, 28, rfl⟩
abbrev main_v5 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c : Ref sig .tc := ⟨.hbm, 40, rfl⟩
abbrev main_v13 : Ref sig .tc := ⟨.hbm, 41, rfl⟩
abbrev main_v14 : Ref sig .tc := ⟨.hbm, 42, rfl⟩
abbrev main_cst_0 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_v15 : Ref sig .tc := ⟨.hbm, 47, rfl⟩

abbrev nD : Nat := 1
abbrev τ : Topo := Topo.v7x

variable {F : FTy → Type} [FloatOps F]
-- ==== Prenorm.lean ====
abbrev S256x1024 : Shape := ⟨2, ![256, 1024]⟩
abbrev S2048x1024 : Shape := ⟨2, ![2048, 1024]⟩
abbrev S1x1024 : Shape := ⟨2, ![1, 1024]⟩
abbrev S8x1024 : Shape := ⟨2, ![8, 1024]⟩
abbrev S2304x1024 : Shape := ⟨2, ![2304, 1024]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S2048x1024, .f32⟩
  | .hbm, ⟨2, _⟩ => ⟨S1x1024, .f32⟩
  | .hbm, ⟨3, _⟩ => ⟨S8x1024, .f32⟩
  | .hbm, ⟨4, _⟩ => ⟨S8x1024, .f32⟩
  | .hbm, ⟨5, _⟩ => ⟨S2304x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | .local _ .vmem, ⟨7, _⟩ => ⟨S256x1024, .bf16⟩
  | .local _ .vmem, ⟨8, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PrenormRefIdeal.lean ====
abbrev S256x1024 : Shape := ⟨2, ![256, 1024]⟩
abbrev S2048x1024 : Shape := ⟨2, ![2048, 1024]⟩
abbrev S1x1024 : Shape := ⟨2, ![1, 1024]⟩
abbrev S8x1024 : Shape := ⟨2, ![8, 1024]⟩
abbrev S2304x1024 : Shape := ⟨2, ![2304, 1024]⟩
abbrev S_ : Shape := ⟨0, ![]⟩
abbrev S2304 : Shape := ⟨1, ![2304]⟩
abbrev S2304x1 : Shape := ⟨2, ![2304, 1]⟩

abbrev nBuf : Space → Nat
  | .hbm => 43
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2048x1024, .f32⟩
  | .hbm, ⟨2, _⟩ => ⟨S1x1024, .f32⟩
  | .hbm, ⟨3, _⟩ => ⟨S8x1024, .f32⟩
  | .hbm, ⟨4, _⟩ => ⟨S8x1024, .f32⟩
  | .hbm, ⟨5, _⟩ => ⟨S2304x1024, .f32⟩
  | .hbm, ⟨6, _⟩ => ⟨S2304x1024, .f32⟩
  | .hbm, ⟨7, _⟩ => ⟨S_, .f32⟩
  | .hbm, ⟨8, _⟩ => ⟨S2304, .f32⟩
  | .hbm, ⟨9, _⟩ => ⟨S2304x1, .f32⟩
  | .hbm, ⟨10, _⟩ => ⟨S_, .f32⟩
  | .hbm, ⟨11, _⟩ => ⟨S2304x1, .f32⟩
  | .hbm, ⟨12, _⟩ => ⟨S2304x1, .f32⟩
  | .hbm, ⟨13, _⟩ => ⟨S_, .f32⟩
  | .hbm, ⟨14, _⟩ => ⟨S2304x1, .f32⟩
  | .hbm, ⟨15, _⟩ => ⟨S2304x1, .f32⟩
  | .hbm, ⟨16, _⟩ => ⟨S2304x1, .f32⟩
  | .hbm, ⟨17, _⟩ => ⟨S2304x1024, .f32⟩
  | .hbm, ⟨18, _⟩ => ⟨S2304x1024, .f32⟩
  | .hbm, ⟨19, _⟩ => ⟨S2304x1024, .f32⟩
  | .hbm, ⟨20, _⟩ => ⟨S2304x1024, .f32⟩
  | .hbm, ⟨21, _⟩ => ⟨S256x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S1x1024, .f32⟩
  | .hbm, ⟨29, _⟩ => ⟨S256x1024, .f32⟩
  | .hbm, ⟨30, _⟩ => ⟨S256x1024, .f32⟩
  | .hbm, ⟨31, _⟩ => ⟨S2048x1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S2304x1024, .f32⟩
  | .hbm, ⟨42, _⟩ => ⟨S2304x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Proof.Unit.lean ====
/-
  One chunk of the backward scan, spelt once: the values that a chunk of 64 rows and one head's 128 columns computes from its slices of
  q, k, v, the gate and the output's gradient, from the state st at the chunk's start and the state gradient dst at its end. The kernel
  computes 16 such chunks at each grid point; every one of them is this text at its own slices (`Units.lean`). The names follow the kernel:
  `x` the operands scaled around a level's boundary row, `dsym` the masked score gradients, `cum` the running sum of the gate.
-/
module

public import proofs.«01_k».proof.Proof.Gen.KernelIdeal
public import Idealize.ShloMosaic.Lib.Pointwise

@[expose] public section

noncomputable section

namespace Cert.KernelIdeal.Chunk

open Cert.KernelIdeal Cert.KernelIdeal.Gen Idealize.ShloMosaic

variable {F : FTy → Type} [FloatOps F]

/-! ### The masks -/

/-- A row's own position in the chunk, at each entry of a score block; -/
def rowI : IVec S64x64 32 := iota .tc S64x64 32 [0] iota_S64x64_d0_w32
/-- the column's position; -/
def colI : IVec S64x64 32 := iota .tc S64x64 32 [1] iota_S64x64_d1_w32
/-- the position as one column. -/
def posI : IVec S64x1 32 := iota .tc S64x1 32 [0] iota_S64x1_d0_w32
/-- Zeros and ones, as score blocks and as rows. -/
def zz : FVec F S64x64 .f32 := broadcast S64x64 (Scalar.ofBits .f32 0x00000000#32)
def oo : FVec F S64x64 .f32 := broadcast S64x64 (Scalar.ofBits .f32 0x3F800000#32)
def zr : FVec F S64x128 .f32 := broadcast S64x128 (Scalar.ofBits .f32 0x00000000#32)
/-- One where the column is at most the row, and its transpose: the running sums' matrices. -/
def tri : FVec F S64x64 .f32 := select (cmpi .sle colI rowI) oo zz
def triT : FVec F S64x64 .f32 := select (cmpi .sle rowI colI) oo zz
/-- The pairs (a, b) of blocks of 2^sh positions, a the odd one right after the even b. -/
def after (sh : BitVec 32) (a b : IVec S64x64 32) : IVec S64x64 1 :=
  andi (cmpi .eq (shrsi a (broadcast S64x64 sh)) (addi (shrsi b (broadcast S64x64 sh)) (broadcast S64x64 1#32)))
    (cmpi .eq (andi (shrsi b (broadcast S64x64 sh)) (broadcast S64x64 1#32)) (broadcast S64x64 0#32))
/-- The rows on the later side of a level; -/
def side (sh : BitVec 32) : IVec S64x1 1 :=
  cmpi .eq (andi (shrsi posI (broadcast S64x1 sh)) (broadcast S64x1 1#32)) (broadcast S64x1 1#32)
/-- one there and minus one elsewhere; -/
def sgn (sh : BitVec 32) : FVec F S64x1 .f32 :=
  select (side sh) (broadcast S64x1 (Scalar.ofBits .f32 0x3F800000#32)) (broadcast S64x1 (Scalar.ofBits .f32 0xBF800000#32))
/-- the same mask over a chunk's columns. -/
def sideW (sh : BitVec 32) : IVec S64x128 1 :=
  broadcastTo S64x128 (shapeCast S64x1 (side sh) shapeCasts_S64x1_S64x1) broadcasts_S64x1_S64x128
def sgnW (sh : BitVec 32) : FVec F S64x128 .f32 := broadcastTo S64x128 (sgn sh) broadcasts_S64x1_S64x128
/-- Row and column in one block of eight, the column not after the row; and its transpose. -/
def blk (a b : IVec S64x64 32) : IVec S64x64 1 :=
  andi (cmpi .eq (shrsi rowI (broadcast S64x64 3#32)) (shrsi colI (broadcast S64x64 3#32))) (cmpi .sle a b)

/-! ### Products -/

def dNN (a : FVec F S64x64 .bf16) (b : FVec F S64x128 .bf16) : FVec F S64x128 .f32 :=
  matmul dot_S64x64_S64x128_S64x128_1_0_0_1_n_n none a b (constant S64x128 .f32 0x00000000#32)
def dNT (a b : FVec F S64x128 .bf16) : FVec F S64x64 .f32 :=
  matmul dot_S64x128_S64x128_S64x64_1_1_0_0_n_n none a b (constant S64x64 .f32 0x00000000#32)
def dTN (a b : FVec F S64x128 .bf16) : FVec F S128x128 .f32 :=
  matmul dot_S64x128_S64x128_S128x128_0_0_1_1_n_n none a b (constant S128x128 .f32 0x00000000#32)
def sNN (a : FVec F S64x128 .bf16) (b : FVec F S128x128 .bf16) : FVec F S64x128 .f32 :=
  matmul dot_S64x128_S128x128_S64x128_1_0_0_1_n_n none a b (constant S64x128 .f32 0x00000000#32)
def sNT (a : FVec F S64x128 .bf16) (b : FVec F S128x128 .bf16) : FVec F S64x128 .f32 :=
  matmul dot_S64x128_S128x128_S64x128_1_1_0_0_n_n none a b (constant S64x128 .f32 0x00000000#32)
/-- Narrowing and widening of a chunk's rows, and narrowing of a score block. -/
def nar (a : FVec F S64x128 .f32) : FVec F S64x128 .bf16 := truncf .bf16 a bitsLt_bf16_f32
def wid (a : FVec F S64x128 .bf16) : FVec F S64x128 .f32 := extf .f32 a bitsLt_bf16_f32
def narS (a : FVec F S64x64 .f32) : FVec F S64x64 .bf16 := truncf .bf16 a bitsLt_bf16_f32
def narD (a : FVec F S128x128 .f32) : FVec F S128x128 .bf16 := truncf .bf16 a bitsLt_bf16_f32
def widD (a : FVec F S128x128 .bf16) : FVec F S128x128 .f32 := extf .f32 a bitsLt_bf16_f32
/-- A 0/1 matrix times rows kept in three narrowed parts. -/
def split (m : FVec F S64x64 .f32) (x : FVec F S64x128 .f32) : FVec F S64x128 .f32 :=
  addf (addf (dNN (narS m) (nar x)) (dNN (narS m) (nar (subf x (wid (nar x))))))
    (dNN (narS m) (nar (subf (subf x (wid (nar x))) (wid (nar (subf x (wid (nar x))))))))
/-- The sum of a chunk's rows, and of a square's. -/
def colsum (x : FVec F S64x128 .f32) : FVec F S1x128 .f32 :=
  shapeCast S1x128 (multiReduction .add [0] S128 x 0x00000000#32 reduces_S64x128_S128 (.inl rfl) rfl) shapeCasts_S128_S1x128
def colsumD (x : FVec F S128x128 .f32) : FVec F S1x128 .f32 :=
  shapeCast S1x128 (multiReduction .add [0] S128 x 0x00000000#32 reduces_S128x128_S128 (.inl rfl) rfl) shapeCasts_S128_S1x128
/-- One row under every row. -/
def under (x : FVec F S1x128 .f32) : FVec F S64x128 .f32 := broadcastTo S64x128 x broadcasts_S1x128_S64x128

/-! ### The running sum and what is scaled by it -/

/-- Row n of a chunk, as one row. -/
def row (c : FVec F S64x128 .f32) (n : Fin 64) : FVec F S1x128 .f32 := fun i => c (ix2 n (i 1))
variable (F) in
/-- The rows of the running sum that the kernel reads back. -/
structure Rows where
  (r7 r15 r23 r31 r39 r47 r55 : FVec F S1x128 .f32)
/-- They are the running sum's rows. -/
def rowsOf (c : FVec F S64x128 .f32) : Rows F := ⟨row c 7, row c 15, row c 23, row c 31, row c 39, row c 47, row c 55⟩
def cast1 (r : FVec F S1x128 .f32) : FVec F S1x128 .f32 := shapeCast S1x128 r shapeCasts_S1x128_S1x128
/-- The boundary rows of the three levels under their blocks. -/
def bnd32 (b : Rows F) : FVec F S64x128 .f32 := broadcastTo S64x128 (cast1 b.r31) broadcasts_S1x128_S64x128
def bnd16 (b : Rows F) : FVec F S64x128 .f32 :=
  concatenate S64x128 0 [⟨S32x128, broadcastTo S32x128 (cast1 b.r15) broadcasts_S1x128_S32x128⟩,
    ⟨S32x128, broadcastTo S32x128 (cast1 b.r47) broadcasts_S1x128_S32x128⟩] concatenates_S32x128_S32x128_S64x128_d0
def b16 (r : FVec F S1x128 .f32) : FVec F S16x128 .f32 := broadcastTo S16x128 (cast1 r) broadcasts_S1x128_S16x128
def bnd8 (b : Rows F) : FVec F S64x128 .f32 :=
  concatenate S64x128 0 [⟨S16x128, b16 b.r7⟩, ⟨S16x128, b16 b.r23⟩, ⟨S16x128, b16 b.r39⟩, ⟨S16x128, b16 b.r55⟩]
    concatenates_S16x128_S16x128_S16x128_S16x128_S64x128_d0
def b8 (r : FVec F S1x128 .f32) : FVec F S8x128 .f32 := broadcastTo S8x128 (cast1 r) broadcasts_S1x128_S8x128
/-- The running sum before each block of eight. -/
def start (b : Rows F) : FVec F S64x128 .f32 :=
  concatenate S64x128 0 [⟨S8x128, broadcast S8x128 (Scalar.ofBits .f32 0x00000000#32)⟩, ⟨S8x128, b8 b.r7⟩, ⟨S8x128, b8 b.r15⟩,
    ⟨S8x128, b8 b.r23⟩, ⟨S8x128, b8 b.r31⟩, ⟨S8x128, b8 b.r39⟩, ⟨S8x128, b8 b.r47⟩, ⟨S8x128, b8 b.r55⟩]
    concatenates_S8x128_S8x128_S8x128_S8x128_S8x128_S8x128_S8x128_S8x128_S64x128_d0
/-- A level's weights, and the diagonal blocks' two. -/
def wt (sh : BitVec 32) (c bnd : FVec F S64x128 .f32) : FVec F S64x128 .f32 := exp (mulf (subf c bnd) (sgnW sh))
def wqD (b : Rows F) (c : FVec F S64x128 .f32) : FVec F S64x128 .f32 := exp (minimumf (subf c (start b)) zr)
def wkD (b : Rows F) (c : FVec F S64x128 .f32) : FVec F S64x128 .f32 :=
  exp (minimumf (subf (start b) c) (broadcast S64x128 (Scalar.ofBits .f32 0x42A00000#32)))

section Values

variable (b : Rows F) (q k v : FVec F S64x128 .bf16) (g o : FVec F S64x128 .f32) (st : FVec F S1x1x128x128 .f32) (dst : FVec F S128x128 .f32)

def cum : FVec F S64x128 .f32 := split tri g
def w32 : FVec F S64x128 .f32 := wt 5#32 (cum g) (bnd32 b)
def w16 : FVec F S64x128 .f32 := wt 4#32 (cum g) (bnd16 b)
def w8 : FVec F S64x128 .f32 := wt 3#32 (cum g) (bnd8 b)
/-- The level's operands: q on the later side, k on the earlier, each times its weight. -/
def xs (sh : BitVec 32) (w : FVec F S64x128 .f32) : FVec F S64x128 .bf16 := nar (mulf (select (sideW sh) (wid q) (wid k)) w)
def x32 : FVec F S64x128 .bf16 := xs q k 5#32 (w32 b g)
def x16 : FVec F S64x128 .bf16 := xs q k 4#32 (w16 b g)
def x8 : FVec F S64x128 .bf16 := xs q k 3#32 (w8 b g)
def qd8 : FVec F S64x128 .bf16 := nar (mulf (wid q) (wqD b (cum g)))
def kd8 : FVec F S64x128 .bf16 := nar (mulf (wid k) (wkD b (cum g)))
/-- The chunk's whole decay; the decay from the chunk's start to each row, and from each row to its end; the operands so scaled. -/
def etot : FVec F S1x128 .f32 := exp (colsum g)
def eb : FVec F S64x128 .f32 := exp (cum g)
def et : FVec F S64x128 .f32 := exp (subf (under (colsum g)) (cum g))
def qe : FVec F S64x128 .bf16 := nar (mulf (wid q) (eb g))
def ke : FVec F S64x128 .bf16 := nar (mulf (wid k) (et g))
/-- The score gradients, rows by rows before them and transposed. -/
def da : FVec F S64x64 .f32 := dNT (nar o) v
def daT : FVec F S64x64 .f32 := dNT v (nar o)
def dsym (sh : BitVec 32) : FVec F S64x64 .bf16 :=
  narS (addf (select (after sh rowI colI) (da v o) zz) (select (after sh colI rowI) (daT v o) zz))
def dd : FVec F S64x64 .bf16 := narS (select (blk colI rowI) (da v o) zz)
def ddT : FVec F S64x64 .bf16 := narS (select (blk rowI colI) (daT v o) zz)
def dx32 : FVec F S64x128 .f32 := dNN (dsym v o 5#32) (x32 b q k g)
def dx16 : FVec F S64x128 .f32 := dNN (dsym v o 4#32) (x16 b q k g)
def dx8 : FVec F S64x128 .f32 := dNN (dsym v o 3#32) (x8 b q k g)
def dqd : FVec F S64x128 .f32 := dNN (dd v o) (kd8 b k g)
def dkd : FVec F S64x128 .f32 := dNN (ddT v o) (qd8 b q g)
/-- The gradients the chunk's own rows give. -/
def dqI : FVec F S64x128 .f32 :=
  addf (addf (addf (mulf (dqd b k v g o) (wqD b (cum g))) (select (sideW 5#32) (mulf (dx32 b q k v g o) (w32 b g)) zr))
    (select (sideW 4#32) (mulf (dx16 b q k v g o) (w16 b g)) zr)) (select (sideW 3#32) (mulf (dx8 b q k v g o) (w8 b g)) zr)
def dkI : FVec F S64x128 .f32 :=
  addf (addf (addf (mulf (dkd b q v g o) (wkD b (cum g))) (select (sideW 5#32) zr (mulf (dx32 b q k v g o) (w32 b g))))
    (select (sideW 4#32) zr (mulf (dx16 b q k v g o) (w16 b g)))) (select (sideW 3#32) zr (mulf (dx8 b q k v g o) (w8 b g)))
def dbI : FVec F S64x128 .f32 :=
  addf (addf (addf (subf (mulf (dqd b k v g o) (wid (qd8 b q g))) (mulf (dkd b q v g o) (wid (kd8 b k g))))
    (mulf (mulf (dx32 b q k v g o) (wid (x32 b q k g))) (sgnW 5#32)))
    (mulf (mulf (dx16 b q k v g o) (wid (x16 b q k g))) (sgnW 4#32))) (mulf (mulf (dx8 b q k v g o) (wid (x8 b q k g))) (sgnW 3#32))
/-- The scores, transposed. -/
def scT : FVec F S64x64 .f32 :=
  addf (addf (addf (select (blk rowI colI) (dNT (kd8 b k g) (qd8 b q g)) zz) (select (after 5#32 colI rowI) (dNT (x32 b q k g) (x32 b q k g)) zz))
    (select (after 4#32 colI rowI) (dNT (x16 b q k g) (x16 b q k g)) zz)) (select (after 3#32 colI rowI) (dNT (x8 b q k g) (x8 b q k g)) zz)
/-- The states, narrowed, and the gradients through them. -/
def stb : FVec F S128x128 .bf16 := narD (shapeCast S128x128 st shapeCasts_S1x1x128x128_S128x128)
def dqe : FVec F S64x128 .f32 := sNN (nar o) (stb st)
def dke : FVec F S64x128 .f32 := sNN v (narD dst)

/-- What the chunk writes: the gradients of q, k, v and the gate, and the state gradient it hands to the chunk before. -/
def outQ : FVec F S64x128 .bf16 := nar (addf (dqI b q k v g o) (mulf (dqe o st) (eb g)))
def outK : FVec F S64x128 .bf16 := nar (addf (dkI b q k v g o) (mulf (dke v dst) (et g)))
def outV : FVec F S64x128 .bf16 := nar (addf (dNN (narS (scT b q k g)) (nar o)) (sNT (ke k g) (narD dst)))
def db : FVec F S64x128 .f32 :=
  subf (addf (dbI b q k v g o) (mulf (dqe o st) (wid (qe q g)))) (mulf (dke v dst) (wid (ke k g)))
def dtot : FVec F S1x128 .f32 :=
  addf (mulf (colsumD (mulf (widD (narD dst)) (widD (stb st)))) (etot g)) (colsum (mulf (dke v dst) (wid (ke k g))))
def outG : FVec F S64x128 .f32 := addf (split triT (db b q k v g o st dst)) (under (dtot k v g st dst))
def next : FVec F S128x128 .f32 :=
  addf (mulf dst (broadcastTo S128x128 (etot g) broadcasts_S1x128_S128x128)) (dTN (nar o) (qe q g))

end Values

end Cert.KernelIdeal.Chunk
-- ==== Proof.Block.lean ====
module
public import proofs.«01_k».proof.Proof.Gen.KernelIdeal.Frame.Runs
public import proofs.«01_k».proof.Proof.Unit
public import Idealize.ShloMosaic.Lib.Pipeline.ValueKit
public import Idealize.ShloMosaic.Lib.Pipeline.ReadBack
@[expose] public section
set_option maxRecDepth 16384
noncomputable section
/-! A grid point's block of rows: sixteen units, one per head and chunk, the chunks of a head last to first. -/
namespace Cert.KernelIdeal.Chunk
open Cert.KernelIdeal Cert.KernelIdeal.Gen Idealize.ShloMosaic
variable {F : FTy → Type} [FloatOps F]

/-- A unit's head in the block, and its place in that head's chain. -/
def hd (u : Fin 16) : Fin 4 := ⟨u.val / 4, by omega⟩
def ch (u : Fin 16) : ℕ := u.val % 4
/-- The units in the order of their stores, newest first. -/
def units : List (Fin 16) := [15, 14, 13, 12, 11, 10, 9, 8, 7, 6, 5, 4, 3, 2, 1, 0]
theorem mem_units (u : Fin 16) : u ∈ units := by revert u; decide

theorem inb_cut (h : Fin 4) (j : ℕ) : ∀ a, (![64 * (3 - j), 128 * h.val] : Fin 2 → ℕ) a + S64x128.size a ≤ S256x512.size a := by
  intro a; fin_cases a
  · show 64 * (3 - j) + 64 ≤ 256; omega
  · show 128 * h.val + 128 ≤ 512; omega
theorem inb_st (h : Fin 4) (j : ℕ) : ∀ a, (![h.val, 3 - j, 0, 0] : Fin 4 → ℕ) a + S1x1x128x128.size a ≤ S4x4x128x128.size a := by
  intro a; fin_cases a
  · show h.val + 1 ≤ 4; omega
  · show 3 - j + 1 ≤ 4; omega
  · show 0 + 128 ≤ 128; omega
  · show 0 + 128 ≤ 128; omega
theorem inb_row (n : Fin 64) : ∀ a, (![n.val, 0] : Fin 2 → ℕ) a + S1x128.size a ≤ S64x128.size a := by
  intro a; fin_cases a
  · show n.val + 1 ≤ 64; omega
  · show 0 + 128 ≤ 128; omega
theorem inb_page (u : Fin 16) : ∀ a, (![u.val, 0, 0] : Fin 3 → ℕ) a + S1x64x128.size a ≤ S16x64x128.size a := by
  intro a; fin_cases a
  · show u.val + 1 ≤ 16; omega
  · show 0 + 64 ≤ 64; omega
  · show 0 + 128 ≤ 128; omega

/-- A unit's slice of a block, as loaded, and as an array. -/
def cutR {e : EltTy} (arg : Memref sig .tc .vmem S256x512 e) (harg : arg.IsWhole) (x : Vec F S256x512 e) (h : Fin 4) (j : ℕ) :
    Vec F S64x128 e :=
  View.readAt (Elt F) arg.view (Rect.unit (s := S256x512) ![64 * (3 - j), 128 * h.val] S64x128.size (inb_cut h j)).toLoadRect
    (harg.unread x)
def cut {e : EltTy} (x : Vec F S256x512 e) (h : Fin 4) (j : ℕ) : Vec F S64x128 e := fun i =>
  x (ix2 ⟨64 * (3 - j) + (i 0).val, by have : (i 0).val < 64 := (i 0).isLt; omega⟩
    ⟨128 * h.val + (i 1).val, by have : (i 1).val < 128 := (i 1).isLt; omega⟩)
def stR (arg : Memref sig .tc .vmem S4x4x128x128 .f32) (harg : arg.IsWhole) (x : Vec F S4x4x128x128 .f32) (h : Fin 4) (j : ℕ) :
    Vec F S1x1x128x128 .f32 :=
  View.readAt (Elt F) arg.view (Rect.unit (s := S4x4x128x128) ![h.val, 3 - j, 0, 0] S1x1x128x128.size (inb_st h j)).toLoadRect
    (harg.unread x)
def stC (x : Vec F S4x4x128x128 .f32) (h : Fin 4) (j : ℕ) : Vec F S1x1x128x128 .f32 := fun i =>
  x (ix4 h ⟨3 - j, by omega⟩ (i 2) (i 3))

theorem cutR_eq {e : EltTy} (arg : Memref sig .tc .vmem S256x512 e) (harg : arg.IsWhole) (x : Vec F S256x512 e) :
    cutR arg harg x = cut x := by
  funext h j i
  unfold cutR cut
  rw [View.readAt_eq_ld, harg.read_unread]
  show x _ = x _
  congr 1
  funext a; apply Fin.ext; fin_cases a
  · show 64 * (3 - j) + 1 * (i 0).val = _; rw [Nat.one_mul]; rfl
  · show 128 * h.val + 1 * (i 1).val = _; rw [Nat.one_mul]; rfl
theorem stR_eq (arg : Memref sig .tc .vmem S4x4x128x128 .f32) (harg : arg.IsWhole) (x : Vec F S4x4x128x128 .f32) :
    stR arg harg x = stC x := by
  funext h j i
  unfold stR stC
  rw [View.readAt_eq_ld, harg.read_unread]
  show x _ = x _
  congr 1
  have h0 : (i 0).val < 1 := (i 0).isLt
  have h1 : (i 1).val < 1 := (i 1).isLt
  funext a; apply Fin.ext; fin_cases a
  · show h.val + 1 * (i 0).val = h.val; omega
  · show 3 - j + 1 * (i 1).val = 3 - j; omega
  · show 0 + 1 * (i 2).val = (i 2).val; omega
  · show 0 + 1 * (i 3).val = (i 3).val; omega

/-- A row of a unit's running sum, read back from the shared memory, and the rows the unit reads. -/
def rowR (w : View sig .tc .vmem S16x64x128 .f32) (L : List (View.Piece (Elt F) S16x64x128 .f32)) (u : Fin 16) (n : Fin 64) :
    FVec F S1x128 .f32 := fun j =>
  w.readCov L ((Rect.unit (s := S16x64x128) ![u.val, 0, 0] S1x64x128.size (inb_page u)).withinL
    ((Rect.unit (s := S64x128) ![n.val, 0] S1x128.size (inb_row n)).toLoadRect.consLift ![1, 64, 128] rfl (fun _ => rfl))
    (fun _ => rfl)) (Shape.reshapeEquiv (s' := S1x128) (s := ⟨3, ![1, 1, 128]⟩) (by decide) j)
def rowsR (w : View sig .tc .vmem S16x64x128 .f32) (L : List (View.Piece (Elt F) S16x64x128 .f32)) (u : Fin 16) : Rows F :=
  ⟨rowR w L u 7, rowR w L u 15, rowR w L u 23, rowR w L u 31, rowR w L u 39, rowR w L u 47, rowR w L u 55⟩

section Units
variable (b : Fin 16 → Rows F) (cq ck cv : Fin 4 → ℕ → FVec F S64x128 .bf16) (cg co : Fin 4 → ℕ → FVec F S64x128 .f32)
  (cs : Fin 4 → ℕ → FVec F S1x1x128x128 .f32) (d0 : Fin 4 → FVec F S128x128 .f32)

/-- The state gradient a head hands along its chain. -/
def uD (h : Fin 4) : ℕ → FVec F S128x128 .f32
  | 0 => d0 h
  | j + 1 => next (cq h j) (cg h j) (co h j) (uD h j)
/-- What a unit writes. -/
def uQ (u : Fin 16) : FVec F S64x128 .bf16 :=
  outQ (b u) (cq (hd u) (ch u)) (ck (hd u) (ch u)) (cv (hd u) (ch u)) (cg (hd u) (ch u)) (co (hd u) (ch u)) (cs (hd u) (ch u))
def uK (u : Fin 16) : FVec F S64x128 .bf16 :=
  outK (b u) (cq (hd u) (ch u)) (ck (hd u) (ch u)) (cv (hd u) (ch u)) (cg (hd u) (ch u)) (co (hd u) (ch u))
    (uD cq cg co d0 (hd u) (ch u))
def uV (u : Fin 16) : FVec F S64x128 .bf16 :=
  outV (b u) (cq (hd u) (ch u)) (ck (hd u) (ch u)) (cg (hd u) (ch u)) (co (hd u) (ch u)) (uD cq cg co d0 (hd u) (ch u))
def uG (u : Fin 16) : FVec F S64x128 .f32 :=
  outG (b u) (cq (hd u) (ch u)) (ck (hd u) (ch u)) (cv (hd u) (ch u)) (cg (hd u) (ch u)) (co (hd u) (ch u)) (cs (hd u) (ch u))
    (uD cq cg co d0 (hd u) (ch u))
end Units

/-- A unit's store into an output block, into the shared memory of running sums, and into the carried gradients. -/
def outP {e : EltTy} (f : Fin 16 → Vec F S64x128 e) (u : Fin 16) : View.Piece (Elt F) S256x512 e :=
  ⟨Rect.unit (s := S256x512) ![64 * (3 - ch u), 128 * (hd u).val] S64x128.size (inb_cut (hd u) (ch u)), f u⟩
def sumP (cg : Fin 4 → ℕ → FVec F S64x128 .f32) (u : Fin 16) : View.Piece (Elt F) S16x64x128 .f32 :=
  ⟨Rect.unit (s := S16x64x128) ![u.val, 0, 0] S1x64x128.size (inb_page u),
    shapeCast S1x64x128 (cum (cg (hd u) (ch u))) shapeCasts_S64x128_S1x64x128⟩

/-- What the output block holds after the sixteen stores. -/
def laid {e : EltTy} (f : Fin 16 → Vec F S64x128 e) : Vec F S256x512 e := fun y =>
  f ⟨4 * ((y 1).val / 128) + (3 - (y 0).val / 64), by have : (y 1).val < 512 := (y 1).isLt; omega⟩
    (ix2 ⟨(y 0).val % 64, Nat.mod_lt _ (by decide)⟩ ⟨(y 1).val % 128, Nat.mod_lt _ (by decide)⟩)

theorem canon_outP {e : EltTy} (f : Fin 16 → Vec F S64x128 e) : View.canon (units.map (outP f)) = laid f := by
  funext y
  refine View.canon_apply_of_pieces (laid f) _ ?_ y ?_
  · intro p hp x
    obtain ⟨u, -, rfl⟩ := List.mem_map.mp hp
    have h0 : (x 0).val < 64 := (x 0).isLt
    have h1 : (x 1).val < 128 := (x 1).isLt
    have e0 : (((outP f u).1.emb x) 0).val = 64 * (3 - ch u) + 1 * (x 0).val := rfl
    have e1 : (((outP f u).1.emb x) 1).val = 128 * (hd u).val + 1 * (x 1).val := rfl
    have hu := u.isLt
    show f u x = f _ _
    congr 1
    · congr 1
      apply Fin.ext
      show u.val = 4 * ((((outP f u).1.emb x) 1).val / 128) + (3 - (((outP f u).1.emb x) 0).val / 64)
      rw [e0, e1]; unfold ch hd; dsimp only; omega
    · funext a; apply Fin.ext; fin_cases a
      · show (x 0).val = (((outP f u).1.emb x) 0).val % 64
        rw [e0]; omega
      · show (x 1).val = (((outP f u).1.emb x) 1).val % 128
        rw [e1]; omega
  · have hy0 : (y 0).val < 256 := (y 0).isLt
    have hy1 : (y 1).val < 512 := (y 1).isLt
    refine ⟨outP f ⟨4 * ((y 1).val / 128) + (3 - (y 0).val / 64), by omega⟩, List.mem_map.mpr ⟨_, mem_units _, rfl⟩, ?_⟩
    suffices h : (outP f ⟨4 * ((y 1).val / 128) + (3 - (y 0).val / 64), by omega⟩).1.emb
        (ix2 ⟨(y 0).val % 64, Nat.mod_lt _ (by decide)⟩ ⟨(y 1).val % 128, Nat.mod_lt _ (by decide)⟩) = y by
      have hm := LoadRect.idx_mem (r := (outP f ⟨4 * ((y 1).val / 128) + (3 - (y 0).val / 64), by omega⟩).1.toLoadRect) (ix2 ⟨(y 0).val % 64, Nat.mod_lt _ (by decide)⟩ ⟨(y 1).val % 128, Nat.mod_lt _ (by decide)⟩)
      exact (congrArg (· ∈ (outP f ⟨4 * ((y 1).val / 128) + (3 - (y 0).val / 64), by omega⟩).1.set) h).mp hm
    funext a; apply Fin.ext; fin_cases a
    · show 64 * (3 - (4 * ((y 1).val / 128) + (3 - (y 0).val / 64)) % 4) + 1 * ((y 0).val % 64) = (y 0).val
      omega
    · show 128 * ((4 * ((y 1).val / 128) + (3 - (y 0).val / 64)) / 4) + 1 * ((y 1).val % 128) = (y 1).val
      omega

/-- The running sums of the sixteen units. -/
def sumAt (cg : Fin 4 → ℕ → FVec F S64x128 .f32) : Vec F S16x64x128 .f32 := fun y => cum (cg (hd (y 0)) (ch (y 0))) (ix2 (y 1) (y 2))

theorem canon_sumP (cg : Fin 4 → ℕ → FVec F S64x128 .f32) (y : S16x64x128.Idx) :
    View.canon (units.map (sumP cg)) y = sumAt cg y := by
  refine View.canon_apply_of_pieces (sumAt cg) _ ?_ y ?_
  · intro p hp x
    obtain ⟨u, -, rfl⟩ := List.mem_map.mp hp
    have h0 : (x 0).val < 1 := (x 0).isLt
    have e0 : ((sumP cg u).1.emb x) 0 = u := Fin.ext (show u.val + 1 * (x 0).val = u.val by omega)
    have e1 : ((sumP cg u).1.emb x) 1 = x 1 := Fin.ext (show 0 + 1 * (x 1).val = (x 1).val by omega)
    have e2 : ((sumP cg u).1.emb x) 2 = x 2 := Fin.ext (show 0 + 1 * (x 2).val = (x 2).val by omega)
    unfold sumAt
    rw [e0, e1, e2]
    show shapeCast S1x64x128 (cum (cg (hd u) (ch u))) shapeCasts_S64x128_S1x64x128 x = _
    have ex : x = (ix3 (0 : Fin 1) (x 1 : Fin 64) (x 2 : Fin 128) : S1x64x128.Idx) := by
      funext a; apply Fin.ext; fin_cases a
      · show (x 0).val = 0; omega
      · rfl
      · rfl
    rw [ex]
    pointwise
  · refine ⟨sumP cg (y 0), List.mem_map.mpr ⟨_, mem_units _, rfl⟩, ?_⟩
    suffices h : (sumP cg (y 0)).1.emb (ix3 (0 : Fin 1) (y 1 : Fin 64) (y 2 : Fin 128) : S1x64x128.Idx) = y by
      have hm := LoadRect.idx_mem (r := (sumP cg (y 0)).1.toLoadRect) (ix3 (0 : Fin 1) (y 1 : Fin 64) (y 2 : Fin 128) : S1x64x128.Idx)
      exact (congrArg (· ∈ (sumP cg (y 0)).1.set) h).mp hm
    funext a; apply Fin.ext; fin_cases a
    · show (y 0).val + 1 * 0 = (y 0).val; omega
    · show 0 + 1 * (y 1).val = (y 1).val; omega
    · show 0 + 1 * (y 2).val = (y 2).val; omega

/-- A list of a block's stores, built from its newest. -/
theorem cons_outP {e : EltTy} {f : Fin 16 → Vec F S64x128 e} {p : Vec F S64x128 e} {L : List (View.Piece (Elt F) S256x512 e)}
    {us : List (Fin 16)} (u : Fin 16) (hp : p = f u) (hL : L = us.map (outP f)) :
    (⟨Rect.unit (s := S256x512) ![64 * (3 - ch u), 128 * (hd u).val] S64x128.size (inb_cut (hd u) (ch u)), p⟩ :: L)
      = (u :: us).map (outP f) := by
  subst hp hL; rfl

theorem rowR_eq (w : View sig .tc .vmem S16x64x128 .f32) (cg : Fin 4 → ℕ → FVec F S64x128 .f32) (u : Fin 16) (n : Fin 64) :
    rowR w (units.map (sumP cg)) u n = row (cum (cg (hd u) (ch u))) n := by
  funext j
  have hj : (j 0).val < 1 := (j 0).isLt
  have e : Shape.reshapeEquiv (s' := S1x128) (s := ⟨3, ![1, 1, 128]⟩) (by decide) j = Fin.cons ⟨0, Nat.one_pos⟩ j :=
    Shape.reshapeEquiv_cons_one (d := S1x128.size) _ _
  unfold rowR
  rw [e, View.readCov_eq_canon']
  show View.canon (units.map (sumP cg)) _ = _
  rw [canon_sumP]
  have key : ∀ z : S16x64x128.Idx, z 0 = u → z 1 = n → z 2 = j 1 → sumAt cg z = row (cum (cg (hd u) (ch u))) n j := by
    intro z a b c; unfold sumAt; rw [a, b, c]; rfl
  exact key _ (Fin.ext (show u.val + 0 + 1 * 0 = u.val by omega)) (Fin.ext (show 0 + n.val + 1 * (j 0).val = n.val by omega))
    (Fin.ext (show 0 + 0 + 1 * (j 1).val = (j 1).val by omega))

theorem rowsR_eq (w : View sig .tc .vmem S16x64x128 .f32) (cg : Fin 4 → ℕ → FVec F S64x128 .f32) :
    rowsR w (units.map (sumP cg)) = fun u => rowsOf (cum (cg (hd u) (ch u))) := by
  funext u
  unfold rowsR rowsOf
  simp only [rowR_eq]

theorem inb_carry (h : Fin 4) : ∀ a, (![h.val, 0, 0] : Fin 3 → ℕ) a + (![1, 128, 128] : Fin 3 → ℕ) a ≤ S4x128x128.size a := by
  intro a; fin_cases a
  · show h.val + 1 ≤ 4; omega
  · show 0 + 128 ≤ 128; omega
  · show 0 + 128 ≤ 128; omega
/-- A head's store of the state gradient it carries, and the four of them. -/
def carryP (f : Fin 4 → FVec F S128x128 .f32) (h : Fin 4) : View.Piece (Elt F) S4x128x128 .f32 :=
  ⟨Rect.unit (s := S4x128x128) ![h.val, 0, 0] ![1, 128, 128] (inb_carry h),
    shapeCast S1x128x128 (f h) shapeCasts_S128x128_S1x128x128⟩
def carried (f : Fin 4 → FVec F S128x128 .f32) : Vec F S4x128x128 .f32 := fun y => f (y 0) (ix2 (y 1) (y 2))

theorem canon_carryP (f : Fin 4 → FVec F S128x128 .f32) (L : List (View.Piece (Elt F) S4x128x128 .f32)) :
    View.canon ([3, 2, 1, 0].map (carryP f) ++ L) = carried f := by
  funext y
  refine View.canon_append_of_pieces (carried f) L _ ?_ y ?_
  · intro p hp x
    obtain ⟨u, -, rfl⟩ := List.mem_map.mp hp
    have h0 : (x 0).val < 1 := (x 0).isLt
    have e0 : ((carryP f u).1.emb x) 0 = u := Fin.ext (show u.val + 1 * (x 0).val = u.val by omega)
    have e1 : ((carryP f u).1.emb x) 1 = x 1 := Fin.ext (show 0 + 1 * (x 1).val = (x 1).val by omega)
    have e2 : ((carryP f u).1.emb x) 2 = x 2 := Fin.ext (show 0 + 1 * (x 2).val = (x 2).val by omega)
    unfold carried
    rw [e0, e1, e2]
    show shapeCast S1x128x128 (f u) shapeCasts_S128x128_S1x128x128 x = _
    have ex : x = (ix3 (0 : Fin 1) (x 1 : Fin 128) (x 2 : Fin 128) : S1x128x128.Idx) := by
      funext a; apply Fin.ext; fin_cases a
      · show (x 0).val = 0; omega
      · rfl
      · rfl
    rw [ex]
    pointwise
  · refine ⟨carryP f (y 0), List.mem_map.mpr ⟨_, (by decide : ∀ h : Fin 4, h ∈ [3, 2, 1, 0]) (y 0), rfl⟩, ?_⟩
    suffices h : (carryP f (y 0)).1.emb (ix3 (0 : Fin 1) (y 1 : Fin 128) (y 2 : Fin 128) : S1x128x128.Idx) = y by
      have hm := LoadRect.idx_mem (r := (carryP f (y 0)).1.toLoadRect) (ix3 (0 : Fin 1) (y 1 : Fin 128) (y 2 : Fin 128) : S1x128x128.Idx)
      exact (congrArg (· ∈ (carryP f (y 0)).1.set) h).mp hm
    funext a; apply Fin.ext; fin_cases a
    · show (y 0).val + 1 * 0 = (y 0).val; omega
    · show 0 + 1 * (y 1).val = (y 1).val; omega
    · show 0 + 1 * (y 2).val = (y 2).val; omega

/-- No gradient from later chunks. -/
def zeroD : FVec F S128x128 .f32 := broadcast S128x128 (Scalar.ofBits .f32 0x00000000#32)

/-- A carried gradient as loaded: from what the point before left, or zero after the fill. -/
theorem inb_page4 (h : Fin 4) : ∀ a, (![h.val, 0, 0] : Fin 3 → ℕ) a + S1x128x128.size a ≤ S4x128x128.size a := inb_carry h
def pageOf (x : Vec F S4x128x128 .f32) (h : Fin 4) : FVec F S128x128 .f32 := fun i => x (ix3 h (i 0) (i 1))
theorem page_cast (x : Vec F S4x128x128 .f32) (h : Fin 4) :
    shapeCast S128x128 (View.ld x (Rect.unit (s := S4x128x128) ![h.val, 0, 0] S1x128x128.size (inb_page4 h)))
      shapeCasts_S1x128x128_S128x128 = pageOf x h := by
  funext i
  refine (shapeCast_dropUnit_apply (d := S128x128.size) _ _ i).trans ?_
  unfold pageOf
  refine congrArg x ?_
  funext a; apply Fin.ext; fin_cases a
  · show h.val + 1 * 0 = h.val; omega
  · show 0 + 1 * (i 0).val = (i 0).val; omega
  · show 0 + 1 * (i 1).val = (i 1).val; omega
theorem load_page (arg : Memref sig .tc .vmem S4x128x128 .f32) (harg : arg.IsWhole) (x : Vec F S4x128x128 .f32) (h : Fin 4) :
    shapeCast S128x128 (View.readAt (Elt F) arg.view
      (Rect.unit (s := S4x128x128) ![h.val, 0, 0] S1x128x128.size (inb_page4 h)).toLoadRect (harg.unread x))
      shapeCasts_S1x128x128_S128x128 = pageOf x h := by
  rw [View.readAt_eq_ld, harg.read_unread, page_cast]
theorem fill_page (arg : Memref sig .tc .vmem S4x128x128 .f32) (h : Fin 4) (inb) :
    (shapeCast S128x128 (arg.view.readCov (Val := Elt F)
      [⟨Rect.unit (s := S4x128x128) ![0, 0, 0] S4x128x128.size inb, (k0_pay22 : FVec F S4x128x128 .f32)⟩]
      (Rect.unit (s := S4x128x128) ![h.val, 0, 0] S1x128x128.size (inb_page4 h)).toLoadRect)
      shapeCasts_S1x128x128_S128x128 : FVec F S128x128 .f32) = (zeroD : FVec F S128x128 .f32) := by
  rw [View.readCov_fill _ _ _ _ _ (by intro a; fin_cases a <;> rfl), page_cast]
  funext i
  rfl

/-- The rows of every unit's running sum. -/
def sums (x : Vec F S256x512 .f32) (u : Fin 16) : Rows F := rowsOf (cum (cut x (hd u) (ch u)))

end Cert.KernelIdeal.Chunk
-- ==== Proof.RunAQ.lean ====
module
public import proofs.«01_k».proof.Proof.Gen.KernelIdeal.Frame.RunA
public import proofs.«01_k».proof.Proof.Block
@[expose] public section
set_option maxRecDepth 16384
set_option maxHeartbeats 0
noncomputable section
/-! The gradient of q at a first grid point of a head group: what each of the sixteen units stores. -/
namespace Cert.KernelIdeal.Chunk
open Cert.KernelIdeal Cert.KernelIdeal.Gen Idealize.ShloMosaic
variable {F : FTy → Type} [FloatOps F]
variable (c : Dev nD)
variable (arg2 : Memref sig .tc .vmem S256x512 .bf16) (harg2 : arg2.IsWhole)
variable (arg3 : Memref sig .tc .vmem S256x512 .bf16) (harg3 : arg3.IsWhole)
variable (arg4 : Memref sig .tc .vmem S256x512 .bf16) (harg4 : arg4.IsWhole)
variable (arg5 : Memref sig .tc .vmem S256x512 .f32) (harg5 : arg5.IsWhole)
variable (arg6 : Memref sig .tc .vmem S256x512 .f32) (harg6 : arg6.IsWhole)
variable (arg7 : Memref sig .tc .vmem S4x4x128x128 .f32) (harg7 : arg7.IsWhole)
variable (arg12 : Memref sig .tc .vmem S4x128x128 .f32)
variable (arg13 : Memref sig .tc .vmem S16x64x128 .f32)
variable (x0 : Vec F S256x512 .bf16) (x1 : Vec F S256x512 .bf16) (x2 : Vec F S256x512 .bf16) (x3 : Vec F S256x512 .f32) (x4 : Vec F S256x512 .f32) (x5 : Vec F S4x4x128x128 .f32)
/-- The sixteen units. -/
def allQA : Fin 16 → Vec F S64x128 .bf16 :=
  uQ (rowsR arg13.view (kernelRun0_A.sl.HS1_16 c arg5 harg5 x3)) (cutR arg2 harg2 x0) (cutR arg3 harg3 x1) (cutR arg4 harg4 x2) (cutR arg5 harg5 x3) (cutR arg6 harg6 x4) (stR arg7 harg7 x5)
theorem qA0 : k0_pay1073 (kernelRun0_A.sl.r_160 c arg5 harg5 x3) (kernelRun0_A.sl.r_723 c arg2 harg2 arg3 harg3 arg4 harg4 arg5 harg5 arg6 harg6 arg13 x0 x1 x2 x3 x4) (kernelRun0_A.sl.r_728 c arg6 harg6 arg7 harg7 x4 x5) = allQA c arg2 harg2 arg3 harg3 arg4 harg4 arg5 harg5 arg6 harg6 arg7 harg7 arg13 x0 x1 x2 x3 x4 x5 0 := (rfl)
theorem qA1 : k0_pay1079 (kernelRun0_A.sl.r_188 c arg5 harg5 x3) (kernelRun0_A.sl.r_738 c arg2 harg2 arg3 harg3 arg4 harg4 arg5 harg5 arg6 harg6 arg13 x0 x1 x2 x3 x4) (kernelRun0_A.sl.r_743 c arg6 harg6 arg7 harg7 x4 x5) = allQA c arg2 harg2 arg3 harg3 arg4 harg4 arg5 harg5 arg6 harg6 arg7 harg7 arg13 x0 x1 x2 x3 x4 x5 1 := (rfl)
theorem qA2 : k0_pay1086 (kernelRun0_A.sl.r_217 c arg5 harg5 x3) (kernelRun0_A.sl.r_749 c arg2 harg2 arg3 harg3 arg4 harg4 arg5 harg5 arg6 harg6 arg13 x0 x1 x2 x3 x4) (kernelRun0_A.sl.r_754 c arg6 harg6 arg7 harg7 x4 x5) = allQA c arg2 harg2 arg3 harg3 arg4 harg4 arg5 harg5 arg6 harg6 arg7 harg7 arg13 x0 x1 x2 x3 x4 x5 2 := (rfl)
theorem qA3 : k0_pay1096 (kernelRun0_A.sl.r_248 c arg5 harg5 x3) (kernelRun0_A.sl.r_762 c arg2 harg2 arg3 harg3 arg4 harg4 arg5 harg5 arg6 harg6 arg13 x0 x1 x2 x3 x4) (kernelRun0_A.sl.r_768 c arg6 harg6 arg7 harg7 x4 x5) = allQA c arg2 harg2 arg3 harg3 arg4 harg4 arg5 harg5 arg6 harg6 arg7 harg7 arg13 x0 x1 x2 x3 x4 x5 3 := (rfl)
theorem qA4 : k0_pay1108 (kernelRun0_A.sl.r_274 c arg5 harg5 x3) (kernelRun0_A.sl.r_774 c arg2 harg2 arg3 harg3 arg4 harg4 arg5 harg5 arg6 harg6 arg13 x0 x1 x2 x3 x4) (kernelRun0_A.sl.r_779 c arg6 harg6 arg7 harg7 x4 x5) = allQA c arg2 harg2 arg3 harg3 arg4 harg4 arg5 harg5 arg6 harg6 arg7 harg7 arg13 x0 x1 x2 x3 x4 x5 4 := (rfl)
theorem qA5 : k0_pay1113 (kernelRun0_A.sl.r_295 c arg5 harg5 x3) (kernelRun0_A.sl.r_785 c arg2 harg2 arg3 harg3 arg4 harg4 arg5 harg5 arg6 harg6 arg13 x0 x1 x2 x3 x4) (kernelRun0_A.sl.r_791 c arg6 harg6 arg7 harg7 x4 x5) = allQA c arg2 harg2 arg3 harg3 arg4 harg4 arg5 harg5 arg6 harg6 arg7 harg7 arg13 x0 x1 x2 x3 x4 x5 5 := (rfl)
theorem qA6 : k0_pay1117 (kernelRun0_A.sl.r_318 c arg5 harg5 x3) (kernelRun0_A.sl.r_796 c arg2 harg2 arg3 harg3 arg4 harg4 arg5 harg5 arg6 harg6 arg13 x0 x1 x2 x3 x4) (kernelRun0_A.sl.r_801 c arg6 harg6 arg7 harg7 x4 x5) = allQA c arg2 harg2 arg3 harg3 arg4 harg4 arg5 harg5 arg6 harg6 arg7 harg7 arg13 x0 x1 x2 x3 x4 x5 6 := (rfl)
theorem qA7 : kernelRun0_A.sl.r_966 c arg2 harg2 arg3 harg3 arg4 harg4 arg5 harg5 arg6 harg6 arg7 harg7 arg13 x0 x1 x2 x3 x4 x5 = allQA c arg2 harg2 arg3 harg3 arg4 harg4 arg5 harg5 arg6 harg6 arg7 harg7 arg13 x0 x1 x2 x3 x4 x5 7 := (rfl)
theorem qA8 : k0_pay1127 (kernelRun0_A.sl.r_367 c arg5 harg5 x3) (kernelRun0_A.sl.r_818 c arg2 harg2 arg3 harg3 arg4 harg4 arg5 harg5 arg6 harg6 arg13 x0 x1 x2 x3 x4) (kernelRun0_A.sl.r_823 c arg6 harg6 arg7 harg7 x4 x5) = allQA c arg2 harg2 arg3 harg3 arg4 harg4 arg5 harg5 arg6 harg6 arg7 harg7 arg13 x0 x1 x2 x3 x4 x5 8 := (rfl)
theorem qA9 : k0_pay1131 (kernelRun0_A.sl.r_394 c arg5 harg5 x3) (kernelRun0_A.sl.r_829 c arg2 harg2 arg3 harg3 arg4 harg4 arg5 harg5 arg6 harg6 arg13 x0 x1 x2 x3 x4) (kernelRun0_A.sl.r_835 c arg6 harg6 arg7 harg7 x4 x5) = allQA c arg2 harg2 arg3 harg3 arg4 harg4 arg5 harg5 arg6 harg6 arg7 harg7 arg13 x0 x1 x2 x3 x4 x5 9 := (rfl)
theorem qA10 : k0_pay1137 (kernelRun0_A.sl.r_424 c arg5 harg5 x3) (kernelRun0_A.sl.r_841 c arg2 harg2 arg3 harg3 arg4 harg4 arg5 harg5 arg6 harg6 arg13 x0 x1 x2 x3 x4) (kernelRun0_A.sl.r_846 c arg6 harg6 arg7 harg7 x4 x5) = allQA c arg2 harg2 arg3 harg3 arg4 harg4 arg5 harg5 arg6 harg6 arg7 harg7 arg13 x0 x1 x2 x3 x4 x5 10 := (rfl)
theorem qA11 : k0_pay1143 (kernelRun0_A.sl.r_454 c arg5 harg5 x3) (kernelRun0_A.sl.r_852 c arg2 harg2 arg3 harg3 arg4 harg4 arg5 harg5 arg6 harg6 arg13 x0 x1 x2 x3 x4) (kernelRun0_A.sl.r_857 c arg6 harg6 arg7 harg7 x4 x5) = allQA c arg2 harg2 arg3 harg3 arg4 harg4 arg5 harg5 arg6 harg6 arg7 harg7 arg13 x0 x1 x2 x3 x4 x5 11 := (rfl)
theorem qA12 : k0_pay1150 (kernelRun0_A.sl.r_476 c arg5 harg5 x3) (kernelRun0_A.sl.r_863 c arg2 harg2 arg3 harg3 arg4 harg4 arg5 harg5 arg6 harg6 arg13 x0 x1 x2 x3 x4) (kernelRun0_A.sl.r_868 c arg6 harg6 arg7 harg7 x4 x5) = allQA c arg2 harg2 arg3 harg3 arg4 harg4 arg5 harg5 arg6 harg6 arg7 harg7 arg13 x0 x1 x2 x3 x4 x5 12 := (rfl)
theorem qA13 : k0_pay1160 (kernelRun0_A.sl.r_499 c arg5 harg5 x3) (kernelRun0_A.sl.r_873 c arg2 harg2 arg3 harg3 arg4 harg4 arg5 harg5 arg6 harg6 arg13 x0 x1 x2 x3 x4) (kernelRun0_A.sl.r_878 c arg6 harg6 arg7 harg7 x4 x5) = allQA c arg2 harg2 arg3 harg3 arg4 harg4 arg5 harg5 arg6 harg6 arg7 harg7 arg13 x0 x1 x2 x3 x4 x5 13 := (rfl)
theorem qA14 : k0_pay1172 (kernelRun0_A.sl.r_523 c arg5 harg5 x3) (kernelRun0_A.sl.r_886 c arg2 harg2 arg3 harg3 arg4 harg4 arg5 harg5 arg6 harg6 arg13 x0 x1 x2 x3 x4) (kernelRun0_A.sl.r_891 c arg6 harg6 arg7 harg7 x4 x5) = allQA c arg2 harg2 arg3 harg3 arg4 harg4 arg5 harg5 arg6 harg6 arg7 harg7 arg13 x0 x1 x2 x3 x4 x5 14 := (rfl)
theorem qA15 : k0_pay1177 (kernelRun0_A.sl.r_549 c arg5 harg5 x3) (kernelRun0_A.sl.r_897 c arg2 harg2 arg3 harg3 arg4 harg4 arg5 harg5 arg6 harg6 arg13 x0 x1 x2 x3 x4) (kernelRun0_A.sl.r_902 c arg6 harg6 arg7 harg7 x4 x5) = allQA c arg2 harg2 arg3 harg3 arg4 harg4 arg5 harg5 arg6 harg6 arg7 harg7 arg13 x0 x1 x2 x3 x4 x5 15 := (rfl)
end Cert.KernelIdeal.Chunk
-- ==== Proof.RunAK.lean ====
module
public import proofs.«01_k».proof.Proof.Gen.KernelIdeal.Frame.RunA
public import proofs.«01_k».proof.Proof.Block
@[expose] public section
set_option maxRecDepth 16384
set_option maxHeartbeats 0
noncomputable section
/-! The gradient of k at a first grid point of a head group: what each of the sixteen units stores. -/
namespace Cert.KernelIdeal.Chunk
open Cert.KernelIdeal Cert.KernelIdeal.Gen Idealize.ShloMosaic
variable {F : FTy → Type} [FloatOps F]
variable (c : Dev nD)
variable (arg2 : Memref sig .tc .vmem S256x512 .bf16) (harg2 : arg2.IsWhole)
variable (arg3 : Memref sig .tc .vmem S256x512 .bf16) (harg3 : arg3.IsWhole)
variable (arg4 : Memref sig .tc .vmem S256x512 .bf16) (harg4 : arg4.IsWhole)
variable (arg5 : Memref sig .tc .vmem S256x512 .f32) (harg5 : arg5.IsWhole)
variable (arg6 : Memref sig .tc .vmem S256x512 .f32) (harg6 : arg6.IsWhole)
variable (arg7 : Memref sig .tc .vmem S4x4x128x128 .f32) (harg7 : arg7.IsWhole)
variable (arg12 : Memref sig .tc .vmem S4x128x128 .f32)
variable (arg13 : Memref sig .tc .vmem S16x64x128 .f32)
variable (x0 : Vec F S256x512 .bf16) (x1 : Vec F S256x512 .bf16) (x2 : Vec F S256x512 .bf16) (x3 : Vec F S256x512 .f32) (x4 : Vec F S256x512 .f32) (x5 : Vec F S4x4x128x128 .f32)
/-- The sixteen units. -/
def allKA : Fin 16 → Vec F S64x128 .bf16 :=
  uK (rowsR arg13.view (kernelRun0_A.sl.HS1_16 c arg5 harg5 x3)) (cutR arg2 harg2 x0) (cutR arg3 harg3 x1) (cutR arg4 harg4 x2) (cutR arg5 harg5 x3) (cutR arg6 harg6 x4) ![(kernelRun0_A.sl.r_2 c arg12), (kernelRun0_A.sl.r_3 c arg12), (kernelRun0_A.sl.r_4 c arg12), (kernelRun0_A.sl.r_5 c arg12)]
theorem kA0 : k0_pay1074 (kernelRun0_A.sl.r_161 c arg5 harg5 x3) (kernelRun0_A.sl.r_724 c arg2 harg2 arg3 harg3 arg4 harg4 arg5 harg5 arg6 harg6 arg13 x0 x1 x2 x3 x4) (kernelRun0_A.sl.r_906 c arg4 harg4 arg12 x2) = allKA c arg2 harg2 arg3 harg3 arg4 harg4 arg5 harg5 arg6 harg6 arg12 arg13 x0 x1 x2 x3 x4 0 := (rfl)
theorem kA1 : k0_pay1080 (kernelRun0_A.sl.r_189 c arg5 harg5 x3) (kernelRun0_A.sl.r_739 c arg2 harg2 arg3 harg3 arg4 harg4 arg5 harg5 arg6 harg6 arg13 x0 x1 x2 x3 x4) (kernelRun0_A.sl.r_908 c arg2 harg2 arg4 harg4 arg5 harg5 arg6 harg6 arg12 x0 x2 x3 x4) = allKA c arg2 harg2 arg3 harg3 arg4 harg4 arg5 harg5 arg6 harg6 arg12 arg13 x0 x1 x2 x3 x4 1 := (rfl)
theorem kA2 : k0_pay1087 (kernelRun0_A.sl.r_218 c arg5 harg5 x3) (kernelRun0_A.sl.r_750 c arg2 harg2 arg3 harg3 arg4 harg4 arg5 harg5 arg6 harg6 arg13 x0 x1 x2 x3 x4) (kernelRun0_A.sl.r_910 c arg2 harg2 arg4 harg4 arg5 harg5 arg6 harg6 arg12 x0 x2 x3 x4) = allKA c arg2 harg2 arg3 harg3 arg4 harg4 arg5 harg5 arg6 harg6 arg12 arg13 x0 x1 x2 x3 x4 2 := (rfl)
theorem kA3 : k0_pay1097 (kernelRun0_A.sl.r_249 c arg5 harg5 x3) (kernelRun0_A.sl.r_763 c arg2 harg2 arg3 harg3 arg4 harg4 arg5 harg5 arg6 harg6 arg13 x0 x1 x2 x3 x4) (kernelRun0_A.sl.r_913 c arg2 harg2 arg4 harg4 arg5 harg5 arg6 harg6 arg12 x0 x2 x3 x4) = allKA c arg2 harg2 arg3 harg3 arg4 harg4 arg5 harg5 arg6 harg6 arg12 arg13 x0 x1 x2 x3 x4 3 := (rfl)
theorem kA4 : k0_pay1109 (kernelRun0_A.sl.r_275 c arg5 harg5 x3) (kernelRun0_A.sl.r_775 c arg2 harg2 arg3 harg3 arg4 harg4 arg5 harg5 arg6 harg6 arg13 x0 x1 x2 x3 x4) (kernelRun0_A.sl.r_916 c arg4 harg4 arg12 x2) = allKA c arg2 harg2 arg3 harg3 arg4 harg4 arg5 harg5 arg6 harg6 arg12 arg13 x0 x1 x2 x3 x4 4 := (rfl)
theorem kA5 : k0_pay1114 (kernelRun0_A.sl.r_296 c arg5 harg5 x3) (kernelRun0_A.sl.r_786 c arg2 harg2 arg3 harg3 arg4 harg4 arg5 harg5 arg6 harg6 arg13 x0 x1 x2 x3 x4) (kernelRun0_A.sl.r_918 c arg2 harg2 arg4 harg4 arg5 harg5 arg6 harg6 arg12 x0 x2 x3 x4) = allKA c arg2 harg2 arg3 harg3 arg4 harg4 arg5 harg5 arg6 harg6 arg12 arg13 x0 x1 x2 x3 x4 5 := (rfl)
theorem kA6 : k0_pay1118 (kernelRun0_A.sl.r_319 c arg5 harg5 x3) (kernelRun0_A.sl.r_797 c arg2 harg2 arg3 harg3 arg4 harg4 arg5 harg5 arg6 harg6 arg13 x0 x1 x2 x3 x4) (kernelRun0_A.sl.r_920 c arg2 harg2 arg4 harg4 arg5 harg5 arg6 harg6 arg12 x0 x2 x3 x4) = allKA c arg2 harg2 arg3 harg3 arg4 harg4 arg5 harg5 arg6 harg6 arg12 arg13 x0 x1 x2 x3 x4 6 := (rfl)
theorem kA7 : k0_pay1123 (kernelRun0_A.sl.r_342 c arg5 harg5 x3) (kernelRun0_A.sl.r_808 c arg2 harg2 arg3 harg3 arg4 harg4 arg5 harg5 arg6 harg6 arg13 x0 x1 x2 x3 x4) (kernelRun0_A.sl.r_923 c arg2 harg2 arg4 harg4 arg5 harg5 arg6 harg6 arg12 x0 x2 x3 x4) = allKA c arg2 harg2 arg3 harg3 arg4 harg4 arg5 harg5 arg6 harg6 arg12 arg13 x0 x1 x2 x3 x4 7 := (rfl)
theorem kA8 : kernelRun0_A.sl.r_969 c arg2 harg2 arg3 harg3 arg4 harg4 arg5 harg5 arg6 harg6 arg12 arg13 x0 x1 x2 x3 x4 = allKA c arg2 harg2 arg3 harg3 arg4 harg4 arg5 harg5 arg6 harg6 arg12 arg13 x0 x1 x2 x3 x4 8 := (rfl)
theorem kA9 : k0_pay1132 (kernelRun0_A.sl.r_395 c arg5 harg5 x3) (kernelRun0_A.sl.r_830 c arg2 harg2 arg3 harg3 arg4 harg4 arg5 harg5 arg6 harg6 arg13 x0 x1 x2 x3 x4) (kernelRun0_A.sl.r_928 c arg2 harg2 arg4 harg4 arg5 harg5 arg6 harg6 arg12 x0 x2 x3 x4) = allKA c arg2 harg2 arg3 harg3 arg4 harg4 arg5 harg5 arg6 harg6 arg12 arg13 x0 x1 x2 x3 x4 9 := (rfl)
theorem kA10 : k0_pay1138 (kernelRun0_A.sl.r_425 c arg5 harg5 x3) (kernelRun0_A.sl.r_842 c arg2 harg2 arg3 harg3 arg4 harg4 arg5 harg5 arg6 harg6 arg13 x0 x1 x2 x3 x4) (kernelRun0_A.sl.r_930 c arg2 harg2 arg4 harg4 arg5 harg5 arg6 harg6 arg12 x0 x2 x3 x4) = allKA c arg2 harg2 arg3 harg3 arg4 harg4 arg5 harg5 arg6 harg6 arg12 arg13 x0 x1 x2 x3 x4 10 := (rfl)
theorem kA11 : k0_pay1144 (kernelRun0_A.sl.r_455 c arg5 harg5 x3) (kernelRun0_A.sl.r_853 c arg2 harg2 arg3 harg3 arg4 harg4 arg5 harg5 arg6 harg6 arg13 x0 x1 x2 x3 x4) (kernelRun0_A.sl.r_933 c arg2 harg2 arg4 harg4 arg5 harg5 arg6 harg6 arg12 x0 x2 x3 x4) = allKA c arg2 harg2 arg3 harg3 arg4 harg4 arg5 harg5 arg6 harg6 arg12 arg13 x0 x1 x2 x3 x4 11 := (rfl)
theorem kA12 : k0_pay1151 (kernelRun0_A.sl.r_477 c arg5 harg5 x3) (kernelRun0_A.sl.r_864 c arg2 harg2 arg3 harg3 arg4 harg4 arg5 harg5 arg6 harg6 arg13 x0 x1 x2 x3 x4) (kernelRun0_A.sl.r_935 c arg4 harg4 arg12 x2) = allKA c arg2 harg2 arg3 harg3 arg4 harg4 arg5 harg5 arg6 harg6 arg12 arg13 x0 x1 x2 x3 x4 12 := (rfl)
theorem kA13 : k0_pay1161 (kernelRun0_A.sl.r_500 c arg5 harg5 x3) (kernelRun0_A.sl.r_874 c arg2 harg2 arg3 harg3 arg4 harg4 arg5 harg5 arg6 harg6 arg13 x0 x1 x2 x3 x4) (kernelRun0_A.sl.r_939 c arg2 harg2 arg4 harg4 arg5 harg5 arg6 harg6 arg12 x0 x2 x3 x4) = allKA c arg2 harg2 arg3 harg3 arg4 harg4 arg5 harg5 arg6 harg6 arg12 arg13 x0 x1 x2 x3 x4 13 := (rfl)
theorem kA14 : k0_pay1173 (kernelRun0_A.sl.r_524 c arg5 harg5 x3) (kernelRun0_A.sl.r_887 c arg2 harg2 arg3 harg3 arg4 harg4 arg5 harg5 arg6 harg6 arg13 x0 x1 x2 x3 x4) (kernelRun0_A.sl.r_941 c arg2 harg2 arg4 harg4 arg5 harg5 arg6 harg6 arg12 x0 x2 x3 x4) = allKA c arg2 harg2 arg3 harg3 arg4 harg4 arg5 harg5 arg6 harg6 arg12 arg13 x0 x1 x2 x3 x4 14 := (rfl)
theorem kA15 : k0_pay1178 (kernelRun0_A.sl.r_550 c arg5 harg5 x3) (kernelRun0_A.sl.r_898 c arg2 harg2 arg3 harg3 arg4 harg4 arg5 harg5 arg6 harg6 arg13 x0 x1 x2 x3 x4) (kernelRun0_A.sl.r_944 c arg2 harg2 arg4 harg4 arg5 harg5 arg6 harg6 arg12 x0 x2 x3 x4) = allKA c arg2 harg2 arg3 harg3 arg4 harg4 arg5 harg5 arg6 harg6 arg12 arg13 x0 x1 x2 x3 x4 15 := (rfl)
end Cert.KernelIdeal.Chunk
-- ==== Proof.RunAV.lean ====
module
public import proofs.«01_k».proof.Proof.Gen.KernelIdeal.Frame.RunA
public import proofs.«01_k».proof.Proof.Block
@[expose] public section
set_option maxRecDepth 16384
set_option maxHeartbeats 0
noncomputable section
/-! The gradient of v at a first grid point of a head group: what each of the sixteen units stores. -/
namespace Cert.KernelIdeal.Chunk
open Cert.KernelIdeal Cert.KernelIdeal.Gen Idealize.ShloMosaic
variable {F : FTy → Type} [FloatOps F]
variable (c : Dev nD)
variable (arg2 : Memref sig .tc .vmem S256x512 .bf16) (harg2 : arg2.IsWhole)
variable (arg3 : Memref sig .tc .vmem S256x512 .bf16) (harg3 : arg3.IsWhole)
variable (arg4 : Memref sig .tc .vmem S256x512 .bf16) (harg4 : arg4.IsWhole)
variable (arg5 : Memref sig .tc .vmem S256x512 .f32) (harg5 : arg5.IsWhole)
variable (arg6 : Memref sig .tc .vmem S256x512 .f32) (harg6 : arg6.IsWhole)
variable (arg7 : Memref sig .tc .vmem S4x4x128x128 .f32) (harg7 : arg7.IsWhole)
variable (arg12 : Memref sig .tc .vmem S4x128x128 .f32)
variable (arg13 : Memref sig .tc .vmem S16x64x128 .f32)
variable (x0 : Vec F S256x512 .bf16) (x1 : Vec F S256x512 .bf16) (x2 : Vec F S256x512 .bf16) (x3 : Vec F S256x512 .f32) (x4 : Vec F S256x512 .f32) (x5 : Vec F S4x4x128x128 .f32)
/-- The sixteen units. -/
def allVA : Fin 16 → Vec F S64x128 .bf16 :=
  uV (rowsR arg13.view (kernelRun0_A.sl.HS1_16 c arg5 harg5 x3)) (cutR arg2 harg2 x0) (cutR arg3 harg3 x1) (cutR arg5 harg5 x3) (cutR arg6 harg6 x4) ![(kernelRun0_A.sl.r_2 c arg12), (kernelRun0_A.sl.r_3 c arg12), (kernelRun0_A.sl.r_4 c arg12), (kernelRun0_A.sl.r_5 c arg12)]
theorem vA0 : kernelRun0_A.sl.r_905 c arg2 harg2 arg3 harg3 arg5 harg5 arg6 harg6 arg12 arg13 x0 x1 x3 x4 = allVA c arg2 harg2 arg3 harg3 arg5 harg5 arg6 harg6 arg12 arg13 x0 x1 x3 x4 0 := (rfl)
theorem vA1 : k0_pay1012 (kernelRun0_A.sl.r_191 c arg3 harg3 arg5 harg5 x1 x3) (kernelRun0_A.sl.r_741 c arg2 harg2 arg3 harg3 arg5 harg5 arg6 harg6 arg13 x0 x1 x3 x4) (kernelRun0_A.sl.r_904 c arg2 harg2 arg5 harg5 arg6 harg6 arg12 x0 x3 x4) = allVA c arg2 harg2 arg3 harg3 arg5 harg5 arg6 harg6 arg12 arg13 x0 x1 x3 x4 1 := (rfl)
theorem vA2 : k0_pay1016 (kernelRun0_A.sl.r_187 c arg5 harg5 x3) (kernelRun0_A.sl.r_220 c arg3 harg3 arg5 harg5 x1 x3) (kernelRun0_A.sl.r_577 c arg2 harg2 arg5 harg5 arg6 harg6 x0 x3 x4) (kernelRun0_A.sl.r_752 c arg2 harg2 arg3 harg3 arg5 harg5 arg6 harg6 arg13 x0 x1 x3 x4) (kernelRun0_A.sl.r_904 c arg2 harg2 arg5 harg5 arg6 harg6 arg12 x0 x3 x4) = allVA c arg2 harg2 arg3 harg3 arg5 harg5 arg6 harg6 arg12 arg13 x0 x1 x3 x4 2 := (rfl)
theorem vA3 : k0_pay1020 (kernelRun0_A.sl.r_187 c arg5 harg5 x3) (kernelRun0_A.sl.r_216 c arg5 harg5 x3) (kernelRun0_A.sl.r_251 c arg3 harg3 arg5 harg5 x1 x3) (kernelRun0_A.sl.r_577 c arg2 harg2 arg5 harg5 arg6 harg6 x0 x3 x4) (kernelRun0_A.sl.r_587 c arg2 harg2 arg5 harg5 arg6 harg6 x0 x3 x4) (kernelRun0_A.sl.r_766 c arg2 harg2 arg3 harg3 arg5 harg5 arg6 harg6 arg13 x0 x1 x3 x4) (kernelRun0_A.sl.r_904 c arg2 harg2 arg5 harg5 arg6 harg6 arg12 x0 x3 x4) = allVA c arg2 harg2 arg3 harg3 arg5 harg5 arg6 harg6 arg12 arg13 x0 x1 x3 x4 3 := (rfl)
theorem vA4 : k0_pay1024 (kernelRun0_A.sl.r_3 c arg12) (kernelRun0_A.sl.r_277 c arg3 harg3 arg5 harg5 x1 x3) (kernelRun0_A.sl.r_777 c arg2 harg2 arg3 harg3 arg5 harg5 arg6 harg6 arg13 x0 x1 x3 x4) = allVA c arg2 harg2 arg3 harg3 arg5 harg5 arg6 harg6 arg12 arg13 x0 x1 x3 x4 4 := (rfl)
theorem vA5 : k0_pay1028 (kernelRun0_A.sl.r_298 c arg3 harg3 arg5 harg5 x1 x3) (kernelRun0_A.sl.r_789 c arg2 harg2 arg3 harg3 arg5 harg5 arg6 harg6 arg13 x0 x1 x3 x4) (kernelRun0_A.sl.r_915 c arg2 harg2 arg5 harg5 arg6 harg6 arg12 x0 x3 x4) = allVA c arg2 harg2 arg3 harg3 arg5 harg5 arg6 harg6 arg12 arg13 x0 x1 x3 x4 5 := (rfl)
theorem vA6 : k0_pay1032 (kernelRun0_A.sl.r_294 c arg5 harg5 x3) (kernelRun0_A.sl.r_321 c arg3 harg3 arg5 harg5 x1 x3) (kernelRun0_A.sl.r_617 c arg2 harg2 arg5 harg5 arg6 harg6 x0 x3 x4) (kernelRun0_A.sl.r_799 c arg2 harg2 arg3 harg3 arg5 harg5 arg6 harg6 arg13 x0 x1 x3 x4) (kernelRun0_A.sl.r_915 c arg2 harg2 arg5 harg5 arg6 harg6 arg12 x0 x3 x4) = allVA c arg2 harg2 arg3 harg3 arg5 harg5 arg6 harg6 arg12 arg13 x0 x1 x3 x4 6 := (rfl)
theorem vA7 : k0_pay1036 (kernelRun0_A.sl.r_294 c arg5 harg5 x3) (kernelRun0_A.sl.r_317 c arg5 harg5 x3) (kernelRun0_A.sl.r_344 c arg3 harg3 arg5 harg5 x1 x3) (kernelRun0_A.sl.r_617 c arg2 harg2 arg5 harg5 arg6 harg6 x0 x3 x4) (kernelRun0_A.sl.r_627 c arg2 harg2 arg5 harg5 arg6 harg6 x0 x3 x4) (kernelRun0_A.sl.r_810 c arg2 harg2 arg3 harg3 arg5 harg5 arg6 harg6 arg13 x0 x1 x3 x4) (kernelRun0_A.sl.r_915 c arg2 harg2 arg5 harg5 arg6 harg6 arg12 x0 x3 x4) = allVA c arg2 harg2 arg3 harg3 arg5 harg5 arg6 harg6 arg12 arg13 x0 x1 x3 x4 7 := (rfl)
theorem vA8 : k0_pay1040 (kernelRun0_A.sl.r_4 c arg12) (kernelRun0_A.sl.r_370 c arg3 harg3 arg5 harg5 x1 x3) (kernelRun0_A.sl.r_821 c arg2 harg2 arg3 harg3 arg5 harg5 arg6 harg6 arg13 x0 x1 x3 x4) = allVA c arg2 harg2 arg3 harg3 arg5 harg5 arg6 harg6 arg12 arg13 x0 x1 x3 x4 8 := (rfl)
theorem vA9 : k0_pay1045 (kernelRun0_A.sl.r_397 c arg3 harg3 arg5 harg5 x1 x3) (kernelRun0_A.sl.r_832 c arg2 harg2 arg3 harg3 arg5 harg5 arg6 harg6 arg13 x0 x1 x3 x4) (kernelRun0_A.sl.r_926 c arg2 harg2 arg5 harg5 arg6 harg6 arg12 x0 x3 x4) = allVA c arg2 harg2 arg3 harg3 arg5 harg5 arg6 harg6 arg12 arg13 x0 x1 x3 x4 9 := (rfl)
theorem vA10 : k0_pay1049 (kernelRun0_A.sl.r_427 c arg3 harg3 arg5 harg5 x1 x3) (kernelRun0_A.sl.r_657 c arg2 harg2 arg5 harg5 arg6 harg6 x0 x3 x4) (kernelRun0_A.sl.r_844 c arg2 harg2 arg3 harg3 arg5 harg5 arg6 harg6 arg13 x0 x1 x3 x4) (kernelRun0_A.sl.r_927 c arg2 harg2 arg5 harg5 arg6 harg6 arg12 x0 x3 x4) = allVA c arg2 harg2 arg3 harg3 arg5 harg5 arg6 harg6 arg12 arg13 x0 x1 x3 x4 10 := (rfl)
theorem vA11 : k0_pay1053 (kernelRun0_A.sl.r_423 c arg5 harg5 x3) (kernelRun0_A.sl.r_458 c arg3 harg3 arg5 harg5 x1 x3) (kernelRun0_A.sl.r_657 c arg2 harg2 arg5 harg5 arg6 harg6 x0 x3 x4) (kernelRun0_A.sl.r_667 c arg2 harg2 arg5 harg5 arg6 harg6 x0 x3 x4) (kernelRun0_A.sl.r_855 c arg2 harg2 arg3 harg3 arg5 harg5 arg6 harg6 arg13 x0 x1 x3 x4) (kernelRun0_A.sl.r_927 c arg2 harg2 arg5 harg5 arg6 harg6 arg12 x0 x3 x4) = allVA c arg2 harg2 arg3 harg3 arg5 harg5 arg6 harg6 arg12 arg13 x0 x1 x3 x4 11 := (rfl)
theorem vA12 : k0_pay1057 (kernelRun0_A.sl.r_5 c arg12) (kernelRun0_A.sl.r_479 c arg3 harg3 arg5 harg5 x1 x3) (kernelRun0_A.sl.r_866 c arg2 harg2 arg3 harg3 arg5 harg5 arg6 harg6 arg13 x0 x1 x3 x4) = allVA c arg2 harg2 arg3 harg3 arg5 harg5 arg6 harg6 arg12 arg13 x0 x1 x3 x4 12 := (rfl)
theorem vA13 : k0_pay1062 (kernelRun0_A.sl.r_938 c arg2 harg2 arg3 harg3 arg5 harg5 arg6 harg6 arg12 arg13 x0 x1 x3 x4) = allVA c arg2 harg2 arg3 harg3 arg5 harg5 arg6 harg6 arg12 arg13 x0 x1 x3 x4 13 := (rfl)
theorem vA14 : k0_pay1066 (kernelRun0_A.sl.r_526 c arg3 harg3 arg5 harg5 x1 x3) (kernelRun0_A.sl.r_889 c arg2 harg2 arg3 harg3 arg5 harg5 arg6 harg6 arg13 x0 x1 x3 x4) (kernelRun0_A.sl.r_937 c arg2 harg2 arg5 harg5 arg6 harg6 arg12 x0 x3 x4) = allVA c arg2 harg2 arg3 harg3 arg5 harg5 arg6 harg6 arg12 arg13 x0 x1 x3 x4 14 := (rfl)
theorem vA15 : k0_pay1070 (kernelRun0_A.sl.r_522 c arg5 harg5 x3) (kernelRun0_A.sl.r_552 c arg3 harg3 arg5 harg5 x1 x3) (kernelRun0_A.sl.r_707 c arg2 harg2 arg5 harg5 arg6 harg6 x0 x3 x4) (kernelRun0_A.sl.r_900 c arg2 harg2 arg3 harg3 arg5 harg5 arg6 harg6 arg13 x0 x1 x3 x4) (kernelRun0_A.sl.r_937 c arg2 harg2 arg5 harg5 arg6 harg6 arg12 x0 x3 x4) = allVA c arg2 harg2 arg3 harg3 arg5 harg5 arg6 harg6 arg12 arg13 x0 x1 x3 x4 15 := (rfl)
end Cert.KernelIdeal.Chunk
-- ==== Proof.RunAG.lean ====
module
public import proofs.«01_k».proof.Proof.Gen.KernelIdeal.Frame.RunA
public import proofs.«01_k».proof.Proof.Block
@[expose] public section
set_option maxRecDepth 16384
set_option maxHeartbeats 0
noncomputable section
/-! The gate's gradient at a first grid point of a head group: what each of the sixteen units stores. -/
namespace Cert.KernelIdeal.Chunk
open Cert.KernelIdeal Cert.KernelIdeal.Gen Idealize.ShloMosaic
variable {F : FTy → Type} [FloatOps F]
variable (c : Dev nD)
variable (arg2 : Memref sig .tc .vmem S256x512 .bf16) (harg2 : arg2.IsWhole)
variable (arg3 : Memref sig .tc .vmem S256x512 .bf16) (harg3 : arg3.IsWhole)
variable (arg4 : Memref sig .tc .vmem S256x512 .bf16) (harg4 : arg4.IsWhole)
variable (arg5 : Memref sig .tc .vmem S256x512 .f32) (harg5 : arg5.IsWhole)
variable (arg6 : Memref sig .tc .vmem S256x512 .f32) (harg6 : arg6.IsWhole)
variable (arg7 : Memref sig .tc .vmem S4x4x128x128 .f32) (harg7 : arg7.IsWhole)
variable (arg12 : Memref sig .tc .vmem S4x128x128 .f32)
variable (arg13 : Memref sig .tc .vmem S16x64x128 .f32)
variable (x0 : Vec F S256x512 .bf16) (x1 : Vec F S256x512 .bf16) (x2 : Vec F S256x512 .bf16) (x3 : Vec F S256x512 .f32) (x4 : Vec F S256x512 .f32) (x5 : Vec F S4x4x128x128 .f32)
/-- The sixteen units. -/
def allGA : Fin 16 → Vec F S64x128 .f32 :=
  uG (rowsR arg13.view (kernelRun0_A.sl.HS1_16 c arg5 harg5 x3)) (cutR arg2 harg2 x0) (cutR arg3 harg3 x1) (cutR arg4 harg4 x2) (cutR arg5 harg5 x3) (cutR arg6 harg6 x4) (stR arg7 harg7 x5) ![(kernelRun0_A.sl.r_2 c arg12), (kernelRun0_A.sl.r_3 c arg12), (kernelRun0_A.sl.r_4 c arg12), (kernelRun0_A.sl.r_5 c arg12)]
theorem gA0 : k0_pay1077 k0_pay6 (kernelRun0_A.sl.r_159 c arg5 harg5 x3) (kernelRun0_A.sl.r_906 c arg4 harg4 arg12 x2) (kernelRun0_A.sl.r_945 c arg3 harg3 arg5 harg5 x1 x3) (kernelRun0_A.sl.r_946 c arg2 harg2 arg3 harg3 arg4 harg4 arg5 harg5 arg6 harg6 arg7 harg7 arg12 arg13 x0 x1 x2 x3 x4 x5) (kernelRun0_A.sl.r_947 c arg7 harg7 arg12 x5) = allGA c arg2 harg2 arg3 harg3 arg4 harg4 arg5 harg5 arg6 harg6 arg7 harg7 arg12 arg13 x0 x1 x2 x3 x4 x5 0 := (rfl)
theorem gA1 : k0_pay1084 k0_pay6 (kernelRun0_A.sl.r_948 c arg2 harg2 arg3 harg3 arg4 harg4 arg5 harg5 arg6 harg6 arg7 harg7 arg12 arg13 x0 x1 x2 x3 x4 x5) (kernelRun0_A.sl.r_949 c arg2 harg2 arg5 harg5 arg6 harg6 arg7 harg7 arg12 x0 x3 x4 x5) (kernelRun0_A.sl.r_950 c arg2 harg2 arg3 harg3 arg4 harg4 arg5 harg5 arg6 harg6 arg12 x0 x1 x2 x3 x4) = allGA c arg2 harg2 arg3 harg3 arg4 harg4 arg5 harg5 arg6 harg6 arg7 harg7 arg12 arg13 x0 x1 x2 x3 x4 x5 1 := (rfl)
theorem gA2 : k0_pay1094 (kernelRun0_A.sl.r_951 c arg2 harg2 arg3 harg3 arg4 harg4 arg5 harg5 arg6 harg6 arg7 harg7 arg12 x0 x1 x2 x3 x4 x5) kernelRun0_A.sl.r_952 (kernelRun0_A.sl.r_953 c arg2 harg2 arg3 harg3 arg4 harg4 arg5 harg5 arg6 harg6 arg7 harg7 arg12 arg13 x0 x1 x2 x3 x4 x5) (kernelRun0_A.sl.r_954 c arg2 harg2 arg3 harg3 arg4 harg4 arg5 harg5 arg6 harg6 arg7 harg7 arg12 arg13 x0 x1 x2 x3 x4 x5) (kernelRun0_A.sl.r_955 c arg2 harg2 arg3 harg3 arg4 harg4 arg5 harg5 arg6 harg6 arg7 harg7 arg12 arg13 x0 x1 x2 x3 x4 x5) = allGA c arg2 harg2 arg3 harg3 arg4 harg4 arg5 harg5 arg6 harg6 arg7 harg7 arg12 arg13 x0 x1 x2 x3 x4 x5 2 := (rfl)
theorem gA3 : k0_pay1106 (kernelRun0_A.sl.r_956 c arg2 harg2 arg3 harg3 arg4 harg4 arg5 harg5 arg6 harg6 arg7 harg7 arg12 x0 x1 x2 x3 x4 x5) kernelRun0_A.sl.r_957 (kernelRun0_A.sl.r_958 c arg2 harg2 arg3 harg3 arg4 harg4 arg5 harg5 arg6 harg6 arg7 harg7 arg12 arg13 x0 x1 x2 x3 x4 x5) (kernelRun0_A.sl.r_959 c arg2 harg2 arg3 harg3 arg4 harg4 arg5 harg5 arg6 harg6 arg7 harg7 arg12 arg13 x0 x1 x2 x3 x4 x5) (kernelRun0_A.sl.r_960 c arg2 harg2 arg3 harg3 arg4 harg4 arg5 harg5 arg6 harg6 arg7 harg7 arg12 arg13 x0 x1 x2 x3 x4 x5) kernelRun0_A.sl.cst_142 = allGA c arg2 harg2 arg3 harg3 arg4 harg4 arg5 harg5 arg6 harg6 arg7 harg7 arg12 arg13 x0 x1 x2 x3 x4 x5 3 := (rfl)
theorem gA4 : k0_pay1112 (kernelRun0_A.sl.r_961 c arg2 harg2 arg3 harg3 arg4 harg4 arg5 harg5 arg6 harg6 arg7 harg7 arg12 arg13 x0 x1 x2 x3 x4 x5) (kernelRun0_A.sl.r_962 c arg3 harg3 arg4 harg4 arg5 harg5 arg7 harg7 arg12 x1 x2 x3 x5) = allGA c arg2 harg2 arg3 harg3 arg4 harg4 arg5 harg5 arg6 harg6 arg7 harg7 arg12 arg13 x0 x1 x2 x3 x4 x5 4 := (rfl)
theorem gA5 : k0_pay1115 k0_pay6 (kernelRun0_A.sl.r_294 c arg5 harg5 x3) (kernelRun0_A.sl.r_297 c arg2 harg2 arg5 harg5 x0 x3) (kernelRun0_A.sl.r_298 c arg3 harg3 arg5 harg5 x1 x3) (kernelRun0_A.sl.r_787 c arg2 harg2 arg3 harg3 arg4 harg4 arg5 harg5 arg6 harg6 arg13 x0 x1 x2 x3 x4) (kernelRun0_A.sl.r_790 c arg7 harg7 x5) (kernelRun0_A.sl.r_791 c arg6 harg6 arg7 harg7 x4 x5) (kernelRun0_A.sl.r_917 c arg2 harg2 arg5 harg5 arg6 harg6 arg12 x0 x3 x4) (kernelRun0_A.sl.r_918 c arg2 harg2 arg4 harg4 arg5 harg5 arg6 harg6 arg12 x0 x2 x3 x4) = allGA c arg2 harg2 arg3 harg3 arg4 harg4 arg5 harg5 arg6 harg6 arg7 harg7 arg12 arg13 x0 x1 x2 x3 x4 x5 5 := (rfl)
theorem gA6 : k0_pay1119 k0_pay6 (kernelRun0_A.sl.r_317 c arg5 harg5 x3) (kernelRun0_A.sl.r_321 c arg3 harg3 arg5 harg5 x1 x3) (kernelRun0_A.sl.r_798 c arg2 harg2 arg3 harg3 arg4 harg4 arg5 harg5 arg6 harg6 arg13 x0 x1 x2 x3 x4) (kernelRun0_A.sl.r_800 c arg7 harg7 x5) (kernelRun0_A.sl.r_801 c arg6 harg6 arg7 harg7 x4 x5) (kernelRun0_A.sl.r_919 c arg2 harg2 arg5 harg5 arg6 harg6 arg12 x0 x3 x4) (kernelRun0_A.sl.r_920 c arg2 harg2 arg4 harg4 arg5 harg5 arg6 harg6 arg12 x0 x2 x3 x4) (kernelRun0_A.sl.r_963 c arg2 harg2 arg5 harg5 x0 x3) = allGA c arg2 harg2 arg3 harg3 arg4 harg4 arg5 harg5 arg6 harg6 arg7 harg7 arg12 arg13 x0 x1 x2 x3 x4 x5 6 := (rfl)
theorem gA7 : k0_pay1124 k0_pay6 (kernelRun0_A.sl.r_340 c arg5 harg5 x3) (kernelRun0_A.sl.r_809 c arg2 harg2 arg3 harg3 arg4 harg4 arg5 harg5 arg6 harg6 arg13 x0 x1 x2 x3 x4) (kernelRun0_A.sl.r_811 c arg7 harg7 x5) (kernelRun0_A.sl.r_812 c arg6 harg6 arg7 harg7 x4 x5) (kernelRun0_A.sl.r_921 c arg2 harg2 arg5 harg5 arg6 harg6 arg12 x0 x3 x4) (kernelRun0_A.sl.r_923 c arg2 harg2 arg4 harg4 arg5 harg5 arg6 harg6 arg12 x0 x2 x3 x4) (kernelRun0_A.sl.r_964 c arg2 harg2 arg5 harg5 x0 x3) (kernelRun0_A.sl.r_965 c arg3 harg3 arg5 harg5 x1 x3) = allGA c arg2 harg2 arg3 harg3 arg4 harg4 arg5 harg5 arg6 harg6 arg7 harg7 arg12 arg13 x0 x1 x2 x3 x4 x5 7 := (rfl)
theorem gA8 : k0_pay1129 k0_pay6 (kernelRun0_A.sl.r_366 c arg5 harg5 x3) (kernelRun0_A.sl.r_820 c arg2 harg2 arg3 harg3 arg4 harg4 arg5 harg5 arg6 harg6 arg13 x0 x1 x2 x3 x4) (kernelRun0_A.sl.r_822 c arg7 harg7 x5) (kernelRun0_A.sl.r_823 c arg6 harg6 arg7 harg7 x4 x5) (kernelRun0_A.sl.r_924 c arg12) (kernelRun0_A.sl.r_925 c arg4 harg4 arg12 x2) (kernelRun0_A.sl.r_967 c arg2 harg2 arg5 harg5 x0 x3) (kernelRun0_A.sl.r_968 c arg3 harg3 arg5 harg5 x1 x3) = allGA c arg2 harg2 arg3 harg3 arg4 harg4 arg5 harg5 arg6 harg6 arg7 harg7 arg12 arg13 x0 x1 x2 x3 x4 x5 8 := (rfl)
theorem gA9 : k0_pay1135 k0_pay6 (kernelRun0_A.sl.r_393 c arg5 harg5 x3) (kernelRun0_A.sl.r_834 c arg7 harg7 x5) (kernelRun0_A.sl.r_926 c arg2 harg2 arg5 harg5 arg6 harg6 arg12 x0 x3 x4) (kernelRun0_A.sl.r_928 c arg2 harg2 arg4 harg4 arg5 harg5 arg6 harg6 arg12 x0 x2 x3 x4) (kernelRun0_A.sl.r_970 c arg3 harg3 arg5 harg5 x1 x3) (kernelRun0_A.sl.r_971 c arg2 harg2 arg3 harg3 arg4 harg4 arg5 harg5 arg6 harg6 arg7 harg7 arg13 x0 x1 x2 x3 x4 x5) (kernelRun0_A.sl.r_972 c arg2 harg2 arg3 harg3 arg4 harg4 arg5 harg5 arg6 harg6 arg12 x0 x1 x2 x3 x4) = allGA c arg2 harg2 arg3 harg3 arg4 harg4 arg5 harg5 arg6 harg6 arg7 harg7 arg12 arg13 x0 x1 x2 x3 x4 x5 9 := (rfl)
theorem gA10 : k0_pay1141 k0_pay6 (kernelRun0_A.sl.r_423 c arg5 harg5 x3) (kernelRun0_A.sl.r_930 c arg2 harg2 arg4 harg4 arg5 harg5 arg6 harg6 arg12 x0 x2 x3 x4) (kernelRun0_A.sl.r_973 c arg3 harg3 arg5 harg5 x1 x3) (kernelRun0_A.sl.r_974 c arg2 harg2 arg3 harg3 arg4 harg4 arg5 harg5 arg6 harg6 arg7 harg7 arg12 arg13 x0 x1 x2 x3 x4 x5) (kernelRun0_A.sl.r_975 c arg2 harg2 arg5 harg5 arg6 harg6 arg7 harg7 arg12 x0 x3 x4 x5) = allGA c arg2 harg2 arg3 harg3 arg4 harg4 arg5 harg5 arg6 harg6 arg7 harg7 arg12 arg13 x0 x1 x2 x3 x4 x5 10 := (rfl)
theorem gA11 : k0_pay1148 k0_pay6 (kernelRun0_A.sl.r_976 c arg2 harg2 arg3 harg3 arg4 harg4 arg5 harg5 arg6 harg6 arg7 harg7 arg12 arg13 x0 x1 x2 x3 x4 x5) (kernelRun0_A.sl.r_977 c arg2 harg2 arg5 harg5 arg6 harg6 arg7 harg7 arg12 x0 x3 x4 x5) (kernelRun0_A.sl.r_978 c arg2 harg2 arg3 harg3 arg4 harg4 arg5 harg5 arg6 harg6 arg12 x0 x1 x2 x3 x4) = allGA c arg2 harg2 arg3 harg3 arg4 harg4 arg5 harg5 arg6 harg6 arg7 harg7 arg12 arg13 x0 x1 x2 x3 x4 x5 11 := (rfl)
theorem gA12 : k0_pay1158 (kernelRun0_A.sl.r_979 c arg3 harg3 arg4 harg4 arg5 harg5 arg7 harg7 arg12 x1 x2 x3 x5) kernelRun0_A.sl.r_980 (kernelRun0_A.sl.r_981 c arg2 harg2 arg3 harg3 arg4 harg4 arg5 harg5 arg6 harg6 arg7 harg7 arg12 arg13 x0 x1 x2 x3 x4 x5) (kernelRun0_A.sl.r_982 c arg2 harg2 arg3 harg3 arg4 harg4 arg5 harg5 arg6 harg6 arg7 harg7 arg12 arg13 x0 x1 x2 x3 x4 x5) (kernelRun0_A.sl.r_983 c arg2 harg2 arg3 harg3 arg4 harg4 arg5 harg5 arg6 harg6 arg7 harg7 arg12 arg13 x0 x1 x2 x3 x4 x5) = allGA c arg2 harg2 arg3 harg3 arg4 harg4 arg5 harg5 arg6 harg6 arg7 harg7 arg12 arg13 x0 x1 x2 x3 x4 x5 12 := (rfl)
theorem gA13 : k0_pay1170 (kernelRun0_A.sl.r_984 c arg2 harg2 arg3 harg3 arg4 harg4 arg5 harg5 arg6 harg6 arg7 harg7 arg12 x0 x1 x2 x3 x4 x5) kernelRun0_A.sl.r_985 (kernelRun0_A.sl.r_986 c arg2 harg2 arg3 harg3 arg4 harg4 arg5 harg5 arg6 harg6 arg7 harg7 arg12 arg13 x0 x1 x2 x3 x4 x5) (kernelRun0_A.sl.r_987 c arg2 harg2 arg3 harg3 arg4 harg4 arg5 harg5 arg6 harg6 arg7 harg7 arg12 arg13 x0 x1 x2 x3 x4 x5) (kernelRun0_A.sl.r_988 c arg2 harg2 arg3 harg3 arg4 harg4 arg5 harg5 arg6 harg6 arg7 harg7 arg12 arg13 x0 x1 x2 x3 x4 x5) kernelRun0_A.sl.cst_142 = allGA c arg2 harg2 arg3 harg3 arg4 harg4 arg5 harg5 arg6 harg6 arg7 harg7 arg12 arg13 x0 x1 x2 x3 x4 x5 13 := (rfl)
theorem gA14 : k0_pay1176 (kernelRun0_A.sl.r_989 c arg2 harg2 arg3 harg3 arg4 harg4 arg5 harg5 arg6 harg6 arg7 harg7 arg12 arg13 x0 x1 x2 x3 x4 x5) (kernelRun0_A.sl.r_990 c arg2 harg2 arg3 harg3 arg4 harg4 arg5 harg5 arg6 harg6 arg7 harg7 arg12 x0 x1 x2 x3 x4 x5) = allGA c arg2 harg2 arg3 harg3 arg4 harg4 arg5 harg5 arg6 harg6 arg7 harg7 arg12 arg13 x0 x1 x2 x3 x4 x5 14 := (rfl)
theorem gA15 : k0_pay1179 k0_pay6 (kernelRun0_A.sl.r_548 c arg5 harg5 x3) (kernelRun0_A.sl.r_551 c arg2 harg2 arg5 harg5 x0 x3) (kernelRun0_A.sl.r_552 c arg3 harg3 arg5 harg5 x1 x3) (kernelRun0_A.sl.r_899 c arg2 harg2 arg3 harg3 arg4 harg4 arg5 harg5 arg6 harg6 arg13 x0 x1 x2 x3 x4) (kernelRun0_A.sl.r_901 c arg7 harg7 x5) (kernelRun0_A.sl.r_902 c arg6 harg6 arg7 harg7 x4 x5) (kernelRun0_A.sl.r_942 c arg2 harg2 arg5 harg5 arg6 harg6 arg12 x0 x3 x4) (kernelRun0_A.sl.r_944 c arg2 harg2 arg4 harg4 arg5 harg5 arg6 harg6 arg12 x0 x2 x3 x4) = allGA c arg2 harg2 arg3 harg3 arg4 harg4 arg5 harg5 arg6 harg6 arg7 harg7 arg12 arg13 x0 x1 x2 x3 x4 x5 15 := (rfl)
end Cert.KernelIdeal.Chunk
-- ==== Proof.OutA.lean ====
module
public import proofs.«01_k».proof.Proof.Gen.KernelIdeal.Frame
public import proofs.«01_k».proof.Proof.RunAQ
public import proofs.«01_k».proof.Proof.RunAK
public import proofs.«01_k».proof.Proof.RunAV
public import proofs.«01_k».proof.Proof.RunAG
public import proofs.«01_k».proof.Proof.Block
@[expose] public section
set_option maxRecDepth 16384
set_option maxHeartbeats 0
noncomputable section
/-! The output blocks and the carried gradients after a first grid point of a head group. -/
namespace Cert.KernelIdeal.Chunk
open Cert.KernelIdeal Cert.KernelIdeal.Gen Idealize.ShloMosaic
variable {F : FTy → Type} [FloatOps F]
variable (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S4x4x128x128 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .f32) (harg11 : arg11.IsWhole) (arg12 : Memref sig .tc .vmem S4x128x128 .f32) (harg12 : arg12.IsWhole) (arg13 : Memref sig .tc .vmem S16x64x128 .f32) (harg13 : arg13.IsWhole) (hc0 : cond0_0 i)
variable (x0 : Vec F S256x512 .bf16) (x1 : Vec F S256x512 .bf16) (x2 : Vec F S256x512 .bf16) (x3 : Vec F S256x512 .f32) (x4 : Vec F S256x512 .f32) (x5 : Vec F S4x4x128x128 .f32)
/-- The running sums the block stores, and the gradients it starts from. -/
theorem sumsA : kernelRun0_A.sl.HS1_16 c arg5 harg5 x3 = units.map (sumP (cutR arg5 harg5 x3)) := (rfl)
theorem startA : (![(kernelRun0_A.sl.r_2 c arg12), (kernelRun0_A.sl.r_3 c arg12), (kernelRun0_A.sl.r_4 c arg12), (kernelRun0_A.sl.r_5 c arg12)] : Fin 4 → FVec F S128x128 .f32) = ((fun _ => zeroD) : Fin 4 → FVec F S128x128 .f32) := by
  funext h; fin_cases h
  · exact fill_page arg12 0 _
  · exact fill_page arg12 1 _
  · exact fill_page arg12 2 _
  · exact fill_page arg12 3 _
theorem listQA : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5).1 = units.map (outP (allQA c arg2 harg2 arg3 harg3 arg4 harg4 arg5 harg5 arg6 harg6 arg7 harg7 arg13 x0 x1 x2 x3 x4 x5)) := by
  unfold units
  refine cons_outP (F := F) (e := .bf16) 15 (qA15 c arg2 harg2 arg3 harg3 arg4 harg4 arg5 harg5 arg6 harg6 arg7 harg7 arg13 x0 x1 x2 x3 x4 x5) ?_
  refine cons_outP (F := F) (e := .bf16) 14 (qA14 c arg2 harg2 arg3 harg3 arg4 harg4 arg5 harg5 arg6 harg6 arg7 harg7 arg13 x0 x1 x2 x3 x4 x5) ?_
  refine cons_outP (F := F) (e := .bf16) 13 (qA13 c arg2 harg2 arg3 harg3 arg4 harg4 arg5 harg5 arg6 harg6 arg7 harg7 arg13 x0 x1 x2 x3 x4 x5) ?_
  refine cons_outP (F := F) (e := .bf16) 12 (qA12 c arg2 harg2 arg3 harg3 arg4 harg4 arg5 harg5 arg6 harg6 arg7 harg7 arg13 x0 x1 x2 x3 x4 x5) ?_
  refine cons_outP (F := F) (e := .bf16) 11 (qA11 c arg2 harg2 arg3 harg3 arg4 harg4 arg5 harg5 arg6 harg6 arg7 harg7 arg13 x0 x1 x2 x3 x4 x5) ?_
  refine cons_outP (F := F) (e := .bf16) 10 (qA10 c arg2 harg2 arg3 harg3 arg4 harg4 arg5 harg5 arg6 harg6 arg7 harg7 arg13 x0 x1 x2 x3 x4 x5) ?_
  refine cons_outP (F := F) (e := .bf16) 9 (qA9 c arg2 harg2 arg3 harg3 arg4 harg4 arg5 harg5 arg6 harg6 arg7 harg7 arg13 x0 x1 x2 x3 x4 x5) ?_
  refine cons_outP (F := F) (e := .bf16) 8 (qA8 c arg2 harg2 arg3 harg3 arg4 harg4 arg5 harg5 arg6 harg6 arg7 harg7 arg13 x0 x1 x2 x3 x4 x5) ?_
  refine cons_outP (F := F) (e := .bf16) 7 (qA7 c arg2 harg2 arg3 harg3 arg4 harg4 arg5 harg5 arg6 harg6 arg7 harg7 arg13 x0 x1 x2 x3 x4 x5) ?_
  refine cons_outP (F := F) (e := .bf16) 6 (qA6 c arg2 harg2 arg3 harg3 arg4 harg4 arg5 harg5 arg6 harg6 arg7 harg7 arg13 x0 x1 x2 x3 x4 x5) ?_
  refine cons_outP (F := F) (e := .bf16) 5 (qA5 c arg2 harg2 arg3 harg3 arg4 harg4 arg5 harg5 arg6 harg6 arg7 harg7 arg13 x0 x1 x2 x3 x4 x5) ?_
  refine cons_outP (F := F) (e := .bf16) 4 (qA4 c arg2 harg2 arg3 harg3 arg4 harg4 arg5 harg5 arg6 harg6 arg7 harg7 arg13 x0 x1 x2 x3 x4 x5) ?_
  refine cons_outP (F := F) (e := .bf16) 3 (qA3 c arg2 harg2 arg3 harg3 arg4 harg4 arg5 harg5 arg6 harg6 arg7 harg7 arg13 x0 x1 x2 x3 x4 x5) ?_
  refine cons_outP (F := F) (e := .bf16) 2 (qA2 c arg2 harg2 arg3 harg3 arg4 harg4 arg5 harg5 arg6 harg6 arg7 harg7 arg13 x0 x1 x2 x3 x4 x5) ?_
  refine cons_outP (F := F) (e := .bf16) 1 (qA1 c arg2 harg2 arg3 harg3 arg4 harg4 arg5 harg5 arg6 harg6 arg7 harg7 arg13 x0 x1 x2 x3 x4 x5) ?_
  refine cons_outP (F := F) (e := .bf16) 0 (qA0 c arg2 harg2 arg3 harg3 arg4 harg4 arg5 harg5 arg6 harg6 arg7 harg7 arg13 x0 x1 x2 x3 x4 x5) ?_
  rfl
theorem outQA : out0_A_6 c i arg2 harg2 arg3 harg3 arg4 harg4 arg5 harg5 arg6 harg6 arg7 harg7 arg8 harg8 arg9 harg9 arg10 harg10 arg11 harg11 arg12 harg12 arg13 harg13 hc0 x0 x1 x2 x3 x4 x5 = laid (uQ (sums x3) (cut x0) (cut x1) (cut x2) (cut x3) (cut x4) (stC x5)) := by
  unfold out0_A_6
  rw [View.read_writes_junk_eq_canon, listQA, canon_outP]
  unfold allQA
  rw [sumsA, rowsR_eq]
  simp only [cutR_eq, stR_eq]
  rfl
theorem listKA : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5).2.1 = units.map (outP (allKA c arg2 harg2 arg3 harg3 arg4 harg4 arg5 harg5 arg6 harg6 arg12 arg13 x0 x1 x2 x3 x4)) := by
  unfold units
  refine cons_outP (F := F) (e := .bf16) 15 (kA15 c arg2 harg2 arg3 harg3 arg4 harg4 arg5 harg5 arg6 harg6 arg12 arg13 x0 x1 x2 x3 x4) ?_
  refine cons_outP (F := F) (e := .bf16) 14 (kA14 c arg2 harg2 arg3 harg3 arg4 harg4 arg5 harg5 arg6 harg6 arg12 arg13 x0 x1 x2 x3 x4) ?_
  refine cons_outP (F := F) (e := .bf16) 13 (kA13 c arg2 harg2 arg3 harg3 arg4 harg4 arg5 harg5 arg6 harg6 arg12 arg13 x0 x1 x2 x3 x4) ?_
  refine cons_outP (F := F) (e := .bf16) 12 (kA12 c arg2 harg2 arg3 harg3 arg4 harg4 arg5 harg5 arg6 harg6 arg12 arg13 x0 x1 x2 x3 x4) ?_
  refine cons_outP (F := F) (e := .bf16) 11 (kA11 c arg2 harg2 arg3 harg3 arg4 harg4 arg5 harg5 arg6 harg6 arg12 arg13 x0 x1 x2 x3 x4) ?_
  refine cons_outP (F := F) (e := .bf16) 10 (kA10 c arg2 harg2 arg3 harg3 arg4 harg4 arg5 harg5 arg6 harg6 arg12 arg13 x0 x1 x2 x3 x4) ?_
  refine cons_outP (F := F) (e := .bf16) 9 (kA9 c arg2 harg2 arg3 harg3 arg4 harg4 arg5 harg5 arg6 harg6 arg12 arg13 x0 x1 x2 x3 x4) ?_
  refine cons_outP (F := F) (e := .bf16) 8 (kA8 c arg2 harg2 arg3 harg3 arg4 harg4 arg5 harg5 arg6 harg6 arg12 arg13 x0 x1 x2 x3 x4) ?_
  refine cons_outP (F := F) (e := .bf16) 7 (kA7 c arg2 harg2 arg3 harg3 arg4 harg4 arg5 harg5 arg6 harg6 arg12 arg13 x0 x1 x2 x3 x4) ?_
  refine cons_outP (F := F) (e := .bf16) 6 (kA6 c arg2 harg2 arg3 harg3 arg4 harg4 arg5 harg5 arg6 harg6 arg12 arg13 x0 x1 x2 x3 x4) ?_
  refine cons_outP (F := F) (e := .bf16) 5 (kA5 c arg2 harg2 arg3 harg3 arg4 harg4 arg5 harg5 arg6 harg6 arg12 arg13 x0 x1 x2 x3 x4) ?_
  refine cons_outP (F := F) (e := .bf16) 4 (kA4 c arg2 harg2 arg3 harg3 arg4 harg4 arg5 harg5 arg6 harg6 arg12 arg13 x0 x1 x2 x3 x4) ?_
  refine cons_outP (F := F) (e := .bf16) 3 (kA3 c arg2 harg2 arg3 harg3 arg4 harg4 arg5 harg5 arg6 harg6 arg12 arg13 x0 x1 x2 x3 x4) ?_
  refine cons_outP (F := F) (e := .bf16) 2 (kA2 c arg2 harg2 arg3 harg3 arg4 harg4 arg5 harg5 arg6 harg6 arg12 arg13 x0 x1 x2 x3 x4) ?_
  refine cons_outP (F := F) (e := .bf16) 1 (kA1 c arg2 harg2 arg3 harg3 arg4 harg4 arg5 harg5 arg6 harg6 arg12 arg13 x0 x1 x2 x3 x4) ?_
  refine cons_outP (F := F) (e := .bf16) 0 (kA0 c arg2 harg2 arg3 harg3 arg4 harg4 arg5 harg5 arg6 harg6 arg12 arg13 x0 x1 x2 x3 x4) ?_
  rfl
theorem outKA : out0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 = laid (uK (sums x3) (cut x0) (cut x1) (cut x2) (cut x3) (cut x4) (fun _ => zeroD)) := by
  unfold out0_A_7
  rw [View.read_writes_junk_eq_canon, listKA, canon_outP]
  unfold allKA
  rw [sumsA, rowsR_eq, startA]
  simp only [cutR_eq, stR_eq]
  rfl
theorem listVA : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5).2.2.1 = units.map (outP (allVA c arg2 harg2 arg3 harg3 arg5 harg5 arg6 harg6 arg12 arg13 x0 x1 x3 x4)) := by
  unfold units
  refine cons_outP (F := F) (e := .bf16) 15 (vA15 c arg2 harg2 arg3 harg3 arg5 harg5 arg6 harg6 arg12 arg13 x0 x1 x3 x4) ?_
  refine cons_outP (F := F) (e := .bf16) 14 (vA14 c arg2 harg2 arg3 harg3 arg5 harg5 arg6 harg6 arg12 arg13 x0 x1 x3 x4) ?_
  refine cons_outP (F := F) (e := .bf16) 13 (vA13 c arg2 harg2 arg3 harg3 arg5 harg5 arg6 harg6 arg12 arg13 x0 x1 x3 x4) ?_
  refine cons_outP (F := F) (e := .bf16) 12 (vA12 c arg2 harg2 arg3 harg3 arg5 harg5 arg6 harg6 arg12 arg13 x0 x1 x3 x4) ?_
  refine cons_outP (F := F) (e := .bf16) 11 (vA11 c arg2 harg2 arg3 harg3 arg5 harg5 arg6 harg6 arg12 arg13 x0 x1 x3 x4) ?_
  refine cons_outP (F := F) (e := .bf16) 10 (vA10 c arg2 harg2 arg3 harg3 arg5 harg5 arg6 harg6 arg12 arg13 x0 x1 x3 x4) ?_
  refine cons_outP (F := F) (e := .bf16) 9 (vA9 c arg2 harg2 arg3 harg3 arg5 harg5 arg6 harg6 arg12 arg13 x0 x1 x3 x4) ?_
  refine cons_outP (F := F) (e := .bf16) 8 (vA8 c arg2 harg2 arg3 harg3 arg5 harg5 arg6 harg6 arg12 arg13 x0 x1 x3 x4) ?_
  refine cons_outP (F := F) (e := .bf16) 7 (vA7 c arg2 harg2 arg3 harg3 arg5 harg5 arg6 harg6 arg12 arg13 x0 x1 x3 x4) ?_
  refine cons_outP (F := F) (e := .bf16) 6 (vA6 c arg2 harg2 arg3 harg3 arg5 harg5 arg6 harg6 arg12 arg13 x0 x1 x3 x4) ?_
  refine cons_outP (F := F) (e := .bf16) 5 (vA5 c arg2 harg2 arg3 harg3 arg5 harg5 arg6 harg6 arg12 arg13 x0 x1 x3 x4) ?_
  refine cons_outP (F := F) (e := .bf16) 4 (vA4 c arg2 harg2 arg3 harg3 arg5 harg5 arg6 harg6 arg12 arg13 x0 x1 x3 x4) ?_
  refine cons_outP (F := F) (e := .bf16) 3 (vA3 c arg2 harg2 arg3 harg3 arg5 harg5 arg6 harg6 arg12 arg13 x0 x1 x3 x4) ?_
  refine cons_outP (F := F) (e := .bf16) 2 (vA2 c arg2 harg2 arg3 harg3 arg5 harg5 arg6 harg6 arg12 arg13 x0 x1 x3 x4) ?_
  refine cons_outP (F := F) (e := .bf16) 1 (vA1 c arg2 harg2 arg3 harg3 arg5 harg5 arg6 harg6 arg12 arg13 x0 x1 x3 x4) ?_
  refine cons_outP (F := F) (e := .bf16) 0 (vA0 c arg2 harg2 arg3 harg3 arg5 harg5 arg6 harg6 arg12 arg13 x0 x1 x3 x4) ?_
  rfl
theorem outVA : out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 = laid (uV (sums x3) (cut x0) (cut x1) (cut x3) (cut x4) (fun _ => zeroD)) := by
  unfold out0_A_8
  rw [View.read_writes_junk_eq_canon, listVA, canon_outP]
  unfold allVA
  rw [sumsA, rowsR_eq, startA]
  simp only [cutR_eq, stR_eq]
  rfl
theorem listGA : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5).2.2.2.1 = units.map (outP (allGA c arg2 harg2 arg3 harg3 arg4 harg4 arg5 harg5 arg6 harg6 arg7 harg7 arg12 arg13 x0 x1 x2 x3 x4 x5)) := by
  unfold units
  refine cons_outP (F := F) (e := .f32) 15 (gA15 c arg2 harg2 arg3 harg3 arg4 harg4 arg5 harg5 arg6 harg6 arg7 harg7 arg12 arg13 x0 x1 x2 x3 x4 x5) ?_
  refine cons_outP (F := F) (e := .f32) 14 (gA14 c arg2 harg2 arg3 harg3 arg4 harg4 arg5 harg5 arg6 harg6 arg7 harg7 arg12 arg13 x0 x1 x2 x3 x4 x5) ?_
  refine cons_outP (F := F) (e := .f32) 13 (gA13 c arg2 harg2 arg3 harg3 arg4 harg4 arg5 harg5 arg6 harg6 arg7 harg7 arg12 arg13 x0 x1 x2 x3 x4 x5) ?_
  refine cons_outP (F := F) (e := .f32) 12 (gA12 c arg2 harg2 arg3 harg3 arg4 harg4 arg5 harg5 arg6 harg6 arg7 harg7 arg12 arg13 x0 x1 x2 x3 x4 x5) ?_
  refine cons_outP (F := F) (e := .f32) 11 (gA11 c arg2 harg2 arg3 harg3 arg4 harg4 arg5 harg5 arg6 harg6 arg7 harg7 arg12 arg13 x0 x1 x2 x3 x4 x5) ?_
  refine cons_outP (F := F) (e := .f32) 10 (gA10 c arg2 harg2 arg3 harg3 arg4 harg4 arg5 harg5 arg6 harg6 arg7 harg7 arg12 arg13 x0 x1 x2 x3 x4 x5) ?_
  refine cons_outP (F := F) (e := .f32) 9 (gA9 c arg2 harg2 arg3 harg3 arg4 harg4 arg5 harg5 arg6 harg6 arg7 harg7 arg12 arg13 x0 x1 x2 x3 x4 x5) ?_
  refine cons_outP (F := F) (e := .f32) 8 (gA8 c arg2 harg2 arg3 harg3 arg4 harg4 arg5 harg5 arg6 harg6 arg7 harg7 arg12 arg13 x0 x1 x2 x3 x4 x5) ?_
  refine cons_outP (F := F) (e := .f32) 7 (gA7 c arg2 harg2 arg3 harg3 arg4 harg4 arg5 harg5 arg6 harg6 arg7 harg7 arg12 arg13 x0 x1 x2 x3 x4 x5) ?_
  refine cons_outP (F := F) (e := .f32) 6 (gA6 c arg2 harg2 arg3 harg3 arg4 harg4 arg5 harg5 arg6 harg6 arg7 harg7 arg12 arg13 x0 x1 x2 x3 x4 x5) ?_
  refine cons_outP (F := F) (e := .f32) 5 (gA5 c arg2 harg2 arg3 harg3 arg4 harg4 arg5 harg5 arg6 harg6 arg7 harg7 arg12 arg13 x0 x1 x2 x3 x4 x5) ?_
  refine cons_outP (F := F) (e := .f32) 4 (gA4 c arg2 harg2 arg3 harg3 arg4 harg4 arg5 harg5 arg6 harg6 arg7 harg7 arg12 arg13 x0 x1 x2 x3 x4 x5) ?_
  refine cons_outP (F := F) (e := .f32) 3 (gA3 c arg2 harg2 arg3 harg3 arg4 harg4 arg5 harg5 arg6 harg6 arg7 harg7 arg12 arg13 x0 x1 x2 x3 x4 x5) ?_
  refine cons_outP (F := F) (e := .f32) 2 (gA2 c arg2 harg2 arg3 harg3 arg4 harg4 arg5 harg5 arg6 harg6 arg7 harg7 arg12 arg13 x0 x1 x2 x3 x4 x5) ?_
  refine cons_outP (F := F) (e := .f32) 1 (gA1 c arg2 harg2 arg3 harg3 arg4 harg4 arg5 harg5 arg6 harg6 arg7 harg7 arg12 arg13 x0 x1 x2 x3 x4 x5) ?_
  refine cons_outP (F := F) (e := .f32) 0 (gA0 c arg2 harg2 arg3 harg3 arg4 harg4 arg5 harg5 arg6 harg6 arg7 harg7 arg12 arg13 x0 x1 x2 x3 x4 x5) ?_
  rfl
theorem outGA : out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 = laid (uG (sums x3) (cut x0) (cut x1) (cut x2) (cut x3) (cut x4) (stC x5) (fun _ => zeroD)) := by
  unfold out0_A_9
  rw [View.read_writes_junk_eq_canon, listGA, canon_outP]
  unfold allGA
  rw [sumsA, rowsR_eq, startA]
  simp only [cutR_eq, stR_eq]
  rfl
theorem listDA : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5).2.2.2.2.1 = [3, 2, 1, 0].map (carryP fun h => uD (cutR arg2 harg2 x0) (cutR arg5 harg5 x3) (cutR arg6 harg6 x4) ![(kernelRun0_A.sl.r_2 c arg12), (kernelRun0_A.sl.r_3 c arg12), (kernelRun0_A.sl.r_4 c arg12), (kernelRun0_A.sl.r_5 c arg12)] h 4) ++ kernelRun0_A.sl.HS0_1 := (rfl)
theorem carryA : sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 = carried fun h => uD (cut x0) (cut x3) (cut x4) (fun _ => zeroD) h 4 := by
  unfold sout0_A_0
  rw [View.read_writes_junk_eq_canon, listDA, canon_carryP, startA]
  simp only [cutR_eq]
end Cert.KernelIdeal.Chunk
-- ==== Proof.RunBQ.lean ====
module
public import proofs.«01_k».proof.Proof.Gen.KernelIdeal.Frame.RunB
public import proofs.«01_k».proof.Proof.Block
@[expose] public section
set_option maxRecDepth 16384
set_option maxHeartbeats 0
noncomputable section
/-! The gradient of q at a later grid point of a head group: what each of the sixteen units stores. -/
namespace Cert.KernelIdeal.Chunk
open Cert.KernelIdeal Cert.KernelIdeal.Gen Idealize.ShloMosaic
variable {F : FTy → Type} [FloatOps F]
variable (c : Dev nD)
variable (arg2 : Memref sig .tc .vmem S256x512 .bf16) (harg2 : arg2.IsWhole)
variable (arg3 : Memref sig .tc .vmem S256x512 .bf16) (harg3 : arg3.IsWhole)
variable (arg4 : Memref sig .tc .vmem S256x512 .bf16) (harg4 : arg4.IsWhole)
variable (arg5 : Memref sig .tc .vmem S256x512 .f32) (harg5 : arg5.IsWhole)
variable (arg6 : Memref sig .tc .vmem S256x512 .f32) (harg6 : arg6.IsWhole)
variable (arg7 : Memref sig .tc .vmem S4x4x128x128 .f32) (harg7 : arg7.IsWhole)
variable (arg12 : Memref sig .tc .vmem S4x128x128 .f32) (harg12 : arg12.IsWhole)
variable (arg13 : Memref sig .tc .vmem S16x64x128 .f32)
variable (x0 : Vec F S256x512 .bf16) (x1 : Vec F S256x512 .bf16) (x2 : Vec F S256x512 .bf16) (x3 : Vec F S256x512 .f32) (x4 : Vec F S256x512 .f32) (x5 : Vec F S4x4x128x128 .f32) (xs0 : Vec F S4x128x128 .f32)
/-- The sixteen units. -/
def allQB : Fin 16 → Vec F S64x128 .bf16 :=
  uQ (rowsR arg13.view (kernelRun0_B.sl.HS1_16 c arg5 harg5 x3)) (cutR arg2 harg2 x0) (cutR arg3 harg3 x1) (cutR arg4 harg4 x2) (cutR arg5 harg5 x3) (cutR arg6 harg6 x4) (stR arg7 harg7 x5)
theorem qB0 : k0_pay1073 (kernelRun0_B.sl.r_160 c arg5 harg5 x3) (kernelRun0_B.sl.r_723 c arg2 harg2 arg3 harg3 arg4 harg4 arg5 harg5 arg6 harg6 arg13 x0 x1 x2 x3 x4) (kernelRun0_B.sl.r_728 c arg6 harg6 arg7 harg7 x4 x5) = allQB c arg2 harg2 arg3 harg3 arg4 harg4 arg5 harg5 arg6 harg6 arg7 harg7 arg13 x0 x1 x2 x3 x4 x5 0 := (rfl)
theorem qB1 : k0_pay1079 (kernelRun0_B.sl.r_188 c arg5 harg5 x3) (kernelRun0_B.sl.r_738 c arg2 harg2 arg3 harg3 arg4 harg4 arg5 harg5 arg6 harg6 arg13 x0 x1 x2 x3 x4) (kernelRun0_B.sl.r_743 c arg6 harg6 arg7 harg7 x4 x5) = allQB c arg2 harg2 arg3 harg3 arg4 harg4 arg5 harg5 arg6 harg6 arg7 harg7 arg13 x0 x1 x2 x3 x4 x5 1 := (rfl)
theorem qB2 : k0_pay1086 (kernelRun0_B.sl.r_217 c arg5 harg5 x3) (kernelRun0_B.sl.r_749 c arg2 harg2 arg3 harg3 arg4 harg4 arg5 harg5 arg6 harg6 arg13 x0 x1 x2 x3 x4) (kernelRun0_B.sl.r_754 c arg6 harg6 arg7 harg7 x4 x5) = allQB c arg2 harg2 arg3 harg3 arg4 harg4 arg5 harg5 arg6 harg6 arg7 harg7 arg13 x0 x1 x2 x3 x4 x5 2 := (rfl)
theorem qB3 : k0_pay1096 (kernelRun0_B.sl.r_248 c arg5 harg5 x3) (kernelRun0_B.sl.r_762 c arg2 harg2 arg3 harg3 arg4 harg4 arg5 harg5 arg6 harg6 arg13 x0 x1 x2 x3 x4) (kernelRun0_B.sl.r_768 c arg6 harg6 arg7 harg7 x4 x5) = allQB c arg2 harg2 arg3 harg3 arg4 harg4 arg5 harg5 arg6 harg6 arg7 harg7 arg13 x0 x1 x2 x3 x4 x5 3 := (rfl)
theorem qB4 : k0_pay1108 (kernelRun0_B.sl.r_274 c arg5 harg5 x3) (kernelRun0_B.sl.r_774 c arg2 harg2 arg3 harg3 arg4 harg4 arg5 harg5 arg6 harg6 arg13 x0 x1 x2 x3 x4) (kernelRun0_B.sl.r_779 c arg6 harg6 arg7 harg7 x4 x5) = allQB c arg2 harg2 arg3 harg3 arg4 harg4 arg5 harg5 arg6 harg6 arg7 harg7 arg13 x0 x1 x2 x3 x4 x5 4 := (rfl)
theorem qB5 : k0_pay1113 (kernelRun0_B.sl.r_295 c arg5 harg5 x3) (kernelRun0_B.sl.r_785 c arg2 harg2 arg3 harg3 arg4 harg4 arg5 harg5 arg6 harg6 arg13 x0 x1 x2 x3 x4) (kernelRun0_B.sl.r_791 c arg6 harg6 arg7 harg7 x4 x5) = allQB c arg2 harg2 arg3 harg3 arg4 harg4 arg5 harg5 arg6 harg6 arg7 harg7 arg13 x0 x1 x2 x3 x4 x5 5 := (rfl)
theorem qB6 : k0_pay1117 (kernelRun0_B.sl.r_318 c arg5 harg5 x3) (kernelRun0_B.sl.r_796 c arg2 harg2 arg3 harg3 arg4 harg4 arg5 harg5 arg6 harg6 arg13 x0 x1 x2 x3 x4) (kernelRun0_B.sl.r_801 c arg6 harg6 arg7 harg7 x4 x5) = allQB c arg2 harg2 arg3 harg3 arg4 harg4 arg5 harg5 arg6 harg6 arg7 harg7 arg13 x0 x1 x2 x3 x4 x5 6 := (rfl)
theorem qB7 : kernelRun0_B.sl.r_966 c arg2 harg2 arg3 harg3 arg4 harg4 arg5 harg5 arg6 harg6 arg7 harg7 arg13 x0 x1 x2 x3 x4 x5 = allQB c arg2 harg2 arg3 harg3 arg4 harg4 arg5 harg5 arg6 harg6 arg7 harg7 arg13 x0 x1 x2 x3 x4 x5 7 := (rfl)
theorem qB8 : k0_pay1127 (kernelRun0_B.sl.r_367 c arg5 harg5 x3) (kernelRun0_B.sl.r_818 c arg2 harg2 arg3 harg3 arg4 harg4 arg5 harg5 arg6 harg6 arg13 x0 x1 x2 x3 x4) (kernelRun0_B.sl.r_823 c arg6 harg6 arg7 harg7 x4 x5) = allQB c arg2 harg2 arg3 harg3 arg4 harg4 arg5 harg5 arg6 harg6 arg7 harg7 arg13 x0 x1 x2 x3 x4 x5 8 := (rfl)
theorem qB9 : k0_pay1131 (kernelRun0_B.sl.r_394 c arg5 harg5 x3) (kernelRun0_B.sl.r_829 c arg2 harg2 arg3 harg3 arg4 harg4 arg5 harg5 arg6 harg6 arg13 x0 x1 x2 x3 x4) (kernelRun0_B.sl.r_835 c arg6 harg6 arg7 harg7 x4 x5) = allQB c arg2 harg2 arg3 harg3 arg4 harg4 arg5 harg5 arg6 harg6 arg7 harg7 arg13 x0 x1 x2 x3 x4 x5 9 := (rfl)
theorem qB10 : k0_pay1137 (kernelRun0_B.sl.r_424 c arg5 harg5 x3) (kernelRun0_B.sl.r_841 c arg2 harg2 arg3 harg3 arg4 harg4 arg5 harg5 arg6 harg6 arg13 x0 x1 x2 x3 x4) (kernelRun0_B.sl.r_846 c arg6 harg6 arg7 harg7 x4 x5) = allQB c arg2 harg2 arg3 harg3 arg4 harg4 arg5 harg5 arg6 harg6 arg7 harg7 arg13 x0 x1 x2 x3 x4 x5 10 := (rfl)
theorem qB11 : k0_pay1143 (kernelRun0_B.sl.r_454 c arg5 harg5 x3) (kernelRun0_B.sl.r_852 c arg2 harg2 arg3 harg3 arg4 harg4 arg5 harg5 arg6 harg6 arg13 x0 x1 x2 x3 x4) (kernelRun0_B.sl.r_857 c arg6 harg6 arg7 harg7 x4 x5) = allQB c arg2 harg2 arg3 harg3 arg4 harg4 arg5 harg5 arg6 harg6 arg7 harg7 arg13 x0 x1 x2 x3 x4 x5 11 := (rfl)
theorem qB12 : k0_pay1150 (kernelRun0_B.sl.r_476 c arg5 harg5 x3) (kernelRun0_B.sl.r_863 c arg2 harg2 arg3 harg3 arg4 harg4 arg5 harg5 arg6 harg6 arg13 x0 x1 x2 x3 x4) (kernelRun0_B.sl.r_868 c arg6 harg6 arg7 harg7 x4 x5) = allQB c arg2 harg2 arg3 harg3 arg4 harg4 arg5 harg5 arg6 harg6 arg7 harg7 arg13 x0 x1 x2 x3 x4 x5 12 := (rfl)
theorem qB13 : k0_pay1160 (kernelRun0_B.sl.r_499 c arg5 harg5 x3) (kernelRun0_B.sl.r_873 c arg2 harg2 arg3 harg3 arg4 harg4 arg5 harg5 arg6 harg6 arg13 x0 x1 x2 x3 x4) (kernelRun0_B.sl.r_878 c arg6 harg6 arg7 harg7 x4 x5) = allQB c arg2 harg2 arg3 harg3 arg4 harg4 arg5 harg5 arg6 harg6 arg7 harg7 arg13 x0 x1 x2 x3 x4 x5 13 := (rfl)
theorem qB14 : k0_pay1172 (kernelRun0_B.sl.r_523 c arg5 harg5 x3) (kernelRun0_B.sl.r_886 c arg2 harg2 arg3 harg3 arg4 harg4 arg5 harg5 arg6 harg6 arg13 x0 x1 x2 x3 x4) (kernelRun0_B.sl.r_891 c arg6 harg6 arg7 harg7 x4 x5) = allQB c arg2 harg2 arg3 harg3 arg4 harg4 arg5 harg5 arg6 harg6 arg7 harg7 arg13 x0 x1 x2 x3 x4 x5 14 := (rfl)
theorem qB15 : k0_pay1177 (kernelRun0_B.sl.r_549 c arg5 harg5 x3) (kernelRun0_B.sl.r_897 c arg2 harg2 arg3 harg3 arg4 harg4 arg5 harg5 arg6 harg6 arg13 x0 x1 x2 x3 x4) (kernelRun0_B.sl.r_902 c arg6 harg6 arg7 harg7 x4 x5) = allQB c arg2 harg2 arg3 harg3 arg4 harg4 arg5 harg5 arg6 harg6 arg7 harg7 arg13 x0 x1 x2 x3 x4 x5 15 := (rfl)
end Cert.KernelIdeal.Chunk
-- ==== Proof.RunBK.lean ====
module
public import proofs.«01_k».proof.Proof.Gen.KernelIdeal.Frame.RunB
public import proofs.«01_k».proof.Proof.Block
@[expose] public section
set_option maxRecDepth 16384
set_option maxHeartbeats 0
noncomputable section
/-! The gradient of k at a later grid point of a head group: what each of the sixteen units stores. -/
namespace Cert.KernelIdeal.Chunk
open Cert.KernelIdeal Cert.KernelIdeal.Gen Idealize.ShloMosaic
variable {F : FTy → Type} [FloatOps F]
variable (c : Dev nD)
variable (arg2 : Memref sig .tc .vmem S256x512 .bf16) (harg2 : arg2.IsWhole)
variable (arg3 : Memref sig .tc .vmem S256x512 .bf16) (harg3 : arg3.IsWhole)
variable (arg4 : Memref sig .tc .vmem S256x512 .bf16) (harg4 : arg4.IsWhole)
variable (arg5 : Memref sig .tc .vmem S256x512 .f32) (harg5 : arg5.IsWhole)
variable (arg6 : Memref sig .tc .vmem S256x512 .f32) (harg6 : arg6.IsWhole)
variable (arg7 : Memref sig .tc .vmem S4x4x128x128 .f32) (harg7 : arg7.IsWhole)
variable (arg12 : Memref sig .tc .vmem S4x128x128 .f32) (harg12 : arg12.IsWhole)
variable (arg13 : Memref sig .tc .vmem S16x64x128 .f32)
variable (x0 : Vec F S256x512 .bf16) (x1 : Vec F S256x512 .bf16) (x2 : Vec F S256x512 .bf16) (x3 : Vec F S256x512 .f32) (x4 : Vec F S256x512 .f32) (x5 : Vec F S4x4x128x128 .f32) (xs0 : Vec F S4x128x128 .f32)
/-- The sixteen units. -/
def allKB : Fin 16 → Vec F S64x128 .bf16 :=
  uK (rowsR arg13.view (kernelRun0_B.sl.HS1_16 c arg5 harg5 x3)) (cutR arg2 harg2 x0) (cutR arg3 harg3 x1) (cutR arg4 harg4 x2) (cutR arg5 harg5 x3) (cutR arg6 harg6 x4) ![(kernelRun0_B.sl.r_2 c arg12 harg12 xs0), (kernelRun0_B.sl.r_3 c arg12 harg12 xs0), (kernelRun0_B.sl.r_4 c arg12 harg12 xs0), (kernelRun0_B.sl.r_5 c arg12 harg12 xs0)]
theorem kB0 : k0_pay1074 (kernelRun0_B.sl.r_161 c arg5 harg5 x3) (kernelRun0_B.sl.r_724 c arg2 harg2 arg3 harg3 arg4 harg4 arg5 harg5 arg6 harg6 arg13 x0 x1 x2 x3 x4) (kernelRun0_B.sl.r_906 c arg4 harg4 arg12 harg12 x2 xs0) = allKB c arg2 harg2 arg3 harg3 arg4 harg4 arg5 harg5 arg6 harg6 arg12 harg12 arg13 x0 x1 x2 x3 x4 xs0 0 := (rfl)
theorem kB1 : k0_pay1080 (kernelRun0_B.sl.r_189 c arg5 harg5 x3) (kernelRun0_B.sl.r_739 c arg2 harg2 arg3 harg3 arg4 harg4 arg5 harg5 arg6 harg6 arg13 x0 x1 x2 x3 x4) (kernelRun0_B.sl.r_908 c arg2 harg2 arg4 harg4 arg5 harg5 arg6 harg6 arg12 harg12 x0 x2 x3 x4 xs0) = allKB c arg2 harg2 arg3 harg3 arg4 harg4 arg5 harg5 arg6 harg6 arg12 harg12 arg13 x0 x1 x2 x3 x4 xs0 1 := (rfl)
theorem kB2 : k0_pay1087 (kernelRun0_B.sl.r_218 c arg5 harg5 x3) (kernelRun0_B.sl.r_750 c arg2 harg2 arg3 harg3 arg4 harg4 arg5 harg5 arg6 harg6 arg13 x0 x1 x2 x3 x4) (kernelRun0_B.sl.r_910 c arg2 harg2 arg4 harg4 arg5 harg5 arg6 harg6 arg12 harg12 x0 x2 x3 x4 xs0) = allKB c arg2 harg2 arg3 harg3 arg4 harg4 arg5 harg5 arg6 harg6 arg12 harg12 arg13 x0 x1 x2 x3 x4 xs0 2 := (rfl)
theorem kB3 : k0_pay1097 (kernelRun0_B.sl.r_249 c arg5 harg5 x3) (kernelRun0_B.sl.r_763 c arg2 harg2 arg3 harg3 arg4 harg4 arg5 harg5 arg6 harg6 arg13 x0 x1 x2 x3 x4) (kernelRun0_B.sl.r_913 c arg2 harg2 arg4 harg4 arg5 harg5 arg6 harg6 arg12 harg12 x0 x2 x3 x4 xs0) = allKB c arg2 harg2 arg3 harg3 arg4 harg4 arg5 harg5 arg6 harg6 arg12 harg12 arg13 x0 x1 x2 x3 x4 xs0 3 := (rfl)
theorem kB4 : k0_pay1109 (kernelRun0_B.sl.r_275 c arg5 harg5 x3) (kernelRun0_B.sl.r_775 c arg2 harg2 arg3 harg3 arg4 harg4 arg5 harg5 arg6 harg6 arg13 x0 x1 x2 x3 x4) (kernelRun0_B.sl.r_916 c arg4 harg4 arg12 harg12 x2 xs0) = allKB c arg2 harg2 arg3 harg3 arg4 harg4 arg5 harg5 arg6 harg6 arg12 harg12 arg13 x0 x1 x2 x3 x4 xs0 4 := (rfl)
theorem kB5 : k0_pay1114 (kernelRun0_B.sl.r_296 c arg5 harg5 x3) (kernelRun0_B.sl.r_786 c arg2 harg2 arg3 harg3 arg4 harg4 arg5 harg5 arg6 harg6 arg13 x0 x1 x2 x3 x4) (kernelRun0_B.sl.r_918 c arg2 harg2 arg4 harg4 arg5 harg5 arg6 harg6 arg12 harg12 x0 x2 x3 x4 xs0) = allKB c arg2 harg2 arg3 harg3 arg4 harg4 arg5 harg5 arg6 harg6 arg12 harg12 arg13 x0 x1 x2 x3 x4 xs0 5 := (rfl)
theorem kB6 : k0_pay1118 (kernelRun0_B.sl.r_319 c arg5 harg5 x3) (kernelRun0_B.sl.r_797 c arg2 harg2 arg3 harg3 arg4 harg4 arg5 harg5 arg6 harg6 arg13 x0 x1 x2 x3 x4) (kernelRun0_B.sl.r_920 c arg2 harg2 arg4 harg4 arg5 harg5 arg6 harg6 arg12 harg12 x0 x2 x3 x4 xs0) = allKB c arg2 harg2 arg3 harg3 arg4 harg4 arg5 harg5 arg6 harg6 arg12 harg12 arg13 x0 x1 x2 x3 x4 xs0 6 := (rfl)
theorem kB7 : k0_pay1123 (kernelRun0_B.sl.r_342 c arg5 harg5 x3) (kernelRun0_B.sl.r_808 c arg2 harg2 arg3 harg3 arg4 harg4 arg5 harg5 arg6 harg6 arg13 x0 x1 x2 x3 x4) (kernelRun0_B.sl.r_923 c arg2 harg2 arg4 harg4 arg5 harg5 arg6 harg6 arg12 harg12 x0 x2 x3 x4 xs0) = allKB c arg2 harg2 arg3 harg3 arg4 harg4 arg5 harg5 arg6 harg6 arg12 harg12 arg13 x0 x1 x2 x3 x4 xs0 7 := (rfl)
theorem kB8 : kernelRun0_B.sl.r_969 c arg2 harg2 arg3 harg3 arg4 harg4 arg5 harg5 arg6 harg6 arg12 harg12 arg13 x0 x1 x2 x3 x4 xs0 = allKB c arg2 harg2 arg3 harg3 arg4 harg4 arg5 harg5 arg6 harg6 arg12 harg12 arg13 x0 x1 x2 x3 x4 xs0 8 := (rfl)
theorem kB9 : k0_pay1132 (kernelRun0_B.sl.r_395 c arg5 harg5 x3) (kernelRun0_B.sl.r_830 c arg2 harg2 arg3 harg3 arg4 harg4 arg5 harg5 arg6 harg6 arg13 x0 x1 x2 x3 x4) (kernelRun0_B.sl.r_928 c arg2 harg2 arg4 harg4 arg5 harg5 arg6 harg6 arg12 harg12 x0 x2 x3 x4 xs0) = allKB c arg2 harg2 arg3 harg3 arg4 harg4 arg5 harg5 arg6 harg6 arg12 harg12 arg13 x0 x1 x2 x3 x4 xs0 9 := (rfl)
theorem kB10 : k0_pay1138 (kernelRun0_B.sl.r_425 c arg5 harg5 x3) (kernelRun0_B.sl.r_842 c arg2 harg2 arg3 harg3 arg4 harg4 arg5 harg5 arg6 harg6 arg13 x0 x1 x2 x3 x4) (kernelRun0_B.sl.r_930 c arg2 harg2 arg4 harg4 arg5 harg5 arg6 harg6 arg12 harg12 x0 x2 x3 x4 xs0) = allKB c arg2 harg2 arg3 harg3 arg4 harg4 arg5 harg5 arg6 harg6 arg12 harg12 arg13 x0 x1 x2 x3 x4 xs0 10 := (rfl)
theorem kB11 : k0_pay1144 (kernelRun0_B.sl.r_455 c arg5 harg5 x3) (kernelRun0_B.sl.r_853 c arg2 harg2 arg3 harg3 arg4 harg4 arg5 harg5 arg6 harg6 arg13 x0 x1 x2 x3 x4) (kernelRun0_B.sl.r_933 c arg2 harg2 arg4 harg4 arg5 harg5 arg6 harg6 arg12 harg12 x0 x2 x3 x4 xs0) = allKB c arg2 harg2 arg3 harg3 arg4 harg4 arg5 harg5 arg6 harg6 arg12 harg12 arg13 x0 x1 x2 x3 x4 xs0 11 := (rfl)
theorem kB12 : k0_pay1151 (kernelRun0_B.sl.r_477 c arg5 harg5 x3) (kernelRun0_B.sl.r_864 c arg2 harg2 arg3 harg3 arg4 harg4 arg5 harg5 arg6 harg6 arg13 x0 x1 x2 x3 x4) (kernelRun0_B.sl.r_935 c arg4 harg4 arg12 harg12 x2 xs0) = allKB c arg2 harg2 arg3 harg3 arg4 harg4 arg5 harg5 arg6 harg6 arg12 harg12 arg13 x0 x1 x2 x3 x4 xs0 12 := (rfl)
theorem kB13 : k0_pay1161 (kernelRun0_B.sl.r_500 c arg5 harg5 x3) (kernelRun0_B.sl.r_874 c arg2 harg2 arg3 harg3 arg4 harg4 arg5 harg5 arg6 harg6 arg13 x0 x1 x2 x3 x4) (kernelRun0_B.sl.r_939 c arg2 harg2 arg4 harg4 arg5 harg5 arg6 harg6 arg12 harg12 x0 x2 x3 x4 xs0) = allKB c arg2 harg2 arg3 harg3 arg4 harg4 arg5 harg5 arg6 harg6 arg12 harg12 arg13 x0 x1 x2 x3 x4 xs0 13 := (rfl)
theorem kB14 : k0_pay1173 (kernelRun0_B.sl.r_524 c arg5 harg5 x3) (kernelRun0_B.sl.r_887 c arg2 harg2 arg3 harg3 arg4 harg4 arg5 harg5 arg6 harg6 arg13 x0 x1 x2 x3 x4) (kernelRun0_B.sl.r_941 c arg2 harg2 arg4 harg4 arg5 harg5 arg6 harg6 arg12 harg12 x0 x2 x3 x4 xs0) = allKB c arg2 harg2 arg3 harg3 arg4 harg4 arg5 harg5 arg6 harg6 arg12 harg12 arg13 x0 x1 x2 x3 x4 xs0 14 := (rfl)
theorem kB15 : k0_pay1178 (kernelRun0_B.sl.r_550 c arg5 harg5 x3) (kernelRun0_B.sl.r_898 c arg2 harg2 arg3 harg3 arg4 harg4 arg5 harg5 arg6 harg6 arg13 x0 x1 x2 x3 x4) (kernelRun0_B.sl.r_944 c arg2 harg2 arg4 harg4 arg5 harg5 arg6 harg6 arg12 harg12 x0 x2 x3 x4 xs0) = allKB c arg2 harg2 arg3 harg3 arg4 harg4 arg5 harg5 arg6 harg6 arg12 harg12 arg13 x0 x1 x2 x3 x4 xs0 15 := (rfl)
end Cert.KernelIdeal.Chunk
-- ==== Proof.RunBV.lean ====
module
public import proofs.«01_k».proof.Proof.Gen.KernelIdeal.Frame.RunB
public import proofs.«01_k».proof.Proof.Block
@[expose] public section
set_option maxRecDepth 16384
set_option maxHeartbeats 0
noncomputable section
/-! The gradient of v at a later grid point of a head group: what each of the sixteen units stores. -/
namespace Cert.KernelIdeal.Chunk
open Cert.KernelIdeal Cert.KernelIdeal.Gen Idealize.ShloMosaic
variable {F : FTy → Type} [FloatOps F]
variable (c : Dev nD)
variable (arg2 : Memref sig .tc .vmem S256x512 .bf16) (harg2 : arg2.IsWhole)
variable (arg3 : Memref sig .tc .vmem S256x512 .bf16) (harg3 : arg3.IsWhole)
variable (arg4 : Memref sig .tc .vmem S256x512 .bf16) (harg4 : arg4.IsWhole)
variable (arg5 : Memref sig .tc .vmem S256x512 .f32) (harg5 : arg5.IsWhole)
variable (arg6 : Memref sig .tc .vmem S256x512 .f32) (harg6 : arg6.IsWhole)
variable (arg7 : Memref sig .tc .vmem S4x4x128x128 .f32) (harg7 : arg7.IsWhole)
variable (arg12 : Memref sig .tc .vmem S4x128x128 .f32) (harg12 : arg12.IsWhole)
variable (arg13 : Memref sig .tc .vmem S16x64x128 .f32)
variable (x0 : Vec F S256x512 .bf16) (x1 : Vec F S256x512 .bf16) (x2 : Vec F S256x512 .bf16) (x3 : Vec F S256x512 .f32) (x4 : Vec F S256x512 .f32) (x5 : Vec F S4x4x128x128 .f32) (xs0 : Vec F S4x128x128 .f32)
/-- The sixteen units. -/
def allVB : Fin 16 → Vec F S64x128 .bf16 :=
  uV (rowsR arg13.view (kernelRun0_B.sl.HS1_16 c arg5 harg5 x3)) (cutR arg2 harg2 x0) (cutR arg3 harg3 x1) (cutR arg5 harg5 x3) (cutR arg6 harg6 x4) ![(kernelRun0_B.sl.r_2 c arg12 harg12 xs0), (kernelRun0_B.sl.r_3 c arg12 harg12 xs0), (kernelRun0_B.sl.r_4 c arg12 harg12 xs0), (kernelRun0_B.sl.r_5 c arg12 harg12 xs0)]
theorem vB0 : kernelRun0_B.sl.r_905 c arg2 harg2 arg3 harg3 arg5 harg5 arg6 harg6 arg12 harg12 arg13 x0 x1 x3 x4 xs0 = allVB c arg2 harg2 arg3 harg3 arg5 harg5 arg6 harg6 arg12 harg12 arg13 x0 x1 x3 x4 xs0 0 := (rfl)
theorem vB1 : k0_pay1012 (kernelRun0_B.sl.r_191 c arg3 harg3 arg5 harg5 x1 x3) (kernelRun0_B.sl.r_741 c arg2 harg2 arg3 harg3 arg5 harg5 arg6 harg6 arg13 x0 x1 x3 x4) (kernelRun0_B.sl.r_904 c arg2 harg2 arg5 harg5 arg6 harg6 arg12 harg12 x0 x3 x4 xs0) = allVB c arg2 harg2 arg3 harg3 arg5 harg5 arg6 harg6 arg12 harg12 arg13 x0 x1 x3 x4 xs0 1 := (rfl)
theorem vB2 : k0_pay1016 (kernelRun0_B.sl.r_187 c arg5 harg5 x3) (kernelRun0_B.sl.r_220 c arg3 harg3 arg5 harg5 x1 x3) (kernelRun0_B.sl.r_577 c arg2 harg2 arg5 harg5 arg6 harg6 x0 x3 x4) (kernelRun0_B.sl.r_752 c arg2 harg2 arg3 harg3 arg5 harg5 arg6 harg6 arg13 x0 x1 x3 x4) (kernelRun0_B.sl.r_904 c arg2 harg2 arg5 harg5 arg6 harg6 arg12 harg12 x0 x3 x4 xs0) = allVB c arg2 harg2 arg3 harg3 arg5 harg5 arg6 harg6 arg12 harg12 arg13 x0 x1 x3 x4 xs0 2 := (rfl)
theorem vB3 : k0_pay1020 (kernelRun0_B.sl.r_187 c arg5 harg5 x3) (kernelRun0_B.sl.r_216 c arg5 harg5 x3) (kernelRun0_B.sl.r_251 c arg3 harg3 arg5 harg5 x1 x3) (kernelRun0_B.sl.r_577 c arg2 harg2 arg5 harg5 arg6 harg6 x0 x3 x4) (kernelRun0_B.sl.r_587 c arg2 harg2 arg5 harg5 arg6 harg6 x0 x3 x4) (kernelRun0_B.sl.r_766 c arg2 harg2 arg3 harg3 arg5 harg5 arg6 harg6 arg13 x0 x1 x3 x4) (kernelRun0_B.sl.r_904 c arg2 harg2 arg5 harg5 arg6 harg6 arg12 harg12 x0 x3 x4 xs0) = allVB c arg2 harg2 arg3 harg3 arg5 harg5 arg6 harg6 arg12 harg12 arg13 x0 x1 x3 x4 xs0 3 := (rfl)
theorem vB4 : k0_pay1024 (kernelRun0_B.sl.r_3 c arg12 harg12 xs0) (kernelRun0_B.sl.r_277 c arg3 harg3 arg5 harg5 x1 x3) (kernelRun0_B.sl.r_777 c arg2 harg2 arg3 harg3 arg5 harg5 arg6 harg6 arg13 x0 x1 x3 x4) = allVB c arg2 harg2 arg3 harg3 arg5 harg5 arg6 harg6 arg12 harg12 arg13 x0 x1 x3 x4 xs0 4 := (rfl)
theorem vB5 : k0_pay1028 (kernelRun0_B.sl.r_298 c arg3 harg3 arg5 harg5 x1 x3) (kernelRun0_B.sl.r_789 c arg2 harg2 arg3 harg3 arg5 harg5 arg6 harg6 arg13 x0 x1 x3 x4) (kernelRun0_B.sl.r_915 c arg2 harg2 arg5 harg5 arg6 harg6 arg12 harg12 x0 x3 x4 xs0) = allVB c arg2 harg2 arg3 harg3 arg5 harg5 arg6 harg6 arg12 harg12 arg13 x0 x1 x3 x4 xs0 5 := (rfl)
theorem vB6 : k0_pay1032 (kernelRun0_B.sl.r_294 c arg5 harg5 x3) (kernelRun0_B.sl.r_321 c arg3 harg3 arg5 harg5 x1 x3) (kernelRun0_B.sl.r_617 c arg2 harg2 arg5 harg5 arg6 harg6 x0 x3 x4) (kernelRun0_B.sl.r_799 c arg2 harg2 arg3 harg3 arg5 harg5 arg6 harg6 arg13 x0 x1 x3 x4) (kernelRun0_B.sl.r_915 c arg2 harg2 arg5 harg5 arg6 harg6 arg12 harg12 x0 x3 x4 xs0) = allVB c arg2 harg2 arg3 harg3 arg5 harg5 arg6 harg6 arg12 harg12 arg13 x0 x1 x3 x4 xs0 6 := (rfl)
theorem vB7 : k0_pay1036 (kernelRun0_B.sl.r_294 c arg5 harg5 x3) (kernelRun0_B.sl.r_317 c arg5 harg5 x3) (kernelRun0_B.sl.r_344 c arg3 harg3 arg5 harg5 x1 x3) (kernelRun0_B.sl.r_617 c arg2 harg2 arg5 harg5 arg6 harg6 x0 x3 x4) (kernelRun0_B.sl.r_627 c arg2 harg2 arg5 harg5 arg6 harg6 x0 x3 x4) (kernelRun0_B.sl.r_810 c arg2 harg2 arg3 harg3 arg5 harg5 arg6 harg6 arg13 x0 x1 x3 x4) (kernelRun0_B.sl.r_915 c arg2 harg2 arg5 harg5 arg6 harg6 arg12 harg12 x0 x3 x4 xs0) = allVB c arg2 harg2 arg3 harg3 arg5 harg5 arg6 harg6 arg12 harg12 arg13 x0 x1 x3 x4 xs0 7 := (rfl)
theorem vB8 : k0_pay1040 (kernelRun0_B.sl.r_4 c arg12 harg12 xs0) (kernelRun0_B.sl.r_370 c arg3 harg3 arg5 harg5 x1 x3) (kernelRun0_B.sl.r_821 c arg2 harg2 arg3 harg3 arg5 harg5 arg6 harg6 arg13 x0 x1 x3 x4) = allVB c arg2 harg2 arg3 harg3 arg5 harg5 arg6 harg6 arg12 harg12 arg13 x0 x1 x3 x4 xs0 8 := (rfl)
theorem vB9 : k0_pay1045 (kernelRun0_B.sl.r_397 c arg3 harg3 arg5 harg5 x1 x3) (kernelRun0_B.sl.r_832 c arg2 harg2 arg3 harg3 arg5 harg5 arg6 harg6 arg13 x0 x1 x3 x4) (kernelRun0_B.sl.r_926 c arg2 harg2 arg5 harg5 arg6 harg6 arg12 harg12 x0 x3 x4 xs0) = allVB c arg2 harg2 arg3 harg3 arg5 harg5 arg6 harg6 arg12 harg12 arg13 x0 x1 x3 x4 xs0 9 := (rfl)
theorem vB10 : k0_pay1049 (kernelRun0_B.sl.r_427 c arg3 harg3 arg5 harg5 x1 x3) (kernelRun0_B.sl.r_657 c arg2 harg2 arg5 harg5 arg6 harg6 x0 x3 x4) (kernelRun0_B.sl.r_844 c arg2 harg2 arg3 harg3 arg5 harg5 arg6 harg6 arg13 x0 x1 x3 x4) (kernelRun0_B.sl.r_927 c arg2 harg2 arg5 harg5 arg6 harg6 arg12 harg12 x0 x3 x4 xs0) = allVB c arg2 harg2 arg3 harg3 arg5 harg5 arg6 harg6 arg12 harg12 arg13 x0 x1 x3 x4 xs0 10 := (rfl)
theorem vB11 : k0_pay1053 (kernelRun0_B.sl.r_423 c arg5 harg5 x3) (kernelRun0_B.sl.r_458 c arg3 harg3 arg5 harg5 x1 x3) (kernelRun0_B.sl.r_657 c arg2 harg2 arg5 harg5 arg6 harg6 x0 x3 x4) (kernelRun0_B.sl.r_667 c arg2 harg2 arg5 harg5 arg6 harg6 x0 x3 x4) (kernelRun0_B.sl.r_855 c arg2 harg2 arg3 harg3 arg5 harg5 arg6 harg6 arg13 x0 x1 x3 x4) (kernelRun0_B.sl.r_927 c arg2 harg2 arg5 harg5 arg6 harg6 arg12 harg12 x0 x3 x4 xs0) = allVB c arg2 harg2 arg3 harg3 arg5 harg5 arg6 harg6 arg12 harg12 arg13 x0 x1 x3 x4 xs0 11 := (rfl)
theorem vB12 : k0_pay1057 (kernelRun0_B.sl.r_5 c arg12 harg12 xs0) (kernelRun0_B.sl.r_479 c arg3 harg3 arg5 harg5 x1 x3) (kernelRun0_B.sl.r_866 c arg2 harg2 arg3 harg3 arg5 harg5 arg6 harg6 arg13 x0 x1 x3 x4) = allVB c arg2 harg2 arg3 harg3 arg5 harg5 arg6 harg6 arg12 harg12 arg13 x0 x1 x3 x4 xs0 12 := (rfl)
theorem vB13 : k0_pay1062 (kernelRun0_B.sl.r_938 c arg2 harg2 arg3 harg3 arg5 harg5 arg6 harg6 arg12 harg12 arg13 x0 x1 x3 x4 xs0) = allVB c arg2 harg2 arg3 harg3 arg5 harg5 arg6 harg6 arg12 harg12 arg13 x0 x1 x3 x4 xs0 13 := (rfl)
theorem vB14 : k0_pay1066 (kernelRun0_B.sl.r_526 c arg3 harg3 arg5 harg5 x1 x3) (kernelRun0_B.sl.r_889 c arg2 harg2 arg3 harg3 arg5 harg5 arg6 harg6 arg13 x0 x1 x3 x4) (kernelRun0_B.sl.r_937 c arg2 harg2 arg5 harg5 arg6 harg6 arg12 harg12 x0 x3 x4 xs0) = allVB c arg2 harg2 arg3 harg3 arg5 harg5 arg6 harg6 arg12 harg12 arg13 x0 x1 x3 x4 xs0 14 := (rfl)
theorem vB15 : k0_pay1070 (kernelRun0_B.sl.r_522 c arg5 harg5 x3) (kernelRun0_B.sl.r_552 c arg3 harg3 arg5 harg5 x1 x3) (kernelRun0_B.sl.r_707 c arg2 harg2 arg5 harg5 arg6 harg6 x0 x3 x4) (kernelRun0_B.sl.r_900 c arg2 harg2 arg3 harg3 arg5 harg5 arg6 harg6 arg13 x0 x1 x3 x4) (kernelRun0_B.sl.r_937 c arg2 harg2 arg5 harg5 arg6 harg6 arg12 harg12 x0 x3 x4 xs0) = allVB c arg2 harg2 arg3 harg3 arg5 harg5 arg6 harg6 arg12 harg12 arg13 x0 x1 x3 x4 xs0 15 := (rfl)
end Cert.KernelIdeal.Chunk
-- ==== Proof.RunBG.lean ====
module
public import proofs.«01_k».proof.Proof.Gen.KernelIdeal.Frame.RunB
public import proofs.«01_k».proof.Proof.Block
@[expose] public section
set_option maxRecDepth 16384
set_option maxHeartbeats 0
noncomputable section
/-! The gate's gradient at a later grid point of a head group: what each of the sixteen units stores. -/
namespace Cert.KernelIdeal.Chunk
open Cert.KernelIdeal Cert.KernelIdeal.Gen Idealize.ShloMosaic
variable {F : FTy → Type} [FloatOps F]
variable (c : Dev nD)
variable (arg2 : Memref sig .tc .vmem S256x512 .bf16) (harg2 : arg2.IsWhole)
variable (arg3 : Memref sig .tc .vmem S256x512 .bf16) (harg3 : arg3.IsWhole)
variable (arg4 : Memref sig .tc .vmem S256x512 .bf16) (harg4 : arg4.IsWhole)
variable (arg5 : Memref sig .tc .vmem S256x512 .f32) (harg5 : arg5.IsWhole)
variable (arg6 : Memref sig .tc .vmem S256x512 .f32) (harg6 : arg6.IsWhole)
variable (arg7 : Memref sig .tc .vmem S4x4x128x128 .f32) (harg7 : arg7.IsWhole)
variable (arg12 : Memref sig .tc .vmem S4x128x128 .f32) (harg12 : arg12.IsWhole)
variable (arg13 : Memref sig .tc .vmem S16x64x128 .f32)
variable (x0 : Vec F S256x512 .bf16) (x1 : Vec F S256x512 .bf16) (x2 : Vec F S256x512 .bf16) (x3 : Vec F S256x512 .f32) (x4 : Vec F S256x512 .f32) (x5 : Vec F S4x4x128x128 .f32) (xs0 : Vec F S4x128x128 .f32)
/-- The sixteen units. -/
def allGB : Fin 16 → Vec F S64x128 .f32 :=
  uG (rowsR arg13.view (kernelRun0_B.sl.HS1_16 c arg5 harg5 x3)) (cutR arg2 harg2 x0) (cutR arg3 harg3 x1) (cutR arg4 harg4 x2) (cutR arg5 harg5 x3) (cutR arg6 harg6 x4) (stR arg7 harg7 x5) ![(kernelRun0_B.sl.r_2 c arg12 harg12 xs0), (kernelRun0_B.sl.r_3 c arg12 harg12 xs0), (kernelRun0_B.sl.r_4 c arg12 harg12 xs0), (kernelRun0_B.sl.r_5 c arg12 harg12 xs0)]
theorem gB0 : k0_pay1077 k0_pay6 (kernelRun0_B.sl.r_159 c arg5 harg5 x3) (kernelRun0_B.sl.r_906 c arg4 harg4 arg12 harg12 x2 xs0) (kernelRun0_B.sl.r_945 c arg3 harg3 arg5 harg5 x1 x3) (kernelRun0_B.sl.r_946 c arg2 harg2 arg3 harg3 arg4 harg4 arg5 harg5 arg6 harg6 arg7 harg7 arg12 harg12 arg13 x0 x1 x2 x3 x4 x5 xs0) (kernelRun0_B.sl.r_947 c arg7 harg7 arg12 harg12 x5 xs0) = allGB c arg2 harg2 arg3 harg3 arg4 harg4 arg5 harg5 arg6 harg6 arg7 harg7 arg12 harg12 arg13 x0 x1 x2 x3 x4 x5 xs0 0 := (rfl)
theorem gB1 : k0_pay1084 k0_pay6 (kernelRun0_B.sl.r_948 c arg2 harg2 arg3 harg3 arg4 harg4 arg5 harg5 arg6 harg6 arg7 harg7 arg12 harg12 arg13 x0 x1 x2 x3 x4 x5 xs0) (kernelRun0_B.sl.r_949 c arg2 harg2 arg5 harg5 arg6 harg6 arg7 harg7 arg12 harg12 x0 x3 x4 x5 xs0) (kernelRun0_B.sl.r_950 c arg2 harg2 arg3 harg3 arg4 harg4 arg5 harg5 arg6 harg6 arg12 harg12 x0 x1 x2 x3 x4 xs0) = allGB c arg2 harg2 arg3 harg3 arg4 harg4 arg5 harg5 arg6 harg6 arg7 harg7 arg12 harg12 arg13 x0 x1 x2 x3 x4 x5 xs0 1 := (rfl)
theorem gB2 : k0_pay1094 (kernelRun0_B.sl.r_951 c arg2 harg2 arg3 harg3 arg4 harg4 arg5 harg5 arg6 harg6 arg7 harg7 arg12 harg12 x0 x1 x2 x3 x4 x5 xs0) kernelRun0_B.sl.r_952 (kernelRun0_B.sl.r_953 c arg2 harg2 arg3 harg3 arg4 harg4 arg5 harg5 arg6 harg6 arg7 harg7 arg12 harg12 arg13 x0 x1 x2 x3 x4 x5 xs0) (kernelRun0_B.sl.r_954 c arg2 harg2 arg3 harg3 arg4 harg4 arg5 harg5 arg6 harg6 arg7 harg7 arg12 harg12 arg13 x0 x1 x2 x3 x4 x5 xs0) (kernelRun0_B.sl.r_955 c arg2 harg2 arg3 harg3 arg4 harg4 arg5 harg5 arg6 harg6 arg7 harg7 arg12 harg12 arg13 x0 x1 x2 x3 x4 x5 xs0) = allGB c arg2 harg2 arg3 harg3 arg4 harg4 arg5 harg5 arg6 harg6 arg7 harg7 arg12 harg12 arg13 x0 x1 x2 x3 x4 x5 xs0 2 := (rfl)
theorem gB3 : k0_pay1106 (kernelRun0_B.sl.r_956 c arg2 harg2 arg3 harg3 arg4 harg4 arg5 harg5 arg6 harg6 arg7 harg7 arg12 harg12 x0 x1 x2 x3 x4 x5 xs0) kernelRun0_B.sl.r_957 (kernelRun0_B.sl.r_958 c arg2 harg2 arg3 harg3 arg4 harg4 arg5 harg5 arg6 harg6 arg7 harg7 arg12 harg12 arg13 x0 x1 x2 x3 x4 x5 xs0) (kernelRun0_B.sl.r_959 c arg2 harg2 arg3 harg3 arg4 harg4 arg5 harg5 arg6 harg6 arg7 harg7 arg12 harg12 arg13 x0 x1 x2 x3 x4 x5 xs0) (kernelRun0_B.sl.r_960 c arg2 harg2 arg3 harg3 arg4 harg4 arg5 harg5 arg6 harg6 arg7 harg7 arg12 harg12 arg13 x0 x1 x2 x3 x4 x5 xs0) kernelRun0_B.sl.cst_142 = allGB c arg2 harg2 arg3 harg3 arg4 harg4 arg5 harg5 arg6 harg6 arg7 harg7 arg12 harg12 arg13 x0 x1 x2 x3 x4 x5 xs0 3 := (rfl)
theorem gB4 : k0_pay1112 (kernelRun0_B.sl.r_961 c arg2 harg2 arg3 harg3 arg4 harg4 arg5 harg5 arg6 harg6 arg7 harg7 arg12 harg12 arg13 x0 x1 x2 x3 x4 x5 xs0) (kernelRun0_B.sl.r_962 c arg3 harg3 arg4 harg4 arg5 harg5 arg7 harg7 arg12 harg12 x1 x2 x3 x5 xs0) = allGB c arg2 harg2 arg3 harg3 arg4 harg4 arg5 harg5 arg6 harg6 arg7 harg7 arg12 harg12 arg13 x0 x1 x2 x3 x4 x5 xs0 4 := (rfl)
theorem gB5 : k0_pay1115 k0_pay6 (kernelRun0_B.sl.r_294 c arg5 harg5 x3) (kernelRun0_B.sl.r_297 c arg2 harg2 arg5 harg5 x0 x3) (kernelRun0_B.sl.r_298 c arg3 harg3 arg5 harg5 x1 x3) (kernelRun0_B.sl.r_787 c arg2 harg2 arg3 harg3 arg4 harg4 arg5 harg5 arg6 harg6 arg13 x0 x1 x2 x3 x4) (kernelRun0_B.sl.r_790 c arg7 harg7 x5) (kernelRun0_B.sl.r_791 c arg6 harg6 arg7 harg7 x4 x5) (kernelRun0_B.sl.r_917 c arg2 harg2 arg5 harg5 arg6 harg6 arg12 harg12 x0 x3 x4 xs0) (kernelRun0_B.sl.r_918 c arg2 harg2 arg4 harg4 arg5 harg5 arg6 harg6 arg12 harg12 x0 x2 x3 x4 xs0) = allGB c arg2 harg2 arg3 harg3 arg4 harg4 arg5 harg5 arg6 harg6 arg7 harg7 arg12 harg12 arg13 x0 x1 x2 x3 x4 x5 xs0 5 := (rfl)
theorem gB6 : k0_pay1119 k0_pay6 (kernelRun0_B.sl.r_317 c arg5 harg5 x3) (kernelRun0_B.sl.r_321 c arg3 harg3 arg5 harg5 x1 x3) (kernelRun0_B.sl.r_798 c arg2 harg2 arg3 harg3 arg4 harg4 arg5 harg5 arg6 harg6 arg13 x0 x1 x2 x3 x4) (kernelRun0_B.sl.r_800 c arg7 harg7 x5) (kernelRun0_B.sl.r_801 c arg6 harg6 arg7 harg7 x4 x5) (kernelRun0_B.sl.r_919 c arg2 harg2 arg5 harg5 arg6 harg6 arg12 harg12 x0 x3 x4 xs0) (kernelRun0_B.sl.r_920 c arg2 harg2 arg4 harg4 arg5 harg5 arg6 harg6 arg12 harg12 x0 x2 x3 x4 xs0) (kernelRun0_B.sl.r_963 c arg2 harg2 arg5 harg5 x0 x3) = allGB c arg2 harg2 arg3 harg3 arg4 harg4 arg5 harg5 arg6 harg6 arg7 harg7 arg12 harg12 arg13 x0 x1 x2 x3 x4 x5 xs0 6 := (rfl)
theorem gB7 : k0_pay1124 k0_pay6 (kernelRun0_B.sl.r_340 c arg5 harg5 x3) (kernelRun0_B.sl.r_809 c arg2 harg2 arg3 harg3 arg4 harg4 arg5 harg5 arg6 harg6 arg13 x0 x1 x2 x3 x4) (kernelRun0_B.sl.r_811 c arg7 harg7 x5) (kernelRun0_B.sl.r_812 c arg6 harg6 arg7 harg7 x4 x5) (kernelRun0_B.sl.r_921 c arg2 harg2 arg5 harg5 arg6 harg6 arg12 harg12 x0 x3 x4 xs0) (kernelRun0_B.sl.r_923 c arg2 harg2 arg4 harg4 arg5 harg5 arg6 harg6 arg12 harg12 x0 x2 x3 x4 xs0) (kernelRun0_B.sl.r_964 c arg2 harg2 arg5 harg5 x0 x3) (kernelRun0_B.sl.r_965 c arg3 harg3 arg5 harg5 x1 x3) = allGB c arg2 harg2 arg3 harg3 arg4 harg4 arg5 harg5 arg6 harg6 arg7 harg7 arg12 harg12 arg13 x0 x1 x2 x3 x4 x5 xs0 7 := (rfl)
theorem gB8 : k0_pay1129 k0_pay6 (kernelRun0_B.sl.r_366 c arg5 harg5 x3) (kernelRun0_B.sl.r_820 c arg2 harg2 arg3 harg3 arg4 harg4 arg5 harg5 arg6 harg6 arg13 x0 x1 x2 x3 x4) (kernelRun0_B.sl.r_822 c arg7 harg7 x5) (kernelRun0_B.sl.r_823 c arg6 harg6 arg7 harg7 x4 x5) (kernelRun0_B.sl.r_924 c arg12 harg12 xs0) (kernelRun0_B.sl.r_925 c arg4 harg4 arg12 harg12 x2 xs0) (kernelRun0_B.sl.r_967 c arg2 harg2 arg5 harg5 x0 x3) (kernelRun0_B.sl.r_968 c arg3 harg3 arg5 harg5 x1 x3) = allGB c arg2 harg2 arg3 harg3 arg4 harg4 arg5 harg5 arg6 harg6 arg7 harg7 arg12 harg12 arg13 x0 x1 x2 x3 x4 x5 xs0 8 := (rfl)
theorem gB9 : k0_pay1135 k0_pay6 (kernelRun0_B.sl.r_393 c arg5 harg5 x3) (kernelRun0_B.sl.r_834 c arg7 harg7 x5) (kernelRun0_B.sl.r_926 c arg2 harg2 arg5 harg5 arg6 harg6 arg12 harg12 x0 x3 x4 xs0) (kernelRun0_B.sl.r_928 c arg2 harg2 arg4 harg4 arg5 harg5 arg6 harg6 arg12 harg12 x0 x2 x3 x4 xs0) (kernelRun0_B.sl.r_970 c arg3 harg3 arg5 harg5 x1 x3) (kernelRun0_B.sl.r_971 c arg2 harg2 arg3 harg3 arg4 harg4 arg5 harg5 arg6 harg6 arg7 harg7 arg13 x0 x1 x2 x3 x4 x5) (kernelRun0_B.sl.r_972 c arg2 harg2 arg3 harg3 arg4 harg4 arg5 harg5 arg6 harg6 arg12 harg12 x0 x1 x2 x3 x4 xs0) = allGB c arg2 harg2 arg3 harg3 arg4 harg4 arg5 harg5 arg6 harg6 arg7 harg7 arg12 harg12 arg13 x0 x1 x2 x3 x4 x5 xs0 9 := (rfl)
theorem gB10 : k0_pay1141 k0_pay6 (kernelRun0_B.sl.r_423 c arg5 harg5 x3) (kernelRun0_B.sl.r_930 c arg2 harg2 arg4 harg4 arg5 harg5 arg6 harg6 arg12 harg12 x0 x2 x3 x4 xs0) (kernelRun0_B.sl.r_973 c arg3 harg3 arg5 harg5 x1 x3) (kernelRun0_B.sl.r_974 c arg2 harg2 arg3 harg3 arg4 harg4 arg5 harg5 arg6 harg6 arg7 harg7 arg12 harg12 arg13 x0 x1 x2 x3 x4 x5 xs0) (kernelRun0_B.sl.r_975 c arg2 harg2 arg5 harg5 arg6 harg6 arg7 harg7 arg12 harg12 x0 x3 x4 x5 xs0) = allGB c arg2 harg2 arg3 harg3 arg4 harg4 arg5 harg5 arg6 harg6 arg7 harg7 arg12 harg12 arg13 x0 x1 x2 x3 x4 x5 xs0 10 := (rfl)
theorem gB11 : k0_pay1148 k0_pay6 (kernelRun0_B.sl.r_976 c arg2 harg2 arg3 harg3 arg4 harg4 arg5 harg5 arg6 harg6 arg7 harg7 arg12 harg12 arg13 x0 x1 x2 x3 x4 x5 xs0) (kernelRun0_B.sl.r_977 c arg2 harg2 arg5 harg5 arg6 harg6 arg7 harg7 arg12 harg12 x0 x3 x4 x5 xs0) (kernelRun0_B.sl.r_978 c arg2 harg2 arg3 harg3 arg4 harg4 arg5 harg5 arg6 harg6 arg12 harg12 x0 x1 x2 x3 x4 xs0) = allGB c arg2 harg2 arg3 harg3 arg4 harg4 arg5 harg5 arg6 harg6 arg7 harg7 arg12 harg12 arg13 x0 x1 x2 x3 x4 x5 xs0 11 := (rfl)
theorem gB12 : k0_pay1158 (kernelRun0_B.sl.r_979 c arg3 harg3 arg4 harg4 arg5 harg5 arg7 harg7 arg12 harg12 x1 x2 x3 x5 xs0) kernelRun0_B.sl.r_980 (kernelRun0_B.sl.r_981 c arg2 harg2 arg3 harg3 arg4 harg4 arg5 harg5 arg6 harg6 arg7 harg7 arg12 harg12 arg13 x0 x1 x2 x3 x4 x5 xs0) (kernelRun0_B.sl.r_982 c arg2 harg2 arg3 harg3 arg4 harg4 arg5 harg5 arg6 harg6 arg7 harg7 arg12 harg12 arg13 x0 x1 x2 x3 x4 x5 xs0) (kernelRun0_B.sl.r_983 c arg2 harg2 arg3 harg3 arg4 harg4 arg5 harg5 arg6 harg6 arg7 harg7 arg12 harg12 arg13 x0 x1 x2 x3 x4 x5 xs0) = allGB c arg2 harg2 arg3 harg3 arg4 harg4 arg5 harg5 arg6 harg6 arg7 harg7 arg12 harg12 arg13 x0 x1 x2 x3 x4 x5 xs0 12 := (rfl)
theorem gB13 : k0_pay1170 (kernelRun0_B.sl.r_984 c arg2 harg2 arg3 harg3 arg4 harg4 arg5 harg5 arg6 harg6 arg7 harg7 arg12 harg12 x0 x1 x2 x3 x4 x5 xs0) kernelRun0_B.sl.r_985 (kernelRun0_B.sl.r_986 c arg2 harg2 arg3 harg3 arg4 harg4 arg5 harg5 arg6 harg6 arg7 harg7 arg12 harg12 arg13 x0 x1 x2 x3 x4 x5 xs0) (kernelRun0_B.sl.r_987 c arg2 harg2 arg3 harg3 arg4 harg4 arg5 harg5 arg6 harg6 arg7 harg7 arg12 harg12 arg13 x0 x1 x2 x3 x4 x5 xs0) (kernelRun0_B.sl.r_988 c arg2 harg2 arg3 harg3 arg4 harg4 arg5 harg5 arg6 harg6 arg7 harg7 arg12 harg12 arg13 x0 x1 x2 x3 x4 x5 xs0) kernelRun0_B.sl.cst_142 = allGB c arg2 harg2 arg3 harg3 arg4 harg4 arg5 harg5 arg6 harg6 arg7 harg7 arg12 harg12 arg13 x0 x1 x2 x3 x4 x5 xs0 13 := (rfl)
theorem gB14 : k0_pay1176 (kernelRun0_B.sl.r_989 c arg2 harg2 arg3 harg3 arg4 harg4 arg5 harg5 arg6 harg6 arg7 harg7 arg12 harg12 arg13 x0 x1 x2 x3 x4 x5 xs0) (kernelRun0_B.sl.r_990 c arg2 harg2 arg3 harg3 arg4 harg4 arg5 harg5 arg6 harg6 arg7 harg7 arg12 harg12 x0 x1 x2 x3 x4 x5 xs0) = allGB c arg2 harg2 arg3 harg3 arg4 harg4 arg5 harg5 arg6 harg6 arg7 harg7 arg12 harg12 arg13 x0 x1 x2 x3 x4 x5 xs0 14 := (rfl)
theorem gB15 : k0_pay1179 k0_pay6 (kernelRun0_B.sl.r_548 c arg5 harg5 x3) (kernelRun0_B.sl.r_551 c arg2 harg2 arg5 harg5 x0 x3) (kernelRun0_B.sl.r_552 c arg3 harg3 arg5 harg5 x1 x3) (kernelRun0_B.sl.r_899 c arg2 harg2 arg3 harg3 arg4 harg4 arg5 harg5 arg6 harg6 arg13 x0 x1 x2 x3 x4) (kernelRun0_B.sl.r_901 c arg7 harg7 x5) (kernelRun0_B.sl.r_902 c arg6 harg6 arg7 harg7 x4 x5) (kernelRun0_B.sl.r_942 c arg2 harg2 arg5 harg5 arg6 harg6 arg12 harg12 x0 x3 x4 xs0) (kernelRun0_B.sl.r_944 c arg2 harg2 arg4 harg4 arg5 harg5 arg6 harg6 arg12 harg12 x0 x2 x3 x4 xs0) = allGB c arg2 harg2 arg3 harg3 arg4 harg4 arg5 harg5 arg6 harg6 arg7 harg7 arg12 harg12 arg13 x0 x1 x2 x3 x4 x5 xs0 15 := (rfl)
end Cert.KernelIdeal.Chunk
-- ==== Proof.OutB.lean ====
module
public import proofs.«01_k».proof.Proof.Gen.KernelIdeal.Frame
public import proofs.«01_k».proof.Proof.RunBQ
public import proofs.«01_k».proof.Proof.RunBK
public import proofs.«01_k».proof.Proof.RunBV
public import proofs.«01_k».proof.Proof.RunBG
public import proofs.«01_k».proof.Proof.Block
@[expose] public section
set_option maxRecDepth 16384
set_option maxHeartbeats 0
noncomputable section
/-! The output blocks and the carried gradients after a later grid point of a head group. -/
namespace Cert.KernelIdeal.Chunk
open Cert.KernelIdeal Cert.KernelIdeal.Gen Idealize.ShloMosaic
variable {F : FTy → Type} [FloatOps F]
variable (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .f32) (harg5 : arg5.IsWhole) (arg6 : Memref sig .tc .vmem S256x512 .f32) (harg6 : arg6.IsWhole) (arg7 : Memref sig .tc .vmem S4x4x128x128 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .f32) (harg11 : arg11.IsWhole) (arg12 : Memref sig .tc .vmem S4x128x128 .f32) (harg12 : arg12.IsWhole) (arg13 : Memref sig .tc .vmem S16x64x128 .f32) (harg13 : arg13.IsWhole) (hc0 : ¬cond0_0 i)
variable (x0 : Vec F S256x512 .bf16) (x1 : Vec F S256x512 .bf16) (x2 : Vec F S256x512 .bf16) (x3 : Vec F S256x512 .f32) (x4 : Vec F S256x512 .f32) (x5 : Vec F S4x4x128x128 .f32) (xs0 : Vec F S4x128x128 .f32)
/-- The running sums the block stores, and the gradients it starts from. -/
theorem sumsB : kernelRun0_B.sl.HS1_16 c arg5 harg5 x3 = units.map (sumP (cutR arg5 harg5 x3)) := (rfl)
theorem startB : (![(kernelRun0_B.sl.r_2 c arg12 harg12 xs0), (kernelRun0_B.sl.r_3 c arg12 harg12 xs0), (kernelRun0_B.sl.r_4 c arg12 harg12 xs0), (kernelRun0_B.sl.r_5 c arg12 harg12 xs0)] : Fin 4 → FVec F S128x128 .f32) = ((pageOf xs0) : Fin 4 → FVec F S128x128 .f32) := by
  funext h; fin_cases h
  · exact load_page arg12 harg12 xs0 0
  · exact load_page arg12 harg12 xs0 1
  · exact load_page arg12 harg12 xs0 2
  · exact load_page arg12 harg12 xs0 3
theorem listQB : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xs0).1 = units.map (outP (allQB c arg2 harg2 arg3 harg3 arg4 harg4 arg5 harg5 arg6 harg6 arg7 harg7 arg13 x0 x1 x2 x3 x4 x5)) := by
  unfold units
  refine cons_outP (F := F) (e := .bf16) 15 (qB15 c arg2 harg2 arg3 harg3 arg4 harg4 arg5 harg5 arg6 harg6 arg7 harg7 arg13 x0 x1 x2 x3 x4 x5) ?_
  refine cons_outP (F := F) (e := .bf16) 14 (qB14 c arg2 harg2 arg3 harg3 arg4 harg4 arg5 harg5 arg6 harg6 arg7 harg7 arg13 x0 x1 x2 x3 x4 x5) ?_
  refine cons_outP (F := F) (e := .bf16) 13 (qB13 c arg2 harg2 arg3 harg3 arg4 harg4 arg5 harg5 arg6 harg6 arg7 harg7 arg13 x0 x1 x2 x3 x4 x5) ?_
  refine cons_outP (F := F) (e := .bf16) 12 (qB12 c arg2 harg2 arg3 harg3 arg4 harg4 arg5 harg5 arg6 harg6 arg7 harg7 arg13 x0 x1 x2 x3 x4 x5) ?_
  refine cons_outP (F := F) (e := .bf16) 11 (qB11 c arg2 harg2 arg3 harg3 arg4 harg4 arg5 harg5 arg6 harg6 arg7 harg7 arg13 x0 x1 x2 x3 x4 x5) ?_
  refine cons_outP (F := F) (e := .bf16) 10 (qB10 c arg2 harg2 arg3 harg3 arg4 harg4 arg5 harg5 arg6 harg6 arg7 harg7 arg13 x0 x1 x2 x3 x4 x5) ?_
  refine cons_outP (F := F) (e := .bf16) 9 (qB9 c arg2 harg2 arg3 harg3 arg4 harg4 arg5 harg5 arg6 harg6 arg7 harg7 arg13 x0 x1 x2 x3 x4 x5) ?_
  refine cons_outP (F := F) (e := .bf16) 8 (qB8 c arg2 harg2 arg3 harg3 arg4 harg4 arg5 harg5 arg6 harg6 arg7 harg7 arg13 x0 x1 x2 x3 x4 x5) ?_
  refine cons_outP (F := F) (e := .bf16) 7 (qB7 c arg2 harg2 arg3 harg3 arg4 harg4 arg5 harg5 arg6 harg6 arg7 harg7 arg13 x0 x1 x2 x3 x4 x5) ?_
  refine cons_outP (F := F) (e := .bf16) 6 (qB6 c arg2 harg2 arg3 harg3 arg4 harg4 arg5 harg5 arg6 harg6 arg7 harg7 arg13 x0 x1 x2 x3 x4 x5) ?_
  refine cons_outP (F := F) (e := .bf16) 5 (qB5 c arg2 harg2 arg3 harg3 arg4 harg4 arg5 harg5 arg6 harg6 arg7 harg7 arg13 x0 x1 x2 x3 x4 x5) ?_
  refine cons_outP (F := F) (e := .bf16) 4 (qB4 c arg2 harg2 arg3 harg3 arg4 harg4 arg5 harg5 arg6 harg6 arg7 harg7 arg13 x0 x1 x2 x3 x4 x5) ?_
  refine cons_outP (F := F) (e := .bf16) 3 (qB3 c arg2 harg2 arg3 harg3 arg4 harg4 arg5 harg5 arg6 harg6 arg7 harg7 arg13 x0 x1 x2 x3 x4 x5) ?_
  refine cons_outP (F := F) (e := .bf16) 2 (qB2 c arg2 harg2 arg3 harg3 arg4 harg4 arg5 harg5 arg6 harg6 arg7 harg7 arg13 x0 x1 x2 x3 x4 x5) ?_
  refine cons_outP (F := F) (e := .bf16) 1 (qB1 c arg2 harg2 arg3 harg3 arg4 harg4 arg5 harg5 arg6 harg6 arg7 harg7 arg13 x0 x1 x2 x3 x4 x5) ?_
  refine cons_outP (F := F) (e := .bf16) 0 (qB0 c arg2 harg2 arg3 harg3 arg4 harg4 arg5 harg5 arg6 harg6 arg7 harg7 arg13 x0 x1 x2 x3 x4 x5) ?_
  rfl
theorem outQB : out0_B_6 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 = laid (uQ (sums x3) (cut x0) (cut x1) (cut x2) (cut x3) (cut x4) (stC x5)) := by
  unfold out0_B_6
  rw [View.read_writes_junk_eq_canon, listQB, canon_outP]
  unfold allQB
  rw [sumsB, rowsR_eq]
  simp only [cutR_eq, stR_eq]
  rfl
theorem listKB : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xs0).2.1 = units.map (outP (allKB c arg2 harg2 arg3 harg3 arg4 harg4 arg5 harg5 arg6 harg6 arg12 harg12 arg13 x0 x1 x2 x3 x4 xs0)) := by
  unfold units
  refine cons_outP (F := F) (e := .bf16) 15 (kB15 c arg2 harg2 arg3 harg3 arg4 harg4 arg5 harg5 arg6 harg6 arg12 harg12 arg13 x0 x1 x2 x3 x4 xs0) ?_
  refine cons_outP (F := F) (e := .bf16) 14 (kB14 c arg2 harg2 arg3 harg3 arg4 harg4 arg5 harg5 arg6 harg6 arg12 harg12 arg13 x0 x1 x2 x3 x4 xs0) ?_
  refine cons_outP (F := F) (e := .bf16) 13 (kB13 c arg2 harg2 arg3 harg3 arg4 harg4 arg5 harg5 arg6 harg6 arg12 harg12 arg13 x0 x1 x2 x3 x4 xs0) ?_
  refine cons_outP (F := F) (e := .bf16) 12 (kB12 c arg2 harg2 arg3 harg3 arg4 harg4 arg5 harg5 arg6 harg6 arg12 harg12 arg13 x0 x1 x2 x3 x4 xs0) ?_
  refine cons_outP (F := F) (e := .bf16) 11 (kB11 c arg2 harg2 arg3 harg3 arg4 harg4 arg5 harg5 arg6 harg6 arg12 harg12 arg13 x0 x1 x2 x3 x4 xs0) ?_
  refine cons_outP (F := F) (e := .bf16) 10 (kB10 c arg2 harg2 arg3 harg3 arg4 harg4 arg5 harg5 arg6 harg6 arg12 harg12 arg13 x0 x1 x2 x3 x4 xs0) ?_
  refine cons_outP (F := F) (e := .bf16) 9 (kB9 c arg2 harg2 arg3 harg3 arg4 harg4 arg5 harg5 arg6 harg6 arg12 harg12 arg13 x0 x1 x2 x3 x4 xs0) ?_
  refine cons_outP (F := F) (e := .bf16) 8 (kB8 c arg2 harg2 arg3 harg3 arg4 harg4 arg5 harg5 arg6 harg6 arg12 harg12 arg13 x0 x1 x2 x3 x4 xs0) ?_
  refine cons_outP (F := F) (e := .bf16) 7 (kB7 c arg2 harg2 arg3 harg3 arg4 harg4 arg5 harg5 arg6 harg6 arg12 harg12 arg13 x0 x1 x2 x3 x4 xs0) ?_
  refine cons_outP (F := F) (e := .bf16) 6 (kB6 c arg2 harg2 arg3 harg3 arg4 harg4 arg5 harg5 arg6 harg6 arg12 harg12 arg13 x0 x1 x2 x3 x4 xs0) ?_
  refine cons_outP (F := F) (e := .bf16) 5 (kB5 c arg2 harg2 arg3 harg3 arg4 harg4 arg5 harg5 arg6 harg6 arg12 harg12 arg13 x0 x1 x2 x3 x4 xs0) ?_
  refine cons_outP (F := F) (e := .bf16) 4 (kB4 c arg2 harg2 arg3 harg3 arg4 harg4 arg5 harg5 arg6 harg6 arg12 harg12 arg13 x0 x1 x2 x3 x4 xs0) ?_
  refine cons_outP (F := F) (e := .bf16) 3 (kB3 c arg2 harg2 arg3 harg3 arg4 harg4 arg5 harg5 arg6 harg6 arg12 harg12 arg13 x0 x1 x2 x3 x4 xs0) ?_
  refine cons_outP (F := F) (e := .bf16) 2 (kB2 c arg2 harg2 arg3 harg3 arg4 harg4 arg5 harg5 arg6 harg6 arg12 harg12 arg13 x0 x1 x2 x3 x4 xs0) ?_
  refine cons_outP (F := F) (e := .bf16) 1 (kB1 c arg2 harg2 arg3 harg3 arg4 harg4 arg5 harg5 arg6 harg6 arg12 harg12 arg13 x0 x1 x2 x3 x4 xs0) ?_
  refine cons_outP (F := F) (e := .bf16) 0 (kB0 c arg2 harg2 arg3 harg3 arg4 harg4 arg5 harg5 arg6 harg6 arg12 harg12 arg13 x0 x1 x2 x3 x4 xs0) ?_
  rfl
theorem outKB : out0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 = laid (uK (sums x3) (cut x0) (cut x1) (cut x2) (cut x3) (cut x4) (pageOf xs0)) := by
  unfold out0_B_7
  rw [View.read_writes_junk_eq_canon, listKB, canon_outP]
  unfold allKB
  rw [sumsB, rowsR_eq, startB]
  simp only [cutR_eq, stR_eq]
  rfl
theorem listVB : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xs0).2.2.1 = units.map (outP (allVB c arg2 harg2 arg3 harg3 arg5 harg5 arg6 harg6 arg12 harg12 arg13 x0 x1 x3 x4 xs0)) := by
  unfold units
  refine cons_outP (F := F) (e := .bf16) 15 (vB15 c arg2 harg2 arg3 harg3 arg5 harg5 arg6 harg6 arg12 harg12 arg13 x0 x1 x3 x4 xs0) ?_
  refine cons_outP (F := F) (e := .bf16) 14 (vB14 c arg2 harg2 arg3 harg3 arg5 harg5 arg6 harg6 arg12 harg12 arg13 x0 x1 x3 x4 xs0) ?_
  refine cons_outP (F := F) (e := .bf16) 13 (vB13 c arg2 harg2 arg3 harg3 arg5 harg5 arg6 harg6 arg12 harg12 arg13 x0 x1 x3 x4 xs0) ?_
  refine cons_outP (F := F) (e := .bf16) 12 (vB12 c arg2 harg2 arg3 harg3 arg5 harg5 arg6 harg6 arg12 harg12 arg13 x0 x1 x3 x4 xs0) ?_
  refine cons_outP (F := F) (e := .bf16) 11 (vB11 c arg2 harg2 arg3 harg3 arg5 harg5 arg6 harg6 arg12 harg12 arg13 x0 x1 x3 x4 xs0) ?_
  refine cons_outP (F := F) (e := .bf16) 10 (vB10 c arg2 harg2 arg3 harg3 arg5 harg5 arg6 harg6 arg12 harg12 arg13 x0 x1 x3 x4 xs0) ?_
  refine cons_outP (F := F) (e := .bf16) 9 (vB9 c arg2 harg2 arg3 harg3 arg5 harg5 arg6 harg6 arg12 harg12 arg13 x0 x1 x3 x4 xs0) ?_
  refine cons_outP (F := F) (e := .bf16) 8 (vB8 c arg2 harg2 arg3 harg3 arg5 harg5 arg6 harg6 arg12 harg12 arg13 x0 x1 x3 x4 xs0) ?_
  refine cons_outP (F := F) (e := .bf16) 7 (vB7 c arg2 harg2 arg3 harg3 arg5 harg5 arg6 harg6 arg12 harg12 arg13 x0 x1 x3 x4 xs0) ?_
  refine cons_outP (F := F) (e := .bf16) 6 (vB6 c arg2 harg2 arg3 harg3 arg5 harg5 arg6 harg6 arg12 harg12 arg13 x0 x1 x3 x4 xs0) ?_
  refine cons_outP (F := F) (e := .bf16) 5 (vB5 c arg2 harg2 arg3 harg3 arg5 harg5 arg6 harg6 arg12 harg12 arg13 x0 x1 x3 x4 xs0) ?_
  refine cons_outP (F := F) (e := .bf16) 4 (vB4 c arg2 harg2 arg3 harg3 arg5 harg5 arg6 harg6 arg12 harg12 arg13 x0 x1 x3 x4 xs0) ?_
  refine cons_outP (F := F) (e := .bf16) 3 (vB3 c arg2 harg2 arg3 harg3 arg5 harg5 arg6 harg6 arg12 harg12 arg13 x0 x1 x3 x4 xs0) ?_
  refine cons_outP (F := F) (e := .bf16) 2 (vB2 c arg2 harg2 arg3 harg3 arg5 harg5 arg6 harg6 arg12 harg12 arg13 x0 x1 x3 x4 xs0) ?_
  refine cons_outP (F := F) (e := .bf16) 1 (vB1 c arg2 harg2 arg3 harg3 arg5 harg5 arg6 harg6 arg12 harg12 arg13 x0 x1 x3 x4 xs0) ?_
  refine cons_outP (F := F) (e := .bf16) 0 (vB0 c arg2 harg2 arg3 harg3 arg5 harg5 arg6 harg6 arg12 harg12 arg13 x0 x1 x3 x4 xs0) ?_
  rfl
theorem outVB : out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 = laid (uV (sums x3) (cut x0) (cut x1) (cut x3) (cut x4) (pageOf xs0)) := by
  unfold out0_B_8
  rw [View.read_writes_junk_eq_canon, listVB, canon_outP]
  unfold allVB
  rw [sumsB, rowsR_eq, startB]
  simp only [cutR_eq, stR_eq]
  rfl
theorem listGB : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xs0).2.2.2.1 = units.map (outP (allGB c arg2 harg2 arg3 harg3 arg4 harg4 arg5 harg5 arg6 harg6 arg7 harg7 arg12 harg12 arg13 x0 x1 x2 x3 x4 x5 xs0)) := by
  unfold units
  refine cons_outP (F := F) (e := .f32) 15 (gB15 c arg2 harg2 arg3 harg3 arg4 harg4 arg5 harg5 arg6 harg6 arg7 harg7 arg12 harg12 arg13 x0 x1 x2 x3 x4 x5 xs0) ?_
  refine cons_outP (F := F) (e := .f32) 14 (gB14 c arg2 harg2 arg3 harg3 arg4 harg4 arg5 harg5 arg6 harg6 arg7 harg7 arg12 harg12 arg13 x0 x1 x2 x3 x4 x5 xs0) ?_
  refine cons_outP (F := F) (e := .f32) 13 (gB13 c arg2 harg2 arg3 harg3 arg4 harg4 arg5 harg5 arg6 harg6 arg7 harg7 arg12 harg12 arg13 x0 x1 x2 x3 x4 x5 xs0) ?_
  refine cons_outP (F := F) (e := .f32) 12 (gB12 c arg2 harg2 arg3 harg3 arg4 harg4 arg5 harg5 arg6 harg6 arg7 harg7 arg12 harg12 arg13 x0 x1 x2 x3 x4 x5 xs0) ?_
  refine cons_outP (F := F) (e := .f32) 11 (gB11 c arg2 harg2 arg3 harg3 arg4 harg4 arg5 harg5 arg6 harg6 arg7 harg7 arg12 harg12 arg13 x0 x1 x2 x3 x4 x5 xs0) ?_
  refine cons_outP (F := F) (e := .f32) 10 (gB10 c arg2 harg2 arg3 harg3 arg4 harg4 arg5 harg5 arg6 harg6 arg7 harg7 arg12 harg12 arg13 x0 x1 x2 x3 x4 x5 xs0) ?_
  refine cons_outP (F := F) (e := .f32) 9 (gB9 c arg2 harg2 arg3 harg3 arg4 harg4 arg5 harg5 arg6 harg6 arg7 harg7 arg12 harg12 arg13 x0 x1 x2 x3 x4 x5 xs0) ?_
  refine cons_outP (F := F) (e := .f32) 8 (gB8 c arg2 harg2 arg3 harg3 arg4 harg4 arg5 harg5 arg6 harg6 arg7 harg7 arg12 harg12 arg13 x0 x1 x2 x3 x4 x5 xs0) ?_
  refine cons_outP (F := F) (e := .f32) 7 (gB7 c arg2 harg2 arg3 harg3 arg4 harg4 arg5 harg5 arg6 harg6 arg7 harg7 arg12 harg12 arg13 x0 x1 x2 x3 x4 x5 xs0) ?_
  refine cons_outP (F := F) (e := .f32) 6 (gB6 c arg2 harg2 arg3 harg3 arg4 harg4 arg5 harg5 arg6 harg6 arg7 harg7 arg12 harg12 arg13 x0 x1 x2 x3 x4 x5 xs0) ?_
  refine cons_outP (F := F) (e := .f32) 5 (gB5 c arg2 harg2 arg3 harg3 arg4 harg4 arg5 harg5 arg6 harg6 arg7 harg7 arg12 harg12 arg13 x0 x1 x2 x3 x4 x5 xs0) ?_
  refine cons_outP (F := F) (e := .f32) 4 (gB4 c arg2 harg2 arg3 harg3 arg4 harg4 arg5 harg5 arg6 harg6 arg7 harg7 arg12 harg12 arg13 x0 x1 x2 x3 x4 x5 xs0) ?_
  refine cons_outP (F := F) (e := .f32) 3 (gB3 c arg2 harg2 arg3 harg3 arg4 harg4 arg5 harg5 arg6 harg6 arg7 harg7 arg12 harg12 arg13 x0 x1 x2 x3 x4 x5 xs0) ?_
  refine cons_outP (F := F) (e := .f32) 2 (gB2 c arg2 harg2 arg3 harg3 arg4 harg4 arg5 harg5 arg6 harg6 arg7 harg7 arg12 harg12 arg13 x0 x1 x2 x3 x4 x5 xs0) ?_
  refine cons_outP (F := F) (e := .f32) 1 (gB1 c arg2 harg2 arg3 harg3 arg4 harg4 arg5 harg5 arg6 harg6 arg7 harg7 arg12 harg12 arg13 x0 x1 x2 x3 x4 x5 xs0) ?_
  refine cons_outP (F := F) (e := .f32) 0 (gB0 c arg2 harg2 arg3 harg3 arg4 harg4 arg5 harg5 arg6 harg6 arg7 harg7 arg12 harg12 arg13 x0 x1 x2 x3 x4 x5 xs0) ?_
  rfl
theorem outGB : out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 = laid (uG (sums x3) (cut x0) (cut x1) (cut x2) (cut x3) (cut x4) (stC x5) (pageOf xs0)) := by
  unfold out0_B_9
  rw [View.read_writes_junk_eq_canon, listGB, canon_outP]
  unfold allGB
  rw [sumsB, rowsR_eq, startB]
  simp only [cutR_eq, stR_eq]
  rfl
theorem listDB : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xs0).2.2.2.2.1 = [3, 2, 1, 0].map (carryP fun h => uD (cutR arg2 harg2 x0) (cutR arg5 harg5 x3) (cutR arg6 harg6 x4) ![(kernelRun0_B.sl.r_2 c arg12 harg12 xs0), (kernelRun0_B.sl.r_3 c arg12 harg12 xs0), (kernelRun0_B.sl.r_4 c arg12 harg12 xs0), (kernelRun0_B.sl.r_5 c arg12 harg12 xs0)] h 4) ++ [] := (rfl)
theorem carryB : sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 = carried fun h => uD (cut x0) (cut x3) (cut x4) (pageOf xs0) h 4 := by
  unfold sout0_B_0
  rw [View.read_writes_junk_eq_canon, listDB, canon_carryP, startB]
  simp only [cutR_eq]
end Cert.KernelIdeal.Chunk
-- ==== Proof.Levels.lean ====
/-
  One chunk of 64 time steps, over the real numbers.

  Inside a chunk the kernel never forms the decay between two rows as one exponential.  It splits the causal pairs of
  rows into three levels of sibling blocks (32, 16 and 8 rows) and the diagonal blocks of 8 rows; at a level the two
  factors are taken relative to the last row of the earlier sibling, on the diagonal relative to the row before the
  block, under two clamps.  This module states the pieces over real numbers and proves that together they are the plain
  causal sums with the decay `exp (cum r - cum u)`.  It names no program.
-/
module

public import Idealize.ShloMosaic.Lib.Pointwise

@[expose] public section

namespace Cert.Chunk

open Finset

/-- Rows `r` and `u` lie in sibling blocks of `b` rows, `u` in the earlier and `r` in the later one. -/
abbrev pairs (b : ℕ) (r u : Fin 64) : Prop := r.val / b = u.val / b + 1 ∧ (u.val / b) % 2 = 0

/-- Row `r` lies in the later one of its two sibling blocks of `b` rows. -/
abbrev later (b : ℕ) (r : Fin 64) : Prop := (r.val / b) % 2 = 1

/-- Rows `r` and `u` lie in one block of 8 rows, `u` not after `r`. -/
abbrev diag (r u : Fin 64) : Prop := r.val / 8 = u.val / 8 ∧ u.val ≤ r.val

/-- The last row of the earlier sibling. -/
abbrev edge (b : ℕ) (r : Fin 64) : ℕ := 2 * b * (r.val / (2 * b)) + b - 1

/-- Every causal pair is at exactly one level or on the diagonal, and no other pair is. -/
theorem split_count (r u : Fin 64) :
    ((if diag r u then 1 else 0) + (if pairs 32 r u then 1 else 0) + (if pairs 16 r u then 1 else 0)
      + (if pairs 8 r u then 1 else 0) : ℕ) = if u.val ≤ r.val then 1 else 0 := by
  revert r u; decide +kernel

theorem split_sum (r u : Fin 64) (x : ℝ) :
    (if diag r u then x else 0) + (if pairs 32 r u then x else 0) + (if pairs 16 r u then x else 0)
      + (if pairs 8 r u then x else 0) = if u.val ≤ r.val then x else 0 := by
  have h := congrArg (fun n : ℕ => (n : ℝ) * x) (split_count r u)
  simpa only [Nat.cast_add, Nat.cast_ite, Nat.cast_one, Nat.cast_zero, add_mul, ite_mul, one_mul, zero_mul] using h

/-- What the three levels share of their geometry. -/
structure Level (b : ℕ) : Prop where
  hi : ∀ r u, pairs b r u → later b r
  lo : ∀ r u, pairs b r u → ¬ later b u
  edge_eq : ∀ r u, pairs b r u → edge b r = edge b u

theorem level32 : Level 32 := ⟨by decide +kernel, by decide +kernel, by decide +kernel⟩
theorem level16 : Level 16 := ⟨by decide +kernel, by decide +kernel, by decide +kernel⟩
theorem level8 : Level 8 := ⟨by decide +kernel, by decide +kernel, by decide +kernel⟩

section pieces

variable (b : ℕ) (cum : ℕ → ℝ) (q k : Fin 64 → ℝ)

/-- A level's decay factor of a row: forward from the edge for a later row, back from it for an earlier one. -/
noncomputable def lw (r : Fin 64) : ℝ := Real.exp ((cum r.val - cum (edge b r)) * (if later b r then 1 else -1))

/-- A level's scaled operand: the query of a later row, the key of an earlier one. -/
noncomputable def lx (r : Fin 64) : ℝ := (if later b r then q r else k r) * lw b cum r

/-- The running sum just before a row's block of 8. -/
def base (r : Fin 64) : ℝ := if r.val / 8 = 0 then 0 else cum (8 * (r.val / 8) - 1)

/-- The two clamped factors of the diagonal blocks. -/
noncomputable def wq (r : Fin 64) : ℝ := Real.exp (min (cum r.val - base cum r) 0)
noncomputable def wk (r : Fin 64) : ℝ := Real.exp (min (base cum r - cum r.val) 80)

/-- The clamps of the diagonal blocks change nothing. -/
def Mild : Prop := ∀ r : Fin 64, cum r.val - base cum r ≤ 0 ∧ base cum r - cum r.val ≤ 80

variable {b cum q k}

theorem lw_mul (hb : Level b) {r u : Fin 64} (h : pairs b r u) :
    lw b cum r * lw b cum u = Real.exp (cum r.val - cum u.val) := by
  unfold lw
  rw [if_pos (hb.hi r u h), if_neg (hb.lo r u h), hb.edge_eq r u h, ← Real.exp_add]
  congr 1; ring

theorem lx_mul (hb : Level b) {r u : Fin 64} (h : pairs b r u) :
    lx b cum q k u * lx b cum q k r = q r * k u * Real.exp (cum r.val - cum u.val) := by
  rw [← lw_mul hb h]; unfold lx; rw [if_pos (hb.hi r u h), if_neg (hb.lo r u h)]; ring

theorem w_mul (hc : Mild cum) {r u : Fin 64} (h : diag r u) :
    wq cum r * wk cum u = Real.exp (cum r.val - cum u.val) := by
  unfold wq wk
  have e : base cum r = base cum u := by unfold base; rw [h.1]
  rw [min_eq_left (hc r).1, min_eq_left (hc u).2, ← Real.exp_add, e]
  congr 1; ring

variable (b cum q k)

/-- The two triangles of a level's score gradients, put side by side. -/
def sym (da : Fin 64 → Fin 64 → ℝ) (r u : Fin 64) : ℝ :=
  (if pairs b r u then da r u else 0) + (if pairs b u r then da u r else 0)

/-- A level's product of the score gradients with its scaled operands. -/
noncomputable def ldx (da : Fin 64 → Fin 64 → ℝ) (r : Fin 64) : ℝ := ∑ u, sym b da r u * lx b cum q k u

variable {b cum q k}

theorem level_dq (hb : Level b) (da : Fin 64 → Fin 64 → ℝ) (r : Fin 64) :
    (if later b r then ldx b cum q k da r * lw b cum r else 0)
      = ∑ u, if pairs b r u then da r u * k u * Real.exp (cum r.val - cum u.val) else 0 := by
  split
  case isTrue hr =>
    unfold ldx; rw [Finset.sum_mul]; refine Finset.sum_congr rfl fun u _ => ?_
    unfold sym
    rw [if_neg (fun h : pairs b u r => hb.lo _ _ h hr)]
    split
    case isTrue h => rw [← lw_mul hb h]; unfold lx; rw [if_neg (hb.lo r u h)]; ring
    case isFalse => ring
  case isFalse hr =>
    exact (Finset.sum_eq_zero fun u _ => if_neg fun h => hr (hb.hi _ _ h)).symm

theorem level_dk (hb : Level b) (da : Fin 64 → Fin 64 → ℝ) (r : Fin 64) :
    (if later b r then 0 else ldx b cum q k da r * lw b cum r)
      = ∑ u, if pairs b u r then da u r * q u * Real.exp (cum u.val - cum r.val) else 0 := by
  split
  case isTrue hr =>
    exact (Finset.sum_eq_zero fun u _ => if_neg fun h => hb.lo _ _ h hr).symm
  case isFalse hr =>
    unfold ldx; rw [Finset.sum_mul]; refine Finset.sum_congr rfl fun u _ => ?_
    unfold sym
    rw [if_neg (fun h : pairs b r u => hr (hb.hi _ _ h)), zero_add]
    split
    case isTrue h => rw [← lw_mul hb h]; unfold lx; rw [if_pos (hb.hi u r h)]; ring
    case isFalse => ring

theorem level_db (hb : Level b) (da : Fin 64 → Fin 64 → ℝ) (r : Fin 64) :
    ldx b cum q k da r * lx b cum q k r * (if later b r then 1 else -1)
      = (∑ u, if pairs b r u then da r u * (q r * k u * Real.exp (cum r.val - cum u.val)) else 0)
        - ∑ u, if pairs b u r then da u r * (q u * k r * Real.exp (cum u.val - cum r.val)) else 0 := by
  rw [← Finset.sum_sub_distrib]
  unfold ldx; rw [Finset.sum_mul, Finset.sum_mul]; refine Finset.sum_congr rfl fun u _ => ?_
  unfold sym
  by_cases h : pairs b r u
  · have h' : ¬ pairs b u r := fun h' => hb.lo _ _ h' (hb.hi _ _ h)
    rw [if_pos h, if_neg h', if_pos (hb.hi _ _ h), if_pos h, if_neg h', ← lx_mul hb h]; ring
  · by_cases h' : pairs b u r
    · rw [if_neg h, if_pos h', if_neg (hb.lo _ _ h'), if_neg h, if_pos h', ← lx_mul hb h']; ring
    · rw [if_neg h, if_neg h', if_neg h, if_neg h']; ring

end pieces

section chunk

variable {D : Type} [Fintype D] (cum : D → ℕ → ℝ) (q k : D → Fin 64 → ℝ) (da : Fin 64 → Fin 64 → ℝ)

/-- The gradient of the queries from inside the chunk, as the kernel adds it up. -/
noncomputable def dqIn (d : D) (r : Fin 64) : ℝ :=
  (∑ u, (if diag r u then da r u else 0) * (k d u * wk (cum d) u)) * wq (cum d) r
    + (if later 32 r then ldx 32 (cum d) (q d) (k d) da r * lw 32 (cum d) r else 0)
    + (if later 16 r then ldx 16 (cum d) (q d) (k d) da r * lw 16 (cum d) r else 0)
    + (if later 8 r then ldx 8 (cum d) (q d) (k d) da r * lw 8 (cum d) r else 0)

/-- The gradient of the keys from inside the chunk. -/
noncomputable def dkIn (d : D) (r : Fin 64) : ℝ :=
  (∑ u, (if diag u r then da u r else 0) * (q d u * wq (cum d) u)) * wk (cum d) r
    + (if later 32 r then 0 else ldx 32 (cum d) (q d) (k d) da r * lw 32 (cum d) r)
    + (if later 16 r then 0 else ldx 16 (cum d) (q d) (k d) da r * lw 16 (cum d) r)
    + (if later 8 r then 0 else ldx 8 (cum d) (q d) (k d) da r * lw 8 (cum d) r)

/-- The gradient of the running gate from inside the chunk. -/
noncomputable def dbIn (d : D) (r : Fin 64) : ℝ :=
  (∑ u, (if diag r u then da r u else 0) * (k d u * wk (cum d) u)) * (q d r * wq (cum d) r)
    - (∑ u, (if diag u r then da u r else 0) * (q d u * wq (cum d) u)) * (k d r * wk (cum d) r)
    + ldx 32 (cum d) (q d) (k d) da r * lx 32 (cum d) (q d) (k d) r * (if later 32 r then 1 else -1)
    + ldx 16 (cum d) (q d) (k d) da r * lx 16 (cum d) (q d) (k d) r * (if later 16 r then 1 else -1)
    + ldx 8 (cum d) (q d) (k d) da r * lx 8 (cum d) (q d) (k d) r * (if later 8 r then 1 else -1)

/-- The scores of the chunk, key row first, as the kernel adds them up. -/
noncomputable def scoreIn (u r : Fin 64) : ℝ :=
  (if diag r u then ∑ d, (k d u * wk (cum d) u) * (q d r * wq (cum d) r) else 0)
    + (if pairs 32 r u then ∑ d, lx 32 (cum d) (q d) (k d) u * lx 32 (cum d) (q d) (k d) r else 0)
    + (if pairs 16 r u then ∑ d, lx 16 (cum d) (q d) (k d) u * lx 16 (cum d) (q d) (k d) r else 0)
    + (if pairs 8 r u then ∑ d, lx 8 (cum d) (q d) (k d) u * lx 8 (cum d) (q d) (k d) r else 0)

variable {cum}

omit [Fintype D] in
theorem dqIn_eq (d : D) (hc : Mild (cum d)) (r : Fin 64) :
    dqIn cum q k da d r
      = ∑ u : Fin 64, if u.val ≤ r.val then da r u * k d u * Real.exp (cum d r.val - cum d u.val) else 0 := by
  unfold dqIn
  rw [level_dq level32, level_dq level16, level_dq level8, Finset.sum_mul, ← Finset.sum_add_distrib,
    ← Finset.sum_add_distrib, ← Finset.sum_add_distrib]
  refine Finset.sum_congr rfl fun u _ => ?_
  rw [← split_sum r u]
  congr 3
  split
  case isTrue h => rw [← w_mul hc h]; ring
  case isFalse => ring

omit [Fintype D] in
theorem dkIn_eq (d : D) (hc : Mild (cum d)) (r : Fin 64) :
    dkIn cum q k da d r
      = ∑ u : Fin 64, if r.val ≤ u.val then da u r * q d u * Real.exp (cum d u.val - cum d r.val) else 0 := by
  unfold dkIn
  rw [level_dk level32, level_dk level16, level_dk level8, Finset.sum_mul, ← Finset.sum_add_distrib,
    ← Finset.sum_add_distrib, ← Finset.sum_add_distrib]
  refine Finset.sum_congr rfl fun u _ => ?_
  rw [← split_sum u r]
  congr 3
  split
  case isTrue h => rw [← w_mul hc h]; ring
  case isFalse => ring

omit [Fintype D] in
theorem dbIn_eq (d : D) (hc : Mild (cum d)) (r : Fin 64) :
    dbIn cum q k da d r
      = (∑ u : Fin 64, if u.val ≤ r.val then da r u * (q d r * k d u * Real.exp (cum d r.val - cum d u.val)) else 0)
        - ∑ u : Fin 64, if r.val ≤ u.val then da u r * (q d u * k d r * Real.exp (cum d u.val - cum d r.val)) else 0 := by
  have e1 : ∀ u : Fin 64, (if u.val ≤ r.val then da r u * (q d r * k d u * Real.exp (cum d r.val - cum d u.val)) else 0) = _ :=
    fun u => (split_sum r u _).symm
  have e2 : ∀ u : Fin 64, (if r.val ≤ u.val then da u r * (q d u * k d r * Real.exp (cum d u.val - cum d r.val)) else 0) = _ :=
    fun u => (split_sum u r _).symm
  unfold dbIn
  rw [level_db level32, level_db level16, level_db level8]
  simp only [e1, e2, Finset.sum_add_distrib]
  have d1 : (∑ u, (if diag r u then da r u else 0) * (k d u * wk (cum d) u)) * (q d r * wq (cum d) r)
      = ∑ u, if diag r u then da r u * (q d r * k d u * Real.exp (cum d r.val - cum d u.val)) else 0 := by
    rw [Finset.sum_mul]; refine Finset.sum_congr rfl fun u _ => ?_
    split
    case isTrue h => rw [← w_mul hc h]; ring
    case isFalse => ring
  have d2 : (∑ u, (if diag u r then da u r else 0) * (q d u * wq (cum d) u)) * (k d r * wk (cum d) r)
      = ∑ u, if diag u r then da u r * (q d u * k d r * Real.exp (cum d u.val - cum d r.val)) else 0 := by
    rw [Finset.sum_mul]; refine Finset.sum_congr rfl fun u _ => ?_
    split
    case isTrue h => rw [← w_mul hc h]; ring
    case isFalse => ring
  rw [d1, d2]; ring

theorem scoreIn_eq (hc : ∀ d, Mild (cum d)) (u r : Fin 64) :
    scoreIn cum q k u r
      = if u.val ≤ r.val then ∑ d, q d r * k d u * Real.exp (cum d r.val - cum d u.val) else 0 := by
  unfold scoreIn
  rw [← split_sum r u]
  congr 1; congr 1; congr 1
  · split
    case isTrue h => exact Finset.sum_congr rfl fun d _ => by rw [← w_mul (hc d) h]; ring
    case isFalse => rfl
  · split
    case isTrue h => exact Finset.sum_congr rfl fun d _ => lx_mul level32 h
    case isFalse => rfl
  · split
    case isTrue h => exact Finset.sum_congr rfl fun d _ => lx_mul level16 h
    case isFalse => rfl
  · split
    case isTrue h => exact Finset.sum_congr rfl fun d _ => lx_mul level8 h
    case isFalse => rfl

end chunk

end Cert.Chunk
-- ==== Proof.Glue.lean ====
/-
  From one chunk to the whole sequence, over the real numbers.

  The gated scan written out: the pair of steps `s ≤ t` is weighted by the decay `exp (C (t+1) - C (s+1))` of the running
  gate `C`.  This module states the gradients of that sum (`rq`, `rk`, `rv`, `rg`: what the reference computes) and proves
  that the kernel's chunk (the sums inside the chunk, plus one product with the state at the chunk's start and one with the
  gradient of the state at its end) is exactly them.  It names no program.
-/
module

public import proofs.«01_k».proof.Proof.Levels

@[expose] public section

namespace Cert.Chunk

open Finset

variable {D E : Type} [Fintype D] [Fintype E]

theorem sum_upto (f : ℕ → ℝ) (n : ℕ) (r : Fin 64) :
    (∑ u : Fin 64, if u.val ≤ r.val then f (n + u.val) else 0) = ∑ s ∈ Ico n (n + r.val + 1), f s := by
  rw [Fin.sum_univ_eq_sum_range (fun u => if u ≤ r.val then f (n + u) else 0) 64, ← Finset.sum_filter]
  refine Finset.sum_nbij' (fun u => n + u) (fun s => s - n) ?_ ?_ ?_ ?_ ?_
  · intro u hu; simp only [mem_filter, mem_range, mem_Ico] at hu ⊢; omega
  · intro s hs; have := r.isLt; simp only [mem_filter, mem_range, mem_Ico] at hs ⊢; omega
  · intro u _; simp
  · intro s hs; simp only [mem_Ico] at hs; show n + (s - n) = s; omega
  · intro u _; rfl

theorem sum_from (f : ℕ → ℝ) (n : ℕ) (r : Fin 64) :
    (∑ u : Fin 64, if r.val ≤ u.val then f (n + u.val) else 0) = ∑ s ∈ Ico (n + r.val) (n + 64), f s := by
  rw [Fin.sum_univ_eq_sum_range (fun u => if r.val ≤ u then f (n + u) else 0) 64, ← Finset.sum_filter]
  refine Finset.sum_nbij' (fun u => n + u) (fun s => s - n) ?_ ?_ ?_ ?_ ?_
  · intro u hu; simp only [mem_filter, mem_range, mem_Ico] at hu ⊢; omega
  · intro s hs; simp only [mem_filter, mem_range, mem_Ico] at hs ⊢; omega
  · intro u _; simp
  · intro s hs; simp only [mem_Ico] at hs; show n + (s - n) = s; omega
  · intro u _; rfl

theorem sum_all (f : ℕ → ℝ) (n : ℕ) :
    (∑ u : Fin 64, f (n + u.val)) = ∑ s ∈ Ico n (n + 64), f s := by
  have h := sum_from f n 0
  simpa using h

section whole

variable (T : ℕ) (g q k : D → ℕ → ℝ) (v o : E → ℕ → ℝ)

/-- The running sum of the gate before step `n`. -/
def run (d : D) (n : ℕ) : ℝ := ∑ u ∈ range n, g d u

/-- The decay from step `s` to step `t`. -/
noncomputable def decay (d : D) (t s : ℕ) : ℝ := Real.exp (run g d (t + 1) - run g d (s + 1))

/-- The gradient of the score of the pair `(t, s)`. -/
def dA (t s : ℕ) : ℝ := ∑ e, o e t * v e s

/-- The gradients of queries, keys and values. -/
noncomputable def rq (d : D) (t : ℕ) : ℝ := ∑ s ∈ range (t + 1), dA v o t s * k d s * decay g d t s
noncomputable def rk (d : D) (s : ℕ) : ℝ := ∑ t ∈ Ico s T, dA v o t s * q d t * decay g d t s
noncomputable def rv (e : E) (s : ℕ) : ℝ := ∑ t ∈ Ico s T, (∑ d, q d t * k d s * decay g d t s) * o e t

/-- What the pair `(t, s)` adds to the gradient of the decay's exponent. -/
noncomputable def pz (d : D) (t s : ℕ) : ℝ := dA v o t s * (q d t * k d s * decay g d t s)

/-- The gradients of the running gate and of the gate. -/
noncomputable def rb (d : D) (t : ℕ) : ℝ :=
  (∑ s ∈ range (t + 1), pz g q k v o d t s) - ∑ s ∈ Ico t T, pz g q k v o d s t
noncomputable def rg (d : D) (t : ℕ) : ℝ := ∑ s ∈ Ico t T, rb T g q k v o d s

/-- The state before step `n`, and the gradient of the state after step `m`. -/
noncomputable def stAt (n : ℕ) (e : E) (d : D) : ℝ :=
  ∑ s ∈ range n, Real.exp (run g d n - run g d (s + 1)) * k d s * v e s
noncomputable def dsAt (m : ℕ) (e : E) (d : D) : ℝ :=
  ∑ t ∈ Ico m T, Real.exp (run g d (t + 1) - run g d m) * q d t * o e t

/-- The running sum inside the chunk that starts at step `n`. -/
def cumIn (n : ℕ) (d : D) (r : ℕ) : ℝ := run g d (n + r + 1) - run g d n

/-- The chunk's own rows of an operand, and its score gradients. -/
def rowsIn (x : D → ℕ → ℝ) (n : ℕ) (d : D) (r : Fin 64) : ℝ := x d (n + r.val)
def daIn (n : ℕ) (r u : Fin 64) : ℝ := dA v o (n + r.val) (n + u.val)

/-- The products of a row with the state and with the gradient of the state. -/
noncomputable def dqe (n : ℕ) (d : D) (r : Fin 64) : ℝ := ∑ e, o e (n + r.val) * stAt g k v n e d
noncomputable def dke (n : ℕ) (d : D) (r : Fin 64) : ℝ := ∑ e, v e (n + r.val) * dsAt T g q o (n + 64) e d
noncomputable def eb (n : ℕ) (d : D) (r : Fin 64) : ℝ := Real.exp (cumIn g n d r.val)
noncomputable def et (n : ℕ) (d : D) (r : Fin 64) : ℝ := Real.exp (cumIn g n d 63 - cumIn g n d r.val)

variable {T g q k v o}

omit [Fintype D] in
theorem decay_in (d : D) (n : ℕ) (r u : Fin 64) :
    Real.exp (cumIn g n d r.val - cumIn g n d u.val) = decay g d (n + r.val) (n + u.val) := by
  unfold cumIn decay; congr 1; ring

omit [Fintype D] in
theorem dqe_eb (n : ℕ) (d : D) (r : Fin 64) :
    dqe g k v o n d r * eb g n d r
      = ∑ s ∈ range n, dA v o (n + r.val) s * k d s * decay g d (n + r.val) s := by
  unfold dqe eb stAt
  rw [Finset.sum_mul]
  simp only [Finset.mul_sum, Finset.sum_mul]
  rw [Finset.sum_comm]
  refine Finset.sum_congr rfl fun s _ => ?_
  unfold dA
  rw [Finset.sum_mul, Finset.sum_mul]
  refine Finset.sum_congr rfl fun e _ => ?_
  have : decay g d (n + r.val) s = Real.exp (run g d n - run g d (s + 1)) * Real.exp (cumIn g n d r.val) := by
    rw [← Real.exp_add]; unfold decay cumIn; congr 1; ring
  rw [this]; ring

omit [Fintype D] in
theorem dke_et (n : ℕ) (d : D) (r : Fin 64) :
    dke T g q v o n d r * et g n d r
      = ∑ t ∈ Ico (n + 64) T, dA v o t (n + r.val) * q d t * decay g d t (n + r.val) := by
  unfold dke et dsAt
  rw [Finset.sum_mul]
  simp only [Finset.mul_sum, Finset.sum_mul]
  rw [Finset.sum_comm]
  refine Finset.sum_congr rfl fun t _ => ?_
  unfold dA
  rw [Finset.sum_mul, Finset.sum_mul]
  refine Finset.sum_congr rfl fun e _ => ?_
  have : decay g d t (n + r.val)
      = Real.exp (run g d (t + 1) - run g d (n + 64)) * Real.exp (cumIn g n d 63 - cumIn g n d r.val) := by
    rw [← Real.exp_add]; unfold decay cumIn; congr 1
    rw [show n + 63 + 1 = n + 64 from rfl]; ring
  rw [this]; ring

omit [Fintype D] in
/-- The queries' gradient. -/
theorem chunk_dq (n : ℕ) (d : D) (hc : Mild (cumIn g n d)) (r : Fin 64) :
    dqIn (cumIn g n) (rowsIn q n) (rowsIn k n) (daIn v o n) d r + dqe g k v o n d r * eb g n d r
      = rq g k v o d (n + r.val) := by
  rw [dqIn_eq _ _ _ d hc, dqe_eb]
  simp only [decay_in]
  unfold rowsIn daIn rq
  rw [sum_upto (fun s => dA v o (n + r.val) s * k d s * decay g d (n + r.val) s) n r, add_comm,
    Finset.sum_range_add_sum_Ico _ (by omega)]

omit [Fintype D] in
/-- The keys' gradient. -/
theorem chunk_dk (n : ℕ) (hn : n + 64 ≤ T) (d : D) (hc : Mild (cumIn g n d)) (r : Fin 64) :
    dkIn (cumIn g n) (rowsIn q n) (rowsIn k n) (daIn v o n) d r + dke T g q v o n d r * et g n d r
      = rk T g q v o d (n + r.val) := by
  have hr := r.isLt
  rw [dkIn_eq _ _ _ d hc, dke_et]
  simp only [decay_in]
  unfold rowsIn daIn rk
  rw [sum_from (fun t => dA v o t (n + r.val) * q d t * decay g d t (n + r.val)) n r,
    Finset.sum_Ico_consecutive _ (by omega) hn]

/-- The values' gradient. -/
theorem chunk_dv (n : ℕ) (hn : n + 64 ≤ T) (hc : ∀ d, Mild (cumIn g n d)) (e : E) (u : Fin 64) :
    (∑ r : Fin 64, scoreIn (cumIn g n) (rowsIn q n) (rowsIn k n) u r * o e (n + r.val))
        + ∑ d, (k d (n + u.val) * et g n d u) * dsAt T g q o (n + 64) e d
      = rv T g q k o e (n + u.val) := by
  have hu := u.isLt
  simp only [scoreIn_eq _ _ hc, decay_in]
  unfold rv rowsIn
  have h1 : (∑ r : Fin 64, (if u.val ≤ r.val then
        ∑ d, q d (n + r.val) * k d (n + u.val) * decay g d (n + r.val) (n + u.val) else 0) * o e (n + r.val))
      = ∑ t ∈ Ico (n + u.val) (n + 64), (∑ d, q d t * k d (n + u.val) * decay g d t (n + u.val)) * o e t := by
    rw [← sum_from (fun t => (∑ d, q d t * k d (n + u.val) * decay g d t (n + u.val)) * o e t) n u]
    refine Finset.sum_congr rfl fun r _ => ?_
    split <;> simp
  have h2 : (∑ d, (k d (n + u.val) * et g n d u) * dsAt T g q o (n + 64) e d)
      = ∑ t ∈ Ico (n + 64) T, (∑ d, q d t * k d (n + u.val) * decay g d t (n + u.val)) * o e t := by
    unfold dsAt
    simp only [Finset.mul_sum, Finset.sum_mul]
    rw [Finset.sum_comm]
    refine Finset.sum_congr rfl fun t _ => Finset.sum_congr rfl fun d _ => ?_
    have : decay g d t (n + u.val)
        = Real.exp (run g d (t + 1) - run g d (n + 64)) * et g n d u := by
      unfold et; rw [← Real.exp_add]; unfold decay cumIn; congr 1
      rw [show n + 63 + 1 = n + 64 from rfl]; ring
    rw [this]; ring
  rw [h1, h2, Finset.sum_Ico_consecutive _ (by omega) hn]

omit [Fintype D] in
/-- The running gate's gradient. -/
theorem chunk_db (n : ℕ) (hn : n + 64 ≤ T) (d : D) (hc : Mild (cumIn g n d)) (r : Fin 64) :
    dbIn (cumIn g n) (rowsIn q n) (rowsIn k n) (daIn v o n) d r
        + dqe g k v o n d r * (q d (n + r.val) * eb g n d r)
        - dke T g q v o n d r * (k d (n + r.val) * et g n d r)
      = rb T g q k v o d (n + r.val) := by
  have hr := r.isLt
  rw [dbIn_eq _ _ _ d hc]
  simp only [decay_in]
  have a1 : dqe g k v o n d r * (q d (n + r.val) * eb g n d r)
      = ∑ s ∈ range n, pz g q k v o d (n + r.val) s := by
    rw [show dqe g k v o n d r * (q d (n + r.val) * eb g n d r)
      = q d (n + r.val) * (dqe g k v o n d r * eb g n d r) by ring, dqe_eb, Finset.mul_sum]
    refine Finset.sum_congr rfl fun s _ => ?_
    unfold pz; ring
  have a2 : dke T g q v o n d r * (k d (n + r.val) * et g n d r)
      = ∑ t ∈ Ico (n + 64) T, pz g q k v o d t (n + r.val) := by
    rw [show dke T g q v o n d r * (k d (n + r.val) * et g n d r)
      = k d (n + r.val) * (dke T g q v o n d r * et g n d r) by ring, dke_et, Finset.mul_sum]
    refine Finset.sum_congr rfl fun s _ => ?_
    unfold pz; ring
  rw [a1, a2]
  have b1 := sum_upto (fun s => pz g q k v o d (n + r.val) s) n r
  have b2 := sum_from (fun t => pz g q k v o d t (n + r.val)) n r
  unfold rowsIn daIn
  unfold pz at b1 b2
  rw [b1, b2]
  unfold rb
  rw [← Finset.sum_range_add_sum_Ico _ (show n ≤ n + r.val + 1 by omega),
    ← Finset.sum_Ico_consecutive _ (show n + r.val ≤ n + 64 by omega) hn]
  unfold pz; ring

omit [Fintype D] in
/-- What the later chunks add to the gate's gradient. -/
theorem chunk_tot (n : ℕ) (d : D) :
    (∑ e, dsAt T g q o (n + 64) e d * stAt g k v n e d) * Real.exp (cumIn g n d 63)
        + (∑ r : Fin 64, dke T g q v o n d r * (k d (n + r.val) * et g n d r))
      = ∑ t ∈ Ico (n + 64) T, rb T g q k v o d t := by
  have a2 : ∀ r : Fin 64, dke T g q v o n d r * (k d (n + r.val) * et g n d r)
      = ∑ t ∈ Ico (n + 64) T, pz g q k v o d t (n + r.val) := by
    intro r
    rw [show dke T g q v o n d r * (k d (n + r.val) * et g n d r)
      = k d (n + r.val) * (dke T g q v o n d r * et g n d r) by ring, dke_et, Finset.mul_sum]
    refine Finset.sum_congr rfl fun s _ => ?_
    unfold pz; ring
  have a1 : (∑ e, dsAt T g q o (n + 64) e d * stAt g k v n e d) * Real.exp (cumIn g n d 63)
      = ∑ t ∈ Ico (n + 64) T, ∑ s ∈ range n, pz g q k v o d t s := by
    unfold dsAt stAt pz dA
    have e1 : ∀ e, (∑ t ∈ Ico (n + 64) T, Real.exp (run g d (t + 1) - run g d (n + 64)) * q d t * o e t)
          * (∑ s ∈ range n, Real.exp (run g d n - run g d (s + 1)) * k d s * v e s) * Real.exp (cumIn g n d 63)
        = ∑ t ∈ Ico (n + 64) T, ∑ s ∈ range n, o e t * v e s * (q d t * k d s * decay g d t s) := by
      intro e
      rw [Finset.sum_mul_sum, Finset.sum_mul]
      refine Finset.sum_congr rfl fun t _ => ?_
      rw [Finset.sum_mul]
      refine Finset.sum_congr rfl fun s _ => ?_
      have : decay g d t s = Real.exp (run g d (t + 1) - run g d (n + 64))
          * Real.exp (run g d n - run g d (s + 1)) * Real.exp (cumIn g n d 63) := by
        rw [← Real.exp_add, ← Real.exp_add]; unfold decay cumIn; congr 1
        rw [show n + 63 + 1 = n + 64 from rfl]; ring
      rw [this]; ring
    rw [Finset.sum_mul]
    simp only [e1]
    rw [Finset.sum_comm]
    refine Finset.sum_congr rfl fun t _ => ?_
    rw [Finset.sum_comm]
    exact Finset.sum_congr rfl fun s _ => (Finset.sum_mul _ _ _).symm
  simp only [a2]
  rw [a1, sum_all (fun s => ∑ t ∈ Ico (n + 64) T, pz g q k v o d t s) n, Finset.sum_comm (s := Ico n (n + 64)),
    ← Finset.sum_add_distrib]
  have h : ∀ t, (∑ s ∈ range n, pz g q k v o d t s) + ∑ s ∈ Ico n (n + 64), pz g q k v o d t s
      = ∑ s ∈ range (n + 64), pz g q k v o d t s := fun t => Finset.sum_range_add_sum_Ico _ (by omega)
  simp only [h]
  unfold rb
  rw [Finset.sum_sub_distrib, Finset.sum_Ico_Ico_comm, ← Finset.sum_sub_distrib]
  refine Finset.sum_congr rfl fun t ht => ?_
  rw [mem_Ico] at ht
  rw [← Finset.sum_range_add_sum_Ico _ (show n + 64 ≤ t + 1 by omega)]; ring

omit [Fintype D] in
/-- The gate's gradient. -/
theorem chunk_dg (n : ℕ) (hn : n + 64 ≤ T) (d : D) (r : Fin 64) :
    (∑ u : Fin 64, if r.val ≤ u.val then rb T g q k v o d (n + u.val) else 0)
        + ∑ t ∈ Ico (n + 64) T, rb T g q k v o d t
      = rg T g q k v o d (n + r.val) := by
  have hr := r.isLt
  rw [sum_from (fun t => rb T g q k v o d t) n r]
  exact Finset.sum_Ico_consecutive _ (by omega) hn

omit [Fintype D] in
/-- One step of the gradient of the state, backwards over a chunk. -/
theorem chunk_ds (n : ℕ) (hn : n + 64 ≤ T) (e : E) (d : D) :
    dsAt T g q o (n + 64) e d * Real.exp (cumIn g n d 63)
        + (∑ r : Fin 64, o e (n + r.val) * (q d (n + r.val) * eb g n d r))
      = dsAt T g q o n e d := by
  unfold dsAt
  rw [← Finset.sum_Ico_consecutive _ (show n ≤ n + 64 by omega) hn, add_comm, Finset.sum_mul]
  congr 1
  · rw [← sum_all (fun t => Real.exp (run g d (t + 1) - run g d n) * q d t * o e t) n]
    refine Finset.sum_congr rfl fun r _ => ?_
    unfold eb cumIn; ring
  · refine Finset.sum_congr rfl fun t _ => ?_
    have : Real.exp (run g d (t + 1) - run g d n)
        = Real.exp (run g d (t + 1) - run g d (n + 64)) * Real.exp (cumIn g n d 63) := by
      rw [← Real.exp_add]; unfold cumIn; congr 1
      rw [show n + 63 + 1 = n + 64 from rfl]; ring
    rw [this]; ring

omit [Fintype D] [Fintype E] in
theorem dsAt_last (e : E) (d : D) : dsAt T g q o T e d = 0 := by simp [dsAt]

end whole

end Cert.Chunk
-- ==== Proof.Reading.lean ====
/-
  One chunk over the ideal values: on real operands every value of `Unit.lean` is the real matrix `Levels.lean` names,
  so that what the chunk writes is stated in real sums (`outQ_up`, `outK_up`, `outV_up`, `outG_up`, `next_up`).
-/
module

public import proofs.«01_k».proof.Proof.Unit
public import proofs.«01_k».proof.Proof.Glue
public import Idealize.ShloMosaic.Lib.ValueIdx

@[expose] public section

set_option maxRecDepth 16384

noncomputable section

namespace Cert.KernelIdeal.Chunk

open Cert.KernelIdeal Cert.KernelIdeal.Gen Cert.Chunk Idealize.ShloMosaic

/-- A matrix of real numbers as the ideal values of a vector. -/
def up {m n : ℕ} (a : Fin m → Fin n → ℝ) : (⟨2, ![m, n]⟩ : Shape).Idx → EReal := fun i => ((a (i 0) (i 1) : ℝ) : EReal)

theorem coe_sum {ι : Type} (s : Finset ι) (f : ι → ℝ) : (((∑ i ∈ s, f i : ℝ)) : EReal) = ∑ i ∈ s, (f i : EReal) := by
  classical
  induction s using Finset.induction_on with
  | empty => simp
  | insert a s ha ih => rw [Finset.sum_insert ha, Finset.sum_insert ha, EReal.coe_add, ih]

theorem up_ix {m n : ℕ} (a : Fin m → Fin n → ℝ) (i : Fin m) (j : Fin n) : up a (ix2 i j) = ((a i j : ℝ) : EReal) := rfl

/-! ### The operations on real matrices -/

section Ops

variable {m n : ℕ}

theorem up_add (a b : Fin m → Fin n → ℝ) (e : FTy) :
    addf (F := Ideal) (s := ⟨2, ![m, n]⟩) (φ := e) (up a) (up b) = up fun r d => a r d + b r d := by
  funext j; exact (EReal.coe_add _ _).symm
theorem up_sub (a b : Fin m → Fin n → ℝ) (e : FTy) :
    subf (F := Ideal) (s := ⟨2, ![m, n]⟩) (φ := e) (up a) (up b) = up fun r d => a r d - b r d := by
  funext j; exact (EReal.coe_sub _ _).symm
theorem up_mul (a b : Fin m → Fin n → ℝ) (e : FTy) :
    mulf (F := Ideal) (s := ⟨2, ![m, n]⟩) (φ := e) (up a) (up b) = up fun r d => a r d * b r d := by
  funext j; exact (EReal.coe_mul _ _).symm
theorem up_min (a b : Fin m → Fin n → ℝ) (e : FTy) :
    minimumf (F := Ideal) (s := ⟨2, ![m, n]⟩) (φ := e) (up a) (up b) = up fun r d => min (a r d) (b r d) := by
  funext j; exact ((EReal.coe_strictMono.monotone).map_min).symm
theorem up_exp (a : Fin m → Fin n → ℝ) (e : FTy) :
    exp (F := Ideal) (s := ⟨2, ![m, n]⟩) (φ := e) (up a) = up fun r d => Real.exp (a r d) := rfl
theorem up_select (p : Fin m → Fin n → Prop) [∀ r d, Decidable (p r d)] (a b : Fin m → Fin n → ℝ)
    (c : IVec ⟨2, ![m, n]⟩ 1) (hc : ∀ r d, c (ix2 r d) = if p r d then 1#1 else 0#1) :
    select (s := ⟨2, ![m, n]⟩) (α := EReal) c (up a) (up b) = up fun r d => if p r d then a r d else b r d := by
  funext j
  obtain ⟨j0, j1, rfl⟩ : ∃ (j0 : Fin m) (j1 : Fin n), j = ix2 j0 j1 := ⟨j 0, j 1, eq_ix2 j⟩
  show Scalar.select (c (ix2 j0 j1)) _ _ = _
  rw [hc]
  by_cases h : p j0 j1 <;> simp [h, Scalar.select, up_ix]

end Ops

theorem nar_up (a : Fin 64 → Fin 128 → ℝ) : nar (F := Ideal) (up a) = up a := rfl
theorem wid_up (a : Fin 64 → Fin 128 → ℝ) : wid (F := Ideal) (up a) = up a := rfl
theorem narS_up (a : Fin 64 → Fin 64 → ℝ) : narS (F := Ideal) (up a) = up a := rfl
theorem narD_up (a : Fin 128 → Fin 128 → ℝ) : narD (F := Ideal) (up a) = up a := rfl
theorem widD_up (a : Fin 128 → Fin 128 → ℝ) : widD (F := Ideal) (up a) = up a := rfl

theorem dNN_up (a : Fin 64 → Fin 64 → ℝ) (b : Fin 64 → Fin 128 → ℝ) :
    dNN (F := Ideal) (up a) (up b) = up fun r d => ∑ u, a r u * b u d := by
  funext j; idx_vars j; unfold dNN; pointwise
  simp only [up_ix, coe_sum, EReal.coe_mul]
theorem dNT_up (a b : Fin 64 → Fin 128 → ℝ) :
    dNT (F := Ideal) (up a) (up b) = up fun r u => ∑ d, a r d * b u d := by
  funext j; idx_vars j; unfold dNT; pointwise
  simp only [up_ix, coe_sum, EReal.coe_mul]
theorem dTN_up (a b : Fin 64 → Fin 128 → ℝ) :
    dTN (F := Ideal) (up a) (up b) = up fun e d => ∑ r, a r e * b r d := by
  funext j; idx_vars j; unfold dTN; pointwise
  simp only [up_ix, coe_sum, EReal.coe_mul]
theorem sNN_up (a : Fin 64 → Fin 128 → ℝ) (b : Fin 128 → Fin 128 → ℝ) :
    sNN (F := Ideal) (up a) (up b) = up fun r d => ∑ e, a r e * b e d := by
  funext j; idx_vars j; unfold sNN; pointwise
  simp only [up_ix, coe_sum, EReal.coe_mul]
theorem sNT_up (a : Fin 64 → Fin 128 → ℝ) (b : Fin 128 → Fin 128 → ℝ) :
    sNT (F := Ideal) (up a) (up b) = up fun r e => ∑ d, a r d * b e d := by
  funext j; idx_vars j; unfold sNT; pointwise
  simp only [up_ix, coe_sum, EReal.coe_mul]
theorem colsum_up (a : Fin 64 → Fin 128 → ℝ) :
    colsum (F := Ideal) (up a) = up fun _ d => ∑ u, a u d := by
  funext j; idx_vars j; unfold colsum; pointwise
  simp only [up_ix, coe_sum]
theorem colsumD_up (a : Fin 128 → Fin 128 → ℝ) :
    colsumD (F := Ideal) (up a) = up fun _ d => ∑ u, a u d := by
  funext j; idx_vars j; unfold colsumD; pointwise
  simp only [up_ix, coe_sum]
theorem under_up (a : Fin 1 → Fin 128 → ℝ) : under (F := Ideal) (up a) = up fun _ d => a 0 d := by
  funext j; idx_vars j; unfold under; pointwise
  rfl
/-- Three narrowed parts of a real matrix are the matrix and two zeros. -/
theorem split_up (a : Fin 64 → Fin 64 → ℝ) (x : Fin 64 → Fin 128 → ℝ) :
    split (F := Ideal) (up a) (up x) = up fun r d => ∑ u, a r u * x u d := by
  unfold split
  rw [nar_up, wid_up, up_sub, nar_up, wid_up, up_sub, nar_up, narS_up, dNN_up, dNN_up, dNN_up, up_add, up_add]
  simp

/-! ### The masks and the constants -/

theorem zz_up : zz (F := Ideal) = up fun _ _ => 0 := by
  funext j; exact Ideal.ofBits_zero_f32
theorem oo_up : oo (F := Ideal) = up fun _ _ => 1 := by
  funext j; exact Ideal.ofBits_one_f32
theorem zr_up : zr (F := Ideal) = up fun _ _ => 0 := by
  funext j; exact Ideal.ofBits_zero_f32
theorem eighty : Ideal.ofBits .f32 0x42A00000#32 = ((80 : ℝ) : EReal) := by
  simp [Ideal.ofBits, Ideal.ieee, -EReal.coe_mul]; norm_num
theorem negone : Ideal.ofBits .f32 0xBF800000#32 = ((-1 : ℝ) : EReal) := by
  simp [Ideal.ofBits, Ideal.ieee, -EReal.coe_mul, -EReal.coe_neg]; norm_num

theorem sle_at (r u : Fin 64) : cmpi .sle colI rowI (ix2 r u) = if u.val ≤ r.val then 1#1 else 0#1 := by
  unfold colI rowI; pointwise; revert r u; decide +kernel
theorem sge_at (r u : Fin 64) : cmpi .sle rowI colI (ix2 r u) = if r.val ≤ u.val then 1#1 else 0#1 := by
  unfold colI rowI; pointwise; revert r u; decide +kernel
theorem after32 (r u : Fin 64) : after 5#32 rowI colI (ix2 r u) = if pairs 32 r u then 1#1 else 0#1 := by
  unfold after colI rowI; pointwise; revert r u; decide +kernel
theorem after16 (r u : Fin 64) : after 4#32 rowI colI (ix2 r u) = if pairs 16 r u then 1#1 else 0#1 := by
  unfold after colI rowI; pointwise; revert r u; decide +kernel
theorem after8 (r u : Fin 64) : after 3#32 rowI colI (ix2 r u) = if pairs 8 r u then 1#1 else 0#1 := by
  unfold after colI rowI; pointwise; revert r u; decide +kernel
theorem after_swap (sh : BitVec 32) (r u : Fin 64) : after sh colI rowI (ix2 r u) = after sh rowI colI (ix2 u r) := by
  unfold after colI rowI; pointwise
theorem blk_at (r u : Fin 64) : blk colI rowI (ix2 r u) = if diag r u then 1#1 else 0#1 := by
  unfold blk colI rowI; pointwise; revert r u; decide +kernel
theorem blkT_at (r u : Fin 64) : blk rowI colI (ix2 r u) = if diag u r then 1#1 else 0#1 := by
  unfold blk colI rowI; pointwise; revert r u; decide +kernel
theorem side32 (r : Fin 64) : side 5#32 (ix2 r 0) = if later 32 r then 1#1 else 0#1 := by
  unfold side posI; pointwise; revert r; decide +kernel
theorem side16 (r : Fin 64) : side 4#32 (ix2 r 0) = if later 16 r then 1#1 else 0#1 := by
  unfold side posI; pointwise; revert r; decide +kernel
theorem side8 (r : Fin 64) : side 3#32 (ix2 r 0) = if later 8 r then 1#1 else 0#1 := by
  unfold side posI; pointwise; revert r; decide +kernel
theorem sideW_at (sh : BitVec 32) (r : Fin 64) (d : Fin 128) : sideW sh (ix2 r d) = side sh (ix2 r 0) := by
  unfold sideW; pointwise

theorem tri_up : tri (F := Ideal) = up fun r u => if u.val ≤ r.val then 1 else 0 := by
  unfold tri; rw [oo_up, zz_up]; exact up_select (fun r u => u.val ≤ r.val) _ _ _ sle_at
theorem triT_up : triT (F := Ideal) = up fun r u => if r.val ≤ u.val then 1 else 0 := by
  unfold triT; rw [oo_up, zz_up]; exact up_select (fun r u => r.val ≤ u.val) _ _ _ sge_at
theorem sgnW_up (sh : BitVec 32) (b : ℕ) (h : ∀ r, side sh (ix2 r 0) = if later b r then 1#1 else 0#1) :
    sgnW (F := Ideal) sh = up fun r _ => if later b r then 1 else -1 := by
  funext j; idx_vars j; unfold sgnW sgn; pointwise
  rw [h, up_ix]
  split
  case isTrue => simp [Scalar.select]
  case isFalse => exact negone

/-! ### The boundary rows -/

theorem bnd32_up (c : Fin 128 → ℕ → ℝ) :
    bnd32 (F := Ideal) (rowsOf (up fun r d => c d r.val)) = up fun r d => c d (edge 32 r) := by
  funext j; idx_vars j; unfold bnd32 rowsOf cast1 row; pointwise
  simp only [up_ix]
  congr 2; revert j0; decide +kernel
theorem bnd16_up (c : Fin 128 → ℕ → ℝ) :
    bnd16 (F := Ideal) (rowsOf (up fun r d => c d r.val)) = up fun r d => c d (edge 16 r) := by
  funext j; idx_vars j; unfold bnd16 rowsOf cast1 row; pointwise
  simp only [up_ix]
  have e : edge 16 j0 = if j0.val < 32 then 15 else 47 := by revert j0; decide +kernel
  rw [e]; split_ifs <;> rfl
theorem bnd8_up (c : Fin 128 → ℕ → ℝ) :
    bnd8 (F := Ideal) (rowsOf (up fun r d => c d r.val)) = up fun r d => c d (edge 8 r) := by
  funext j; idx_vars j; unfold bnd8 b16 rowsOf cast1 row; pointwise
  simp only [up_ix]
  have e : edge 8 j0 = if j0.val < 16 then 7 else if j0.val - 16 < 16 then 23 else if j0.val - 16 - 16 < 16 then 39 else 55 := by
    revert j0; decide +kernel
  rw [e]; split_ifs <;> rfl
theorem start_up (c : Fin 128 → ℕ → ℝ) :
    start (F := Ideal) (rowsOf (up fun r d => c d r.val)) = up fun r d => base (c d) r := by
  funext j; idx_vars j; unfold start b8 rowsOf cast1 row; pointwise
  simp only [up_ix]
  have e : ∀ c : ℕ → ℝ, base c j0 = if j0.val < 8 then 0 else c (8 * (j0.val / 8) - 1) := by
    intro c; unfold base; have := j0.isLt
    by_cases h : j0.val < 8
    · rw [if_pos h, if_pos (by omega)]
    · rw [if_neg h, if_neg (by omega)]
  rw [e]
  have f : j0.val < 8 ∨ 8 * (j0.val / 8) - 1 = if j0.val - 8 < 8 then 7 else if j0.val - 8 - 8 < 8 then 15
      else if j0.val - 8 - 8 - 8 < 8 then 23 else if j0.val - 8 - 8 - 8 - 8 < 8 then 31
      else if j0.val - 8 - 8 - 8 - 8 - 8 < 8 then 39 else if j0.val - 8 - 8 - 8 - 8 - 8 - 8 < 8 then 47 else 55 := by
    clear e; revert j0; decide +kernel
  rcases f with f | f
  · rw [dif_pos f, if_pos f]; rfl
  · rw [f]; split_ifs <;> rfl

/-! ### The chunk -/

section Chunk

variable (c : Fin 128 → ℕ → ℝ) (q k : Fin 128 → Fin 64 → ℝ) (g v o : Fin 128 → Fin 64 → ℝ) (s z : Fin 128 → Fin 128 → ℝ)

/-- A chunk's slice, one column of the head after the other. -/
abbrev cols (x : Fin 128 → Fin 64 → ℝ) : (⟨2, ![64, 128]⟩ : Shape).Idx → EReal := up fun r d => x d r

/-- The score gradients: the row of the output's gradient against the row of v. -/
abbrev sg (r u : Fin 64) : ℝ := ∑ e, o e r * v e u

theorem wt_up (sh : BitVec 32) (b : ℕ) (h : ∀ r, side sh (ix2 r 0) = if later b r then 1#1 else 0#1) :
    wt (F := Ideal) sh (up fun r d => c d r.val) (up fun r d => c d (edge b r)) = up fun r d => lw b (c d) r := by
  unfold wt; rw [sgnW_up sh b h, up_sub, up_mul, up_exp]; rfl
theorem xs_up (sh : BitVec 32) (b : ℕ) (h : ∀ r, side sh (ix2 r 0) = if later b r then 1#1 else 0#1) :
    xs (F := Ideal) (cols q) (cols k) sh (up fun r d => lw b (c d) r) = up fun r d => lx b (c d) (q d) (k d) r := by
  unfold xs
  rw [wid_up, wid_up, up_select (fun r _ => later b r) _ _ _ (fun r d => (sideW_at sh r d).trans (h r)), up_mul, nar_up]; rfl
theorem wqD_up : wqD (F := Ideal) (rowsOf (up fun r d => c d r.val)) (up fun r d => c d r.val) = up fun r d => wq (c d) r := by
  unfold wqD; rw [start_up, zr_up, up_sub, up_min, up_exp]; rfl
theorem wkD_up : wkD (F := Ideal) (rowsOf (up fun r d => c d r.val)) (up fun r d => c d r.val) = up fun r d => wk (c d) r := by
  have e : (broadcast S64x128 (Scalar.ofBits (F := Ideal) .f32 0x42A00000#32) : S64x128.Idx → EReal) = up (m := 64) (n := 128) fun _ _ => 80 := by
    funext j; exact eighty
  unfold wkD; rw [start_up]
  erw [e]
  rw [up_sub, up_min, up_exp]; rfl

/-- The running sum of the chunk's gates. -/
def Sums : Prop := ∀ d (r : Fin 64), (∑ u : Fin 64, (if u.val ≤ r.val then 1 else 0) * g d u) = c d r.val

variable {c g} (hc : Sums c g)
include hc

theorem cum_up : cum (F := Ideal) (cols g) = up fun r d => c d r.val := by
  unfold cum; rw [tri_up, split_up]
  congr 1; funext r d; exact hc d r
theorem w32_up : w32 (F := Ideal) (rowsOf (cum (cols g))) (cols g) = up fun r d => lw 32 (c d) r := by
  unfold w32; rw [cum_up hc, bnd32_up, wt_up c _ 32 side32]
theorem w16_up : w16 (F := Ideal) (rowsOf (cum (cols g))) (cols g) = up fun r d => lw 16 (c d) r := by
  unfold w16; rw [cum_up hc, bnd16_up, wt_up c _ 16 side16]
theorem w8_up : w8 (F := Ideal) (rowsOf (cum (cols g))) (cols g) = up fun r d => lw 8 (c d) r := by
  unfold w8; rw [cum_up hc, bnd8_up, wt_up c _ 8 side8]
theorem x32_up : x32 (F := Ideal) (rowsOf (cum (cols g))) (cols q) (cols k) (cols g) = up fun r d => lx 32 (c d) (q d) (k d) r := by
  unfold x32; rw [w32_up hc, xs_up c q k _ 32 side32]
theorem x16_up : x16 (F := Ideal) (rowsOf (cum (cols g))) (cols q) (cols k) (cols g) = up fun r d => lx 16 (c d) (q d) (k d) r := by
  unfold x16; rw [w16_up hc, xs_up c q k _ 16 side16]
theorem x8_up : x8 (F := Ideal) (rowsOf (cum (cols g))) (cols q) (cols k) (cols g) = up fun r d => lx 8 (c d) (q d) (k d) r := by
  unfold x8; rw [w8_up hc, xs_up c q k _ 8 side8]
theorem qd8_up : qd8 (F := Ideal) (rowsOf (cum (cols g))) (cols q) (cols g) = up fun r d => q d r * wq (c d) r := by
  unfold qd8; rw [cum_up hc, wqD_up, wid_up, up_mul, nar_up]
theorem kd8_up : kd8 (F := Ideal) (rowsOf (cum (cols g))) (cols k) (cols g) = up fun r d => k d r * wk (c d) r := by
  unfold kd8; rw [cum_up hc, wkD_up, wid_up, up_mul, nar_up]
theorem tot_up : colsum (F := Ideal) (cols g) = up fun _ d => c d 63 := by
  rw [colsum_up]; congr 1; funext _ d
  rw [← show ((63 : Fin 64).val) = 63 from rfl, ← hc d 63]
  refine Finset.sum_congr rfl fun u _ => ?_
  rw [if_pos (by have := u.isLt; show u.val ≤ 63; omega), one_mul]
theorem etot_up : etot (F := Ideal) (cols g) = up fun _ d => Real.exp (c d 63) := by
  unfold etot; rw [tot_up hc, up_exp]
theorem eb_up : eb (F := Ideal) (cols g) = up fun r d => Real.exp (c d r.val) := by
  unfold eb; rw [cum_up hc, up_exp]
theorem et_up : et (F := Ideal) (cols g) = up fun r d => Real.exp (c d 63 - c d r.val) := by
  unfold et; rw [cum_up hc, tot_up hc, under_up, up_sub, up_exp]
theorem qe_up : qe (F := Ideal) (cols q) (cols g) = up fun r d => q d r * Real.exp (c d r.val) := by
  unfold qe; rw [eb_up hc, wid_up, up_mul, nar_up]
theorem ke_up : ke (F := Ideal) (cols k) (cols g) = up fun r d => k d r * Real.exp (c d 63 - c d r.val) := by
  unfold ke; rw [et_up hc, wid_up, up_mul, nar_up]

omit hc in
theorem da_up : da (F := Ideal) (cols v) (cols o) = up fun r u => sg v o r u := by
  unfold da; rw [nar_up, dNT_up]
omit hc in
theorem daT_up : daT (F := Ideal) (cols v) (cols o) = up fun r u => sg v o u r := by
  unfold daT; rw [nar_up, dNT_up]; congr 1; funext r u
  exact Finset.sum_congr rfl fun e _ => mul_comm _ _
omit hc in
theorem dsym_up (sh : BitVec 32) (b : ℕ) (h : ∀ r u, after sh rowI colI (ix2 r u) = if pairs b r u then 1#1 else 0#1) :
    dsym (F := Ideal) (cols v) (cols o) sh = up fun r u => sym b (sg v o) r u := by
  unfold dsym
  rw [da_up, daT_up, zz_up, up_select (pairs b) _ _ _ h,
    up_select (fun r u => pairs b u r) _ _ _ (fun r u => (after_swap sh r u).trans (h u r)), up_add, narS_up]
  rfl
omit hc in
theorem dd_up : dd (F := Ideal) (cols v) (cols o) = up fun r u => if diag r u then sg v o r u else 0 := by
  unfold dd; rw [da_up, zz_up, up_select diag _ _ _ blk_at, narS_up]
omit hc in
theorem ddT_up : ddT (F := Ideal) (cols v) (cols o) = up fun r u => if diag u r then sg v o u r else 0 := by
  unfold ddT; rw [daT_up, zz_up, up_select (fun r u => diag u r) _ _ _ blkT_at, narS_up]
theorem dx32_up : dx32 (F := Ideal) (rowsOf (cum (cols g))) (cols q) (cols k) (cols v) (cols g) (cols o) = up fun r d => ldx 32 (c d) (q d) (k d) (sg v o) r := by
  unfold dx32; rw [x32_up q k hc, dsym_up v o _ 32 after32, dNN_up]; rfl
theorem dx16_up : dx16 (F := Ideal) (rowsOf (cum (cols g))) (cols q) (cols k) (cols v) (cols g) (cols o) = up fun r d => ldx 16 (c d) (q d) (k d) (sg v o) r := by
  unfold dx16; rw [x16_up q k hc, dsym_up v o _ 16 after16, dNN_up]; rfl
theorem dx8_up : dx8 (F := Ideal) (rowsOf (cum (cols g))) (cols q) (cols k) (cols v) (cols g) (cols o) = up fun r d => ldx 8 (c d) (q d) (k d) (sg v o) r := by
  unfold dx8; rw [x8_up q k hc, dsym_up v o _ 8 after8, dNN_up]; rfl
theorem dqd_up : dqd (F := Ideal) (rowsOf (cum (cols g))) (cols k) (cols v) (cols g) (cols o)
    = up fun r d => ∑ u, (if diag r u then sg v o r u else 0) * (k d u * wk (c d) u) := by
  unfold dqd; rw [kd8_up k hc, dd_up, dNN_up]
theorem dkd_up : dkd (F := Ideal) (rowsOf (cum (cols g))) (cols q) (cols v) (cols g) (cols o)
    = up fun r d => ∑ u, (if diag u r then sg v o u r else 0) * (q d u * wq (c d) u) := by
  unfold dkd; rw [qd8_up q hc, ddT_up, dNN_up]

omit hc in
theorem sel_up (sh : BitVec 32) (b : ℕ) (h : ∀ r, side sh (ix2 r 0) = if later b r then 1#1 else 0#1)
    (a a' : Fin 64 → Fin 128 → ℝ) :
    select (s := S64x128) (α := EReal) (sideW sh) (up a) (up a') = up fun r d => if later b r then a r d else a' r d :=
  up_select (fun r _ => later b r) _ _ _ (fun r d => (sideW_at sh r d).trans (h r))

theorem dqI_up : dqI (F := Ideal) (rowsOf (cum (cols g))) (cols q) (cols k) (cols v) (cols g) (cols o) = up fun r d => dqIn c q k (sg v o) d r := by
  unfold dqI
  rw [dqd_up k v o hc, dx32_up q k v o hc, dx16_up q k v o hc, dx8_up q k v o hc, w32_up hc, w16_up hc,
    w8_up hc, cum_up hc, wqD_up, zr_up]
  simp only [up_mul]
  erw [sel_up _ 32 side32, sel_up _ 16 side16, sel_up _ 8 side8]
  simp only [up_add]
  rfl
theorem dkI_up : dkI (F := Ideal) (rowsOf (cum (cols g))) (cols q) (cols k) (cols v) (cols g) (cols o) = up fun r d => dkIn c q k (sg v o) d r := by
  unfold dkI
  rw [dkd_up q v o hc, dx32_up q k v o hc, dx16_up q k v o hc, dx8_up q k v o hc, w32_up hc, w16_up hc,
    w8_up hc, cum_up hc, wkD_up, zr_up]
  simp only [up_mul]
  erw [sel_up _ 32 side32, sel_up _ 16 side16, sel_up _ 8 side8]
  simp only [up_add]
  rfl
theorem dbI_up : dbI (F := Ideal) (rowsOf (cum (cols g))) (cols q) (cols k) (cols v) (cols g) (cols o) = up fun r d => dbIn c q k (sg v o) d r := by
  unfold dbI
  rw [dqd_up k v o hc, dkd_up q v o hc, qd8_up q hc, kd8_up k hc, dx32_up q k v o hc, dx16_up q k v o hc, dx8_up q k v o hc,
    x32_up q k hc, x16_up q k hc, x8_up q k hc, sgnW_up _ 32 side32, sgnW_up _ 16 side16, sgnW_up _ 8 side8]
  simp only [wid_up, up_mul, up_sub, up_add]
  rfl
theorem scT_up : scT (F := Ideal) (rowsOf (cum (cols g))) (cols q) (cols k) (cols g) = up fun u r => scoreIn c q k u r := by
  unfold scT
  rw [qd8_up q hc, kd8_up k hc, x32_up q k hc, x16_up q k hc, x8_up q k hc, zz_up]
  simp only [dNT_up]
  rw [up_select (fun u r => diag r u) _ _ _ blkT_at,
    up_select (fun u r => pairs 32 r u) _ _ _ (fun r u => (after_swap _ r u).trans (after32 u r)),
    up_select (fun u r => pairs 16 r u) _ _ _ (fun r u => (after_swap _ r u).trans (after16 u r)),
    up_select (fun u r => pairs 8 r u) _ _ _ (fun r u => (after_swap _ r u).trans (after8 u r))]
  simp only [up_add]
  rfl

omit hc in
theorem stb_up (st : S1x1x128x128.Idx → EReal) (hst : ∀ e d, st (ix4 0 0 e d) = ((s e d : ℝ) : EReal)) :
    stb (F := Ideal) st = up s := by
  funext j; idx_vars j
  show shapeCast S128x128 st shapeCasts_S1x1x128x128_S128x128 (ix2 j0 j1) = _
  pointwise
  rw [hst]; rfl

variable (st : S1x1x128x128.Idx → EReal) (hst : ∀ e d, st (ix4 0 0 e d) = ((s e d : ℝ) : EReal))

omit hc in
include hst in
theorem dqe_up : dqe (F := Ideal) (cols o) st = up fun r d => ∑ e, o e r * s e d := by
  unfold dqe; rw [stb_up s st hst, nar_up, sNN_up]
omit hc in
theorem dke_up : dke (F := Ideal) (cols v) (up z) = up fun r d => ∑ e, v e r * z e d := by
  unfold dke; rw [narD_up, sNN_up]

include hst in
theorem outQ_up : outQ (F := Ideal) (rowsOf (cum (cols g))) (cols q) (cols k) (cols v) (cols g) (cols o) st
    = up fun r d => dqIn c q k (sg v o) d r + (∑ e, o e r * s e d) * Real.exp (c d r.val) := by
  unfold outQ; rw [dqI_up q k v o hc, dqe_up o s st hst, eb_up hc, up_mul, up_add, nar_up]
theorem outK_up : outK (F := Ideal) (rowsOf (cum (cols g))) (cols q) (cols k) (cols v) (cols g) (cols o) (up z)
    = up fun r d => dkIn c q k (sg v o) d r + (∑ e, v e r * z e d) * Real.exp (c d 63 - c d r.val) := by
  unfold outK; rw [dkI_up q k v o hc, dke_up, et_up hc, up_mul, up_add, nar_up]
theorem outV_up : outV (F := Ideal) (rowsOf (cum (cols g))) (cols q) (cols k) (cols g) (cols o) (up z)
    = up fun u e => (∑ r, scoreIn c q k u r * o e r) + ∑ d, (k d u * Real.exp (c d 63 - c d u.val)) * z e d := by
  unfold outV; rw [scT_up q k hc, ke_up k hc, narD_up, nar_up, narS_up, dNN_up, sNT_up, up_add, nar_up]
include hst in
theorem outG_up : outG (F := Ideal) (rowsOf (cum (cols g))) (cols q) (cols k) (cols v) (cols g) (cols o) st (up z)
    = up fun r d => (∑ u : Fin 64, (if r.val ≤ u.val then 1 else 0) *
        (dbIn c q k (sg v o) d u + (∑ e, o e u * s e d) * (q d u * Real.exp (c d u.val))
          - (∑ e, v e u * z e d) * (k d u * Real.exp (c d 63 - c d u.val))))
      + ((∑ e, z e d * s e d) * Real.exp (c d 63)
        + ∑ u : Fin 64, (∑ e, v e u * z e d) * (k d u * Real.exp (c d 63 - c d u.val))) := by
  unfold outG db dtot
  rw [dbI_up q k v o hc, dqe_up o s st hst, dke_up, qe_up q hc, ke_up k hc, narD_up, stb_up s st hst, etot_up hc, triT_up]
  simp only [wid_up, widD_up, up_mul, up_add, up_sub, colsum_up, colsumD_up, split_up, under_up]
theorem next_up : next (F := Ideal) (cols q) (cols g) (cols o) (up z)
    = up fun e d => z e d * Real.exp (c d 63) + ∑ r, o e r * (q d r * Real.exp (c d r.val)) := by
  have e : (broadcastTo S128x128 (up (m := 1) (n := 128) fun _ d => Real.exp (c d 63)) broadcasts_S1x128_S128x128 : S128x128.Idx → EReal)
      = up fun _ d => Real.exp (c d 63) := by
    funext j; idx_vars j; pointwise; rfl
  unfold next
  rw [etot_up hc, qe_up q hc, nar_up, dTN_up]
  erw [e]
  rw [up_mul, up_add]

end Chunk

end Cert.KernelIdeal.Chunk
-- ==== Proof.Head.lean ====
/-
  One chunk of a head of the whole sequence: on the chunk's rows of real operands, with the state at its start and the
  state gradient at its end, the chunk writes the gradients `Glue.lean` states for the whole sequence.
-/
module

public import proofs.«01_k».proof.Proof.Reading

@[expose] public section

set_option maxRecDepth 16384

noncomputable section

namespace Cert.KernelIdeal.Chunk

open Cert.KernelIdeal Cert.KernelIdeal.Gen Cert.Chunk Idealize.ShloMosaic Finset

theorem run_add (g : ℕ → ℝ) (n m : ℕ) : (∑ u ∈ range (n + m), g u) - ∑ u ∈ range n, g u = ∑ u ∈ range m, g (n + u) := by
  rw [Finset.sum_range_add]; ring

theorem sums_in (g : Fin 128 → ℕ → ℝ) (n : ℕ) : Sums (cumIn g n) (rowsIn g n) := by
  intro d r
  unfold cumIn rowsIn run
  rw [Nat.add_assoc, run_add, ← Nat.Ico_zero_eq_range]
  have h := sum_upto (g d ∘ (n + ·)) 0 r
  simp only [Nat.zero_add, Function.comp] at h
  rw [← h]
  refine Finset.sum_congr rfl fun u _ => ?_
  split <;> simp

section

variable (T : ℕ) (g q k v o : Fin 128 → ℕ → ℝ) (n : ℕ) (hn : n + 64 ≤ T)

/-- The chunk's rows as ideal values. -/
abbrev slice (x : Fin 128 → ℕ → ℝ) : S64x128.Idx → EReal := cols (rowsIn x n)

theorem up_ext {m n : ℕ} {a b : Fin m → Fin n → ℝ} (h : ∀ i j, a i j = b i j) : up a = up b := by
  congr 1; funext i j; exact h i j

variable (st : S1x1x128x128.Idx → EReal) (hst : ∀ e d, st (ix4 0 0 e d) = ((stAt g k v n e d : ℝ) : EReal))

include hst in
theorem head_q (hc : ∀ d, Mild (cumIn g n d)) :
    outQ (F := Ideal) (rowsOf (cum (slice n g))) (slice n q) (slice n k) (slice n v) (slice n g) (slice n o) st
      = up fun r d => rq g k v o d (n + r.val) := by
  rw [outQ_up (c := cumIn g n) _ _ _ _ (sums_in g n) (s := stAt g k v n) st hst]
  exact up_ext fun r d => chunk_dq (g := g) (q := q) (k := k) (v := v) (o := o) n d (hc d) r
include hn in
theorem head_k (hc : ∀ d, Mild (cumIn g n d)) :
    outK (F := Ideal) (rowsOf (cum (slice n g))) (slice n q) (slice n k) (slice n v) (slice n g) (slice n o) (up (dsAt T g q o (n + 64)))
      = up fun r d => rk T g q v o d (n + r.val) := by
  rw [outK_up (c := cumIn g n) _ _ _ _ _ (sums_in g n)]
  exact up_ext fun r d => chunk_dk (T := T) (g := g) (q := q) (k := k) (v := v) (o := o) n hn d (hc d) r
include hn in
theorem head_v (hc : ∀ d, Mild (cumIn g n d)) :
    outV (F := Ideal) (rowsOf (cum (slice n g))) (slice n q) (slice n k) (slice n g) (slice n o) (up (dsAt T g q o (n + 64)))
      = up fun r e => rv T g q k o e (n + r.val) := by
  rw [outV_up (c := cumIn g n) _ _ _ _ (sums_in g n)]
  exact up_ext fun r e => chunk_dv (T := T) (g := g) (q := q) (k := k) (o := o) n hn hc e r
include hn hst in
theorem head_g (hc : ∀ d, Mild (cumIn g n d)) :
    outG (F := Ideal) (rowsOf (cum (slice n g))) (slice n q) (slice n k) (slice n v) (slice n g) (slice n o) st (up (dsAt T g q o (n + 64)))
      = up fun r d => rg T g q k v o d (n + r.val) := by
  rw [outG_up (c := cumIn g n) (hc := sums_in g n) (s := stAt g k v n) (hst := hst)]
  refine up_ext fun r d => ?_
  refine Eq.trans ?_ (chunk_dg (T := T) (g := g) (q := q) (k := k) (v := v) (o := o) n hn d r)
  congr 1
  · refine Finset.sum_congr rfl fun u _ => ?_
    have h := chunk_db (T := T) (g := g) (q := q) (k := k) (v := v) (o := o) n hn d (hc d) u
    split
    · rw [one_mul]; exact h
    · rw [zero_mul]
  · exact chunk_tot (T := T) (g := g) (q := q) (k := k) (v := v) (o := o) n d
include hn in
theorem head_next :
    next (F := Ideal) (slice n q) (slice n g) (slice n o) (up (dsAt T g q o (n + 64))) = up (dsAt T g q o n) := by
  rw [next_up (c := cumIn g n) (hc := sums_in g n)]
  exact up_ext fun e d => chunk_ds (T := T) (g := g) (q := q) (o := o) n hn e d

end

/-- Gates at most zero, adding to at least −80 over aligned runs of eight steps, keep every clamp inactive. -/
theorem mild_of (g : Fin 128 → ℕ → ℝ) (T : ℕ) (h0 : ∀ d t, t < T → g d t ≤ 0)
    (h8 : ∀ d t, 8 * t < T → -80 ≤ ∑ u ∈ range 8, g d (8 * t + u)) (c : ℕ) (hc : 64 * c + 64 ≤ T) (d : Fin 128) :
    Mild (cumIn g (64 * c) d) := by
  intro r
  have hr := r.isLt
  have hb : base (cumIn g (64 * c) d) r = run g d (64 * c + 8 * (r.val / 8)) - run g d (64 * c) := by
    unfold base
    split
    · next h => rw [h]; simp
    · unfold cumIn; rw [show 64 * c + (8 * (r.val / 8) - 1) + 1 = 64 * c + 8 * (r.val / 8) by omega]
  have e : cumIn g (64 * c) d r.val - base (cumIn g (64 * c) d) r = ∑ u ∈ range (r.val % 8 + 1), g d (8 * (8 * c + r.val / 8) + u) := by
    rw [hb]; unfold cumIn run
    rw [← run_add (g d) (8 * (8 * c + r.val / 8)) (r.val % 8 + 1)]
    rw [show 64 * c + r.val + 1 = 8 * (8 * c + r.val / 8) + (r.val % 8 + 1) by omega, show 64 * c + 8 * (r.val / 8) = 8 * (8 * c + r.val / 8) by omega]
    ring
  have h1 : ∀ u, u < 8 → g d (8 * (8 * c + r.val / 8) + u) ≤ 0 := fun u hu => h0 d _ (by omega)
  have hneg : (∑ u ∈ range (r.val % 8 + 1), g d (8 * (8 * c + r.val / 8) + u)) ≤ 0 :=
    Finset.sum_nonpos fun u hu => h1 u (by have := Finset.mem_range.mp hu; omega)
  have hge : (∑ u ∈ range 8, g d (8 * (8 * c + r.val / 8) + u)) ≤ ∑ u ∈ range (r.val % 8 + 1), g d (8 * (8 * c + r.val / 8) + u) := by
    rw [← Finset.sum_range_add_sum_Ico _ (show r.val % 8 + 1 ≤ 8 by omega)]
    have : (∑ u ∈ Ico (r.val % 8 + 1) 8, g d (8 * (8 * c + r.val / 8) + u)) ≤ 0 :=
      Finset.sum_nonpos fun u hu => h1 u (by have := Finset.mem_Ico.mp hu; omega)
    linarith
  have h80 := h8 d (8 * c + r.val / 8) (by omega)
  constructor
  · rw [e]; exact hneg
  · have : base (cumIn g (64 * c) d) r - cumIn g (64 * c) d r.val = -∑ u ∈ range (r.val % 8 + 1), g d (8 * (8 * c + r.val / 8) + u) := by
      rw [← e]; ring
    rw [this]; linarith

end Cert.KernelIdeal.Chunk
-- ==== Proof.Point.lean ====
/-
  A grid point over the ideal values: from real blocks, the states at its chunks' starts and the state gradients at its end,
  a point writes the blocks of the four gradients and hands on the state gradients at its start.
-/
module

public import proofs.«01_k».proof.Proof.Block
public import proofs.«01_k».proof.Proof.Head

@[expose] public section

set_option maxRecDepth 16384

noncomputable section

namespace Cert.KernelIdeal.Chunk

open Cert.KernelIdeal Cert.KernelIdeal.Gen Cert.Chunk Idealize.ShloMosaic

/-- A head's column of an array of steps by channels. -/
def col (a : ℕ → ℕ → ℝ) (H : ℕ) (d : Fin 128) (t : ℕ) : ℝ := a t (128 * H + d.val)
/-- The block of steps `256 i …` and channels `512 G …` of a real array. -/
def tile (a : ℕ → ℕ → ℝ) (i G : ℕ) : S256x512.Idx → EReal := fun y => ((a (256 * i + (y 0).val) (512 * G + (y 1).val) : ℝ) : EReal)

/-- The four gradients as arrays of steps by channels. -/
def gradQ (g q k v o : ℕ → ℕ → ℝ) (t x : ℕ) : ℝ :=
  rq (col g (x / 128)) (col k (x / 128)) (col v (x / 128)) (col o (x / 128)) ⟨x % 128, Nat.mod_lt _ (by decide)⟩ t
def gradK (g q k v o : ℕ → ℕ → ℝ) (t x : ℕ) : ℝ :=
  rk 2304 (col g (x / 128)) (col q (x / 128)) (col v (x / 128)) (col o (x / 128)) ⟨x % 128, Nat.mod_lt _ (by decide)⟩ t
def gradV (g q k v o : ℕ → ℕ → ℝ) (t x : ℕ) : ℝ :=
  rv 2304 (col g (x / 128)) (col q (x / 128)) (col k (x / 128)) (col o (x / 128)) ⟨x % 128, Nat.mod_lt _ (by decide)⟩ t
def gradG (g q k v o : ℕ → ℕ → ℝ) (t x : ℕ) : ℝ :=
  rg 2304 (col g (x / 128)) (col q (x / 128)) (col k (x / 128)) (col v (x / 128)) (col o (x / 128)) ⟨x % 128, Nat.mod_lt _ (by decide)⟩ t

theorem at_eq (a : ℕ → ℕ → ℝ) {t t' x x' : ℕ} (ht : t = t') (hx : x = x') : ((a t x : ℝ) : EReal) = ((a t' x' : ℝ) : EReal) := by
  rw [ht, hx]

theorem cut_tile {e : EltTy} (a : ℕ → ℕ → ℝ) (i G : ℕ) (h : Fin 4) (j : ℕ) (x : S256x512.Idx → EReal) (hx : x = tile a i G) :
    (fun y => x (ix2 ⟨64 * (3 - j) + (y 0).val, by have : (y 0).val < 64 := (y 0).isLt; omega⟩
      ⟨128 * h.val + (y 1).val, by have : (y 1).val < 128 := (y 1).isLt; omega⟩) : S64x128.Idx → EReal)
      = slice (256 * i + 64 * (3 - j)) (col a (4 * G + h.val)) := by
  subst hx
  funext y
  show ((a (256 * i + (64 * (3 - j) + (y 0).val)) (512 * G + (128 * h.val + (y 1).val)) : ℝ) : EReal)
    = ((a (256 * i + 64 * (3 - j) + (y 0).val) (128 * (4 * G + h.val) + (y 1).val) : ℝ) : EReal)
  exact at_eq a (by omega) (by omega)
theorem cutB (a : ℕ → ℕ → ℝ) (i G : ℕ) (h : Fin 4) (j : ℕ) :
    (cut (F := Ideal) (e := .bf16) (tile a i G) h j : S64x128.Idx → EReal) = slice (256 * i + 64 * (3 - j)) (col a (4 * G + h.val)) :=
  cut_tile (e := .bf16) a i G h j _ rfl
theorem cutF (a : ℕ → ℕ → ℝ) (i G : ℕ) (h : Fin 4) (j : ℕ) :
    (cut (F := Ideal) (e := .f32) (tile a i G) h j : S64x128.Idx → EReal) = slice (256 * i + 64 * (3 - j)) (col a (4 * G + h.val)) :=
  cut_tile (e := .f32) a i G h j _ rfl

section

variable (g q k v o : ℕ → ℕ → ℝ) (i G : ℕ) (hi : i < 9)

/-- The states at the starts of the block's chunks, and the state gradients at step `n`. -/
def states : S4x4x128x128.Idx → EReal := fun y =>
  ((stAt (col g (4 * G + (y 0).val)) (col k (4 * G + (y 0).val)) (col v (4 * G + (y 0).val)) (256 * i + 64 * (y 1).val) (y 2) (y 3) : ℝ) : EReal)
def toCome (n : ℕ) (h : Fin 4) : S128x128.Idx → EReal := up (dsAt 2304 (col g (4 * G + h.val)) (col q (4 * G + h.val)) (col o (4 * G + h.val)) n)

include hi in
theorem uD_eq (h : Fin 4) : ∀ j : ℕ, j ≤ 4 →
    (uD (F := Ideal) (cut (F := Ideal) (e := .bf16) (tile q i G)) (cut (F := Ideal) (e := .f32) (tile g i G)) (cut (F := Ideal) (e := .f32) (tile o i G))
      (toCome g q o G (256 * i + 256)) h j : S128x128.Idx → EReal) = toCome g q o G (256 * i + 64 * (4 - j)) h
  | 0, _ => rfl
  | j + 1, hj => by
    show next (F := Ideal) _ _ _ (uD _ _ _ _ h j) = _
    rw [uD_eq h j (by omega), cutB, cutF, cutF]
    unfold toCome
    rw [show 256 * i + 64 * (4 - j) = (256 * i + 64 * (3 - j)) + 64 by omega,
      show 4 - (j + 1) = 3 - j by omega]
    exact head_next 2304 _ _ _ _ (by omega)

variable (hm : ∀ H c, c < 36 → ∀ d, Mild (cumIn (col g H) (64 * c) d))

theorem st_at (h : Fin 4) (j : ℕ) (e d : Fin 128) :
    stC (F := Ideal) (states g k v i G) h j (ix4 0 0 e d)
      = ((stAt (col g (4 * G + h.val)) (col k (4 * G + h.val)) (col v (4 * G + h.val)) (256 * i + 64 * (3 - j)) e d : ℝ) : EReal) := rfl

include hi hm in
theorem mild_at (h : Fin 4) (j : ℕ) : ∀ d, Mild (cumIn (col g (4 * G + h.val)) (256 * i + 64 * (3 - j)) d) := by
  rw [show 256 * i + 64 * (3 - j) = 64 * (4 * i + (3 - j)) by omega]
  exact hm _ _ (by omega)

/-- A block laid out unit by unit from the columns of a gradient. -/
theorem laid_tile {e : EltTy} (f : Fin 16 → S64x128.Idx → EReal) (A : ℕ → ℕ → ℝ)
    (hf : ∀ u : Fin 16, f u = up fun r d => A (256 * i + 64 * (3 - ch u) + r.val) (128 * (4 * G + (hd u).val) + d.val)) (y : S256x512.Idx) :
    f ⟨4 * ((y 1).val / 128) + (3 - (y 0).val / 64), by have : (y 1).val < 512 := (y 1).isLt; omega⟩
      (ix2 ⟨(y 0).val % 64, Nat.mod_lt _ (by decide)⟩ ⟨(y 1).val % 128, Nat.mod_lt _ (by decide)⟩) = tile A i G y := by
  have h0 : (y 0).val < 256 := (y 0).isLt
  have h1 : (y 1).val < 512 := (y 1).isLt
  rw [hf]
  show ((A (256 * i + 64 * (3 - (4 * ((y 1).val / 128) + (3 - (y 0).val / 64)) % 4) + (y 0).val % 64)
      (128 * (4 * G + (4 * ((y 1).val / 128) + (3 - (y 0).val / 64)) / 4) + (y 1).val % 128) : ℝ) : EReal)
    = ((A (256 * i + (y 0).val) (512 * G + (y 1).val) : ℝ) : EReal)
  exact at_eq A (by omega) (by omega)

theorem at_head (H : ℕ) (d : Fin 128) : (128 * H + d.val) / 128 = H ∧ (128 * H + d.val) % 128 = d.val := by
  have := d.isLt; omega

theorem mod_head (H : ℕ) (d : Fin 128) : (⟨(128 * H + d.val) % 128, Nat.mod_lt _ (by decide)⟩ : Fin 128) = d :=
  Fin.ext (at_head H d).2

include hi hm in
theorem point_q : (laid (F := Ideal) (e := .bf16) (uQ (sums (F := Ideal) (tile g i G)) (cut (F := Ideal) (e := .bf16) (tile q i G)) (cut (F := Ideal) (e := .bf16) (tile k i G))
    (cut (F := Ideal) (e := .bf16) (tile v i G)) (cut (F := Ideal) (e := .f32) (tile g i G)) (cut (F := Ideal) (e := .f32) (tile o i G)) (stC (F := Ideal) (states g k v i G))) : S256x512.Idx → EReal)
      = tile (gradQ g q k v o) i G := by
  funext y
  refine laid_tile (e := .bf16) i G _ _ (fun u => ?_) y
  unfold uQ sums
  rw [cutB, cutB, cutB, cutF, cutF]
  refine (head_q (col g (4 * G + (hd u).val)) _ _ _ _ _ _ (st_at g k v i G (hd u) (ch u)) (mild_at g i G hi hm (hd u) (ch u))).trans ?_
  refine up_ext fun r d => ?_
  unfold gradQ
  rw [(at_head _ d).1, mod_head]
include hi hm in
theorem point_k : (laid (F := Ideal) (e := .bf16) (uK (sums (F := Ideal) (tile g i G)) (cut (F := Ideal) (e := .bf16) (tile q i G)) (cut (F := Ideal) (e := .bf16) (tile k i G))
    (cut (F := Ideal) (e := .bf16) (tile v i G)) (cut (F := Ideal) (e := .f32) (tile g i G)) (cut (F := Ideal) (e := .f32) (tile o i G)) (toCome g q o G (256 * i + 256))) : S256x512.Idx → EReal)
      = tile (gradK g q k v o) i G := by
  funext y
  refine laid_tile (e := .bf16) i G _ _ (fun u => ?_) y
  have hc : ch u < 4 := Nat.mod_lt _ (by decide)
  unfold uK sums
  rw [uD_eq g q o i G hi (hd u) (ch u) (by omega), cutB, cutB, cutB, cutF, cutF]
  unfold toCome
  rw [show 256 * i + 64 * (4 - ch u) = (256 * i + 64 * (3 - ch u)) + 64 by omega]
  refine (head_k 2304 (col g (4 * G + (hd u).val)) _ _ _ _ _ (by omega) (mild_at g i G hi hm (hd u) (ch u))).trans ?_
  refine up_ext fun r d => ?_
  unfold gradK
  rw [(at_head _ d).1, mod_head]
include hi hm in
theorem point_v : (laid (F := Ideal) (e := .bf16) (uV (sums (F := Ideal) (tile g i G)) (cut (F := Ideal) (e := .bf16) (tile q i G)) (cut (F := Ideal) (e := .bf16) (tile k i G))
    (cut (F := Ideal) (e := .f32) (tile g i G)) (cut (F := Ideal) (e := .f32) (tile o i G)) (toCome g q o G (256 * i + 256))) : S256x512.Idx → EReal)
      = tile (gradV g q k v o) i G := by
  funext y
  refine laid_tile (e := .bf16) i G _ _ (fun u => ?_) y
  have hc : ch u < 4 := Nat.mod_lt _ (by decide)
  unfold uV sums
  rw [uD_eq g q o i G hi (hd u) (ch u) (by omega), cutB, cutB, cutF, cutF]
  unfold toCome
  rw [show 256 * i + 64 * (4 - ch u) = (256 * i + 64 * (3 - ch u)) + 64 by omega]
  refine (head_v 2304 (col g (4 * G + (hd u).val)) _ _ _ _ (by omega) (mild_at g i G hi hm (hd u) (ch u))).trans ?_
  refine up_ext fun r d => ?_
  unfold gradV
  rw [(at_head _ d).1, mod_head]
include hi hm in
theorem point_g : (laid (F := Ideal) (e := .f32) (uG (sums (F := Ideal) (tile g i G)) (cut (F := Ideal) (e := .bf16) (tile q i G)) (cut (F := Ideal) (e := .bf16) (tile k i G))
    (cut (F := Ideal) (e := .bf16) (tile v i G)) (cut (F := Ideal) (e := .f32) (tile g i G)) (cut (F := Ideal) (e := .f32) (tile o i G)) (stC (F := Ideal) (states g k v i G)) (toCome g q o G (256 * i + 256))) : S256x512.Idx → EReal)
      = tile (gradG g q k v o) i G := by
  funext y
  refine laid_tile (e := .f32) i G _ _ (fun u => ?_) y
  have hc : ch u < 4 := Nat.mod_lt _ (by decide)
  unfold uG sums
  rw [uD_eq g q o i G hi (hd u) (ch u) (by omega), cutB, cutB, cutB, cutF, cutF]
  unfold toCome
  rw [show 256 * i + 64 * (4 - ch u) = (256 * i + 64 * (3 - ch u)) + 64 by omega]
  refine (head_g 2304 (col g (4 * G + (hd u).val)) _ _ _ _ _ (by omega) _ (st_at g k v i G (hd u) (ch u)) (mild_at g i G hi hm (hd u) (ch u))).trans ?_
  refine up_ext fun r d => ?_
  unfold gradG
  rw [(at_head _ d).1, mod_head]

/-- No step comes after the last. -/
theorem toCome_end : (fun _ => zeroD (F := Ideal)) = toCome g q o G 2304 := by
  funext h y
  show Scalar.ofBits (F := Ideal) .f32 0x00000000#32 = ((dsAt 2304 _ _ _ 2304 (y 0) (y 1) : ℝ) : EReal)
  refine Eq.trans Ideal.ofBits_zero_f32 ?_
  exact (congrArg (fun r : ℝ => (r : EReal)) (dsAt_last (T := 2304) (g := col g (4 * G + h.val)) (q := col q (4 * G + h.val))
    (o := col o (4 * G + h.val)) (y 0) (y 1))).symm

end

end Cert.KernelIdeal.Chunk
-- ==== Proof.Carry.lean ====
/-
  The whole grid over the ideal values: the blocks each point reads, the state gradients it receives from the point before
  (by induction along a group of heads), the blocks it writes, and from them the four result arrays.
-/
module

public import proofs.«01_k».proof.Proof.Gen.KernelIdeal.Value
public import proofs.«01_k».proof.Proof.OutA
public import proofs.«01_k».proof.Proof.OutB
public import proofs.«01_k».proof.Proof.Point

@[expose] public section

set_option maxRecDepth 16384

noncomputable section

namespace Cert.KernelIdeal.Chunk

open Cert.KernelIdeal Cert.KernelIdeal.Gen Cert.Chunk Idealize.ShloMosaic Idealize.ShloMosaic.TcCoe

/-! Point `t` of a group handles the block of steps `8 - t % 9`. -/
theorem idx0 : ∀ t : Fin cfg0.N, win0_0.index t = ![8 - t.val % 9, t.val / 9] := (by decide +kernel : ∀ t : Fin grid0.N, _)
theorem idx1 : ∀ t : Fin cfg0.N, win0_1.index t = ![8 - t.val % 9, t.val / 9] := (by decide +kernel : ∀ t : Fin grid0.N, _)
theorem idx2 : ∀ t : Fin cfg0.N, win0_2.index t = ![8 - t.val % 9, t.val / 9] := (by decide +kernel : ∀ t : Fin grid0.N, _)
theorem idx3 : ∀ t : Fin cfg0.N, win0_3.index t = ![8 - t.val % 9, t.val / 9] := (by decide +kernel : ∀ t : Fin grid0.N, _)
theorem idx4 : ∀ t : Fin cfg0.N, win0_4.index t = ![8 - t.val % 9, t.val / 9] := (by decide +kernel : ∀ t : Fin grid0.N, _)
theorem idx5 : ∀ t : Fin cfg0.N, win0_5.index t = ![t.val / 9, 8 - t.val % 9, 0, 0] := (by decide +kernel : ∀ t : Fin grid0.N, _)
theorem idx6 : ∀ t : Fin cfg0.N, win0_6.index t = ![8 - t.val % 9, t.val / 9] := (by decide +kernel : ∀ t : Fin grid0.N, _)
theorem idx7 : ∀ t : Fin cfg0.N, win0_7.index t = ![8 - t.val % 9, t.val / 9] := (by decide +kernel : ∀ t : Fin grid0.N, _)
theorem idx8 : ∀ t : Fin cfg0.N, win0_8.index t = ![8 - t.val % 9, t.val / 9] := (by decide +kernel : ∀ t : Fin grid0.N, _)
theorem idx9 : ∀ t : Fin cfg0.N, win0_9.index t = ![8 - t.val % 9, t.val / 9] := (by decide +kernel : ∀ t : Fin grid0.N, _)

/-- A real array of steps by channels. -/
def whole (a : ℕ → ℕ → ℝ) : S2304x1024.Idx → EReal := fun y => ((a (y 0).val (y 1).val : ℝ) : EReal)

section

variable (m : (ℓ : Loc nD τ sig) → Buf (Elt Ideal) ℓ) (c : Dev nD) (g q k v o : ℕ → ℕ → ℝ)

/-- What the region finds: real operands, and the states at the starts of the chunks. -/
structure Finds : Prop where
  q_eq : m ((c : Thread nD τ).loc main_arg0) = whole q
  k_eq : m ((c : Thread nD τ).loc main_arg1) = whole k
  v_eq : m ((c : Thread nD τ).loc main_arg2) = whole v
  g_eq : m ((c : Thread nD τ).loc main_arg3) = whole g
  o_eq : m ((c : Thread nD τ).loc main_arg4) = whole o
  st_eq : ∀ y : S8x36x128x128.Idx, V m c main_v33 y
    = ((stAt (col g (y 0).val) (col k (y 0).val) (col v (y 0).val) (64 * (y 1).val) (y 2) (y 3) : ℝ) : EReal)

variable {m c g q k v o} (H : Finds m c g q k v o) (t : Fin cfg0.N)
include H

theorem iblk0 : (iblk m c 0 t : S256x512.Idx → EReal) = tile q (8 - t.val % 9) (t.val / 9) := by
  funext y
  blk_simp [iblk]
  rw [V_main_arg0, H.q_eq]
  exact at_eq q (by blk_simp [idx0]; omega) (by blk_simp [idx0]; omega)
theorem iblk1 : (iblk m c 1 t : S256x512.Idx → EReal) = tile k (8 - t.val % 9) (t.val / 9) := by
  funext y
  blk_simp [iblk]
  rw [V_main_arg1, H.k_eq]
  exact at_eq k (by blk_simp [idx1]; omega) (by blk_simp [idx1]; omega)
theorem iblk2 : (iblk m c 2 t : S256x512.Idx → EReal) = tile v (8 - t.val % 9) (t.val / 9) := by
  funext y
  blk_simp [iblk]
  rw [V_main_arg2, H.v_eq]
  exact at_eq v (by blk_simp [idx2]; omega) (by blk_simp [idx2]; omega)
theorem iblk3 : (iblk m c 3 t : S256x512.Idx → EReal) = tile g (8 - t.val % 9) (t.val / 9) := by
  funext y
  blk_simp [iblk]
  rw [V_main_arg3, H.g_eq]
  exact at_eq g (by blk_simp [idx3]; omega) (by blk_simp [idx3]; omega)
theorem iblk4 : (iblk m c 4 t : S256x512.Idx → EReal) = tile o (8 - t.val % 9) (t.val / 9) := by
  funext y
  blk_simp [iblk]
  rw [V_main_arg4, H.o_eq]
  exact at_eq o (by blk_simp [idx4]; omega) (by blk_simp [idx4]; omega)
theorem iblk5 : (iblk m c 5 t : S4x4x128x128.Idx → EReal) = states g k v (8 - t.val % 9) (t.val / 9) := by
  funext y
  blk_simp [iblk]
  rw [H.st_eq]
  have key : ∀ z : S8x36x128x128.Idx, (z 0).val = 4 * (t.val / 9) + (y 0).val → 64 * (z 1).val = 256 * (8 - t.val % 9) + 64 * (y 1).val →
      z 2 = y 2 → z 3 = y 3 →
      ((stAt (col g (z 0).val) (col k (z 0).val) (col v (z 0).val) (64 * (z 1).val) (z 2) (z 3) : ℝ) : EReal)
        = states g k v (8 - t.val % 9) (t.val / 9) y := by
    intro z a b d e; rw [a, b, d, e]; rfl
  exact key _ (by blk_simp [idx5]; omega) (by blk_simp [idx5]; omega) (Fin.ext (by blk_simp [idx5]; try omega))
    (Fin.ext (by blk_simp [idx5]; try omega))

omit H in
theorem page_carried (f : Fin 4 → FVec Ideal S128x128 .f32) : pageOf (carried f) = f := by
  funext h i
  show f h (ix2 (i 0) (i 1)) = f h i
  congr 1
  exact (eq_ix2 i).symm

variable (hm : ∀ H c, c < 36 → ∀ d, Mild (cumIn (col g H) (64 * c) d))

theorem carry_first (h0 : t.val % 9 = 0) :
    ((outsAt0 m c t.val t.isLt).2.2.2.2 : S4x128x128.Idx → EReal) = carried (F := Ideal) (toCome g q o (t.val / 9) (256 * (8 - t.val % 9))) := by
  rw [outsAt0_A m c t h0]
  dsimp only
  refine (carryA ..).trans ?_
  rw [iblk0 H, iblk3 H, iblk4 H, toCome_end g q o (t.val / 9), show 2304 = 256 * (8 - t.val % 9) + 256 by omega]
  exact congrArg (carried (F := Ideal)) (funext fun h => uD_eq g q o (8 - t.val % 9) (t.val / 9) (by omega) h 4 le_rfl)
theorem carry_next (h0 : ¬t.val % 9 = 0)
    (ih : ((outsAt0 m c (t.val - 1) (Nat.lt_of_le_of_lt (Nat.sub_le _ _) t.isLt)).2.2.2.2 : S4x128x128.Idx → EReal)
      = carried (F := Ideal) (toCome g q o ((t.val - 1) / 9) (256 * (8 - (t.val - 1) % 9)))) :
    ((outsAt0 m c t.val t.isLt).2.2.2.2 : S4x128x128.Idx → EReal) = carried (F := Ideal) (toCome g q o (t.val / 9) (256 * (8 - t.val % 9))) := by
  have hN : t.val < 18 := t.isLt
  rw [outsAt0_B m c t h0]
  dsimp only
  refine (carryB ..).trans ?_
  rw [iblk0 H, iblk3 H, iblk4 H, ih, page_carried, show (t.val - 1) / 9 = t.val / 9 by omega,
    show 256 * (8 - (t.val - 1) % 9) = 256 * (8 - t.val % 9) + 256 by omega]
  exact congrArg (carried (F := Ideal)) (funext fun h => uD_eq g q o (8 - t.val % 9) (t.val / 9) (by omega) h 4 le_rfl)
omit t in
/-- What a point leaves for the next: the state gradients at its block's first step. -/
theorem left (n : ℕ) : ∀ hn : n < cfg0.N,
    ((outsAt0 m c n hn).2.2.2.2 : S4x128x128.Idx → EReal) = carried (F := Ideal) (toCome g q o (n / 9) (256 * (8 - n % 9))) := by
  induction n using Nat.strong_induction_on with
  | _ n ih =>
    intro hn
    by_cases h0 : n % 9 = 0
    · exact carry_first H ⟨n, hn⟩ h0
    · exact carry_next H ⟨n, hn⟩ h0 (ih (n - 1) (by omega) _)

theorem got (h0 : ¬t.val % 9 = 0) : pageOf (F := Ideal) (outsAt0 m c (t.val - 1) (Nat.lt_of_le_of_lt (Nat.sub_le _ _) t.isLt)).2.2.2.2
    = toCome g q o (t.val / 9) (256 * (8 - t.val % 9) + 256) := by
  have hN : t.val < 18 := t.isLt
  rw [left H, page_carried, show (t.val - 1) / 9 = t.val / 9 by omega,
    show 256 * (8 - (t.val - 1) % 9) = 256 * (8 - t.val % 9) + 256 by omega]

omit H in
theorem last (h0 : t.val % 9 = 0) : (fun _ => zeroD (F := Ideal)) = toCome g q o (t.val / 9) (256 * (8 - t.val % 9) + 256) := by
  rw [toCome_end g q o (t.val / 9), show 256 * (8 - t.val % 9) + 256 = 2304 by omega]

include hm

theorem wrote_q : ((dats m 0 c).after 6 t : S256x512.Idx → EReal) = tile (gradQ g q k v o) (8 - t.val % 9) (t.val / 9) := by
  rw [after0_6]
  by_cases h0 : t.val % 9 = 0
  · rw [outsAt0_A m c t h0]
    dsimp only
    refine (outQA ..).trans ?_
    rw [iblk0 H, iblk1 H, iblk2 H, iblk3 H, iblk4 H, iblk5 H]
    exact point_q g q k v o (8 - t.val % 9) (t.val / 9) (by omega) hm
  · rw [outsAt0_B m c t h0]
    dsimp only
    refine (outQB ..).trans ?_
    rw [iblk0 H, iblk1 H, iblk2 H, iblk3 H, iblk4 H, iblk5 H]
    exact point_q g q k v o (8 - t.val % 9) (t.val / 9) (by omega) hm
omit t in
theorem final_q : ((dats m 0 c).arrAt 6 cfg0.N : S2304x1024.Idx → EReal) = whole (gradQ g q k v o) := by
  refine (dats m 0 c).arrAt_eq_of_covers 6 _ (by decide +kernel) fun t hf y => ?_
  blk_simp
  refine (congrFun (wrote_q H t hm) y).trans ?_
  exact at_eq _ (by blk_simp [idx6]; omega) (by blk_simp [idx6]; omega)

theorem wrote_k : ((dats m 0 c).after 7 t : S256x512.Idx → EReal) = tile (gradK g q k v o) (8 - t.val % 9) (t.val / 9) := by
  rw [after0_7]
  by_cases h0 : t.val % 9 = 0
  · rw [outsAt0_A m c t h0]
    dsimp only
    refine (outKA ..).trans ?_
    rw [iblk0 H, iblk1 H, iblk2 H, iblk3 H, iblk4 H, last t h0 (g := g) (q := q) (o := o)]
    exact point_k g q k v o (8 - t.val % 9) (t.val / 9) (by omega) hm
  · rw [outsAt0_B m c t h0]
    dsimp only
    refine (outKB ..).trans ?_
    rw [iblk0 H, iblk1 H, iblk2 H, iblk3 H, iblk4 H, got H t h0]
    exact point_k g q k v o (8 - t.val % 9) (t.val / 9) (by omega) hm
omit t in
theorem final_k : ((dats m 0 c).arrAt 7 cfg0.N : S2304x1024.Idx → EReal) = whole (gradK g q k v o) := by
  refine (dats m 0 c).arrAt_eq_of_covers 7 _ (by decide +kernel) fun t hf y => ?_
  blk_simp
  refine (congrFun (wrote_k H t hm) y).trans ?_
  exact at_eq _ (by blk_simp [idx7]; omega) (by blk_simp [idx7]; omega)

theorem wrote_v : ((dats m 0 c).after 8 t : S256x512.Idx → EReal) = tile (gradV g q k v o) (8 - t.val % 9) (t.val / 9) := by
  rw [after0_8]
  by_cases h0 : t.val % 9 = 0
  · rw [outsAt0_A m c t h0]
    dsimp only
    refine (outVA ..).trans ?_
    rw [iblk0 H, iblk1 H, iblk3 H, iblk4 H, last t h0 (g := g) (q := q) (o := o)]
    exact point_v g q k v o (8 - t.val % 9) (t.val / 9) (by omega) hm
  · rw [outsAt0_B m c t h0]
    dsimp only
    refine (outVB ..).trans ?_
    rw [iblk0 H, iblk1 H, iblk3 H, iblk4 H, got H t h0]
    exact point_v g q k v o (8 - t.val % 9) (t.val / 9) (by omega) hm
omit t in
theorem final_v : ((dats m 0 c).arrAt 8 cfg0.N : S2304x1024.Idx → EReal) = whole (gradV g q k v o) := by
  refine (dats m 0 c).arrAt_eq_of_covers 8 _ (by decide +kernel) fun t hf y => ?_
  blk_simp
  refine (congrFun (wrote_v H t hm) y).trans ?_
  exact at_eq _ (by blk_simp [idx8]; omega) (by blk_simp [idx8]; omega)

theorem wrote_g : ((dats m 0 c).after 9 t : S256x512.Idx → EReal) = tile (gradG g q k v o) (8 - t.val % 9) (t.val / 9) := by
  rw [after0_9]
  by_cases h0 : t.val % 9 = 0
  · rw [outsAt0_A m c t h0]
    dsimp only
    refine (outGA ..).trans ?_
    rw [iblk0 H, iblk1 H, iblk2 H, iblk3 H, iblk4 H, iblk5 H, last t h0 (g := g) (q := q) (o := o)]
    exact point_g g q k v o (8 - t.val % 9) (t.val / 9) (by omega) hm
  · rw [outsAt0_B m c t h0]
    dsimp only
    refine (outGB ..).trans ?_
    rw [iblk0 H, iblk1 H, iblk2 H, iblk3 H, iblk4 H, iblk5 H, got H t h0]
    exact point_g g q k v o (8 - t.val % 9) (t.val / 9) (by omega) hm
omit t in
theorem final_g : ((dats m 0 c).arrAt 9 cfg0.N : S2304x1024.Idx → EReal) = whole (gradG g q k v o) := by
  refine (dats m 0 c).arrAt_eq_of_covers 9 _ (by decide +kernel) fun t hf y => ?_
  blk_simp
  refine (congrFun (wrote_g H t hm) y).trans ?_
  exact at_eq _ (by blk_simp [idx9]; omega) (by blk_simp [idx9]; omega)

end

end Cert.KernelIdeal.Chunk
-- ==== Proof.Window.lean ====
/-
  The running sums the host writes as windows: a window of the whole middle axis, padded on one side, over real entries.
-/
module

public import Idealize.ShloMosaic.Lib.Pipeline.Value
public import Idealize.ShloMosaic.PureOps.Ideal
public import Idealize.ShloMosaic.Lib.IdealHost

@[expose] public section

noncomputable section

namespace Cert.Window

open Idealize.ShloMosaic

/-- Adding reals in order from a real start gives their sum. -/
theorem fold_up {α : Type} (l : List α) (w : α → EReal) (f : α → ℝ) (h : ∀ n ∈ l, w n = (f n : EReal)) (b : ℝ) :
    l.foldl (fun r n => r + w n) (b : EReal) = ((b + (l.map f).sum : ℝ) : EReal) := by
  induction l generalizing b with
  | nil => simp
  | cons n l ih =>
    rw [List.foldl_cons, h n (by simp), ← EReal.coe_add, ih (fun i hi => h i (List.mem_cons_of_mem _ hi))]
    rw [List.map_cons, List.sum_cons, add_assoc]

/-- A position of a window of one row: its first and last coordinate are 0, its middle one is the position. -/
theorem pos {N : ℕ} (n : Fin (⟨3, ![1, N, 1]⟩ : Shape).numel) :
    ((⟨3, ![1, N, 1]⟩ : Shape).rowMajor.symm n 0).val = 0 ∧ ((⟨3, ![1, N, 1]⟩ : Shape).rowMajor.symm n 1).val = n.val
      ∧ ((⟨3, ![1, N, 1]⟩ : Shape).rowMajor.symm n 2).val = 0 := by
  have h := Shape.rowMajor_val_three ((⟨3, ![1, N, 1]⟩ : Shape).rowMajor.symm n)
  rw [Equiv.apply_symm_apply] at h
  have h0 : ((⟨3, ![1, N, 1]⟩ : Shape).rowMajor.symm n 0).val < 1 := ((⟨3, ![1, N, 1]⟩ : Shape).rowMajor.symm n 0).isLt
  have h2 : ((⟨3, ![1, N, 1]⟩ : Shape).rowMajor.symm n 2).val < 1 := ((⟨3, ![1, N, 1]⟩ : Shape).rowMajor.symm n 2).isLt
  have e0 := Nat.lt_one_iff.1 h0
  have e2 := Nat.lt_one_iff.1 h2
  refine ⟨e0, ?_, e2⟩
  change n.val = (((⟨3, ![1, N, 1]⟩ : Shape).rowMajor.symm n 0).val * N + ((⟨3, ![1, N, 1]⟩ : Shape).rowMajor.symm n 1).val) * 1
    + ((⟨3, ![1, N, 1]⟩ : Shape).rowMajor.symm n 2).val at h
  rw [e0, e2] at h
  omega

theorem numel_row (N : ℕ) : (⟨3, ![1, N, 1]⟩ : Shape).numel = N := by
  simp [Shape.numel, Fin.prod_univ_three]

/-- A function of the position, added over all positions. -/
theorem sum_positions (N : ℕ) (f : ℕ → ℝ) :
    ((List.finRange (⟨3, ![1, N, 1]⟩ : Shape).numel).map fun n => f n.val).sum = ∑ n ∈ Finset.range N, f n := by
  rw [numel_row, ← Fin.sum_univ_eq_sum_range, Fin.sum_univ_def]

/-- The window of the middle axis, padded by `lo` before and `hi` after: the reals it covers. -/
theorem window {A N C lo hi : ℕ} (x : (⟨3, ![A, N, C]⟩ : Shape).Idx → EReal) (f : ℕ → ℕ → ℕ → ℝ)
    (hx : ∀ i, x i = ((f (i 0).val (i 1).val (i 2).val : ℝ) : EReal))
    (h : (⟨3, ![A, N, C]⟩ : Shape).ReduceWindows (![1, N, 1] : Fin 3 → ℕ) ![1, 1, 1] ![0, lo, 0] ![0, hi, 0] ⟨3, ![A, N, C]⟩)
    (j : (⟨3, ![A, N, C]⟩ : Shape).Idx) :
    Ideal.hostReduceWindowAdd ![1, N, 1] ![1, 1, 1] ![0, lo, 0] ![0, hi, 0] h x ((0 : ℝ) : EReal) j
      = ((∑ w ∈ Finset.range N, if lo ≤ (j 1).val + w ∧ (j 1).val + w - lo < N then f (j 0).val ((j 1).val + w - lo) (j 2).val
        else 0 : ℝ) : EReal) := by
  unfold Ideal.hostReduceWindowAdd Host.reduceWindow
  refine (fold_up _ _ (fun n => if lo ≤ (j 1).val + n.val ∧ (j 1).val + n.val - lo < N
    then f (j 0).val ((j 1).val + n.val - lo) (j 2).val else 0) (fun n _ => ?_) 0).trans ?_
  · obtain ⟨w0, w1, w2⟩ := pos n
    dsimp only
    have j0 : (j 0).val < A := (j 0).isLt
    have j2 : (j 2).val < C := (j 2).isLt
    split
    · next hin =>
      have h1 := hin 1
      change lo ≤ (j 1).val * 1 + ((⟨3, ![1, N, 1]⟩ : Shape).rowMajor.symm n 1).val
        ∧ (j 1).val * 1 + ((⟨3, ![1, N, 1]⟩ : Shape).rowMajor.symm n 1).val - lo < N at h1
      rw [w1, Nat.mul_one] at h1
      rw [if_pos h1, hx]
      refine congrArg _ ?_
      have e0 : (j 0).val * 1 + ((⟨3, ![1, N, 1]⟩ : Shape).rowMajor.symm n 0).val - 0 = (j 0).val := by omega
      have e1 : (j 1).val * 1 + ((⟨3, ![1, N, 1]⟩ : Shape).rowMajor.symm n 1).val - lo = (j 1).val + n.val - lo := by omega
      have e2 : (j 2).val * 1 + ((⟨3, ![1, N, 1]⟩ : Shape).rowMajor.symm n 2).val - 0 = (j 2).val := by omega
      show f ((j 0).val * 1 + ((⟨3, ![1, N, 1]⟩ : Shape).rowMajor.symm n 0).val - 0)
        ((j 1).val * 1 + ((⟨3, ![1, N, 1]⟩ : Shape).rowMajor.symm n 1).val - lo)
        ((j 2).val * 1 + ((⟨3, ![1, N, 1]⟩ : Shape).rowMajor.symm n 2).val - 0) = _
      rw [e0, e1, e2]
    · next hin =>
      rw [if_neg fun hle => hin fun a => by
        match a with
        | ⟨0, _⟩ =>
          show 0 ≤ (j 0).val * 1 + ((⟨3, ![1, N, 1]⟩ : Shape).rowMajor.symm n 0).val
            ∧ (j 0).val * 1 + ((⟨3, ![1, N, 1]⟩ : Shape).rowMajor.symm n 0).val - 0 < A
          omega
        | ⟨1, _⟩ =>
          show lo ≤ (j 1).val * 1 + ((⟨3, ![1, N, 1]⟩ : Shape).rowMajor.symm n 1).val
            ∧ (j 1).val * 1 + ((⟨3, ![1, N, 1]⟩ : Shape).rowMajor.symm n 1).val - lo < N
          omega
        | ⟨2, _⟩ =>
          show 0 ≤ (j 2).val * 1 + ((⟨3, ![1, N, 1]⟩ : Shape).rowMajor.symm n 2).val
            ∧ (j 2).val * 1 + ((⟨3, ![1, N, 1]⟩ : Shape).rowMajor.symm n 2).val - 0 < C
          omega]
  · rw [zero_add]
    exact congrArg _ (sum_positions N fun w => if lo ≤ (j 1).val + w ∧ (j 1).val + w - lo < N
      then f (j 0).val ((j 1).val + w - lo) (j 2).val else 0)

/-- Padded before by one less than its length: the entries up to and including `t`. -/
theorem upTo (N t : ℕ) (ht : t < N) (f : ℕ → ℝ) :
    (∑ w ∈ Finset.range N, if N - 1 ≤ t + w ∧ t + w - (N - 1) < N then f (t + w - (N - 1)) else 0) = ∑ u ∈ Finset.range (t + 1), f u := by
  rw [← Finset.sum_filter]
  refine Finset.sum_bij' (fun w _ => t + w - (N - 1)) (fun u _ => u + (N - 1) - t) ?_ ?_ ?_ ?_ fun _ _ => rfl
  all_goals intro a ha; simp only [Finset.mem_filter, Finset.mem_range] at ha ⊢; omega

/-- Padded after: the entries from `t` on. -/
theorem fromOn (N t : ℕ) (ht : t < N) (f : ℕ → ℝ) :
    (∑ w ∈ Finset.range N, if 0 ≤ t + w ∧ t + w - 0 < N then f (t + w - 0) else 0) = ∑ u ∈ Finset.Ico t N, f u := by
  rw [← Finset.sum_filter]
  refine Finset.sum_bij' (fun w _ => t + w - 0) (fun u _ => u - t) ?_ ?_ ?_ ?_ fun _ _ => rfl
  all_goals intro a ha; simp only [Finset.mem_filter, Finset.mem_range, Finset.mem_Ico] at ha ⊢; omega

end Cert.Window

end
-- ==== Proof.States.lean ====
/-
  The states at the starts of the chunks, which the host prepares before the region: read at an index over real operands.
-/
module

public import proofs.«01_k».proof.Proof.Carry
public import proofs.«01_k».proof.Proof.Window
public import Idealize.ShloMosaic.Lib.WordCmp
public import Idealize.ShloMosaic.Lib.Claim

@[expose] public section

set_option maxRecDepth 16384

noncomputable section

namespace Cert.KernelIdeal.Chunk

open Cert.KernelIdeal Cert.KernelIdeal.Gen Cert.Chunk Idealize.ShloMosaic Idealize.ShloMosaic.TcCoe

/-- An array of steps by channels, a head at a time. -/
def perHead (x : FVec Ideal S2304x1024 .f32) : FVec Ideal S8x2304x128 .f32 :=
  transpose S8x2304x128 [1, 0, 2] (shapeCast S2304x8x128 x shapeCasts_S2304x1024_S2304x8x128) transposes_S2304x8x128_S8x2304x128_1_0_2

/-- The running sum of the gates. -/
def running (x : FVec Ideal S8x2304x128 .f32) : FVec Ideal S8x2304x128 .f32 :=
  Host.reduceWindowAdd ![1, 2304, 1] ![1, 1, 1] ![0, 2303, 0] ![0, 0, 0] x (broadcastInDim S_ ![] bcast_S_S_ (constant S_ .f32 0x00000000#32))
    reduceWindows_S8x2304x128_S8x2304x128_w1s1p0_0_w2304s1p2303_0_w1s1p0_0 h_S_

/-- The running sum at the starts of the chunks. -/
def atStart (x : FVec Ideal S8x2304x128 .f32) : FVec Ideal S8x36x128 .f32 :=
  concatenate S8x36x128 1 [⟨S8x1x128, broadcastInDim S8x1x128 ![] bcast_S_S8x1x128 (constant (F := Ideal) S_ .f32 0x00000000#32)⟩,
    ⟨S8x35x128, Host.slice S8x35x128 ![0, 63, 0] ![1, 64, 1] x slicesBy_S8x2304x128_S8x35x128_0s1_63s64_0s1⟩]
    concatenates_S8x1x128_S8x35x128_S8x36x128_d1

/-- Whether a step comes before a chunk. -/
def isBefore : IVec S36x2304 1 :=
  cmpi .slt (broadcastInDim S36x2304 ![0, 1] bcast_S1x2304_S36x2304_0_1 (broadcastInDim S1x2304 ![1] bcast_S2304_S1x2304_1 (iotaInDim S2304 32 0)))
    (broadcastInDim S36x2304 ![0, 1] bcast_S36x1_S36x2304_0_1 (broadcastInDim S36x1 ![0] bcast_S36_S36x1_0
      (muli (iotaInDim S36 32 0) (broadcastInDim S36 ![] bcast_S_S36 (constantI S_ 32 64#32)))))

/-- The decay from a step to the start of a chunk, 0 for the steps that do not come before it. -/
def fade (s : FVec Ideal S8x36x128 .f32) (x : FVec Ideal S8x2304x128 .f32) : FVec Ideal S8x36x2304x128 .f32 :=
  Host.exp (select (broadcastInDim S8x36x2304x128 ![0, 1, 2, 3] bcast_S1x36x2304x1_S8x36x2304x128_0_1_2_3
      (broadcastInDim S1x36x2304x1 ![1, 2] bcast_S36x2304_S1x36x2304x1_1_2 isBefore))
    (subf (broadcastInDim S8x36x2304x128 ![0, 1, 2, 3] bcast_S8x36x1x128_S8x36x2304x128_0_1_2_3 (broadcastInDim S8x36x1x128 ![0, 1, 3] bcast_S8x36x128_S8x36x1x128_0_1_3 s))
      (broadcastInDim S8x36x2304x128 ![0, 1, 2, 3] bcast_S8x1x2304x128_S8x36x2304x128_0_1_2_3 (broadcastInDim S8x1x2304x128 ![0, 2, 3] bcast_S8x2304x128_S8x1x2304x128_0_2_3 x)))
    (broadcastInDim S8x36x2304x128 ![] bcast_S_S8x36x2304x128 (constant S_ .f32 0xFF800000#32)))

/-- The states at the starts of the chunks. -/
def chunkStates (k v g : FVec Ideal S8x2304x128 .f32) : FVec Ideal S8x36x128x128 .f32 :=
  transpose S8x36x128x128 [0, 2, 1, 3] (Host.dotGeneral dot_S8x2304x128_S8x36x2304x128_S8x128x36x128_1_2_2_13_0_0 none v
      (mulf (fade (atStart (running g)) (running g)) (broadcastInDim S8x36x2304x128 ![0, 1, 2, 3] bcast_S8x1x2304x128_S8x36x2304x128_0_1_2_3
        (broadcastInDim S8x1x2304x128 ![0, 2, 3] bcast_S8x2304x128_S8x1x2304x128_0_2_3 k))))
    transposes_S8x128x36x128_S8x36x128x128_0_2_1_3

section

variable (m : (ℓ : Loc nD τ sig) → Buf (Elt Ideal) ℓ) (c : Dev nD)

/-- What the region finds as its sixth operand. -/
theorem V_states : (V m c main_v33 : S8x36x128x128.Idx → EReal)
    = chunkStates (perHead (extf .f32 (m ((c : Thread nD τ).loc main_arg1) : FVec Ideal S2304x1024 .bf16) bitsLt_bf16_f32))
        (perHead (extf .f32 (m ((c : Thread nD τ).loc main_arg2) : FVec Ideal S2304x1024 .bf16) bitsLt_bf16_f32))
        (perHead (m ((c : Thread nD τ).loc main_arg3) : FVec Ideal S2304x1024 .f32)) := by
  entry_read
  rfl

end

theorem zero_up : FloatOps.ofBits (F := Ideal) .f32 0x00000000#32 = ((0 : ℝ) : EReal) := by
  rw [EReal.coe_zero]
  exact Ideal.ofBits_zero_f32
theorem bot_up : FloatOps.ofBits (F := Ideal) .f32 0xFF800000#32 = (⊥ : EReal) := by
  simp [Ideal.ofBits, Ideal.ieee]

theorem choose (p : Prop) [Decidable p] (a b : EReal) : Scalar.select (if p then 1#1 else 0#1) a b = if p then a else b := by
  split <;> rfl

theorem head_at (a : ℕ → ℕ → ℝ) (x : S2304x1024.Idx → EReal) (hx : x = whole a) (i : S8x2304x128.Idx) :
    perHead x i = ((col a (i 0).val (i 2) (i 1).val : ℝ) : EReal) := by
  subst hx
  have b0 : (i 0).val < 8 := (i 0).isLt
  have b1 : (i 1).val < 2304 := (i 1).isLt
  have b2 : (i 2).val < 128 := (i 2).isLt
  unfold perHead
  pointwise
  refine at_eq a ?_ ?_
  · rfl
  · show (i 0).val * 128 + (i 2).val = 128 * (i 0).val + (i 2).val
    omega

theorem running_at (g : ℕ → ℕ → ℝ) (x : S8x2304x128.Idx → EReal) (hx : ∀ i, x i = ((col g (i 0).val (i 2) (i 1).val : ℝ) : EReal)) (i : S8x2304x128.Idx) :
    running x i = ((run (col g (i 0).val) (i 2) ((i 1).val + 1) : ℝ) : EReal) := by
  unfold running Host.reduceWindowAdd
  rw [Ideal.hostReduceWindowAdd_def]
  have e : (broadcastInDim S_ ![] bcast_S_S_ (constant (F := Ideal) S_ .f32 0x00000000#32)) (Shape.Idx.first h_S_) = ((0 : ℝ) : EReal) := zero_up
  rw [e]
  refine (Window.window (A := 8) (N := 2304) (C := 128) (lo := 2303) (hi := 0) x
    (fun H t d => g t (128 * H + d)) hx reduceWindows_S8x2304x128_S8x2304x128_w1s1p0_0_w2304s1p2303_0_w1s1p0_0 i).trans ?_
  exact congrArg _ (Window.upTo 2304 (i 1).val (i 1).isLt fun u => g u (128 * (i 0).val + (i 2).val))

/-- A head, a channel and a step of an array of steps by channels. -/
theorem spread (f : ℕ → Fin 128 → ℕ → ℝ) {H H' t t' : ℕ} {d d' : Fin 128} (hH : H = H') (hd : d = d') (ht : t = t') :
    ((f H d t : ℝ) : EReal) = ((f H' d' t' : ℝ) : EReal) := by
  rw [hH, hd, ht]

theorem start_at (g : ℕ → ℕ → ℝ) (x : S8x2304x128.Idx → EReal) (hx : ∀ i, x i = ((run (col g (i 0).val) (i 2) ((i 1).val + 1) : ℝ) : EReal)) (i : S8x36x128.Idx) :
    atStart x i = ((run (col g (i 0).val) (i 2) (64 * (i 1).val) : ℝ) : EReal) := by
  have b1 : (i 1).val < 36 := (i 1).isLt
  unfold atStart
  by_cases h : (i 1).val = 0
  · refine (concatenate_pair_apply_left (s₁ := S8x1x128) (s₂ := S8x35x128) (1 : Fin S8x36x128.rank) _ _ _ i rfl (fun b => match b with
      | ⟨0, _⟩ => ⟨(i 0).val, (i 0).isLt⟩
      | ⟨1, _⟩ => ⟨0, Nat.one_pos⟩
      | ⟨2, _⟩ => ⟨(i 2).val, (i 2).isLt⟩) (fun b => by
      match b with
      | ⟨0, _⟩ => rfl
      | ⟨1, _⟩ => exact h.symm
      | ⟨2, _⟩ => rfl)).trans ?_
    rw [h]
    refine zero_up.trans ?_
    simp [run]
  · refine (concatenate_pair_apply_right (s₁ := S8x1x128) (s₂ := S8x35x128) (1 : Fin S8x36x128.rank) _ _ _ i rfl rfl (fun b => match b with
      | ⟨0, _⟩ => ⟨(i 0).val, (i 0).isLt⟩
      | ⟨1, _⟩ => ⟨(i 1).val - 1, by show (i 1).val - 1 < 35; omega⟩
      | ⟨2, _⟩ => ⟨(i 2).val, (i 2).isLt⟩) (fun b hb => by
      match b with
      | ⟨0, _⟩ => rfl
      | ⟨1, _⟩ => exact absurd rfl hb
      | ⟨2, _⟩ => rfl) (by show (i 1).val - 1 + 1 = (i 1).val; omega)).trans ?_
    rw [Host.slice_apply, hx]
    exact spread (fun H d t => run (col g H) d t) (by show 0 + 1 * (i 0).val = (i 0).val; omega)
      (Fin.ext (by show 0 + 1 * (i 2).val = (i 2).val; omega)) (by show 63 + 64 * ((i 1).val - 1) + 1 = 64 * (i 1).val; omega)

theorem before_at (i : S36x2304.Idx) : isBefore i = if (i 1).val < 64 * (i 0).val then 1#1 else 0#1 := by
  have b0 : (i 0).val < 36 := (i 0).isLt
  have b1 : (i 1).val < 2304 := (i 1).isLt
  have e : isBefore i = IntOp.cmpi .slt (BitVec.ofNat 32 (i 1).val) (BitVec.ofNat 32 (64 * (i 0).val)) := by
    show IntOp.cmpi .slt (BitVec.ofNat 32 (i 1).val) (BitVec.ofNat 32 (i 0).val * 64#32) = _
    rw [← BitVec.ofNat_mul, mul_comm]
  rw [e, WordCmp.cmpi_slt_ofNat (by omega) (by omega)]
  by_cases h : (i 1).val < 64 * (i 0).val <;> simp [h]

theorem fade_at (g : ℕ → ℕ → ℝ) (s : S8x36x128.Idx → EReal) (x : S8x2304x128.Idx → EReal)
    (hs : ∀ i, s i = ((run (col g (i 0).val) (i 2) (64 * (i 1).val) : ℝ) : EReal))
    (hx : ∀ i, x i = ((run (col g (i 0).val) (i 2) ((i 1).val + 1) : ℝ) : EReal)) (i : S8x36x2304x128.Idx) :
    fade s x i = ((if (i 2).val < 64 * (i 1).val then
      Real.exp (run (col g (i 0).val) (i 3) (64 * (i 1).val) - run (col g (i 0).val) (i 3) ((i 2).val + 1)) else 0 : ℝ) : EReal) := by
  unfold fade
  pointwise
  rw [before_at, hs, hx, choose]
  split
  · next h =>
    have h' : (i 2).val < 64 * (i 1).val := h
    rw [if_pos h', ← EReal.coe_sub]
    rfl
  · next h =>
    have h' : ¬ (i 2).val < 64 * (i 1).val := h
    rw [if_neg h']
    refine (congrArg Ideal.exp bot_up).trans rfl

abbrev dotS := dot_S8x2304x128_S8x36x2304x128_S8x128x36x128_1_2_2_13_0_0

theorem lhs_at (i : S8x128x36x128.Idx) (q : dotS.contr.Idx) :
    (dotS.lhsIdx i q 0).val = (i 0).val ∧ (dotS.lhsIdx i q 1).val = (q ⟨0, by decide⟩).val ∧ (dotS.lhsIdx i q 2).val = (i 1).val := by
  refine ⟨?_, dotS.lhsIdx_val_of_single rfl i q, ?_⟩ <;> unfold DotDims.lhsIdx
  · rw [dif_pos (show (0 : Fin S8x2304x128.rank) ∈ dotS.lhsBatch by decide)]
    rfl
  · rw [dif_neg (show (2 : Fin S8x2304x128.rank) ∉ dotS.lhsBatch by decide), dif_pos (show (2 : Fin S8x2304x128.rank) ∈ dotS.lhsNonContracting by decide)]
    rfl
theorem rhs_at (i : S8x128x36x128.Idx) (q : dotS.contr.Idx) :
    (dotS.rhsIdx i q 0).val = (i 0).val ∧ (dotS.rhsIdx i q 1).val = (i 2).val ∧ (dotS.rhsIdx i q 2).val = (q ⟨0, by decide⟩).val
      ∧ (dotS.rhsIdx i q 3).val = (i 3).val := by
  refine ⟨?_, ?_, dotS.rhsIdx_val_of_single rfl i q, ?_⟩ <;> unfold DotDims.rhsIdx
  · rw [dif_pos (show (0 : Fin S8x36x2304x128.rank) ∈ dotS.rhsBatch by decide)]
    rfl
  · rw [dif_neg (show (1 : Fin S8x36x2304x128.rank) ∉ dotS.rhsBatch by decide), dif_pos (show (1 : Fin S8x36x2304x128.rank) ∈ dotS.rhsNonContracting by decide)]
    rfl
  · rw [dif_neg (show (3 : Fin S8x36x2304x128.rank) ∉ dotS.rhsBatch by decide), dif_pos (show (3 : Fin S8x36x2304x128.rank) ∈ dotS.rhsNonContracting by decide)]
    rfl

/-- The contraction over the steps, read at an index. -/
theorem dot_at (a : S8x2304x128.Idx → EReal) (b : S8x36x2304x128.Idx → EReal) (i : S8x128x36x128.Idx) :
    Host.dotGeneral (F := Ideal) (φ₁ := .f32) (φ₂ := .f32) dotS none a b i
      = ∑ s : Fin 2304, a (fun x => match x with
          | ⟨0, _⟩ => ⟨(i 0).val, (i 0).isLt⟩
          | ⟨1, _⟩ => ⟨s.val, s.isLt⟩
          | ⟨2, _⟩ => ⟨(i 1).val, (i 1).isLt⟩) * b (fun x => match x with
          | ⟨0, _⟩ => ⟨(i 0).val, (i 0).isLt⟩
          | ⟨1, _⟩ => ⟨(i 2).val, (i 2).isLt⟩
          | ⟨2, _⟩ => ⟨s.val, s.isLt⟩
          | ⟨3, _⟩ => ⟨(i 3).val, (i 3).isLt⟩) := by
  simp only [Host.dotGeneral]
  rw [Ideal.dotGeneral_apply, ← Equiv.sum_comp (ValueIdx.contrEquiv1 dotS 2304 rfl rfl).symm]
  refine Finset.sum_congr rfl fun s _ => ?_
  have hs := ValueIdx.contrEquiv1_symm_val dotS 2304 rfl rfl s
  refine congrArg₂ (· * ·) (congrArg a (funext fun x => Fin.ext ?_)) (congrArg b (funext fun x => Fin.ext ?_))
  · match x with
    | ⟨0, _⟩ => exact (lhs_at _ _).1
    | ⟨1, _⟩ => exact (lhs_at _ _).2.1.trans hs
    | ⟨2, _⟩ => exact (lhs_at _ _).2.2
  · match x with
    | ⟨0, _⟩ => exact (rhs_at _ _).1
    | ⟨1, _⟩ => exact (rhs_at _ _).2.1
    | ⟨2, _⟩ => exact (rhs_at _ _).2.2.1.trans hs
    | ⟨3, _⟩ => exact (rhs_at _ _).2.2.2

/-- The states at the starts of the chunks, over real operands. -/
theorem states_at (g k v : ℕ → ℕ → ℝ) (xk xv xg : S8x2304x128.Idx → EReal) (hg : ∀ i, xg i = ((col g (i 0).val (i 2) (i 1).val : ℝ) : EReal))
    (hk : ∀ i, xk i = ((col k (i 0).val (i 2) (i 1).val : ℝ) : EReal)) (hv : ∀ i, xv i = ((col v (i 0).val (i 2) (i 1).val : ℝ) : EReal))
    (y : S8x36x128x128.Idx) : chunkStates xk xv xg y
      = ((stAt (col g (y 0).val) (col k (y 0).val) (col v (y 0).val) (64 * (y 1).val) (y 2) (y 3) : ℝ) : EReal) := by
  have b1 : (y 1).val < 36 := (y 1).isLt
  unfold chunkStates
  rw [transpose_apply [0, 2, 1, 3] _ transposes_S8x128x36x128_S8x36x128x128_0_2_1_3 y (fun a => match a with
    | ⟨0, _⟩ => ⟨(y 0).val, (y 0).isLt⟩
    | ⟨1, _⟩ => ⟨(y 2).val, (y 2).isLt⟩
    | ⟨2, _⟩ => ⟨(y 1).val, (y 1).isLt⟩
    | ⟨3, _⟩ => ⟨(y 3).val, (y 3).isLt⟩) (fun b => match b with
    | ⟨0, _⟩ => rfl
    | ⟨1, _⟩ => rfl
    | ⟨2, _⟩ => rfl
    | ⟨3, _⟩ => rfl), dot_at]
  have e : stAt (col g (y 0).val) (col k (y 0).val) (col v (y 0).val) (64 * (y 1).val) (y 2) (y 3)
      = ∑ s : Fin 2304, if s.val < 64 * (y 1).val then Real.exp (run (col g (y 0).val) (y 3) (64 * (y 1).val)
        - run (col g (y 0).val) (y 3) (s.val + 1)) * col k (y 0).val (y 3) s.val * col v (y 0).val (y 2) s.val else 0 := by
    rw [Fin.sum_univ_eq_sum_range (fun s => if s < 64 * (y 1).val then Real.exp (run (col g (y 0).val) (y 3) (64 * (y 1).val)
        - run (col g (y 0).val) (y 3) (s + 1)) * col k (y 0).val (y 3) s * col v (y 0).val (y 2) s else 0) 2304, ← Finset.sum_filter]
    unfold stAt
    refine Finset.sum_congr (Finset.ext fun s => ?_) fun _ _ => rfl
    simp only [Finset.mem_filter, Finset.mem_range]
    omega
  rw [e, coe_sum]
  refine Finset.sum_congr rfl fun s _ => ?_
  pointwise
  rw [hv, fade_at g _ _ (start_at g _ (running_at g _ hg)) (running_at g _ hg), hk, ← EReal.coe_mul, ← EReal.coe_mul]
  refine congrArg _ ?_
  show col v (y 0).val (y 2) s.val * ((if s.val < 64 * (y 1).val then Real.exp (run (col g (y 0).val) (y 3) (64 * (y 1).val)
        - run (col g (y 0).val) (y 3) (s.val + 1)) else 0) * col k (y 0).val (y 3) s.val) = _
  split
  · ring
  · ring

variable {m : (ℓ : Loc nD τ sig) → Buf (Elt Ideal) ℓ} {c : Dev nD} {g q k v o : ℕ → ℕ → ℝ}

/-- Real arguments give real operands and the states of the mathematics. -/
theorem finds (hq : m ((c : Thread nD τ).loc main_arg0) = whole q) (hk : m ((c : Thread nD τ).loc main_arg1) = whole k)
    (hv : m ((c : Thread nD τ).loc main_arg2) = whole v) (hg : m ((c : Thread nD τ).loc main_arg3) = whole g)
    (ho : m ((c : Thread nD τ).loc main_arg4) = whole o) : Finds m c g q k v o where
  q_eq := hq
  k_eq := hk
  v_eq := hv
  g_eq := hg
  o_eq := ho
  st_eq := fun y => (congrFun (V_states m c) y).trans (states_at g k v _ _ _ (head_at g _ hg) (head_at k _ hk) (head_at v _ hv) y)

end Cert.KernelIdeal.Chunk

end
-- ==== Proof.Pre.lean ====
/-
  What the precondition gives: the operands are arrays of real numbers, and the gates' sums over eight rows keep the clamps of
  the kernel inactive.
-/
module

public import proofs.«01_k».proof.Pre_gates_are_mild
public import proofs.«01_k».proof.Proof.Gen.Pre_gates_are_mild
public import proofs.«01_k».proof.Proof.Carry
public import proofs.«01_k».proof.Proof.Head
public import Idealize.ShloMosaic.PureOps.Ideal
public import Idealize.ShloMosaic.Lib.IdealHost
public import Idealize.ShloMosaic.Lib.WordCmp

@[expose] public section

set_option maxRecDepth 16384

noncomputable section

namespace Cert.Pre_gates_are_mild.Given

open Cert.Pre_gates_are_mild Cert.Pre_gates_are_mild.Gen Cert.Chunk Cert.KernelIdeal.Chunk Idealize.ShloMosaic

/-- The real number at a step and a channel, zero outside the array. -/
def inside (x : S2304x1024.Idx → EReal) (t c : ℕ) : ℝ :=
  if h : t < 2304 ∧ c < 1024 then (x (ix2 ⟨t, h.1⟩ ⟨c, h.2⟩)).toReal else 0

theorem inside_in (x : S2304x1024.Idx → EReal) (t c : ℕ) (ht : t < 2304) (hc : c < 1024) :
    inside x t c = (x (ix2 ⟨t, ht⟩ ⟨c, hc⟩)).toReal := by
  unfold inside
  rw [dif_pos ⟨ht, hc⟩]

theorem inside_out (x : S2304x1024.Idx → EReal) (t c : ℕ) (h : ¬ (t < 2304 ∧ c < 1024)) : inside x t c = 0 := by
  unfold inside
  rw [dif_neg h]

/-- An array without infinities is the array of its real numbers. -/
theorem whole_inside (x : S2304x1024.Idx → EReal) (h : ∀ i, x i ≠ ⊤ ∧ x i ≠ ⊥) : x = whole (inside x) := by
  funext i
  have e : inside x (i 0).val (i 1).val = (x i).toReal :=
    (inside_in x _ _ (i 0).isLt (i 1).isLt).trans (congrArg (fun j => (x j).toReal) (eq_ix2 i).symm)
  show x i = ((inside x (i 0).val (i 1).val : ℝ) : EReal)
  rw [e, EReal.coe_toReal (h i).1 (h i).2]

theorem finite_of_abs (x : EReal) (h : max x (-x) < ⊤) : x ≠ ⊤ ∧ x ≠ ⊥ := by
  refine ⟨?_, ?_⟩
  · rintro rfl
    simp at h
  · rintro rfl
    simp at h

theorem one_of (p : Prop) [Decidable p] (h : BitVec.ofBool (decide p) = 1#1) : p := by
  by_contra hp
  rw [decide_eq_false hp] at h
  exact absurd h (by decide)

theorem top_bits : Ideal.ofBits .f32 0x7F800000#32 = (⊤ : EReal) := by
  simp [Ideal.ofBits, Ideal.ieee]

theorem zero_bits : Ideal.ofBits .f32 0x00000000#32 = (0 : EReal) := by
  simp [Ideal.ofBits, Ideal.ieee]

theorem bound_bits : Ideal.ofBits .f32 0xC2A00000#32 = ((-80 : ℝ) : EReal) := by
  simp [Ideal.ofBits, Ideal.ieee, -EReal.coe_mul]
  norm_num

/-- A sum with a term `⊥` is `⊥`. -/
theorem sum_bot {n : ℕ} (f : Fin n → EReal) (k : Fin n) (h : f k = ⊥) : ∑ u, f u = ⊥ := by
  rw [← Finset.add_sum_erase Finset.univ f (Finset.mem_univ k), h, EReal.bot_add]

theorem small (x : FVec Ideal S2304x1024 .f32)
    (h : cmpf .olt (Host.absf x) (broadcastInDim S2304x1024 ![] bcast_S_S2304x1024 (constant S_ .f32 0x7F800000#32)) = fun _ => 1#1)
    (i : S2304x1024.Idx) : x i ≠ ⊤ ∧ x i ≠ ⊥ := by
  have e : BitVec.ofBool (decide ((max (x i) (-(x i)) : EReal) < Ideal.ofBits .f32 0x7F800000#32)) = 1#1 := congrFun h i
  have e' := one_of _ e
  rw [top_bits] at e'
  exact finite_of_abs _ e'

theorem down (x : FVec Ideal S2304x1024 .f32)
    (h : cmpf .ole x (broadcastInDim S2304x1024 ![] bcast_S_S2304x1024 (constant S_ .f32 0x00000000#32)) = fun _ => 1#1)
    (i : S2304x1024.Idx) : (x i : EReal) ≤ 0 := by
  have e : BitVec.ofBool (decide ((x i : EReal) ≤ Ideal.ofBits .f32 0x00000000#32)) = 1#1 := congrFun h i
  have e' := one_of _ e
  rwa [zero_bits] at e'

/-- Eight rows from a multiple of eight. -/
def row8 (j : S288x1024.Idx) (u : Fin 8) : S2304x1024.Idx :=
  ix2 ⟨8 * (j 0).val + u.val, by have h : (j 0).val < 288 := (j 0).isLt; have := u.isLt; omega⟩ ⟨(j 1).val, (j 1).isLt⟩

theorem sums (x : FVec Ideal S2304x1024 .f32) (j : S288x1024.Idx) :
    (Host.reduceAdd (shapeCast S288x8x1024 x shapeCasts_S2304x1024_S288x8x1024) (constant S_ .f32 0x00000000#32) reducesTo_S288x8x1024_S288x1024_d1 h_S_ j : EReal)
      = ∑ u : Fin 8, x (row8 j u) := by
  have b0 : (j 0).val < 288 := (j 0).isLt
  have b1 : (j 1).val < 1024 := (j 1).isLt
  simp only [Host.reduceAdd, Ideal.hostReduceAdd_def]
  rw [Ideal.hostReduceAdd_single reducesTo_S288x8x1024_S288x1024_d1 (by decide)]
  have e : (constant (F := Ideal) S_ .f32 0x00000000#32) (Shape.Idx.first h_S_) = (0 : EReal) := zero_bits
  rw [e, zero_add]
  refine Finset.sum_congr rfl fun u _ => ?_
  have bu := u.isLt
  refine shapeCast_apply x shapeCasts_S2304x1024_S288x8x1024 _ (row8 j u) ?_
  rewrite [Shape.rowMajor_val_two, Shape.rowMajor_val_three]
  show (8 * (j 0).val + u.val) * 1024 + (j 1).val = ((j 0).val * 8 + u.val) * 1024 + (j 1).val
  omega

theorem above (x : FVec Ideal S2304x1024 .f32)
    (h : cmpf .oge (Host.reduceAdd (shapeCast S288x8x1024 x shapeCasts_S2304x1024_S288x8x1024) (constant S_ .f32 0x00000000#32) reducesTo_S288x8x1024_S288x1024_d1 h_S_)
      (broadcastInDim S288x1024 ![] bcast_S_S288x1024 (constant S_ .f32 0xC2A00000#32)) = fun _ => 1#1)
    (j : S288x1024.Idx) : ((-80 : ℝ) : EReal) ≤ ∑ u : Fin 8, x (row8 j u) := by
  have e : BitVec.ofBool (decide (Ideal.ofBits .f32 0xC2A00000#32
      ≤ (Host.reduceAdd (shapeCast S288x8x1024 x shapeCasts_S2304x1024_S288x8x1024) (constant S_ .f32 0x00000000#32) reducesTo_S288x8x1024_S288x1024_d1 h_S_ j : EReal))) = 1#1 :=
    congrFun h j
  have e' := one_of _ e
  rwa [bound_bits, sums] at e'

/-- The gates are real numbers, and keep the clamps inactive. -/
theorem gates (x : FVec Ideal S2304x1024 .f32) (h0 : ∀ i, (x i : EReal) ≤ 0)
    (h8 : ∀ j : S288x1024.Idx, ((-80 : ℝ) : EReal) ≤ ∑ u : Fin 8, x (row8 j u)) :
    (∀ i, (x i : EReal) ≠ ⊤ ∧ (x i : EReal) ≠ ⊥)
      ∧ ∀ H c, c < 36 → ∀ d, Mild (cumIn (col (inside x) H) (64 * c) d) := by
  have fin : ∀ i, (x i : EReal) ≠ ⊤ ∧ (x i : EReal) ≠ ⊥ := fun i => by
    refine ⟨fun h => ?_, fun h => ?_⟩
    · have := h0 i
      rw [h] at this
      simp at this
    · have b0 : (i 0).val < 2304 := (i 0).isLt
      have b1 : (i 1).val < 1024 := (i 1).isLt
      have k := h8 (ix2 ⟨(i 0).val / 8, by omega⟩ ⟨(i 1).val, b1⟩)
      rw [sum_bot _ ⟨(i 0).val % 8, by omega⟩ (by
        refine (congrArg x ?_).trans h
        refine (eq_ix2 _).trans (Eq.trans ?_ (eq_ix2 i).symm)
        refine congrArg₂ ix2 (Fin.ext ?_) (Fin.ext rfl)
        show 8 * ((i 0).val / 8) + (i 0).val % 8 = (i 0).val
        omega)] at k
      exact absurd k (by simp)
  refine ⟨fin, fun H c hc d => mild_of (col (inside x) H) 2304 (fun d t ht => ?_) (fun d t ht => ?_) c (by omega) d⟩
  · show inside x t (128 * H + d.val) ≤ 0
    by_cases hx : 128 * H + d.val < 1024
    · rw [inside_in x _ _ ht hx]
      exact EReal.toReal_nonpos (h0 _)
    · rw [inside_out x _ _ (fun h => hx h.2)]
  · show (-80 : ℝ) ≤ ∑ u ∈ Finset.range 8, inside x (8 * t + u) (128 * H + d.val)
    by_cases hx : 128 * H + d.val < 1024
    · have k := h8 (ix2 ⟨t, by omega⟩ ⟨128 * H + d.val, hx⟩)
      rw [← Fin.sum_univ_eq_sum_range (fun u => inside x (8 * t + u) (128 * H + d.val)) 8]
      have e : ∀ u : Fin 8, (x (row8 (ix2 ⟨t, by omega⟩ ⟨128 * H + d.val, hx⟩) u) : EReal)
          = ((inside x (8 * t + u.val) (128 * H + d.val) : ℝ) : EReal) := fun u => by
        have bu := u.isLt
        rw [inside_in x _ _ (by omega) hx]
        exact (EReal.coe_toReal (fin _).1 (fin _).2).symm
      rw [Finset.sum_congr rfl fun u _ => e u, ← Cert.KernelIdeal.Chunk.coe_sum] at k
      exact EReal.coe_le_coe_iff.mp k
    · rw [Finset.sum_congr rfl fun u _ => inside_out x _ _ fun h => hx h.2]
      norm_num

/-- The precondition's six parts, read at the operands. -/
theorem given (x0 x1 x2 : FVec Ideal S2304x1024 .bf16) (x3 x4 : FVec Ideal S2304x1024 .f32)
    (h : (fn (F := Ideal) x0 x1 x2 x3 x4).1 = (fun _ => 1#1) ∧ (fn (F := Ideal) x0 x1 x2 x3 x4).2.1 = (fun _ => 1#1)
      ∧ (fn (F := Ideal) x0 x1 x2 x3 x4).2.2.1 = (fun _ => 1#1) ∧ (fn (F := Ideal) x0 x1 x2 x3 x4).2.2.2.1 = (fun _ => 1#1)
      ∧ (fn (F := Ideal) x0 x1 x2 x3 x4).2.2.2.2.1 = (fun _ => 1#1) ∧ (fn (F := Ideal) x0 x1 x2 x3 x4).2.2.2.2.2 = (fun _ => 1#1)) :
    x0 = whole (inside x0) ∧ x1 = whole (inside x1) ∧ x2 = whole (inside x2) ∧ x3 = whole (inside x3) ∧ x4 = whole (inside x4)
      ∧ ∀ H c, c < 36 → ∀ d, Mild (cumIn (col (inside x3) H) (64 * c) d) := by
  obtain ⟨a0, a1, a2, a4, a3, a8⟩ := h
  have hg := gates x3 (down x3 a3) (above x3 a8)
  exact ⟨whole_inside x0 (small (extf .f32 x0 bitsLt_bf16_f32) a0), whole_inside x1 (small (extf .f32 x1 bitsLt_bf16_f32) a1),
    whole_inside x2 (small (extf .f32 x2 bitsLt_bf16_f32) a2), whole_inside x3 hg.1, whole_inside x4 (small x4 a4), hg.2⟩

end Cert.Pre_gates_are_mild.Given

end
-- ==== Proof.Same.lean ====
/-
  The kernel and the idealised kernel have one text: their tables of bodies are equal, so one run gives both frames.
-/
module

public import proofs.«01_k».proof.Defs
public import proofs.«01_k».proof.Proof.Gen.Kernel
public import proofs.«01_k».proof.Proof.Gen.KernelIdeal
public import proofs.«01_k».proof.Proof.Gen.KernelIdeal.Frame

@[expose] public section

set_option maxRecDepth 100000
set_option maxHeartbeats 4000000

noncomputable section

namespace Cert.Proof

open Idealize.ShloMosaic Idealize.SL.Sem

local instance : Cert.Kernel.Facts := Cert.Kernel.Gen.facts

/-- The kernel's body under its label. -/
theorem same_body : (Cert.Kernel.defs₀ (F := Bits)) = Cert.KernelIdeal.defs₀ (F := Bits) := by
  unfold Cert.Kernel.defs₀ Cert.KernelIdeal.defs₀
  refine congrArg Defs.onTc (funext fun l => ?_)
  match l with
  | 0 =>
    refine funext fun x => ?_
    obtain ⟨t, x⟩ := x
    with_unfolding_all rfl

/-- The bodies, the regions and the pipelines. -/
theorem same_defs : (Cert.Kernel.defs (F := Bits)) = Cert.KernelIdeal.defs (F := Bits) := by
  show Pipeline.defs Cert.Kernel.pcfgs Cert.Kernel.defs₀ = _
  rw [same_body]
  rfl

/-- The host text. -/
theorem same_main : (Cert.Kernel.main (F := Bits)) = Cert.KernelIdeal.main (F := Bits) := by
  with_unfolding_all rfl

/-- The kernel at machine floats: the idealised kernel's run, which holds over any floats. -/
theorem frame_kernel : Cert.quiescent_Kernel (hKernel := Cert.Kernel.Gen.facts) := by
  unfold Cert.quiescent_Kernel
  intro m ρ _
  rw [same_defs, same_main]
  exact Cert.KernelIdeal.Gen.frame (F := Bits) m ρ

end Cert.Proof

end
-- ==== Proof.RefValue.lean ====
/-
  The reference over real operands: the decays of all pairs of steps, and the four gradients as sums over the pairs.
-/
module

public import proofs.«01_k».proof.Proof.Gen.ReferenceIdeal.Read
public import proofs.«01_k».proof.Proof.Point
public import proofs.«01_k».proof.Proof.Window
public import Idealize.ShloMosaic.Lib.WordCmp

@[expose] public section

set_option maxRecDepth 16384

noncomputable section

namespace Cert.ReferenceIdeal.Pairs

open Cert.ReferenceIdeal Cert.ReferenceIdeal.Gen Cert.ReferenceIdeal.Read Cert.Chunk Idealize.ShloMosaic
open Cert.KernelIdeal.Chunk (col gradQ gradK gradV gradG at_eq coe_sum)
open Finset (range Ico)

/-- The decay of a pair of steps, 0 for a pair out of order. -/
def pr (g : ℕ → ℕ → ℝ) (H t s : ℕ) (d : Fin 128) : ℝ := if s ≤ t then decay (col g H) d t s else 0

/-- The lower triangle. -/
theorem mask_at (i : S2304x2304.Idx) : val_main_v13 (F := Ideal) i = if (i 1).val ≤ (i 0).val then 1#1 else 0#1 := by
  rw [val_main_v13_apply, val_main_call1_v4_apply]
  have h0 : (i 0).val < 2304 := (i 0).isLt
  have h1 : (i 1).val < 2304 := (i 1).isLt
  have e : IntOp.cmpi .sge (val_main_call1_v2 (F := Ideal) i) (val_main_call1_v3 (F := Ideal) i)
      = BitVec.ofBool (decide ((i 1).val ≤ (i 0).val)) := by
    show IntOp.cmpi .sge (BitVec.ofNat 32 (i 0).val + 0#32) (BitVec.ofNat 32 (i 1).val) = _
    rw [BitVec.add_zero]
    exact WordCmp.cmpi_sge_ofNat (by omega) (by omega)
  rw [e]
  show Scalar.select (BitVec.ofBool (decide ((i 1).val ≤ (i 0).val))) (1#1 : BitVec 1) 0#1 = _
  by_cases h : (i 1).val ≤ (i 0).val <;> simp [h, Scalar.select]

theorem choose (p : Prop) [Decidable p] (a b : EReal) : Scalar.select (if p then 1#1 else 0#1) a b = if p then a else b := by
  split <;> rfl

section

variable {x0 x1 x2 : S2304x1024.Idx → EReal} {x3 x4 : S2304x1024.Idx → EReal} {g q k v o : ℕ → ℕ → ℝ}

section
variable (h0 : ∀ i, x0 i = ((q (i 0).val (i 1).val : ℝ) : EReal))
include h0
theorem q_at (i : S8x2304x128.Idx) : val_main_v4 (F := Ideal) x0 i = ((col q (i 0).val (i 2) (i 1).val : ℝ) : EReal) := by
  have b0 : (i 0).val < 8 := (i 0).isLt
  have b1 : (i 1).val < 2304 := (i 1).isLt
  have b2 : (i 2).val < 128 := (i 2).isLt
  rw [val_main_v4_apply, val_main_v3_apply, val_main_v0_apply]
  refine (h0 _).trans (at_eq q ?_ ?_)
  · show (((i 1).val * 8 + (i 0).val) * 128 + (i 2).val) / 1024 = (i 1).val
    omega
  · show (((i 1).val * 8 + (i 0).val) * 128 + (i 2).val) % 1024 = 128 * (i 0).val + (i 2).val
    omega
end
theorem k_at (h1 : ∀ i, x1 i = ((k (i 0).val (i 1).val : ℝ) : EReal)) (i : S8x2304x128.Idx) :
    val_main_v6 (F := Ideal) x1 i = ((col k (i 0).val (i 2) (i 1).val : ℝ) : EReal) := q_at h1 i
theorem v_at (h2 : ∀ i, x2 i = ((v (i 0).val (i 1).val : ℝ) : EReal)) (i : S8x2304x128.Idx) :
    val_main_v8 (F := Ideal) x2 i = ((col v (i 0).val (i 2) (i 1).val : ℝ) : EReal) := q_at h2 i
theorem g_at (h3 : ∀ i, x3 i = ((g (i 0).val (i 1).val : ℝ) : EReal)) (i : S8x2304x128.Idx) :
    val_main_v10 (F := Ideal) x3 i = ((col g (i 0).val (i 2) (i 1).val : ℝ) : EReal) := q_at h3 i
theorem o_at (h4 : ∀ i, x4 i = ((o (i 0).val (i 1).val : ℝ) : EReal)) (i : S8x2304x128.Idx) :
    val_main_v33 (F := Ideal) x4 i = ((col o (i 0).val (i 2) (i 1).val : ℝ) : EReal) := q_at h4 i

theorem zero_up : FloatOps.ofBits (F := Ideal) .f32 0x00000000#32 = ((0 : ℝ) : EReal) := by
  rw [EReal.coe_zero]
  exact Ideal.ofBits_zero_f32

theorem bot_up : FloatOps.ofBits (F := Ideal) .f32 0xFF800000#32 = (⊥ : EReal) := by
  simp [Ideal.ofBits, Ideal.ieee]

/-- The running sum of the gates. -/
theorem run_at (h3 : ∀ i, x3 i = ((g (i 0).val (i 1).val : ℝ) : EReal)) (i : S8x2304x128.Idx) :
    val_main_v11 (F := Ideal) x3 i = ((run (col g (i 0).val) (i 2) ((i 1).val + 1) : ℝ) : EReal) := by
  unfold val_main_v11 Host.reduceWindowAdd
  rw [Ideal.hostReduceWindowAdd_def]
  have e : (val_main_call0_call0_v0 (F := Ideal)) (Shape.Idx.first h_S_) = ((0 : ℝ) : EReal) := zero_up
  rw [e]
  refine (Window.window (A := 8) (N := 2304) (C := 128) (lo := 2303) (hi := 0) (val_main_v10 (F := Ideal) x3)
    (fun H t d => g t (128 * H + d)) (fun i => g_at h3 i) reduceWindows_S8x2304x128_S8x2304x128_w1s1p0_0_w2304s1p2303_0_w1s1p0_0 i).trans ?_
  exact congrArg _ (Window.upTo 2304 (i 1).val (i 1).isLt fun u => g u (128 * (i 0).val + (i 2).val))

/-- The decay of every pair. -/
theorem pair_at (h3 : ∀ i, x3 i = ((g (i 0).val (i 1).val : ℝ) : EReal)) (i : S8x2304x2304x128.Idx) :
    val_main_v21 (F := Ideal) x3 i = ((pr g (i 0).val (i 1).val (i 2).val (i 3) : ℝ) : EReal) := by
  rw [val_main_v21_apply, val_main_v20_0_apply, val_main_v20_1_apply, val_main_v14_apply, mask_at, val_main_v19_apply,
    val_main_v17_apply, val_main_v15_apply, val_main_v18_apply, val_main_v16_apply, run_at h3, run_at h3]
  show FloatOps.hostUnary (F := Ideal) .exp (Scalar.select (if (i 2).val ≤ (i 1).val then 1#1 else 0#1) _ _) = _
  rw [choose]
  unfold pr
  split
  · show Ideal.exp (((_ : ℝ) : EReal) - ((_ : ℝ) : EReal)) = _
    rw [← EReal.coe_sub]
    rfl
  · have e : val_main_call2_v2 (F := Ideal) i = (⊥ : EReal) := bot_up
    rw [e]
    rfl

theorem qp_at (h0 : ∀ i, x0 i = ((q (i 0).val (i 1).val : ℝ) : EReal)) (h3 : ∀ i, x3 i = ((g (i 0).val (i 1).val : ℝ) : EReal))
    (i : S8x2304x2304x128.Idx) :
    val_main_v24 (F := Ideal) x0 x3 i = ((col q (i 0).val (i 3) (i 1).val * pr g (i 0).val (i 1).val (i 2).val (i 3) : ℝ) : EReal) := by
  rw [val_main_v24_apply, val_main_v23_apply, val_main_v22_apply, q_at h0, pair_at h3, Ideal.mulf_def, ← EReal.coe_mul]
  rfl

theorem score_at (h0 : ∀ i, x0 i = ((q (i 0).val (i 1).val : ℝ) : EReal)) (h1 : ∀ i, x1 i = ((k (i 0).val (i 1).val : ℝ) : EReal))
    (h3 : ∀ i, x3 i = ((g (i 0).val (i 1).val : ℝ) : EReal)) (i : S8x2304x2304.Idx) :
    val_main_v28 (F := Ideal) x0 x1 x3 i = ((∑ d : Fin 128, col q (i 0).val d (i 1).val * pr g (i 0).val (i 1).val (i 2).val d
      * col k (i 0).val d (i 2).val : ℝ) : EReal) := by
  rw [val_main_v28_apply, val_main_cst_0_apply, zero_up, EReal.coe_zero, zero_add, coe_sum]
  refine Finset.sum_congr rfl fun d _ => ?_
  rw [val_main_v27_apply, qp_at h0 h3, val_main_v26_apply, val_main_v25_apply, k_at h1, Ideal.mulf_def, ← EReal.coe_mul]
  rfl

theorem dA_at (h2 : ∀ i, x2 i = ((v (i 0).val (i 1).val : ℝ) : EReal)) (h4 : ∀ i, x4 i = ((o (i 0).val (i 1).val : ℝ) : EReal))
    (i : S8x2304x2304.Idx) :
    val_main_v36 (F := Ideal) x2 x4 i = ((dA (col v (i 0).val) (col o (i 0).val) (i 1).val (i 2).val : ℝ) : EReal) := by
  rw [val_main_v36_apply]
  unfold dA
  rw [coe_sum]
  refine Finset.sum_congr rfl fun e _ => ?_
  rw [o_at h4, v_at h2, ← EReal.coe_mul]
  rfl

/-- The gradient of the score times the key. -/
theorem kA_at (h1 : ∀ i, x1 i = ((k (i 0).val (i 1).val : ℝ) : EReal)) (h2 : ∀ i, x2 i = ((v (i 0).val (i 1).val : ℝ) : EReal))
    (h4 : ∀ i, x4 i = ((o (i 0).val (i 1).val : ℝ) : EReal)) (i : S8x2304x2304x128.Idx) :
    val_main_v42 (F := Ideal) x1 x2 x4 i = ((dA (col v (i 0).val) (col o (i 0).val) (i 1).val (i 2).val
      * col k (i 0).val (i 3) (i 2).val : ℝ) : EReal) := by
  rw [val_main_v42_apply, val_main_v37_apply, dA_at h2 h4, val_main_v41_apply, val_main_v25_apply, k_at h1, Ideal.mulf_def, ← EReal.coe_mul]
  rfl

/-- A head, a channel and a step of an array of steps by channels. -/
theorem spread (f : ℕ → Fin 128 → ℕ → ℝ) {H H' t t' : ℕ} {d d' : Fin 128} (hH : H = H') (hd : d = d') (ht : t = t') :
    ((f H d t : ℝ) : EReal) = ((f H' d' t' : ℝ) : EReal) := by
  rw [hH, hd, ht]

/-! Sums over all steps of what a pair in order contributes. -/
theorem sum_before (f : ℕ → ℝ) (t : ℕ) (ht : t < 2304) : (∑ s : Fin 2304, if s.val ≤ t then f s.val else 0) = ∑ s ∈ range (t + 1), f s := by
  rw [Fin.sum_univ_eq_sum_range (fun s => if s ≤ t then f s else 0) 2304, ← Finset.sum_filter]
  refine Finset.sum_congr (Finset.ext fun s => ?_) fun _ _ => rfl
  simp only [Finset.mem_filter, Finset.mem_range]
  omega
theorem sum_after (f : ℕ → ℝ) (s : ℕ) : (∑ t : Fin 2304, if s ≤ t.val then f t.val else 0) = ∑ t ∈ Ico s 2304, f t := by
  rw [Fin.sum_univ_eq_sum_range (fun t => if s ≤ t then f t else 0) 2304, ← Finset.sum_filter]
  refine Finset.sum_congr (Finset.ext fun t => ?_) fun _ _ => rfl
  simp only [Finset.mem_filter, Finset.mem_range, Finset.mem_Ico]
  omega

variable (h0 : ∀ i, x0 i = ((q (i 0).val (i 1).val : ℝ) : EReal)) (h1 : ∀ i, x1 i = ((k (i 0).val (i 1).val : ℝ) : EReal))
  (h2 : ∀ i, x2 i = ((v (i 0).val (i 1).val : ℝ) : EReal)) (h3 : ∀ i, x3 i = ((g (i 0).val (i 1).val : ℝ) : EReal))
  (h4 : ∀ i, x4 i = ((o (i 0).val (i 1).val : ℝ) : EReal))

include h1 h2 h3 h4 in
theorem dq_at (i : S8x2304x128.Idx) : val_main_v47 (F := Ideal) x1 x2 x3 x4 i
    = ((rq (col g (i 0).val) (col k (i 0).val) (col v (i 0).val) (col o (i 0).val) (i 2) (i 1).val : ℝ) : EReal) := by
  rw [val_main_v47_apply, val_main_cst_3_apply, zero_up, EReal.coe_zero, zero_add]
  unfold rq
  rw [← sum_before _ _ (i 1).isLt, coe_sum]
  refine Finset.sum_congr rfl fun s _ => ?_
  rw [val_main_v46_apply, kA_at h1 h2 h4, pair_at h3, Ideal.mulf_def, ← EReal.coe_mul]
  refine congrArg _ ?_
  show dA (col v (i 0).val) (col o (i 0).val) (i 1).val s.val * col k (i 0).val (i 2) s.val
    * (if s.val ≤ (i 1).val then decay (col g (i 0).val) (i 2) (i 1).val s.val else 0) = _
  rw [mul_ite, mul_zero]

include h0 h2 h3 h4 in
theorem dk_at (i : S8x2304x128.Idx) : val_main_v39 (F := Ideal) x0 x2 x3 x4 i
    = ((rk 2304 (col g (i 0).val) (col q (i 0).val) (col v (i 0).val) (col o (i 0).val) (i 2) (i 1).val : ℝ) : EReal) := by
  rw [val_main_v39_apply, val_main_cst_1_apply, zero_up, EReal.coe_zero, zero_add]
  unfold rk
  rw [← sum_after _ (i 1).val, coe_sum]
  refine Finset.sum_congr rfl fun t _ => ?_
  rw [val_main_v38_apply, qp_at h0 h3, val_main_v37_apply, dA_at h2 h4, Ideal.mulf_def, ← EReal.coe_mul]
  refine congrArg _ ?_
  show col q (i 0).val (i 2) t.val * (if (i 1).val ≤ t.val then decay (col g (i 0).val) (i 2) t.val (i 1).val else 0)
    * dA (col v (i 0).val) (col o (i 0).val) t.val (i 1).val = _
  split
  · ring
  · ring

include h0 h1 h3 h4 in
theorem dv_at (i : S8x2304x128.Idx) : val_main_v35 (F := Ideal) x0 x1 x3 x4 i
    = ((rv 2304 (col g (i 0).val) (col q (i 0).val) (col k (i 0).val) (col o (i 0).val) (i 2) (i 1).val : ℝ) : EReal) := by
  rw [val_main_v35_apply, val_main_v34_apply]
  unfold rv
  rw [← sum_after _ (i 1).val, coe_sum]
  refine Finset.sum_congr rfl fun t _ => ?_
  rw [o_at h4, score_at h0 h1 h3, ← EReal.coe_mul]
  refine congrArg _ ?_
  show col o (i 0).val (i 2) t.val * (∑ d : Fin 128, col q (i 0).val d t.val * (if (i 1).val ≤ t.val then _ else 0)
    * col k (i 0).val d (i 1).val) = _
  split
  · rw [mul_comm]
    exact congrArg (· * _) (Finset.sum_congr rfl fun d _ => by ring)
  · simp

include h0 h1 h2 h3 h4

/-- What a pair adds to the gradient of its decay's exponent. -/
theorem pz_at (i : S8x2304x2304x128.Idx) : val_main_v51 (F := Ideal) x0 x1 x2 x3 x4 i
    = ((if (i 2).val ≤ (i 1).val then pz (col g (i 0).val) (col q (i 0).val) (col k (i 0).val) (col v (i 0).val) (col o (i 0).val) (i 3)
        (i 1).val (i 2).val else 0 : ℝ) : EReal) := by
  rw [val_main_v51_apply, val_main_v20_1_apply, val_main_v14_apply, mask_at]
  show Scalar.select (if (i 2).val ≤ (i 1).val then 1#1 else 0#1) _ _ = _
  rw [choose]
  split
  · next h =>
    rw [val_main_v50_apply, val_main_v45_apply, kA_at h1 h2 h4, val_main_v44_apply, val_main_v22_apply, q_at h0, pair_at h3,
      Ideal.mulf_def, Ideal.mulf_def, ← EReal.coe_mul, ← EReal.coe_mul]
    refine congrArg _ ?_
    unfold pr pz
    rw [if_pos h]
    show col q (i 0).val (i 3) (i 1).val * (dA (col v (i 0).val) (col o (i 0).val) (i 1).val (i 2).val * col k (i 0).val (i 3) (i 2).val) * _ = _
    ring
  · exact zero_up

theorem sumBefore_at (i : S8x2304x128.Idx) : val_main_v52 (F := Ideal) x0 x1 x2 x3 x4 i
    = ((∑ s ∈ range ((i 1).val + 1), pz (col g (i 0).val) (col q (i 0).val) (col k (i 0).val) (col v (i 0).val) (col o (i 0).val) (i 2)
        (i 1).val s : ℝ) : EReal) := by
  rw [val_main_v52_apply, val_main_cst_5_apply, zero_up, EReal.coe_zero, zero_add, ← sum_before _ _ (i 1).isLt, coe_sum]
  refine Finset.sum_congr rfl fun s _ => ?_
  rw [pz_at h0 h1 h2 h3 h4]
  rfl

theorem sumAfter_at (i : S8x2304x128.Idx) : val_main_v55 (F := Ideal) x0 x1 x2 x3 x4 i
    = ((-∑ t ∈ Ico (i 1).val 2304, pz (col g (i 0).val) (col q (i 0).val) (col k (i 0).val) (col v (i 0).val) (col o (i 0).val) (i 2)
        t (i 1).val : ℝ) : EReal) := by
  rw [val_main_v55_apply, val_main_cst_6_apply, zero_up, EReal.coe_zero, zero_add, ← sum_after _ (i 1).val, ← Finset.sum_neg_distrib, coe_sum]
  refine Finset.sum_congr rfl fun t _ => ?_
  rw [val_main_v54_apply, pz_at h0 h1 h2 h3 h4]
  rfl

/-- The gradient of the running gate. -/
theorem rb_at (i : S8x2304x128.Idx) : val_main_v59 (F := Ideal) x0 x1 x2 x3 x4 i
    = ((rb 2304 (col g (i 0).val) (col q (i 0).val) (col k (i 0).val) (col v (i 0).val) (col o (i 0).val) (i 2) (i 1).val : ℝ) : EReal) := by
  have b0 : (i 0).val < 8 := (i 0).isLt
  have b1 : (i 1).val < 2304 := (i 1).isLt
  have b2 : (i 2).val < 128 := (i 2).isLt
  have e5 : val_main_v57 (F := Ideal) x0 x1 x2 x3 x4 i = val_main_v55 (F := Ideal) x0 x1 x2 x3 x4 i := by
    rw [val_main_v57_apply, val_main_cst_7_apply, zero_up, EReal.coe_zero, zero_add, Fin.sum_univ_one, val_main_v56_apply]
    refine congrArg _ (funext fun a => Fin.ext ?_)
    match a with
    | ⟨0, _⟩ => show ((((i 0).val * 1 + 0) * 2304 + (i 1).val) * 128 + (i 2).val) / 294912 = (i 0).val; omega
    | ⟨1, _⟩ => show ((((i 0).val * 1 + 0) * 2304 + (i 1).val) * 128 + (i 2).val) / 128 % 2304 = (i 1).val; omega
    | ⟨2, _⟩ => show ((((i 0).val * 1 + 0) * 2304 + (i 1).val) * 128 + (i 2).val) % 128 = (i 2).val; omega
  have e8 : val_main_v58 (F := Ideal) x0 x1 x2 x3 x4 i = val_main_v52 (F := Ideal) x0 x1 x2 x3 x4 i := by
    rw [val_main_v58_apply, val_main_cst_8_apply, zero_up, EReal.coe_zero, zero_add, Fin.sum_univ_one, val_main_v53_apply]
    refine congrArg _ (funext fun a => Fin.ext ?_)
    match a with
    | ⟨0, _⟩ => show ((((i 0).val * 2304 + (i 1).val) * 1 + 0) * 128 + (i 2).val) / 294912 = (i 0).val; omega
    | ⟨1, _⟩ => show ((((i 0).val * 2304 + (i 1).val) * 1 + 0) * 128 + (i 2).val) / 128 % 2304 = (i 1).val; omega
    | ⟨2, _⟩ => show ((((i 0).val * 2304 + (i 1).val) * 1 + 0) * 128 + (i 2).val) % 128 = (i 2).val; omega
  rw [val_main_v59_apply, e5, e8, sumBefore_at h0 h1 h2 h3 h4, sumAfter_at h0 h1 h2 h3 h4, Ideal.addf_def, ← EReal.coe_add]
  unfold rb
  rw [neg_add_eq_sub]

/-- The gradient of the gate: the sum from the step on. -/
theorem dg_at (i : S8x2304x128.Idx) : val_main_v60 (F := Ideal) x0 x1 x2 x3 x4 i
    = ((rg 2304 (col g (i 0).val) (col q (i 0).val) (col k (i 0).val) (col v (i 0).val) (col o (i 0).val) (i 2) (i 1).val : ℝ) : EReal) := by
  unfold val_main_v60 Host.reduceWindowAdd
  rw [Ideal.hostReduceWindowAdd_def]
  have e : (val_main_call4_call0_v0 (F := Ideal)) (Shape.Idx.first h_S_) = ((0 : ℝ) : EReal) := zero_up
  rw [e]
  refine (Window.window (A := 8) (N := 2304) (C := 128) (lo := 0) (hi := 2303) (val_main_v59 (F := Ideal) x0 x1 x2 x3 x4)
    (fun H t d => rb 2304 (col g H) (col q H) (col k H) (col v H) (col o H) (⟨d % 128, Nat.mod_lt _ (by decide)⟩ : Fin 128) t)
    (fun i => ?_) reduceWindows_S8x2304x128_S8x2304x128_w1s1p0_0_w2304s1p0_2303_w1s1p0_0 i).trans ?_
  · refine (rb_at h0 h1 h2 h3 h4 i).trans ?_
    refine congrArg (fun d : Fin 128 => ((rb 2304 (col g (i 0).val) (col q (i 0).val) (col k (i 0).val) (col v (i 0).val) (col o (i 0).val) d
      (i 1).val : ℝ) : EReal)) (Fin.ext (Nat.mod_eq_of_lt (i 2).isLt).symm)
  · have e2 : (⟨(i 2).val % 128, Nat.mod_lt _ (by decide)⟩ : Fin 128) = i 2 := Fin.ext (Nat.mod_eq_of_lt (i 2).isLt)
    rw [e2]
    exact congrArg _ (Window.fromOn 2304 (i 1).val (i 1).isLt
      fun u => rb 2304 (col g (i 0).val) (col q (i 0).val) (col k (i 0).val) (col v (i 0).val) (col o (i 0).val) (i 2) u)

omit h0 in
theorem res_q (y : S2304x1024.Idx) : val_main_v69 (F := Ideal) x1 x2 x3 x4 y = ((gradQ g q k v o (y 0).val (y 1).val : ℝ) : EReal) := by
  have b0 : (y 0).val < 2304 := (y 0).isLt
  have b1 : (y 1).val < 1024 := (y 1).isLt
  have e9 : ∀ i : S8x2304x128.Idx, val_main_v49 (F := Ideal) x1 x2 x3 x4 i = val_main_v47 (F := Ideal) x1 x2 x3 x4 i := fun i => by
    have b0 : (i 0).val < 8 := (i 0).isLt
    have b1 : (i 1).val < 2304 := (i 1).isLt
    have b2 : (i 2).val < 128 := (i 2).isLt
    rw [val_main_v49_apply, val_main_cst_4_apply, zero_up, EReal.coe_zero, zero_add, Fin.sum_univ_one, val_main_v48_apply]
    refine congrArg _ (funext fun a => Fin.ext ?_)
    match a with
    | ⟨0, _⟩ => show ((((i 0).val * 2304 + (i 1).val) * 1 + 0) * 128 + (i 2).val) / 294912 = (i 0).val; omega
    | ⟨1, _⟩ => show ((((i 0).val * 2304 + (i 1).val) * 1 + 0) * 128 + (i 2).val) / 128 % 2304 = (i 1).val; omega
    | ⟨2, _⟩ => show ((((i 0).val * 2304 + (i 1).val) * 1 + 0) * 128 + (i 2).val) % 128 = (i 2).val; omega
  rw [val_main_v69_apply, val_main_v68_apply, val_main_v67_apply, e9]
  refine (dq_at h1 h2 h3 h4 _).trans (spread (fun H d t => rq (col g H) (col k H) (col v H) (col o H) d t) ?_ (Fin.ext ?_) ?_)
  · show ((y 0).val * 1024 + (y 1).val) / 128 % 8 = (y 1).val / 128; omega
  · show ((y 0).val * 1024 + (y 1).val) % 128 = (y 1).val % 128; omega
  · show ((y 0).val * 1024 + (y 1).val) / 1024 = (y 0).val; omega

omit h1 in
theorem res_k (y : S2304x1024.Idx) : val_main_v70 (F := Ideal) x0 x2 x3 x4 y = ((gradK g q k v o (y 0).val (y 1).val : ℝ) : EReal) := by
  have b0 : (y 0).val < 2304 := (y 0).isLt
  have b1 : (y 1).val < 1024 := (y 1).isLt
  have e3 : ∀ i : S8x2304x128.Idx, val_main_v43 (F := Ideal) x0 x2 x3 x4 i = val_main_v39 (F := Ideal) x0 x2 x3 x4 i := fun i => by
    have b0 : (i 0).val < 8 := (i 0).isLt
    have b1 : (i 1).val < 2304 := (i 1).isLt
    have b2 : (i 2).val < 128 := (i 2).isLt
    rw [val_main_v43_apply, val_main_cst_2_apply, zero_up, EReal.coe_zero, zero_add, Fin.sum_univ_one, val_main_v40_apply]
    refine congrArg _ (funext fun a => Fin.ext ?_)
    match a with
    | ⟨0, _⟩ => show ((((i 0).val * 1 + 0) * 2304 + (i 1).val) * 128 + (i 2).val) / 294912 = (i 0).val; omega
    | ⟨1, _⟩ => show ((((i 0).val * 1 + 0) * 2304 + (i 1).val) * 128 + (i 2).val) / 128 % 2304 = (i 1).val; omega
    | ⟨2, _⟩ => show ((((i 0).val * 1 + 0) * 2304 + (i 1).val) * 128 + (i 2).val) % 128 = (i 2).val; omega
  rw [val_main_v70_apply, val_main_v66_apply, val_main_v65_apply, e3]
  refine (dk_at h0 h2 h3 h4 _).trans (spread (fun H d t => rk 2304 (col g H) (col q H) (col v H) (col o H) d t) ?_ (Fin.ext ?_) ?_)
  · show ((y 0).val * 1024 + (y 1).val) / 128 % 8 = (y 1).val / 128; omega
  · show ((y 0).val * 1024 + (y 1).val) % 128 = (y 1).val % 128; omega
  · show ((y 0).val * 1024 + (y 1).val) / 1024 = (y 0).val; omega

omit h2 in
theorem res_v (y : S2304x1024.Idx) : val_main_v71 (F := Ideal) x0 x1 x3 x4 y = ((gradV g q k v o (y 0).val (y 1).val : ℝ) : EReal) := by
  have b0 : (y 0).val < 2304 := (y 0).isLt
  have b1 : (y 1).val < 1024 := (y 1).isLt
  rw [val_main_v71_apply, val_main_v64_apply, val_main_v63_apply]
  refine (dv_at h0 h1 h3 h4 _).trans (spread (fun H d t => rv 2304 (col g H) (col q H) (col k H) (col o H) d t) ?_ (Fin.ext ?_) ?_)
  · show ((y 0).val * 1024 + (y 1).val) / 128 % 8 = (y 1).val / 128; omega
  · show ((y 0).val * 1024 + (y 1).val) % 128 = (y 1).val % 128; omega
  · show ((y 0).val * 1024 + (y 1).val) / 1024 = (y 0).val; omega

theorem res_g (y : S2304x1024.Idx) : val_main_v62 (F := Ideal) x0 x1 x2 x3 x4 y = ((gradG g q k v o (y 0).val (y 1).val : ℝ) : EReal) := by
  have b0 : (y 0).val < 2304 := (y 0).isLt
  have b1 : (y 1).val < 1024 := (y 1).isLt
  rw [val_main_v62_apply, val_main_v61_apply]
  refine (dg_at h0 h1 h2 h3 h4 _).trans (spread (fun H d t => rg 2304 (col g H) (col q H) (col k H) (col v H) (col o H) d t) ?_ (Fin.ext ?_) ?_)
  · show ((y 0).val * 1024 + (y 1).val) / 128 % 8 = (y 1).val / 128; omega
  · show ((y 0).val * 1024 + (y 1).val) % 128 = (y 1).val % 128; omega
  · show ((y 0).val * 1024 + (y 1).val) / 1024 = (y 0).val; omega

end

end Cert.ReferenceIdeal.Pairs

end
-- ==== Proof.Products.lean ====
/-
  The products of the training step at the ideal values: what one block product of the matrix unit is, entry by entry, for the three ways
  its operands lie, and how a sum over all contracted positions splits into the two halves that a kernel adds one after the other.
-/
module

public import Idealize.ShloMosaic.Lib.MatmulPlain
public import Idealize.ShloMosaic.Lib.Pointwise
public import Idealize.ShloMosaic.Lib.Pipeline.ValueKit

@[expose] public section

noncomputable section

namespace Cert.Product

open Idealize.ShloMosaic
open Idealize.ShloMosaic.ValueIdx (contrEquiv1 contrEquiv1_symm_val)

/-- `[K, M]` by `[K, N]`, both contracted on the first axis. -/
def tn (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {M K N : ℕ}

theorem mul_tn (a : FVec Ideal ⟨2, ![K, M]⟩ .bf16) (b : FVec Ideal ⟨2, ![K, N]⟩ .bf16) (c : FVec Ideal ⟨2, ![M, N]⟩ .f32)
    (y : (⟨2, ![M, N]⟩ : Shape).Idx) :
    matmul (tn M K N) none a b c y = c y + ∑ k : Fin K, a (ix2 k (y 0)) * b (ix2 k (y 1)) := by
  show FloatOps.matmul (tn M K N) none a b c y = _
  rw [Ideal.matmul_apply, ← Equiv.sum_comp (contrEquiv1 (tn M K N) K rfl rfl).symm]
  refine congrArg (c y + ·) (Finset.sum_congr rfl fun k _ => ?_)
  have hk := contrEquiv1_symm_val (tn M K N) K rfl rfl k
  refine congrArg₂ (· * ·) (congrArg a (funext fun x => Fin.ext ?_)) (congrArg b (funext fun x => Fin.ext ?_))
  all_goals
    match x with
    | ⟨0, _⟩ => exact hk
    | ⟨1, _⟩ => rfl

theorem mul_nn (a : FVec Ideal ⟨2, ![M, K]⟩ .bf16) (b : FVec Ideal ⟨2, ![K, N]⟩ .bf16) (c : FVec Ideal ⟨2, ![M, N]⟩ .f32)
    (y : (⟨2, ![M, N]⟩ : Shape).Idx) :
    matmul (DotDims.plain M K N) none a b c y = c y + ∑ k : Fin K, a (ix2 (y 0) k) * b (ix2 k (y 1)) := by
  rw [eq_ix2 y]
  exact Ideal.matmul_plain_apply none a b c _ _

theorem mul_nt (a : FVec Ideal ⟨2, ![M, K]⟩ .bf16) (b : FVec Ideal ⟨2, ![N, K]⟩ .bf16) (c : FVec Ideal ⟨2, ![M, N]⟩ .f32)
    (y : (⟨2, ![M, N]⟩ : Shape).Idx) :
    matmul (DotDims.transposedRhs M K N) none a b c y = c y + ∑ k : Fin K, a (ix2 (y 0) k) * b (ix2 (y 1) k) := by
  rw [eq_ix2 y]
  exact Ideal.matmul_transposedRhs_apply none a b c _ _

/-- The accumulator's zeros. -/
theorem zeros_apply {s : Shape} (y : s.Idx) : constant (F := Ideal) s .f32 0x00000000#32 y = 0 := by
  simp [constant, Ideal.ofBits, Ideal.ieee]

/-- A product onto zeros, narrowed. -/
theorem sum_tn (a : FVec Ideal ⟨2, ![K, M]⟩ .bf16) (b : FVec Ideal ⟨2, ![K, N]⟩ .bf16) (y : (⟨2, ![M, N]⟩ : Shape).Idx) :
    matmul (tn M K N) none a b (constant _ .f32 0x00000000#32) y = ∑ k : Fin K, a (ix2 k (y 0)) * b (ix2 k (y 1)) := by
  rw [mul_tn, zeros_apply, zero_add]

theorem sum_nn (a : FVec Ideal ⟨2, ![M, K]⟩ .bf16) (b : FVec Ideal ⟨2, ![K, N]⟩ .bf16) (y : (⟨2, ![M, N]⟩ : Shape).Idx) :
    matmul (DotDims.plain M K N) none a b (constant _ .f32 0x00000000#32) y = ∑ k : Fin K, a (ix2 (y 0) k) * b (ix2 k (y 1)) := by
  rw [mul_nn, zeros_apply, zero_add]
theorem sum_nt (a : FVec Ideal ⟨2, ![M, K]⟩ .bf16) (b : FVec Ideal ⟨2, ![N, K]⟩ .bf16) (y : (⟨2, ![M, N]⟩ : Shape).Idx) :
    matmul (DotDims.transposedRhs M K N) none a b (constant _ .f32 0x00000000#32) y = ∑ k : Fin K, a (ix2 (y 0) k) * b (ix2 (y 1) k) := by
  rw [mul_nt, zeros_apply, zero_add]

/-- The words for one and for infinity. -/
theorem one_bits : Ideal.ofBits .f32 0x3F800000#32 = (1 : EReal) := by
  simp [Ideal.ofBits, Ideal.ieee, -EReal.coe_mul]
  norm_num

theorem top_bits : Ideal.ofBits .f32 0x7F800000#32 = (⊤ : EReal) := by
  simp [Ideal.ofBits, Ideal.ieee]

/-- A whole block is loaded and stored from its first entry. -/
theorem zero_offset : (![0, 0] : Fin 2 → ℕ) = fun _ => 0 := by decide

/-- What a load of a whole buffer reads. -/
theorem whole_load {F : FTy → Type} [FloatOps F] {sig : RefSig} {κ : Kind} {sp : Space} {e : EltTy}
    (r : Memref sig κ sp ⟨2, ![M, N]⟩ e) (h : r.IsWhole) (x : (⟨2, ![M, N]⟩ : Shape).Idx → Elt F e)
    (inb : ∀ a, (![0, 0] : Fin 2 → ℕ) a + (![M, N] : Fin 2 → ℕ) a ≤ (![M, N] : Fin 2 → ℕ) a) :
    View.readAt (Elt F) r.view (Rect.unit (s := ⟨2, ![M, N]⟩) ![0, 0] ![M, N] inb).toLoadRect (h.unread x) = x := by
  rw [View.readAt_eq_ld, h.read_unread]
  exact View.ld_unit_zero (S := ⟨2, ![M, N]⟩) zero_offset inb x

/-- Two entries of an array are one when their coordinates are. -/
theorem at_entry {α : Type} (f : (⟨2, ![M, N]⟩ : Shape).Idx → α) {x y : (⟨2, ![M, N]⟩ : Shape).Idx} (h₀ : (x 0).val = (y 0).val)
    (h₁ : (x 1).val = (y 1).val) : f x = f y :=
  congrArg f (funext fun a => Fin.ext (match a with
    | ⟨0, _⟩ => h₀
    | ⟨1, _⟩ => h₁))

/-- A sum over two halves, one after the other. -/
theorem sum_halves {n K : ℕ} (h : K = n + n) (f : Fin K → EReal) :
    ∑ k : Fin K, f k = ∑ k : Fin n, f ⟨k.val, by omega⟩ + ∑ k : Fin n, f ⟨n + k.val, by omega⟩ := by
  subst h
  exact Fin.sum_univ_add f

end Cert.Product

end
-- ==== Proof.Grads.lean ====
/-
  The weight gradients: each call multiplies a layer's operand by the gradient of its output, both contracted over the steps, one block of
  the result at each grid point. The blocks that the points write make up the reference's whole product, entry by entry.
-/
module

public import proofs.«01_k».proof.Proof.Gen.InGradAIdeal.Value
public import proofs.«01_k».proof.Proof.Gen.InGradARefIdeal.Read
public import proofs.«01_k».proof.Proof.Gen.InGradBIdeal.Value
public import proofs.«01_k».proof.Proof.Gen.InGradBRefIdeal.Read
public import proofs.«01_k».proof.Proof.Gen.GateGradIdeal.Value
public import proofs.«01_k».proof.Proof.Gen.GateGradRefIdeal.Read
public import proofs.«01_k».proof.Proof.Gen.UpGradIdeal.Value
public import proofs.«01_k».proof.Proof.Gen.UpGradRefIdeal.Read
public import proofs.«01_k».proof.Proof.Gen.DownGradIdeal.Value
public import proofs.«01_k».proof.Proof.Gen.DownGradRefIdeal.Read
public import proofs.«01_k».proof.Proof.Gen.OutGradIdeal.Value
public import proofs.«01_k».proof.Proof.Gen.OutGradRefIdeal.Read
public import proofs.«01_k».proof.Proof.Gen.HgGradIdeal.Value
public import proofs.«01_k».proof.Proof.Gen.HgGradRefIdeal.Read
public import proofs.«01_k».proof.Proof.Gen.GlaGradIdeal.Value
public import proofs.«01_k».proof.Proof.Gen.GlaGradRefIdeal.Read
public import proofs.«01_k».proof.Proof.Products

@[expose] public section

set_option maxRecDepth 16384

noncomputable section

open Cert.Product Idealize.ShloMosaic Idealize.ShloMosaic.TcCoe

/-! ### The first half of the input projection's gradient: channels 0 to 511 of h against all of dp. -/

namespace Cert.InGradAIdeal.Sums

open Cert.InGradAIdeal Cert.InGradAIdeal.Gen Cert.InGradARefIdeal.Read

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The block that a point writes. -/
theorem out_apply (a : Vec Ideal S2304x512 .bf16) (b : Vec Ideal S2304x1024 .bf16) (y : S512x1024.Idx) :
    out0_2 a b y = ∑ k : Fin 2304, a (ix2 k (y 0)) * b (ix2 k (y 1)) := by
  unfold out0_2
  rw [View.canon_unit_zero zero_offset, View.ld_unit_zero zero_offset, View.ld_unit_zero zero_offset]
  exact sum_tn a b y

/-- The call's result is the reference's. -/
theorem final (m : (ℓ : Loc nD τ sig) → Buf (Elt Ideal) ℓ) (c : Dev nD) : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (out_apply _ _ y).trans ?_
  simp only [val_main_v7_apply, val_main_v6_apply, val_main_v5_apply, val_main_v4_apply]
  refine Finset.sum_congr rfl fun k _ => (mul_comm _ _).trans ?_
  blk_simp [iblk, idx0, idx1]
  rw [V_main_arg0, V_main_arg1]
  refine congrArg₂ (· * ·) (at_entry _ ?_ (?_ : _ = ((win0_2.blk t).view.emb y 1).val))
    (at_entry _ ?_ (?_ : _ = ((win0_2.blk t).view.emb y 0).val))
  all_goals blk_simp [idx0, idx1, idx2]

end Cert.InGradAIdeal.Sums

/-! ### The second half: channels 512 to 1023. -/

namespace Cert.InGradBIdeal.Sums

open Cert.InGradBIdeal Cert.InGradBIdeal.Gen Cert.InGradBRefIdeal.Read

theorem idx0 : ∀ t : Fin cfg0.N, win0_0.index t = ![0, 1] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The block that a point writes. -/
theorem out_apply (a : Vec Ideal S2304x512 .bf16) (b : Vec Ideal S2304x1024 .bf16) (y : S512x1024.Idx) :
    out0_2 a b y = ∑ k : Fin 2304, a (ix2 k (y 0)) * b (ix2 k (y 1)) := by
  unfold out0_2
  rw [View.canon_unit_zero zero_offset, View.ld_unit_zero zero_offset, View.ld_unit_zero zero_offset]
  exact sum_tn a b y

/-- The call's result is the reference's. -/
theorem final (m : (ℓ : Loc nD τ sig) → Buf (Elt Ideal) ℓ) (c : Dev nD) : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (out_apply _ _ y).trans ?_
  simp only [val_main_v7_apply, val_main_v6_apply, val_main_v5_apply, val_main_v4_apply]
  refine Finset.sum_congr rfl fun k _ => (mul_comm _ _).trans ?_
  blk_simp [iblk, idx0, idx1]
  rw [V_main_arg0, V_main_arg1]
  refine congrArg₂ (· * ·) (at_entry _ ?_ (?_ : _ = ((win0_2.blk t).view.emb y 1).val))
    (at_entry _ ?_ (?_ : _ = 512 + ((win0_2.blk t).view.emb y 0).val))
  all_goals blk_simp [idx0, idx1, idx2]

end Cert.InGradBIdeal.Sums

/-! ### The gate projection's gradient: du against h. -/

namespace Cert.GateGradIdeal.Sums

open Cert.GateGradIdeal Cert.GateGradIdeal.Gen Cert.GateGradRefIdeal.Read

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The block that a point writes. -/
theorem out_apply (a : Vec Ideal S2304x1408 .bf16) (b : Vec Ideal S2304x1024 .bf16) (y : S1408x1024.Idx) :
    out0_2 a b y = ∑ k : Fin 2304, a (ix2 k (y 0)) * b (ix2 k (y 1)) := by
  unfold out0_2
  rw [View.canon_unit_zero zero_offset, View.ld_unit_zero zero_offset, View.ld_unit_zero zero_offset]
  exact sum_tn a b y

/-- The call's result is the reference's. -/
theorem final (m : (ℓ : Loc nD τ sig) → Buf (Elt Ideal) ℓ) (c : Dev nD) : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (out_apply _ _ y).trans ?_
  simp only [val_main_v7_apply, val_main_v6_apply, val_main_v5_apply, val_main_v4_apply]
  refine Finset.sum_congr rfl fun k _ => ?_
  blk_simp [iblk, idx0, idx1]
  rw [V_main_arg0, V_main_arg1]
  refine congrArg₂ (· * ·) (at_entry _ ?_ (?_ : _ = ((win0_2.blk t).view.emb y 0).val))
    (at_entry _ ?_ (?_ : _ = ((win0_2.blk t).view.emb y 1).val))
  all_goals blk_simp [idx0, idx1, idx2]

end Cert.GateGradIdeal.Sums

/-! ### The up projection's gradient: dv against h. -/

namespace Cert.UpGradIdeal.Sums

open Cert.UpGradIdeal Cert.UpGradIdeal.Gen Cert.UpGradRefIdeal.Read

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The block that a point writes. -/
theorem out_apply (a : Vec Ideal S2304x1408 .bf16) (b : Vec Ideal S2304x1024 .bf16) (y : S1408x1024.Idx) :
    out0_2 a b y = ∑ k : Fin 2304, a (ix2 k (y 0)) * b (ix2 k (y 1)) := by
  unfold out0_2
  rw [View.canon_unit_zero zero_offset, View.ld_unit_zero zero_offset, View.ld_unit_zero zero_offset]
  exact sum_tn a b y

/-- The call's result is the reference's. -/
theorem final (m : (ℓ : Loc nD τ sig) → Buf (Elt Ideal) ℓ) (c : Dev nD) : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (out_apply _ _ y).trans ?_
  simp only [val_main_v7_apply, val_main_v6_apply, val_main_v5_apply, val_main_v4_apply]
  refine Finset.sum_congr rfl fun k _ => ?_
  blk_simp [iblk, idx0, idx1]
  rw [V_main_arg0, V_main_arg1]
  refine congrArg₂ (· * ·) (at_entry _ ?_ (?_ : _ = ((win0_2.blk t).view.emb y 0).val))
    (at_entry _ ?_ (?_ : _ = ((win0_2.blk t).view.emb y 1).val))
  all_goals blk_simp [idx0, idx1, idx2]

end Cert.UpGradIdeal.Sums

/-! ### The down projection's gradient: the activations against dy. -/

namespace Cert.DownGradIdeal.Sums

open Cert.DownGradIdeal Cert.DownGradIdeal.Gen Cert.DownGradRefIdeal.Read

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The block that a point writes. -/
theorem out_apply (a : Vec Ideal S2304x1408 .bf16) (b : Vec Ideal S2304x1024 .bf16) (y : S1408x1024.Idx) :
    out0_2 a b y = ∑ k : Fin 2304, a (ix2 k (y 0)) * b (ix2 k (y 1)) := by
  unfold out0_2
  rw [View.canon_unit_zero zero_offset, View.ld_unit_zero zero_offset, View.ld_unit_zero zero_offset]
  exact sum_tn a b y

/-- The call's result is the reference's. -/
theorem final (m : (ℓ : Loc nD τ sig) → Buf (Elt Ideal) ℓ) (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (out_apply _ _ y).trans ?_
  simp only [val_main_v6_apply, val_main_v5_apply, val_main_v4_apply]
  refine Finset.sum_congr rfl fun k _ => (mul_comm _ _).trans ?_
  blk_simp [iblk, idx0, idx1]
  rw [V_main_arg0, V_main_arg1]
  refine congrArg₂ (· * ·) (at_entry _ ?_ (?_ : _ = ((win0_2.blk t).view.emb y 1).val))
    (at_entry _ ?_ (?_ : _ = ((win0_2.blk t).view.emb y 0).val))
  all_goals blk_simp [idx0, idx1, idx2]

end Cert.DownGradIdeal.Sums

/-! ### The output projection's gradient: the merged branches against dy. -/

namespace Cert.OutGradIdeal.Sums

open Cert.OutGradIdeal Cert.OutGradIdeal.Gen Cert.OutGradRefIdeal.Read

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The block that a point writes. -/
theorem out_apply (a : Vec Ideal S2304x1152 .bf16) (b : Vec Ideal S2304x512 .bf16) (y : S1152x512.Idx) :
    out0_2 a b y = ∑ k : Fin 2304, a (ix2 k (y 0)) * b (ix2 k (y 1)) := by
  unfold out0_2
  rw [View.canon_unit_zero zero_offset, View.ld_unit_zero zero_offset, View.ld_unit_zero zero_offset]
  exact sum_tn a b y

/-- The call's result is the reference's. -/
theorem final (m : (ℓ : Loc nD τ sig) → Buf (Elt Ideal) ℓ) (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (out_apply _ _ y).trans ?_
  simp only [val_main_v6_apply, val_main_v5_apply, val_main_v4_apply]
  refine Finset.sum_congr rfl fun k _ => (mul_comm _ _).trans ?_
  blk_simp [iblk, idx0, idx1]
  rw [V_main_arg0, V_main_arg1]
  refine congrArg₂ (· * ·) (at_entry _ ?_ (?_ : _ = ((win0_2.blk t).view.emb y 1).val))
    (at_entry _ ?_ (?_ : _ = ((win0_2.blk t).view.emb y 0).val))
  all_goals blk_simp [idx0, idx1, idx2]

end Cert.OutGradIdeal.Sums

/-! ### The first branch's projection: channels 0 to 511 of y against du. -/

namespace Cert.HgGradIdeal.Sums

open Cert.HgGradIdeal Cert.HgGradIdeal.Gen Cert.HgGradRefIdeal.Read

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

/-- The block that a point writes. -/
theorem out_apply (a : Vec Ideal S2304x512 .bf16) (b : Vec Ideal S2304x1152 .bf16) (y : S512x1152.Idx) :
    out0_2 a b y = ∑ k : Fin 2304, a (ix2 k (y 0)) * b (ix2 k (y 1)) := by
  unfold out0_2
  rw [View.canon_unit_zero zero_offset, View.ld_unit_zero zero_offset, View.ld_unit_zero zero_offset]
  exact sum_tn a b y

/-- The call's result is the reference's. -/
theorem final (m : (ℓ : Loc nD τ sig) → Buf (Elt Ideal) ℓ) (c : Dev nD) : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (out_apply _ _ y).trans ?_
  simp only [val_main_v7_apply, val_main_v6_apply, val_main_v5_apply, val_main_v1_apply, val_main_v0_apply]
  refine Finset.sum_congr rfl fun k _ => (mul_comm _ _).trans ?_
  blk_simp [iblk, idx0, idx1]
  rw [V_main_arg0, V_main_arg1]
  refine congrArg₂ (· * ·) (at_entry _ ?_ (?_ : _ = ((win0_2.blk t).view.emb y 1).val))
    (at_entry _ ?_ (?_ : _ = ((win0_2.blk t).view.emb y 0).val))
  all_goals blk_simp [idx0, idx1, idx2]

end Cert.HgGradIdeal.Sums

/-! ### The second branch's projection: channels 512 to 1023 of y. -/

namespace Cert.GlaGradIdeal.Sums

open Cert.GlaGradIdeal Cert.GlaGradIdeal.Gen Cert.GlaGradRefIdeal.Read

theorem idx0 : ∀ t : Fin cfg0.N, win0_0.index t = ![0, 1] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

/-- The block that a point writes. -/
theorem out_apply (a : Vec Ideal S2304x512 .bf16) (b : Vec Ideal S2304x1152 .bf16) (y : S512x1152.Idx) :
    out0_2 a b y = ∑ k : Fin 2304, a (ix2 k (y 0)) * b (ix2 k (y 1)) := by
  unfold out0_2
  rw [View.canon_unit_zero zero_offset, View.ld_unit_zero zero_offset, View.ld_unit_zero zero_offset]
  exact sum_tn a b y

/-- The call's result is the reference's. -/
theorem final (m : (ℓ : Loc nD τ sig) → Buf (Elt Ideal) ℓ) (c : Dev nD) : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (out_apply _ _ y).trans ?_
  simp only [val_main_v7_apply, val_main_v6_apply, val_main_v5_apply, val_main_v1_apply, val_main_v0_apply]
  refine Finset.sum_congr rfl fun k _ => (mul_comm _ _).trans ?_
  blk_simp [iblk, idx0, idx1]
  rw [V_main_arg0, V_main_arg1]
  refine congrArg₂ (· * ·) (at_entry _ ?_ (?_ : _ = ((win0_2.blk t).view.emb y 1).val))
    (at_entry _ ?_ (?_ : _ = 512 + ((win0_2.blk t).view.emb y 0).val))
  all_goals blk_simp [idx0, idx1, idx2]

end Cert.GlaGradIdeal.Sums

end
-- ==== Proof.InBack.lean ====
/-
  The gradient of the input projection's operand: dp against the weights, contracted over their 7168 columns in two halves. The first
  point of a block leaves its half's product in the accumulator, the second adds its own and writes the sum.
-/
module

public import proofs.«01_k».proof.Proof.Gen.InBackIdeal.Value
public import proofs.«01_k».proof.Proof.Gen.InBackRefIdeal.Read
public import proofs.«01_k».proof.Proof.Products

@[expose] public section

set_option maxRecDepth 16384

noncomputable section

open Cert.Product Idealize.ShloMosaic Idealize.ShloMosaic.TcCoe
namespace Cert.InBackIdeal.Sums

open Cert.InBackIdeal Cert.InBackIdeal.Gen Cert.InBackRefIdeal.Read

variable {F : FTy → Type} [FloatOps F] (c : Dev nD) (i : grid0.Coords) (arg3 : Memref sig .tc .vmem S1152x3584 .bf16) (harg3 : arg3.IsWhole) (arg4 : Memref sig .tc .vmem S512x3584 .bf16) (harg4 : arg4.IsWhole) (arg5 : Memref sig .tc .vmem S1152x512 .bf16) (harg5 : arg5.IsWhole) (arg6 : Memref sig .tc .vmem S1152x512 .f32) (harg6 : arg6.IsWhole)

/-- What the first point of a block leaves in the accumulator. -/
theorem first (hc0 : cond0_0 i) (hc1 : ¬cond0_1 i) (hc2 : ¬cond0_2 i) (x0 : Vec F S1152x3584 .bf16) (x1 : Vec F S512x3584 .bf16) :
    sout0_A_0 c i arg3 harg3 arg4 harg4 arg5 harg5 arg6 harg6 hc0 hc1 hc2 x0 x1 = k0_pay2 x1 x0 := by
  unfold sout0_A_0
  rw [View.read_writes_junk_eq_canon]
  unfold kernelRun0_A
  dsimp only
  exact (View.canon_unit_zero zero_offset _ _).trans (congrArg₂ k0_pay2 (whole_load arg4 harg4 x1 _) (whole_load arg3 harg3 x0 _))

/-- What the second point writes. -/
theorem second (hc0 : ¬cond0_0 i) (hc1 : cond0_1 i) (hc2 : cond0_2 i) (x0 : Vec F S1152x3584 .bf16) (x1 : Vec F S512x3584 .bf16)
    (xs : Vec F S1152x512 .f32) :
    out0_B_2 c i arg3 harg3 arg4 harg4 arg5 harg5 arg6 harg6 hc0 hc1 hc2 x0 x1 xs = k0_pay4 (k0_pay3 x1 x0 xs) := by
  unfold out0_B_2
  rw [View.read_writes_junk_eq_canon]
  unfold kernelRun0_B
  dsimp only
  refine (View.canon_unit_zero zero_offset _ _).trans (congrArg k0_pay4 ?_)
  unfold kernelRun0_B.sl.v12 kernelRun0_B.sl.HS0_1
  refine (View.readCov_unit_zero _ zero_offset _ _).trans ?_
  rw [whole_load arg4 harg4 x1, whole_load arg3 harg3 x0]
  exact congrArg (k0_pay3 x1 x0) (whole_load arg6 harg6 xs _)

omit [FloatOps F]
theorem idx0 : ∀ t : Fin cfg0.N, win0_0.index t = ![t.val / 4, t.val % 2] := (by decide +kernel : ∀ t : Fin grid0.N, _)
theorem idx1 : ∀ t : Fin cfg0.N, win0_1.index t = ![t.val / 2 % 2, t.val % 2] := (by decide +kernel : ∀ t : Fin grid0.N, _)
theorem idx2 : ∀ t : Fin cfg0.N, win0_2.index t = ![t.val / 4, t.val / 2 % 2] := (by decide +kernel : ∀ t : Fin grid0.N, _)

/-- The same, entry by entry. -/
theorem pay_first (a : Vec Ideal S1152x3584 .bf16) (b : Vec Ideal S512x3584 .bf16) (y : S1152x512.Idx) :
    k0_pay2 b a y = ∑ k : Fin 3584, a (ix2 (y 0) k) * b (ix2 (y 1) k) := by
  unfold k0_pay2
  rw [shapeCast_self]
  exact sum_nt a b y
theorem pay_second (a : Vec Ideal S1152x3584 .bf16) (b : Vec Ideal S512x3584 .bf16) (s : Vec Ideal S1152x512 .f32) (y : S1152x512.Idx) :
    k0_pay4 (k0_pay3 b a s) y = s y + ∑ k : Fin 3584, a (ix2 (y 0) k) * b (ix2 (y 1) k) := by
  show shapeCast S1152x512 (addf s (k0_pay1 b a)) shapeCasts_S1152x512_S1152x512 y = _
  rw [shapeCast_self]
  exact congrArg (s y + ·) (sum_nt a b y)

/-- The call's result is the reference's. -/
theorem final (m : (ℓ : Loc nD τ sig) → Buf (Elt Ideal) ℓ) (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have ht : t.val - 1 < cfg0.N := Nat.lt_of_le_of_lt (Nat.sub_le _ _) t.isLt
  blk_simp
  rw [after0_2, outsAt0_B m c t (by omega) h1 h1]
  dsimp only
  rw [second, outsAt0_A m c ⟨t.val - 1, ht⟩ (by dsimp only; omega) (by dsimp only; omega) (by dsimp only; omega)]
  dsimp only
  rw [first]
  refine (pay_second _ _ _ y).trans ?_
  rw [pay_first]
  simp only [val_main_v5_apply, val_main_v4_apply]
  refine Eq.trans ?_ (sum_halves (n := 3584) rfl _).symm
  refine congrArg₂ (· + ·) (Finset.sum_congr rfl fun k _ => ?_) (Finset.sum_congr rfl fun k _ => ?_)
  all_goals
    blk_simp [iblk, idx0, idx1]
    rw [V_main_arg0, V_main_arg1]
    refine congrArg₂ (· * ·) (at_entry _ (?_ : _ = ((win0_2.blk t).view.emb y 0).val) ?_)
      (at_entry _ (?_ : _ = ((win0_2.blk t).view.emb y 1).val) ?_)
    all_goals blk_simp [idx0, idx1, idx2]
    all_goals try dsimp only
    all_goals first | omega | (show _ = k.val; omega) | (show _ = 3584 + k.val; omega)

end Cert.InBackIdeal.Sums
end
-- ==== Proof.FfnBack.lean ====
/-
  The gradient of the feed-forward's operand: du against the gate's weights plus dv against the up projection's. The first point of a
  block takes the first pair and leaves the product in the accumulator, the second takes the other pair, adds and writes the sum.
-/
module

public import proofs.«01_k».proof.Proof.Gen.FfnBackIdeal.Value
public import proofs.«01_k».proof.Proof.Gen.FfnBackRefIdeal.Read
public import proofs.«01_k».proof.Proof.Products

@[expose] public section

set_option maxRecDepth 16384

noncomputable section

open Cert.Product Idealize.ShloMosaic Idealize.ShloMosaic.TcCoe
namespace Cert.FfnBackIdeal.Sums

open Cert.FfnBackIdeal Cert.FfnBackIdeal.Gen Cert.FfnBackRefIdeal.Read

variable {F : FTy → Type} [FloatOps F] (c : Dev nD) (i : grid0.Coords) (arg3 : Memref sig .tc .vmem S1152x2816 .bf16) (harg3 : arg3.IsWhole) (arg4 : Memref sig .tc .vmem S1152x2816 .bf16) (harg4 : arg4.IsWhole) (arg5 : Memref sig .tc .vmem S2816x512 .bf16) (harg5 : arg5.IsWhole) (arg6 : Memref sig .tc .vmem S2816x512 .bf16) (harg6 : arg6.IsWhole) (arg7 : Memref sig .tc .vmem S1152x512 .bf16) (harg7 : arg7.IsWhole) (arg8 : Memref sig .tc .vmem S1152x512 .f32) (harg8 : arg8.IsWhole)

/-- What the first point of a block leaves in the accumulator. -/
theorem first (hc0 : cond0_0 i) (hc1 : ¬cond0_1 i) (hc2 : ¬cond0_2 i) (x0 : Vec F S1152x2816 .bf16) (x1 : Vec F S1152x2816 .bf16) (x2 : Vec F S2816x512 .bf16) (x3 : Vec F S2816x512 .bf16) :
    sout0_A_0 c i arg3 harg3 arg4 harg4 arg5 harg5 arg6 harg6 arg7 harg7 arg8 harg8 hc0 hc1 hc2 x0 x1 x2 x3 = k0_pay2 i x2 x3 x0 x1 := by
  unfold sout0_A_0
  rw [View.read_writes_junk_eq_canon]
  unfold kernelRun0_A
  dsimp only
  refine (View.canon_unit_zero zero_offset _ _).trans ?_
  rw [whole_load arg3 harg3 x0, whole_load arg4 harg4 x1, whole_load arg5 harg5 x2, whole_load arg6 harg6 x3]

/-- What the second point writes. -/
theorem second (hc0 : ¬cond0_0 i) (hc1 : cond0_1 i) (hc2 : cond0_2 i) (x0 : Vec F S1152x2816 .bf16) (x1 : Vec F S1152x2816 .bf16) (x2 : Vec F S2816x512 .bf16) (x3 : Vec F S2816x512 .bf16)
    (xs : Vec F S1152x512 .f32) :
    out0_B_4 c i arg3 harg3 arg4 harg4 arg5 harg5 arg6 harg6 arg7 harg7 arg8 harg8 hc0 hc1 hc2 x0 x1 x2 x3 xs = k0_pay4 (k0_pay3 i x2 x3 x0 x1 xs) := by
  unfold out0_B_4
  rw [View.read_writes_junk_eq_canon]
  unfold kernelRun0_B
  dsimp only
  refine (View.canon_unit_zero zero_offset _ _).trans (congrArg k0_pay4 ?_)
  unfold kernelRun0_B.sl.v18 kernelRun0_B.sl.HS0_1
  refine (View.readCov_unit_zero _ zero_offset _ _).trans ?_
  rw [whole_load arg3 harg3 x0, whole_load arg4 harg4 x1, whole_load arg5 harg5 x2, whole_load arg6 harg6 x3]
  exact congrArg (k0_pay3 i x2 x3 x0 x1) (whole_load arg8 harg8 xs _)

omit [FloatOps F]
theorem idx0 : ∀ t : Fin cfg0.N, win0_0.index t = ![t.val / 4, 0] := (by decide +kernel : ∀ t : Fin grid0.N, _)
theorem idx1 : ∀ t : Fin cfg0.N, win0_1.index t = ![t.val / 4, 0] := (by decide +kernel : ∀ t : Fin grid0.N, _)
theorem idx2 : ∀ t : Fin cfg0.N, win0_2.index t = ![0, t.val / 2 % 2] := (by decide +kernel : ∀ t : Fin grid0.N, _)
theorem idx3 : ∀ t : Fin cfg0.N, win0_3.index t = ![0, t.val / 2 % 2] := (by decide +kernel : ∀ t : Fin grid0.N, _)
theorem idx4 : ∀ t : Fin cfg0.N, win0_4.index t = ![t.val / 4, t.val / 2 % 2] := (by decide +kernel : ∀ t : Fin grid0.N, _)
/-- The first point of a block takes the first pair of operands, the second the other. -/
theorem takes : ∀ t : Fin cfg0.N, Scalar.cmpi .slt (BitVec.ofNat 32 (grid0.coords t 2).val) 1#32 = if t.val % 2 = 0 then 1#1 else 0#1 :=
  (by decide +kernel : ∀ t : Fin grid0.N, _)

/-- What they leave, entry by entry. -/
theorem pay_first (t : Fin cfg0.N) (h : t.val % 2 = 0) (a a' : Vec Ideal S1152x2816 .bf16) (b b' : Vec Ideal S2816x512 .bf16) (y : S1152x512.Idx) :
    k0_pay2 (grid0.coords t) b b' a a' y = ∑ k : Fin 2816, a (ix2 (y 0) k) * b (ix2 k (y 1)) := by
  unfold k0_pay2 k0_pay1
  rw [shapeCast_self]
  dsimp only
  rw [takes, if_pos h]
  exact sum_nn a b y
theorem pay_second (t : Fin cfg0.N) (h : t.val % 2 = 1) (a a' : Vec Ideal S1152x2816 .bf16) (b b' : Vec Ideal S2816x512 .bf16)
    (s : Vec Ideal S1152x512 .f32) (y : S1152x512.Idx) :
    k0_pay4 (k0_pay3 (grid0.coords t) b b' a a' s) y = s y + ∑ k : Fin 2816, a' (ix2 (y 0) k) * b' (ix2 k (y 1)) := by
  show shapeCast S1152x512 (addf s (k0_pay1 (grid0.coords t) b b' a a')) shapeCasts_S1152x512_S1152x512 y = _
  rw [shapeCast_self]
  refine congrArg (s y + ·) ?_
  unfold k0_pay1
  dsimp only
  rw [takes, if_neg (by omega)]
  exact sum_nn a' b' y

/-- The call's result is the reference's. -/
theorem final (m : (ℓ : Loc nD τ sig) → Buf (Elt Ideal) ℓ) (c : Dev nD) : (dats m 0 c).arrAt 4 cfg0.N
    = val_main_v12 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  have h1 : t.val % 2 = 1 := (flush0_4 t).mp hf
  have ht : t.val - 1 < cfg0.N := Nat.lt_of_le_of_lt (Nat.sub_le _ _) t.isLt
  blk_simp
  rw [after0_4, outsAt0_B m c t (by omega) h1 h1]
  dsimp only
  rw [second, outsAt0_A m c ⟨t.val - 1, ht⟩ (by dsimp only; omega) (by dsimp only; omega) (by dsimp only; omega)]
  dsimp only
  rw [first]
  refine (pay_second t h1 _ _ _ _ _ y).trans ?_
  rw [pay_first ⟨t.val - 1, ht⟩ (by dsimp only; omega)]
  simp only [val_main_v12_apply, val_main_v11_apply, val_main_v10_apply, val_main_v9_apply]
  refine Eq.trans ?_ (add_comm (∑ k : Fin 2816, _ * _) (∑ k : Fin 2816, _ * _))
  refine congrArg₂ (· + ·) (Finset.sum_congr rfl fun k _ => ?_) (Finset.sum_congr rfl fun k _ => ?_)
  all_goals
    simp only [val_main_v4_apply, val_main_v5_apply, val_main_v0_apply, val_main_v1_apply]
    blk_simp [iblk, idx0, idx1, idx2, idx3]
    first | rw [V_main_arg0, V_main_arg2] | rw [V_main_arg1, V_main_arg3]
    refine congrArg₂ (· * ·) (at_entry _ (?_ : _ = ((win0_4.blk t).view.emb y 0).val) ?_)
      (at_entry _ ?_ (?_ : _ = ((win0_4.blk t).view.emb y 1).val))
    all_goals blk_simp [idx0, idx1, idx2, idx3, idx4]
    all_goals try dsimp only
    all_goals first | omega | (show _ = k.val; omega)

end Cert.FfnBackIdeal.Sums
end
-- ==== Proof.ActBack.lean ====
/-
  The gradient of the activation: the gradient of the down projection's operand is one product, and the gradients of the gate's and the
  up projection's results are made of it entry by entry. Where the product's factors and v are finite, the kernel's factored derivative of `silu` is the
  reference's sum of two terms.
-/
module

public import proofs.«01_k».proof.Proof.Gen.ActBackIdeal.Value
public import proofs.«01_k».proof.Proof.Gen.ActBackRefIdeal.Read
public import proofs.«01_k».proof.Defs
public import proofs.«01_k».proof.Proof.Gen.Pre_finite_factors
public import proofs.«01_k».proof.Proof.Products

@[expose] public section

set_option maxRecDepth 16384

noncomputable section

open Cert.Product Idealize.ShloMosaic Idealize.ShloMosaic.TcCoe
namespace Cert.ActBackIdeal.Sums

open Cert.ActBackIdeal Cert.ActBackIdeal.Gen Cert.ActBackRefIdeal.Read

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)
theorem idx3 : ∀ t : Fin cfg0.N, win0_3.index t = ![t.val / 2, t.val % 2] := (by decide +kernel : ∀ t : Fin grid0.N, _)
theorem idx4 : ∀ t : Fin cfg0.N, win0_4.index t = ![t.val / 2, t.val % 2] := (by decide +kernel : ∀ t : Fin grid0.N, _)
theorem idx5 : ∀ t : Fin cfg0.N, win0_5.index t = ![t.val / 2, t.val % 2] := (by decide +kernel : ∀ t : Fin grid0.N, _)

/-- The product at a point's block is the reference's there. -/
theorem dact (m : (ℓ : Loc nD τ sig) → Buf (Elt Ideal) ℓ) (c : Dev nD) (t : Fin cfg0.N) (y : S1152x1408.Idx) (i : Cert.ActBackRefIdeal.S2304x2816.Idx)
    (h₀ : (i 0).val = t.val / 2 * 1152 + (y 0).val) (h₁ : (i 1).val = t.val % 2 * 1408 + (y 1).val) :
    k0_pay1 (iblk m c 0 t) (iblk m c 1 t) y = val_main_v7 (F := Ideal) (m ((c : Thread nD τ).loc main_arg0)) (m ((c : Thread nD τ).loc main_arg1)) i := by
  refine (sum_nt (iblk m c 0 t) (iblk m c 1 t) y).trans ?_
  rw [val_main_v7_apply]
  refine Finset.sum_congr rfl fun k _ => ?_
  blk_simp [iblk, idx0, idx1]
  rw [V_main_arg0, V_main_arg1]
  refine congrArg₂ (· * ·) (at_entry _ (?_ : _ = (i 0).val) ?_) (at_entry _ (?_ : _ = (i 1).val) ?_)
  all_goals blk_simp [idx0, idx1]
  all_goals omega

/-- An entry of the blocks of u and of v. -/
theorem at_u (m : (ℓ : Loc nD τ sig) → Buf (Elt Ideal) ℓ) (c : Dev nD) (t : Fin cfg0.N) (y : S1152x1408.Idx) (i : S2304x2816.Idx)
    (h₀ : (i 0).val = t.val / 2 * 1152 + (y 0).val) (h₁ : (i 1).val = t.val % 2 * 1408 + (y 1).val) :
    iblk m c 2 t y = m ((c : Thread nD τ).loc main_arg2) i := by
  blk_simp [iblk]
  rw [V_main_arg2]
  refine at_entry _ (?_ : _ = (i 0).val) (?_ : _ = (i 1).val)
  all_goals blk_simp [idx2]
  all_goals omega

theorem at_v (m : (ℓ : Loc nD τ sig) → Buf (Elt Ideal) ℓ) (c : Dev nD) (t : Fin cfg0.N) (y : S1152x1408.Idx) (i : S2304x2816.Idx)
    (h₀ : (i 0).val = t.val / 2 * 1152 + (y 0).val) (h₁ : (i 1).val = t.val % 2 * 1408 + (y 1).val) :
    iblk m c 3 t y = m ((c : Thread nD τ).loc main_arg3) i := by
  blk_simp [iblk]
  rw [V_main_arg3]
  refine at_entry _ (?_ : _ = (i 0).val) (?_ : _ = (i 1).val)
  all_goals blk_simp [idx3]
  all_goals omega

/-- No entry is infinite. -/
def NoInf {ι : Type} (x : ι → EReal) : Prop := ∀ i, x i ≠ ⊤ ∧ x i ≠ ⊥

/-- A product of finite operands is finite. -/
theorem sum_real {n : ℕ} {f g : Fin n → EReal} (hf : NoInf f) (hg : NoInf g) : (∑ k, f k * g k) ≠ ⊤ ∧ (∑ k, f k * g k) ≠ ⊥ := by
  refine Finset.sum_induction _ (fun x : EReal => x ≠ ⊤ ∧ x ≠ ⊥) (fun x y hx hy => ?_) ⟨EReal.coe_ne_top 0, EReal.coe_ne_bot 0⟩ fun k _ => ?_
  · lift x to ℝ using hx
    lift y to ℝ using hy
    exact ⟨EReal.coe_ne_top (x + y), EReal.coe_ne_bot (x + y)⟩
  · rw [← EReal.coe_toReal (hf k).1 (hf k).2, ← EReal.coe_toReal (hg k).1 (hg k).2, ← EReal.coe_mul]
    exact ⟨EReal.coe_ne_top _, EReal.coe_ne_bot _⟩

/-- What the reference writes for the logistic function is that function. -/
theorem sig_apply (u : FVec Ideal Cert.ActBackRefIdeal.S2304x2816 .bf16) (i : Cert.ActBackRefIdeal.S2304x2816.Idx) :
    val_main_v4_2 (F := Ideal) u i = Ideal.logistic (u i) := by
  rw [val_main_v4_2_apply, val_main_call0_v3_apply, val_main_call0_v4_apply,
    val_main_call0_v2_apply, val_main_call0_v1_apply, val_main_call0_v0_apply, val_main_call0_cst_apply, val_main_call0_cst_0_apply]
  show Ideal.div (Ideal.ofBits .f32 0x3F800000#32) (Ideal.ofBits .f32 0x3F800000#32 + Ideal.exp (-_)) = _
  rw [one_bits]
  rfl

theorem du_apply (a : FVec Ideal Cert.ActBackRefIdeal.S2304x1024 .bf16) (b : FVec Ideal Cert.ActBackRefIdeal.S2816x1024 .bf16) (u v : FVec Ideal Cert.ActBackRefIdeal.S2304x2816 .bf16)
    (i : Cert.ActBackRefIdeal.S2304x2816.Idx) :
    val_main_v11 (F := Ideal) a b u v i = (val_main_v7 (F := Ideal) a b i * v i) * Ideal.logistic (u i)
      + (u i * (val_main_v7 (F := Ideal) a b i * v i)) * (Ideal.logistic (u i) * (1 - Ideal.logistic (u i))) := by
  rw [val_main_v11_apply, val_main_v10_apply, val_main_call1_v1_apply, val_main_call1_v2_apply, val_main_call1_v0_apply, val_main_v9_apply,
    val_main_v4_1_apply, val_main_call0_v7_apply, val_main_call0_v6_apply, val_main_call0_cst_1_apply, sig_apply]
  show _ + _ * (_ * (Ideal.ofBits .f32 0x3F800000#32 - _)) = _
  rw [one_bits]
  rfl

/-- The two ways to write the derivative agree where what multiplies it is a real number, at infinite u too. -/
theorem factored {d v : EReal} (u : EReal) (hd : d ≠ ⊤ ∧ d ≠ ⊥) (hv : v ≠ ⊤ ∧ v ≠ ⊥) :
    d * v * (Ideal.logistic u * (1 + u * (1 - Ideal.logistic u)))
      = (d * v) * Ideal.logistic u + (u * (d * v)) * (Ideal.logistic u * (1 - Ideal.logistic u)) := by
  lift d to ℝ using hd
  lift v to ℝ using hv
  have none : (1 : EReal) - 1 = 0 := EReal.sub_self (EReal.coe_ne_top 1) (EReal.coe_ne_bot 1)
  induction u with
  | bot => rw [Ideal.logistic_bot, zero_mul, zero_mul, mul_zero, mul_zero, add_zero]
  | top => rw [Ideal.logistic_top, none, mul_zero, mul_zero, mul_zero, add_zero, add_zero, one_mul]
  | coe u =>
    rw [Ideal.logistic_coe]
    generalize (1 + Real.exp (-u))⁻¹ = s
    exact_mod_cast (by ring : d * v * (s * (1 + u * (1 - s))) = (d * v) * s + (u * (d * v)) * (s * (1 - s)))

/-- Finite factors. -/
structure Finite (m : (ℓ : Loc nD τ sig) → Buf (Elt Ideal) ℓ) (c : Dev nD) : Prop where
  a : NoInf (ι := S2304x1024.Idx) (m ((c : Thread nD τ).loc main_arg0))
  b : NoInf (ι := S2816x1024.Idx) (m ((c : Thread nD τ).loc main_arg1))
  v : NoInf (ι := S2304x2816.Idx) (m ((c : Thread nD τ).loc main_arg3))

theorem dact_real {m : (ℓ : Loc nD τ sig) → Buf (Elt Ideal) ℓ} {c : Dev nD} (h : Finite m c) (i : Cert.ActBackRefIdeal.S2304x2816.Idx) :
    (val_main_v7 (F := Ideal) (m ((c : Thread nD τ).loc main_arg0)) (m ((c : Thread nD τ).loc main_arg1)) i : EReal) ≠ ⊤
      ∧ (val_main_v7 (F := Ideal) (m ((c : Thread nD τ).loc main_arg0)) (m ((c : Thread nD τ).loc main_arg1)) i : EReal) ≠ ⊥ := by
  rw [val_main_v7_apply]
  exact sum_real (fun k => h.a _) (fun k => h.b _)

/-- The gradient of the gate's product. -/
theorem final0 (m : (ℓ : Loc nD τ sig) → Buf (Elt Ideal) ℓ) (c : Dev nD) (h : Finite m c) : (dats m 0 c).arrAt 4 cfg0.N
    = val_main_v11 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  unfold out0_4
  rw [View.canon_unit_zero zero_offset, View.ld_unit_zero zero_offset, View.ld_unit_zero zero_offset, View.ld_unit_zero zero_offset, View.ld_unit_zero zero_offset]
  rw [du_apply, ← factored _ (dact_real h _) (h.v _), ← dact m c t y _ ?_ ?_, ← at_u m c t y _ ?_ ?_, ← at_v m c t y _ ?_ ?_]
  · show _ * _ * (_ * (Ideal.ofBits .f32 0x3F800000#32 + _ * (Ideal.ofBits .f32 0x3F800000#32 - _))) = _
    rw [one_bits]
    rfl
  all_goals blk_simp [idx4]

/-- The gradient of the up projection's product. -/
theorem final1 (m : (ℓ : Loc nD τ sig) → Buf (Elt Ideal) ℓ) (c : Dev nD) (_ : Finite m c) : (dats m 0 c).arrAt 5 cfg0.N
    = val_main_v12 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold out0_5
  rw [View.canon_unit_zero zero_offset, View.ld_unit_zero zero_offset, View.ld_unit_zero zero_offset, View.ld_unit_zero zero_offset]
  rw [val_main_v12_apply, val_main_v8_apply, val_main_v4_0_apply, val_main_v2_apply, sig_apply, ← dact m c t y _ ?_ ?_, ← at_u m c t y _ ?_ ?_]
  · exact mul_comm (k0_pay1 (iblk m c 0 t) (iblk m c 1 t) y) _
  all_goals blk_simp [idx5]

theorem finite_of_abs (x : EReal) (h : BitVec.ofBool (decide (max x (-x) < Ideal.ofBits .f32 0x7F800000#32)) = 1#1) : x ≠ ⊤ ∧ x ≠ ⊥ := by
  rw [top_bits] at h
  have h' : max x (-x) < ⊤ := by
    by_contra hp
    rw [decide_eq_false hp] at h
    exact absurd h (by decide)
  refine ⟨?_, ?_⟩
  all_goals
    rintro rfl
    simp at h'

/-- The precondition's three parts, read at the operands. -/
theorem given {m : (ℓ : Loc nD τ sig) → Buf (Elt Ideal) ℓ} (h : Cert.Pre_ActBackIdeal_finite_factors (hPre_finite_factors := Cert.Pre_finite_factors.Gen.facts) m) (c : Dev nD) :
    Finite m c := by
  obtain ⟨h0, h1, h2⟩ := h c
  exact ⟨fun i => finite_of_abs _ (congrFun h0 i), fun i => finite_of_abs _ (congrFun h1 i), fun i => finite_of_abs _ (congrFun h2 i)⟩

end Cert.ActBackIdeal.Sums

end
-- ==== Proof.Forward.lean ====
/-
  The products that a grid point finishes by itself: the forward projections, and the gradient of the output projection's operand. A
  point multiplies its rows by its columns over the whole contracted axis; the blocks make up the reference's product.
-/
module

public import proofs.«01_k».proof.Proof.Gen.InFwdIdeal.Value
public import proofs.«01_k».proof.Proof.Gen.InFwdRefIdeal.Read
public import proofs.«01_k».proof.Proof.Gen.OutFwdIdeal.Value
public import proofs.«01_k».proof.Proof.Gen.OutFwdRefIdeal.Read
public import proofs.«01_k».proof.Proof.Gen.DownFwdIdeal.Value
public import proofs.«01_k».proof.Proof.Gen.DownFwdRefIdeal.Read
public import proofs.«01_k».proof.Proof.Gen.OutBackIdeal.Value
public import proofs.«01_k».proof.Proof.Gen.OutBackRefIdeal.Read
public import proofs.«01_k».proof.Proof.Products

@[expose] public section

set_option maxRecDepth 16384

noncomputable section

open Cert.Product Idealize.ShloMosaic Idealize.ShloMosaic.TcCoe

/-! ### The input projection. -/

namespace Cert.InFwdIdeal.Sums

open Cert.InFwdIdeal Cert.InFwdIdeal.Gen Cert.InFwdRefIdeal.Read

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The block that a point writes. -/
theorem out_apply (a : Vec Ideal S2304x1024 .bf16) (b : Vec Ideal S1024x1024 .bf16) (y : S2304x1024.Idx) :
    out0_2 a b y = ∑ k : Fin 1024, a (ix2 (y 0) k) * b (ix2 k (y 1)) := by
  unfold out0_2
  rw [View.canon_unit_zero zero_offset, View.ld_unit_zero zero_offset, View.ld_unit_zero zero_offset]
  exact sum_nn a b y

/-- The call's result is the reference's. -/
theorem final (m : (ℓ : Loc nD τ sig) → Buf (Elt Ideal) ℓ) (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (out_apply _ _ y).trans ?_
  simp only [val_main_v3_apply, val_main_v2_apply]
  refine Finset.sum_congr rfl fun k _ => ?_
  blk_simp [iblk, idx0, idx1]
  rw [V_main_arg0, V_main_arg1]
  refine congrArg₂ (· * ·) (at_entry _ (?_ : _ = ((win0_2.blk t).view.emb y 0).val) ?_)
    (at_entry _ ?_ (?_ : _ = ((win0_2.blk t).view.emb y 1).val))
  all_goals blk_simp [idx0, idx1, idx2]

end Cert.InFwdIdeal.Sums

/-! ### The mixer's output projection. -/

namespace Cert.OutFwdIdeal.Sums

open Cert.OutFwdIdeal Cert.OutFwdIdeal.Gen Cert.OutFwdRefIdeal.Read

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

/-- The block that a point writes. -/
theorem out_apply (a : Vec Ideal S1152x1152 .bf16) (b : Vec Ideal S1152x512 .bf16) (y : S1152x512.Idx) :
    out0_2 a b y = ∑ k : Fin 1152, a (ix2 (y 0) k) * b (ix2 k (y 1)) := by
  unfold out0_2
  rw [View.canon_unit_zero zero_offset, View.ld_unit_zero zero_offset, View.ld_unit_zero zero_offset]
  exact sum_nn a b y

/-- The call's result is the reference's. -/
theorem final (m : (ℓ : Loc nD τ sig) → Buf (Elt Ideal) ℓ) (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (out_apply _ _ y).trans ?_
  simp only [val_main_v3_apply, val_main_v2_apply]
  refine Finset.sum_congr rfl fun k _ => ?_
  blk_simp [iblk, idx0, idx1]
  rw [V_main_arg0, V_main_arg1]
  refine congrArg₂ (· * ·) (at_entry _ (?_ : _ = ((win0_2.blk t).view.emb y 0).val) ?_)
    (at_entry _ ?_ (?_ : _ = ((win0_2.blk t).view.emb y 1).val))
  all_goals blk_simp [idx0, idx1, idx2]

end Cert.OutFwdIdeal.Sums

/-! ### The feed-forward's down projection. -/

namespace Cert.DownFwdIdeal.Sums

open Cert.DownFwdIdeal Cert.DownFwdIdeal.Gen Cert.DownFwdRefIdeal.Read

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The block that a point writes. -/
theorem out_apply (a : Vec Ideal S2304x2816 .bf16) (b : Vec Ideal S2816x512 .bf16) (y : S2304x512.Idx) :
    out0_2 a b y = ∑ k : Fin 2816, a (ix2 (y 0) k) * b (ix2 k (y 1)) := by
  unfold out0_2
  rw [View.canon_unit_zero zero_offset, View.ld_unit_zero zero_offset, View.ld_unit_zero zero_offset]
  exact sum_nn a b y

/-- The call's result is the reference's. -/
theorem final (m : (ℓ : Loc nD τ sig) → Buf (Elt Ideal) ℓ) (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (out_apply _ _ y).trans ?_
  simp only [val_main_v3_apply, val_main_v2_apply]
  refine Finset.sum_congr rfl fun k _ => ?_
  blk_simp [iblk, idx0, idx1]
  rw [V_main_arg0, V_main_arg1]
  refine congrArg₂ (· * ·) (at_entry _ (?_ : _ = ((win0_2.blk t).view.emb y 0).val) ?_)
    (at_entry _ ?_ (?_ : _ = ((win0_2.blk t).view.emb y 1).val))
  all_goals blk_simp [idx0, idx1, idx2]

end Cert.DownFwdIdeal.Sums

/-! ### The gradient of the output projection's operand: dy against the weights, contracted over the output's channels. -/

namespace Cert.OutBackIdeal.Sums

open Cert.OutBackIdeal Cert.OutBackIdeal.Gen Cert.OutBackRefIdeal.Read

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The block that a point writes. -/
theorem out_apply (a : Vec Ideal S1152x1024 .bf16) (b : Vec Ideal S1152x1024 .bf16) (y : S1152x1152.Idx) :
    out0_2 a b y = ∑ k : Fin 1024, a (ix2 (y 0) k) * b (ix2 (y 1) k) := by
  unfold out0_2
  rw [View.canon_unit_zero zero_offset, View.ld_unit_zero zero_offset, View.ld_unit_zero zero_offset]
  exact sum_nt a b y

/-- The call's result is the reference's. -/
theorem final (m : (ℓ : Loc nD τ sig) → Buf (Elt Ideal) ℓ) (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (out_apply _ _ y).trans ?_
  simp only [val_main_v5_apply, val_main_v4_apply]
  refine Finset.sum_congr rfl fun k _ => ?_
  blk_simp [iblk, idx0, idx1]
  rw [V_main_arg0, V_main_arg1]
  refine congrArg₂ (· * ·) (at_entry _ (?_ : _ = ((win0_2.blk t).view.emb y 0).val) ?_)
    (at_entry _ (?_ : _ = ((win0_2.blk t).view.emb y 1).val) ?_)
  all_goals blk_simp [idx0, idx1, idx2]

end Cert.OutBackIdeal.Sums

end
-- ==== Proof.FfnFwd.lean ====
/-
  The feed-forward's first two products and its activation: a point multiplies its rows by the gate's and the up projection's columns,
  writes both, and writes `silu` of the first times the second.
-/
module

public import proofs.«01_k».proof.Proof.Gen.FfnFwdIdeal.Value
public import proofs.«01_k».proof.Proof.Gen.FfnFwdRefIdeal.Read
public import proofs.«01_k».proof.Proof.Products

@[expose] public section

set_option maxRecDepth 16384

noncomputable section

open Cert.Product Idealize.ShloMosaic Idealize.ShloMosaic.TcCoe
namespace Cert.FfnFwdIdeal.Sums

open Cert.FfnFwdIdeal Cert.FfnFwdIdeal.Gen Cert.FfnFwdRefIdeal.Read

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val % 2, 0] := (by decide +kernel : ∀ t : Fin grid0.N, _)
theorem idx3 : ∀ t : Fin cfg0.N, win0_3.index t = ![t.val / 2, t.val % 2] := (by decide +kernel : ∀ t : Fin grid0.N, _)
theorem idx4 : ∀ t : Fin cfg0.N, win0_4.index t = ![t.val / 2, t.val % 2] := (by decide +kernel : ∀ t : Fin grid0.N, _)
theorem idx5 : ∀ t : Fin cfg0.N, win0_5.index t = ![t.val / 2, t.val % 2] := (by decide +kernel : ∀ t : Fin grid0.N, _)

/-- The gate's product at a point's block is the reference's there. -/
theorem gate (m : (ℓ : Loc nD τ sig) → Buf (Elt Ideal) ℓ) (c : Dev nD) (t : Fin cfg0.N) (y : S1152x1408.Idx) (i : Cert.FfnFwdRefIdeal.S2304x2816.Idx)
    (h₀ : (i 0).val = t.val / 2 * 1152 + (y 0).val) (h₁ : (i 1).val = t.val % 2 * 1408 + (y 1).val) :
    k0_pay1 (iblk m c 0 t) (iblk m c 1 t) y = val_main_v5 (F := Ideal) (m ((c : Thread nD τ).loc main_arg0)) (m ((c : Thread nD τ).loc main_arg1)) i := by
  refine (sum_nt (iblk m c 0 t) (iblk m c 1 t) y).trans ?_
  simp only [val_main_v5_apply, val_main_v3_apply, val_main_v0_apply]
  refine Finset.sum_congr rfl fun k _ => ?_
  blk_simp [iblk, idx0, idx1]
  rw [V_main_arg0, V_main_arg1]
  refine congrArg₂ (· * ·) (at_entry _ (?_ : _ = (i 0).val) ?_) (at_entry _ (?_ : _ = (i 1).val) ?_)
  all_goals blk_simp [idx0, idx1]
  all_goals omega

/-- The up projection's. -/
theorem up (m : (ℓ : Loc nD τ sig) → Buf (Elt Ideal) ℓ) (c : Dev nD) (t : Fin cfg0.N) (y : S1152x1408.Idx) (i : Cert.FfnFwdRefIdeal.S2304x2816.Idx)
    (h₀ : (i 0).val = t.val / 2 * 1152 + (y 0).val) (h₁ : (i 1).val = t.val % 2 * 1408 + (y 1).val) :
    k0_pay2 (iblk m c 0 t) (iblk m c 2 t) y = val_main_v6 (F := Ideal) (m ((c : Thread nD τ).loc main_arg0)) (m ((c : Thread nD τ).loc main_arg2)) i := by
  refine (sum_nt (iblk m c 0 t) (iblk m c 2 t) y).trans ?_
  simp only [val_main_v6_apply, val_main_v4_apply, val_main_v1_apply]
  refine Finset.sum_congr rfl fun k _ => ?_
  blk_simp [iblk, idx0, idx2]
  rw [V_main_arg0, V_main_arg2]
  refine congrArg₂ (· * ·) (at_entry _ (?_ : _ = (i 0).val) ?_) (at_entry _ (?_ : _ = (i 1).val) ?_)
  all_goals blk_simp [idx0, idx2]
  all_goals omega

/-- The gate's product. -/
theorem final0 (m : (ℓ : Loc nD τ sig) → Buf (Elt Ideal) ℓ) (c : Dev nD) : (dats m 0 c).arrAt 3 cfg0.N
    = val_main_v9 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  unfold out0_3
  rw [View.canon_unit_zero zero_offset, View.ld_unit_zero zero_offset, View.ld_unit_zero zero_offset]
  rw [val_main_v9_apply]
  refine gate m c t y _ ?_ ?_
  all_goals blk_simp [idx3]

/-- The up projection's product. -/
theorem final1 (m : (ℓ : Loc nD τ sig) → Buf (Elt Ideal) ℓ) (c : Dev nD) : (dats m 0 c).arrAt 4 cfg0.N
    = val_main_v10 (F := Ideal) (m ((c : Thread nD τ).loc main_arg0)) (m ((c : Thread nD τ).loc main_arg2)) := by
  refine (dats m 0 c).arrAt_eq_of_covers 4 _ (by decide +kernel) fun t hf y => ?_
  blk_simp
  rw [after0_4]
  unfold out0_4
  rw [View.canon_unit_zero zero_offset, View.ld_unit_zero zero_offset, View.ld_unit_zero zero_offset]
  rw [val_main_v10_apply]
  refine up m c t y _ ?_ ?_
  all_goals blk_simp [idx4]

/-- What the reference writes for the logistic function is that function. -/
theorem act_apply (a : FVec Ideal Cert.FfnFwdRefIdeal.S2304x1024 .bf16) (b b' : FVec Ideal Cert.FfnFwdRefIdeal.S2816x1024 .bf16) (i : Cert.FfnFwdRefIdeal.S2304x2816.Idx) :
    val_main_v11 (F := Ideal) a b b' i = val_main_v5 (F := Ideal) a b i * Ideal.logistic (val_main_v5 (F := Ideal) a b i) * val_main_v6 (F := Ideal) a b' i := by
  rw [val_main_v11_apply, val_main_v8_apply, val_main_v7_apply, val_main_call0_v5_apply, val_main_call0_v3_apply, val_main_call0_v4_apply,
    val_main_call0_v2_apply, val_main_call0_v1_apply, val_main_call0_v0_apply, val_main_call0_cst_apply, val_main_call0_cst_0_apply]
  show _ * Ideal.div (Ideal.ofBits .f32 0x3F800000#32) (Ideal.ofBits .f32 0x3F800000#32 + Ideal.exp (-_)) * _ = _
  rw [one_bits]
  rfl

/-- The activation. -/
theorem final2 (m : (ℓ : Loc nD τ sig) → Buf (Elt Ideal) ℓ) (c : Dev nD) : (dats m 0 c).arrAt 5 cfg0.N
    = val_main_v11 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold out0_5
  rw [View.canon_unit_zero zero_offset, View.ld_unit_zero zero_offset, View.ld_unit_zero zero_offset, View.ld_unit_zero zero_offset]
  rw [act_apply, ← gate m c t y _ ?_ ?_, ← up m c t y _ ?_ ?_]
  · rfl
  all_goals blk_simp [idx5]

end Cert.FfnFwdIdeal.Sums

end
-- ==== Proof.Gates.lean ====
/-
  What the merge of the two branches shares with its backward pass: a row's gates come in three pieces of 512, 512 and 128 columns, set
  side by side, and the reference writes the logistic function out.
-/
module

public import proofs.«01_k».proof.Proof.Products

@[expose] public section

noncomputable section

namespace Cert.Product

open Idealize.ShloMosaic

/-- Three pieces side by side, read where one of them lies: whatever each piece holds there, the whole holds. -/
theorem side_by_side {α : Type} (a b : (⟨2, ![256, 512]⟩ : Shape).Idx → α) (c : (⟨2, ![256, 128]⟩ : Shape).Idx → α)
    (h : Shape.Concatenates [⟨2, ![256, 512]⟩, ⟨2, ![256, 512]⟩, ⟨2, ![256, 128]⟩] ⟨2, ![256, 1152]⟩ 1) (y : (⟨2, ![256, 1152]⟩ : Shape).Idx) (v : α)
    (ha : ∀ z, (z 0).val = (y 0).val → (z 1).val = (y 1).val → a z = v)
    (hb : ∀ z, (z 0).val = (y 0).val → 512 + (z 1).val = (y 1).val → b z = v)
    (hc : ∀ z, (z 0).val = (y 0).val → 1024 + (z 1).val = (y 1).val → c z = v) :
    concatenate ⟨2, ![256, 1152]⟩ 1 [⟨⟨2, ![256, 512]⟩, a⟩, ⟨⟨2, ![256, 512]⟩, b⟩, ⟨⟨2, ![256, 128]⟩, c⟩] h y = v := by
  have hy : (y 1).val < 1152 := (y 1).isLt
  by_cases h1 : (y 1).val < 512
  · refine (concatenate_apply_piece (t := ⟨2, ![256, 1152]⟩) 1 [⟨⟨2, ![256, 512]⟩, a⟩, ⟨⟨2, ![256, 512]⟩, b⟩, ⟨⟨2, ![256, 128]⟩, c⟩] h y 0 (by simp) _ a rfl rfl 0 rfl (ix2 (y 0 : Fin 256) ⟨(y 1).val, h1⟩)
      (fun x hx => match x with
        | ⟨0, _⟩ => rfl
        | ⟨1, _⟩ => absurd rfl hx) (Nat.zero_add _)).trans (ha _ rfl rfl)
  by_cases h2 : (y 1).val < 1024
  · refine (concatenate_apply_piece (t := ⟨2, ![256, 1152]⟩) 1 [⟨⟨2, ![256, 512]⟩, a⟩, ⟨⟨2, ![256, 512]⟩, b⟩, ⟨⟨2, ![256, 128]⟩, c⟩] h y 1 (by simp) _ b rfl rfl 512 rfl (ix2 (y 0 : Fin 256) ⟨(y 1).val - 512, by omega⟩)
      (fun x hx => match x with
        | ⟨0, _⟩ => rfl
        | ⟨1, _⟩ => absurd rfl hx) (show 512 + ((y 1).val - 512) = (y 1).val by omega)).trans (hb _ rfl (show 512 + ((y 1).val - 512) = (y 1).val by omega))
  · refine (concatenate_apply_piece (t := ⟨2, ![256, 1152]⟩) 1 [⟨⟨2, ![256, 512]⟩, a⟩, ⟨⟨2, ![256, 512]⟩, b⟩, ⟨⟨2, ![256, 128]⟩, c⟩] h y 2 (by simp) _ c rfl rfl 1024 rfl (ix2 (y 0 : Fin 256) ⟨(y 1).val - 1024, by omega⟩)
      (fun x hx => match x with
        | ⟨0, _⟩ => rfl
        | ⟨1, _⟩ => absurd rfl hx) (show 1024 + ((y 1).val - 1024) = (y 1).val by omega)).trans (hc _ rfl (show 1024 + ((y 1).val - 1024) = (y 1).val by omega))

/-- What the reference writes for the logistic function is that function. -/
theorem written_logistic (x : EReal) :
    Ideal.div (Ideal.ofBits .f32 0x3F800000#32) (Ideal.ofBits .f32 0x3F800000#32 + Ideal.exp (-x)) = Ideal.logistic x := by
  rw [one_bits]
  rfl

end Cert.Product

end
-- ==== Proof.BranchBack.lean ====
/-
  The backward pass of the merge of the two branches: the gradients of the branches' outputs and of their gates are made entry by entry
  from the merge's gradient, and two products take the outputs' gradients back through the branches' projections.
-/
module

public import proofs.«01_k».proof.Proof.Gen.BranchBackIdeal.Value
public import proofs.«01_k».proof.Proof.Gen.BranchBackRefIdeal.Read
public import proofs.«01_k».proof.Proof.Gates

@[expose] public section

set_option maxRecDepth 16384

noncomputable section

open Cert.Product Idealize.ShloMosaic Idealize.ShloMosaic.TcCoe
namespace Cert.BranchBackIdeal.Sums

open Cert.BranchBackIdeal Cert.BranchBackIdeal.Gen Cert.BranchBackRefIdeal.Read

theorem idx0 : ∀ t : Fin cfg0.N, win0_0.index t = ![t.val, 0] := (by decide +kernel : ∀ t : Fin grid0.N, _)
theorem idx1 : ∀ t : Fin cfg0.N, win0_1.index t = ![t.val, 9] := (by decide +kernel : ∀ t : Fin grid0.N, _)
theorem idx2 : ∀ t : Fin cfg0.N, win0_2.index t = ![t.val, 10] := (by decide +kernel : ∀ t : Fin grid0.N, _)
theorem idx3 : ∀ t : Fin cfg0.N, win0_3.index t = ![t.val, 44] := (by decide +kernel : ∀ t : Fin grid0.N, _)
theorem idx4 : ∀ t : Fin cfg0.N, win0_4.index t = ![t.val, 11] := (by decide +kernel : ∀ t : Fin grid0.N, _)
theorem idx5 : ∀ t : Fin cfg0.N, win0_5.index t = ![t.val, 12] := (by decide +kernel : ∀ t : Fin grid0.N, _)
theorem idx6 : ∀ t : Fin cfg0.N, win0_6.index t = ![t.val, 52] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)

/-- The reference's gates. -/
theorem ref_hg (p : FVec Ideal Cert.BranchBackRefIdeal.S2304x7168 .bf16) (i : Cert.BranchBackRefIdeal.S2304x1152.Idx) :
    val_main_v13 (F := Ideal) p i = Ideal.logistic (p (idx_main_v6 i)) := by
  rw [val_main_v13_apply, val_main_v12_apply, val_main_v11_apply, val_main_v10_apply, val_main_v9_apply, val_main_v8_apply, val_main_v6_apply,
    val_main_v1_apply, val_main_cst_apply, val_main_cst_0_apply]
  exact written_logistic _

theorem ref_gla (p : FVec Ideal Cert.BranchBackRefIdeal.S2304x7168 .bf16) (i : Cert.BranchBackRefIdeal.S2304x1152.Idx) :
    val_main_v23 (F := Ideal) p i = Ideal.logistic (p (idx_main_v7 i)) := by
  rw [val_main_v23_apply, val_main_v22_apply, val_main_v21_apply, val_main_v20_apply, val_main_v19_apply, val_main_v18_apply, val_main_v7_apply,
    val_main_v1_apply, val_main_cst_2_apply, val_main_cst_3_apply]
  exact written_logistic _

variable (m : (ℓ : Loc nD τ sig) → Buf (Elt Ideal) ℓ) (c : Dev nD) (t : Fin cfg0.N) (y : S256x1152.Idx) (i : S2304x1152.Idx)

/-- The gates at a point's block are the reference's there. -/
theorem gate_hg (h₀ : (i 0).val = t.val * 256 + (y 0).val) (h₁ : (i 1).val = (y 1).val) :
    k0_pay5 (iblk m c 1 t) (iblk m c 2 t) (iblk m c 3 t) y = val_main_v13 (F := Ideal) (m ((c : Thread nD τ).loc main_arg1)) i := by
  rw [ref_hg]
  refine congrArg Ideal.logistic (side_by_side (iblk m c 1 t) (iblk m c 2 t) (iblk m c 3 t) _ y _ ?_ ?_ ?_)
  all_goals
    intro z e₀ e₁
    blk_simp [iblk]
    rw [V_main_arg1]
    refine at_entry _ (?_ : _ = (i 0).val) (?_ : _ = 4608 + (i 1).val)
    all_goals blk_simp [idx1, idx2, idx3]
    all_goals omega

theorem gate_gla (h₀ : (i 0).val = t.val * 256 + (y 0).val) (h₁ : (i 1).val = (y 1).val) :
    k0_pay6 (iblk m c 4 t) (iblk m c 5 t) (iblk m c 6 t) y = val_main_v23 (F := Ideal) (m ((c : Thread nD τ).loc main_arg1)) i := by
  rw [ref_gla]
  refine congrArg Ideal.logistic (side_by_side (iblk m c 4 t) (iblk m c 5 t) (iblk m c 6 t) _ y _ ?_ ?_ ?_)
  all_goals
    intro z e₀ e₁
    blk_simp [iblk]
    rw [V_main_arg1]
    refine at_entry _ (?_ : _ = (i 0).val) (?_ : _ = 5632 + (i 1).val)
    all_goals blk_simp [idx4, idx5, idx6]
    all_goals omega

/-- An entry of the merge's gradient and of the branches' outputs. -/
theorem at_dm (h₀ : (i 0).val = t.val * 256 + (y 0).val) (h₁ : (i 1).val = (y 1).val) :
    iblk m c 0 t y = m ((c : Thread nD τ).loc main_arg0) i := by
  blk_simp [iblk]
  rw [V_main_arg0]
  refine at_entry _ (?_ : _ = (i 0).val) (?_ : _ = (i 1).val)
  all_goals blk_simp [idx0]
  all_goals omega

theorem at_hg (h₀ : (i 0).val = t.val * 256 + (y 0).val) (h₁ : (i 1).val = (y 1).val) :
    iblk m c 7 t y = m ((c : Thread nD τ).loc main_arg2) i := by
  blk_simp [iblk]
  rw [V_main_arg2]
  refine at_entry _ (?_ : _ = (i 0).val) (?_ : _ = (i 1).val)
  all_goals blk_simp [idx7]
  all_goals omega

theorem at_gla (h₀ : (i 0).val = t.val * 256 + (y 0).val) (h₁ : (i 1).val = (y 1).val) :
    iblk m c 8 t y = m ((c : Thread nD τ).loc main_arg3) i := by
  blk_simp [iblk]
  rw [V_main_arg3]
  refine at_entry _ (?_ : _ = (i 0).val) (?_ : _ = (i 1).val)
  all_goals blk_simp [idx8]
  all_goals omega

/-- The gradients of the branches' outputs at a point's block. -/
theorem d_hg (h₀ : (i 0).val = t.val * 256 + (y 0).val) (h₁ : (i 1).val = (y 1).val) :
    k0_pay7 (iblk m c 0 t) (iblk m c 1 t) (iblk m c 2 t) (iblk m c 3 t) y
      = val_main_v32 (F := Ideal) (m ((c : Thread nD τ).loc main_arg0)) (m ((c : Thread nD τ).loc main_arg1)) i := by
  rw [val_main_v32_apply, val_main_v0_apply, ← gate_hg m c t y i h₀ h₁, ← at_dm m c t y i h₀ h₁]
  exact mul_comm (G := EReal) _ _

theorem d_gla (h₀ : (i 0).val = t.val * 256 + (y 0).val) (h₁ : (i 1).val = (y 1).val) :
    k0_pay8 (iblk m c 0 t) (iblk m c 4 t) (iblk m c 5 t) (iblk m c 6 t) y
      = val_main_v29 (F := Ideal) (m ((c : Thread nD τ).loc main_arg0)) (m ((c : Thread nD τ).loc main_arg1)) i := by
  rw [val_main_v29_apply, val_main_v0_apply, ← gate_gla m c t y i h₀ h₁, ← at_dm m c t y i h₀ h₁]
  exact mul_comm (G := EReal) _ _

/-- The gradients of the gates at a point's block. -/
theorem d_gate_hg (h₀ : (i 0).val = t.val * 256 + (y 0).val) (h₁ : (i 1).val = (y 1).val) :
    k0_pay9 (iblk m c 0 t) (iblk m c 1 t) (iblk m c 2 t) (iblk m c 3 t) (iblk m c 7 t) y
      = val_main_v34 (F := Ideal) (m ((c : Thread nD τ).loc main_arg0)) (m ((c : Thread nD τ).loc main_arg1)) (m ((c : Thread nD τ).loc main_arg2)) i := by
  rw [val_main_v34_apply, val_main_v33_apply, val_main_v16_apply, val_main_v15_apply, val_main_v14_apply, val_main_cst_1_apply, val_main_v0_apply,
    val_main_v2_apply, ← gate_hg m c t y i h₀ h₁, ← at_dm m c t y i h₀ h₁, ← at_hg m c t y i h₀ h₁]
  exact mul_assoc (G := EReal) _ _ _

theorem d_gate_gla (h₀ : (i 0).val = t.val * 256 + (y 0).val) (h₁ : (i 1).val = (y 1).val) :
    k0_pay1 (k0_pay4 (iblk m c 0 t)) (k0_pay6 (iblk m c 4 t) (iblk m c 5 t) (iblk m c 6 t)) (iblk m c 8 t) y
      = val_main_v31 (F := Ideal) (m ((c : Thread nD τ).loc main_arg0)) (m ((c : Thread nD τ).loc main_arg1)) (m ((c : Thread nD τ).loc main_arg3)) i := by
  rw [val_main_v31_apply, val_main_v30_apply, val_main_v26_apply, val_main_v25_apply, val_main_v24_apply, val_main_cst_4_apply, val_main_v0_apply,
    val_main_v3_apply, ← gate_gla m c t y i h₀ h₁, ← at_dm m c t y i h₀ h₁, ← at_gla m c t y i h₀ h₁]
  exact mul_assoc (G := EReal) _ _ _

omit t y i

/-- The gradients of the branches' outputs. -/
theorem final0 : (dats m 0 c).arrAt 11 cfg0.N
    = val_main_v41 (F := Ideal) (m ((c : Thread nD τ).loc main_arg0)) (m ((c : Thread nD τ).loc main_arg1)) := by
  refine (dats m 0 c).arrAt_eq_of_covers 11 _ (by decide +kernel) fun t hf y => ?_
  blk_simp
  rw [after0_11]
  unfold out0_11
  rw [View.canon_unit_zero zero_offset, View.ld_unit_zero zero_offset, View.ld_unit_zero zero_offset, View.ld_unit_zero zero_offset, View.ld_unit_zero zero_offset]
  refine d_hg m c t y _ ?_ ?_
  all_goals blk_simp [idx11]

theorem final1 : (dats m 0 c).arrAt 12 cfg0.N
    = val_main_v42 (F := Ideal) (m ((c : Thread nD τ).loc main_arg0)) (m ((c : Thread nD τ).loc main_arg1)) := by
  refine (dats m 0 c).arrAt_eq_of_covers 12 _ (by decide +kernel) fun t hf y => ?_
  blk_simp
  rw [after0_12]
  unfold out0_12
  rw [View.canon_unit_zero zero_offset, View.ld_unit_zero zero_offset, View.ld_unit_zero zero_offset, View.ld_unit_zero zero_offset, View.ld_unit_zero zero_offset]
  refine d_gla m c t y _ ?_ ?_
  all_goals blk_simp [idx12]

/-- The reference's gate gradients, side by side. -/
theorem ref_gates (dm u v : FVec Ideal Cert.BranchBackRefIdeal.S2304x1152 .bf16) (p : FVec Ideal Cert.BranchBackRefIdeal.S2304x7168 .bf16)
    (i : Cert.BranchBackRefIdeal.S2304x2304.Idx) :
    (∀ h : (i 1).val < 1152, val_main_v43 (F := Ideal) dm p u v i = val_main_v34 (F := Ideal) dm p u (ix2 (i 0 : Fin 2304) ⟨(i 1).val, h⟩))
      ∧ (∀ h : 1152 ≤ (i 1).val, val_main_v43 (F := Ideal) dm p u v i
        = val_main_v31 (F := Ideal) dm p v (ix2 (i 0 : Fin 2304) ⟨(i 1).val - 1152, by have := (i 1).isLt; change _ < 2304 at this; omega⟩)) := by
  rw [val_main_v43_apply]
  refine ⟨fun h => ?_, fun h => ?_⟩
  · exact concatenate_apply_piece (t := Cert.BranchBackRefIdeal.S2304x2304) 1 [⟨Cert.BranchBackRefIdeal.S2304x1152, val_main_v34 (F := Ideal) dm p u⟩, ⟨Cert.BranchBackRefIdeal.S2304x1152, val_main_v31 (F := Ideal) dm p v⟩]
      Cert.BranchBackRefIdeal.Facts₀.concatenates_S2304x1152_S2304x1152_S2304x2304_d1 i 0 (by simp) _ (val_main_v34 (F := Ideal) dm p u) rfl rfl 0 rfl _
      (fun x hx => match x with
        | ⟨0, _⟩ => rfl
        | ⟨1, _⟩ => absurd rfl hx) (Nat.zero_add _)
  · exact concatenate_apply_piece (t := Cert.BranchBackRefIdeal.S2304x2304) 1 [⟨Cert.BranchBackRefIdeal.S2304x1152, val_main_v34 (F := Ideal) dm p u⟩, ⟨Cert.BranchBackRefIdeal.S2304x1152, val_main_v31 (F := Ideal) dm p v⟩]
      Cert.BranchBackRefIdeal.Facts₀.concatenates_S2304x1152_S2304x1152_S2304x2304_d1 i 1 (by simp) _ (val_main_v31 (F := Ideal) dm p v) rfl rfl 1152 rfl _
      (fun x hx => match x with
        | ⟨0, _⟩ => rfl
        | ⟨1, _⟩ => absurd rfl hx) (show 1152 + ((i 1).val - 1152) = (i 1).val by omega)

/-- Two arrays side by side. -/
def sides (a b : Vec Ideal S256x1152 .bf16) (y : S256x2304.Idx) : Elt Ideal .bf16 :=
  if h : (y 1).val < 1152 then a (ix2 (y 0 : Fin 256) ⟨(y 1).val, h⟩)
  else b (ix2 (y 0 : Fin 256) ⟨(y 1).val - 1152, by have := (y 1).isLt; change _ < 2304 at this; omega⟩)

/-- The two stores of a block are that. -/
theorem stores (a b : Vec Ideal S256x1152 .bf16) (y : S256x2304.Idx) : View.canon [⟨r0_4, b⟩, ⟨r0_3, a⟩] y = sides a b y := by
  refine View.canon_apply_of_pieces (sides a b) _ ?_ y (cover0_13 b a y)
  intro p hp x
  simp only [List.mem_cons, List.not_mem_nil, or_false] at hp
  rcases hp with rfl | rfl
  · have e₀ : ((r0_4.emb x) 0).val = (x 0).val := show 0 + 1 * (x 0).val = (x 0).val by omega
    have e₁ : ((r0_4.emb x) 1).val = 1152 + (x 1).val := show 1152 + 1 * (x 1).val = 1152 + (x 1).val by omega
    unfold sides
    rw [dif_neg (fun h : ((r0_4.emb x) 1).val < 1152 => by omega)]
    exact at_entry b e₀.symm (show (x 1).val = ((r0_4.emb x) 1).val - 1152 by omega)
  · have e₀ : ((r0_3.emb x) 0).val = (x 0).val := show 0 + 1 * (x 0).val = (x 0).val by omega
    have e₁ : ((r0_3.emb x) 1).val = (x 1).val := show 0 + 1 * (x 1).val = (x 1).val by omega
    have hx : (x 1).val < 1152 := (x 1).isLt
    unfold sides
    rw [dif_pos (show ((r0_3.emb x) 1).val < 1152 by omega)]
    exact at_entry a e₀.symm e₁.symm

/-- The gradients of the gates. -/
theorem final2 : (dats m 0 c).arrAt 13 cfg0.N
    = val_main_v43 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 13 _ (by decide +kernel) fun t hf y => ?_
  blk_simp
  rw [after0_13]
  unfold out0_13
  rw [View.ld_unit_zero zero_offset, View.ld_unit_zero zero_offset, View.ld_unit_zero zero_offset, View.ld_unit_zero zero_offset, View.ld_unit_zero zero_offset,
    View.ld_unit_zero zero_offset, View.ld_unit_zero zero_offset, View.ld_unit_zero zero_offset, View.ld_unit_zero zero_offset]
  rw [stores]
  unfold sides
  by_cases h : (y 1).val < 1152
  · rw [dif_pos h, (ref_gates _ _ _ _ _).1 ?_]
    · refine d_gate_hg m c t _ _ ?_ ?_
      all_goals blk_simp [idx13]
    · blk_simp [idx13]
      exact h
  · rw [dif_neg h, (ref_gates _ _ _ _ _).2 ?_]
    · refine d_gate_gla m c t _ _ ?_ ?_
      all_goals blk_simp [idx13]
    · blk_simp [idx13]
      omega

/-- The gradients of the branches' inputs. -/
theorem final3 : (dats m 0 c).arrAt 14 cfg0.N
    = val_main_v44 (F := Ideal) (m ((c : Thread nD τ).loc main_arg0)) (m ((c : Thread nD τ).loc main_arg1)) (m ((c : Thread nD τ).loc main_arg4)) := by
  refine (dats m 0 c).arrAt_eq_of_covers 14 _ (by decide +kernel) fun t hf y => ?_
  blk_simp
  rw [after0_14]
  unfold out0_14
  rw [View.canon_unit_zero zero_offset, View.ld_unit_zero zero_offset, View.ld_unit_zero zero_offset, View.ld_unit_zero zero_offset, View.ld_unit_zero zero_offset, View.ld_unit_zero zero_offset]
  refine (sum_nt (k0_pay7 (iblk m c 0 t) (iblk m c 1 t) (iblk m c 2 t) (iblk m c 3 t)) (iblk m c 9 t) y).trans ?_
  rw [val_main_v44_apply, val_main_v39_apply]
  refine Finset.sum_congr rfl fun k _ => ?_
  have e₀ : (((win0_14.blk t).view.emb y) 0).val = t.val * 256 + (y 0).val := by blk_simp [idx14]
  have e₁ : (((win0_14.blk t).view.emb y) 1).val = (y 1).val := by blk_simp [idx14]
  refine congrArg₂ (· * ·) (d_hg m c t _ _ e₀ rfl) ?_
  rw [val_main_v4_apply]
  blk_simp [iblk]
  rw [V_main_arg4]
  refine at_entry _ (?_ : _ = (((win0_14.blk t).view.emb y) 1).val) ?_
  all_goals blk_simp [idx9, idx14]

theorem final4 : (dats m 0 c).arrAt 15 cfg0.N
    = val_main_v45 (F := Ideal) (m ((c : Thread nD τ).loc main_arg0)) (m ((c : Thread nD τ).loc main_arg1)) (m ((c : Thread nD τ).loc main_arg5)) := by
  refine (dats m 0 c).arrAt_eq_of_covers 15 _ (by decide +kernel) fun t hf y => ?_
  blk_simp
  rw [after0_15]
  unfold out0_15
  rw [View.canon_unit_zero zero_offset, View.ld_unit_zero zero_offset, View.ld_unit_zero zero_offset, View.ld_unit_zero zero_offset, View.ld_unit_zero zero_offset, View.ld_unit_zero zero_offset]
  refine (sum_nt (k0_pay8 (iblk m c 0 t) (iblk m c 4 t) (iblk m c 5 t) (iblk m c 6 t)) (iblk m c 10 t) y).trans ?_
  rw [val_main_v45_apply, val_main_v38_apply]
  refine Finset.sum_congr rfl fun k _ => ?_
  have e₀ : (((win0_15.blk t).view.emb y) 0).val = t.val * 256 + (y 0).val := by blk_simp [idx15]
  have e₁ : (((win0_15.blk t).view.emb y) 1).val = (y 1).val := by blk_simp [idx15]
  refine congrArg₂ (· * ·) (d_gla m c t _ _ e₀ rfl) ?_
  rw [val_main_v5_apply]
  blk_simp [iblk]
  rw [V_main_arg5]
  refine at_entry _ (?_ : _ = (((win0_15.blk t).view.emb y) 1).val) ?_
  all_goals blk_simp [idx10, idx15]

end Cert.BranchBackIdeal.Sums

end
-- ==== Proof.BranchFwd.lean ====
/-
  The merge of the two branches: each half of the scan's output goes through its branch's projection, and the two are added, each under
  the gate that the input projection gives it.
-/
module

public import proofs.«01_k».proof.Proof.Gen.BranchFwdIdeal.Value
public import proofs.«01_k».proof.Proof.Gen.BranchFwdRefIdeal.Read
public import proofs.«01_k».proof.Proof.Gates

@[expose] public section

set_option maxRecDepth 16384

noncomputable section

open Cert.Product Idealize.ShloMosaic Idealize.ShloMosaic.TcCoe
namespace Cert.BranchFwdIdeal.Sums

open Cert.BranchFwdIdeal Cert.BranchFwdIdeal.Gen Cert.BranchFwdRefIdeal.Read

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 9] := (by decide +kernel : ∀ t : Fin grid0.N, _)
theorem idx4 : ∀ t : Fin cfg0.N, win0_4.index t = ![t.val, 10] := (by decide +kernel : ∀ t : Fin grid0.N, _)
theorem idx5 : ∀ t : Fin cfg0.N, win0_5.index t = ![t.val, 44] := (by decide +kernel : ∀ t : Fin grid0.N, _)
theorem idx6 : ∀ t : Fin cfg0.N, win0_6.index t = ![t.val, 11] := (by decide +kernel : ∀ t : Fin grid0.N, _)
theorem idx7 : ∀ t : Fin cfg0.N, win0_7.index t = ![t.val, 12] := (by decide +kernel : ∀ t : Fin grid0.N, _)
theorem idx8 : ∀ t : Fin cfg0.N, win0_8.index t = ![t.val, 52] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)

/-- The reference's gates. -/
theorem ref_hg (p : FVec Ideal Cert.BranchFwdRefIdeal.S2304x7168 .bf16) (i : Cert.BranchFwdRefIdeal.S2304x1152.Idx) :
    val_main_v15 (F := Ideal) p i = Ideal.logistic (p (idx_main_v8 i)) := by
  rw [val_main_v15_apply, val_main_v14_apply, val_main_v13_apply, val_main_v12_apply, val_main_v11_apply, val_main_v10_apply, val_main_v8_apply,
    val_main_v3_apply, val_main_cst_apply, val_main_cst_0_apply]
  exact written_logistic _

theorem ref_gla (p : FVec Ideal Cert.BranchFwdRefIdeal.S2304x7168 .bf16) (i : Cert.BranchFwdRefIdeal.S2304x1152.Idx) :
    val_main_v22 (F := Ideal) p i = Ideal.logistic (p (idx_main_v9 i)) := by
  rw [val_main_v22_apply, val_main_v21_apply, val_main_v20_apply, val_main_v19_apply, val_main_v18_apply, val_main_v17_apply, val_main_v9_apply,
    val_main_v3_apply, val_main_cst_1_apply, val_main_cst_2_apply]
  exact written_logistic _

variable (m : (ℓ : Loc nD τ sig) → Buf (Elt Ideal) ℓ) (c : Dev nD) (t : Fin cfg0.N) (y : S256x1152.Idx) (i : S2304x1152.Idx)

/-- A gate's three pieces at a point's block are the input projection's columns there. -/
theorem cols_hg (h₀ : (i 0).val = t.val * 256 + (y 0).val) (h₁ : (i 1).val = (y 1).val) h :
    concatenate S256x1152 1 [⟨S256x512, (iblk m c 3 t : S256x512.Idx → EReal)⟩, ⟨S256x512, (iblk m c 4 t : S256x512.Idx → EReal)⟩,
      ⟨S256x128, (iblk m c 5 t : S256x128.Idx → EReal)⟩] h y = m ((c : Thread nD τ).loc main_arg3) (idx_main_v8 i) := by
  refine side_by_side (iblk m c 3 t) (iblk m c 4 t) (iblk m c 5 t) _ y _ ?_ ?_ ?_
  all_goals
    intro z e₀ e₁
    blk_simp [iblk]
    rw [V_main_arg3]
    refine at_entry _ (?_ : _ = (i 0).val) (?_ : _ = 4608 + (i 1).val)
    all_goals blk_simp [idx3, idx4, idx5]
    all_goals omega

theorem cols_gla (h₀ : (i 0).val = t.val * 256 + (y 0).val) (h₁ : (i 1).val = (y 1).val) h :
    concatenate S256x1152 1 [⟨S256x512, (iblk m c 6 t : S256x512.Idx → EReal)⟩, ⟨S256x512, (iblk m c 7 t : S256x512.Idx → EReal)⟩,
      ⟨S256x128, (iblk m c 8 t : S256x128.Idx → EReal)⟩] h y = m ((c : Thread nD τ).loc main_arg3) (idx_main_v9 i) := by
  refine side_by_side (iblk m c 6 t) (iblk m c 7 t) (iblk m c 8 t) _ y _ ?_ ?_ ?_
  all_goals
    intro z e₀ e₁
    blk_simp [iblk]
    rw [V_main_arg3]
    refine at_entry _ (?_ : _ = (i 0).val) (?_ : _ = 5632 + (i 1).val)
    all_goals blk_simp [idx6, idx7, idx8]
    all_goals omega

/-- What the body loads of the scan's output: its first half and its second. -/
theorem ld_first (x : Vec Ideal S256x1024 .bf16) (k : Fin 512) :
    View.ld x r0_0 (ix2 (y 0 : Fin 256) k) = x (ix2 (y 0 : Fin 256) (⟨k.val, by omega⟩ : Fin 1024)) :=
  at_entry x (show 0 + 1 * (y 0).val = (y 0).val by omega) (show 0 + 1 * k.val = k.val by omega)

theorem ld_second (x : Vec Ideal S256x1024 .bf16) (k : Fin 512) :
    View.ld x r0_2 (ix2 (y 0 : Fin 256) k) = x (ix2 (y 0 : Fin 256) (⟨512 + k.val, by omega⟩ : Fin 1024)) :=
  at_entry x (show 0 + 1 * (y 0).val = (y 0).val by omega) (show 512 + 1 * k.val = 512 + k.val by omega)

/-- The two projections at a point's block. -/
theorem u_hg (h₀ : (i 0).val = t.val * 256 + (y 0).val) (h₁ : (i 1).val = (y 1).val) :
    k0_pay1 (View.ld (iblk m c 0 t) r0_0) (iblk m c 1 t) y
      = val_main_v5 (F := Ideal) (m ((c : Thread nD τ).loc main_arg0)) (m ((c : Thread nD τ).loc main_arg1)) i := by
  refine (sum_nn (View.ld (iblk m c 0 t) r0_0) (iblk m c 1 t) y).trans ?_
  rw [val_main_v5_apply]
  refine Finset.sum_congr rfl fun k _ => ?_
  rw [val_main_v4_apply, val_main_v0_apply, val_main_v1_apply, ld_first]
  blk_simp [iblk]
  rw [V_main_arg0, V_main_arg1]
  refine congrArg₂ (· * ·) (at_entry _ (?_ : _ = (i 0).val) ?_) (at_entry _ ?_ (?_ : _ = (i 1).val))
  all_goals blk_simp [idx0, idx1]
  all_goals omega

theorem u_gla (h₀ : (i 0).val = t.val * 256 + (y 0).val) (h₁ : (i 1).val = (y 1).val) :
    k0_pay2 (View.ld (iblk m c 0 t) r0_2) (iblk m c 2 t) y
      = val_main_v7 (F := Ideal) (m ((c : Thread nD τ).loc main_arg0)) (m ((c : Thread nD τ).loc main_arg2)) i := by
  refine (sum_nn (View.ld (iblk m c 0 t) r0_2) (iblk m c 2 t) y).trans ?_
  rw [val_main_v7_apply]
  refine Finset.sum_congr rfl fun k _ => ?_
  rw [val_main_v6_apply, val_main_v0_apply, val_main_v2_apply, ld_second]
  blk_simp [iblk]
  rw [V_main_arg0, V_main_arg2]
  refine congrArg₂ (· * ·) (at_entry _ (?_ : _ = (i 0).val) (?_ : _ = 512 + k.val)) (at_entry _ ?_ (?_ : _ = (i 1).val))
  all_goals blk_simp [idx0, idx2]
  all_goals omega

omit t y i

/-- The projections' results. -/
theorem final0 : (dats m 0 c).arrAt 9 cfg0.N
    = val_main_v25 (F := Ideal) (m ((c : Thread nD τ).loc main_arg0)) (m ((c : Thread nD τ).loc main_arg1)) := by
  refine (dats m 0 c).arrAt_eq_of_covers 9 _ (by decide +kernel) fun t hf y => ?_
  blk_simp
  rw [after0_9]
  unfold out0_9
  rw [View.canon_unit_zero zero_offset, View.ld_unit_zero (S := S512x1152) zero_offset]
  refine u_hg m c t y _ ?_ ?_
  all_goals blk_simp [idx9]

theorem final1 : (dats m 0 c).arrAt 10 cfg0.N
    = val_main_v26 (F := Ideal) (m ((c : Thread nD τ).loc main_arg0)) (m ((c : Thread nD τ).loc main_arg2)) := by
  refine (dats m 0 c).arrAt_eq_of_covers 10 _ (by decide +kernel) fun t hf y => ?_
  blk_simp
  rw [after0_10]
  unfold out0_10
  rw [View.canon_unit_zero zero_offset, View.ld_unit_zero (S := S512x1152) zero_offset]
  refine u_gla m c t y _ ?_ ?_
  all_goals blk_simp [idx10]

/-- The merge. -/
theorem final2 : (dats m 0 c).arrAt 11 cfg0.N
    = val_main_v27 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 11 _ (by decide +kernel) fun t hf y => ?_
  blk_simp
  rw [after0_11]
  unfold out0_11
  rw [View.canon_unit_zero zero_offset, View.ld_unit_zero (S := S512x1152) zero_offset, View.ld_unit_zero (S := S512x1152) zero_offset,
    View.ld_unit_zero (S := S256x512) zero_offset, View.ld_unit_zero (S := S256x512) zero_offset, View.ld_unit_zero (S := S256x128) zero_offset,
    View.ld_unit_zero (S := S256x512) zero_offset, View.ld_unit_zero (S := S256x512) zero_offset, View.ld_unit_zero (S := S256x128) zero_offset]
  have e₀ : (((win0_11.blk t).view.emb y) 0).val = t.val * 256 + (y 0).val := by blk_simp [idx11]
  have e₁ : (((win0_11.blk t).view.emb y) 1).val = (y 1).val := by blk_simp [idx11]
  rw [val_main_v27_apply, val_main_v24_apply, val_main_v16_apply, val_main_v23_apply, ref_hg, ref_gla, ← u_hg m c t y _ e₀ e₁, ← u_gla m c t y _ e₀ e₁]
  exact congrArg₂ (fun a b : EReal => Ideal.logistic a * _ + Ideal.logistic b * _) (cols_hg m c t y _ e₀ e₁ _) (cols_gla m c t y _ e₀ e₁ _)

end Cert.BranchFwdIdeal.Sums

end
-- ==== Proof.Adam.lean ====
/-
  The optimiser's step of one entry, and the readings its calls need: a device's page of the parts of a gradient, the sum of eight pages.
-/
module

public import proofs.«01_k».proof.Proof.Products

@[expose] public section

set_option maxRecDepth 16384

noncomputable section

open Idealize.ShloMosaic Idealize.ShloMosaic.TcCoe
namespace Cert.Adam

/-- The first moment after a step with gradient `g`. -/
def first (g m : EReal) : EReal := Ideal.ofBits .f32 0x3F666666#32 * m + Ideal.ofBits .f32 0x3DCCCCCD#32 * g

/-- The second moment. -/
def second (g v : EReal) : EReal := Ideal.ofBits .f32 0x3F7FBE77#32 * v + Ideal.ofBits .f32 0x3A83126F#32 * (g * g)

/-- The change of the weight `w`, from the new moments. -/
def step (m v w : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

theorem zero_bits : (Ideal.ofBits .f32 0x00000000#32 : EReal) = 0 := Ideal.ofBits_zero_f32

/-- Two entries of an array of three axes are one when their coordinates are. -/
theorem at_entry3 {α : Type} {D M N : ℕ} (f : (⟨3, ![D, M, N]⟩ : Shape).Idx → α) {x y : (⟨3, ![D, M, N]⟩ : Shape).Idx}
    (h₀ : (x 0).val = (y 0).val) (h₁ : (x 1).val = (y 1).val) (h₂ : (x 2).val = (y 2).val) : f x = f y :=
  congrArg f (funext fun a => Fin.ext (match a with
    | ⟨0, _⟩ => h₀
    | ⟨1, _⟩ => h₁
    | ⟨2, _⟩ => h₂))

/-- Eight terms added one after the other, term by term. -/
theorem add8 {a b : Fin 8 → EReal} (h : ∀ k, a k = b k) :
    a 0 + a 1 + a 2 + a 3 + a 4 + a 5 + a 6 + a 7 = ∑ k : Fin 8, b k := by
  rw [Fin.sum_univ_eight]
  simp only [h]

/-- One page of an array of three axes, read as an array of two. -/
theorem page {D M N : ℕ} {e : EltTy} (x : Vec Ideal (⟨3, ![D, M, N]⟩ : Shape) e) (k : ℕ) (hk : k < D)
    (inb : ∀ a, (![k, 0, 0] : Fin 3 → ℕ) a + (![1, M, N] : Fin 3 → ℕ) a ≤ (⟨3, ![D, M, N]⟩ : Shape).size a)
    (h : (⟨3, ![1, M, N]⟩ : Shape).ShapeCasts ⟨2, ![M, N]⟩) (y : (⟨2, ![M, N]⟩ : Shape).Idx) :
    shapeCast (⟨2, ![M, N]⟩ : Shape) (View.ld x (Rect.unit (s := ⟨3, ![D, M, N]⟩) ![k, 0, 0] (![1, M, N] : Fin 3 → ℕ) inb)) h y
      = x (ix3 ⟨k, hk⟩ (y 0) (y 1)) := by
  refine (shapeCast_dropUnit_apply (d := ![M, N]) _ _ y).trans ?_
  refine congrArg x ?_
  funext a; apply Fin.ext; fin_cases a
  · show k + 1 * 0 = k; omega
  · show 0 + 1 * (y 0).val = (y 0).val; omega
  · show 0 + 1 * (y 1).val = (y 1).val; omega

/-- An array behind an axis of size one. -/
theorem lead {M N : ℕ} {α : Type} (hM : M ≠ 1) (hN : N ≠ 1) (x : (⟨2, ![M, N]⟩ : Shape).Idx → α)
    (h : (⟨2, ![M, N]⟩ : Shape).BroadcastsInDim ⟨3, ![1, M, N]⟩ ![1, 2]) (z : (⟨3, ![1, M, N]⟩ : Shape).Idx) :
    broadcastInDim (⟨3, ![1, M, N]⟩ : Shape) ![1, 2] h x z = x (ix2 (z 1) (z 2)) := by
  refine broadcastInDim_apply _ h x z (ix2 (z 1) (z 2)) fun a => ?_
  match a with
  | ⟨0, _⟩ => exact (if_neg hM).symm
  | ⟨1, _⟩ => exact (if_neg hN).symm

end Cert.Adam

end
-- ==== Proof.AdamBranch.lean ====
/-
  The optimiser's step of a branch's output projection: the eight devices' parts of the gradient are summed, and the moments and the change of the
  weight follow entry by entry.
-/
module

public import proofs.«01_k».proof.Proof.Gen.AdamBranchIdeal.Value
public import proofs.«01_k».proof.Proof.Gen.AdamBranchRefIdeal.Read
public import proofs.«01_k».proof.Proof.Adam

@[expose] public section

set_option maxRecDepth 16384

noncomputable section

open Cert.Product Cert.Adam Idealize.ShloMosaic Idealize.ShloMosaic.TcCoe
namespace Cert.AdamBranchIdeal.Sums

open Cert.AdamBranchIdeal Cert.AdamBranchIdeal.Gen Cert.AdamBranchRefIdeal.Read

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- The eight devices' parts of a block, summed. -/
theorem parts (x : Vec Ideal S8x512x128 .bf16) (y : S512x128.Idx) :
    k0_pay4 (View.ld x r0_0) (View.ld x r0_1) (View.ld x r0_2) (View.ld x r0_3) (View.ld x r0_4) (View.ld x r0_5) (View.ld x r0_6) (View.ld x r0_7) y
      = ∑ k : Fin 8, x (ix3 k (y 0) (y 1)) := by
  rw [Fin.sum_univ_eight]
  refine congrArg₂ (α := EReal) (β := EReal) (· + ·) (congrArg₂ (α := EReal) (β := EReal) (· + ·) (congrArg₂ (α := EReal) (β := EReal) (· + ·)
    (congrArg₂ (α := EReal) (β := EReal) (· + ·) (congrArg₂ (α := EReal) (β := EReal) (· + ·) (congrArg₂ (α := EReal) (β := EReal) (· + ·)
    (congrArg₂ (α := EReal) (β := EReal) (· + ·) ?_ ?_) ?_) ?_) ?_) ?_) ?_) ?_
  · exact page x 0 (by omega) _ _ y
  · exact page x 1 (by omega) _ _ y
  · exact page x 2 (by omega) _ _ y
  · exact page x 3 (by omega) _ _ y
  · exact page x 4 (by omega) _ _ y
  · exact page x 5 (by omega) _ _ y
  · exact page x 6 (by omega) _ _ y
  · exact page x 7 (by omega) _ _ y

/-- The gradient of a point's block is the reference's there. -/
theorem grad (m : (ℓ : Loc nD τ sig) → Buf (Elt Ideal) ℓ) (c : Dev nD) (t : Fin cfg0.N) (y : S512x128.Idx) (i : Cert.AdamBranchRefIdeal.S512x128.Idx)
    (h₀ : (i 0).val = t.val * 512 + (y 0).val) (h₁ : (i 1).val = (y 1).val) :
    k0_pay5 (iblk m c 0 t) (iblk m c 1 t) (iblk m c 2 t) (iblk m c 3 t) y = val_main_v1 (F := Ideal) (m ((c : Thread nD τ).loc main_arg0)) i := by
  refine (parts (iblk m c 0 t) y).trans ?_
  rw [val_main_v1_apply]
  refine Eq.trans ?_ (congrArg (· + _) zero_bits).symm
  rw [zero_add]
  refine Finset.sum_congr rfl fun k _ => ?_
  blk_simp [iblk, idx0]
  rw [V_main_arg0]
  refine at_entry3 (D := 8) (M := 512) (N := 128) _ (?_ : _ = k.val) (?_ : _ = (i 0).val) (?_ : _ = (i 1).val)
  all_goals blk_simp [idx0]
  all_goals have ht : t.val < 1 := lt_of_lt_of_eq t.isLt (by decide +kernel)
  all_goals omega

/-- The weight, at a point's block. -/
theorem at1 (m : (ℓ : Loc nD τ sig) → Buf (Elt Ideal) ℓ) (c : Dev nD) (t : Fin cfg0.N) (y : S512x128.Idx) (i : Cert.AdamBranchRefIdeal.S512x128.Idx)
    (h₀ : (i 0).val = t.val * 512 + (y 0).val) (h₁ : (i 1).val = (y 1).val) :
    iblk m c 1 t y = m ((c : Thread nD τ).loc main_arg1) i := by
  blk_simp [iblk, idx1]
  rw [V_main_arg1]
  refine at_entry (M := 512) (N := 128) _ (?_ : _ = (i 0).val) (?_ : _ = (i 1).val)
  all_goals blk_simp [idx1]
  all_goals have ht : t.val < 1 := lt_of_lt_of_eq t.isLt (by decide +kernel)
  all_goals omega

/-- The first moment. -/
theorem at2 (m : (ℓ : Loc nD τ sig) → Buf (Elt Ideal) ℓ) (c : Dev nD) (t : Fin cfg0.N) (y : S512x128.Idx) (i : Cert.AdamBranchRefIdeal.S512x128.Idx)
    (h₀ : (i 0).val = t.val * 512 + (y 0).val) (h₁ : (i 1).val = (y 1).val) :
    iblk m c 2 t y = m ((c : Thread nD τ).loc main_arg2) i := by
  blk_simp [iblk, idx2]
  rw [V_main_arg2]
  refine at_entry (M := 512) (N := 128) _ (?_ : _ = (i 0).val) (?_ : _ = (i 1).val)
  all_goals blk_simp [idx2]
  all_goals have ht : t.val < 1 := lt_of_lt_of_eq t.isLt (by decide +kernel)
  all_goals omega

/-- The second moment. -/
theorem at3 (m : (ℓ : Loc nD τ sig) → Buf (Elt Ideal) ℓ) (c : Dev nD) (t : Fin cfg0.N) (y : S512x128.Idx) (i : Cert.AdamBranchRefIdeal.S512x128.Idx)
    (h₀ : (i 0).val = t.val * 512 + (y 0).val) (h₁ : (i 1).val = (y 1).val) :
    iblk m c 3 t y = m ((c : Thread nD τ).loc main_arg3) i := by
  blk_simp [iblk, idx3]
  rw [V_main_arg3]
  refine at_entry (M := 512) (N := 128) _ (?_ : _ = (i 0).val) (?_ : _ = (i 1).val)
  all_goals blk_simp [idx3]
  all_goals have ht : t.val < 1 := lt_of_lt_of_eq t.isLt (by decide +kernel)
  all_goals omega

/-- The reference's new first moment at an entry. -/
theorem ref_first (x0 : Vec Ideal Cert.AdamBranchRefIdeal.S8x512x128 .bf16) (x2 : Vec Ideal Cert.AdamBranchRefIdeal.S512x128 .f32) (i : Cert.AdamBranchRefIdeal.S512x128.Idx) :
    val_main_v6 (F := Ideal) x0 x2 i = first (val_main_v1 (F := Ideal) x0 i) (x2 i) := by
  rw [val_main_v6_apply, val_main_v3_apply, val_main_v5_apply, val_main_v2_apply, val_main_v4_apply]
  rfl

/-- Its new second moment. -/
theorem ref_second (x0 : Vec Ideal Cert.AdamBranchRefIdeal.S8x512x128 .bf16) (x3 : Vec Ideal Cert.AdamBranchRefIdeal.S512x128 .f32) (i : Cert.AdamBranchRefIdeal.S512x128.Idx) :
    val_main_v12 (F := Ideal) x0 x3 i = second (val_main_v1 (F := Ideal) x0 i) (x3 i) := by
  rw [val_main_v12_apply, val_main_v8_apply, val_main_v11_apply, val_main_v7_apply, val_main_v10_apply, val_main_v9_apply]
  rfl

/-- Its change of the weight. -/
theorem ref_step (x0 : Vec Ideal Cert.AdamBranchRefIdeal.S8x512x128 .bf16) (x1 x2 x3 : Vec Ideal Cert.AdamBranchRefIdeal.S512x128 .f32) (i : Cert.AdamBranchRefIdeal.S512x128.Idx) :
    val_main_v25 (F := Ideal) x0 x1 x2 x3 i
      = step (val_main_v6 (F := Ideal) x0 x2 i) (val_main_v12 (F := Ideal) x0 x3 i) (x1 i) := by
  simp only [val_main_v25_apply, val_main_v24_apply, val_main_v23_apply, val_main_v22_apply, val_main_v21_apply, val_main_v20_apply,
    val_main_v19_apply, val_main_v18_apply, val_main_v17_apply, val_main_v16_apply, val_main_v15_apply, val_main_v14_apply, val_main_v13_apply]
  rfl

/-- The summed gradient. -/
theorem final0 (m : (ℓ : Loc nD τ sig) → Buf (Elt Ideal) ℓ) (c : Dev nD) : (dats m 0 c).arrAt 4 cfg0.N
    = val_main_v1 (F := Ideal) (m ((c : Thread nD τ).loc main_arg0)) := by
  refine (dats m 0 c).arrAt_eq_of_covers 4 _ (by decide +kernel) fun t hf y => ?_
  blk_simp
  rw [after0_4]
  unfold out0_4
  rw [View.canon_unit_zero zero_offset]
  refine grad m c t y _ ?_ ?_
  all_goals blk_simp [idx4]
  all_goals have ht : t.val < 1 := lt_of_lt_of_eq t.isLt (by decide +kernel)
  all_goals omega

/-- The change of the weight. -/
theorem final1 (m : (ℓ : Loc nD τ sig) → Buf (Elt Ideal) ℓ) (c : Dev nD) : (dats m 0 c).arrAt 5 cfg0.N
    = val_main_v25 (F := Ideal) (m ((c : Thread nD τ).loc main_arg0))
      (m ((c : Thread nD τ).loc main_arg1)) (m ((c : Thread nD τ).loc main_arg2))
      (m ((c : Thread nD τ).loc main_arg3)) := by
  refine (dats m 0 c).arrAt_eq_of_covers 5 _ (by decide +kernel) fun t hf y => ?_
  blk_simp
  rw [after0_5]
  unfold out0_5
  rw [View.canon_unit_zero zero_offset, View.ld_unit_zero zero_offset, View.ld_unit_zero zero_offset, View.ld_unit_zero zero_offset]
  rw [ref_step, ref_first, ref_second]
  refine Eq.trans (b := step (first (k0_pay5 (iblk m c 0 t) (iblk m c 1 t) (iblk m c 2 t) (iblk m c 3 t) y) (iblk m c 2 t y))
    (second (k0_pay5 (iblk m c 0 t) (iblk m c 1 t) (iblk m c 2 t) (iblk m c 3 t) y) (iblk m c 3 t y)) (iblk m c 1 t y)) rfl ?_
  refine congr (congrArg₂ step (congrArg₂ first (grad m c t y _ ?_ ?_) (at2 m c t y _ ?_ ?_))
    (congrArg₂ second (grad m c t y _ ?_ ?_) (at3 m c t y _ ?_ ?_))) (at1 m c t y _ ?_ ?_)
  all_goals blk_simp [idx5]
  all_goals have ht : t.val < 1 := lt_of_lt_of_eq t.isLt (by decide +kernel)
  all_goals omega

/-- The new first moment. -/
theorem final2 (m : (ℓ : Loc nD τ sig) → Buf (Elt Ideal) ℓ) (c : Dev nD) : (dats m 0 c).arrAt 6 cfg0.N
    = val_main_v6 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  unfold out0_6
  rw [View.canon_unit_zero zero_offset, View.ld_unit_zero zero_offset]
  rw [ref_first]
  refine Eq.trans (b := first (k0_pay5 (iblk m c 0 t) (iblk m c 1 t) (iblk m c 2 t) (iblk m c 3 t) y) (iblk m c 2 t y)) rfl ?_
  refine congrArg₂ first (grad m c t y _ ?_ ?_) (at2 m c t y _ ?_ ?_)
  all_goals blk_simp [idx6]
  all_goals have ht : t.val < 1 := lt_of_lt_of_eq t.isLt (by decide +kernel)
  all_goals omega

/-- The new second moment. -/
theorem final3 (m : (ℓ : Loc nD τ sig) → Buf (Elt Ideal) ℓ) (c : Dev nD) : (dats m 0 c).arrAt 7 cfg0.N
    = val_main_v12 (F := Ideal) (m ((c : Thread nD τ).loc main_arg0)) (m ((c : Thread nD τ).loc main_arg3)) := by
  refine (dats m 0 c).arrAt_eq_of_covers 7 _ (by decide +kernel) fun t hf y => ?_
  blk_simp
  rw [after0_7]
  unfold out0_7
  rw [View.canon_unit_zero zero_offset, View.ld_unit_zero zero_offset]
  rw [ref_second]
  refine Eq.trans (b := second (k0_pay5 (iblk m c 0 t) (iblk m c 1 t) (iblk m c 2 t) (iblk m c 3 t) y) (iblk m c 3 t y)) rfl ?_
  refine congrArg₂ second (grad m c t y _ ?_ ?_) (at3 m c t y _ ?_ ?_)
  all_goals blk_simp [idx7]
  all_goals have ht : t.val < 1 := lt_of_lt_of_eq t.isLt (by decide +kernel)
  all_goals omega

end Cert.AdamBranchIdeal.Sums

end
-- ==== Proof.AdamOut.lean ====
/-
  The optimiser's step of the output projection: the eight devices' parts of the gradient are summed, and the moments and the change of the
  weight follow entry by entry.
-/
module

public import proofs.«01_k».proof.Proof.Gen.AdamOutIdeal.Value
public import proofs.«01_k».proof.Proof.Gen.AdamOutRefIdeal.Read
public import proofs.«01_k».proof.Proof.Adam

@[expose] public section

set_option maxRecDepth 16384

noncomputable section

open Cert.Product Cert.Adam Idealize.ShloMosaic Idealize.ShloMosaic.TcCoe
namespace Cert.AdamOutIdeal.Sums

open Cert.AdamOutIdeal Cert.AdamOutIdeal.Gen Cert.AdamOutRefIdeal.Read

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- The eight devices' parts of a block, summed. -/
theorem parts (x : Vec Ideal S8x128x1024 .bf16) (y : S128x1024.Idx) :
    k0_pay4 (View.ld x r0_0) (View.ld x r0_1) (View.ld x r0_2) (View.ld x r0_3) (View.ld x r0_4) (View.ld x r0_5) (View.ld x r0_6) (View.ld x r0_7) y
      = ∑ k : Fin 8, x (ix3 k (y 0) (y 1)) := by
  rw [Fin.sum_univ_eight]
  refine congrArg₂ (α := EReal) (β := EReal) (· + ·) (congrArg₂ (α := EReal) (β := EReal) (· + ·) (congrArg₂ (α := EReal) (β := EReal) (· + ·)
    (congrArg₂ (α := EReal) (β := EReal) (· + ·) (congrArg₂ (α := EReal) (β := EReal) (· + ·) (congrArg₂ (α := EReal) (β := EReal) (· + ·)
    (congrArg₂ (α := EReal) (β := EReal) (· + ·) ?_ ?_) ?_) ?_) ?_) ?_) ?_) ?_
  · exact page x 0 (by omega) _ _ y
  · exact page x 1 (by omega) _ _ y
  · exact page x 2 (by omega) _ _ y
  · exact page x 3 (by omega) _ _ y
  · exact page x 4 (by omega) _ _ y
  · exact page x 5 (by omega) _ _ y
  · exact page x 6 (by omega) _ _ y
  · exact page x 7 (by omega) _ _ y

/-- The gradient of a point's block is the reference's there. -/
theorem grad (m : (ℓ : Loc nD τ sig) → Buf (Elt Ideal) ℓ) (c : Dev nD) (t : Fin cfg0.N) (y : S128x1024.Idx) (i : Cert.AdamOutRefIdeal.S128x1024.Idx)
    (h₀ : (i 0).val = t.val * 128 + (y 0).val) (h₁ : (i 1).val = (y 1).val) :
    k0_pay5 (iblk m c 0 t) (iblk m c 1 t) (iblk m c 2 t) (iblk m c 3 t) y = val_main_v1 (F := Ideal) (m ((c : Thread nD τ).loc main_arg0)) i := by
  refine (parts (iblk m c 0 t) y).trans ?_
  rw [val_main_v1_apply]
  refine Eq.trans ?_ (congrArg (· + _) zero_bits).symm
  rw [zero_add]
  refine Finset.sum_congr rfl fun k _ => ?_
  blk_simp [iblk, idx0]
  rw [V_main_arg0]
  refine at_entry3 (D := 8) (M := 128) (N := 1024) _ (?_ : _ = k.val) (?_ : _ = (i 0).val) (?_ : _ = (i 1).val)
  all_goals blk_simp [idx0]
  all_goals have ht : t.val < 1 := lt_of_lt_of_eq t.isLt (by decide +kernel)
  all_goals omega

/-- The weight, at a point's block. -/
theorem at1 (m : (ℓ : Loc nD τ sig) → Buf (Elt Ideal) ℓ) (c : Dev nD) (t : Fin cfg0.N) (y : S128x1024.Idx) (i : Cert.AdamOutRefIdeal.S128x1024.Idx)
    (h₀ : (i 0).val = t.val * 128 + (y 0).val) (h₁ : (i 1).val = (y 1).val) :
    iblk m c 1 t y = m ((c : Thread nD τ).loc main_arg1) i := by
  blk_simp [iblk, idx1]
  rw [V_main_arg1]
  refine at_entry (M := 128) (N := 1024) _ (?_ : _ = (i 0).val) (?_ : _ = (i 1).val)
  all_goals blk_simp [idx1]
  all_goals have ht : t.val < 1 := lt_of_lt_of_eq t.isLt (by decide +kernel)
  all_goals omega

/-- The first moment. -/
theorem at2 (m : (ℓ : Loc nD τ sig) → Buf (Elt Ideal) ℓ) (c : Dev nD) (t : Fin cfg0.N) (y : S128x1024.Idx) (i : Cert.AdamOutRefIdeal.S128x1024.Idx)
    (h₀ : (i 0).val = t.val * 128 + (y 0).val) (h₁ : (i 1).val = (y 1).val) :
    iblk m c 2 t y = m ((c : Thread nD τ).loc main_arg2) i := by
  blk_simp [iblk, idx2]
  rw [V_main_arg2]
  refine at_entry (M := 128) (N := 1024) _ (?_ : _ = (i 0).val) (?_ : _ = (i 1).val)
  all_goals blk_simp [idx2]
  all_goals have ht : t.val < 1 := lt_of_lt_of_eq t.isLt (by decide +kernel)
  all_goals omega

/-- The second moment. -/
theorem at3 (m : (ℓ : Loc nD τ sig) → Buf (Elt Ideal) ℓ) (c : Dev nD) (t : Fin cfg0.N) (y : S128x1024.Idx) (i : Cert.AdamOutRefIdeal.S128x1024.Idx)
    (h₀ : (i 0).val = t.val * 128 + (y 0).val) (h₁ : (i 1).val = (y 1).val) :
    iblk m c 3 t y = m ((c : Thread nD τ).loc main_arg3) i := by
  blk_simp [iblk, idx3]
  rw [V_main_arg3]
  refine at_entry (M := 128) (N := 1024) _ (?_ : _ = (i 0).val) (?_ : _ = (i 1).val)
  all_goals blk_simp [idx3]
  all_goals have ht : t.val < 1 := lt_of_lt_of_eq t.isLt (by decide +kernel)
  all_goals omega

/-- The reference's new first moment at an entry. -/
theorem ref_first (x0 : Vec Ideal Cert.AdamOutRefIdeal.S8x128x1024 .bf16) (x2 : Vec Ideal Cert.AdamOutRefIdeal.S128x1024 .f32) (i : Cert.AdamOutRefIdeal.S128x1024.Idx) :
    val_main_v6 (F := Ideal) x0 x2 i = first (val_main_v1 (F := Ideal) x0 i) (x2 i) := by
  rw [val_main_v6_apply, val_main_v3_apply, val_main_v5_apply, val_main_v2_apply, val_main_v4_apply]
  rfl

/-- Its new second moment. -/
theorem ref_second (x0 : Vec Ideal Cert.AdamOutRefIdeal.S8x128x1024 .bf16) (x3 : Vec Ideal Cert.AdamOutRefIdeal.S128x1024 .f32) (i : Cert.AdamOutRefIdeal.S128x1024.Idx) :
    val_main_v12 (F := Ideal) x0 x3 i = second (val_main_v1 (F := Ideal) x0 i) (x3 i) := by
  rw [val_main_v12_apply, val_main_v8_apply, val_main_v11_apply, val_main_v7_apply, val_main_v10_apply, val_main_v9_apply]
  rfl

/-- Its change of the weight. -/
theorem ref_step (x0 : Vec Ideal Cert.AdamOutRefIdeal.S8x128x1024 .bf16) (x1 x2 x3 : Vec Ideal Cert.AdamOutRefIdeal.S128x1024 .f32) (i : Cert.AdamOutRefIdeal.S128x1024.Idx) :
    val_main_v25 (F := Ideal) x0 x1 x2 x3 i
      = step (val_main_v6 (F := Ideal) x0 x2 i) (val_main_v12 (F := Ideal) x0 x3 i) (x1 i) := by
  simp only [val_main_v25_apply, val_main_v24_apply, val_main_v23_apply, val_main_v22_apply, val_main_v21_apply, val_main_v20_apply,
    val_main_v19_apply, val_main_v18_apply, val_main_v17_apply, val_main_v16_apply, val_main_v15_apply, val_main_v14_apply, val_main_v13_apply]
  rfl

/-- The summed gradient. -/
theorem final0 (m : (ℓ : Loc nD τ sig) → Buf (Elt Ideal) ℓ) (c : Dev nD) : (dats m 0 c).arrAt 4 cfg0.N
    = val_main_v1 (F := Ideal) (m ((c : Thread nD τ).loc main_arg0)) := by
  refine (dats m 0 c).arrAt_eq_of_covers 4 _ (by decide +kernel) fun t hf y => ?_
  blk_simp
  rw [after0_4]
  unfold out0_4
  rw [View.canon_unit_zero zero_offset]
  refine grad m c t y _ ?_ ?_
  all_goals blk_simp [idx4]
  all_goals have ht : t.val < 1 := lt_of_lt_of_eq t.isLt (by decide +kernel)
  all_goals omega

/-- The change of the weight. -/
theorem final1 (m : (ℓ : Loc nD τ sig) → Buf (Elt Ideal) ℓ) (c : Dev nD) : (dats m 0 c).arrAt 5 cfg0.N
    = val_main_v25 (F := Ideal) (m ((c : Thread nD τ).loc main_arg0))
      (m ((c : Thread nD τ).loc main_arg1)) (m ((c : Thread nD τ).loc main_arg2))
      (m ((c : Thread nD τ).loc main_arg3)) := by
  refine (dats m 0 c).arrAt_eq_of_covers 5 _ (by decide +kernel) fun t hf y => ?_
  blk_simp
  rw [after0_5]
  unfold out0_5
  rw [View.canon_unit_zero zero_offset, View.ld_unit_zero zero_offset, View.ld_unit_zero zero_offset, View.ld_unit_zero zero_offset]
  rw [ref_step, ref_first, ref_second]
  refine Eq.trans (b := step (first (k0_pay5 (iblk m c 0 t) (iblk m c 1 t) (iblk m c 2 t) (iblk m c 3 t) y) (iblk m c 2 t y))
    (second (k0_pay5 (iblk m c 0 t) (iblk m c 1 t) (iblk m c 2 t) (iblk m c 3 t) y) (iblk m c 3 t y)) (iblk m c 1 t y)) rfl ?_
  refine congr (congrArg₂ step (congrArg₂ first (grad m c t y _ ?_ ?_) (at2 m c t y _ ?_ ?_))
    (congrArg₂ second (grad m c t y _ ?_ ?_) (at3 m c t y _ ?_ ?_))) (at1 m c t y _ ?_ ?_)
  all_goals blk_simp [idx5]
  all_goals have ht : t.val < 1 := lt_of_lt_of_eq t.isLt (by decide +kernel)
  all_goals omega

/-- The new first moment. -/
theorem final2 (m : (ℓ : Loc nD τ sig) → Buf (Elt Ideal) ℓ) (c : Dev nD) : (dats m 0 c).arrAt 6 cfg0.N
    = val_main_v6 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  unfold out0_6
  rw [View.canon_unit_zero zero_offset, View.ld_unit_zero zero_offset]
  rw [ref_first]
  refine Eq.trans (b := first (k0_pay5 (iblk m c 0 t) (iblk m c 1 t) (iblk m c 2 t) (iblk m c 3 t) y) (iblk m c 2 t y)) rfl ?_
  refine congrArg₂ first (grad m c t y _ ?_ ?_) (at2 m c t y _ ?_ ?_)
  all_goals blk_simp [idx6]
  all_goals have ht : t.val < 1 := lt_of_lt_of_eq t.isLt (by decide +kernel)
  all_goals omega

/-- The new second moment. -/
theorem final3 (m : (ℓ : Loc nD τ sig) → Buf (Elt Ideal) ℓ) (c : Dev nD) : (dats m 0 c).arrAt 7 cfg0.N
    = val_main_v12 (F := Ideal) (m ((c : Thread nD τ).loc main_arg0)) (m ((c : Thread nD τ).loc main_arg3)) := by
  refine (dats m 0 c).arrAt_eq_of_covers 7 _ (by decide +kernel) fun t hf y => ?_
  blk_simp
  rw [after0_7]
  unfold out0_7
  rw [View.canon_unit_zero zero_offset, View.ld_unit_zero zero_offset]
  rw [ref_second]
  refine Eq.trans (b := second (k0_pay5 (iblk m c 0 t) (iblk m c 1 t) (iblk m c 2 t) (iblk m c 3 t) y) (iblk m c 3 t y)) rfl ?_
  refine congrArg₂ second (grad m c t y _ ?_ ?_) (at3 m c t y _ ?_ ?_)
  all_goals blk_simp [idx7]
  all_goals have ht : t.val < 1 := lt_of_lt_of_eq t.isLt (by decide +kernel)
  all_goals omega

end Cert.AdamOutIdeal.Sums

end
-- ==== Proof.AdamFfn.lean ====
/-
  The optimiser's step of a feed-forward weight: the eight devices' parts of the gradient are summed, and the moments and the change of the
  weight follow entry by entry.
-/
module

public import proofs.«01_k».proof.Proof.Gen.AdamFfnIdeal.Value
public import proofs.«01_k».proof.Proof.Gen.AdamFfnRefIdeal.Read
public import proofs.«01_k».proof.Proof.Adam

@[expose] public section

set_option maxRecDepth 16384

noncomputable section

open Cert.Product Cert.Adam Idealize.ShloMosaic Idealize.ShloMosaic.TcCoe
namespace Cert.AdamFfnIdeal.Sums

open Cert.AdamFfnIdeal Cert.AdamFfnIdeal.Gen Cert.AdamFfnRefIdeal.Read

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- The eight devices' parts of a block, summed. -/
theorem parts (x : Vec Ideal S8x176x1024 .bf16) (y : S176x1024.Idx) :
    k0_pay4 (View.ld x r0_0) (View.ld x r0_1) (View.ld x r0_2) (View.ld x r0_3) (View.ld x r0_4) (View.ld x r0_5) (View.ld x r0_6) (View.ld x r0_7) y
      = ∑ k : Fin 8, x (ix3 k (y 0) (y 1)) := by
  rw [Fin.sum_univ_eight]
  refine congrArg₂ (α := EReal) (β := EReal) (· + ·) (congrArg₂ (α := EReal) (β := EReal) (· + ·) (congrArg₂ (α := EReal) (β := EReal) (· + ·)
    (congrArg₂ (α := EReal) (β := EReal) (· + ·) (congrArg₂ (α := EReal) (β := EReal) (· + ·) (congrArg₂ (α := EReal) (β := EReal) (· + ·)
    (congrArg₂ (α := EReal) (β := EReal) (· + ·) ?_ ?_) ?_) ?_) ?_) ?_) ?_) ?_
  · exact page x 0 (by omega) _ _ y
  · exact page x 1 (by omega) _ _ y
  · exact page x 2 (by omega) _ _ y
  · exact page x 3 (by omega) _ _ y
  · exact page x 4 (by omega) _ _ y
  · exact page x 5 (by omega) _ _ y
  · exact page x 6 (by omega) _ _ y
  · exact page x 7 (by omega) _ _ y

/-- The gradient of a point's block is the reference's there. -/
theorem grad (m : (ℓ : Loc nD τ sig) → Buf (Elt Ideal) ℓ) (c : Dev nD) (t : Fin cfg0.N) (y : S176x1024.Idx) (i : Cert.AdamFfnRefIdeal.S352x1024.Idx)
    (h₀ : (i 0).val = t.val * 176 + (y 0).val) (h₁ : (i 1).val = (y 1).val) :
    k0_pay5 (iblk m c 0 t) (iblk m c 1 t) (iblk m c 2 t) (iblk m c 3 t) y = val_main_v1 (F := Ideal) (m ((c : Thread nD τ).loc main_arg0)) i := by
  refine (parts (iblk m c 0 t) y).trans ?_
  rw [val_main_v1_apply]
  refine Eq.trans ?_ (congrArg (· + _) zero_bits).symm
  rw [zero_add]
  refine Finset.sum_congr rfl fun k _ => ?_
  blk_simp [iblk, idx0]
  rw [V_main_arg0]
  refine at_entry3 (D := 8) (M := 352) (N := 1024) _ (?_ : _ = k.val) (?_ : _ = (i 0).val) (?_ : _ = (i 1).val)
  all_goals blk_simp [idx0]
  all_goals have ht : t.val < 2 := lt_of_lt_of_eq t.isLt (by decide +kernel)
  all_goals omega

/-- The weight, at a point's block. -/
theorem at1 (m : (ℓ : Loc nD τ sig) → Buf (Elt Ideal) ℓ) (c : Dev nD) (t : Fin cfg0.N) (y : S176x1024.Idx) (i : Cert.AdamFfnRefIdeal.S352x1024.Idx)
    (h₀ : (i 0).val = t.val * 176 + (y 0).val) (h₁ : (i 1).val = (y 1).val) :
    iblk m c 1 t y = m ((c : Thread nD τ).loc main_arg1) i := by
  blk_simp [iblk, idx1]
  rw [V_main_arg1]
  refine at_entry (M := 352) (N := 1024) _ (?_ : _ = (i 0).val) (?_ : _ = (i 1).val)
  all_goals blk_simp [idx1]
  all_goals have ht : t.val < 2 := lt_of_lt_of_eq t.isLt (by decide +kernel)
  all_goals omega

/-- The first moment. -/
theorem at2 (m : (ℓ : Loc nD τ sig) → Buf (Elt Ideal) ℓ) (c : Dev nD) (t : Fin cfg0.N) (y : S176x1024.Idx) (i : Cert.AdamFfnRefIdeal.S352x1024.Idx)
    (h₀ : (i 0).val = t.val * 176 + (y 0).val) (h₁ : (i 1).val = (y 1).val) :
    iblk m c 2 t y = m ((c : Thread nD τ).loc main_arg2) i := by
  blk_simp [iblk, idx2]
  rw [V_main_arg2]
  refine at_entry (M := 352) (N := 1024) _ (?_ : _ = (i 0).val) (?_ : _ = (i 1).val)
  all_goals blk_simp [idx2]
  all_goals have ht : t.val < 2 := lt_of_lt_of_eq t.isLt (by decide +kernel)
  all_goals omega

/-- The second moment. -/
theorem at3 (m : (ℓ : Loc nD τ sig) → Buf (Elt Ideal) ℓ) (c : Dev nD) (t : Fin cfg0.N) (y : S176x1024.Idx) (i : Cert.AdamFfnRefIdeal.S352x1024.Idx)
    (h₀ : (i 0).val = t.val * 176 + (y 0).val) (h₁ : (i 1).val = (y 1).val) :
    iblk m c 3 t y = m ((c : Thread nD τ).loc main_arg3) i := by
  blk_simp [iblk, idx3]
  rw [V_main_arg3]
  refine at_entry (M := 352) (N := 1024) _ (?_ : _ = (i 0).val) (?_ : _ = (i 1).val)
  all_goals blk_simp [idx3]
  all_goals have ht : t.val < 2 := lt_of_lt_of_eq t.isLt (by decide +kernel)
  all_goals omega

/-- The reference's new first moment at an entry. -/
theorem ref_first (x0 : Vec Ideal Cert.AdamFfnRefIdeal.S8x352x1024 .bf16) (x2 : Vec Ideal Cert.AdamFfnRefIdeal.S352x1024 .f32) (i : Cert.AdamFfnRefIdeal.S352x1024.Idx) :
    val_main_v6 (F := Ideal) x0 x2 i = first (val_main_v1 (F := Ideal) x0 i) (x2 i) := by
  rw [val_main_v6_apply, val_main_v3_apply, val_main_v5_apply, val_main_v2_apply, val_main_v4_apply]
  rfl

/-- Its new second moment. -/
theorem ref_second (x0 : Vec Ideal Cert.AdamFfnRefIdeal.S8x352x1024 .bf16) (x3 : Vec Ideal Cert.AdamFfnRefIdeal.S352x1024 .f32) (i : Cert.AdamFfnRefIdeal.S352x1024.Idx) :
    val_main_v12 (F := Ideal) x0 x3 i = second (val_main_v1 (F := Ideal) x0 i) (x3 i) := by
  rw [val_main_v12_apply, val_main_v8_apply, val_main_v11_apply, val_main_v7_apply, val_main_v10_apply, val_main_v9_apply]
  rfl

/-- Its change of the weight. -/
theorem ref_step (x0 : Vec Ideal Cert.AdamFfnRefIdeal.S8x352x1024 .bf16) (x1 x2 x3 : Vec Ideal Cert.AdamFfnRefIdeal.S352x1024 .f32) (i : Cert.AdamFfnRefIdeal.S352x1024.Idx) :
    val_main_v25 (F := Ideal) x0 x1 x2 x3 i
      = step (val_main_v6 (F := Ideal) x0 x2 i) (val_main_v12 (F := Ideal) x0 x3 i) (x1 i) := by
  simp only [val_main_v25_apply, val_main_v24_apply, val_main_v23_apply, val_main_v22_apply, val_main_v21_apply, val_main_v20_apply,
    val_main_v19_apply, val_main_v18_apply, val_main_v17_apply, val_main_v16_apply, val_main_v15_apply, val_main_v14_apply, val_main_v13_apply]
  rfl

/-- The summed gradient. -/
theorem final0 (m : (ℓ : Loc nD τ sig) → Buf (Elt Ideal) ℓ) (c : Dev nD) : (dats m 0 c).arrAt 4 cfg0.N
    = val_main_v1 (F := Ideal) (m ((c : Thread nD τ).loc main_arg0)) := by
  refine (dats m 0 c).arrAt_eq_of_covers 4 _ (by decide +kernel) fun t hf y => ?_
  blk_simp
  rw [after0_4]
  unfold out0_4
  rw [View.canon_unit_zero zero_offset]
  refine grad m c t y _ ?_ ?_
  all_goals blk_simp [idx4]
  all_goals have ht : t.val < 2 := lt_of_lt_of_eq t.isLt (by decide +kernel)
  all_goals omega

/-- The change of the weight. -/
theorem final1 (m : (ℓ : Loc nD τ sig) → Buf (Elt Ideal) ℓ) (c : Dev nD) : (dats m 0 c).arrAt 5 cfg0.N
    = val_main_v25 (F := Ideal) (m ((c : Thread nD τ).loc main_arg0))
      (m ((c : Thread nD τ).loc main_arg1)) (m ((c : Thread nD τ).loc main_arg2))
      (m ((c : Thread nD τ).loc main_arg3)) := by
  refine (dats m 0 c).arrAt_eq_of_covers 5 _ (by decide +kernel) fun t hf y => ?_
  blk_simp
  rw [after0_5]
  unfold out0_5
  rw [View.canon_unit_zero zero_offset, View.ld_unit_zero zero_offset, View.ld_unit_zero zero_offset, View.ld_unit_zero zero_offset]
  rw [ref_step, ref_first, ref_second]
  refine Eq.trans (b := step (first (k0_pay5 (iblk m c 0 t) (iblk m c 1 t) (iblk m c 2 t) (iblk m c 3 t) y) (iblk m c 2 t y))
    (second (k0_pay5 (iblk m c 0 t) (iblk m c 1 t) (iblk m c 2 t) (iblk m c 3 t) y) (iblk m c 3 t y)) (iblk m c 1 t y)) rfl ?_
  refine congr (congrArg₂ step (congrArg₂ first (grad m c t y _ ?_ ?_) (at2 m c t y _ ?_ ?_))
    (congrArg₂ second (grad m c t y _ ?_ ?_) (at3 m c t y _ ?_ ?_))) (at1 m c t y _ ?_ ?_)
  all_goals blk_simp [idx5]
  all_goals have ht : t.val < 2 := lt_of_lt_of_eq t.isLt (by decide +kernel)
  all_goals omega

/-- The new first moment. -/
theorem final2 (m : (ℓ : Loc nD τ sig) → Buf (Elt Ideal) ℓ) (c : Dev nD) : (dats m 0 c).arrAt 6 cfg0.N
    = val_main_v6 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  unfold out0_6
  rw [View.canon_unit_zero zero_offset, View.ld_unit_zero zero_offset]
  rw [ref_first]
  refine Eq.trans (b := first (k0_pay5 (iblk m c 0 t) (iblk m c 1 t) (iblk m c 2 t) (iblk m c 3 t) y) (iblk m c 2 t y)) rfl ?_
  refine congrArg₂ first (grad m c t y _ ?_ ?_) (at2 m c t y _ ?_ ?_)
  all_goals blk_simp [idx6]
  all_goals have ht : t.val < 2 := lt_of_lt_of_eq t.isLt (by decide +kernel)
  all_goals omega

/-- The new second moment. -/
theorem final3 (m : (ℓ : Loc nD τ sig) → Buf (Elt Ideal) ℓ) (c : Dev nD) : (dats m 0 c).arrAt 7 cfg0.N
    = val_main_v12 (F := Ideal) (m ((c : Thread nD τ).loc main_arg0)) (m ((c : Thread nD τ).loc main_arg3)) := by
  refine (dats m 0 c).arrAt_eq_of_covers 7 _ (by decide +kernel) fun t hf y => ?_
  blk_simp
  rw [after0_7]
  unfold out0_7
  rw [View.canon_unit_zero zero_offset, View.ld_unit_zero zero_offset]
  rw [ref_second]
  refine Eq.trans (b := second (k0_pay5 (iblk m c 0 t) (iblk m c 1 t) (iblk m c 2 t) (iblk m c 3 t) y) (iblk m c 3 t y)) rfl ?_
  refine congrArg₂ second (grad m c t y _ ?_ ?_) (at3 m c t y _ ?_ ?_)
  all_goals blk_simp [idx7]
  all_goals have ht : t.val < 2 := lt_of_lt_of_eq t.isLt (by decide +kernel)
  all_goals omega

end Cert.AdamFfnIdeal.Sums

end
-- ==== Proof.AdamMod.lean ====
/-
  The optimiser's step of the modulation's weight, from its gradient: the moments and the change of the weight follow entry by entry.
-/
module

public import proofs.«01_k».proof.Proof.Gen.AdamModIdeal.Value
public import proofs.«01_k».proof.Proof.Gen.AdamModRefIdeal.Read
public import proofs.«01_k».proof.Proof.Adam

@[expose] public section

set_option maxRecDepth 16384

noncomputable section

open Cert.Product Cert.Adam Idealize.ShloMosaic Idealize.ShloMosaic.TcCoe
namespace Cert.AdamModIdeal.Sums

open Cert.AdamModIdeal Cert.AdamModIdeal.Gen Cert.AdamModRefIdeal.Read

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- A block loaded whole. -/
theorem block_ld (x : Vec Ideal S256x768 .f32) : View.ld x r0_1 = x := View.ld_unit_zero zero_offset _ x

/-- The gradient as the call receives it, with an axis of size one before its own. -/
theorem V_grad (m : (ℓ : Loc nD τ sig) → Buf (Elt Ideal) ℓ) (c : Dev nD) : (V m c main_v0 : S1x1024x768.Idx → EReal)
    = broadcastInDim S1x1024x768 ![1, 2] bcast_S1024x768_S1x1024x768_1_2 (m ((c : Thread nD τ).loc main_arg0)) := by
  entry_read
  rfl

/-- The gradient of a point's block is the reference's there. -/
theorem grad (m : (ℓ : Loc nD τ sig) → Buf (Elt Ideal) ℓ) (c : Dev nD) (t : Fin cfg0.N) (y : S256x768.Idx) (i : Cert.AdamModRefIdeal.S1024x768.Idx)
    (h₀ : (i 0).val = t.val * 256 + (y 0).val) (h₁ : (i 1).val = (y 1).val) :
    k0_pay1 (View.ld (iblk m c 0 t) r0_0) y = m ((c : Thread nD τ).loc main_arg0) i := by
  refine (page (D := 1) (M := 256) (N := 768) (iblk m c 0 t) 0 (by omega) _ _ y).trans ?_
  blk_simp [iblk, idx0]
  rw [V_grad]
  refine (lead (M := 1024) (N := 768) (by decide) (by decide) _ _ _).trans ?_
  refine at_entry (M := 1024) (N := 768) _ (?_ : _ = (i 0).val) (?_ : _ = (i 1).val)
  all_goals blk_simp [idx0]
  all_goals have ht : t.val < 4 := lt_of_lt_of_eq t.isLt (by decide +kernel)
  all_goals omega

/-- The weight, at a point's block. -/
theorem at1 (m : (ℓ : Loc nD τ sig) → Buf (Elt Ideal) ℓ) (c : Dev nD) (t : Fin cfg0.N) (y : S256x768.Idx) (i : Cert.AdamModRefIdeal.S1024x768.Idx)
    (h₀ : (i 0).val = t.val * 256 + (y 0).val) (h₁ : (i 1).val = (y 1).val) :
    iblk m c 1 t y = m ((c : Thread nD τ).loc main_arg1) i := by
  blk_simp [iblk, idx1]
  rw [V_main_arg1]
  refine at_entry (M := 1024) (N := 768) _ (?_ : _ = (i 0).val) (?_ : _ = (i 1).val)
  all_goals blk_simp [idx1]
  all_goals have ht : t.val < 4 := lt_of_lt_of_eq t.isLt (by decide +kernel)
  all_goals omega

/-- The first moment. -/
theorem at2 (m : (ℓ : Loc nD τ sig) → Buf (Elt Ideal) ℓ) (c : Dev nD) (t : Fin cfg0.N) (y : S256x768.Idx) (i : Cert.AdamModRefIdeal.S1024x768.Idx)
    (h₀ : (i 0).val = t.val * 256 + (y 0).val) (h₁ : (i 1).val = (y 1).val) :
    iblk m c 2 t y = m ((c : Thread nD τ).loc main_arg2) i := by
  blk_simp [iblk, idx2]
  rw [V_main_arg2]
  refine at_entry (M := 1024) (N := 768) _ (?_ : _ = (i 0).val) (?_ : _ = (i 1).val)
  all_goals blk_simp [idx2]
  all_goals have ht : t.val < 4 := lt_of_lt_of_eq t.isLt (by decide +kernel)
  all_goals omega

/-- The second moment. -/
theorem at3 (m : (ℓ : Loc nD τ sig) → Buf (Elt Ideal) ℓ) (c : Dev nD) (t : Fin cfg0.N) (y : S256x768.Idx) (i : Cert.AdamModRefIdeal.S1024x768.Idx)
    (h₀ : (i 0).val = t.val * 256 + (y 0).val) (h₁ : (i 1).val = (y 1).val) :
    iblk m c 3 t y = m ((c : Thread nD τ).loc main_arg3) i := by
  blk_simp [iblk, idx3]
  rw [V_main_arg3]
  refine at_entry (M := 1024) (N := 768) _ (?_ : _ = (i 0).val) (?_ : _ = (i 1).val)
  all_goals blk_simp [idx3]
  all_goals have ht : t.val < 4 := lt_of_lt_of_eq t.isLt (by decide +kernel)
  all_goals omega

/-- The reference's new first moment at an entry. -/
theorem ref_first (x0 x2 : Vec Ideal Cert.AdamModRefIdeal.S1024x768 .f32) (i : Cert.AdamModRefIdeal.S1024x768.Idx) :
    val_main_v4 (F := Ideal) x0 x2 i = first (x0 i) (x2 i) := by
  rw [val_main_v4_apply, val_main_v1_apply, val_main_v3_apply, val_main_v0_apply, val_main_v2_apply]
  rfl

/-- Its new second moment. -/
theorem ref_second (x0 x3 : Vec Ideal Cert.AdamModRefIdeal.S1024x768 .f32) (i : Cert.AdamModRefIdeal.S1024x768.Idx) :
    val_main_v10 (F := Ideal) x0 x3 i = second (x0 i) (x3 i) := by
  rw [val_main_v10_apply, val_main_v6_apply, val_main_v9_apply, val_main_v5_apply, val_main_v8_apply, val_main_v7_apply]
  rfl

/-- Its change of the weight. -/
theorem ref_step (x0 x1 x2 x3 : Vec Ideal Cert.AdamModRefIdeal.S1024x768 .f32) (i : Cert.AdamModRefIdeal.S1024x768.Idx) :
    val_main_v23 (F := Ideal) x0 x1 x2 x3 i
      = step (val_main_v4 (F := Ideal) x0 x2 i) (val_main_v10 (F := Ideal) x0 x3 i) (x1 i) := by
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply]
  rfl

/-- The gradient itself. -/
theorem final0 (m : (ℓ : Loc nD τ sig) → Buf (Elt Ideal) ℓ) (c : Dev nD) : (dats m 0 c).arrAt 4 cfg0.N
    = m ((c : Thread nD τ).loc main_arg0) := by
  refine (dats m 0 c).arrAt_eq_of_covers 4 _ (by decide +kernel) fun t hf y => ?_
  blk_simp
  rw [after0_4]
  unfold out0_4
  rw [View.canon_unit_zero zero_offset]
  refine grad m c t y _ ?_ ?_
  all_goals blk_simp [idx4]
  all_goals have ht : t.val < 4 := lt_of_lt_of_eq t.isLt (by decide +kernel)
  all_goals omega

/-- The change of the weight. -/
theorem final1 (m : (ℓ : Loc nD τ sig) → Buf (Elt Ideal) ℓ) (c : Dev nD) : (dats m 0 c).arrAt 5 cfg0.N
    = val_main_v23 (F := Ideal) (m ((c : Thread nD τ).loc main_arg0))
      (m ((c : Thread nD τ).loc main_arg1)) (m ((c : Thread nD τ).loc main_arg2))
      (m ((c : Thread nD τ).loc main_arg3)) := by
  refine (dats m 0 c).arrAt_eq_of_covers 5 _ (by decide +kernel) fun t hf y => ?_
  blk_simp
  rw [after0_5]
  unfold out0_5
  rw [View.canon_unit_zero zero_offset, block_ld, block_ld, block_ld]
  rw [ref_step, ref_first, ref_second]
  refine Eq.trans (b := step (first (k0_pay1 (View.ld (iblk m c 0 t) r0_0) y) (iblk m c 2 t y))
    (second (k0_pay1 (View.ld (iblk m c 0 t) r0_0) y) (iblk m c 3 t y)) (iblk m c 1 t y)) rfl ?_
  refine congr (congrArg₂ step (congrArg₂ first (grad m c t y _ ?_ ?_) (at2 m c t y _ ?_ ?_))
    (congrArg₂ second (grad m c t y _ ?_ ?_) (at3 m c t y _ ?_ ?_))) (at1 m c t y _ ?_ ?_)
  all_goals blk_simp [idx5]
  all_goals have ht : t.val < 4 := lt_of_lt_of_eq t.isLt (by decide +kernel)
  all_goals omega

/-- The new first moment. -/
theorem final2 (m : (ℓ : Loc nD τ sig) → Buf (Elt Ideal) ℓ) (c : Dev nD) : (dats m 0 c).arrAt 6 cfg0.N
    = val_main_v4 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  unfold out0_6
  rw [View.canon_unit_zero zero_offset, block_ld]
  rw [ref_first]
  refine Eq.trans (b := first (k0_pay1 (View.ld (iblk m c 0 t) r0_0) y) (iblk m c 2 t y)) rfl ?_
  refine congrArg₂ first (grad m c t y _ ?_ ?_) (at2 m c t y _ ?_ ?_)
  all_goals blk_simp [idx6]
  all_goals have ht : t.val < 4 := lt_of_lt_of_eq t.isLt (by decide +kernel)
  all_goals omega

/-- The new second moment. -/
theorem final3 (m : (ℓ : Loc nD τ sig) → Buf (Elt Ideal) ℓ) (c : Dev nD) : (dats m 0 c).arrAt 7 cfg0.N
    = val_main_v10 (F := Ideal) (m ((c : Thread nD τ).loc main_arg0)) (m ((c : Thread nD τ).loc main_arg3)) := by
  refine (dats m 0 c).arrAt_eq_of_covers 7 _ (by decide +kernel) fun t hf y => ?_
  blk_simp
  rw [after0_7]
  unfold out0_7
  rw [View.canon_unit_zero zero_offset, block_ld]
  rw [ref_second]
  refine Eq.trans (b := second (k0_pay1 (View.ld (iblk m c 0 t) r0_0) y) (iblk m c 3 t y)) rfl ?_
  refine congrArg₂ second (grad m c t y _ ?_ ?_) (at3 m c t y _ ?_ ?_)
  all_goals blk_simp [idx7]
  all_goals have ht : t.val < 4 := lt_of_lt_of_eq t.isLt (by decide +kernel)
  all_goals omega

end Cert.AdamModIdeal.Sums

end
-- ==== Proof.AdamSmall.lean ====
/-
  The optimiser's step of the small weights, packed into one array, from its gradient: the moments and the change of the weight follow entry by entry.
-/
module

public import proofs.«01_k».proof.Proof.Gen.AdamSmallIdeal.Value
public import proofs.«01_k».proof.Proof.Gen.AdamSmallRefIdeal.Read
public import proofs.«01_k».proof.Proof.Adam

@[expose] public section

set_option maxRecDepth 16384

noncomputable section

open Cert.Product Cert.Adam Idealize.ShloMosaic Idealize.ShloMosaic.TcCoe
namespace Cert.AdamSmallIdeal.Sums

open Cert.AdamSmallIdeal Cert.AdamSmallIdeal.Gen Cert.AdamSmallRefIdeal.Read

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- A block loaded whole. -/
theorem block_ld (x : Vec Ideal S109x128 .f32) : View.ld x r0_1 = x := View.ld_unit_zero zero_offset _ x

/-- The gradient as the call receives it, with an axis of size one before its own. -/
theorem V_grad (m : (ℓ : Loc nD τ sig) → Buf (Elt Ideal) ℓ) (c : Dev nD) : (V m c main_v0 : S1x109x128.Idx → EReal)
    = broadcastInDim S1x109x128 ![1, 2] bcast_S109x128_S1x109x128_1_2 (m ((c : Thread nD τ).loc main_arg0)) := by
  entry_read
  rfl

/-- The gradient of a point's block is the reference's there. -/
theorem grad (m : (ℓ : Loc nD τ sig) → Buf (Elt Ideal) ℓ) (c : Dev nD) (t : Fin cfg0.N) (y : S109x128.Idx) (i : Cert.AdamSmallRefIdeal.S109x128.Idx)
    (h₀ : (i 0).val = t.val * 109 + (y 0).val) (h₁ : (i 1).val = (y 1).val) :
    k0_pay1 (View.ld (iblk m c 0 t) r0_0) y = m ((c : Thread nD τ).loc main_arg0) i := by
  refine (page (D := 1) (M := 109) (N := 128) (iblk m c 0 t) 0 (by omega) _ _ y).trans ?_
  blk_simp [iblk, idx0]
  rw [V_grad]
  refine (lead (M := 109) (N := 128) (by decide) (by decide) _ _ _).trans ?_
  refine at_entry (M := 109) (N := 128) _ (?_ : _ = (i 0).val) (?_ : _ = (i 1).val)
  all_goals blk_simp [idx0]
  all_goals have ht : t.val < 1 := lt_of_lt_of_eq t.isLt (by decide +kernel)
  all_goals omega

/-- The weight, at a point's block. -/
theorem at1 (m : (ℓ : Loc nD τ sig) → Buf (Elt Ideal) ℓ) (c : Dev nD) (t : Fin cfg0.N) (y : S109x128.Idx) (i : Cert.AdamSmallRefIdeal.S109x128.Idx)
    (h₀ : (i 0).val = t.val * 109 + (y 0).val) (h₁ : (i 1).val = (y 1).val) :
    iblk m c 1 t y = m ((c : Thread nD τ).loc main_arg1) i := by
  blk_simp [iblk, idx1]
  rw [V_main_arg1]
  refine at_entry (M := 109) (N := 128) _ (?_ : _ = (i 0).val) (?_ : _ = (i 1).val)
  all_goals blk_simp [idx1]
  all_goals have ht : t.val < 1 := lt_of_lt_of_eq t.isLt (by decide +kernel)
  all_goals omega

/-- The first moment. -/
theorem at2 (m : (ℓ : Loc nD τ sig) → Buf (Elt Ideal) ℓ) (c : Dev nD) (t : Fin cfg0.N) (y : S109x128.Idx) (i : Cert.AdamSmallRefIdeal.S109x128.Idx)
    (h₀ : (i 0).val = t.val * 109 + (y 0).val) (h₁ : (i 1).val = (y 1).val) :
    iblk m c 2 t y = m ((c : Thread nD τ).loc main_arg2) i := by
  blk_simp [iblk, idx2]
  rw [V_main_arg2]
  refine at_entry (M := 109) (N := 128) _ (?_ : _ = (i 0).val) (?_ : _ = (i 1).val)
  all_goals blk_simp [idx2]
  all_goals have ht : t.val < 1 := lt_of_lt_of_eq t.isLt (by decide +kernel)
  all_goals omega

/-- The second moment. -/
theorem at3 (m : (ℓ : Loc nD τ sig) → Buf (Elt Ideal) ℓ) (c : Dev nD) (t : Fin cfg0.N) (y : S109x128.Idx) (i : Cert.AdamSmallRefIdeal.S109x128.Idx)
    (h₀ : (i 0).val = t.val * 109 + (y 0).val) (h₁ : (i 1).val = (y 1).val) :
    iblk m c 3 t y = m ((c : Thread nD τ).loc main_arg3) i := by
  blk_simp [iblk, idx3]
  rw [V_main_arg3]
  refine at_entry (M := 109) (N := 128) _ (?_ : _ = (i 0).val) (?_ : _ = (i 1).val)
  all_goals blk_simp [idx3]
  all_goals have ht : t.val < 1 := lt_of_lt_of_eq t.isLt (by decide +kernel)
  all_goals omega

/-- The reference's new first moment at an entry. -/
theorem ref_first (x0 x2 : Vec Ideal Cert.AdamSmallRefIdeal.S109x128 .f32) (i : Cert.AdamSmallRefIdeal.S109x128.Idx) :
    val_main_v4 (F := Ideal) x0 x2 i = first (x0 i) (x2 i) := by
  rw [val_main_v4_apply, val_main_v1_apply, val_main_v3_apply, val_main_v0_apply, val_main_v2_apply]
  rfl

/-- Its new second moment. -/
theorem ref_second (x0 x3 : Vec Ideal Cert.AdamSmallRefIdeal.S109x128 .f32) (i : Cert.AdamSmallRefIdeal.S109x128.Idx) :
    val_main_v10 (F := Ideal) x0 x3 i = second (x0 i) (x3 i) := by
  rw [val_main_v10_apply, val_main_v6_apply, val_main_v9_apply, val_main_v5_apply, val_main_v8_apply, val_main_v7_apply]
  rfl

/-- Its change of the weight. -/
theorem ref_step (x0 x1 x2 x3 : Vec Ideal Cert.AdamSmallRefIdeal.S109x128 .f32) (i : Cert.AdamSmallRefIdeal.S109x128.Idx) :
    val_main_v23 (F := Ideal) x0 x1 x2 x3 i
      = step (val_main_v4 (F := Ideal) x0 x2 i) (val_main_v10 (F := Ideal) x0 x3 i) (x1 i) := by
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply]
  rfl

/-- The gradient itself. -/
theorem final0 (m : (ℓ : Loc nD τ sig) → Buf (Elt Ideal) ℓ) (c : Dev nD) : (dats m 0 c).arrAt 4 cfg0.N
    = m ((c : Thread nD τ).loc main_arg0) := by
  refine (dats m 0 c).arrAt_eq_of_covers 4 _ (by decide +kernel) fun t hf y => ?_
  blk_simp
  rw [after0_4]
  unfold out0_4
  rw [View.canon_unit_zero zero_offset]
  refine grad m c t y _ ?_ ?_
  all_goals blk_simp [idx4]
  all_goals have ht : t.val < 1 := lt_of_lt_of_eq t.isLt (by decide +kernel)
  all_goals omega

/-- The change of the weight. -/
theorem final1 (m : (ℓ : Loc nD τ sig) → Buf (Elt Ideal) ℓ) (c : Dev nD) : (dats m 0 c).arrAt 5 cfg0.N
    = val_main_v23 (F := Ideal) (m ((c : Thread nD τ).loc main_arg0))
      (m ((c : Thread nD τ).loc main_arg1)) (m ((c : Thread nD τ).loc main_arg2))
      (m ((c : Thread nD τ).loc main_arg3)) := by
  refine (dats m 0 c).arrAt_eq_of_covers 5 _ (by decide +kernel) fun t hf y => ?_
  blk_simp
  rw [after0_5]
  unfold out0_5
  rw [View.canon_unit_zero zero_offset, block_ld, block_ld, block_ld]
  rw [ref_step, ref_first, ref_second]
  refine Eq.trans (b := step (first (k0_pay1 (View.ld (iblk m c 0 t) r0_0) y) (iblk m c 2 t y))
    (second (k0_pay1 (View.ld (iblk m c 0 t) r0_0) y) (iblk m c 3 t y)) (iblk m c 1 t y)) rfl ?_
  refine congr (congrArg₂ step (congrArg₂ first (grad m c t y _ ?_ ?_) (at2 m c t y _ ?_ ?_))
    (congrArg₂ second (grad m c t y _ ?_ ?_) (at3 m c t y _ ?_ ?_))) (at1 m c t y _ ?_ ?_)
  all_goals blk_simp [idx5]
  all_goals have ht : t.val < 1 := lt_of_lt_of_eq t.isLt (by decide +kernel)
  all_goals omega

/-- The new first moment. -/
theorem final2 (m : (ℓ : Loc nD τ sig) → Buf (Elt Ideal) ℓ) (c : Dev nD) : (dats m 0 c).arrAt 6 cfg0.N
    = val_main_v4 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  unfold out0_6
  rw [View.canon_unit_zero zero_offset, block_ld]
  rw [ref_first]
  refine Eq.trans (b := first (k0_pay1 (View.ld (iblk m c 0 t) r0_0) y) (iblk m c 2 t y)) rfl ?_
  refine congrArg₂ first (grad m c t y _ ?_ ?_) (at2 m c t y _ ?_ ?_)
  all_goals blk_simp [idx6]
  all_goals have ht : t.val < 1 := lt_of_lt_of_eq t.isLt (by decide +kernel)
  all_goals omega

/-- The new second moment. -/
theorem final3 (m : (ℓ : Loc nD τ sig) → Buf (Elt Ideal) ℓ) (c : Dev nD) : (dats m 0 c).arrAt 7 cfg0.N
    = val_main_v10 (F := Ideal) (m ((c : Thread nD τ).loc main_arg0)) (m ((c : Thread nD τ).loc main_arg3)) := by
  refine (dats m 0 c).arrAt_eq_of_covers 7 _ (by decide +kernel) fun t hf y => ?_
  blk_simp
  rw [after0_7]
  unfold out0_7
  rw [View.canon_unit_zero zero_offset, block_ld]
  rw [ref_second]
  refine Eq.trans (b := second (k0_pay1 (View.ld (iblk m c 0 t) r0_0) y) (iblk m c 3 t y)) rfl ?_
  refine congrArg₂ second (grad m c t y _ ?_ ?_) (at3 m c t y _ ?_ ?_)
  all_goals blk_simp [idx7]
  all_goals have ht : t.val < 1 := lt_of_lt_of_eq t.isLt (by decide +kernel)
  all_goals omega

end Cert.AdamSmallIdeal.Sums

end
-- ==== Proof.ModFwd.lean ====
/-
  The modulation: one product of `silu` of the conditioning with a weight, and a bias added to every row.
-/
module

public import proofs.«01_k».proof.Proof.Gen.ModFwdIdeal.Value
public import proofs.«01_k».proof.Proof.Gen.ModFwdRefIdeal.Read
public import proofs.«01_k».proof.Proof.Gates

@[expose] public section

set_option maxRecDepth 16384

noncomputable section

open Cert.Product Idealize.ShloMosaic Idealize.ShloMosaic.TcCoe
namespace Cert.ModFwdIdeal.Sums

open Cert.ModFwdIdeal Cert.ModFwdIdeal.Gen Cert.ModFwdRefIdeal.Read

/-- The reference's `silu`. -/
theorem ref_silu (x0 : Vec Ideal Cert.ModFwdRefIdeal.S16x1024 .f32) (i : Cert.ModFwdRefIdeal.S16x1024.Idx) :
    val_main_v0 (F := Ideal) x0 i = (x0 i : EReal) * Ideal.logistic (x0 i) := by
  rw [val_main_v0_apply, val_main_call0_v5_apply, val_main_call0_v4_apply, val_main_call0_v3_apply, val_main_call0_v2_apply,
    val_main_call0_v1_apply, val_main_call0_v0_apply]
  exact congrArg ((x0 i : EReal) * ·) (written_logistic (x0 i))

/-- The reference's indices of its operands, by coordinates. -/
theorem left_at (y : Cert.ModFwdRefIdeal.S16x768.Idx) (k : Fin 1024) : lidx_main_v1 y k = ix2 (y 0) k := by
  funext a; match a with
  | ⟨0, _⟩ => rfl
  | ⟨1, _⟩ => rfl
theorem right_at (y : Cert.ModFwdRefIdeal.S16x768.Idx) (k : Fin 1024) : ridx_main_v1 y k = ix2 k (y 1) := by
  funext a; match a with
  | ⟨0, _⟩ => rfl
  | ⟨1, _⟩ => rfl

/-- The bias, read at an entry of a row. -/
theorem bias (x : Vec Ideal S1x768 .f32) (y : S16x768.Idx) :
    broadcastTo S16x768 x broadcasts_S1x768_S16x768 y = x (idx_main_v2 y) := by
  pointwise
  exact at_entry (M := 1) (N := 768) x rfl rfl

/-- The product with the bias added, entry by entry. -/
theorem result (a0 : Vec Ideal S16x1024 .f32) (a1 : Vec Ideal S1024x768 .f32) (a2 : Vec Ideal S1x768 .f32) (y : S16x768.Idx) :
    k0_pay1 a0 a1 a2 y = val_main_v3 (F := Ideal) a0 a1 a2 y := by
  rw [val_main_v3_apply, val_main_v2_apply, val_main_v1_apply]
  refine congrArg₂ (α := EReal) (β := EReal) (· + ·) ?_ (bias a2 y)
  refine (congrArg (matmul dot_S16x1024_S1024x768_S16x768_1_0_0_1_n_n (some .fp32) (mulf a0 (logistic a0)) a1
    (constant (F := Ideal) S16x768 .f32 0x00000000#32)) (eq_ix2 y)).trans ?_
  refine (Ideal.matmul_plain_apply (some .fp32) _ _ _ _ _).trans ?_
  rw [zeros_apply, zero_add]
  refine Finset.sum_congr rfl fun k _ => ?_
  rw [ref_silu, left_at, right_at]
  rfl

/-- The result. -/
theorem final (m : (ℓ : Loc nD τ sig) → Buf (Elt Ideal) ℓ) (c : Dev nD) : (dats m 0 c).arrAt 3 cfg0.N
    = val_main_v3 (F := Ideal) (m ((c : Thread nD τ).loc main_arg0)) (m ((c : Thread nD τ).loc main_arg1)) (m ((c : Thread nD τ).loc main_arg2)) :=
  (Value.final3 m c).trans (funext fun y => result _ _ _ y)

end Cert.ModFwdIdeal.Sums

end
-- ==== Proof.SumSmall.lean ====
/-
  The sum of eight devices' arrays, for the packed small gradients and the loss.
-/
module

public import proofs.«01_k».proof.Proof.Gen.SumSmallIdeal.Value
public import proofs.«01_k».proof.Proof.Gen.SumSmallRefIdeal.Read
public import proofs.«01_k».proof.Proof.Adam

@[expose] public section

set_option maxRecDepth 16384

noncomputable section

open Cert.Product Cert.Adam Idealize.ShloMosaic Idealize.ShloMosaic.TcCoe
namespace Cert.SumSmallIdeal.Sums

open Cert.SumSmallIdeal Cert.SumSmallIdeal.Gen Cert.SumSmallRefIdeal.Read

/-- The eight arrays, summed entry by entry. -/
theorem parts (x : Vec Ideal S8x275x128 .f32) (y : S275x128.Idx) :
    k0_pay1 (View.ld x r0_0) (View.ld x r0_1) (View.ld x r0_2) (View.ld x r0_3) (View.ld x r0_4) (View.ld x r0_5) (View.ld x r0_6) (View.ld x r0_7) y
      = ∑ k : Fin 8, x (ix3 k (y 0) (y 1)) := by
  rw [Fin.sum_univ_eight]
  refine congrArg₂ (α := EReal) (β := EReal) (· + ·) (congrArg₂ (α := EReal) (β := EReal) (· + ·) (congrArg₂ (α := EReal) (β := EReal) (· + ·)
    (congrArg₂ (α := EReal) (β := EReal) (· + ·) (congrArg₂ (α := EReal) (β := EReal) (· + ·) (congrArg₂ (α := EReal) (β := EReal) (· + ·)
    (congrArg₂ (α := EReal) (β := EReal) (· + ·) ?_ ?_) ?_) ?_) ?_) ?_) ?_) ?_
  · exact page x 0 (by omega) _ _ y
  · exact page x 1 (by omega) _ _ y
  · exact page x 2 (by omega) _ _ y
  · exact page x 3 (by omega) _ _ y
  · exact page x 4 (by omega) _ _ y
  · exact page x 5 (by omega) _ _ y
  · exact page x 6 (by omega) _ _ y
  · exact page x 7 (by omega) _ _ y

/-- It is the reference's sum. -/
theorem result (x : Vec Ideal S8x275x128 .f32) (y : S275x128.Idx) : Value.G1 x y = val_main_v0 (F := Ideal) x y := by
  refine (parts x y).trans ?_
  rw [val_main_v0_apply]
  refine Eq.trans ?_ (congrArg (· + _) zero_bits).symm
  rw [zero_add]
  exact Finset.sum_congr rfl fun k _ => at_entry3 (D := 8) (M := 275) (N := 128) x rfl rfl rfl

/-- The result. -/
theorem final (m : (ℓ : Loc nD τ sig) → Buf (Elt Ideal) ℓ) (c : Dev nD) : (dats m 0 c).arrAt 1 cfg0.N
    = val_main_v0 (F := Ideal) (m ((c : Thread nD τ).loc main_arg0)) :=
  (Value.final1 m c).trans (funext fun y => result _ y)

end Cert.SumSmallIdeal.Sums

end
-- ==== Proof.SumCtx.lean ====
/-
  The sum of eight devices' arrays, for the conditioning's gradient.
-/
module

public import proofs.«01_k».proof.Proof.Gen.SumCtxIdeal.Value
public import proofs.«01_k».proof.Proof.Gen.SumCtxRefIdeal.Read
public import proofs.«01_k».proof.Proof.Adam

@[expose] public section

set_option maxRecDepth 16384

noncomputable section

open Cert.Product Cert.Adam Idealize.ShloMosaic Idealize.ShloMosaic.TcCoe
namespace Cert.SumCtxIdeal.Sums

open Cert.SumCtxIdeal Cert.SumCtxIdeal.Gen Cert.SumCtxRefIdeal.Read

/-- The eight arrays, summed entry by entry. -/
theorem parts (x : Vec Ideal S8x8x1024 .f32) (y : S8x1024.Idx) :
    k0_pay1 (View.ld x r0_0) (View.ld x r0_1) (View.ld x r0_2) (View.ld x r0_3) (View.ld x r0_4) (View.ld x r0_5) (View.ld x r0_6) (View.ld x r0_7) y
      = ∑ k : Fin 8, x (ix3 k (y 0) (y 1)) := by
  rw [Fin.sum_univ_eight]
  refine congrArg₂ (α := EReal) (β := EReal) (· + ·) (congrArg₂ (α := EReal) (β := EReal) (· + ·) (congrArg₂ (α := EReal) (β := EReal) (· + ·)
    (congrArg₂ (α := EReal) (β := EReal) (· + ·) (congrArg₂ (α := EReal) (β := EReal) (· + ·) (congrArg₂ (α := EReal) (β := EReal) (· + ·)
    (congrArg₂ (α := EReal) (β := EReal) (· + ·) ?_ ?_) ?_) ?_) ?_) ?_) ?_) ?_
  · exact page x 0 (by omega) _ _ y
  · exact page x 1 (by omega) _ _ y
  · exact page x 2 (by omega) _ _ y
  · exact page x 3 (by omega) _ _ y
  · exact page x 4 (by omega) _ _ y
  · exact page x 5 (by omega) _ _ y
  · exact page x 6 (by omega) _ _ y
  · exact page x 7 (by omega) _ _ y

/-- It is the reference's sum. -/
theorem result (x : Vec Ideal S8x8x1024 .f32) (y : S8x1024.Idx) : Value.G1 x y = val_main_v0 (F := Ideal) x y := by
  refine (parts x y).trans ?_
  rw [val_main_v0_apply]
  refine Eq.trans ?_ (congrArg (· + _) zero_bits).symm
  rw [zero_add]
  exact Finset.sum_congr rfl fun k _ => at_entry3 (D := 8) (M := 8) (N := 1024) x rfl rfl rfl

/-- The result. -/
theorem final (m : (ℓ : Loc nD τ sig) → Buf (Elt Ideal) ℓ) (c : Dev nD) : (dats m 0 c).arrAt 1 cfg0.N
    = val_main_v0 (F := Ideal) (m ((c : Thread nD τ).loc main_arg0)) :=
  (Value.final1 m c).trans (funext fun y => result _ y)

end Cert.SumCtxIdeal.Sums

end
-- ==== Proof.ModBwd.lean ====
/-
  The gradients of the modulation: the weight's is one product of `silu` of the conditioning with the modulation's gradient; the first row
  of the conditioning's is another, times the derivative of `silu`.
-/
module

public import proofs.«01_k».proof.Proof.Gen.ModBwdIdeal.Value
public import proofs.«01_k».proof.Proof.Gen.ModBwdRefIdeal.Read
public import proofs.«01_k».proof.Proof.Gates

@[expose] public section

set_option maxRecDepth 16384

noncomputable section

open Cert.Product Idealize.ShloMosaic Idealize.ShloMosaic.TcCoe
namespace Cert.ModBwdIdeal.Sums

open Idealize.ShloMosaic.ValueIdx (contrEquiv1 contrEquiv1_symm_val)
open Cert.ModBwdIdeal Cert.ModBwdIdeal.Gen Cert.ModBwdRefIdeal.Read

/-- A product that contracts the rows of both operands, entry by entry. -/
theorem mul_rows {M K N : ℕ} (a : FVec Ideal ⟨2, ![K, M]⟩ .f32) (b : FVec Ideal ⟨2, ![K, N]⟩ .f32) (c : FVec Ideal ⟨2, ![M, N]⟩ .f32)
    (y : (⟨2, ![M, N]⟩ : Shape).Idx) :
    matmul (tn M K N) (some .fp32) a b c y = c y + ∑ k : Fin K, a (ix2 k (y 0)) * b (ix2 k (y 1)) := by
  show FloatOps.matmul (tn M K N) (some .fp32) a b c y = _
  rw [Ideal.matmul_apply, ← Equiv.sum_comp (contrEquiv1 (tn M K N) K rfl rfl).symm]
  refine congrArg (c y + ·) (Finset.sum_congr rfl fun k _ => ?_)
  have hk := contrEquiv1_symm_val (tn M K N) K rfl rfl k
  refine congrArg₂ (· * ·) (congrArg a (funext fun x => Fin.ext ?_)) (congrArg b (funext fun x => Fin.ext ?_))
  all_goals
    match x with
    | ⟨0, _⟩ => exact hk
    | ⟨1, _⟩ => rfl

/-- The reference's `silu`. -/
theorem ref_silu (x0 : Vec Ideal Cert.ModBwdRefIdeal.S16x1024 .f32) (i : Cert.ModBwdRefIdeal.S16x1024.Idx) :
    val_main_v0 (F := Ideal) x0 i = (x0 i : EReal) * Ideal.logistic (x0 i) := by
  rw [val_main_v0_apply, val_main_call0_v5_apply, val_main_call0_v4_apply, val_main_call0_v3_apply, val_main_call0_v2_apply,
    val_main_call0_v1_apply, val_main_call0_v0_apply]
  exact congrArg ((x0 i : EReal) * ·) (written_logistic (x0 i))

/-- Its logistic function. -/
theorem ref_sig (x0 : Vec Ideal Cert.ModBwdRefIdeal.S16x1024 .f32) (i : Cert.ModBwdRefIdeal.S16x1024.Idx) :
    val_main_v4_2 (F := Ideal) x0 i = Ideal.logistic (x0 i) := by
  rw [val_main_v4_2_apply, val_main_call1_v4_apply, val_main_call1_v3_apply, val_main_call1_v2_apply,
    val_main_call1_v1_apply, val_main_call1_v0_apply]
  exact written_logistic (x0 i)

/-- Its derivative of `silu`. -/
theorem ref_slope (x0 : Vec Ideal Cert.ModBwdRefIdeal.S16x1024 .f32) (i : Cert.ModBwdRefIdeal.S16x1024.Idx) :
    val_main_v6 (F := Ideal) x0 i = 1 * Ideal.logistic (x0 i) + (x0 i : EReal) * 1 * (Ideal.logistic (x0 i) * (1 - Ideal.logistic (x0 i))) := by
  rw [val_main_v6_apply, val_main_call2_v1_apply, val_main_call2_v2_apply, val_main_call2_v0_apply, val_main_v4_1_apply,
    val_main_call1_v7_apply, val_main_call1_v6_apply, val_main_v5_apply, ref_sig]
  show Ideal.ofBits .f32 0x3F800000#32 * _ + (_ * Ideal.ofBits .f32 0x3F800000#32) * (_ * (Ideal.ofBits .f32 0x3F800000#32 - _)) = _
  rw [one_bits]

/-- The two ways to write that derivative agree, at infinite arguments too. -/
theorem slope (u : EReal) :
    Ideal.logistic u * (1 + u * (1 - Ideal.logistic u)) = 1 * Ideal.logistic u + u * 1 * (Ideal.logistic u * (1 - Ideal.logistic u)) := by
  have none : (1 : EReal) - 1 = 0 := EReal.sub_self (EReal.coe_ne_top 1) (EReal.coe_ne_bot 1)
  induction u with
  | bot => rw [Ideal.logistic_bot, zero_mul, zero_mul, mul_zero, mul_zero, add_zero]
  | top => rw [Ideal.logistic_top, none, mul_zero, mul_zero, mul_zero, add_zero, add_zero, one_mul]
  | coe u =>
    rw [Ideal.logistic_coe]
    generalize (1 + Real.exp (-u))⁻¹ = s
    exact_mod_cast (by ring : s * (1 + u * (1 - s)) = 1 * s + u * 1 * (s * (1 - s)))

/-- The weight's gradient, entry by entry. -/
theorem weight (a0 : Vec Ideal S16x1024 .f32) (a1 : Vec Ideal S16x768 .f32) (y : S1024x768.Idx) :
    k0_pay1 a0 a1 y = val_main_v3 (F := Ideal) a0 a1 y := by
  rw [val_main_v3_apply, val_main_v2_apply]
  refine (mul_rows (M := 1024) (K := 16) (N := 768) _ _ _ y).trans ?_
  rw [zeros_apply, zero_add]
  refine Finset.sum_congr rfl fun k _ => ?_
  rw [ref_silu, mul_comm]
  refine congrArg₂ (α := EReal) (β := EReal) (· * ·) (at_entry (M := 16) (N := 768) a1 rfl rfl) ?_
  have e : (ix2 k (y 0) : S16x1024.Idx) = ridx_main_v2 (idx_main_v3 y) k := by
    funext a; match a with
    | ⟨0, _⟩ => rfl
    | ⟨1, _⟩ => rfl
  rw [← e]
  rfl

/-- The first eight rows of an array. -/
theorem first_rows {N : ℕ} {α : Type} (x : (⟨2, ![16, N]⟩ : Shape).Idx → α) (h : (⟨2, ![16, N]⟩ : Shape).Slices ![0, 0] ⟨2, ![8, N]⟩)
    (y : (⟨2, ![8, N]⟩ : Shape).Idx) :
    extractStridedSlice (⟨2, ![8, N]⟩ : Shape) ![0, 0] x h y = x (ix2 ⟨(y 0).val, Nat.lt_of_lt_of_le (y 0).isLt (show 8 ≤ 16 by decide)⟩ (y 1)) := by
  refine extractStridedSlice_apply _ x h y _ fun a => ?_
  match a with
  | ⟨0, _⟩ => exact (Nat.zero_add _).symm
  | ⟨1, _⟩ => exact (Nat.zero_add _).symm

/-- The product behind the conditioning's gradient. -/
theorem back (a1 : Vec Ideal S16x768 .f32) (a2 : Vec Ideal S1024x768 .f32) (y : S8x1024.Idx) :
    matmul (F := Ideal) (φ₁ := .f32) (φ₂ := .f32) dot_S8x768_S1024x768_S8x1024_1_1_0_0_n_n (some .fp32) (extractStridedSlice S8x768 ![0, 0] a1 slices_S16x768_o0_0_S8x768) a2
      (constant (F := Ideal) S8x1024 .f32 0x00000000#32) y = val_main_v8 (F := Ideal) a1 a2 (idx_main_v10 y) := by
  rw [val_main_v8_apply]
  refine (congrArg (matmul (F := Ideal) (φ₁ := .f32) (φ₂ := .f32) dot_S8x768_S1024x768_S8x1024_1_1_0_0_n_n (some .fp32) (extractStridedSlice S8x768 ![0, 0] a1 slices_S16x768_o0_0_S8x768) a2
    (constant (F := Ideal) S8x1024 .f32 0x00000000#32)) (eq_ix2 y)).trans ?_
  refine (Ideal.matmul_transposedRhs_apply (some .fp32) _ _ _ _ _).trans ?_
  rw [zeros_apply, zero_add]
  refine Finset.sum_congr rfl fun k _ => ?_
  rw [val_main_v7_apply]
  refine congrArg₂ (α := EReal) (β := EReal) (· * ·) ((first_rows (N := 768) a1 _ _).trans (at_entry (M := 16) (N := 768) a1 ?_ ?_))
    (at_entry (M := 1024) (N := 768) a2 ?_ ?_)
  all_goals first | rfl | exact Nat.zero_add _ | exact (Nat.zero_add _).symm

/-- The conditioning's gradient, entry by entry. -/
theorem cond (a0 : Vec Ideal S16x1024 .f32) (a1 : Vec Ideal S16x768 .f32) (a2 : Vec Ideal S1024x768 .f32) (y : S8x1024.Idx) :
    k0_pay2 a0 a1 a2 y = val_main_v15 (F := Ideal) a0 a1 a2 y := by
  rw [val_main_v15_apply, val_main_v10_apply, val_main_v9_apply, ref_slope, ← slope, ← back]
  have e : extractStridedSlice S8x1024 ![0, 0] a0 slices_S16x1024_o0_0_S8x1024 y = a0 (idx_main_v10 y) := by
    refine (first_rows (N := 1024) a0 _ y).trans (at_entry (M := 16) (N := 1024) a0 ?_ ?_)
    all_goals first | rfl | exact (Nat.zero_add _).symm
  rw [← e, ← one_bits]
  rw [val_main_call3_v1_apply, val_main_v14_apply, val_main_v12_apply, val_main_v11_apply, val_main_v13_apply, val_main_call3_v2_apply]
  have row : (iota .tc S8x1024 32 [0] iota_S8x1024_d0_w32 : IVec S8x1024 32) y = BitVec.ofNat 32 (y 0).val := by
    simp [iota]
  refine (congrArg (fun i : BitVec 32 => Scalar.select (α := EReal) (IntOp.cmpi .eq i 0#32) _ _) row).trans rfl

/-- The weight's gradient. -/
theorem final0 (m : (ℓ : Loc nD τ sig) → Buf (Elt Ideal) ℓ) (c : Dev nD) : (dats m 0 c).arrAt 3 cfg0.N
    = val_main_v3 (F := Ideal) (m ((c : Thread nD τ).loc main_arg0)) (m ((c : Thread nD τ).loc main_arg1)) :=
  (Value.final3 m c).trans (funext fun y => weight _ _ y)

/-- The conditioning's gradient. -/
theorem final1 (m : (ℓ : Loc nD τ sig) → Buf (Elt Ideal) ℓ) (c : Dev nD) : (dats m 0 c).arrAt 4 cfg0.N
    = val_main_v15 (F := Ideal) (m ((c : Thread nD τ).loc main_arg0)) (m ((c : Thread nD τ).loc main_arg1)) (m ((c : Thread nD τ).loc main_arg2)) :=
  (Value.final4 m c).trans (funext fun y => cond _ _ _ y)

end Cert.ModBwdIdeal.Sums

end
-- ==== Proof.Prenorm.lean ====
/-
  The first norm and its modulation: each row over the root of its mean square, times the norm's weight, scaled and shifted by the
  context's modulation or the latent's.
-/
module

public import proofs.«01_k».proof.Proof.Gen.PrenormIdeal.Value
public import proofs.«01_k».proof.Proof.Gen.PrenormRefIdeal.Read
public import proofs.«01_k».proof.Proof.Adam

@[expose] public section

set_option maxRecDepth 16384

noncomputable section

open Cert.Product Idealize.ShloMosaic Idealize.ShloMosaic.TcCoe
namespace Cert.PrenormIdeal.Sums

open Cert.PrenormIdeal Cert.PrenormIdeal.Gen Cert.PrenormRefIdeal.Read

theorem idx0 : ∀ t : Fin cfg0.N, win0_0.index t = ![0, 0] := (by decide +kernel : ∀ t : Fin grid0.N, _)
theorem idx1 : ∀ t : Fin cfg0.N, win0_1.index t = ![t.val - 1, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)

/-- The first point's block is the context's, the others the latent's. -/
theorem is_ctx : ∀ t : Fin cfg0.N, Scalar.cmpi .slt (BitVec.ofNat 32 (grid0.coords t 0).val) 1#32 = if t.val = 0 then 1#1 else 0#1 :=
  (by decide +kernel : ∀ t : Fin grid0.N, _)

/-- One over the root of a row's mean square. -/
def inv_root (u : Fin 1024 → EReal) : EReal :=
  Ideal.rsqrt (FloatOps.divf (F := Ideal) (φ := .f32) (∑ k, u k * u k) (Ideal.ofBits .f32 0x44800000#32) + Ideal.ofBits .f32 0x358637BD#32)

/-- An entry of the result from its row, the norm's weight, the scale and the shift. -/
def entry (u : Fin 1024 → EReal) (j : Fin 1024) (w s h : EReal) : EReal :=
  u j * inv_root u * w * (Ideal.ofBits .f32 0x3F800000#32 + s) + h

theorem entry_congr {u u' : Fin 1024 → EReal} {j j' : Fin 1024} {w w' s s' h h' : EReal} (eu : ∀ k, u k = u' k) (ej : j = j') (ew : w = w')
    (es : s = s') (eh : h = h') : entry u j w s h = entry u' j' w' s' h' := by
  rw [funext eu, ej, ew, es, eh]

/-- A row's sum, kept as a column. -/
theorem row_sum (v : FVec Ideal S256x1024 .f32) (p : Fin 256) (q : Fin 1) :
    shapeCast S256x1 (multiReduction .add [1] S256 v 0x00000000#32 reduces_S256x1024_S256 (.inl rfl) rfl) shapeCasts_S256_S256x1 (ix2 p q)
      = ∑ k : Fin 1024, v (ix2 p k) := by
  refine (shapeCast_apply _ _ _ (ix1 p) ?_).trans ?_
  · have := q.isLt
    simp [Shape.rowMajor_val_two, Shape.rowMajor_val_one]
  · exact (Ideal.reduceAdd_r2_a1 reduces_S256x1024_S256 v (ix1 p)).trans rfl

/-- A column over the whole width, and a row over the whole height. -/
theorem col (v : FVec Ideal S256x1 .f32) (y : S256x1024.Idx) :
    broadcastTo S256x1024 v broadcasts_S256x1_S256x1024 y = v (ix2 (y 0 : Fin 256) (0 : Fin 1)) :=
  broadcastTo_apply v _ y _ fun a => match a with
    | ⟨0, _⟩ => rfl
    | ⟨1, _⟩ => rfl

theorem row (v : FVec Ideal S1x1024 .f32) (y : S256x1024.Idx) :
    broadcastTo S256x1024 v broadcasts_S1x1024_S256x1024 y = v (ix2 (0 : Fin 1) (y 1 : Fin 1024)) :=
  broadcastTo_apply v _ y _ fun a => match a with
    | ⟨0, _⟩ => rfl
    | ⟨1, _⟩ => rfl

/-- What a point writes, entry by entry, once its rows and modulation are chosen. -/
theorem body (i : grid0.Coords) (v1 v2 : Vec Ideal S256x1024 .f32) (w s₁ s₂ h₁ h₂ : Vec Ideal S1x1024 .f32) (y : S256x1024.Idx)
    (u : Vec Ideal S256x1024 .f32) (s h : Vec Ideal S1x1024 .f32)
    (eu : Scalar.select (Scalar.cmpi .slt (BitVec.ofNat 32 (i 0).val) 1#32) v1 v2 = u)
    (es : Scalar.select (Scalar.cmpi .slt (BitVec.ofNat 32 (i 0).val) 1#32) s₁ s₂ = s)
    (eh : Scalar.select (Scalar.cmpi .slt (BitVec.ofNat 32 (i 0).val) 1#32) h₁ h₂ = h) :
    k0_pay1 i v1 v2 w s₁ s₂ h₁ h₂ y
      = entry (fun k => u (ix2 (y 0 : Fin 256) k)) (y 1) (w (ix2 (0 : Fin 1) (y 1 : Fin 1024))) (s (ix2 (0 : Fin 1) (y 1 : Fin 1024)))
        (h (ix2 (0 : Fin 1) (y 1 : Fin 1024))) := by
  unfold k0_pay1
  dsimp only
  rw [eu, es, eh]
  show u y * broadcastTo S256x1024 _ broadcasts_S256x1_S256x1024 y * broadcastTo S256x1024 _ broadcasts_S1x1024_S256x1024 y
    * broadcastTo S256x1024 _ broadcasts_S1x1024_S256x1024 y + broadcastTo S256x1024 _ broadcasts_S1x1024_S256x1024 y = _
  rw [col, row, row, row]
  unfold entry inv_root
  exact congrArg₂ (fun a b : EReal => a * Ideal.rsqrt (FloatOps.divf (F := Ideal) (φ := .f32) b _ + _) * _ * (_ + _) + _) (congrArg u (eq_ix2 y))
    (row_sum (mulf u u) (y 0) 0)

variable (x0 : Vec Ideal S256x1024 .f32) (x1 : Vec Ideal S2048x1024 .f32) (x2 : Vec Ideal S1x1024 .f32) (x3 x4 : Vec Ideal S8x1024 .f32)
  (i : S2304x1024.Idx) (q : Fin 1024)

/-- The reference's norm at an entry. -/
theorem ref_norm (u : Fin 1024 → EReal) (hu : ∀ k, val_main_v0 (F := Ideal) x0 x1 (ix2 (i 0 : Fin 2304) k) = u k) :
    val_main_v12 (F := Ideal) x0 x1 x2 i = u (i 1) * inv_root u * x2 (ix2 (0 : Fin 1) (i 1 : Fin 1024)) := by
  rw [val_main_v12_apply, val_main_v10_apply, val_main_v11_apply, val_main_v9_apply, val_main_v8_apply, val_main_v7_apply, val_main_v5_apply,
    val_main_v3_apply, val_main_v2_apply, val_main_v4_apply, val_main_v6_apply]
  have e : ∀ k : Fin 1024, val_main_v1 (F := Ideal) x0 x1 (idx_main_v2 (idx_main_v3 (idx_main_v9 i)) k) = u k * u k := fun k => by
    rw [val_main_v1_apply]
    have e : idx_main_v2 (idx_main_v3 (idx_main_v9 i)) k = ix2 (i 0 : Fin 2304) k := by
      funext a; match a with
      | ⟨0, _⟩ => rfl
      | ⟨1, _⟩ => rfl
    rw [e]
    exact congrArg₂ (α := EReal) (β := EReal) (· * ·) (hu k) (hu k)
  have e₂ : (idx_main_v11 i) = ix2 (0 : Fin 1) (i 1 : Fin 1024) := by
    funext a; match a with
    | ⟨0, _⟩ => rfl
    | ⟨1, _⟩ => rfl
  have e₀ : val_main_v0 (F := Ideal) x0 x1 i = u (i 1) := (congrArg (val_main_v0 (F := Ideal) x0 x1) (eq_ix2 i)).trans (hu _)
  rw [Finset.sum_congr rfl fun k _ => e k, e₀, e₂, val_main_cst_apply]
  unfold inv_root
  show u (i 1) * Ideal.rsqrt (FloatOps.divf (F := Ideal) (φ := .f32) (Ideal.ofBits .f32 0x00000000#32 + _) _ + _) * _ = _
  rw [Cert.Adam.zero_bits, zero_add]
  rfl

/-- The reference at a row of the context. -/
theorem ref_ctx (p : Fin 256) (e₁ : (i 1 : Fin 1024) = q) (e : (i 0).val = p.val) :
    val_main_v32 (F := Ideal) x0 x1 x2 x3 x4 i
      = entry (fun k => x0 (ix2 p k)) q (x2 (ix2 (0 : Fin 1) q)) (x3 (ix2 (1 : Fin 8) q)) (x3 (ix2 (0 : Fin 8) q)) := by
  subst e₁
  rw [val_main_v32_apply]
  show val_main_v31 (F := Ideal) x0 x1 x2 x3 x4 i = _
  unfold val_main_v31
  refine (concatenate_pair_apply_left (t := S2304x1024) (s₁ := S256x1024) (s₂ := S2048x1024) _ _ _ _ i rfl (ix2 p (i 1 : Fin 1024)) fun b => ?_).trans ?_
  · match b with
    | ⟨0, _⟩ => exact e.symm
    | ⟨1, _⟩ => rfl
  have ei : idx_main_v13 (ix2 p (i 1 : Fin 1024)) = i := by
    funext a; match a with
    | ⟨0, _⟩ => exact Fin.ext e.symm
    | ⟨1, _⟩ => rfl
  rw [val_main_v21_apply, val_main_v18_apply, val_main_v13_apply, ei, ref_norm x0 x1 x2 i (fun k => x0 (ix2 p k)) fun k => ?_,
    val_main_v17_apply, val_main_v16_apply, val_main_v15_apply, val_main_v14_apply, val_main_v20_apply, val_main_v19_apply]
  · exact entry_congr (u := fun k => x0 (ix2 p k)) (j := i 1) (w := x2 (ix2 (0 : Fin 1) (i 1 : Fin 1024)))
      (s := x3 (idx_main_v14 (idx_main_v17 (ix2 p (i 1 : Fin 1024))))) (h := x3 (idx_main_v19 (idx_main_v20 (ix2 p (i 1 : Fin 1024)))))
      (fun _ => rfl) rfl rfl (at_entry (M := 8) (N := 1024) x3 rfl rfl) (at_entry (M := 8) (N := 1024) x3 rfl rfl)
  · refine concatenate_pair_apply_left (t := S2304x1024) (s₁ := S256x1024) (s₂ := S2048x1024) _ _ _ _ _ rfl (ix2 p k) fun b => ?_
    match b with
    | ⟨0, _⟩ => exact e.symm
    | ⟨1, _⟩ => rfl

/-- The reference at a row of the latent. -/
theorem ref_lat (p : Fin 2048) (e₁ : (i 1 : Fin 1024) = q) (e : (i 0).val = 256 + p.val) :
    val_main_v32 (F := Ideal) x0 x1 x2 x3 x4 i
      = entry (fun k => x1 (ix2 p k)) q (x2 (ix2 (0 : Fin 1) q)) (x4 (ix2 (1 : Fin 8) q)) (x4 (ix2 (0 : Fin 8) q)) := by
  subst e₁
  rw [val_main_v32_apply]
  show val_main_v31 (F := Ideal) x0 x1 x2 x3 x4 i = _
  unfold val_main_v31
  refine (concatenate_pair_apply_right (t := S2304x1024) (s₁ := S256x1024) (s₂ := S2048x1024) _ _ _ _ i rfl rfl (ix2 p (i 1 : Fin 1024)) (fun b hb => ?_) ?_).trans ?_
  · match b with
    | ⟨0, _⟩ => exact absurd rfl hb
    | ⟨1, _⟩ => rfl
  · show p.val + 256 = _
    omega
  have ei : idx_main_v22 (ix2 p (i 1 : Fin 1024)) = i := by
    funext a; match a with
    | ⟨0, _⟩ => exact Fin.ext e.symm
    | ⟨1, _⟩ => rfl
  rw [val_main_v30_apply, val_main_v27_apply, val_main_v22_apply, ei, ref_norm x0 x1 x2 i (fun k => x1 (ix2 p k)) fun k => ?_,
    val_main_v26_apply, val_main_v25_apply, val_main_v24_apply, val_main_v23_apply, val_main_v29_apply, val_main_v28_apply]
  · exact entry_congr (u := fun k => x1 (ix2 p k)) (j := i 1) (w := x2 (ix2 (0 : Fin 1) (i 1 : Fin 1024)))
      (s := x4 (idx_main_v23 (idx_main_v26 (ix2 p (i 1 : Fin 1024))))) (h := x4 (idx_main_v28 (idx_main_v29 (ix2 p (i 1 : Fin 1024)))))
      (fun _ => rfl) rfl rfl (at_entry (M := 8) (N := 1024) x4 rfl rfl) (at_entry (M := 8) (N := 1024) x4 rfl rfl)
  · refine concatenate_pair_apply_right (t := S2304x1024) (s₁ := S256x1024) (s₂ := S2048x1024) _ _ _ _ _ rfl rfl (ix2 p k) (fun b hb => ?_) ?_
    · match b with
      | ⟨0, _⟩ => exact absurd rfl hb
      | ⟨1, _⟩ => rfl
    · show p.val + 256 = (i 0).val
      omega

omit x0 x1 x2 x3 x4 i q

/-- The modulation's scale is its row 1, the shift its row 0. -/
theorem ld_scale (x : Vec Ideal S8x1024 .f32) (k : Fin 1024) : View.ld x r0_2 (ix2 (0 : Fin 1) k) = x (ix2 (1 : Fin 8) k) :=
  at_entry x rfl (show 0 + 1 * k.val = k.val by omega)

theorem ld_shift (x : Vec Ideal S8x1024 .f32) (k : Fin 1024) : View.ld x r0_3 (ix2 (0 : Fin 1) k) = x (ix2 (0 : Fin 8) k) :=
  at_entry x rfl (show 0 + 1 * k.val = k.val by omega)

variable (m : (ℓ : Loc nD τ sig) → Buf (Elt Ideal) ℓ) (c : Dev nD)

theorem whole2 (t : Fin cfg0.N) : iblk m c 2 t = m ((c : Thread nD τ).loc main_arg2) := by
  funext z
  blk_simp [iblk]
  rw [V_main_arg2, eq_ix2 z]
  refine at_entry (M := 1) (N := 1024) _ ?_ ?_
  all_goals blk_simp [idx2]
  all_goals omega

theorem whole3 (t : Fin cfg0.N) : iblk m c 3 t = m ((c : Thread nD τ).loc main_arg3) := by
  funext z
  blk_simp [iblk]
  rw [V_main_arg3, eq_ix2 z]
  refine at_entry (M := 8) (N := 1024) _ ?_ ?_
  all_goals blk_simp [idx3]
  all_goals omega

theorem whole4 (t : Fin cfg0.N) : iblk m c 4 t = m ((c : Thread nD τ).loc main_arg4) := by
  funext z
  blk_simp [iblk]
  rw [V_main_arg4, eq_ix2 z]
  refine at_entry (M := 8) (N := 1024) _ ?_ ?_
  all_goals blk_simp [idx4]
  all_goals omega

/-- The normed and modulated rows. -/
theorem final : (dats m 0 c).arrAt 5 cfg0.N
    = val_main_v32 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  unfold out0_5
  rw [View.canon_unit_zero zero_offset, View.ld_unit_zero (S := S256x1024) zero_offset, View.ld_unit_zero (S := S256x1024) zero_offset,
    View.ld_unit_zero (S := S1x1024) zero_offset, whole2, whole3, whole4]
  have e₀ : (((win0_5.blk t).view.emb y) 0).val = t.val * 256 + (y 0).val := by blk_simp [idx5]
  have e₁ : ((win0_5.blk t).view.emb y) 1 = (y 1 : Fin 1024) := Fin.ext (by blk_simp [idx5])
  have ht : t.val < 9 := lt_of_lt_of_eq t.isLt (by decide +kernel)
  have hy : (y 0).val < 256 := (y 0).isLt
  have hb := is_ctx t
  by_cases h : t.val = 0
  · rw [if_pos h] at hb
    refine (body _ _ _ _ _ _ _ _ y (iblk m c 0 t) (View.ld (m ((c : Thread nD τ).loc main_arg3)) r0_2)
      (View.ld (m ((c : Thread nD τ).loc main_arg3)) r0_3) (by rw [hb]; rfl) (by rw [hb]; rfl) (by rw [hb]; rfl)).trans ?_
    refine (entry_congr (fun k => ?_) rfl rfl (ld_scale _ _) (ld_shift _ _)).trans (ref_ctx _ _ _ _ _ _ _ (y 0) e₁ (by omega)).symm
    blk_simp [iblk]
    rw [V_main_arg0]
    refine at_entry (M := 256) (N := 1024) _ ?_ ?_
    all_goals blk_simp [idx0]
    all_goals omega
  · rw [if_neg h] at hb
    refine (body _ _ _ _ _ _ _ _ y (iblk m c 1 t) (View.ld (m ((c : Thread nD τ).loc main_arg4)) r0_2)
      (View.ld (m ((c : Thread nD τ).loc main_arg4)) r0_3) (by rw [hb]; rfl) (by rw [hb]; rfl) (by rw [hb]; rfl)).trans ?_
    refine (entry_congr (fun k => ?_) rfl rfl (ld_scale _ _) (ld_shift _ _)).trans (ref_lat _ _ _ _ _ _ _ ⟨(t.val - 1) * 256 + (y 0).val, by omega⟩ e₁ (by show _ = 256 + ((t.val - 1) * 256 + (y 0).val); omega)).symm
    blk_simp [iblk]
    rw [V_main_arg1]
    refine at_entry (M := 2048) (N := 1024) _ ?_ ?_
    all_goals blk_simp [idx1]
    all_goals omega

end Cert.PrenormIdeal.Sums

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Value
public import proofs.«01_k».proof.Proof.Carry
public import proofs.«01_k».proof.Proof.States
public import proofs.«01_k».proof.Proof.Pre
public import proofs.«01_k».proof.Proof.Same
public import proofs.«01_k».proof.Proof.RefValue
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_gates_are_mild
public import proofs.«01_k».proof.Proof.Gen.InGradA.Frame
public import proofs.«01_k».proof.Proof.Gen.InGradAIdeal.Value
public import proofs.«01_k».proof.Proof.Gen.InGradARefIdeal.Run
public import proofs.«01_k».proof.Proof.Gen.InGradARefIdeal.Read
public import proofs.«01_k».proof.Proof.Gen.InGradB.Frame
public import proofs.«01_k».proof.Proof.Gen.InGradBIdeal.Value
public import proofs.«01_k».proof.Proof.Gen.InGradBRefIdeal.Run
public import proofs.«01_k».proof.Proof.Gen.InGradBRefIdeal.Read
public import proofs.«01_k».proof.Proof.Gen.InBack.Frame
public import proofs.«01_k».proof.Proof.Gen.InBackIdeal.Value
public import proofs.«01_k».proof.Proof.Gen.InBackRefIdeal.Run
public import proofs.«01_k».proof.Proof.Gen.InBackRefIdeal.Read
public import proofs.«01_k».proof.Proof.Gen.FfnBack.Frame
public import proofs.«01_k».proof.Proof.Gen.FfnBackIdeal.Value
public import proofs.«01_k».proof.Proof.Gen.FfnBackRefIdeal.Run
public import proofs.«01_k».proof.Proof.Gen.FfnBackRefIdeal.Read
public import proofs.«01_k».proof.Proof.Gen.GateGrad.Frame
public import proofs.«01_k».proof.Proof.Gen.GateGradIdeal.Value
public import proofs.«01_k».proof.Proof.Gen.GateGradRefIdeal.Run
public import proofs.«01_k».proof.Proof.Gen.GateGradRefIdeal.Read
public import proofs.«01_k».proof.Proof.Gen.UpGrad.Frame
public import proofs.«01_k».proof.Proof.Gen.UpGradIdeal.Value
public import proofs.«01_k».proof.Proof.Gen.UpGradRefIdeal.Run
public import proofs.«01_k».proof.Proof.Gen.UpGradRefIdeal.Read
public import proofs.«01_k».proof.Proof.Gen.DownGrad.Frame
public import proofs.«01_k».proof.Proof.Gen.DownGradIdeal.Value
public import proofs.«01_k».proof.Proof.Gen.DownGradRefIdeal.Run
public import proofs.«01_k».proof.Proof.Gen.DownGradRefIdeal.Read
public import proofs.«01_k».proof.Proof.Gen.ActBack.Frame
public import proofs.«01_k».proof.Proof.Gen.ActBackIdeal.Value
public import proofs.«01_k».proof.Proof.Gen.ActBackRefIdeal.Run
public import proofs.«01_k».proof.Proof.Gen.ActBackRefIdeal.Read
public import proofs.«01_k».proof.Proof.Gen.OutBack.Frame
public import proofs.«01_k».proof.Proof.Gen.OutBackIdeal.Value
public import proofs.«01_k».proof.Proof.Gen.OutBackRefIdeal.Run
public import proofs.«01_k».proof.Proof.Gen.OutBackRefIdeal.Read
public import proofs.«01_k».proof.Proof.Gen.OutGrad.Frame
public import proofs.«01_k».proof.Proof.Gen.OutGradIdeal.Value
public import proofs.«01_k».proof.Proof.Gen.OutGradRefIdeal.Run
public import proofs.«01_k».proof.Proof.Gen.OutGradRefIdeal.Read
public import proofs.«01_k».proof.Proof.Gen.HgGrad.Frame
public import proofs.«01_k».proof.Proof.Gen.HgGradIdeal.Value
public import proofs.«01_k».proof.Proof.Gen.HgGradRefIdeal.Run
public import proofs.«01_k».proof.Proof.Gen.HgGradRefIdeal.Read
public import proofs.«01_k».proof.Proof.Gen.GlaGrad.Frame
public import proofs.«01_k».proof.Proof.Gen.GlaGradIdeal.Value
public import proofs.«01_k».proof.Proof.Gen.GlaGradRefIdeal.Run
public import proofs.«01_k».proof.Proof.Gen.GlaGradRefIdeal.Read
public import proofs.«01_k».proof.Proof.Gen.InFwd.Frame
public import proofs.«01_k».proof.Proof.Gen.InFwdIdeal.Value
public import proofs.«01_k».proof.Proof.Gen.InFwdRefIdeal.Run
public import proofs.«01_k».proof.Proof.Gen.InFwdRefIdeal.Read
public import proofs.«01_k».proof.Proof.Gen.OutFwd.Frame
public import proofs.«01_k».proof.Proof.Gen.OutFwdIdeal.Value
public import proofs.«01_k».proof.Proof.Gen.OutFwdRefIdeal.Run
public import proofs.«01_k».proof.Proof.Gen.OutFwdRefIdeal.Read
public import proofs.«01_k».proof.Proof.Gen.FfnFwd.Frame
public import proofs.«01_k».proof.Proof.Gen.FfnFwdIdeal.Value
public import proofs.«01_k».proof.Proof.Gen.FfnFwdRefIdeal.Run
public import proofs.«01_k».proof.Proof.Gen.FfnFwdRefIdeal.Read
public import proofs.«01_k».proof.Proof.Gen.DownFwd.Frame
public import proofs.«01_k».proof.Proof.Gen.DownFwdIdeal.Value
public import proofs.«01_k».proof.Proof.Gen.DownFwdRefIdeal.Run
public import proofs.«01_k».proof.Proof.Gen.DownFwdRefIdeal.Read
public import proofs.«01_k».proof.Proof.Gen.BranchBack.Frame
public import proofs.«01_k».proof.Proof.Gen.BranchBackIdeal.Value
public import proofs.«01_k».proof.Proof.Gen.BranchBackRefIdeal.Run
public import proofs.«01_k».proof.Proof.Gen.BranchBackRefIdeal.Read
public import proofs.«01_k».proof.Proof.Gen.BranchFwd.Frame
public import proofs.«01_k».proof.Proof.Gen.BranchFwdIdeal.Value
public import proofs.«01_k».proof.Proof.Gen.BranchFwdRefIdeal.Run
public import proofs.«01_k».proof.Proof.Gen.BranchFwdRefIdeal.Read
public import proofs.«01_k».proof.Proof.Gen.AdamBranch.Frame
public import proofs.«01_k».proof.Proof.Gen.AdamBranchIdeal.Value
public import proofs.«01_k».proof.Proof.Gen.AdamBranchRefIdeal.Run
public import proofs.«01_k».proof.Proof.Gen.AdamBranchRefIdeal.Read
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamFfn.Frame
public import proofs.«01_k».proof.Proof.Gen.AdamFfnIdeal.Value
public import proofs.«01_k».proof.Proof.Gen.AdamFfnRefIdeal.Run
public import proofs.«01_k».proof.Proof.Gen.AdamFfnRefIdeal.Read
public import proofs.«01_k».proof.Proof.Gen.AdamMod.Frame
public import proofs.«01_k».proof.Proof.Gen.AdamModIdeal.Value
public import proofs.«01_k».proof.Proof.Gen.AdamModRefIdeal.Run
public import proofs.«01_k».proof.Proof.Gen.AdamModRefIdeal.Read
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Gen.ModFwd.Frame
public import proofs.«01_k».proof.Proof.Gen.ModFwdIdeal.Value
public import proofs.«01_k».proof.Proof.Gen.ModFwdRefIdeal.Run
public import proofs.«01_k».proof.Proof.Gen.ModFwdRefIdeal.Read
public import proofs.«01_k».proof.Proof.Gen.SumSmall.Frame
public import proofs.«01_k».proof.Proof.Gen.SumSmallIdeal.Value
public import proofs.«01_k».proof.Proof.Gen.SumSmallRefIdeal.Run
public import proofs.«01_k».proof.Proof.Gen.SumSmallRefIdeal.Read
public import proofs.«01_k».proof.Proof.Gen.SumCtx.Frame
public import proofs.«01_k».proof.Proof.Gen.SumCtxIdeal.Value
public import proofs.«01_k».proof.Proof.Gen.SumCtxRefIdeal.Run
public import proofs.«01_k».proof.Proof.Gen.SumCtxRefIdeal.Read
public import proofs.«01_k».proof.Proof.Gen.ModBwd.Frame
public import proofs.«01_k».proof.Proof.Gen.ModBwdIdeal.Value
public import proofs.«01_k».proof.Proof.Gen.ModBwdRefIdeal.Run
public import proofs.«01_k».proof.Proof.Gen.ModBwdRefIdeal.Read
public import proofs.«01_k».proof.Proof.Gen.Prenorm.Frame
public import proofs.«01_k».proof.Proof.Gen.PrenormIdeal.Value
public import proofs.«01_k».proof.Proof.Gen.PrenormRefIdeal.Run
public import proofs.«01_k».proof.Proof.Gen.PrenormRefIdeal.Read
public import proofs.«01_k».proof.Proof.Gen.InGradA
public import proofs.«01_k».proof.Proof.Gen.InGradAIdeal
public import proofs.«01_k».proof.Proof.Gen.InGradAIdeal.Frame
public import proofs.«01_k».proof.Proof.Gen.InGradARefIdeal
public import proofs.«01_k».proof.Proof.Gen.InGradB
public import proofs.«01_k».proof.Proof.Gen.InGradBIdeal
public import proofs.«01_k».proof.Proof.Gen.InGradBIdeal.Frame
public import proofs.«01_k».proof.Proof.Gen.InGradBRefIdeal
public import proofs.«01_k».proof.Proof.Gen.InBack
public import proofs.«01_k».proof.Proof.Gen.InBackIdeal
public import proofs.«01_k».proof.Proof.Gen.InBackIdeal.Frame
public import proofs.«01_k».proof.Proof.Gen.InBackRefIdeal
public import proofs.«01_k».proof.Proof.Gen.FfnBack
public import proofs.«01_k».proof.Proof.Gen.FfnBackIdeal
public import proofs.«01_k».proof.Proof.Gen.FfnBackIdeal.Frame
public import proofs.«01_k».proof.Proof.Gen.FfnBackRefIdeal
public import proofs.«01_k».proof.Proof.Gen.GateGrad
public import proofs.«01_k».proof.Proof.Gen.GateGradIdeal
public import proofs.«01_k».proof.Proof.Gen.GateGradIdeal.Frame
public import proofs.«01_k».proof.Proof.Gen.GateGradRefIdeal
public import proofs.«01_k».proof.Proof.Gen.UpGrad
public import proofs.«01_k».proof.Proof.Gen.UpGradIdeal
public import proofs.«01_k».proof.Proof.Gen.UpGradIdeal.Frame
public import proofs.«01_k».proof.Proof.Gen.UpGradRefIdeal
public import proofs.«01_k».proof.Proof.Gen.DownGrad
public import proofs.«01_k».proof.Proof.Gen.DownGradIdeal
public import proofs.«01_k».proof.Proof.Gen.DownGradIdeal.Frame
public import proofs.«01_k».proof.Proof.Gen.DownGradRefIdeal
public import proofs.«01_k».proof.Proof.Gen.ActBack
public import proofs.«01_k».proof.Proof.Gen.ActBackIdeal
public import proofs.«01_k».proof.Proof.Gen.ActBackIdeal.Frame
public import proofs.«01_k».proof.Proof.Gen.ActBackRefIdeal
public import proofs.«01_k».proof.Proof.Gen.OutBack
public import proofs.«01_k».proof.Proof.Gen.OutBackIdeal
public import proofs.«01_k».proof.Proof.Gen.OutBackIdeal.Frame
public import proofs.«01_k».proof.Proof.Gen.OutBackRefIdeal
public import proofs.«01_k».proof.Proof.Gen.OutGrad
public import proofs.«01_k».proof.Proof.Gen.OutGradIdeal
public import proofs.«01_k».proof.Proof.Gen.OutGradIdeal.Frame
public import proofs.«01_k».proof.Proof.Gen.OutGradRefIdeal
public import proofs.«01_k».proof.Proof.Gen.HgGrad
public import proofs.«01_k».proof.Proof.Gen.HgGradIdeal
public import proofs.«01_k».proof.Proof.Gen.HgGradIdeal.Frame
public import proofs.«01_k».proof.Proof.Gen.HgGradRefIdeal
public import proofs.«01_k».proof.Proof.Gen.GlaGrad
public import proofs.«01_k».proof.Proof.Gen.GlaGradIdeal
public import proofs.«01_k».proof.Proof.Gen.GlaGradIdeal.Frame
public import proofs.«01_k».proof.Proof.Gen.GlaGradRefIdeal
public import proofs.«01_k».proof.Proof.Gen.InFwd
public import proofs.«01_k».proof.Proof.Gen.InFwdIdeal
public import proofs.«01_k».proof.Proof.Gen.InFwdIdeal.Frame
public import proofs.«01_k».proof.Proof.Gen.InFwdRefIdeal
public import proofs.«01_k».proof.Proof.Gen.OutFwd
public import proofs.«01_k».proof.Proof.Gen.OutFwdIdeal
public import proofs.«01_k».proof.Proof.Gen.OutFwdIdeal.Frame
public import proofs.«01_k».proof.Proof.Gen.OutFwdRefIdeal
public import proofs.«01_k».proof.Proof.Gen.FfnFwd
public import proofs.«01_k».proof.Proof.Gen.FfnFwdIdeal
public import proofs.«01_k».proof.Proof.Gen.FfnFwdIdeal.Frame
public import proofs.«01_k».proof.Proof.Gen.FfnFwdRefIdeal
public import proofs.«01_k».proof.Proof.Gen.DownFwd
public import proofs.«01_k».proof.Proof.Gen.DownFwdIdeal
public import proofs.«01_k».proof.Proof.Gen.DownFwdIdeal.Frame
public import proofs.«01_k».proof.Proof.Gen.DownFwdRefIdeal
public import proofs.«01_k».proof.Proof.Gen.BranchBack
public import proofs.«01_k».proof.Proof.Gen.BranchBackIdeal
public import proofs.«01_k».proof.Proof.Gen.BranchBackIdeal.Frame
public import proofs.«01_k».proof.Proof.Gen.BranchBackRefIdeal
public import proofs.«01_k».proof.Proof.Gen.BranchFwd
public import proofs.«01_k».proof.Proof.Gen.BranchFwdIdeal
public import proofs.«01_k».proof.Proof.Gen.BranchFwdIdeal.Frame
public import proofs.«01_k».proof.Proof.Gen.BranchFwdRefIdeal
public import proofs.«01_k».proof.Proof.Gen.AdamBranch
public import proofs.«01_k».proof.Proof.Gen.AdamBranchIdeal
public import proofs.«01_k».proof.Proof.Gen.AdamBranchIdeal.Frame
public import proofs.«01_k».proof.Proof.Gen.AdamBranchRefIdeal
public import proofs.«01_k».proof.Proof.Gen.AdamOut
public import proofs.«01_k».proof.Proof.Gen.AdamOutIdeal
public import proofs.«01_k».proof.Proof.Gen.AdamOutIdeal.Frame
public import proofs.«01_k».proof.Proof.Gen.AdamOutRefIdeal
public import proofs.«01_k».proof.Proof.Gen.AdamFfn
public import proofs.«01_k».proof.Proof.Gen.AdamFfnIdeal
public import proofs.«01_k».proof.Proof.Gen.AdamFfnIdeal.Frame
public import proofs.«01_k».proof.Proof.Gen.AdamFfnRefIdeal
public import proofs.«01_k».proof.Proof.Gen.AdamMod
public import proofs.«01_k».proof.Proof.Gen.AdamModIdeal
public import proofs.«01_k».proof.Proof.Gen.AdamModIdeal.Frame
public import proofs.«01_k».proof.Proof.Gen.AdamModRefIdeal
public import proofs.«01_k».proof.Proof.Gen.AdamSmall
public import proofs.«01_k».proof.Proof.Gen.AdamSmallIdeal
public import proofs.«01_k».proof.Proof.Gen.AdamSmallIdeal.Frame
public import proofs.«01_k».proof.Proof.Gen.AdamSmallRefIdeal
public import proofs.«01_k».proof.Proof.Gen.ModFwd
public import proofs.«01_k».proof.Proof.Gen.ModFwdIdeal
public import proofs.«01_k».proof.Proof.Gen.ModFwdIdeal.Frame
public import proofs.«01_k».proof.Proof.Gen.ModFwdRefIdeal
public import proofs.«01_k».proof.Proof.Gen.SumSmall
public import proofs.«01_k».proof.Proof.Gen.SumSmallIdeal
public import proofs.«01_k».proof.Proof.Gen.SumSmallIdeal.Frame
public import proofs.«01_k».proof.Proof.Gen.SumSmallRefIdeal
public import proofs.«01_k».proof.Proof.Gen.SumCtx
public import proofs.«01_k».proof.Proof.Gen.SumCtxIdeal
public import proofs.«01_k».proof.Proof.Gen.SumCtxIdeal.Frame
public import proofs.«01_k».proof.Proof.Gen.SumCtxRefIdeal
public import proofs.«01_k».proof.Proof.Gen.ModBwd
public import proofs.«01_k».proof.Proof.Gen.ModBwdIdeal
public import proofs.«01_k».proof.Proof.Gen.ModBwdIdeal.Frame
public import proofs.«01_k».proof.Proof.Gen.ModBwdRefIdeal
public import proofs.«01_k».proof.Proof.Gen.Prenorm
public import proofs.«01_k».proof.Proof.Gen.PrenormIdeal
public import proofs.«01_k».proof.Proof.Gen.PrenormIdeal.Frame
public import proofs.«01_k».proof.Proof.Gen.PrenormRefIdeal
public import proofs.«01_k».proof.Proof.Gen.Pre_finite_factors
public import proofs.«01_k».proof.Proof.Grads
public import proofs.«01_k».proof.Proof.InBack
public import proofs.«01_k».proof.Proof.FfnBack
public import proofs.«01_k».proof.Proof.ActBack
public import proofs.«01_k».proof.Proof.Forward
public import proofs.«01_k».proof.Proof.FfnFwd
public import proofs.«01_k».proof.Proof.BranchBack
public import proofs.«01_k».proof.Proof.BranchFwd
public import proofs.«01_k».proof.Proof.AdamBranch
public import proofs.«01_k».proof.Proof.AdamOut
public import proofs.«01_k».proof.Proof.AdamFfn
public import proofs.«01_k».proof.Proof.AdamMod
public import proofs.«01_k».proof.Proof.AdamSmall
public import proofs.«01_k».proof.Proof.ModFwd
public import proofs.«01_k».proof.Proof.SumSmall
public import proofs.«01_k».proof.Proof.SumCtx
public import proofs.«01_k».proof.Proof.ModBwd
public import proofs.«01_k».proof.Proof.Prenorm

@[expose] public section

noncomputable section

namespace Cert.Proof

open Idealize.ShloMosaic Idealize.ShloMosaic.TcCoe Idealize.SL.Sem Cert.Pre_gates_are_mild.Given

/-- The idealised kernel's run. -/
theorem frame_ideal : Cert.quiescent_KernelIdeal (hKernelIdeal := Cert.KernelIdeal.Gen.facts) := fun m ρ _ =>
  Cert.KernelIdeal.Gen.frame m ρ

/-- The reference declares no semaphore, so its counters are zero. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run m ρ)

/-- The two programs end with the same four gradients. -/
theorem value : Cert.algebraic_KernelIdeal_ReferenceIdeal_pre_gates_are_mild (hKernelIdeal := Cert.KernelIdeal.Gen.facts)
    (hReferenceIdeal := Cert.ReferenceIdeal.Gen.facts) (hPre_gates_are_mild := Cert.Pre_gates_are_mild.Gen.facts) := by
  intro m ρ m' ρ' hpre hargs
  have G := fun c => given _ _ _ _ _ (hpre c)
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, fun c => (Cert.KernelIdeal.Gen.dats m 0 c).arrAt 9 Cert.KernelIdeal.cfg0.N,
    Cert.KernelIdeal.Value.run_blocks m ρ, ?_⟩
  refine (θ_run Cert.ReferenceIdeal.defs _ _).mono (fun r h c => ?_) (Cert.ReferenceIdeal.Value.run m' ρ')
  obtain ⟨hq, hk, hv, hg, ho, hm⟩ := G c
  obtain ⟨r0, r1, r2, r3, kept⟩ := h c
  obtain ⟨a0, a1, a2, a3, a4⟩ := hargs c
  have F := Cert.KernelIdeal.Chunk.finds hq hk hv hg ho
  have b0 := fun i => congrFun (a0.trans hq) i
  have b1 := fun i => congrFun (a1.trans hk) i
  have b2 := fun i => congrFun (a2.trans hv) i
  have b3 := fun i => congrFun (a3.trans hg) i
  have b4 := fun i => congrFun (a4.trans ho) i
  refine ⟨r0.trans ?_, r1.trans ?_, r2.trans ?_, r3.trans ?_, kept⟩
  · exact (Cert.ReferenceIdeal.Read.val_main_v69_eq _ _ _ _).trans ((funext fun y => Cert.ReferenceIdeal.Pairs.res_q b1 b2 b3 b4 y).trans (Cert.KernelIdeal.Chunk.final_q F hm).symm)
  · exact (Cert.ReferenceIdeal.Read.val_main_v70_eq _ _ _ _).trans ((funext fun y => Cert.ReferenceIdeal.Pairs.res_k b0 b2 b3 b4 y).trans (Cert.KernelIdeal.Chunk.final_k F hm).symm)
  · exact (Cert.ReferenceIdeal.Read.val_main_v71_eq _ _ _ _).trans ((funext fun y => Cert.ReferenceIdeal.Pairs.res_v b0 b1 b3 b4 y).trans (Cert.KernelIdeal.Chunk.final_v F hm).symm)
  · exact (Cert.ReferenceIdeal.Read.val_main_v62_eq m' c).trans ((funext fun y => Cert.ReferenceIdeal.Pairs.res_g b0 b1 b2 b3 b4 y).trans (Cert.KernelIdeal.Chunk.final_g F hm).symm)

/-- The claims without a precondition ask nothing of the reference's memory. -/
theorem pre_reference {m} : Cert.Pre_ReferenceIdeal m := by
  unfold Cert.Pre_ReferenceIdeal
  trivial

/-- Nothing was rewritten. -/
theorem preserved : Cert.preserves_Kernel_KernelIdeal := by
  unfold Cert.preserves_Kernel_KernelIdeal
  trivial

/-! ## The dense products -/

/-! InGradA -/

theorem frame_InGradARef : Cert.quiescent_InGradARefIdeal (hInGradARefIdeal := Cert.InGradARefIdeal.Gen.facts) := fun m ρ _ =>
  (θ_run Cert.InGradARefIdeal.defs _ _).mono (fun r h => ⟨fun c => (h c).2, sem_eq_zero_of_no_sems (by decide) r.2⟩) (Cert.InGradARefIdeal.Value.run m ρ)

theorem value_InGradA : Cert.algebraic_InGradAIdeal_InGradARefIdeal (hInGradAIdeal := Cert.InGradAIdeal.Gen.facts) (hInGradARefIdeal := Cert.InGradARefIdeal.Gen.facts) := by
  intro m ρ m' ρ' _ hargs
  refine ⟨fun c => (Cert.InGradAIdeal.Gen.dats m 0 c).arrAt 2 Cert.InGradAIdeal.cfg0.N, Cert.InGradAIdeal.Value.run_blocks m ρ, ?_⟩
  refine (θ_run Cert.InGradARefIdeal.defs _ _).mono (fun r h c => ?_) (Cert.InGradARefIdeal.Value.run m' ρ')
  obtain ⟨r0, kept⟩ := h c
  obtain ⟨a0, a1⟩ := hargs c
  exact ⟨r0.trans ((Cert.InGradARefIdeal.Read.val_main_v7_eq _ _ ).trans ((congrArg₂ (Cert.InGradARefIdeal.Read.val_main_v7 (F := Ideal)) a0 a1).trans (Cert.InGradAIdeal.Sums.final m c).symm)), kept⟩

/-! InGradB -/

theorem frame_InGradBRef : Cert.quiescent_InGradBRefIdeal (hInGradBRefIdeal := Cert.InGradBRefIdeal.Gen.facts) := fun m ρ _ =>
  (θ_run Cert.InGradBRefIdeal.defs _ _).mono (fun r h => ⟨fun c => (h c).2, sem_eq_zero_of_no_sems (by decide) r.2⟩) (Cert.InGradBRefIdeal.Value.run m ρ)

theorem value_InGradB : Cert.algebraic_InGradBIdeal_InGradBRefIdeal (hInGradBIdeal := Cert.InGradBIdeal.Gen.facts) (hInGradBRefIdeal := Cert.InGradBRefIdeal.Gen.facts) := by
  intro m ρ m' ρ' _ hargs
  refine ⟨fun c => (Cert.InGradBIdeal.Gen.dats m 0 c).arrAt 2 Cert.InGradBIdeal.cfg0.N, Cert.InGradBIdeal.Value.run_blocks m ρ, ?_⟩
  refine (θ_run Cert.InGradBRefIdeal.defs _ _).mono (fun r h c => ?_) (Cert.InGradBRefIdeal.Value.run m' ρ')
  obtain ⟨r0, kept⟩ := h c
  obtain ⟨a0, a1⟩ := hargs c
  exact ⟨r0.trans ((Cert.InGradBRefIdeal.Read.val_main_v7_eq _ _ ).trans ((congrArg₂ (Cert.InGradBRefIdeal.Read.val_main_v7 (F := Ideal)) a0 a1).trans (Cert.InGradBIdeal.Sums.final m c).symm)), kept⟩

/-! InBack -/

theorem frame_InBackRef : Cert.quiescent_InBackRefIdeal (hInBackRefIdeal := Cert.InBackRefIdeal.Gen.facts) := fun m ρ _ =>
  (θ_run Cert.InBackRefIdeal.defs _ _).mono (fun r h => ⟨fun c => (h c).2, sem_eq_zero_of_no_sems (by decide) r.2⟩) (Cert.InBackRefIdeal.Value.run m ρ)

theorem value_InBack : Cert.algebraic_InBackIdeal_InBackRefIdeal (hInBackIdeal := Cert.InBackIdeal.Gen.facts) (hInBackRefIdeal := Cert.InBackRefIdeal.Gen.facts) := by
  intro m ρ m' ρ' _ hargs
  refine ⟨fun c => (Cert.InBackIdeal.Gen.dats m 0 c).arrAt 2 Cert.InBackIdeal.cfg0.N, Cert.InBackIdeal.Value.run_blocks m ρ, ?_⟩
  refine (θ_run Cert.InBackRefIdeal.defs _ _).mono (fun r h c => ?_) (Cert.InBackRefIdeal.Value.run m' ρ')
  obtain ⟨r0, kept⟩ := h c
  obtain ⟨a0, a1⟩ := hargs c
  exact ⟨r0.trans ((Cert.InBackRefIdeal.Read.val_main_v5_eq _ _ ).trans ((congrArg₂ (Cert.InBackRefIdeal.Read.val_main_v5 (F := Ideal)) a0 a1).trans (Cert.InBackIdeal.Sums.final m c).symm)), kept⟩

/-! FfnBack -/

theorem frame_FfnBackRef : Cert.quiescent_FfnBackRefIdeal (hFfnBackRefIdeal := Cert.FfnBackRefIdeal.Gen.facts) := fun m ρ _ =>
  (θ_run Cert.FfnBackRefIdeal.defs _ _).mono (fun r h => ⟨fun c => (h c).2, sem_eq_zero_of_no_sems (by decide) r.2⟩) (Cert.FfnBackRefIdeal.Value.run m ρ)

theorem value_FfnBack : Cert.algebraic_FfnBackIdeal_FfnBackRefIdeal (hFfnBackIdeal := Cert.FfnBackIdeal.Gen.facts) (hFfnBackRefIdeal := Cert.FfnBackRefIdeal.Gen.facts) := by
  intro m ρ m' ρ' _ hargs
  refine ⟨fun c => (Cert.FfnBackIdeal.Gen.dats m 0 c).arrAt 4 Cert.FfnBackIdeal.cfg0.N, Cert.FfnBackIdeal.Value.run_blocks m ρ, ?_⟩
  refine (θ_run Cert.FfnBackRefIdeal.defs _ _).mono (fun r h c => ?_) (Cert.FfnBackRefIdeal.Value.run m' ρ')
  obtain ⟨r0, kept⟩ := h c
  obtain ⟨a0, a1, a2, a3⟩ := hargs c
  exact ⟨r0.trans ((Cert.FfnBackRefIdeal.Read.val_main_v12_eq _ _ _ _ ).trans ((congr (congr (congrArg₂ (Cert.FfnBackRefIdeal.Read.val_main_v12 (F := Ideal)) a0 a1) a2) a3).trans (Cert.FfnBackIdeal.Sums.final m c).symm)), kept⟩

/-! GateGrad -/

theorem frame_GateGradRef : Cert.quiescent_GateGradRefIdeal (hGateGradRefIdeal := Cert.GateGradRefIdeal.Gen.facts) := fun m ρ _ =>
  (θ_run Cert.GateGradRefIdeal.defs _ _).mono (fun r h => ⟨fun c => (h c).2, sem_eq_zero_of_no_sems (by decide) r.2⟩) (Cert.GateGradRefIdeal.Value.run m ρ)

theorem value_GateGrad : Cert.algebraic_GateGradIdeal_GateGradRefIdeal (hGateGradIdeal := Cert.GateGradIdeal.Gen.facts) (hGateGradRefIdeal := Cert.GateGradRefIdeal.Gen.facts) := by
  intro m ρ m' ρ' _ hargs
  refine ⟨fun c => (Cert.GateGradIdeal.Gen.dats m 0 c).arrAt 2 Cert.GateGradIdeal.cfg0.N, Cert.GateGradIdeal.Value.run_blocks m ρ, ?_⟩
  refine (θ_run Cert.GateGradRefIdeal.defs _ _).mono (fun r h c => ?_) (Cert.GateGradRefIdeal.Value.run m' ρ')
  obtain ⟨r0, kept⟩ := h c
  obtain ⟨a0, a1⟩ := hargs c
  exact ⟨r0.trans ((Cert.GateGradRefIdeal.Read.val_main_v7_eq _ _ ).trans ((congrArg₂ (Cert.GateGradRefIdeal.Read.val_main_v7 (F := Ideal)) a0 a1).trans (Cert.GateGradIdeal.Sums.final m c).symm)), kept⟩

/-! UpGrad -/

theorem frame_UpGradRef : Cert.quiescent_UpGradRefIdeal (hUpGradRefIdeal := Cert.UpGradRefIdeal.Gen.facts) := fun m ρ _ =>
  (θ_run Cert.UpGradRefIdeal.defs _ _).mono (fun r h => ⟨fun c => (h c).2, sem_eq_zero_of_no_sems (by decide) r.2⟩) (Cert.UpGradRefIdeal.Value.run m ρ)

theorem value_UpGrad : Cert.algebraic_UpGradIdeal_UpGradRefIdeal (hUpGradIdeal := Cert.UpGradIdeal.Gen.facts) (hUpGradRefIdeal := Cert.UpGradRefIdeal.Gen.facts) := by
  intro m ρ m' ρ' _ hargs
  refine ⟨fun c => (Cert.UpGradIdeal.Gen.dats m 0 c).arrAt 2 Cert.UpGradIdeal.cfg0.N, Cert.UpGradIdeal.Value.run_blocks m ρ, ?_⟩
  refine (θ_run Cert.UpGradRefIdeal.defs _ _).mono (fun r h c => ?_) (Cert.UpGradRefIdeal.Value.run m' ρ')
  obtain ⟨r0, kept⟩ := h c
  obtain ⟨a0, a1⟩ := hargs c
  exact ⟨r0.trans ((Cert.UpGradRefIdeal.Read.val_main_v7_eq _ _ ).trans ((congrArg₂ (Cert.UpGradRefIdeal.Read.val_main_v7 (F := Ideal)) a0 a1).trans (Cert.UpGradIdeal.Sums.final m c).symm)), kept⟩

/-! DownGrad -/

theorem frame_DownGradRef : Cert.quiescent_DownGradRefIdeal (hDownGradRefIdeal := Cert.DownGradRefIdeal.Gen.facts) := fun m ρ _ =>
  (θ_run Cert.DownGradRefIdeal.defs _ _).mono (fun r h => ⟨fun c => (h c).2, sem_eq_zero_of_no_sems (by decide) r.2⟩) (Cert.DownGradRefIdeal.Value.run m ρ)

theorem value_DownGrad : Cert.algebraic_DownGradIdeal_DownGradRefIdeal (hDownGradIdeal := Cert.DownGradIdeal.Gen.facts) (hDownGradRefIdeal := Cert.DownGradRefIdeal.Gen.facts) := by
  intro m ρ m' ρ' _ hargs
  refine ⟨fun c => (Cert.DownGradIdeal.Gen.dats m 0 c).arrAt 2 Cert.DownGradIdeal.cfg0.N, Cert.DownGradIdeal.Value.run_blocks m ρ, ?_⟩
  refine (θ_run Cert.DownGradRefIdeal.defs _ _).mono (fun r h c => ?_) (Cert.DownGradRefIdeal.Value.run m' ρ')
  obtain ⟨r0, kept⟩ := h c
  obtain ⟨a0, a1⟩ := hargs c
  exact ⟨r0.trans ((Cert.DownGradRefIdeal.Read.val_main_v6_eq _ _ ).trans ((congrArg₂ (Cert.DownGradRefIdeal.Read.val_main_v6 (F := Ideal)) a0 a1).trans (Cert.DownGradIdeal.Sums.final m c).symm)), kept⟩

/-! ActBack -/

theorem frame_ActBackRef : Cert.quiescent_ActBackRefIdeal (hActBackRefIdeal := Cert.ActBackRefIdeal.Gen.facts) := fun m ρ _ =>
  (θ_run Cert.ActBackRefIdeal.defs _ _).mono (fun r h => ⟨fun c => (h c).2.2, sem_eq_zero_of_no_sems (by decide) r.2⟩) (Cert.ActBackRefIdeal.Value.run m ρ)

theorem value_ActBack : Cert.algebraic_ActBackIdeal_ActBackRefIdeal_pre_finite_factors (hActBackIdeal := Cert.ActBackIdeal.Gen.facts) (hActBackRefIdeal := Cert.ActBackRefIdeal.Gen.facts) (hPre_finite_factors := Cert.Pre_finite_factors.Gen.facts) := by
  intro m ρ m' ρ' hpre hargs
  have F := Cert.ActBackIdeal.Sums.given hpre
  refine ⟨fun c => (Cert.ActBackIdeal.Gen.dats m 0 c).arrAt 4 Cert.ActBackIdeal.cfg0.N, fun c => (Cert.ActBackIdeal.Gen.dats m 0 c).arrAt 5 Cert.ActBackIdeal.cfg0.N, Cert.ActBackIdeal.Value.run_blocks m ρ, ?_⟩
  refine (θ_run Cert.ActBackRefIdeal.defs _ _).mono (fun r h c => ?_) (Cert.ActBackRefIdeal.Value.run m' ρ')
  obtain ⟨r0, r1, kept⟩ := h c
  obtain ⟨a0, a1, a2, a3⟩ := hargs c
  exact ⟨r0.trans ((Cert.ActBackRefIdeal.Read.val_main_v11_eq _ _ _ _ ).trans ((congr (congr (congrArg₂ (Cert.ActBackRefIdeal.Read.val_main_v11 (F := Ideal)) a0 a1) a2) a3).trans (Cert.ActBackIdeal.Sums.final0 m c (F c)).symm)), r1.trans ((Cert.ActBackRefIdeal.Read.val_main_v12_eq _ _ _ ).trans ((congr (congrArg₂ (Cert.ActBackRefIdeal.Read.val_main_v12 (F := Ideal)) a0 a1) a2).trans (Cert.ActBackIdeal.Sums.final1 m c (F c)).symm)), kept⟩

/-! OutBack -/

theorem frame_OutBackRef : Cert.quiescent_OutBackRefIdeal (hOutBackRefIdeal := Cert.OutBackRefIdeal.Gen.facts) := fun m ρ _ =>
  (θ_run Cert.OutBackRefIdeal.defs _ _).mono (fun r h => ⟨fun c => (h c).2, sem_eq_zero_of_no_sems (by decide) r.2⟩) (Cert.OutBackRefIdeal.Value.run m ρ)

theorem value_OutBack : Cert.algebraic_OutBackIdeal_OutBackRefIdeal (hOutBackIdeal := Cert.OutBackIdeal.Gen.facts) (hOutBackRefIdeal := Cert.OutBackRefIdeal.Gen.facts) := by
  intro m ρ m' ρ' _ hargs
  refine ⟨fun c => (Cert.OutBackIdeal.Gen.dats m 0 c).arrAt 2 Cert.OutBackIdeal.cfg0.N, Cert.OutBackIdeal.Value.run_blocks m ρ, ?_⟩
  refine (θ_run Cert.OutBackRefIdeal.defs _ _).mono (fun r h c => ?_) (Cert.OutBackRefIdeal.Value.run m' ρ')
  obtain ⟨r0, kept⟩ := h c
  obtain ⟨a0, a1⟩ := hargs c
  exact ⟨r0.trans ((Cert.OutBackRefIdeal.Read.val_main_v5_eq _ _ ).trans ((congrArg₂ (Cert.OutBackRefIdeal.Read.val_main_v5 (F := Ideal)) a0 a1).trans (Cert.OutBackIdeal.Sums.final m c).symm)), kept⟩

/-! OutGrad -/

theorem frame_OutGradRef : Cert.quiescent_OutGradRefIdeal (hOutGradRefIdeal := Cert.OutGradRefIdeal.Gen.facts) := fun m ρ _ =>
  (θ_run Cert.OutGradRefIdeal.defs _ _).mono (fun r h => ⟨fun c => (h c).2, sem_eq_zero_of_no_sems (by decide) r.2⟩) (Cert.OutGradRefIdeal.Value.run m ρ)

theorem value_OutGrad : Cert.algebraic_OutGradIdeal_OutGradRefIdeal (hOutGradIdeal := Cert.OutGradIdeal.Gen.facts) (hOutGradRefIdeal := Cert.OutGradRefIdeal.Gen.facts) := by
  intro m ρ m' ρ' _ hargs
  refine ⟨fun c => (Cert.OutGradIdeal.Gen.dats m 0 c).arrAt 2 Cert.OutGradIdeal.cfg0.N, Cert.OutGradIdeal.Value.run_blocks m ρ, ?_⟩
  refine (θ_run Cert.OutGradRefIdeal.defs _ _).mono (fun r h c => ?_) (Cert.OutGradRefIdeal.Value.run m' ρ')
  obtain ⟨r0, kept⟩ := h c
  obtain ⟨a0, a1⟩ := hargs c
  exact ⟨r0.trans ((Cert.OutGradRefIdeal.Read.val_main_v6_eq _ _ ).trans ((congrArg₂ (Cert.OutGradRefIdeal.Read.val_main_v6 (F := Ideal)) a0 a1).trans (Cert.OutGradIdeal.Sums.final m c).symm)), kept⟩

/-! HgGrad -/

theorem frame_HgGradRef : Cert.quiescent_HgGradRefIdeal (hHgGradRefIdeal := Cert.HgGradRefIdeal.Gen.facts) := fun m ρ _ =>
  (θ_run Cert.HgGradRefIdeal.defs _ _).mono (fun r h => ⟨fun c => (h c).2, sem_eq_zero_of_no_sems (by decide) r.2⟩) (Cert.HgGradRefIdeal.Value.run m ρ)

theorem value_HgGrad : Cert.algebraic_HgGradIdeal_HgGradRefIdeal (hHgGradIdeal := Cert.HgGradIdeal.Gen.facts) (hHgGradRefIdeal := Cert.HgGradRefIdeal.Gen.facts) := by
  intro m ρ m' ρ' _ hargs
  refine ⟨fun c => (Cert.HgGradIdeal.Gen.dats m 0 c).arrAt 2 Cert.HgGradIdeal.cfg0.N, Cert.HgGradIdeal.Value.run_blocks m ρ, ?_⟩
  refine (θ_run Cert.HgGradRefIdeal.defs _ _).mono (fun r h c => ?_) (Cert.HgGradRefIdeal.Value.run m' ρ')
  obtain ⟨r0, kept⟩ := h c
  obtain ⟨a0, a1⟩ := hargs c
  exact ⟨r0.trans ((Cert.HgGradRefIdeal.Read.val_main_v7_eq _ _ ).trans ((congrArg₂ (Cert.HgGradRefIdeal.Read.val_main_v7 (F := Ideal)) a0 a1).trans (Cert.HgGradIdeal.Sums.final m c).symm)), kept⟩

/-! GlaGrad -/

theorem frame_GlaGradRef : Cert.quiescent_GlaGradRefIdeal (hGlaGradRefIdeal := Cert.GlaGradRefIdeal.Gen.facts) := fun m ρ _ =>
  (θ_run Cert.GlaGradRefIdeal.defs _ _).mono (fun r h => ⟨fun c => (h c).2, sem_eq_zero_of_no_sems (by decide) r.2⟩) (Cert.GlaGradRefIdeal.Value.run m ρ)

theorem value_GlaGrad : Cert.algebraic_GlaGradIdeal_GlaGradRefIdeal (hGlaGradIdeal := Cert.GlaGradIdeal.Gen.facts) (hGlaGradRefIdeal := Cert.GlaGradRefIdeal.Gen.facts) := by
  intro m ρ m' ρ' _ hargs
  refine ⟨fun c => (Cert.GlaGradIdeal.Gen.dats m 0 c).arrAt 2 Cert.GlaGradIdeal.cfg0.N, Cert.GlaGradIdeal.Value.run_blocks m ρ, ?_⟩
  refine (θ_run Cert.GlaGradRefIdeal.defs _ _).mono (fun r h c => ?_) (Cert.GlaGradRefIdeal.Value.run m' ρ')
  obtain ⟨r0, kept⟩ := h c
  obtain ⟨a0, a1⟩ := hargs c
  exact ⟨r0.trans ((Cert.GlaGradRefIdeal.Read.val_main_v7_eq _ _ ).trans ((congrArg₂ (Cert.GlaGradRefIdeal.Read.val_main_v7 (F := Ideal)) a0 a1).trans (Cert.GlaGradIdeal.Sums.final m c).symm)), kept⟩

/-! InFwd -/

theorem frame_InFwdRef : Cert.quiescent_InFwdRefIdeal (hInFwdRefIdeal := Cert.InFwdRefIdeal.Gen.facts) := fun m ρ _ =>
  (θ_run Cert.InFwdRefIdeal.defs _ _).mono (fun r h => ⟨fun c => (h c).2, sem_eq_zero_of_no_sems (by decide) r.2⟩) (Cert.InFwdRefIdeal.Value.run m ρ)

theorem value_InFwd : Cert.algebraic_InFwdIdeal_InFwdRefIdeal (hInFwdIdeal := Cert.InFwdIdeal.Gen.facts) (hInFwdRefIdeal := Cert.InFwdRefIdeal.Gen.facts) := by
  intro m ρ m' ρ' _ hargs
  refine ⟨fun c => (Cert.InFwdIdeal.Gen.dats m 0 c).arrAt 2 Cert.InFwdIdeal.cfg0.N, Cert.InFwdIdeal.Value.run_blocks m ρ, ?_⟩
  refine (θ_run Cert.InFwdRefIdeal.defs _ _).mono (fun r h c => ?_) (Cert.InFwdRefIdeal.Value.run m' ρ')
  obtain ⟨r0, kept⟩ := h c
  obtain ⟨a0, a1⟩ := hargs c
  exact ⟨r0.trans ((Cert.InFwdRefIdeal.Read.val_main_v3_eq _ _ ).trans ((congrArg₂ (Cert.InFwdRefIdeal.Read.val_main_v3 (F := Ideal)) a0 a1).trans (Cert.InFwdIdeal.Sums.final m c).symm)), kept⟩

/-! OutFwd -/

theorem frame_OutFwdRef : Cert.quiescent_OutFwdRefIdeal (hOutFwdRefIdeal := Cert.OutFwdRefIdeal.Gen.facts) := fun m ρ _ =>
  (θ_run Cert.OutFwdRefIdeal.defs _ _).mono (fun r h => ⟨fun c => (h c).2, sem_eq_zero_of_no_sems (by decide) r.2⟩) (Cert.OutFwdRefIdeal.Value.run m ρ)

theorem value_OutFwd : Cert.algebraic_OutFwdIdeal_OutFwdRefIdeal (hOutFwdIdeal := Cert.OutFwdIdeal.Gen.facts) (hOutFwdRefIdeal := Cert.OutFwdRefIdeal.Gen.facts) := by
  intro m ρ m' ρ' _ hargs
  refine ⟨fun c => (Cert.OutFwdIdeal.Gen.dats m 0 c).arrAt 2 Cert.OutFwdIdeal.cfg0.N, Cert.OutFwdIdeal.Value.run_blocks m ρ, ?_⟩
  refine (θ_run Cert.OutFwdRefIdeal.defs _ _).mono (fun r h c => ?_) (Cert.OutFwdRefIdeal.Value.run m' ρ')
  obtain ⟨r0, kept⟩ := h c
  obtain ⟨a0, a1⟩ := hargs c
  exact ⟨r0.trans ((Cert.OutFwdRefIdeal.Read.val_main_v3_eq _ _ ).trans ((congrArg₂ (Cert.OutFwdRefIdeal.Read.val_main_v3 (F := Ideal)) a0 a1).trans (Cert.OutFwdIdeal.Sums.final m c).symm)), kept⟩

/-! FfnFwd -/

theorem frame_FfnFwdRef : Cert.quiescent_FfnFwdRefIdeal (hFfnFwdRefIdeal := Cert.FfnFwdRefIdeal.Gen.facts) := fun m ρ _ =>
  (θ_run Cert.FfnFwdRefIdeal.defs _ _).mono (fun r h => ⟨fun c => (h c).2.2.2, sem_eq_zero_of_no_sems (by decide) r.2⟩) (Cert.FfnFwdRefIdeal.Value.run m ρ)

theorem value_FfnFwd : Cert.algebraic_FfnFwdIdeal_FfnFwdRefIdeal (hFfnFwdIdeal := Cert.FfnFwdIdeal.Gen.facts) (hFfnFwdRefIdeal := Cert.FfnFwdRefIdeal.Gen.facts) := by
  intro m ρ m' ρ' _ hargs
  refine ⟨fun c => (Cert.FfnFwdIdeal.Gen.dats m 0 c).arrAt 3 Cert.FfnFwdIdeal.cfg0.N, fun c => (Cert.FfnFwdIdeal.Gen.dats m 0 c).arrAt 4 Cert.FfnFwdIdeal.cfg0.N, fun c => (Cert.FfnFwdIdeal.Gen.dats m 0 c).arrAt 5 Cert.FfnFwdIdeal.cfg0.N, Cert.FfnFwdIdeal.Value.run_blocks m ρ, ?_⟩
  refine (θ_run Cert.FfnFwdRefIdeal.defs _ _).mono (fun r h c => ?_) (Cert.FfnFwdRefIdeal.Value.run m' ρ')
  obtain ⟨r0, r1, r2, kept⟩ := h c
  obtain ⟨a0, a1, a2⟩ := hargs c
  exact ⟨r0.trans ((Cert.FfnFwdRefIdeal.Read.val_main_v9_eq _ _ ).trans ((congrArg₂ (Cert.FfnFwdRefIdeal.Read.val_main_v9 (F := Ideal)) a0 a1).trans (Cert.FfnFwdIdeal.Sums.final0 m c).symm)), r1.trans ((Cert.FfnFwdRefIdeal.Read.val_main_v10_eq _ _ ).trans ((congrArg₂ (Cert.FfnFwdRefIdeal.Read.val_main_v10 (F := Ideal)) a0 a2).trans (Cert.FfnFwdIdeal.Sums.final1 m c).symm)), r2.trans ((Cert.FfnFwdRefIdeal.Read.val_main_v11_eq _ _ _ ).trans ((congr (congrArg₂ (Cert.FfnFwdRefIdeal.Read.val_main_v11 (F := Ideal)) a0 a1) a2).trans (Cert.FfnFwdIdeal.Sums.final2 m c).symm)), kept⟩

/-! DownFwd -/

theorem frame_DownFwdRef : Cert.quiescent_DownFwdRefIdeal (hDownFwdRefIdeal := Cert.DownFwdRefIdeal.Gen.facts) := fun m ρ _ =>
  (θ_run Cert.DownFwdRefIdeal.defs _ _).mono (fun r h => ⟨fun c => (h c).2, sem_eq_zero_of_no_sems (by decide) r.2⟩) (Cert.DownFwdRefIdeal.Value.run m ρ)

theorem value_DownFwd : Cert.algebraic_DownFwdIdeal_DownFwdRefIdeal (hDownFwdIdeal := Cert.DownFwdIdeal.Gen.facts) (hDownFwdRefIdeal := Cert.DownFwdRefIdeal.Gen.facts) := by
  intro m ρ m' ρ' _ hargs
  refine ⟨fun c => (Cert.DownFwdIdeal.Gen.dats m 0 c).arrAt 2 Cert.DownFwdIdeal.cfg0.N, Cert.DownFwdIdeal.Value.run_blocks m ρ, ?_⟩
  refine (θ_run Cert.DownFwdRefIdeal.defs _ _).mono (fun r h c => ?_) (Cert.DownFwdRefIdeal.Value.run m' ρ')
  obtain ⟨r0, kept⟩ := h c
  obtain ⟨a0, a1⟩ := hargs c
  exact ⟨r0.trans ((Cert.DownFwdRefIdeal.Read.val_main_v3_eq _ _ ).trans ((congrArg₂ (Cert.DownFwdRefIdeal.Read.val_main_v3 (F := Ideal)) a0 a1).trans (Cert.DownFwdIdeal.Sums.final m c).symm)), kept⟩

/-! BranchBack -/

theorem frame_BranchBackRef : Cert.quiescent_BranchBackRefIdeal (hBranchBackRefIdeal := Cert.BranchBackRefIdeal.Gen.facts) := fun m ρ _ =>
  (θ_run Cert.BranchBackRefIdeal.defs _ _).mono (fun r h => ⟨fun c => (h c).2.2.2.2.2, sem_eq_zero_of_no_sems (by decide) r.2⟩) (Cert.BranchBackRefIdeal.Value.run m ρ)

theorem value_BranchBack : Cert.algebraic_BranchBackIdeal_BranchBackRefIdeal (hBranchBackIdeal := Cert.BranchBackIdeal.Gen.facts) (hBranchBackRefIdeal := Cert.BranchBackRefIdeal.Gen.facts) := by
  intro m ρ m' ρ' _ hargs
  refine ⟨fun c => (Cert.BranchBackIdeal.Gen.dats m 0 c).arrAt 11 Cert.BranchBackIdeal.cfg0.N, fun c => (Cert.BranchBackIdeal.Gen.dats m 0 c).arrAt 12 Cert.BranchBackIdeal.cfg0.N, fun c => (Cert.BranchBackIdeal.Gen.dats m 0 c).arrAt 13 Cert.BranchBackIdeal.cfg0.N, fun c => (Cert.BranchBackIdeal.Gen.dats m 0 c).arrAt 14 Cert.BranchBackIdeal.cfg0.N, fun c => (Cert.BranchBackIdeal.Gen.dats m 0 c).arrAt 15 Cert.BranchBackIdeal.cfg0.N, Cert.BranchBackIdeal.Value.run_blocks m ρ, ?_⟩
  refine (θ_run Cert.BranchBackRefIdeal.defs _ _).mono (fun r h c => ?_) (Cert.BranchBackRefIdeal.Value.run m' ρ')
  obtain ⟨r0, r1, r2, r3, r4, kept⟩ := h c
  obtain ⟨a0, a1, a2, a3, a4, a5⟩ := hargs c
  exact ⟨r0.trans ((Cert.BranchBackRefIdeal.Read.val_main_v41_eq _ _ ).trans ((congrArg₂ (Cert.BranchBackRefIdeal.Read.val_main_v41 (F := Ideal)) a0 a1).trans (Cert.BranchBackIdeal.Sums.final0 m c).symm)), r1.trans ((Cert.BranchBackRefIdeal.Read.val_main_v42_eq _ _ ).trans ((congrArg₂ (Cert.BranchBackRefIdeal.Read.val_main_v42 (F := Ideal)) a0 a1).trans (Cert.BranchBackIdeal.Sums.final1 m c).symm)), r2.trans ((Cert.BranchBackRefIdeal.Read.val_main_v43_eq _ _ _ _ ).trans ((congr (congr (congrArg₂ (Cert.BranchBackRefIdeal.Read.val_main_v43 (F := Ideal)) a0 a1) a2) a3).trans (Cert.BranchBackIdeal.Sums.final2 m c).symm)), r3.trans ((Cert.BranchBackRefIdeal.Read.val_main_v44_eq _ _ _ ).trans ((congr (congrArg₂ (Cert.BranchBackRefIdeal.Read.val_main_v44 (F := Ideal)) a0 a1) a4).trans (Cert.BranchBackIdeal.Sums.final3 m c).symm)), r4.trans ((Cert.BranchBackRefIdeal.Read.val_main_v45_eq _ _ _ ).trans ((congr (congrArg₂ (Cert.BranchBackRefIdeal.Read.val_main_v45 (F := Ideal)) a0 a1) a5).trans (Cert.BranchBackIdeal.Sums.final4 m c).symm)), kept⟩

/-! BranchFwd -/

theorem frame_BranchFwdRef : Cert.quiescent_BranchFwdRefIdeal (hBranchFwdRefIdeal := Cert.BranchFwdRefIdeal.Gen.facts) := fun m ρ _ =>
  (θ_run Cert.BranchFwdRefIdeal.defs _ _).mono (fun r h => ⟨fun c => (h c).2.2.2, sem_eq_zero_of_no_sems (by decide) r.2⟩) (Cert.BranchFwdRefIdeal.Value.run m ρ)

theorem value_BranchFwd : Cert.algebraic_BranchFwdIdeal_BranchFwdRefIdeal (hBranchFwdIdeal := Cert.BranchFwdIdeal.Gen.facts) (hBranchFwdRefIdeal := Cert.BranchFwdRefIdeal.Gen.facts) := by
  intro m ρ m' ρ' _ hargs
  refine ⟨fun c => (Cert.BranchFwdIdeal.Gen.dats m 0 c).arrAt 9 Cert.BranchFwdIdeal.cfg0.N, fun c => (Cert.BranchFwdIdeal.Gen.dats m 0 c).arrAt 10 Cert.BranchFwdIdeal.cfg0.N, fun c => (Cert.BranchFwdIdeal.Gen.dats m 0 c).arrAt 11 Cert.BranchFwdIdeal.cfg0.N, Cert.BranchFwdIdeal.Value.run_blocks m ρ, ?_⟩
  refine (θ_run Cert.BranchFwdRefIdeal.defs _ _).mono (fun r h c => ?_) (Cert.BranchFwdRefIdeal.Value.run m' ρ')
  obtain ⟨r0, r1, r2, kept⟩ := h c
  obtain ⟨a0, a1, a2, a3⟩ := hargs c
  exact ⟨r0.trans ((Cert.BranchFwdRefIdeal.Read.val_main_v25_eq _ _ ).trans ((congrArg₂ (Cert.BranchFwdRefIdeal.Read.val_main_v25 (F := Ideal)) a0 a1).trans (Cert.BranchFwdIdeal.Sums.final0 m c).symm)), r1.trans ((Cert.BranchFwdRefIdeal.Read.val_main_v26_eq _ _ ).trans ((congrArg₂ (Cert.BranchFwdRefIdeal.Read.val_main_v26 (F := Ideal)) a0 a2).trans (Cert.BranchFwdIdeal.Sums.final1 m c).symm)), r2.trans ((Cert.BranchFwdRefIdeal.Read.val_main_v27_eq _ _ _ _ ).trans ((congr (congr (congrArg₂ (Cert.BranchFwdRefIdeal.Read.val_main_v27 (F := Ideal)) a0 a1) a2) a3).trans (Cert.BranchFwdIdeal.Sums.final2 m c).symm)), kept⟩

/-! AdamBranch -/

theorem frame_AdamBranchRef : Cert.quiescent_AdamBranchRefIdeal (hAdamBranchRefIdeal := Cert.AdamBranchRefIdeal.Gen.facts) := fun m ρ _ =>
  (θ_run Cert.AdamBranchRefIdeal.defs _ _).mono (fun r h => ⟨fun c => (h c).2.2.2.2, sem_eq_zero_of_no_sems (by decide) r.2⟩) (Cert.AdamBranchRefIdeal.Value.run m ρ)

theorem value_AdamBranch : Cert.algebraic_AdamBranchIdeal_AdamBranchRefIdeal (hAdamBranchIdeal := Cert.AdamBranchIdeal.Gen.facts) (hAdamBranchRefIdeal := Cert.AdamBranchRefIdeal.Gen.facts) := by
  intro m ρ m' ρ' _ hargs
  refine ⟨fun c => (Cert.AdamBranchIdeal.Gen.dats m 0 c).arrAt 4 Cert.AdamBranchIdeal.cfg0.N, fun c => (Cert.AdamBranchIdeal.Gen.dats m 0 c).arrAt 5 Cert.AdamBranchIdeal.cfg0.N, fun c => (Cert.AdamBranchIdeal.Gen.dats m 0 c).arrAt 6 Cert.AdamBranchIdeal.cfg0.N, fun c => (Cert.AdamBranchIdeal.Gen.dats m 0 c).arrAt 7 Cert.AdamBranchIdeal.cfg0.N, Cert.AdamBranchIdeal.Value.run_blocks m ρ, ?_⟩
  refine (θ_run Cert.AdamBranchRefIdeal.defs _ _).mono (fun r h c => ?_) (Cert.AdamBranchRefIdeal.Value.run m' ρ')
  obtain ⟨r0, r1, r2, r3, kept⟩ := h c
  obtain ⟨a0, a1, a2, a3⟩ := hargs c
  exact ⟨r0.trans ((Cert.AdamBranchRefIdeal.Read.val_main_v1_eq _ ).trans ((congrArg (Cert.AdamBranchRefIdeal.Read.val_main_v1 (F := Ideal)) a0).trans (Cert.AdamBranchIdeal.Sums.final0 m c).symm)), r1.trans ((Cert.AdamBranchRefIdeal.Read.val_main_v25_eq _ _ _ _ ).trans ((congr (congr (congrArg₂ (Cert.AdamBranchRefIdeal.Read.val_main_v25 (F := Ideal)) a0 a1) a2) a3).trans (Cert.AdamBranchIdeal.Sums.final1 m c).symm)), r2.trans ((Cert.AdamBranchRefIdeal.Read.val_main_v6_eq _ _ ).trans ((congrArg₂ (Cert.AdamBranchRefIdeal.Read.val_main_v6 (F := Ideal)) a0 a2).trans (Cert.AdamBranchIdeal.Sums.final2 m c).symm)), r3.trans ((Cert.AdamBranchRefIdeal.Read.val_main_v12_eq _ _ ).trans ((congrArg₂ (Cert.AdamBranchRefIdeal.Read.val_main_v12 (F := Ideal)) a0 a3).trans (Cert.AdamBranchIdeal.Sums.final3 m c).symm)), kept⟩

/-! AdamOut -/

theorem frame_AdamOutRef : Cert.quiescent_AdamOutRefIdeal (hAdamOutRefIdeal := Cert.AdamOutRefIdeal.Gen.facts) := fun m ρ _ =>
  (θ_run Cert.AdamOutRefIdeal.defs _ _).mono (fun r h => ⟨fun c => (h c).2.2.2.2, sem_eq_zero_of_no_sems (by decide) r.2⟩) (Cert.AdamOutRefIdeal.Value.run m ρ)

theorem value_AdamOut : Cert.algebraic_AdamOutIdeal_AdamOutRefIdeal (hAdamOutIdeal := Cert.AdamOutIdeal.Gen.facts) (hAdamOutRefIdeal := Cert.AdamOutRefIdeal.Gen.facts) := by
  intro m ρ m' ρ' _ hargs
  refine ⟨fun c => (Cert.AdamOutIdeal.Gen.dats m 0 c).arrAt 4 Cert.AdamOutIdeal.cfg0.N, fun c => (Cert.AdamOutIdeal.Gen.dats m 0 c).arrAt 5 Cert.AdamOutIdeal.cfg0.N, fun c => (Cert.AdamOutIdeal.Gen.dats m 0 c).arrAt 6 Cert.AdamOutIdeal.cfg0.N, fun c => (Cert.AdamOutIdeal.Gen.dats m 0 c).arrAt 7 Cert.AdamOutIdeal.cfg0.N, Cert.AdamOutIdeal.Value.run_blocks m ρ, ?_⟩
  refine (θ_run Cert.AdamOutRefIdeal.defs _ _).mono (fun r h c => ?_) (Cert.AdamOutRefIdeal.Value.run m' ρ')
  obtain ⟨r0, r1, r2, r3, kept⟩ := h c
  obtain ⟨a0, a1, a2, a3⟩ := hargs c
  exact ⟨r0.trans ((Cert.AdamOutRefIdeal.Read.val_main_v1_eq _ ).trans ((congrArg (Cert.AdamOutRefIdeal.Read.val_main_v1 (F := Ideal)) a0).trans (Cert.AdamOutIdeal.Sums.final0 m c).symm)), r1.trans ((Cert.AdamOutRefIdeal.Read.val_main_v25_eq _ _ _ _ ).trans ((congr (congr (congrArg₂ (Cert.AdamOutRefIdeal.Read.val_main_v25 (F := Ideal)) a0 a1) a2) a3).trans (Cert.AdamOutIdeal.Sums.final1 m c).symm)), r2.trans ((Cert.AdamOutRefIdeal.Read.val_main_v6_eq _ _ ).trans ((congrArg₂ (Cert.AdamOutRefIdeal.Read.val_main_v6 (F := Ideal)) a0 a2).trans (Cert.AdamOutIdeal.Sums.final2 m c).symm)), r3.trans ((Cert.AdamOutRefIdeal.Read.val_main_v12_eq _ _ ).trans ((congrArg₂ (Cert.AdamOutRefIdeal.Read.val_main_v12 (F := Ideal)) a0 a3).trans (Cert.AdamOutIdeal.Sums.final3 m c).symm)), kept⟩

/-! AdamFfn -/

theorem frame_AdamFfnRef : Cert.quiescent_AdamFfnRefIdeal (hAdamFfnRefIdeal := Cert.AdamFfnRefIdeal.Gen.facts) := fun m ρ _ =>
  (θ_run Cert.AdamFfnRefIdeal.defs _ _).mono (fun r h => ⟨fun c => (h c).2.2.2.2, sem_eq_zero_of_no_sems (by decide) r.2⟩) (Cert.AdamFfnRefIdeal.Value.run m ρ)

theorem value_AdamFfn : Cert.algebraic_AdamFfnIdeal_AdamFfnRefIdeal (hAdamFfnIdeal := Cert.AdamFfnIdeal.Gen.facts) (hAdamFfnRefIdeal := Cert.AdamFfnRefIdeal.Gen.facts) := by
  intro m ρ m' ρ' _ hargs
  refine ⟨fun c => (Cert.AdamFfnIdeal.Gen.dats m 0 c).arrAt 4 Cert.AdamFfnIdeal.cfg0.N, fun c => (Cert.AdamFfnIdeal.Gen.dats m 0 c).arrAt 5 Cert.AdamFfnIdeal.cfg0.N, fun c => (Cert.AdamFfnIdeal.Gen.dats m 0 c).arrAt 6 Cert.AdamFfnIdeal.cfg0.N, fun c => (Cert.AdamFfnIdeal.Gen.dats m 0 c).arrAt 7 Cert.AdamFfnIdeal.cfg0.N, Cert.AdamFfnIdeal.Value.run_blocks m ρ, ?_⟩
  refine (θ_run Cert.AdamFfnRefIdeal.defs _ _).mono (fun r h c => ?_) (Cert.AdamFfnRefIdeal.Value.run m' ρ')
  obtain ⟨r0, r1, r2, r3, kept⟩ := h c
  obtain ⟨a0, a1, a2, a3⟩ := hargs c
  exact ⟨r0.trans ((Cert.AdamFfnRefIdeal.Read.val_main_v1_eq _ ).trans ((congrArg (Cert.AdamFfnRefIdeal.Read.val_main_v1 (F := Ideal)) a0).trans (Cert.AdamFfnIdeal.Sums.final0 m c).symm)), r1.trans ((Cert.AdamFfnRefIdeal.Read.val_main_v25_eq _ _ _ _ ).trans ((congr (congr (congrArg₂ (Cert.AdamFfnRefIdeal.Read.val_main_v25 (F := Ideal)) a0 a1) a2) a3).trans (Cert.AdamFfnIdeal.Sums.final1 m c).symm)), r2.trans ((Cert.AdamFfnRefIdeal.Read.val_main_v6_eq _ _ ).trans ((congrArg₂ (Cert.AdamFfnRefIdeal.Read.val_main_v6 (F := Ideal)) a0 a2).trans (Cert.AdamFfnIdeal.Sums.final2 m c).symm)), r3.trans ((Cert.AdamFfnRefIdeal.Read.val_main_v12_eq _ _ ).trans ((congrArg₂ (Cert.AdamFfnRefIdeal.Read.val_main_v12 (F := Ideal)) a0 a3).trans (Cert.AdamFfnIdeal.Sums.final3 m c).symm)), kept⟩

/-! AdamMod -/

theorem frame_AdamModRef : Cert.quiescent_AdamModRefIdeal (hAdamModRefIdeal := Cert.AdamModRefIdeal.Gen.facts) := fun m ρ _ =>
  (θ_run Cert.AdamModRefIdeal.defs _ _).mono (fun r h => ⟨fun c => (h c).2.2.2.2, sem_eq_zero_of_no_sems (by decide) r.2⟩) (Cert.AdamModRefIdeal.Value.run m ρ)

theorem value_AdamMod : Cert.algebraic_AdamModIdeal_AdamModRefIdeal (hAdamModIdeal := Cert.AdamModIdeal.Gen.facts) (hAdamModRefIdeal := Cert.AdamModRefIdeal.Gen.facts) := by
  intro m ρ m' ρ' _ hargs
  refine ⟨fun c => (Cert.AdamModIdeal.Gen.dats m 0 c).arrAt 4 Cert.AdamModIdeal.cfg0.N, fun c => (Cert.AdamModIdeal.Gen.dats m 0 c).arrAt 5 Cert.AdamModIdeal.cfg0.N, fun c => (Cert.AdamModIdeal.Gen.dats m 0 c).arrAt 6 Cert.AdamModIdeal.cfg0.N, fun c => (Cert.AdamModIdeal.Gen.dats m 0 c).arrAt 7 Cert.AdamModIdeal.cfg0.N, Cert.AdamModIdeal.Value.run_blocks m ρ, ?_⟩
  refine (θ_run Cert.AdamModRefIdeal.defs _ _).mono (fun r h c => ?_) (Cert.AdamModRefIdeal.Value.run m' ρ')
  obtain ⟨r0, r1, r2, r3, kept⟩ := h c
  obtain ⟨a0, a1, a2, a3⟩ := hargs c
  exact ⟨r0.trans (a0.trans (Cert.AdamModIdeal.Sums.final0 m c).symm), r1.trans ((Cert.AdamModRefIdeal.Read.val_main_v23_eq _ _ _ _ ).trans ((congr (congr (congrArg₂ (Cert.AdamModRefIdeal.Read.val_main_v23 (F := Ideal)) a0 a1) a2) a3).trans (Cert.AdamModIdeal.Sums.final1 m c).symm)), r2.trans ((Cert.AdamModRefIdeal.Read.val_main_v4_eq _ _ ).trans ((congrArg₂ (Cert.AdamModRefIdeal.Read.val_main_v4 (F := Ideal)) a0 a2).trans (Cert.AdamModIdeal.Sums.final2 m c).symm)), r3.trans ((Cert.AdamModRefIdeal.Read.val_main_v10_eq _ _ ).trans ((congrArg₂ (Cert.AdamModRefIdeal.Read.val_main_v10 (F := Ideal)) a0 a3).trans (Cert.AdamModIdeal.Sums.final3 m c).symm)), kept⟩

/-! AdamSmall -/

theorem frame_AdamSmallRef : Cert.quiescent_AdamSmallRefIdeal (hAdamSmallRefIdeal := Cert.AdamSmallRefIdeal.Gen.facts) := fun m ρ _ =>
  (θ_run Cert.AdamSmallRefIdeal.defs _ _).mono (fun r h => ⟨fun c => (h c).2.2.2.2, sem_eq_zero_of_no_sems (by decide) r.2⟩) (Cert.AdamSmallRefIdeal.Value.run m ρ)

theorem value_AdamSmall : Cert.algebraic_AdamSmallIdeal_AdamSmallRefIdeal (hAdamSmallIdeal := Cert.AdamSmallIdeal.Gen.facts) (hAdamSmallRefIdeal := Cert.AdamSmallRefIdeal.Gen.facts) := by
  intro m ρ m' ρ' _ hargs
  refine ⟨fun c => (Cert.AdamSmallIdeal.Gen.dats m 0 c).arrAt 4 Cert.AdamSmallIdeal.cfg0.N, fun c => (Cert.AdamSmallIdeal.Gen.dats m 0 c).arrAt 5 Cert.AdamSmallIdeal.cfg0.N, fun c => (Cert.AdamSmallIdeal.Gen.dats m 0 c).arrAt 6 Cert.AdamSmallIdeal.cfg0.N, fun c => (Cert.AdamSmallIdeal.Gen.dats m 0 c).arrAt 7 Cert.AdamSmallIdeal.cfg0.N, Cert.AdamSmallIdeal.Value.run_blocks m ρ, ?_⟩
  refine (θ_run Cert.AdamSmallRefIdeal.defs _ _).mono (fun r h c => ?_) (Cert.AdamSmallRefIdeal.Value.run m' ρ')
  obtain ⟨r0, r1, r2, r3, kept⟩ := h c
  obtain ⟨a0, a1, a2, a3⟩ := hargs c
  exact ⟨r0.trans (a0.trans (Cert.AdamSmallIdeal.Sums.final0 m c).symm), r1.trans ((Cert.AdamSmallRefIdeal.Read.val_main_v23_eq _ _ _ _ ).trans ((congr (congr (congrArg₂ (Cert.AdamSmallRefIdeal.Read.val_main_v23 (F := Ideal)) a0 a1) a2) a3).trans (Cert.AdamSmallIdeal.Sums.final1 m c).symm)), r2.trans ((Cert.AdamSmallRefIdeal.Read.val_main_v4_eq _ _ ).trans ((congrArg₂ (Cert.AdamSmallRefIdeal.Read.val_main_v4 (F := Ideal)) a0 a2).trans (Cert.AdamSmallIdeal.Sums.final2 m c).symm)), r3.trans ((Cert.AdamSmallRefIdeal.Read.val_main_v10_eq _ _ ).trans ((congrArg₂ (Cert.AdamSmallRefIdeal.Read.val_main_v10 (F := Ideal)) a0 a3).trans (Cert.AdamSmallIdeal.Sums.final3 m c).symm)), kept⟩

/-! ModFwd -/

theorem frame_ModFwdRef : Cert.quiescent_ModFwdRefIdeal (hModFwdRefIdeal := Cert.ModFwdRefIdeal.Gen.facts) := fun m ρ _ =>
  (θ_run Cert.ModFwdRefIdeal.defs _ _).mono (fun r h => ⟨fun c => (h c).2, sem_eq_zero_of_no_sems (by decide) r.2⟩) (Cert.ModFwdRefIdeal.Value.run m ρ)

theorem value_ModFwd : Cert.algebraic_ModFwdIdeal_ModFwdRefIdeal (hModFwdIdeal := Cert.ModFwdIdeal.Gen.facts) (hModFwdRefIdeal := Cert.ModFwdRefIdeal.Gen.facts) := by
  intro m ρ m' ρ' _ hargs
  refine ⟨fun c => (Cert.ModFwdIdeal.Gen.dats m 0 c).arrAt 3 Cert.ModFwdIdeal.cfg0.N, Cert.ModFwdIdeal.Value.run_blocks m ρ, ?_⟩
  refine (θ_run Cert.ModFwdRefIdeal.defs _ _).mono (fun r h c => ?_) (Cert.ModFwdRefIdeal.Value.run m' ρ')
  obtain ⟨r0, kept⟩ := h c
  obtain ⟨a0, a1, a2⟩ := hargs c
  exact ⟨r0.trans ((Cert.ModFwdRefIdeal.Read.val_main_v3_eq _ _ _ ).trans ((congr (congrArg₂ (Cert.ModFwdRefIdeal.Read.val_main_v3 (F := Ideal)) a0 a1) a2).trans (Cert.ModFwdIdeal.Sums.final m c).symm)), kept⟩

/-! SumSmall -/

theorem frame_SumSmallRef : Cert.quiescent_SumSmallRefIdeal (hSumSmallRefIdeal := Cert.SumSmallRefIdeal.Gen.facts) := fun m ρ _ =>
  (θ_run Cert.SumSmallRefIdeal.defs _ _).mono (fun r h => ⟨fun c => (h c).2, sem_eq_zero_of_no_sems (by decide) r.2⟩) (Cert.SumSmallRefIdeal.Value.run m ρ)

theorem value_SumSmall : Cert.algebraic_SumSmallIdeal_SumSmallRefIdeal (hSumSmallIdeal := Cert.SumSmallIdeal.Gen.facts) (hSumSmallRefIdeal := Cert.SumSmallRefIdeal.Gen.facts) := by
  intro m ρ m' ρ' _ hargs
  refine ⟨fun c => (Cert.SumSmallIdeal.Gen.dats m 0 c).arrAt 1 Cert.SumSmallIdeal.cfg0.N, Cert.SumSmallIdeal.Value.run_blocks m ρ, ?_⟩
  refine (θ_run Cert.SumSmallRefIdeal.defs _ _).mono (fun r h c => ?_) (Cert.SumSmallRefIdeal.Value.run m' ρ')
  obtain ⟨r0, kept⟩ := h c
  have a0 := hargs c
  exact ⟨r0.trans ((Cert.SumSmallRefIdeal.Read.val_main_v0_eq _ ).trans ((congrArg (Cert.SumSmallRefIdeal.Read.val_main_v0 (F := Ideal)) a0).trans (Cert.SumSmallIdeal.Sums.final m c).symm)), kept⟩

/-! SumCtx -/

theorem frame_SumCtxRef : Cert.quiescent_SumCtxRefIdeal (hSumCtxRefIdeal := Cert.SumCtxRefIdeal.Gen.facts) := fun m ρ _ =>
  (θ_run Cert.SumCtxRefIdeal.defs _ _).mono (fun r h => ⟨fun c => (h c).2, sem_eq_zero_of_no_sems (by decide) r.2⟩) (Cert.SumCtxRefIdeal.Value.run m ρ)

theorem value_SumCtx : Cert.algebraic_SumCtxIdeal_SumCtxRefIdeal (hSumCtxIdeal := Cert.SumCtxIdeal.Gen.facts) (hSumCtxRefIdeal := Cert.SumCtxRefIdeal.Gen.facts) := by
  intro m ρ m' ρ' _ hargs
  refine ⟨fun c => (Cert.SumCtxIdeal.Gen.dats m 0 c).arrAt 1 Cert.SumCtxIdeal.cfg0.N, Cert.SumCtxIdeal.Value.run_blocks m ρ, ?_⟩
  refine (θ_run Cert.SumCtxRefIdeal.defs _ _).mono (fun r h c => ?_) (Cert.SumCtxRefIdeal.Value.run m' ρ')
  obtain ⟨r0, kept⟩ := h c
  have a0 := hargs c
  exact ⟨r0.trans ((Cert.SumCtxRefIdeal.Read.val_main_v0_eq _ ).trans ((congrArg (Cert.SumCtxRefIdeal.Read.val_main_v0 (F := Ideal)) a0).trans (Cert.SumCtxIdeal.Sums.final m c).symm)), kept⟩

/-! ModBwd -/

theorem frame_ModBwdRef : Cert.quiescent_ModBwdRefIdeal (hModBwdRefIdeal := Cert.ModBwdRefIdeal.Gen.facts) := fun m ρ _ =>
  (θ_run Cert.ModBwdRefIdeal.defs _ _).mono (fun r h => ⟨fun c => (h c).2.2, sem_eq_zero_of_no_sems (by decide) r.2⟩) (Cert.ModBwdRefIdeal.Value.run m ρ)

theorem value_ModBwd : Cert.algebraic_ModBwdIdeal_ModBwdRefIdeal (hModBwdIdeal := Cert.ModBwdIdeal.Gen.facts) (hModBwdRefIdeal := Cert.ModBwdRefIdeal.Gen.facts) := by
  intro m ρ m' ρ' _ hargs
  refine ⟨fun c => (Cert.ModBwdIdeal.Gen.dats m 0 c).arrAt 3 Cert.ModBwdIdeal.cfg0.N, fun c => (Cert.ModBwdIdeal.Gen.dats m 0 c).arrAt 4 Cert.ModBwdIdeal.cfg0.N, Cert.ModBwdIdeal.Value.run_blocks m ρ, ?_⟩
  refine (θ_run Cert.ModBwdRefIdeal.defs _ _).mono (fun r h c => ?_) (Cert.ModBwdRefIdeal.Value.run m' ρ')
  obtain ⟨r0, r1, kept⟩ := h c
  obtain ⟨a0, a1, a2⟩ := hargs c
  exact ⟨r0.trans ((Cert.ModBwdRefIdeal.Read.val_main_v3_eq _ _ ).trans ((congrArg₂ (Cert.ModBwdRefIdeal.Read.val_main_v3 (F := Ideal)) a0 a1).trans (Cert.ModBwdIdeal.Sums.final0 m c).symm)), r1.trans ((Cert.ModBwdRefIdeal.Read.val_main_v15_eq _ _ _ ).trans ((congr (congrArg₂ (Cert.ModBwdRefIdeal.Read.val_main_v15 (F := Ideal)) a0 a1) a2).trans (Cert.ModBwdIdeal.Sums.final1 m c).symm)), kept⟩

/-! Prenorm -/

theorem frame_PrenormRef : Cert.quiescent_PrenormRefIdeal (hPrenormRefIdeal := Cert.PrenormRefIdeal.Gen.facts) := fun m ρ _ =>
  (θ_run Cert.PrenormRefIdeal.defs _ _).mono (fun r h => ⟨fun c => (h c).2, sem_eq_zero_of_no_sems (by decide) r.2⟩) (Cert.PrenormRefIdeal.Value.run m ρ)

theorem value_Prenorm : Cert.algebraic_PrenormIdeal_PrenormRefIdeal (hPrenormIdeal := Cert.PrenormIdeal.Gen.facts) (hPrenormRefIdeal := Cert.PrenormRefIdeal.Gen.facts) := by
  intro m ρ m' ρ' _ hargs
  refine ⟨fun c => (Cert.PrenormIdeal.Gen.dats m 0 c).arrAt 5 Cert.PrenormIdeal.cfg0.N, Cert.PrenormIdeal.Value.run_blocks m ρ, ?_⟩
  refine (θ_run Cert.PrenormRefIdeal.defs _ _).mono (fun r h c => ?_) (Cert.PrenormRefIdeal.Value.run m' ρ')
  obtain ⟨r0, kept⟩ := h c
  obtain ⟨a0, a1, a2, a3, a4⟩ := hargs c
  exact ⟨r0.trans ((Cert.PrenormRefIdeal.Read.val_main_v32_eq _ _ _ _ _ ).trans ((congr (congr (congr (congrArg₂ (Cert.PrenormRefIdeal.Read.val_main_v32 (F := Ideal)) a0 a1) a2) a3) a4).trans (Cert.PrenormIdeal.Sums.final m c).symm)), kept⟩

/-- Everything that is claimed. -/
theorem claim : Cert.Claim := ⟨Cert.Kernel.Gen.facts,
  Cert.KernelIdeal.Gen.facts,
  Cert.ReferenceIdeal.Gen.facts,
  Cert.InGradA.Gen.facts,
  Cert.InGradAIdeal.Gen.facts,
  Cert.InGradARefIdeal.Gen.facts,
  Cert.InGradB.Gen.facts,
  Cert.InGradBIdeal.Gen.facts,
  Cert.InGradBRefIdeal.Gen.facts,
  Cert.InBack.Gen.facts,
  Cert.InBackIdeal.Gen.facts,
  Cert.InBackRefIdeal.Gen.facts,
  Cert.FfnBack.Gen.facts,
  Cert.FfnBackIdeal.Gen.facts,
  Cert.FfnBackRefIdeal.Gen.facts,
  Cert.GateGrad.Gen.facts,
  Cert.GateGradIdeal.Gen.facts,
  Cert.GateGradRefIdeal.Gen.facts,
  Cert.UpGrad.Gen.facts,
  Cert.UpGradIdeal.Gen.facts,
  Cert.UpGradRefIdeal.Gen.facts,
  Cert.DownGrad.Gen.facts,
  Cert.DownGradIdeal.Gen.facts,
  Cert.DownGradRefIdeal.Gen.facts,
  Cert.ActBack.Gen.facts,
  Cert.ActBackIdeal.Gen.facts,
  Cert.ActBackRefIdeal.Gen.facts,
  Cert.OutBack.Gen.facts,
  Cert.OutBackIdeal.Gen.facts,
  Cert.OutBackRefIdeal.Gen.facts,
  Cert.OutGrad.Gen.facts,
  Cert.OutGradIdeal.Gen.facts,
  Cert.OutGradRefIdeal.Gen.facts,
  Cert.HgGrad.Gen.facts,
  Cert.HgGradIdeal.Gen.facts,
  Cert.HgGradRefIdeal.Gen.facts,
  Cert.GlaGrad.Gen.facts,
  Cert.GlaGradIdeal.Gen.facts,
  Cert.GlaGradRefIdeal.Gen.facts,
  Cert.InFwd.Gen.facts,
  Cert.InFwdIdeal.Gen.facts,
  Cert.InFwdRefIdeal.Gen.facts,
  Cert.OutFwd.Gen.facts,
  Cert.OutFwdIdeal.Gen.facts,
  Cert.OutFwdRefIdeal.Gen.facts,
  Cert.FfnFwd.Gen.facts,
  Cert.FfnFwdIdeal.Gen.facts,
  Cert.FfnFwdRefIdeal.Gen.facts,
  Cert.DownFwd.Gen.facts,
  Cert.DownFwdIdeal.Gen.facts,
  Cert.DownFwdRefIdeal.Gen.facts,
  Cert.BranchBack.Gen.facts,
  Cert.BranchBackIdeal.Gen.facts,
  Cert.BranchBackRefIdeal.Gen.facts,
  Cert.BranchFwd.Gen.facts,
  Cert.BranchFwdIdeal.Gen.facts,
  Cert.BranchFwdRefIdeal.Gen.facts,
  Cert.AdamBranch.Gen.facts,
  Cert.AdamBranchIdeal.Gen.facts,
  Cert.AdamBranchRefIdeal.Gen.facts,
  Cert.AdamOut.Gen.facts,
  Cert.AdamOutIdeal.Gen.facts,
  Cert.AdamOutRefIdeal.Gen.facts,
  Cert.AdamFfn.Gen.facts,
  Cert.AdamFfnIdeal.Gen.facts,
  Cert.AdamFfnRefIdeal.Gen.facts,
  Cert.AdamMod.Gen.facts,
  Cert.AdamModIdeal.Gen.facts,
  Cert.AdamModRefIdeal.Gen.facts,
  Cert.AdamSmall.Gen.facts,
  Cert.AdamSmallIdeal.Gen.facts,
  Cert.AdamSmallRefIdeal.Gen.facts,
  Cert.ModFwd.Gen.facts,
  Cert.ModFwdIdeal.Gen.facts,
  Cert.ModFwdRefIdeal.Gen.facts,
  Cert.SumSmall.Gen.facts,
  Cert.SumSmallIdeal.Gen.facts,
  Cert.SumSmallRefIdeal.Gen.facts,
  Cert.SumCtx.Gen.facts,
  Cert.SumCtxIdeal.Gen.facts,
  Cert.SumCtxRefIdeal.Gen.facts,
  Cert.ModBwd.Gen.facts,
  Cert.ModBwdIdeal.Gen.facts,
  Cert.ModBwdRefIdeal.Gen.facts,
  Cert.Prenorm.Gen.facts,
  Cert.PrenormIdeal.Gen.facts,
  Cert.PrenormRefIdeal.Gen.facts,
  Cert.Pre_gates_are_mild.Gen.facts,
  Cert.Pre_finite_factors.Gen.facts,
  frame_kernel,
  frame_ideal,
  fun m ρ _ => Cert.KernelIdeal.Gen.frame m ρ,
  frame_reference,
  fun m ρ _ => frame_reference m ρ pre_reference,
  fun m ρ _ => Cert.InGradA.Gen.frame m ρ,
  fun m ρ _ => Cert.InGradAIdeal.Gen.frame m ρ,
  frame_InGradARef,
  fun m ρ _ => Cert.InGradB.Gen.frame m ρ,
  fun m ρ _ => Cert.InGradBIdeal.Gen.frame m ρ,
  frame_InGradBRef,
  fun m ρ _ => Cert.InBack.Gen.frame m ρ,
  fun m ρ _ => Cert.InBackIdeal.Gen.frame m ρ,
  frame_InBackRef,
  fun m ρ _ => Cert.FfnBack.Gen.frame m ρ,
  fun m ρ _ => Cert.FfnBackIdeal.Gen.frame m ρ,
  frame_FfnBackRef,
  fun m ρ _ => Cert.GateGrad.Gen.frame m ρ,
  fun m ρ _ => Cert.GateGradIdeal.Gen.frame m ρ,
  frame_GateGradRef,
  fun m ρ _ => Cert.UpGrad.Gen.frame m ρ,
  fun m ρ _ => Cert.UpGradIdeal.Gen.frame m ρ,
  frame_UpGradRef,
  fun m ρ _ => Cert.DownGrad.Gen.frame m ρ,
  fun m ρ _ => Cert.DownGradIdeal.Gen.frame m ρ,
  frame_DownGradRef,
  fun m ρ _ => Cert.ActBack.Gen.frame m ρ,
  fun m ρ _ => Cert.ActBackIdeal.Gen.frame m ρ,
  fun m ρ _ => Cert.ActBackIdeal.Gen.frame m ρ,
  frame_ActBackRef,
  fun m ρ _ => frame_ActBackRef m ρ (by unfold Cert.Pre_ActBackRefIdeal; trivial),
  fun m ρ _ => Cert.OutBack.Gen.frame m ρ,
  fun m ρ _ => Cert.OutBackIdeal.Gen.frame m ρ,
  frame_OutBackRef,
  fun m ρ _ => Cert.OutGrad.Gen.frame m ρ,
  fun m ρ _ => Cert.OutGradIdeal.Gen.frame m ρ,
  frame_OutGradRef,
  fun m ρ _ => Cert.HgGrad.Gen.frame m ρ,
  fun m ρ _ => Cert.HgGradIdeal.Gen.frame m ρ,
  frame_HgGradRef,
  fun m ρ _ => Cert.GlaGrad.Gen.frame m ρ,
  fun m ρ _ => Cert.GlaGradIdeal.Gen.frame m ρ,
  frame_GlaGradRef,
  fun m ρ _ => Cert.InFwd.Gen.frame m ρ,
  fun m ρ _ => Cert.InFwdIdeal.Gen.frame m ρ,
  frame_InFwdRef,
  fun m ρ _ => Cert.OutFwd.Gen.frame m ρ,
  fun m ρ _ => Cert.OutFwdIdeal.Gen.frame m ρ,
  frame_OutFwdRef,
  fun m ρ _ => Cert.FfnFwd.Gen.frame m ρ,
  fun m ρ _ => Cert.FfnFwdIdeal.Gen.frame m ρ,
  frame_FfnFwdRef,
  fun m ρ _ => Cert.DownFwd.Gen.frame m ρ,
  fun m ρ _ => Cert.DownFwdIdeal.Gen.frame m ρ,
  frame_DownFwdRef,
  fun m ρ _ => Cert.BranchBack.Gen.frame m ρ,
  fun m ρ _ => Cert.BranchBackIdeal.Gen.frame m ρ,
  frame_BranchBackRef,
  fun m ρ _ => Cert.BranchFwd.Gen.frame m ρ,
  fun m ρ _ => Cert.BranchFwdIdeal.Gen.frame m ρ,
  frame_BranchFwdRef,
  fun m ρ _ => Cert.AdamBranch.Gen.frame m ρ,
  fun m ρ _ => Cert.AdamBranchIdeal.Gen.frame m ρ,
  frame_AdamBranchRef,
  fun m ρ _ => Cert.AdamOut.Gen.frame m ρ,
  fun m ρ _ => Cert.AdamOutIdeal.Gen.frame m ρ,
  frame_AdamOutRef,
  fun m ρ _ => Cert.AdamFfn.Gen.frame m ρ,
  fun m ρ _ => Cert.AdamFfnIdeal.Gen.frame m ρ,
  frame_AdamFfnRef,
  fun m ρ _ => Cert.AdamMod.Gen.frame m ρ,
  fun m ρ _ => Cert.AdamModIdeal.Gen.frame m ρ,
  frame_AdamModRef,
  fun m ρ _ => Cert.AdamSmall.Gen.frame m ρ,
  fun m ρ _ => Cert.AdamSmallIdeal.Gen.frame m ρ,
  frame_AdamSmallRef,
  fun m ρ _ => Cert.ModFwd.Gen.frame m ρ,
  fun m ρ _ => Cert.ModFwdIdeal.Gen.frame m ρ,
  frame_ModFwdRef,
  fun m ρ _ => Cert.SumSmall.Gen.frame m ρ,
  fun m ρ _ => Cert.SumSmallIdeal.Gen.frame m ρ,
  frame_SumSmallRef,
  fun m ρ _ => Cert.SumCtx.Gen.frame m ρ,
  fun m ρ _ => Cert.SumCtxIdeal.Gen.frame m ρ,
  frame_SumCtxRef,
  fun m ρ _ => Cert.ModBwd.Gen.frame m ρ,
  fun m ρ _ => Cert.ModBwdIdeal.Gen.frame m ρ,
  frame_ModBwdRef,
  fun m ρ _ => Cert.Prenorm.Gen.frame m ρ,
  fun m ρ _ => Cert.PrenormIdeal.Gen.frame m ρ,
  frame_PrenormRef,
  preserved,
  value,
  by unfold Cert.preserves_InGradA_InGradAIdeal; trivial,
  value_InGradA,
  by unfold Cert.preserves_InGradB_InGradBIdeal; trivial,
  value_InGradB,
  by unfold Cert.preserves_InBack_InBackIdeal; trivial,
  value_InBack,
  by unfold Cert.preserves_FfnBack_FfnBackIdeal; trivial,
  value_FfnBack,
  by unfold Cert.preserves_GateGrad_GateGradIdeal; trivial,
  value_GateGrad,
  by unfold Cert.preserves_UpGrad_UpGradIdeal; trivial,
  value_UpGrad,
  by unfold Cert.preserves_DownGrad_DownGradIdeal; trivial,
  value_DownGrad,
  by unfold Cert.preserves_ActBack_ActBackIdeal; trivial,
  value_ActBack,
  by unfold Cert.preserves_OutBack_OutBackIdeal; trivial,
  value_OutBack,
  by unfold Cert.preserves_OutGrad_OutGradIdeal; trivial,
  value_OutGrad,
  by unfold Cert.preserves_HgGrad_HgGradIdeal; trivial,
  value_HgGrad,
  by unfold Cert.preserves_GlaGrad_GlaGradIdeal; trivial,
  value_GlaGrad,
  by unfold Cert.preserves_InFwd_InFwdIdeal; trivial,
  value_InFwd,
  by unfold Cert.preserves_OutFwd_OutFwdIdeal; trivial,
  value_OutFwd,
  by unfold Cert.preserves_FfnFwd_FfnFwdIdeal; trivial,
  value_FfnFwd,
  by unfold Cert.preserves_DownFwd_DownFwdIdeal; trivial,
  value_DownFwd,
  by unfold Cert.preserves_BranchBack_BranchBackIdeal; trivial,
  value_BranchBack,
  by unfold Cert.preserves_BranchFwd_BranchFwdIdeal; trivial,
  value_BranchFwd,
  by unfold Cert.preserves_AdamBranch_AdamBranchIdeal; trivial,
  value_AdamBranch,
  by unfold Cert.preserves_AdamOut_AdamOutIdeal; trivial,
  value_AdamOut,
  by unfold Cert.preserves_AdamFfn_AdamFfnIdeal; trivial,
  value_AdamFfn,
  by unfold Cert.preserves_AdamMod_AdamModIdeal; trivial,
  value_AdamMod,
  by unfold Cert.preserves_AdamSmall_AdamSmallIdeal; trivial,
  value_AdamSmall,
  by unfold Cert.preserves_ModFwd_ModFwdIdeal; trivial,
  value_ModFwd,
  by unfold Cert.preserves_SumSmall_SumSmallIdeal; trivial,
  value_SumSmall,
  by unfold Cert.preserves_SumCtx_SumCtxIdeal; trivial,
  value_SumCtx,
  by unfold Cert.preserves_ModBwd_ModBwdIdeal; trivial,
  value_ModBwd,
  by unfold Cert.preserves_Prenorm_PrenormIdeal; trivial,
  value_Prenorm⟩

end Cert.Proof

end
